-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactRefIdeal (m : (ℓ : Loc Cert.DactRefIdeal.nD Cert.DactRefIdeal.τ Cert.DactRefIdeal.sig) → Buf (Elt Ideal) ℓ) : Prop :=
  True

def Pre_Ddown (m : (ℓ : Loc Cert.Ddown.nD Cert.Ddown.τ Cert.Ddown.sig) → Buf (Elt Bits) ℓ) : Prop :=
  True

def Pre_DdownIdeal (m : (ℓ : Loc Cert.DdownIdeal.nD Cert.DdownIdeal.τ Cert.DdownIdeal.sig) → Buf (Elt Ideal) ℓ) : Prop :=
  True

def Pre_DdownRefIdeal (m : (ℓ : Loc Cert.DdownRefIdeal.nD Cert.DdownRefIdeal.τ Cert.DdownRefIdeal.sig) → Buf (Elt Ideal) ℓ) : Prop :=
  True

def Pre_Dgatew (m : (ℓ : Loc Cert.Dgatew.nD Cert.Dgatew.τ Cert.Dgatew.sig) → Buf (Elt Bits) ℓ) : Prop :=
  True

def Pre_DgatewIdeal (m : (ℓ : Loc Cert.DgatewIdeal.nD Cert.DgatewIdeal.τ Cert.DgatewIdeal.sig) → Buf (Elt Ideal) ℓ) : Prop :=
  True

def Pre_DgatewRefIdeal (m : (ℓ : Loc Cert.DgatewRefIdeal.nD Cert.DgatewRefIdeal.τ Cert.DgatewRefIdeal.sig) → Buf (Elt Ideal) ℓ) : Prop :=
  True

def Pre_Dxa (m : (ℓ : Loc Cert.Dxa.nD Cert.Dxa.τ Cert.Dxa.sig) → Buf (Elt Bits) ℓ) : Prop :=
  True

def Pre_DxaIdeal (m : (ℓ : Loc Cert.DxaIdeal.nD Cert.DxaIdeal.τ Cert.DxaIdeal.sig) → Buf (Elt Ideal) ℓ) : Prop :=
  True

def Pre_DxaRefIdeal (m : (ℓ : Loc Cert.DxaRefIdeal.nD Cert.DxaRefIdeal.τ Cert.DxaRefIdeal.sig) → Buf (Elt Ideal) ℓ) : Prop :=
  True

def Pre_Dxb (m : (ℓ : Loc Cert.Dxb.nD Cert.Dxb.τ Cert.Dxb.sig) → Buf (Elt Bits) ℓ) : Prop :=
  True

def Pre_DxbIdeal (m : (ℓ : Loc Cert.DxbIdeal.nD Cert.DxbIdeal.τ Cert.DxbIdeal.sig) → Buf (Elt Ideal) ℓ) : Prop :=
  True

def Pre_DxbRefIdeal (m : (ℓ : Loc Cert.DxbRefIdeal.nD Cert.DxbRefIdeal.τ Cert.DxbRefIdeal.sig) → Buf (Elt Ideal) ℓ) : Prop :=
  True

def Pre_Dple (m : (ℓ : Loc Cert.Dple.nD Cert.Dple.τ Cert.Dple.sig) → Buf (Elt Bits) ℓ) : Prop :=
  True

def Pre_DpleIdeal (m : (ℓ : Loc Cert.DpleIdeal.nD Cert.DpleIdeal.τ Cert.DpleIdeal.sig) → Buf (Elt Ideal) ℓ) : Prop :=
  True

def Pre_DpleRefIdeal (m : (ℓ : Loc Cert.DpleRefIdeal.nD Cert.DpleRefIdeal.τ Cert.DpleRefIdeal.sig) → Buf (Elt Ideal) ℓ) : Prop :=
  True

def Pre_Dproj (m : (ℓ : Loc Cert.Dproj.nD Cert.Dproj.τ Cert.Dproj.sig) → Buf (Elt Bits) ℓ) : Prop :=
  True

def Pre_DprojIdeal (m : (ℓ : Loc Cert.DprojIdeal.nD Cert.DprojIdeal.τ Cert.DprojIdeal.sig) → Buf (Elt Ideal) ℓ) : Prop :=
  True

def Pre_DprojRefIdeal (m : (ℓ : Loc Cert.DprojRefIdeal.nD Cert.DprojRefIdeal.τ Cert.DprojRefIdeal.sig) → Buf (Elt Ideal) ℓ) : Prop :=
  True

def Pre_Dgate (m : (ℓ : Loc Cert.Dgate.nD Cert.Dgate.τ Cert.Dgate.sig) → Buf (Elt Bits) ℓ) : Prop :=
  True

def Pre_DgateIdeal (m : (ℓ : Loc Cert.DgateIdeal.nD Cert.DgateIdeal.τ Cert.DgateIdeal.sig) → Buf (Elt Ideal) ℓ) : Prop :=
  True

def Pre_DgateRefIdeal (m : (ℓ : Loc Cert.DgateRefIdeal.nD Cert.DgateRefIdeal.τ Cert.DgateRefIdeal.sig) → Buf (Elt Ideal) ℓ) : Prop :=
  True

def Pre_Dout (m : (ℓ : Loc Cert.Dout.nD Cert.Dout.τ Cert.Dout.sig) → Buf (Elt Bits) ℓ) : Prop :=
  True

def Pre_DoutIdeal (m : (ℓ : Loc Cert.DoutIdeal.nD Cert.DoutIdeal.τ Cert.DoutIdeal.sig) → Buf (Elt Ideal) ℓ) : Prop :=
  True

def Pre_DoutRefIdeal (m : (ℓ : Loc Cert.DoutRefIdeal.nD Cert.DoutRefIdeal.τ Cert.DoutRefIdeal.sig) → Buf (Elt Ideal) ℓ) : Prop :=
  True

def Pre_Dcat (m : (ℓ : Loc Cert.Dcat.nD Cert.Dcat.τ Cert.Dcat.sig) → Buf (Elt Bits) ℓ) : Prop :=
  True

def Pre_DcatIdeal (m : (ℓ : Loc Cert.DcatIdeal.nD Cert.DcatIdeal.τ Cert.DcatIdeal.sig) → Buf (Elt Ideal) ℓ) : Prop :=
  True

def Pre_DcatRefIdeal (m : (ℓ : Loc Cert.DcatRefIdeal.nD Cert.DcatRefIdeal.τ Cert.DcatRefIdeal.sig) → Buf (Elt Ideal) ℓ) : Prop :=
  True

def Pre_Din (m : (ℓ : Loc Cert.Din.nD Cert.Din.τ Cert.Din.sig) → Buf (Elt Bits) ℓ) : Prop :=
  True

def Pre_DinIdeal (m : (ℓ : Loc Cert.DinIdeal.nD Cert.DinIdeal.τ Cert.DinIdeal.sig) → Buf (Elt Ideal) ℓ) : Prop :=
  True

def Pre_DinRefIdeal (m : (ℓ : Loc Cert.DinRefIdeal.nD Cert.DinRefIdeal.τ Cert.DinRefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Pgate (m : (ℓ : Loc Cert.Pgate.nD Cert.Pgate.τ Cert.Pgate.sig) → Buf (Elt Bits) ℓ) : Prop :=
  True

def Pre_PgateIdeal (m : (ℓ : Loc Cert.PgateIdeal.nD Cert.PgateIdeal.τ Cert.PgateIdeal.sig) → Buf (Elt Ideal) ℓ) : Prop :=
  True

def Pre_PgateRefIdeal (m : (ℓ : Loc Cert.PgateRefIdeal.nD Cert.PgateRefIdeal.τ Cert.PgateRefIdeal.sig) → Buf (Elt Ideal) ℓ) : Prop :=
  True

def Pre_Pproj (m : (ℓ : Loc Cert.Pproj.nD Cert.Pproj.τ Cert.Pproj.sig) → Buf (Elt Bits) ℓ) : Prop :=
  True

def Pre_PprojIdeal (m : (ℓ : Loc Cert.PprojIdeal.nD Cert.PprojIdeal.τ Cert.PprojIdeal.sig) → Buf (Elt Ideal) ℓ) : Prop :=
  True

def Pre_PprojRefIdeal (m : (ℓ : Loc Cert.PprojRefIdeal.nD Cert.PprojRefIdeal.τ Cert.PprojRefIdeal.sig) → Buf (Elt Ideal) ℓ) : Prop :=
  True

def Pre_DactZero (m : (ℓ : Loc Cert.DactZero.nD Cert.DactZero.τ Cert.DactZero.sig) → Buf (Elt Bits) ℓ) : Prop :=
  True

def Pre_DactZeroIdeal (m : (ℓ : Loc Cert.DactZeroIdeal.nD Cert.DactZeroIdeal.τ Cert.DactZeroIdeal.sig) → Buf (Elt Ideal) ℓ) : Prop :=
  True

def Pre_DactZeroRefIdeal (m : (ℓ : Loc Cert.DactZeroRefIdeal.nD Cert.DactZeroRefIdeal.τ Cert.DactZeroRefIdeal.sig) → Buf (Elt Ideal) ℓ) : Prop :=
  True

def Pre_DxaZero (m : (ℓ : Loc Cert.DxaZero.nD Cert.DxaZero.τ Cert.DxaZero.sig) → Buf (Elt Bits) ℓ) : Prop :=
  True

def Pre_DxaZeroIdeal (m : (ℓ : Loc Cert.DxaZeroIdeal.nD Cert.DxaZeroIdeal.τ Cert.DxaZeroIdeal.sig) → Buf (Elt Ideal) ℓ) : Prop :=
  True

def Pre_DxaZeroRefIdeal (m : (ℓ : Loc Cert.DxaZeroRefIdeal.nD Cert.DxaZeroRefIdeal.τ Cert.DxaZeroRefIdeal.sig) → Buf (Elt Ideal) ℓ) : Prop :=
  True

def Pre_DxbZero (m : (ℓ : Loc Cert.DxbZero.nD Cert.DxbZero.τ Cert.DxbZero.sig) → Buf (Elt Bits) ℓ) : Prop :=
  True

def Pre_DxbZeroIdeal (m : (ℓ : Loc Cert.DxbZeroIdeal.nD Cert.DxbZeroIdeal.τ Cert.DxbZeroIdeal.sig) → Buf (Elt Ideal) ℓ) : Prop :=
  True

def Pre_DxbZeroRefIdeal (m : (ℓ : Loc Cert.DxbZeroRefIdeal.nD Cert.DxbZeroRefIdeal.τ Cert.DxbZeroRefIdeal.sig) → Buf (Elt Ideal) ℓ) : Prop :=
  True

def Pre_DpleZero (m : (ℓ : Loc Cert.DpleZero.nD Cert.DpleZero.τ Cert.DpleZero.sig) → Buf (Elt Bits) ℓ) : Prop :=
  True

def Pre_DpleZeroIdeal (m : (ℓ : Loc Cert.DpleZeroIdeal.nD Cert.DpleZeroIdeal.τ Cert.DpleZeroIdeal.sig) → Buf (Elt Ideal) ℓ) : Prop :=
  True

def Pre_DpleZeroRefIdeal (m : (ℓ : Loc Cert.DpleZeroRefIdeal.nD Cert.DpleZeroRefIdeal.τ Cert.DpleZeroRefIdeal.sig) → Buf (Elt Ideal) ℓ) : Prop :=
  True

def Pre_GateZero (m : (ℓ : Loc Cert.GateZero.nD Cert.GateZero.τ Cert.GateZero.sig) → Buf (Elt Bits) ℓ) : Prop :=
  True

def Pre_GateZeroIdeal (m : (ℓ : Loc Cert.GateZeroIdeal.nD Cert.GateZeroIdeal.τ Cert.GateZeroIdeal.sig) → Buf (Elt Ideal) ℓ) : Prop :=
  True

def Pre_GateZeroRefIdeal (m : (ℓ : Loc Cert.GateZeroRefIdeal.nD Cert.GateZeroRefIdeal.τ Cert.GateZeroRefIdeal.sig) → Buf (Elt Ideal) ℓ) : Prop :=
  True

def Pre_DownZero (m : (ℓ : Loc Cert.DownZero.nD Cert.DownZero.τ Cert.DownZero.sig) → Buf (Elt Bits) ℓ) : Prop :=
  True

def Pre_DownZeroIdeal (m : (ℓ : Loc Cert.DownZeroIdeal.nD Cert.DownZeroIdeal.τ Cert.DownZeroIdeal.sig) → Buf (Elt Ideal) ℓ) : Prop :=
  True

def Pre_DownZeroRefIdeal (m : (ℓ : Loc Cert.DownZeroRefIdeal.nD Cert.DownZeroRefIdeal.τ Cert.DownZeroRefIdeal.sig) → Buf (Elt Ideal) ℓ) : Prop :=
  True

def Pre_PgateZero (m : (ℓ : Loc Cert.PgateZero.nD Cert.PgateZero.τ Cert.PgateZero.sig) → Buf (Elt Bits) ℓ) : Prop :=
  True

def Pre_PgateZeroIdeal (m : (ℓ : Loc Cert.PgateZeroIdeal.nD Cert.PgateZeroIdeal.τ Cert.PgateZeroIdeal.sig) → Buf (Elt Ideal) ℓ) : Prop :=
  True

def Pre_PgateZeroRefIdeal (m : (ℓ : Loc Cert.PgateZeroRefIdeal.nD Cert.PgateZeroRefIdeal.τ Cert.PgateZeroRefIdeal.sig) → Buf (Elt Ideal) ℓ) : Prop :=
  True

def Pre_PprojZero (m : (ℓ : Loc Cert.PprojZero.nD Cert.PprojZero.τ Cert.PprojZero.sig) → Buf (Elt Bits) ℓ) : Prop :=
  True

def Pre_PprojZeroIdeal (m : (ℓ : Loc Cert.PprojZeroIdeal.nD Cert.PprojZeroIdeal.τ Cert.PprojZeroIdeal.sig) → Buf (Elt Ideal) ℓ) : Prop :=
  True

def Pre_PprojZeroRefIdeal (m : (ℓ : Loc Cert.PprojZeroRefIdeal.nD Cert.PprojZeroRefIdeal.τ Cert.PprojZeroRefIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluRefIdeal (m : (ℓ : Loc Cert.SwigluRefIdeal.nD Cert.SwigluRefIdeal.τ Cert.SwigluRefIdeal.sig) → Buf (Elt Ideal) ℓ) : Prop :=
  True

def Pre_Dswiglu (m : (ℓ : Loc Cert.Dswiglu.nD Cert.Dswiglu.τ Cert.Dswiglu.sig) → Buf (Elt Bits) ℓ) : Prop :=
  True

def Pre_DswigluIdeal (m : (ℓ : Loc Cert.DswigluIdeal.nD Cert.DswigluIdeal.τ Cert.DswigluIdeal.sig) → Buf (Elt Ideal) ℓ) : Prop :=
  True

def Pre_DswigluIdeal_finite_dswiglu [hPre_finite_dswiglu : Cert.Pre_finite_dswiglu.Facts] (m : (ℓ : Loc Cert.DswigluIdeal.nD Cert.DswigluIdeal.τ Cert.DswigluIdeal.sig) → Buf (Elt Ideal) ℓ) : Prop :=
  ∀ c : Dev Cert.DswigluIdeal.nD,
    (Cert.Pre_finite_dswiglu.fn (F := Ideal) (m ((c.tc : Thread Cert.DswigluIdeal.nD Cert.DswigluIdeal.τ).loc Cert.DswigluIdeal.main_arg0)) (m ((c.tc : Thread Cert.DswigluIdeal.nD Cert.DswigluIdeal.τ).loc Cert.DswigluIdeal.main_arg1)) (m ((c.tc : Thread Cert.DswigluIdeal.nD Cert.DswigluIdeal.τ).loc Cert.DswigluIdeal.main_arg2))).1 = (fun _ => 1#1)
    ∧ (Cert.Pre_finite_dswiglu.fn (F := Ideal) (m ((c.tc : Thread Cert.DswigluIdeal.nD Cert.DswigluIdeal.τ).loc Cert.DswigluIdeal.main_arg0)) (m ((c.tc : Thread Cert.DswigluIdeal.nD Cert.DswigluIdeal.τ).loc Cert.DswigluIdeal.main_arg1)) (m ((c.tc : Thread Cert.DswigluIdeal.nD Cert.DswigluIdeal.τ).loc Cert.DswigluIdeal.main_arg2))).2 = (fun _ => 1#1)

def Pre_DswigluRefIdeal (m : (ℓ : Loc Cert.DswigluRefIdeal.nD Cert.DswigluRefIdeal.τ Cert.DswigluRefIdeal.sig) → Buf (Elt Ideal) ℓ) : Prop :=
  True

def Pre_DswigluRefIdeal_finite_dswiglu [hPre_finite_dswiglu : Cert.Pre_finite_dswiglu.Facts] (m : (ℓ : Loc Cert.DswigluRefIdeal.nD Cert.DswigluRefIdeal.τ Cert.DswigluRefIdeal.sig) → Buf (Elt Ideal) ℓ) : Prop :=
  ∀ c : Dev Cert.DswigluRefIdeal.nD,
    (Cert.Pre_finite_dswiglu.fn (F := Ideal) (m ((c.tc : Thread Cert.DswigluRefIdeal.nD Cert.DswigluRefIdeal.τ).loc Cert.DswigluRefIdeal.main_arg0)) (m ((c.tc : Thread Cert.DswigluRefIdeal.nD Cert.DswigluRefIdeal.τ).loc Cert.DswigluRefIdeal.main_arg1)) (m ((c.tc : Thread Cert.DswigluRefIdeal.nD Cert.DswigluRefIdeal.τ).loc Cert.DswigluRefIdeal.main_arg2))).1 = (fun _ => 1#1)
    ∧ (Cert.Pre_finite_dswiglu.fn (F := Ideal) (m ((c.tc : Thread Cert.DswigluRefIdeal.nD Cert.DswigluRefIdeal.τ).loc Cert.DswigluRefIdeal.main_arg0)) (m ((c.tc : Thread Cert.DswigluRefIdeal.nD Cert.DswigluRefIdeal.τ).loc Cert.DswigluRefIdeal.main_arg1)) (m ((c.tc : Thread Cert.DswigluRefIdeal.nD Cert.DswigluRefIdeal.τ).loc Cert.DswigluRefIdeal.main_arg2))).2 = (fun _ => 1#1)

def Pre_Gated (m : (ℓ : Loc Cert.Gated.nD Cert.Gated.τ Cert.Gated.sig) → Buf (Elt Bits) ℓ) : Prop :=
  True

def Pre_GatedIdeal (m : (ℓ : Loc Cert.GatedIdeal.nD Cert.GatedIdeal.τ Cert.GatedIdeal.sig) → Buf (Elt Ideal) ℓ) : Prop :=
  True

def Pre_GatedRefIdeal (m : (ℓ : Loc Cert.GatedRefIdeal.nD Cert.GatedRefIdeal.τ Cert.GatedRefIdeal.sig) → Buf (Elt Ideal) ℓ) : Prop :=
  True

def Pre_Dgated (m : (ℓ : Loc Cert.Dgated.nD Cert.Dgated.τ Cert.Dgated.sig) → Buf (Elt Bits) ℓ) : Prop :=
  True

def Pre_DgatedIdeal (m : (ℓ : Loc Cert.DgatedIdeal.nD Cert.DgatedIdeal.τ Cert.DgatedIdeal.sig) → Buf (Elt Ideal) ℓ) : Prop :=
  True

def Pre_DgatedRefIdeal (m : (ℓ : Loc Cert.DgatedRefIdeal.nD Cert.DgatedRefIdeal.τ Cert.DgatedRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Dnorm (m : (ℓ : Loc Cert.Dnorm.nD Cert.Dnorm.τ Cert.Dnorm.sig) → Buf (Elt Bits) ℓ) : Prop :=
  True

def Pre_DnormIdeal (m : (ℓ : Loc Cert.DnormIdeal.nD Cert.DnormIdeal.τ Cert.DnormIdeal.sig) → Buf (Elt Ideal) ℓ) : Prop :=
  True

def Pre_DnormIdeal_finite_dln [hPre_finite_dln : Cert.Pre_finite_dln.Facts] (m : (ℓ : Loc Cert.DnormIdeal.nD Cert.DnormIdeal.τ Cert.DnormIdeal.sig) → Buf (Elt Ideal) ℓ) : Prop :=
  ∀ c : Dev Cert.DnormIdeal.nD,
    (Cert.Pre_finite_dln.fn (F := Ideal) (m ((c.tc : Thread Cert.DnormIdeal.nD Cert.DnormIdeal.τ).loc Cert.DnormIdeal.main_arg0)) (m ((c.tc : Thread Cert.DnormIdeal.nD Cert.DnormIdeal.τ).loc Cert.DnormIdeal.main_arg1)) (m ((c.tc : Thread Cert.DnormIdeal.nD Cert.DnormIdeal.τ).loc Cert.DnormIdeal.main_arg2)) (m ((c.tc : Thread Cert.DnormIdeal.nD Cert.DnormIdeal.τ).loc Cert.DnormIdeal.main_arg3))).1 = (fun _ => 1#1)
    ∧ (Cert.Pre_finite_dln.fn (F := Ideal) (m ((c.tc : Thread Cert.DnormIdeal.nD Cert.DnormIdeal.τ).loc Cert.DnormIdeal.main_arg0)) (m ((c.tc : Thread Cert.DnormIdeal.nD Cert.DnormIdeal.τ).loc Cert.DnormIdeal.main_arg1)) (m ((c.tc : Thread Cert.DnormIdeal.nD Cert.DnormIdeal.τ).loc Cert.DnormIdeal.main_arg2)) (m ((c.tc : Thread Cert.DnormIdeal.nD Cert.DnormIdeal.τ).loc Cert.DnormIdeal.main_arg3))).2.1 = (fun _ => 1#1)
    ∧ (Cert.Pre_finite_dln.fn (F := Ideal) (m ((c.tc : Thread Cert.DnormIdeal.nD Cert.DnormIdeal.τ).loc Cert.DnormIdeal.main_arg0)) (m ((c.tc : Thread Cert.DnormIdeal.nD Cert.DnormIdeal.τ).loc Cert.DnormIdeal.main_arg1)) (m ((c.tc : Thread Cert.DnormIdeal.nD Cert.DnormIdeal.τ).loc Cert.DnormIdeal.main_arg2)) (m ((c.tc : Thread Cert.DnormIdeal.nD Cert.DnormIdeal.τ).loc Cert.DnormIdeal.main_arg3))).2.2 = (fun _ => 1#1)

def Pre_DnormRefIdeal (m : (ℓ : Loc Cert.DnormRefIdeal.nD Cert.DnormRefIdeal.τ Cert.DnormRefIdeal.sig) → Buf (Elt Ideal) ℓ) : Prop :=
  True

def Pre_DnormRefIdeal_finite_dln [hPre_finite_dln : Cert.Pre_finite_dln.Facts] (m : (ℓ : Loc Cert.DnormRefIdeal.nD Cert.DnormRefIdeal.τ Cert.DnormRefIdeal.sig) → Buf (Elt Ideal) ℓ) : Prop :=
  ∀ c : Dev Cert.DnormRefIdeal.nD,
    (Cert.Pre_finite_dln.fn (F := Ideal) (m ((c.tc : Thread Cert.DnormRefIdeal.nD Cert.DnormRefIdeal.τ).loc Cert.DnormRefIdeal.main_arg0)) (m ((c.tc : Thread Cert.DnormRefIdeal.nD Cert.DnormRefIdeal.τ).loc Cert.DnormRefIdeal.main_arg1)) (m ((c.tc : Thread Cert.DnormRefIdeal.nD Cert.DnormRefIdeal.τ).loc Cert.DnormRefIdeal.main_arg2)) (m ((c.tc : Thread Cert.DnormRefIdeal.nD Cert.DnormRefIdeal.τ).loc Cert.DnormRefIdeal.main_arg3))).1 = (fun _ => 1#1)
    ∧ (Cert.Pre_finite_dln.fn (F := Ideal) (m ((c.tc : Thread Cert.DnormRefIdeal.nD Cert.DnormRefIdeal.τ).loc Cert.DnormRefIdeal.main_arg0)) (m ((c.tc : Thread Cert.DnormRefIdeal.nD Cert.DnormRefIdeal.τ).loc Cert.DnormRefIdeal.main_arg1)) (m ((c.tc : Thread Cert.DnormRefIdeal.nD Cert.DnormRefIdeal.τ).loc Cert.DnormRefIdeal.main_arg2)) (m ((c.tc : Thread Cert.DnormRefIdeal.nD Cert.DnormRefIdeal.τ).loc Cert.DnormRefIdeal.main_arg3))).2.1 = (fun _ => 1#1)
    ∧ (Cert.Pre_finite_dln.fn (F := Ideal) (m ((c.tc : Thread Cert.DnormRefIdeal.nD Cert.DnormRefIdeal.τ).loc Cert.DnormRefIdeal.main_arg0)) (m ((c.tc : Thread Cert.DnormRefIdeal.nD Cert.DnormRefIdeal.τ).loc Cert.DnormRefIdeal.main_arg1)) (m ((c.tc : Thread Cert.DnormRefIdeal.nD Cert.DnormRefIdeal.τ).loc Cert.DnormRefIdeal.main_arg2)) (m ((c.tc : Thread Cert.DnormRefIdeal.nD Cert.DnormRefIdeal.τ).loc Cert.DnormRefIdeal.main_arg3))).2.2 = (fun _ => 1#1)

def Pre_Dpool (m : (ℓ : Loc Cert.Dpool.nD Cert.Dpool.τ Cert.Dpool.sig) → Buf (Elt Bits) ℓ) : Prop :=
  True

def Pre_DpoolIdeal (m : (ℓ : Loc Cert.DpoolIdeal.nD Cert.DpoolIdeal.τ Cert.DpoolIdeal.sig) → Buf (Elt Ideal) ℓ) : Prop :=
  True

def Pre_DpoolRefIdeal (m : (ℓ : Loc Cert.DpoolRefIdeal.nD Cert.DpoolRefIdeal.τ Cert.DpoolRefIdeal.sig) → Buf (Elt Ideal) ℓ) : Prop :=
  True

def Pre_Gating (m : (ℓ : Loc Cert.Gating.nD Cert.Gating.τ Cert.Gating.sig) → Buf (Elt Bits) ℓ) : Prop :=
  True

def Pre_GatingIdeal (m : (ℓ : Loc Cert.GatingIdeal.nD Cert.GatingIdeal.τ Cert.GatingIdeal.sig) → Buf (Elt Ideal) ℓ) : Prop :=
  True

def Pre_GatingRefIdeal (m : (ℓ : Loc Cert.GatingRefIdeal.nD Cert.GatingRefIdeal.τ Cert.GatingRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_SumIn (m : (ℓ : Loc Cert.SumIn.nD Cert.SumIn.τ Cert.SumIn.sig) → Buf (Elt Bits) ℓ) : Prop :=
  True

def Pre_SumInIdeal (m : (ℓ : Loc Cert.SumInIdeal.nD Cert.SumInIdeal.τ Cert.SumInIdeal.sig) → Buf (Elt Ideal) ℓ) : Prop :=
  True

def Pre_SumInRefIdeal (m : (ℓ : Loc Cert.SumInRefIdeal.nD Cert.SumInRefIdeal.τ Cert.SumInRefIdeal.sig) → Buf (Elt Ideal) ℓ) : Prop :=
  True

def Pre_SumOut (m : (ℓ : Loc Cert.SumOut.nD Cert.SumOut.τ Cert.SumOut.sig) → Buf (Elt Bits) ℓ) : Prop :=
  True

def Pre_SumOutIdeal (m : (ℓ : Loc Cert.SumOutIdeal.nD Cert.SumOutIdeal.τ Cert.SumOutIdeal.sig) → Buf (Elt Ideal) ℓ) : Prop :=
  True

def Pre_SumOutRefIdeal (m : (ℓ : Loc Cert.SumOutRefIdeal.nD Cert.SumOutRefIdeal.τ Cert.SumOutRefIdeal.sig) → Buf (Elt Ideal) ℓ) : Prop :=
  True

def Pre_SumUp (m : (ℓ : Loc Cert.SumUp.nD Cert.SumUp.τ Cert.SumUp.sig) → Buf (Elt Bits) ℓ) : Prop :=
  True

def Pre_SumUpIdeal (m : (ℓ : Loc Cert.SumUpIdeal.nD Cert.SumUpIdeal.τ Cert.SumUpIdeal.sig) → Buf (Elt Ideal) ℓ) : Prop :=
  True

def Pre_SumUpRefIdeal (m : (ℓ : Loc Cert.SumUpRefIdeal.nD Cert.SumUpRefIdeal.τ Cert.SumUpRefIdeal.sig) → Buf (Elt Ideal) ℓ) : Prop :=
  True

def Pre_SumDown (m : (ℓ : Loc Cert.SumDown.nD Cert.SumDown.τ Cert.SumDown.sig) → Buf (Elt Bits) ℓ) : Prop :=
  True

def Pre_SumDownIdeal (m : (ℓ : Loc Cert.SumDownIdeal.nD Cert.SumDownIdeal.τ Cert.SumDownIdeal.sig) → Buf (Elt Ideal) ℓ) : Prop :=
  True

def Pre_SumDownRefIdeal (m : (ℓ : Loc Cert.SumDownRefIdeal.nD Cert.SumDownRefIdeal.τ Cert.SumDownRefIdeal.sig) → Buf (Elt Ideal) ℓ) : Prop :=
  True

def Pre_SumProj (m : (ℓ : Loc Cert.SumProj.nD Cert.SumProj.τ Cert.SumProj.sig) → Buf (Elt Bits) ℓ) : Prop :=
  True

def Pre_SumProjIdeal (m : (ℓ : Loc Cert.SumProjIdeal.nD Cert.SumProjIdeal.τ Cert.SumProjIdeal.sig) → Buf (Elt Ideal) ℓ) : Prop :=
  True

def Pre_SumProjRefIdeal (m : (ℓ : Loc Cert.SumProjRefIdeal.nD Cert.SumProjRefIdeal.τ Cert.SumProjRefIdeal.sig) → Buf (Elt Ideal) ℓ) : Prop :=
  True

def Pre_SumGate (m : (ℓ : Loc Cert.SumGate.nD Cert.SumGate.τ Cert.SumGate.sig) → Buf (Elt Bits) ℓ) : Prop :=
  True

def Pre_SumGateIdeal (m : (ℓ : Loc Cert.SumGateIdeal.nD Cert.SumGateIdeal.τ Cert.SumGateIdeal.sig) → Buf (Elt Ideal) ℓ) : Prop :=
  True

def Pre_SumGateRefIdeal (m : (ℓ : Loc Cert.SumGateRefIdeal.nD Cert.SumGateRefIdeal.τ Cert.SumGateRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamProj (m : (ℓ : Loc Cert.AdamProj.nD Cert.AdamProj.τ Cert.AdamProj.sig) → Buf (Elt Bits) ℓ) : Prop :=
  True

def Pre_AdamProjIdeal (m : (ℓ : Loc Cert.AdamProjIdeal.nD Cert.AdamProjIdeal.τ Cert.AdamProjIdeal.sig) → Buf (Elt Ideal) ℓ) : Prop :=
  True

def Pre_AdamProjRefIdeal (m : (ℓ : Loc Cert.AdamProjRefIdeal.nD Cert.AdamProjRefIdeal.τ Cert.AdamProjRefIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateRefIdeal (m : (ℓ : Loc Cert.AdamGateRefIdeal.nD Cert.AdamGateRefIdeal.τ Cert.AdamGateRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1))
      ∧ r.2.sem = fun _ => 0)

def quiescent_Ddown [hDdown : Cert.Ddown.Facts] : Prop :=
  ∀ (m : (ℓ : Loc Cert.Ddown.nD Cert.Ddown.τ Cert.Ddown.sig) → Buf (Elt Bits) ℓ) (g : Dev Cert.Ddown.nD → PrngReg), Pre_Ddown m →
    θ_run (Cert.Ddown.defs (F := Bits)) (onTc (τ := Cert.Ddown.τ) (Cert.Ddown.main (F := Bits))) ⟨m, fun _ => 0, g⟩ (fun r => (∀ c : Dev Cert.Ddown.nD,
      r.2.mem ((c.tc : Thread Cert.Ddown.nD Cert.Ddown.τ).loc Cert.Ddown.main_arg0) = m ((c.tc : Thread Cert.Ddown.nD Cert.Ddown.τ).loc Cert.Ddown.main_arg0)
      ∧ r.2.mem ((c.tc : Thread Cert.Ddown.nD Cert.Ddown.τ).loc Cert.Ddown.main_arg1) = m ((c.tc : Thread Cert.Ddown.nD Cert.Ddown.τ).loc Cert.Ddown.main_arg1))
      ∧ r.2.sem = fun _ => 0)

def quiescent_DdownIdeal [hDdownIdeal : Cert.DdownIdeal.Facts] : Prop :=
  ∀ (m : (ℓ : Loc Cert.DdownIdeal.nD Cert.DdownIdeal.τ Cert.DdownIdeal.sig) → Buf (Elt Ideal) ℓ) (g : Dev Cert.DdownIdeal.nD → PrngReg), Pre_DdownIdeal m →
    θ_run (Cert.DdownIdeal.defs (F := Ideal)) (onTc (τ := Cert.DdownIdeal.τ) (Cert.DdownIdeal.main (F := Ideal))) ⟨m, fun _ => 0, g⟩ (fun r => (∀ c : Dev Cert.DdownIdeal.nD,
      r.2.mem ((c.tc : Thread Cert.DdownIdeal.nD Cert.DdownIdeal.τ).loc Cert.DdownIdeal.main_arg0) = m ((c.tc : Thread Cert.DdownIdeal.nD Cert.DdownIdeal.τ).loc Cert.DdownIdeal.main_arg0)
      ∧ r.2.mem ((c.tc : Thread Cert.DdownIdeal.nD Cert.DdownIdeal.τ).loc Cert.DdownIdeal.main_arg1) = m ((c.tc : Thread Cert.DdownIdeal.nD Cert.DdownIdeal.τ).loc Cert.DdownIdeal.main_arg1))
      ∧ r.2.sem = fun _ => 0)

def quiescent_DdownRefIdeal [hDdownRefIdeal : Cert.DdownRefIdeal.Facts] : Prop :=
  ∀ (m : (ℓ : Loc Cert.DdownRefIdeal.nD Cert.DdownRefIdeal.τ Cert.DdownRefIdeal.sig) → Buf (Elt Ideal) ℓ) (g : Dev Cert.DdownRefIdeal.nD → PrngReg), Pre_DdownRefIdeal m →
    θ_run (Cert.DdownRefIdeal.defs (F := Ideal)) (onTc (τ := Cert.DdownRefIdeal.τ) (Cert.DdownRefIdeal.main (F := Ideal))) ⟨m, fun _ => 0, g⟩ (fun r => (∀ c : Dev Cert.DdownRefIdeal.nD,
      r.2.mem ((c.tc : Thread Cert.DdownRefIdeal.nD Cert.DdownRefIdeal.τ).loc Cert.DdownRefIdeal.main_arg0) = m ((c.tc : Thread Cert.DdownRefIdeal.nD Cert.DdownRefIdeal.τ).loc Cert.DdownRefIdeal.main_arg0)
      ∧ r.2.mem ((c.tc : Thread Cert.DdownRefIdeal.nD Cert.DdownRefIdeal.τ).loc Cert.DdownRefIdeal.main_arg1) = m ((c.tc : Thread Cert.DdownRefIdeal.nD Cert.DdownRefIdeal.τ).loc Cert.DdownRefIdeal.main_arg1))
      ∧ r.2.sem = fun _ => 0)

def quiescent_Dgatew [hDgatew : Cert.Dgatew.Facts] : Prop :=
  ∀ (m : (ℓ : Loc Cert.Dgatew.nD Cert.Dgatew.τ Cert.Dgatew.sig) → Buf (Elt Bits) ℓ) (g : Dev Cert.Dgatew.nD → PrngReg), Pre_Dgatew m →
    θ_run (Cert.Dgatew.defs (F := Bits)) (onTc (τ := Cert.Dgatew.τ) (Cert.Dgatew.main (F := Bits))) ⟨m, fun _ => 0, g⟩ (fun r => (∀ c : Dev Cert.Dgatew.nD,
      r.2.mem ((c.tc : Thread Cert.Dgatew.nD Cert.Dgatew.τ).loc Cert.Dgatew.main_arg0) = m ((c.tc : Thread Cert.Dgatew.nD Cert.Dgatew.τ).loc Cert.Dgatew.main_arg0)
      ∧ r.2.mem ((c.tc : Thread Cert.Dgatew.nD Cert.Dgatew.τ).loc Cert.Dgatew.main_arg1) = m ((c.tc : Thread Cert.Dgatew.nD Cert.Dgatew.τ).loc Cert.Dgatew.main_arg1))
      ∧ r.2.sem = fun _ => 0)

def quiescent_DgatewIdeal [hDgatewIdeal : Cert.DgatewIdeal.Facts] : Prop :=
  ∀ (m : (ℓ : Loc Cert.DgatewIdeal.nD Cert.DgatewIdeal.τ Cert.DgatewIdeal.sig) → Buf (Elt Ideal) ℓ) (g : Dev Cert.DgatewIdeal.nD → PrngReg), Pre_DgatewIdeal m →
    θ_run (Cert.DgatewIdeal.defs (F := Ideal)) (onTc (τ := Cert.DgatewIdeal.τ) (Cert.DgatewIdeal.main (F := Ideal))) ⟨m, fun _ => 0, g⟩ (fun r => (∀ c : Dev Cert.DgatewIdeal.nD,
      r.2.mem ((c.tc : Thread Cert.DgatewIdeal.nD Cert.DgatewIdeal.τ).loc Cert.DgatewIdeal.main_arg0) = m ((c.tc : Thread Cert.DgatewIdeal.nD Cert.DgatewIdeal.τ).loc Cert.DgatewIdeal.main_arg0)
      ∧ r.2.mem ((c.tc : Thread Cert.DgatewIdeal.nD Cert.DgatewIdeal.τ).loc Cert.DgatewIdeal.main_arg1) = m ((c.tc : Thread Cert.DgatewIdeal.nD Cert.DgatewIdeal.τ).loc Cert.DgatewIdeal.main_arg1))
      ∧ r.2.sem = fun _ => 0)

def quiescent_DgatewRefIdeal [hDgatewRefIdeal : Cert.DgatewRefIdeal.Facts] : Prop :=
  ∀ (m : (ℓ : Loc Cert.DgatewRefIdeal.nD Cert.DgatewRefIdeal.τ Cert.DgatewRefIdeal.sig) → Buf (Elt Ideal) ℓ) (g : Dev Cert.DgatewRefIdeal.nD → PrngReg), Pre_DgatewRefIdeal m →
    θ_run (Cert.DgatewRefIdeal.defs (F := Ideal)) (onTc (τ := Cert.DgatewRefIdeal.τ) (Cert.DgatewRefIdeal.main (F := Ideal))) ⟨m, fun _ => 0, g⟩ (fun r => (∀ c : Dev Cert.DgatewRefIdeal.nD,
      r.2.mem ((c.tc : Thread Cert.DgatewRefIdeal.nD Cert.DgatewRefIdeal.τ).loc Cert.DgatewRefIdeal.main_arg0) = m ((c.tc : Thread Cert.DgatewRefIdeal.nD Cert.DgatewRefIdeal.τ).loc Cert.DgatewRefIdeal.main_arg0)
      ∧ r.2.mem ((c.tc : Thread Cert.DgatewRefIdeal.nD Cert.DgatewRefIdeal.τ).loc Cert.DgatewRefIdeal.main_arg1) = m ((c.tc : Thread Cert.DgatewRefIdeal.nD Cert.DgatewRefIdeal.τ).loc Cert.DgatewRefIdeal.main_arg1))
      ∧ r.2.sem = fun _ => 0)

def quiescent_Dxa [hDxa : Cert.Dxa.Facts] : Prop :=
  ∀ (m : (ℓ : Loc Cert.Dxa.nD Cert.Dxa.τ Cert.Dxa.sig) → Buf (Elt Bits) ℓ) (g : Dev Cert.Dxa.nD → PrngReg), Pre_Dxa m →
    θ_run (Cert.Dxa.defs (F := Bits)) (onTc (τ := Cert.Dxa.τ) (Cert.Dxa.main (F := Bits))) ⟨m, fun _ => 0, g⟩ (fun r => (∀ c : Dev Cert.Dxa.nD,
      r.2.mem ((c.tc : Thread Cert.Dxa.nD Cert.Dxa.τ).loc Cert.Dxa.main_arg0) = m ((c.tc : Thread Cert.Dxa.nD Cert.Dxa.τ).loc Cert.Dxa.main_arg0)
      ∧ r.2.mem ((c.tc : Thread Cert.Dxa.nD Cert.Dxa.τ).loc Cert.Dxa.main_arg1) = m ((c.tc : Thread Cert.Dxa.nD Cert.Dxa.τ).loc Cert.Dxa.main_arg1)
      ∧ r.2.mem ((c.tc : Thread Cert.Dxa.nD Cert.Dxa.τ).loc Cert.Dxa.main_arg2) = m ((c.tc : Thread Cert.Dxa.nD Cert.Dxa.τ).loc Cert.Dxa.main_arg2))
      ∧ r.2.sem = fun _ => 0)

def quiescent_DxaIdeal [hDxaIdeal : Cert.DxaIdeal.Facts] : Prop :=
  ∀ (m : (ℓ : Loc Cert.DxaIdeal.nD Cert.DxaIdeal.τ Cert.DxaIdeal.sig) → Buf (Elt Ideal) ℓ) (g : Dev Cert.DxaIdeal.nD → PrngReg), Pre_DxaIdeal m →
    θ_run (Cert.DxaIdeal.defs (F := Ideal)) (onTc (τ := Cert.DxaIdeal.τ) (Cert.DxaIdeal.main (F := Ideal))) ⟨m, fun _ => 0, g⟩ (fun r => (∀ c : Dev Cert.DxaIdeal.nD,
      r.2.mem ((c.tc : Thread Cert.DxaIdeal.nD Cert.DxaIdeal.τ).loc Cert.DxaIdeal.main_arg0) = m ((c.tc : Thread Cert.DxaIdeal.nD Cert.DxaIdeal.τ).loc Cert.DxaIdeal.main_arg0)
      ∧ r.2.mem ((c.tc : Thread Cert.DxaIdeal.nD Cert.DxaIdeal.τ).loc Cert.DxaIdeal.main_arg1) = m ((c.tc : Thread Cert.DxaIdeal.nD Cert.DxaIdeal.τ).loc Cert.DxaIdeal.main_arg1)
      ∧ r.2.mem ((c.tc : Thread Cert.DxaIdeal.nD Cert.DxaIdeal.τ).loc Cert.DxaIdeal.main_arg2) = m ((c.tc : Thread Cert.DxaIdeal.nD Cert.DxaIdeal.τ).loc Cert.DxaIdeal.main_arg2))
      ∧ r.2.sem = fun _ => 0)

def quiescent_DxaRefIdeal [hDxaRefIdeal : Cert.DxaRefIdeal.Facts] : Prop :=
  ∀ (m : (ℓ : Loc Cert.DxaRefIdeal.nD Cert.DxaRefIdeal.τ Cert.DxaRefIdeal.sig) → Buf (Elt Ideal) ℓ) (g : Dev Cert.DxaRefIdeal.nD → PrngReg), Pre_DxaRefIdeal m →
    θ_run (Cert.DxaRefIdeal.defs (F := Ideal)) (onTc (τ := Cert.DxaRefIdeal.τ) (Cert.DxaRefIdeal.main (F := Ideal))) ⟨m, fun _ => 0, g⟩ (fun r => (∀ c : Dev Cert.DxaRefIdeal.nD,
      r.2.mem ((c.tc : Thread Cert.DxaRefIdeal.nD Cert.DxaRefIdeal.τ).loc Cert.DxaRefIdeal.main_arg0) = m ((c.tc : Thread Cert.DxaRefIdeal.nD Cert.DxaRefIdeal.τ).loc Cert.DxaRefIdeal.main_arg0)
      ∧ r.2.mem ((c.tc : Thread Cert.DxaRefIdeal.nD Cert.DxaRefIdeal.τ).loc Cert.DxaRefIdeal.main_arg1) = m ((c.tc : Thread Cert.DxaRefIdeal.nD Cert.DxaRefIdeal.τ).loc Cert.DxaRefIdeal.main_arg1)
      ∧ r.2.mem ((c.tc : Thread Cert.DxaRefIdeal.nD Cert.DxaRefIdeal.τ).loc Cert.DxaRefIdeal.main_arg2) = m ((c.tc : Thread Cert.DxaRefIdeal.nD Cert.DxaRefIdeal.τ).loc Cert.DxaRefIdeal.main_arg2))
      ∧ r.2.sem = fun _ => 0)

def quiescent_Dxb [hDxb : Cert.Dxb.Facts] : Prop :=
  ∀ (m : (ℓ : Loc Cert.Dxb.nD Cert.Dxb.τ Cert.Dxb.sig) → Buf (Elt Bits) ℓ) (g : Dev Cert.Dxb.nD → PrngReg), Pre_Dxb m →
    θ_run (Cert.Dxb.defs (F := Bits)) (onTc (τ := Cert.Dxb.τ) (Cert.Dxb.main (F := Bits))) ⟨m, fun _ => 0, g⟩ (fun r => (∀ c : Dev Cert.Dxb.nD,
      r.2.mem ((c.tc : Thread Cert.Dxb.nD Cert.Dxb.τ).loc Cert.Dxb.main_arg0) = m ((c.tc : Thread Cert.Dxb.nD Cert.Dxb.τ).loc Cert.Dxb.main_arg0)
      ∧ r.2.mem ((c.tc : Thread Cert.Dxb.nD Cert.Dxb.τ).loc Cert.Dxb.main_arg1) = m ((c.tc : Thread Cert.Dxb.nD Cert.Dxb.τ).loc Cert.Dxb.main_arg1)
      ∧ r.2.mem ((c.tc : Thread Cert.Dxb.nD Cert.Dxb.τ).loc Cert.Dxb.main_arg2) = m ((c.tc : Thread Cert.Dxb.nD Cert.Dxb.τ).loc Cert.Dxb.main_arg2))
      ∧ r.2.sem = fun _ => 0)

def quiescent_DxbIdeal [hDxbIdeal : Cert.DxbIdeal.Facts] : Prop :=
  ∀ (m : (ℓ : Loc Cert.DxbIdeal.nD Cert.DxbIdeal.τ Cert.DxbIdeal.sig) → Buf (Elt Ideal) ℓ) (g : Dev Cert.DxbIdeal.nD → PrngReg), Pre_DxbIdeal m →
    θ_run (Cert.DxbIdeal.defs (F := Ideal)) (onTc (τ := Cert.DxbIdeal.τ) (Cert.DxbIdeal.main (F := Ideal))) ⟨m, fun _ => 0, g⟩ (fun r => (∀ c : Dev Cert.DxbIdeal.nD,
      r.2.mem ((c.tc : Thread Cert.DxbIdeal.nD Cert.DxbIdeal.τ).loc Cert.DxbIdeal.main_arg0) = m ((c.tc : Thread Cert.DxbIdeal.nD Cert.DxbIdeal.τ).loc Cert.DxbIdeal.main_arg0)
      ∧ r.2.mem ((c.tc : Thread Cert.DxbIdeal.nD Cert.DxbIdeal.τ).loc Cert.DxbIdeal.main_arg1) = m ((c.tc : Thread Cert.DxbIdeal.nD Cert.DxbIdeal.τ).loc Cert.DxbIdeal.main_arg1)
      ∧ r.2.mem ((c.tc : Thread Cert.DxbIdeal.nD Cert.DxbIdeal.τ).loc Cert.DxbIdeal.main_arg2) = m ((c.tc : Thread Cert.DxbIdeal.nD Cert.DxbIdeal.τ).loc Cert.DxbIdeal.main_arg2))
      ∧ r.2.sem = fun _ => 0)

def quiescent_DxbRefIdeal [hDxbRefIdeal : Cert.DxbRefIdeal.Facts] : Prop :=
  ∀ (m : (ℓ : Loc Cert.DxbRefIdeal.nD Cert.DxbRefIdeal.τ Cert.DxbRefIdeal.sig) → Buf (Elt Ideal) ℓ) (g : Dev Cert.DxbRefIdeal.nD → PrngReg), Pre_DxbRefIdeal m →
    θ_run (Cert.DxbRefIdeal.defs (F := Ideal)) (onTc (τ := Cert.DxbRefIdeal.τ) (Cert.DxbRefIdeal.main (F := Ideal))) ⟨m, fun _ => 0, g⟩ (fun r => (∀ c : Dev Cert.DxbRefIdeal.nD,
      r.2.mem ((c.tc : Thread Cert.DxbRefIdeal.nD Cert.DxbRefIdeal.τ).loc Cert.DxbRefIdeal.main_arg0) = m ((c.tc : Thread Cert.DxbRefIdeal.nD Cert.DxbRefIdeal.τ).loc Cert.DxbRefIdeal.main_arg0)
      ∧ r.2.mem ((c.tc : Thread Cert.DxbRefIdeal.nD Cert.DxbRefIdeal.τ).loc Cert.DxbRefIdeal.main_arg1) = m ((c.tc : Thread Cert.DxbRefIdeal.nD Cert.DxbRefIdeal.τ).loc Cert.DxbRefIdeal.main_arg1)
      ∧ r.2.mem ((c.tc : Thread Cert.DxbRefIdeal.nD Cert.DxbRefIdeal.τ).loc Cert.DxbRefIdeal.main_arg2) = m ((c.tc : Thread Cert.DxbRefIdeal.nD Cert.DxbRefIdeal.τ).loc Cert.DxbRefIdeal.main_arg2))
      ∧ r.2.sem = fun _ => 0)

def quiescent_Dple [hDple : Cert.Dple.Facts] : Prop :=
  ∀ (m : (ℓ : Loc Cert.Dple.nD Cert.Dple.τ Cert.Dple.sig) → Buf (Elt Bits) ℓ) (g : Dev Cert.Dple.nD → PrngReg), Pre_Dple m →
    θ_run (Cert.Dple.defs (F := Bits)) (onTc (τ := Cert.Dple.τ) (Cert.Dple.main (F := Bits))) ⟨m, fun _ => 0, g⟩ (fun r => (∀ c : Dev Cert.Dple.nD,
      r.2.mem ((c.tc : Thread Cert.Dple.nD Cert.Dple.τ).loc Cert.Dple.main_arg0) = m ((c.tc : Thread Cert.Dple.nD Cert.Dple.τ).loc Cert.Dple.main_arg0)
      ∧ r.2.mem ((c.tc : Thread Cert.Dple.nD Cert.Dple.τ).loc Cert.Dple.main_arg1) = m ((c.tc : Thread Cert.Dple.nD Cert.Dple.τ).loc Cert.Dple.main_arg1)
      ∧ r.2.mem ((c.tc : Thread Cert.Dple.nD Cert.Dple.τ).loc Cert.Dple.main_arg2) = m ((c.tc : Thread Cert.Dple.nD Cert.Dple.τ).loc Cert.Dple.main_arg2))
      ∧ r.2.sem = fun _ => 0)

def quiescent_DpleIdeal [hDpleIdeal : Cert.DpleIdeal.Facts] : Prop :=
  ∀ (m : (ℓ : Loc Cert.DpleIdeal.nD Cert.DpleIdeal.τ Cert.DpleIdeal.sig) → Buf (Elt Ideal) ℓ) (g : Dev Cert.DpleIdeal.nD → PrngReg), Pre_DpleIdeal m →
    θ_run (Cert.DpleIdeal.defs (F := Ideal)) (onTc (τ := Cert.DpleIdeal.τ) (Cert.DpleIdeal.main (F := Ideal))) ⟨m, fun _ => 0, g⟩ (fun r => (∀ c : Dev Cert.DpleIdeal.nD,
      r.2.mem ((c.tc : Thread Cert.DpleIdeal.nD Cert.DpleIdeal.τ).loc Cert.DpleIdeal.main_arg0) = m ((c.tc : Thread Cert.DpleIdeal.nD Cert.DpleIdeal.τ).loc Cert.DpleIdeal.main_arg0)
      ∧ r.2.mem ((c.tc : Thread Cert.DpleIdeal.nD Cert.DpleIdeal.τ).loc Cert.DpleIdeal.main_arg1) = m ((c.tc : Thread Cert.DpleIdeal.nD Cert.DpleIdeal.τ).loc Cert.DpleIdeal.main_arg1)
      ∧ r.2.mem ((c.tc : Thread Cert.DpleIdeal.nD Cert.DpleIdeal.τ).loc Cert.DpleIdeal.main_arg2) = m ((c.tc : Thread Cert.DpleIdeal.nD Cert.DpleIdeal.τ).loc Cert.DpleIdeal.main_arg2))
      ∧ r.2.sem = fun _ => 0)

def quiescent_DpleRefIdeal [hDpleRefIdeal : Cert.DpleRefIdeal.Facts] : Prop :=
  ∀ (m : (ℓ : Loc Cert.DpleRefIdeal.nD Cert.DpleRefIdeal.τ Cert.DpleRefIdeal.sig) → Buf (Elt Ideal) ℓ) (g : Dev Cert.DpleRefIdeal.nD → PrngReg), Pre_DpleRefIdeal m →
    θ_run (Cert.DpleRefIdeal.defs (F := Ideal)) (onTc (τ := Cert.DpleRefIdeal.τ) (Cert.DpleRefIdeal.main (F := Ideal))) ⟨m, fun _ => 0, g⟩ (fun r => (∀ c : Dev Cert.DpleRefIdeal.nD,
      r.2.mem ((c.tc : Thread Cert.DpleRefIdeal.nD Cert.DpleRefIdeal.τ).loc Cert.DpleRefIdeal.main_arg0) = m ((c.tc : Thread Cert.DpleRefIdeal.nD Cert.DpleRefIdeal.τ).loc Cert.DpleRefIdeal.main_arg0)
      ∧ r.2.mem ((c.tc : Thread Cert.DpleRefIdeal.nD Cert.DpleRefIdeal.τ).loc Cert.DpleRefIdeal.main_arg1) = m ((c.tc : Thread Cert.DpleRefIdeal.nD Cert.DpleRefIdeal.τ).loc Cert.DpleRefIdeal.main_arg1)
      ∧ r.2.mem ((c.tc : Thread Cert.DpleRefIdeal.nD Cert.DpleRefIdeal.τ).loc Cert.DpleRefIdeal.main_arg2) = m ((c.tc : Thread Cert.DpleRefIdeal.nD Cert.DpleRefIdeal.τ).loc Cert.DpleRefIdeal.main_arg2))
      ∧ r.2.sem = fun _ => 0)

def quiescent_Dproj [hDproj : Cert.Dproj.Facts] : Prop :=
  ∀ (m : (ℓ : Loc Cert.Dproj.nD Cert.Dproj.τ Cert.Dproj.sig) → Buf (Elt Bits) ℓ) (g : Dev Cert.Dproj.nD → PrngReg), Pre_Dproj m →
    θ_run (Cert.Dproj.defs (F := Bits)) (onTc (τ := Cert.Dproj.τ) (Cert.Dproj.main (F := Bits))) ⟨m, fun _ => 0, g⟩ (fun r => (∀ c : Dev Cert.Dproj.nD,
      r.2.mem ((c.tc : Thread Cert.Dproj.nD Cert.Dproj.τ).loc Cert.Dproj.main_arg0) = m ((c.tc : Thread Cert.Dproj.nD Cert.Dproj.τ).loc Cert.Dproj.main_arg0)
      ∧ r.2.mem ((c.tc : Thread Cert.Dproj.nD Cert.Dproj.τ).loc Cert.Dproj.main_arg1) = m ((c.tc : Thread Cert.Dproj.nD Cert.Dproj.τ).loc Cert.Dproj.main_arg1))
      ∧ r.2.sem = fun _ => 0)

def quiescent_DprojIdeal [hDprojIdeal : Cert.DprojIdeal.Facts] : Prop :=
  ∀ (m : (ℓ : Loc Cert.DprojIdeal.nD Cert.DprojIdeal.τ Cert.DprojIdeal.sig) → Buf (Elt Ideal) ℓ) (g : Dev Cert.DprojIdeal.nD → PrngReg), Pre_DprojIdeal m →
    θ_run (Cert.DprojIdeal.defs (F := Ideal)) (onTc (τ := Cert.DprojIdeal.τ) (Cert.DprojIdeal.main (F := Ideal))) ⟨m, fun _ => 0, g⟩ (fun r => (∀ c : Dev Cert.DprojIdeal.nD,
      r.2.mem ((c.tc : Thread Cert.DprojIdeal.nD Cert.DprojIdeal.τ).loc Cert.DprojIdeal.main_arg0) = m ((c.tc : Thread Cert.DprojIdeal.nD Cert.DprojIdeal.τ).loc Cert.DprojIdeal.main_arg0)
      ∧ r.2.mem ((c.tc : Thread Cert.DprojIdeal.nD Cert.DprojIdeal.τ).loc Cert.DprojIdeal.main_arg1) = m ((c.tc : Thread Cert.DprojIdeal.nD Cert.DprojIdeal.τ).loc Cert.DprojIdeal.main_arg1))
      ∧ r.2.sem = fun _ => 0)

def quiescent_DprojRefIdeal [hDprojRefIdeal : Cert.DprojRefIdeal.Facts] : Prop :=
  ∀ (m : (ℓ : Loc Cert.DprojRefIdeal.nD Cert.DprojRefIdeal.τ Cert.DprojRefIdeal.sig) → Buf (Elt Ideal) ℓ) (g : Dev Cert.DprojRefIdeal.nD → PrngReg), Pre_DprojRefIdeal m →
    θ_run (Cert.DprojRefIdeal.defs (F := Ideal)) (onTc (τ := Cert.DprojRefIdeal.τ) (Cert.DprojRefIdeal.main (F := Ideal))) ⟨m, fun _ => 0, g⟩ (fun r => (∀ c : Dev Cert.DprojRefIdeal.nD,
      r.2.mem ((c.tc : Thread Cert.DprojRefIdeal.nD Cert.DprojRefIdeal.τ).loc Cert.DprojRefIdeal.main_arg0) = m ((c.tc : Thread Cert.DprojRefIdeal.nD Cert.DprojRefIdeal.τ).loc Cert.DprojRefIdeal.main_arg0)
      ∧ r.2.mem ((c.tc : Thread Cert.DprojRefIdeal.nD Cert.DprojRefIdeal.τ).loc Cert.DprojRefIdeal.main_arg1) = m ((c.tc : Thread Cert.DprojRefIdeal.nD Cert.DprojRefIdeal.τ).loc Cert.DprojRefIdeal.main_arg1))
      ∧ r.2.sem = fun _ => 0)

def quiescent_Dgate [hDgate : Cert.Dgate.Facts] : Prop :=
  ∀ (m : (ℓ : Loc Cert.Dgate.nD Cert.Dgate.τ Cert.Dgate.sig) → Buf (Elt Bits) ℓ) (g : Dev Cert.Dgate.nD → PrngReg), Pre_Dgate m →
    θ_run (Cert.Dgate.defs (F := Bits)) (onTc (τ := Cert.Dgate.τ) (Cert.Dgate.main (F := Bits))) ⟨m, fun _ => 0, g⟩ (fun r => (∀ c : Dev Cert.Dgate.nD,
      r.2.mem ((c.tc : Thread Cert.Dgate.nD Cert.Dgate.τ).loc Cert.Dgate.main_arg0) = m ((c.tc : Thread Cert.Dgate.nD Cert.Dgate.τ).loc Cert.Dgate.main_arg0)
      ∧ r.2.mem ((c.tc : Thread Cert.Dgate.nD Cert.Dgate.τ).loc Cert.Dgate.main_arg1) = m ((c.tc : Thread Cert.Dgate.nD Cert.Dgate.τ).loc Cert.Dgate.main_arg1))
      ∧ r.2.sem = fun _ => 0)

def quiescent_DgateIdeal [hDgateIdeal : Cert.DgateIdeal.Facts] : Prop :=
  ∀ (m : (ℓ : Loc Cert.DgateIdeal.nD Cert.DgateIdeal.τ Cert.DgateIdeal.sig) → Buf (Elt Ideal) ℓ) (g : Dev Cert.DgateIdeal.nD → PrngReg), Pre_DgateIdeal m →
    θ_run (Cert.DgateIdeal.defs (F := Ideal)) (onTc (τ := Cert.DgateIdeal.τ) (Cert.DgateIdeal.main (F := Ideal))) ⟨m, fun _ => 0, g⟩ (fun r => (∀ c : Dev Cert.DgateIdeal.nD,
      r.2.mem ((c.tc : Thread Cert.DgateIdeal.nD Cert.DgateIdeal.τ).loc Cert.DgateIdeal.main_arg0) = m ((c.tc : Thread Cert.DgateIdeal.nD Cert.DgateIdeal.τ).loc Cert.DgateIdeal.main_arg0)
      ∧ r.2.mem ((c.tc : Thread Cert.DgateIdeal.nD Cert.DgateIdeal.τ).loc Cert.DgateIdeal.main_arg1) = m ((c.tc : Thread Cert.DgateIdeal.nD Cert.DgateIdeal.τ).loc Cert.DgateIdeal.main_arg1))
      ∧ r.2.sem = fun _ => 0)

def quiescent_DgateRefIdeal [hDgateRefIdeal : Cert.DgateRefIdeal.Facts] : Prop :=
  ∀ (m : (ℓ : Loc Cert.DgateRefIdeal.nD Cert.DgateRefIdeal.τ Cert.DgateRefIdeal.sig) → Buf (Elt Ideal) ℓ) (g : Dev Cert.DgateRefIdeal.nD → PrngReg), Pre_DgateRefIdeal m →
    θ_run (Cert.DgateRefIdeal.defs (F := Ideal)) (onTc (τ := Cert.DgateRefIdeal.τ) (Cert.DgateRefIdeal.main (F := Ideal))) ⟨m, fun _ => 0, g⟩ (fun r => (∀ c : Dev Cert.DgateRefIdeal.nD,
      r.2.mem ((c.tc : Thread Cert.DgateRefIdeal.nD Cert.DgateRefIdeal.τ).loc Cert.DgateRefIdeal.main_arg0) = m ((c.tc : Thread Cert.DgateRefIdeal.nD Cert.DgateRefIdeal.τ).loc Cert.DgateRefIdeal.main_arg0)
      ∧ r.2.mem ((c.tc : Thread Cert.DgateRefIdeal.nD Cert.DgateRefIdeal.τ).loc Cert.DgateRefIdeal.main_arg1) = m ((c.tc : Thread Cert.DgateRefIdeal.nD Cert.DgateRefIdeal.τ).loc Cert.DgateRefIdeal.main_arg1))
      ∧ r.2.sem = fun _ => 0)

def quiescent_Dout [hDout : Cert.Dout.Facts] : Prop :=
  ∀ (m : (ℓ : Loc Cert.Dout.nD Cert.Dout.τ Cert.Dout.sig) → Buf (Elt Bits) ℓ) (g : Dev Cert.Dout.nD → PrngReg), Pre_Dout m →
    θ_run (Cert.Dout.defs (F := Bits)) (onTc (τ := Cert.Dout.τ) (Cert.Dout.main (F := Bits))) ⟨m, fun _ => 0, g⟩ (fun r => (∀ c : Dev Cert.Dout.nD,
      r.2.mem ((c.tc : Thread Cert.Dout.nD Cert.Dout.τ).loc Cert.Dout.main_arg0) = m ((c.tc : Thread Cert.Dout.nD Cert.Dout.τ).loc Cert.Dout.main_arg0)
      ∧ r.2.mem ((c.tc : Thread Cert.Dout.nD Cert.Dout.τ).loc Cert.Dout.main_arg1) = m ((c.tc : Thread Cert.Dout.nD Cert.Dout.τ).loc Cert.Dout.main_arg1))
      ∧ r.2.sem = fun _ => 0)

def quiescent_DoutIdeal [hDoutIdeal : Cert.DoutIdeal.Facts] : Prop :=
  ∀ (m : (ℓ : Loc Cert.DoutIdeal.nD Cert.DoutIdeal.τ Cert.DoutIdeal.sig) → Buf (Elt Ideal) ℓ) (g : Dev Cert.DoutIdeal.nD → PrngReg), Pre_DoutIdeal m →
    θ_run (Cert.DoutIdeal.defs (F := Ideal)) (onTc (τ := Cert.DoutIdeal.τ) (Cert.DoutIdeal.main (F := Ideal))) ⟨m, fun _ => 0, g⟩ (fun r => (∀ c : Dev Cert.DoutIdeal.nD,
      r.2.mem ((c.tc : Thread Cert.DoutIdeal.nD Cert.DoutIdeal.τ).loc Cert.DoutIdeal.main_arg0) = m ((c.tc : Thread Cert.DoutIdeal.nD Cert.DoutIdeal.τ).loc Cert.DoutIdeal.main_arg0)
      ∧ r.2.mem ((c.tc : Thread Cert.DoutIdeal.nD Cert.DoutIdeal.τ).loc Cert.DoutIdeal.main_arg1) = m ((c.tc : Thread Cert.DoutIdeal.nD Cert.DoutIdeal.τ).loc Cert.DoutIdeal.main_arg1))
      ∧ r.2.sem = fun _ => 0)

def quiescent_DoutRefIdeal [hDoutRefIdeal : Cert.DoutRefIdeal.Facts] : Prop :=
  ∀ (m : (ℓ : Loc Cert.DoutRefIdeal.nD Cert.DoutRefIdeal.τ Cert.DoutRefIdeal.sig) → Buf (Elt Ideal) ℓ) (g : Dev Cert.DoutRefIdeal.nD → PrngReg), Pre_DoutRefIdeal m →
    θ_run (Cert.DoutRefIdeal.defs (F := Ideal)) (onTc (τ := Cert.DoutRefIdeal.τ) (Cert.DoutRefIdeal.main (F := Ideal))) ⟨m, fun _ => 0, g⟩ (fun r => (∀ c : Dev Cert.DoutRefIdeal.nD,
      r.2.mem ((c.tc : Thread Cert.DoutRefIdeal.nD Cert.DoutRefIdeal.τ).loc Cert.DoutRefIdeal.main_arg0) = m ((c.tc : Thread Cert.DoutRefIdeal.nD Cert.DoutRefIdeal.τ).loc Cert.DoutRefIdeal.main_arg0)
      ∧ r.2.mem ((c.tc : Thread Cert.DoutRefIdeal.nD Cert.DoutRefIdeal.τ).loc Cert.DoutRefIdeal.main_arg1) = m ((c.tc : Thread Cert.DoutRefIdeal.nD Cert.DoutRefIdeal.τ).loc Cert.DoutRefIdeal.main_arg1))
      ∧ r.2.sem = fun _ => 0)

def quiescent_Dcat [hDcat : Cert.Dcat.Facts] : Prop :=
  ∀ (m : (ℓ : Loc Cert.Dcat.nD Cert.Dcat.τ Cert.Dcat.sig) → Buf (Elt Bits) ℓ) (g : Dev Cert.Dcat.nD → PrngReg), Pre_Dcat m →
    θ_run (Cert.Dcat.defs (F := Bits)) (onTc (τ := Cert.Dcat.τ) (Cert.Dcat.main (F := Bits))) ⟨m, fun _ => 0, g⟩ (fun r => (∀ c : Dev Cert.Dcat.nD,
      r.2.mem ((c.tc : Thread Cert.Dcat.nD Cert.Dcat.τ).loc Cert.Dcat.main_arg0) = m ((c.tc : Thread Cert.Dcat.nD Cert.Dcat.τ).loc Cert.Dcat.main_arg0)
      ∧ r.2.mem ((c.tc : Thread Cert.Dcat.nD Cert.Dcat.τ).loc Cert.Dcat.main_arg1) = m ((c.tc : Thread Cert.Dcat.nD Cert.Dcat.τ).loc Cert.Dcat.main_arg1))
      ∧ r.2.sem = fun _ => 0)

def quiescent_DcatIdeal [hDcatIdeal : Cert.DcatIdeal.Facts] : Prop :=
  ∀ (m : (ℓ : Loc Cert.DcatIdeal.nD Cert.DcatIdeal.τ Cert.DcatIdeal.sig) → Buf (Elt Ideal) ℓ) (g : Dev Cert.DcatIdeal.nD → PrngReg), Pre_DcatIdeal m →
    θ_run (Cert.DcatIdeal.defs (F := Ideal)) (onTc (τ := Cert.DcatIdeal.τ) (Cert.DcatIdeal.main (F := Ideal))) ⟨m, fun _ => 0, g⟩ (fun r => (∀ c : Dev Cert.DcatIdeal.nD,
      r.2.mem ((c.tc : Thread Cert.DcatIdeal.nD Cert.DcatIdeal.τ).loc Cert.DcatIdeal.main_arg0) = m ((c.tc : Thread Cert.DcatIdeal.nD Cert.DcatIdeal.τ).loc Cert.DcatIdeal.main_arg0)
      ∧ r.2.mem ((c.tc : Thread Cert.DcatIdeal.nD Cert.DcatIdeal.τ).loc Cert.DcatIdeal.main_arg1) = m ((c.tc : Thread Cert.DcatIdeal.nD Cert.DcatIdeal.τ).loc Cert.DcatIdeal.main_arg1))
      ∧ r.2.sem = fun _ => 0)

def quiescent_DcatRefIdeal [hDcatRefIdeal : Cert.DcatRefIdeal.Facts] : Prop :=
  ∀ (m : (ℓ : Loc Cert.DcatRefIdeal.nD Cert.DcatRefIdeal.τ Cert.DcatRefIdeal.sig) → Buf (Elt Ideal) ℓ) (g : Dev Cert.DcatRefIdeal.nD → PrngReg), Pre_DcatRefIdeal m →
    θ_run (Cert.DcatRefIdeal.defs (F := Ideal)) (onTc (τ := Cert.DcatRefIdeal.τ) (Cert.DcatRefIdeal.main (F := Ideal))) ⟨m, fun _ => 0, g⟩ (fun r => (∀ c : Dev Cert.DcatRefIdeal.nD,
      r.2.mem ((c.tc : Thread Cert.DcatRefIdeal.nD Cert.DcatRefIdeal.τ).loc Cert.DcatRefIdeal.main_arg0) = m ((c.tc : Thread Cert.DcatRefIdeal.nD Cert.DcatRefIdeal.τ).loc Cert.DcatRefIdeal.main_arg0)
      ∧ r.2.mem ((c.tc : Thread Cert.DcatRefIdeal.nD Cert.DcatRefIdeal.τ).loc Cert.DcatRefIdeal.main_arg1) = m ((c.tc : Thread Cert.DcatRefIdeal.nD Cert.DcatRefIdeal.τ).loc Cert.DcatRefIdeal.main_arg1))
      ∧ r.2.sem = fun _ => 0)

def quiescent_Din [hDin : Cert.Din.Facts] : Prop :=
  ∀ (m : (ℓ : Loc Cert.Din.nD Cert.Din.τ Cert.Din.sig) → Buf (Elt Bits) ℓ) (g : Dev Cert.Din.nD → PrngReg), Pre_Din m →
    θ_run (Cert.Din.defs (F := Bits)) (onTc (τ := Cert.Din.τ) (Cert.Din.main (F := Bits))) ⟨m, fun _ => 0, g⟩ (fun r => (∀ c : Dev Cert.Din.nD,
      r.2.mem ((c.tc : Thread Cert.Din.nD Cert.Din.τ).loc Cert.Din.main_arg0) = m ((c.tc : Thread Cert.Din.nD Cert.Din.τ).loc Cert.Din.main_arg0)
      ∧ r.2.mem ((c.tc : Thread Cert.Din.nD Cert.Din.τ).loc Cert.Din.main_arg1) = m ((c.tc : Thread Cert.Din.nD Cert.Din.τ).loc Cert.Din.main_arg1))
      ∧ r.2.sem = fun _ => 0)

def quiescent_DinIdeal [hDinIdeal : Cert.DinIdeal.Facts] : Prop :=
  ∀ (m : (ℓ : Loc Cert.DinIdeal.nD Cert.DinIdeal.τ Cert.DinIdeal.sig) → Buf (Elt Ideal) ℓ) (g : Dev Cert.DinIdeal.nD → PrngReg), Pre_DinIdeal m →
    θ_run (Cert.DinIdeal.defs (F := Ideal)) (onTc (τ := Cert.DinIdeal.τ) (Cert.DinIdeal.main (F := Ideal))) ⟨m, fun _ => 0, g⟩ (fun r => (∀ c : Dev Cert.DinIdeal.nD,
      r.2.mem ((c.tc : Thread Cert.DinIdeal.nD Cert.DinIdeal.τ).loc Cert.DinIdeal.main_arg0) = m ((c.tc : Thread Cert.DinIdeal.nD Cert.DinIdeal.τ).loc Cert.DinIdeal.main_arg0)
      ∧ r.2.mem ((c.tc : Thread Cert.DinIdeal.nD Cert.DinIdeal.τ).loc Cert.DinIdeal.main_arg1) = m ((c.tc : Thread Cert.DinIdeal.nD Cert.DinIdeal.τ).loc Cert.DinIdeal.main_arg1))
      ∧ r.2.sem = fun _ => 0)

def quiescent_DinRefIdeal [hDinRefIdeal : Cert.DinRefIdeal.Facts] : Prop :=
  ∀ (m : (ℓ : Loc Cert.DinRefIdeal.nD Cert.DinRefIdeal.τ Cert.DinRefIdeal.sig) → Buf (Elt Ideal) ℓ) (g : Dev Cert.DinRefIdeal.nD → PrngReg), Pre_DinRefIdeal m →
    θ_run (Cert.DinRefIdeal.defs (F := Ideal)) (onTc (τ := Cert.DinRefIdeal.τ) (Cert.DinRefIdeal.main (F := Ideal))) ⟨m, fun _ => 0, g⟩ (fun r => (∀ c : Dev Cert.DinRefIdeal.nD,
      r.2.mem ((c.tc : Thread Cert.DinRefIdeal.nD Cert.DinRefIdeal.τ).loc Cert.DinRefIdeal.main_arg0) = m ((c.tc : Thread Cert.DinRefIdeal.nD Cert.DinRefIdeal.τ).loc Cert.DinRefIdeal.main_arg0)
      ∧ r.2.mem ((c.tc : Thread Cert.DinRefIdeal.nD Cert.DinRefIdeal.τ).loc Cert.DinRefIdeal.main_arg1) = m ((c.tc : Thread Cert.DinRefIdeal.nD Cert.DinRefIdeal.τ).loc Cert.DinRefIdeal.main_arg1))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Pgate [hPgate : Cert.Pgate.Facts] : Prop :=
  ∀ (m : (ℓ : Loc Cert.Pgate.nD Cert.Pgate.τ Cert.Pgate.sig) → Buf (Elt Bits) ℓ) (g : Dev Cert.Pgate.nD → PrngReg), Pre_Pgate m →
    θ_run (Cert.Pgate.defs (F := Bits)) (onTc (τ := Cert.Pgate.τ) (Cert.Pgate.main (F := Bits))) ⟨m, fun _ => 0, g⟩ (fun r => (∀ c : Dev Cert.Pgate.nD,
      r.2.mem ((c.tc : Thread Cert.Pgate.nD Cert.Pgate.τ).loc Cert.Pgate.main_arg0) = m ((c.tc : Thread Cert.Pgate.nD Cert.Pgate.τ).loc Cert.Pgate.main_arg0)
      ∧ r.2.mem ((c.tc : Thread Cert.Pgate.nD Cert.Pgate.τ).loc Cert.Pgate.main_arg1) = m ((c.tc : Thread Cert.Pgate.nD Cert.Pgate.τ).loc Cert.Pgate.main_arg1))
      ∧ r.2.sem = fun _ => 0)

def quiescent_PgateIdeal [hPgateIdeal : Cert.PgateIdeal.Facts] : Prop :=
  ∀ (m : (ℓ : Loc Cert.PgateIdeal.nD Cert.PgateIdeal.τ Cert.PgateIdeal.sig) → Buf (Elt Ideal) ℓ) (g : Dev Cert.PgateIdeal.nD → PrngReg), Pre_PgateIdeal m →
    θ_run (Cert.PgateIdeal.defs (F := Ideal)) (onTc (τ := Cert.PgateIdeal.τ) (Cert.PgateIdeal.main (F := Ideal))) ⟨m, fun _ => 0, g⟩ (fun r => (∀ c : Dev Cert.PgateIdeal.nD,
      r.2.mem ((c.tc : Thread Cert.PgateIdeal.nD Cert.PgateIdeal.τ).loc Cert.PgateIdeal.main_arg0) = m ((c.tc : Thread Cert.PgateIdeal.nD Cert.PgateIdeal.τ).loc Cert.PgateIdeal.main_arg0)
      ∧ r.2.mem ((c.tc : Thread Cert.PgateIdeal.nD Cert.PgateIdeal.τ).loc Cert.PgateIdeal.main_arg1) = m ((c.tc : Thread Cert.PgateIdeal.nD Cert.PgateIdeal.τ).loc Cert.PgateIdeal.main_arg1))
      ∧ r.2.sem = fun _ => 0)

def quiescent_PgateRefIdeal [hPgateRefIdeal : Cert.PgateRefIdeal.Facts] : Prop :=
  ∀ (m : (ℓ : Loc Cert.PgateRefIdeal.nD Cert.PgateRefIdeal.τ Cert.PgateRefIdeal.sig) → Buf (Elt Ideal) ℓ) (g : Dev Cert.PgateRefIdeal.nD → PrngReg), Pre_PgateRefIdeal m →
    θ_run (Cert.PgateRefIdeal.defs (F := Ideal)) (onTc (τ := Cert.PgateRefIdeal.τ) (Cert.PgateRefIdeal.main (F := Ideal))) ⟨m, fun _ => 0, g⟩ (fun r => (∀ c : Dev Cert.PgateRefIdeal.nD,
      r.2.mem ((c.tc : Thread Cert.PgateRefIdeal.nD Cert.PgateRefIdeal.τ).loc Cert.PgateRefIdeal.main_arg0) = m ((c.tc : Thread Cert.PgateRefIdeal.nD Cert.PgateRefIdeal.τ).loc Cert.PgateRefIdeal.main_arg0)
      ∧ r.2.mem ((c.tc : Thread Cert.PgateRefIdeal.nD Cert.PgateRefIdeal.τ).loc Cert.PgateRefIdeal.main_arg1) = m ((c.tc : Thread Cert.PgateRefIdeal.nD Cert.PgateRefIdeal.τ).loc Cert.PgateRefIdeal.main_arg1))
      ∧ r.2.sem = fun _ => 0)

def quiescent_Pproj [hPproj : Cert.Pproj.Facts] : Prop :=
  ∀ (m : (ℓ : Loc Cert.Pproj.nD Cert.Pproj.τ Cert.Pproj.sig) → Buf (Elt Bits) ℓ) (g : Dev Cert.Pproj.nD → PrngReg), Pre_Pproj m →
    θ_run (Cert.Pproj.defs (F := Bits)) (onTc (τ := Cert.Pproj.τ) (Cert.Pproj.main (F := Bits))) ⟨m, fun _ => 0, g⟩ (fun r => (∀ c : Dev Cert.Pproj.nD,
      r.2.mem ((c.tc : Thread Cert.Pproj.nD Cert.Pproj.τ).loc Cert.Pproj.main_arg0) = m ((c.tc : Thread Cert.Pproj.nD Cert.Pproj.τ).loc Cert.Pproj.main_arg0)
      ∧ r.2.mem ((c.tc : Thread Cert.Pproj.nD Cert.Pproj.τ).loc Cert.Pproj.main_arg1) = m ((c.tc : Thread Cert.Pproj.nD Cert.Pproj.τ).loc Cert.Pproj.main_arg1))
      ∧ r.2.sem = fun _ => 0)

def quiescent_PprojIdeal [hPprojIdeal : Cert.PprojIdeal.Facts] : Prop :=
  ∀ (m : (ℓ : Loc Cert.PprojIdeal.nD Cert.PprojIdeal.τ Cert.PprojIdeal.sig) → Buf (Elt Ideal) ℓ) (g : Dev Cert.PprojIdeal.nD → PrngReg), Pre_PprojIdeal m →
    θ_run (Cert.PprojIdeal.defs (F := Ideal)) (onTc (τ := Cert.PprojIdeal.τ) (Cert.PprojIdeal.main (F := Ideal))) ⟨m, fun _ => 0, g⟩ (fun r => (∀ c : Dev Cert.PprojIdeal.nD,
      r.2.mem ((c.tc : Thread Cert.PprojIdeal.nD Cert.PprojIdeal.τ).loc Cert.PprojIdeal.main_arg0) = m ((c.tc : Thread Cert.PprojIdeal.nD Cert.PprojIdeal.τ).loc Cert.PprojIdeal.main_arg0)
      ∧ r.2.mem ((c.tc : Thread Cert.PprojIdeal.nD Cert.PprojIdeal.τ).loc Cert.PprojIdeal.main_arg1) = m ((c.tc : Thread Cert.PprojIdeal.nD Cert.PprojIdeal.τ).loc Cert.PprojIdeal.main_arg1))
      ∧ r.2.sem = fun _ => 0)

def quiescent_PprojRefIdeal [hPprojRefIdeal : Cert.PprojRefIdeal.Facts] : Prop :=
  ∀ (m : (ℓ : Loc Cert.PprojRefIdeal.nD Cert.PprojRefIdeal.τ Cert.PprojRefIdeal.sig) → Buf (Elt Ideal) ℓ) (g : Dev Cert.PprojRefIdeal.nD → PrngReg), Pre_PprojRefIdeal m →
    θ_run (Cert.PprojRefIdeal.defs (F := Ideal)) (onTc (τ := Cert.PprojRefIdeal.τ) (Cert.PprojRefIdeal.main (F := Ideal))) ⟨m, fun _ => 0, g⟩ (fun r => (∀ c : Dev Cert.PprojRefIdeal.nD,
      r.2.mem ((c.tc : Thread Cert.PprojRefIdeal.nD Cert.PprojRefIdeal.τ).loc Cert.PprojRefIdeal.main_arg0) = m ((c.tc : Thread Cert.PprojRefIdeal.nD Cert.PprojRefIdeal.τ).loc Cert.PprojRefIdeal.main_arg0)
      ∧ r.2.mem ((c.tc : Thread Cert.PprojRefIdeal.nD Cert.PprojRefIdeal.τ).loc Cert.PprojRefIdeal.main_arg1) = m ((c.tc : Thread Cert.PprojRefIdeal.nD Cert.PprojRefIdeal.τ).loc Cert.PprojRefIdeal.main_arg1))
      ∧ r.2.sem = fun _ => 0)

def quiescent_DactZero [hDactZero : Cert.DactZero.Facts] : Prop :=
  ∀ (m : (ℓ : Loc Cert.DactZero.nD Cert.DactZero.τ Cert.DactZero.sig) → Buf (Elt Bits) ℓ) (g : Dev Cert.DactZero.nD → PrngReg), Pre_DactZero m →
    θ_run (Cert.DactZero.defs (F := Bits)) (onTc (τ := Cert.DactZero.τ) (Cert.DactZero.main (F := Bits))) ⟨m, fun _ => 0, g⟩ (fun r => (∀ c : Dev Cert.DactZero.nD,
      r.2.mem ((c.tc : Thread Cert.DactZero.nD Cert.DactZero.τ).loc Cert.DactZero.main_arg0) = m ((c.tc : Thread Cert.DactZero.nD Cert.DactZero.τ).loc Cert.DactZero.main_arg0)
      ∧ r.2.mem ((c.tc : Thread Cert.DactZero.nD Cert.DactZero.τ).loc Cert.DactZero.main_arg1) = m ((c.tc : Thread Cert.DactZero.nD Cert.DactZero.τ).loc Cert.DactZero.main_arg1))
      ∧ r.2.sem = fun _ => 0)

def quiescent_DactZeroIdeal [hDactZeroIdeal : Cert.DactZeroIdeal.Facts] : Prop :=
  ∀ (m : (ℓ : Loc Cert.DactZeroIdeal.nD Cert.DactZeroIdeal.τ Cert.DactZeroIdeal.sig) → Buf (Elt Ideal) ℓ) (g : Dev Cert.DactZeroIdeal.nD → PrngReg), Pre_DactZeroIdeal m →
    θ_run (Cert.DactZeroIdeal.defs (F := Ideal)) (onTc (τ := Cert.DactZeroIdeal.τ) (Cert.DactZeroIdeal.main (F := Ideal))) ⟨m, fun _ => 0, g⟩ (fun r => (∀ c : Dev Cert.DactZeroIdeal.nD,
      r.2.mem ((c.tc : Thread Cert.DactZeroIdeal.nD Cert.DactZeroIdeal.τ).loc Cert.DactZeroIdeal.main_arg0) = m ((c.tc : Thread Cert.DactZeroIdeal.nD Cert.DactZeroIdeal.τ).loc Cert.DactZeroIdeal.main_arg0)
      ∧ r.2.mem ((c.tc : Thread Cert.DactZeroIdeal.nD Cert.DactZeroIdeal.τ).loc Cert.DactZeroIdeal.main_arg1) = m ((c.tc : Thread Cert.DactZeroIdeal.nD Cert.DactZeroIdeal.τ).loc Cert.DactZeroIdeal.main_arg1))
      ∧ r.2.sem = fun _ => 0)

def quiescent_DactZeroRefIdeal [hDactZeroRefIdeal : Cert.DactZeroRefIdeal.Facts] : Prop :=
  ∀ (m : (ℓ : Loc Cert.DactZeroRefIdeal.nD Cert.DactZeroRefIdeal.τ Cert.DactZeroRefIdeal.sig) → Buf (Elt Ideal) ℓ) (g : Dev Cert.DactZeroRefIdeal.nD → PrngReg), Pre_DactZeroRefIdeal m →
    θ_run (Cert.DactZeroRefIdeal.defs (F := Ideal)) (onTc (τ := Cert.DactZeroRefIdeal.τ) (Cert.DactZeroRefIdeal.main (F := Ideal))) ⟨m, fun _ => 0, g⟩ (fun r => (∀ c : Dev Cert.DactZeroRefIdeal.nD,
      r.2.mem ((c.tc : Thread Cert.DactZeroRefIdeal.nD Cert.DactZeroRefIdeal.τ).loc Cert.DactZeroRefIdeal.main_arg0) = m ((c.tc : Thread Cert.DactZeroRefIdeal.nD Cert.DactZeroRefIdeal.τ).loc Cert.DactZeroRefIdeal.main_arg0)
      ∧ r.2.mem ((c.tc : Thread Cert.DactZeroRefIdeal.nD Cert.DactZeroRefIdeal.τ).loc Cert.DactZeroRefIdeal.main_arg1) = m ((c.tc : Thread Cert.DactZeroRefIdeal.nD Cert.DactZeroRefIdeal.τ).loc Cert.DactZeroRefIdeal.main_arg1))
      ∧ r.2.sem = fun _ => 0)

def quiescent_DxaZero [hDxaZero : Cert.DxaZero.Facts] : Prop :=
  ∀ (m : (ℓ : Loc Cert.DxaZero.nD Cert.DxaZero.τ Cert.DxaZero.sig) → Buf (Elt Bits) ℓ) (g : Dev Cert.DxaZero.nD → PrngReg), Pre_DxaZero m →
    θ_run (Cert.DxaZero.defs (F := Bits)) (onTc (τ := Cert.DxaZero.τ) (Cert.DxaZero.main (F := Bits))) ⟨m, fun _ => 0, g⟩ (fun r => (∀ c : Dev Cert.DxaZero.nD,
      r.2.mem ((c.tc : Thread Cert.DxaZero.nD Cert.DxaZero.τ).loc Cert.DxaZero.main_arg0) = m ((c.tc : Thread Cert.DxaZero.nD Cert.DxaZero.τ).loc Cert.DxaZero.main_arg0)
      ∧ r.2.mem ((c.tc : Thread Cert.DxaZero.nD Cert.DxaZero.τ).loc Cert.DxaZero.main_arg1) = m ((c.tc : Thread Cert.DxaZero.nD Cert.DxaZero.τ).loc Cert.DxaZero.main_arg1)
      ∧ r.2.mem ((c.tc : Thread Cert.DxaZero.nD Cert.DxaZero.τ).loc Cert.DxaZero.main_arg2) = m ((c.tc : Thread Cert.DxaZero.nD Cert.DxaZero.τ).loc Cert.DxaZero.main_arg2))
      ∧ r.2.sem = fun _ => 0)

def quiescent_DxaZeroIdeal [hDxaZeroIdeal : Cert.DxaZeroIdeal.Facts] : Prop :=
  ∀ (m : (ℓ : Loc Cert.DxaZeroIdeal.nD Cert.DxaZeroIdeal.τ Cert.DxaZeroIdeal.sig) → Buf (Elt Ideal) ℓ) (g : Dev Cert.DxaZeroIdeal.nD → PrngReg), Pre_DxaZeroIdeal m →
    θ_run (Cert.DxaZeroIdeal.defs (F := Ideal)) (onTc (τ := Cert.DxaZeroIdeal.τ) (Cert.DxaZeroIdeal.main (F := Ideal))) ⟨m, fun _ => 0, g⟩ (fun r => (∀ c : Dev Cert.DxaZeroIdeal.nD,
      r.2.mem ((c.tc : Thread Cert.DxaZeroIdeal.nD Cert.DxaZeroIdeal.τ).loc Cert.DxaZeroIdeal.main_arg0) = m ((c.tc : Thread Cert.DxaZeroIdeal.nD Cert.DxaZeroIdeal.τ).loc Cert.DxaZeroIdeal.main_arg0)
      ∧ r.2.mem ((c.tc : Thread Cert.DxaZeroIdeal.nD Cert.DxaZeroIdeal.τ).loc Cert.DxaZeroIdeal.main_arg1) = m ((c.tc : Thread Cert.DxaZeroIdeal.nD Cert.DxaZeroIdeal.τ).loc Cert.DxaZeroIdeal.main_arg1)
      ∧ r.2.mem ((c.tc : Thread Cert.DxaZeroIdeal.nD Cert.DxaZeroIdeal.τ).loc Cert.DxaZeroIdeal.main_arg2) = m ((c.tc : Thread Cert.DxaZeroIdeal.nD Cert.DxaZeroIdeal.τ).loc Cert.DxaZeroIdeal.main_arg2))
      ∧ r.2.sem = fun _ => 0)

def quiescent_DxaZeroRefIdeal [hDxaZeroRefIdeal : Cert.DxaZeroRefIdeal.Facts] : Prop :=
  ∀ (m : (ℓ : Loc Cert.DxaZeroRefIdeal.nD Cert.DxaZeroRefIdeal.τ Cert.DxaZeroRefIdeal.sig) → Buf (Elt Ideal) ℓ) (g : Dev Cert.DxaZeroRefIdeal.nD → PrngReg), Pre_DxaZeroRefIdeal m →
    θ_run (Cert.DxaZeroRefIdeal.defs (F := Ideal)) (onTc (τ := Cert.DxaZeroRefIdeal.τ) (Cert.DxaZeroRefIdeal.main (F := Ideal))) ⟨m, fun _ => 0, g⟩ (fun r => (∀ c : Dev Cert.DxaZeroRefIdeal.nD,
      r.2.mem ((c.tc : Thread Cert.DxaZeroRefIdeal.nD Cert.DxaZeroRefIdeal.τ).loc Cert.DxaZeroRefIdeal.main_arg0) = m ((c.tc : Thread Cert.DxaZeroRefIdeal.nD Cert.DxaZeroRefIdeal.τ).loc Cert.DxaZeroRefIdeal.main_arg0)
      ∧ r.2.mem ((c.tc : Thread Cert.DxaZeroRefIdeal.nD Cert.DxaZeroRefIdeal.τ).loc Cert.DxaZeroRefIdeal.main_arg1) = m ((c.tc : Thread Cert.DxaZeroRefIdeal.nD Cert.DxaZeroRefIdeal.τ).loc Cert.DxaZeroRefIdeal.main_arg1)
      ∧ r.2.mem ((c.tc : Thread Cert.DxaZeroRefIdeal.nD Cert.DxaZeroRefIdeal.τ).loc Cert.DxaZeroRefIdeal.main_arg2) = m ((c.tc : Thread Cert.DxaZeroRefIdeal.nD Cert.DxaZeroRefIdeal.τ).loc Cert.DxaZeroRefIdeal.main_arg2))
      ∧ r.2.sem = fun _ => 0)

def quiescent_DxbZero [hDxbZero : Cert.DxbZero.Facts] : Prop :=
  ∀ (m : (ℓ : Loc Cert.DxbZero.nD Cert.DxbZero.τ Cert.DxbZero.sig) → Buf (Elt Bits) ℓ) (g : Dev Cert.DxbZero.nD → PrngReg), Pre_DxbZero m →
    θ_run (Cert.DxbZero.defs (F := Bits)) (onTc (τ := Cert.DxbZero.τ) (Cert.DxbZero.main (F := Bits))) ⟨m, fun _ => 0, g⟩ (fun r => (∀ c : Dev Cert.DxbZero.nD,
      r.2.mem ((c.tc : Thread Cert.DxbZero.nD Cert.DxbZero.τ).loc Cert.DxbZero.main_arg0) = m ((c.tc : Thread Cert.DxbZero.nD Cert.DxbZero.τ).loc Cert.DxbZero.main_arg0)
      ∧ r.2.mem ((c.tc : Thread Cert.DxbZero.nD Cert.DxbZero.τ).loc Cert.DxbZero.main_arg1) = m ((c.tc : Thread Cert.DxbZero.nD Cert.DxbZero.τ).loc Cert.DxbZero.main_arg1)
      ∧ r.2.mem ((c.tc : Thread Cert.DxbZero.nD Cert.DxbZero.τ).loc Cert.DxbZero.main_arg2) = m ((c.tc : Thread Cert.DxbZero.nD Cert.DxbZero.τ).loc Cert.DxbZero.main_arg2))
      ∧ r.2.sem = fun _ => 0)

def quiescent_DxbZeroIdeal [hDxbZeroIdeal : Cert.DxbZeroIdeal.Facts] : Prop :=
  ∀ (m : (ℓ : Loc Cert.DxbZeroIdeal.nD Cert.DxbZeroIdeal.τ Cert.DxbZeroIdeal.sig) → Buf (Elt Ideal) ℓ) (g : Dev Cert.DxbZeroIdeal.nD → PrngReg), Pre_DxbZeroIdeal m →
    θ_run (Cert.DxbZeroIdeal.defs (F := Ideal)) (onTc (τ := Cert.DxbZeroIdeal.τ) (Cert.DxbZeroIdeal.main (F := Ideal))) ⟨m, fun _ => 0, g⟩ (fun r => (∀ c : Dev Cert.DxbZeroIdeal.nD,
      r.2.mem ((c.tc : Thread Cert.DxbZeroIdeal.nD Cert.DxbZeroIdeal.τ).loc Cert.DxbZeroIdeal.main_arg0) = m ((c.tc : Thread Cert.DxbZeroIdeal.nD Cert.DxbZeroIdeal.τ).loc Cert.DxbZeroIdeal.main_arg0)
      ∧ r.2.mem ((c.tc : Thread Cert.DxbZeroIdeal.nD Cert.DxbZeroIdeal.τ).loc Cert.DxbZeroIdeal.main_arg1) = m ((c.tc : Thread Cert.DxbZeroIdeal.nD Cert.DxbZeroIdeal.τ).loc Cert.DxbZeroIdeal.main_arg1)
      ∧ r.2.mem ((c.tc : Thread Cert.DxbZeroIdeal.nD Cert.DxbZeroIdeal.τ).loc Cert.DxbZeroIdeal.main_arg2) = m ((c.tc : Thread Cert.DxbZeroIdeal.nD Cert.DxbZeroIdeal.τ).loc Cert.DxbZeroIdeal.main_arg2))
      ∧ r.2.sem = fun _ => 0)

def quiescent_DxbZeroRefIdeal [hDxbZeroRefIdeal : Cert.DxbZeroRefIdeal.Facts] : Prop :=
  ∀ (m : (ℓ : Loc Cert.DxbZeroRefIdeal.nD Cert.DxbZeroRefIdeal.τ Cert.DxbZeroRefIdeal.sig) → Buf (Elt Ideal) ℓ) (g : Dev Cert.DxbZeroRefIdeal.nD → PrngReg), Pre_DxbZeroRefIdeal m →
    θ_run (Cert.DxbZeroRefIdeal.defs (F := Ideal)) (onTc (τ := Cert.DxbZeroRefIdeal.τ) (Cert.DxbZeroRefIdeal.main (F := Ideal))) ⟨m, fun _ => 0, g⟩ (fun r => (∀ c : Dev Cert.DxbZeroRefIdeal.nD,
      r.2.mem ((c.tc : Thread Cert.DxbZeroRefIdeal.nD Cert.DxbZeroRefIdeal.τ).loc Cert.DxbZeroRefIdeal.main_arg0) = m ((c.tc : Thread Cert.DxbZeroRefIdeal.nD Cert.DxbZeroRefIdeal.τ).loc Cert.DxbZeroRefIdeal.main_arg0)
      ∧ r.2.mem ((c.tc : Thread Cert.DxbZeroRefIdeal.nD Cert.DxbZeroRefIdeal.τ).loc Cert.DxbZeroRefIdeal.main_arg1) = m ((c.tc : Thread Cert.DxbZeroRefIdeal.nD Cert.DxbZeroRefIdeal.τ).loc Cert.DxbZeroRefIdeal.main_arg1)
      ∧ r.2.mem ((c.tc : Thread Cert.DxbZeroRefIdeal.nD Cert.DxbZeroRefIdeal.τ).loc Cert.DxbZeroRefIdeal.main_arg2) = m ((c.tc : Thread Cert.DxbZeroRefIdeal.nD Cert.DxbZeroRefIdeal.τ).loc Cert.DxbZeroRefIdeal.main_arg2))
      ∧ r.2.sem = fun _ => 0)

def quiescent_DpleZero [hDpleZero : Cert.DpleZero.Facts] : Prop :=
  ∀ (m : (ℓ : Loc Cert.DpleZero.nD Cert.DpleZero.τ Cert.DpleZero.sig) → Buf (Elt Bits) ℓ) (g : Dev Cert.DpleZero.nD → PrngReg), Pre_DpleZero m →
    θ_run (Cert.DpleZero.defs (F := Bits)) (onTc (τ := Cert.DpleZero.τ) (Cert.DpleZero.main (F := Bits))) ⟨m, fun _ => 0, g⟩ (fun r => (∀ c : Dev Cert.DpleZero.nD,
      r.2.mem ((c.tc : Thread Cert.DpleZero.nD Cert.DpleZero.τ).loc Cert.DpleZero.main_arg0) = m ((c.tc : Thread Cert.DpleZero.nD Cert.DpleZero.τ).loc Cert.DpleZero.main_arg0)
      ∧ r.2.mem ((c.tc : Thread Cert.DpleZero.nD Cert.DpleZero.τ).loc Cert.DpleZero.main_arg1) = m ((c.tc : Thread Cert.DpleZero.nD Cert.DpleZero.τ).loc Cert.DpleZero.main_arg1)
      ∧ r.2.mem ((c.tc : Thread Cert.DpleZero.nD Cert.DpleZero.τ).loc Cert.DpleZero.main_arg2) = m ((c.tc : Thread Cert.DpleZero.nD Cert.DpleZero.τ).loc Cert.DpleZero.main_arg2))
      ∧ r.2.sem = fun _ => 0)

def quiescent_DpleZeroIdeal [hDpleZeroIdeal : Cert.DpleZeroIdeal.Facts] : Prop :=
  ∀ (m : (ℓ : Loc Cert.DpleZeroIdeal.nD Cert.DpleZeroIdeal.τ Cert.DpleZeroIdeal.sig) → Buf (Elt Ideal) ℓ) (g : Dev Cert.DpleZeroIdeal.nD → PrngReg), Pre_DpleZeroIdeal m →
    θ_run (Cert.DpleZeroIdeal.defs (F := Ideal)) (onTc (τ := Cert.DpleZeroIdeal.τ) (Cert.DpleZeroIdeal.main (F := Ideal))) ⟨m, fun _ => 0, g⟩ (fun r => (∀ c : Dev Cert.DpleZeroIdeal.nD,
      r.2.mem ((c.tc : Thread Cert.DpleZeroIdeal.nD Cert.DpleZeroIdeal.τ).loc Cert.DpleZeroIdeal.main_arg0) = m ((c.tc : Thread Cert.DpleZeroIdeal.nD Cert.DpleZeroIdeal.τ).loc Cert.DpleZeroIdeal.main_arg0)
      ∧ r.2.mem ((c.tc : Thread Cert.DpleZeroIdeal.nD Cert.DpleZeroIdeal.τ).loc Cert.DpleZeroIdeal.main_arg1) = m ((c.tc : Thread Cert.DpleZeroIdeal.nD Cert.DpleZeroIdeal.τ).loc Cert.DpleZeroIdeal.main_arg1)
      ∧ r.2.mem ((c.tc : Thread Cert.DpleZeroIdeal.nD Cert.DpleZeroIdeal.τ).loc Cert.DpleZeroIdeal.main_arg2) = m ((c.tc : Thread Cert.DpleZeroIdeal.nD Cert.DpleZeroIdeal.τ).loc Cert.DpleZeroIdeal.main_arg2))
      ∧ r.2.sem = fun _ => 0)

def quiescent_DpleZeroRefIdeal [hDpleZeroRefIdeal : Cert.DpleZeroRefIdeal.Facts] : Prop :=
  ∀ (m : (ℓ : Loc Cert.DpleZeroRefIdeal.nD Cert.DpleZeroRefIdeal.τ Cert.DpleZeroRefIdeal.sig) → Buf (Elt Ideal) ℓ) (g : Dev Cert.DpleZeroRefIdeal.nD → PrngReg), Pre_DpleZeroRefIdeal m →
    θ_run (Cert.DpleZeroRefIdeal.defs (F := Ideal)) (onTc (τ := Cert.DpleZeroRefIdeal.τ) (Cert.DpleZeroRefIdeal.main (F := Ideal))) ⟨m, fun _ => 0, g⟩ (fun r => (∀ c : Dev Cert.DpleZeroRefIdeal.nD,
      r.2.mem ((c.tc : Thread Cert.DpleZeroRefIdeal.nD Cert.DpleZeroRefIdeal.τ).loc Cert.DpleZeroRefIdeal.main_arg0) = m ((c.tc : Thread Cert.DpleZeroRefIdeal.nD Cert.DpleZeroRefIdeal.τ).loc Cert.DpleZeroRefIdeal.main_arg0)
      ∧ r.2.mem ((c.tc : Thread Cert.DpleZeroRefIdeal.nD Cert.DpleZeroRefIdeal.τ).loc Cert.DpleZeroRefIdeal.main_arg1) = m ((c.tc : Thread Cert.DpleZeroRefIdeal.nD Cert.DpleZeroRefIdeal.τ).loc Cert.DpleZeroRefIdeal.main_arg1)
      ∧ r.2.mem ((c.tc : Thread Cert.DpleZeroRefIdeal.nD Cert.DpleZeroRefIdeal.τ).loc Cert.DpleZeroRefIdeal.main_arg2) = m ((c.tc : Thread Cert.DpleZeroRefIdeal.nD Cert.DpleZeroRefIdeal.τ).loc Cert.DpleZeroRefIdeal.main_arg2))
      ∧ r.2.sem = fun _ => 0)

def quiescent_GateZero [hGateZero : Cert.GateZero.Facts] : Prop :=
  ∀ (m : (ℓ : Loc Cert.GateZero.nD Cert.GateZero.τ Cert.GateZero.sig) → Buf (Elt Bits) ℓ) (g : Dev Cert.GateZero.nD → PrngReg), Pre_GateZero m →
    θ_run (Cert.GateZero.defs (F := Bits)) (onTc (τ := Cert.GateZero.τ) (Cert.GateZero.main (F := Bits))) ⟨m, fun _ => 0, g⟩ (fun r => (∀ c : Dev Cert.GateZero.nD,
      r.2.mem ((c.tc : Thread Cert.GateZero.nD Cert.GateZero.τ).loc Cert.GateZero.main_arg0) = m ((c.tc : Thread Cert.GateZero.nD Cert.GateZero.τ).loc Cert.GateZero.main_arg0)
      ∧ r.2.mem ((c.tc : Thread Cert.GateZero.nD Cert.GateZero.τ).loc Cert.GateZero.main_arg1) = m ((c.tc : Thread Cert.GateZero.nD Cert.GateZero.τ).loc Cert.GateZero.main_arg1))
      ∧ r.2.sem = fun _ => 0)

def quiescent_GateZeroIdeal [hGateZeroIdeal : Cert.GateZeroIdeal.Facts] : Prop :=
  ∀ (m : (ℓ : Loc Cert.GateZeroIdeal.nD Cert.GateZeroIdeal.τ Cert.GateZeroIdeal.sig) → Buf (Elt Ideal) ℓ) (g : Dev Cert.GateZeroIdeal.nD → PrngReg), Pre_GateZeroIdeal m →
    θ_run (Cert.GateZeroIdeal.defs (F := Ideal)) (onTc (τ := Cert.GateZeroIdeal.τ) (Cert.GateZeroIdeal.main (F := Ideal))) ⟨m, fun _ => 0, g⟩ (fun r => (∀ c : Dev Cert.GateZeroIdeal.nD,
      r.2.mem ((c.tc : Thread Cert.GateZeroIdeal.nD Cert.GateZeroIdeal.τ).loc Cert.GateZeroIdeal.main_arg0) = m ((c.tc : Thread Cert.GateZeroIdeal.nD Cert.GateZeroIdeal.τ).loc Cert.GateZeroIdeal.main_arg0)
      ∧ r.2.mem ((c.tc : Thread Cert.GateZeroIdeal.nD Cert.GateZeroIdeal.τ).loc Cert.GateZeroIdeal.main_arg1) = m ((c.tc : Thread Cert.GateZeroIdeal.nD Cert.GateZeroIdeal.τ).loc Cert.GateZeroIdeal.main_arg1))
      ∧ r.2.sem = fun _ => 0)

def quiescent_GateZeroRefIdeal [hGateZeroRefIdeal : Cert.GateZeroRefIdeal.Facts] : Prop :=
  ∀ (m : (ℓ : Loc Cert.GateZeroRefIdeal.nD Cert.GateZeroRefIdeal.τ Cert.GateZeroRefIdeal.sig) → Buf (Elt Ideal) ℓ) (g : Dev Cert.GateZeroRefIdeal.nD → PrngReg), Pre_GateZeroRefIdeal m →
    θ_run (Cert.GateZeroRefIdeal.defs (F := Ideal)) (onTc (τ := Cert.GateZeroRefIdeal.τ) (Cert.GateZeroRefIdeal.main (F := Ideal))) ⟨m, fun _ => 0, g⟩ (fun r => (∀ c : Dev Cert.GateZeroRefIdeal.nD,
      r.2.mem ((c.tc : Thread Cert.GateZeroRefIdeal.nD Cert.GateZeroRefIdeal.τ).loc Cert.GateZeroRefIdeal.main_arg0) = m ((c.tc : Thread Cert.GateZeroRefIdeal.nD Cert.GateZeroRefIdeal.τ).loc Cert.GateZeroRefIdeal.main_arg0)
      ∧ r.2.mem ((c.tc : Thread Cert.GateZeroRefIdeal.nD Cert.GateZeroRefIdeal.τ).loc Cert.GateZeroRefIdeal.main_arg1) = m ((c.tc : Thread Cert.GateZeroRefIdeal.nD Cert.GateZeroRefIdeal.τ).loc Cert.GateZeroRefIdeal.main_arg1))
      ∧ r.2.sem = fun _ => 0)

def quiescent_DownZero [hDownZero : Cert.DownZero.Facts] : Prop :=
  ∀ (m : (ℓ : Loc Cert.DownZero.nD Cert.DownZero.τ Cert.DownZero.sig) → Buf (Elt Bits) ℓ) (g : Dev Cert.DownZero.nD → PrngReg), Pre_DownZero m →
    θ_run (Cert.DownZero.defs (F := Bits)) (onTc (τ := Cert.DownZero.τ) (Cert.DownZero.main (F := Bits))) ⟨m, fun _ => 0, g⟩ (fun r => (∀ c : Dev Cert.DownZero.nD,
      r.2.mem ((c.tc : Thread Cert.DownZero.nD Cert.DownZero.τ).loc Cert.DownZero.main_arg0) = m ((c.tc : Thread Cert.DownZero.nD Cert.DownZero.τ).loc Cert.DownZero.main_arg0)
      ∧ r.2.mem ((c.tc : Thread Cert.DownZero.nD Cert.DownZero.τ).loc Cert.DownZero.main_arg1) = m ((c.tc : Thread Cert.DownZero.nD Cert.DownZero.τ).loc Cert.DownZero.main_arg1))
      ∧ r.2.sem = fun _ => 0)

def quiescent_DownZeroIdeal [hDownZeroIdeal : Cert.DownZeroIdeal.Facts] : Prop :=
  ∀ (m : (ℓ : Loc Cert.DownZeroIdeal.nD Cert.DownZeroIdeal.τ Cert.DownZeroIdeal.sig) → Buf (Elt Ideal) ℓ) (g : Dev Cert.DownZeroIdeal.nD → PrngReg), Pre_DownZeroIdeal m →
    θ_run (Cert.DownZeroIdeal.defs (F := Ideal)) (onTc (τ := Cert.DownZeroIdeal.τ) (Cert.DownZeroIdeal.main (F := Ideal))) ⟨m, fun _ => 0, g⟩ (fun r => (∀ c : Dev Cert.DownZeroIdeal.nD,
      r.2.mem ((c.tc : Thread Cert.DownZeroIdeal.nD Cert.DownZeroIdeal.τ).loc Cert.DownZeroIdeal.main_arg0) = m ((c.tc : Thread Cert.DownZeroIdeal.nD Cert.DownZeroIdeal.τ).loc Cert.DownZeroIdeal.main_arg0)
      ∧ r.2.mem ((c.tc : Thread Cert.DownZeroIdeal.nD Cert.DownZeroIdeal.τ).loc Cert.DownZeroIdeal.main_arg1) = m ((c.tc : Thread Cert.DownZeroIdeal.nD Cert.DownZeroIdeal.τ).loc Cert.DownZeroIdeal.main_arg1))
      ∧ r.2.sem = fun _ => 0)

def quiescent_DownZeroRefIdeal [hDownZeroRefIdeal : Cert.DownZeroRefIdeal.Facts] : Prop :=
  ∀ (m : (ℓ : Loc Cert.DownZeroRefIdeal.nD Cert.DownZeroRefIdeal.τ Cert.DownZeroRefIdeal.sig) → Buf (Elt Ideal) ℓ) (g : Dev Cert.DownZeroRefIdeal.nD → PrngReg), Pre_DownZeroRefIdeal m →
    θ_run (Cert.DownZeroRefIdeal.defs (F := Ideal)) (onTc (τ := Cert.DownZeroRefIdeal.τ) (Cert.DownZeroRefIdeal.main (F := Ideal))) ⟨m, fun _ => 0, g⟩ (fun r => (∀ c : Dev Cert.DownZeroRefIdeal.nD,
      r.2.mem ((c.tc : Thread Cert.DownZeroRefIdeal.nD Cert.DownZeroRefIdeal.τ).loc Cert.DownZeroRefIdeal.main_arg0) = m ((c.tc : Thread Cert.DownZeroRefIdeal.nD Cert.DownZeroRefIdeal.τ).loc Cert.DownZeroRefIdeal.main_arg0)
      ∧ r.2.mem ((c.tc : Thread Cert.DownZeroRefIdeal.nD Cert.DownZeroRefIdeal.τ).loc Cert.DownZeroRefIdeal.main_arg1) = m ((c.tc : Thread Cert.DownZeroRefIdeal.nD Cert.DownZeroRefIdeal.τ).loc Cert.DownZeroRefIdeal.main_arg1))
      ∧ r.2.sem = fun _ => 0)

def quiescent_PgateZero [hPgateZero : Cert.PgateZero.Facts] : Prop :=
  ∀ (m : (ℓ : Loc Cert.PgateZero.nD Cert.PgateZero.τ Cert.PgateZero.sig) → Buf (Elt Bits) ℓ) (g : Dev Cert.PgateZero.nD → PrngReg), Pre_PgateZero m →
    θ_run (Cert.PgateZero.defs (F := Bits)) (onTc (τ := Cert.PgateZero.τ) (Cert.PgateZero.main (F := Bits))) ⟨m, fun _ => 0, g⟩ (fun r => (∀ c : Dev Cert.PgateZero.nD,
      r.2.mem ((c.tc : Thread Cert.PgateZero.nD Cert.PgateZero.τ).loc Cert.PgateZero.main_arg0) = m ((c.tc : Thread Cert.PgateZero.nD Cert.PgateZero.τ).loc Cert.PgateZero.main_arg0)
      ∧ r.2.mem ((c.tc : Thread Cert.PgateZero.nD Cert.PgateZero.τ).loc Cert.PgateZero.main_arg1) = m ((c.tc : Thread Cert.PgateZero.nD Cert.PgateZero.τ).loc Cert.PgateZero.main_arg1))
      ∧ r.2.sem = fun _ => 0)

def quiescent_PgateZeroIdeal [hPgateZeroIdeal : Cert.PgateZeroIdeal.Facts] : Prop :=
  ∀ (m : (ℓ : Loc Cert.PgateZeroIdeal.nD Cert.PgateZeroIdeal.τ Cert.PgateZeroIdeal.sig) → Buf (Elt Ideal) ℓ) (g : Dev Cert.PgateZeroIdeal.nD → PrngReg), Pre_PgateZeroIdeal m →
    θ_run (Cert.PgateZeroIdeal.defs (F := Ideal)) (onTc (τ := Cert.PgateZeroIdeal.τ) (Cert.PgateZeroIdeal.main (F := Ideal))) ⟨m, fun _ => 0, g⟩ (fun r => (∀ c : Dev Cert.PgateZeroIdeal.nD,
      r.2.mem ((c.tc : Thread Cert.PgateZeroIdeal.nD Cert.PgateZeroIdeal.τ).loc Cert.PgateZeroIdeal.main_arg0) = m ((c.tc : Thread Cert.PgateZeroIdeal.nD Cert.PgateZeroIdeal.τ).loc Cert.PgateZeroIdeal.main_arg0)
      ∧ r.2.mem ((c.tc : Thread Cert.PgateZeroIdeal.nD Cert.PgateZeroIdeal.τ).loc Cert.PgateZeroIdeal.main_arg1) = m ((c.tc : Thread Cert.PgateZeroIdeal.nD Cert.PgateZeroIdeal.τ).loc Cert.PgateZeroIdeal.main_arg1))
      ∧ r.2.sem = fun _ => 0)

def quiescent_PgateZeroRefIdeal [hPgateZeroRefIdeal : Cert.PgateZeroRefIdeal.Facts] : Prop :=
  ∀ (m : (ℓ : Loc Cert.PgateZeroRefIdeal.nD Cert.PgateZeroRefIdeal.τ Cert.PgateZeroRefIdeal.sig) → Buf (Elt Ideal) ℓ) (g : Dev Cert.PgateZeroRefIdeal.nD → PrngReg), Pre_PgateZeroRefIdeal m →
    θ_run (Cert.PgateZeroRefIdeal.defs (F := Ideal)) (onTc (τ := Cert.PgateZeroRefIdeal.τ) (Cert.PgateZeroRefIdeal.main (F := Ideal))) ⟨m, fun _ => 0, g⟩ (fun r => (∀ c : Dev Cert.PgateZeroRefIdeal.nD,
      r.2.mem ((c.tc : Thread Cert.PgateZeroRefIdeal.nD Cert.PgateZeroRefIdeal.τ).loc Cert.PgateZeroRefIdeal.main_arg0) = m ((c.tc : Thread Cert.PgateZeroRefIdeal.nD Cert.PgateZeroRefIdeal.τ).loc Cert.PgateZeroRefIdeal.main_arg0)
      ∧ r.2.mem ((c.tc : Thread Cert.PgateZeroRefIdeal.nD Cert.PgateZeroRefIdeal.τ).loc Cert.PgateZeroRefIdeal.main_arg1) = m ((c.tc : Thread Cert.PgateZeroRefIdeal.nD Cert.PgateZeroRefIdeal.τ).loc Cert.PgateZeroRefIdeal.main_arg1))
      ∧ r.2.sem = fun _ => 0)

def quiescent_PprojZero [hPprojZero : Cert.PprojZero.Facts] : Prop :=
  ∀ (m : (ℓ : Loc Cert.PprojZero.nD Cert.PprojZero.τ Cert.PprojZero.sig) → Buf (Elt Bits) ℓ) (g : Dev Cert.PprojZero.nD → PrngReg), Pre_PprojZero m →
    θ_run (Cert.PprojZero.defs (F := Bits)) (onTc (τ := Cert.PprojZero.τ) (Cert.PprojZero.main (F := Bits))) ⟨m, fun _ => 0, g⟩ (fun r => (∀ c : Dev Cert.PprojZero.nD,
      r.2.mem ((c.tc : Thread Cert.PprojZero.nD Cert.PprojZero.τ).loc Cert.PprojZero.main_arg0) = m ((c.tc : Thread Cert.PprojZero.nD Cert.PprojZero.τ).loc Cert.PprojZero.main_arg0)
      ∧ r.2.mem ((c.tc : Thread Cert.PprojZero.nD Cert.PprojZero.τ).loc Cert.PprojZero.main_arg1) = m ((c.tc : Thread Cert.PprojZero.nD Cert.PprojZero.τ).loc Cert.PprojZero.main_arg1))
      ∧ r.2.sem = fun _ => 0)

def quiescent_PprojZeroIdeal [hPprojZeroIdeal : Cert.PprojZeroIdeal.Facts] : Prop :=
  ∀ (m : (ℓ : Loc Cert.PprojZeroIdeal.nD Cert.PprojZeroIdeal.τ Cert.PprojZeroIdeal.sig) → Buf (Elt Ideal) ℓ) (g : Dev Cert.PprojZeroIdeal.nD → PrngReg), Pre_PprojZeroIdeal m →
    θ_run (Cert.PprojZeroIdeal.defs (F := Ideal)) (onTc (τ := Cert.PprojZeroIdeal.τ) (Cert.PprojZeroIdeal.main (F := Ideal))) ⟨m, fun _ => 0, g⟩ (fun r => (∀ c : Dev Cert.PprojZeroIdeal.nD,
      r.2.mem ((c.tc : Thread Cert.PprojZeroIdeal.nD Cert.PprojZeroIdeal.τ).loc Cert.PprojZeroIdeal.main_arg0) = m ((c.tc : Thread Cert.PprojZeroIdeal.nD Cert.PprojZeroIdeal.τ).loc Cert.PprojZeroIdeal.main_arg0)
      ∧ r.2.mem ((c.tc : Thread Cert.PprojZeroIdeal.nD Cert.PprojZeroIdeal.τ).loc Cert.PprojZeroIdeal.main_arg1) = m ((c.tc : Thread Cert.PprojZeroIdeal.nD Cert.PprojZeroIdeal.τ).loc Cert.PprojZeroIdeal.main_arg1))
      ∧ r.2.sem = fun _ => 0)

def quiescent_PprojZeroRefIdeal [hPprojZeroRefIdeal : Cert.PprojZeroRefIdeal.Facts] : Prop :=
  ∀ (m : (ℓ : Loc Cert.PprojZeroRefIdeal.nD Cert.PprojZeroRefIdeal.τ Cert.PprojZeroRefIdeal.sig) → Buf (Elt Ideal) ℓ) (g : Dev Cert.PprojZeroRefIdeal.nD → PrngReg), Pre_PprojZeroRefIdeal m →
    θ_run (Cert.PprojZeroRefIdeal.defs (F := Ideal)) (onTc (τ := Cert.PprojZeroRefIdeal.τ) (Cert.PprojZeroRefIdeal.main (F := Ideal))) ⟨m, fun _ => 0, g⟩ (fun r => (∀ c : Dev Cert.PprojZeroRefIdeal.nD,
      r.2.mem ((c.tc : Thread Cert.PprojZeroRefIdeal.nD Cert.PprojZeroRefIdeal.τ).loc Cert.PprojZeroRefIdeal.main_arg0) = m ((c.tc : Thread Cert.PprojZeroRefIdeal.nD Cert.PprojZeroRefIdeal.τ).loc Cert.PprojZeroRefIdeal.main_arg0)
      ∧ r.2.mem ((c.tc : Thread Cert.PprojZeroRefIdeal.nD Cert.PprojZeroRefIdeal.τ).loc Cert.PprojZeroRefIdeal.main_arg1) = m ((c.tc : Thread Cert.PprojZeroRefIdeal.nD Cert.PprojZeroRefIdeal.τ).loc Cert.PprojZeroRefIdeal.main_arg1))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1))
      ∧ r.2.sem = fun _ => 0)

def quiescent_Dswiglu [hDswiglu : Cert.Dswiglu.Facts] : Prop :=
  ∀ (m : (ℓ : Loc Cert.Dswiglu.nD Cert.Dswiglu.τ Cert.Dswiglu.sig) → Buf (Elt Bits) ℓ) (g : Dev Cert.Dswiglu.nD → PrngReg), Pre_Dswiglu m →
    θ_run (Cert.Dswiglu.defs (F := Bits)) (onTc (τ := Cert.Dswiglu.τ) (Cert.Dswiglu.main (F := Bits))) ⟨m, fun _ => 0, g⟩ (fun r => (∀ c : Dev Cert.Dswiglu.nD,
      r.2.mem ((c.tc : Thread Cert.Dswiglu.nD Cert.Dswiglu.τ).loc Cert.Dswiglu.main_arg0) = m ((c.tc : Thread Cert.Dswiglu.nD Cert.Dswiglu.τ).loc Cert.Dswiglu.main_arg0)
      ∧ r.2.mem ((c.tc : Thread Cert.Dswiglu.nD Cert.Dswiglu.τ).loc Cert.Dswiglu.main_arg1) = m ((c.tc : Thread Cert.Dswiglu.nD Cert.Dswiglu.τ).loc Cert.Dswiglu.main_arg1)
      ∧ r.2.mem ((c.tc : Thread Cert.Dswiglu.nD Cert.Dswiglu.τ).loc Cert.Dswiglu.main_arg2) = m ((c.tc : Thread Cert.Dswiglu.nD Cert.Dswiglu.τ).loc Cert.Dswiglu.main_arg2))
      ∧ r.2.sem = fun _ => 0)

def quiescent_DswigluIdeal [hDswigluIdeal : Cert.DswigluIdeal.Facts] : Prop :=
  ∀ (m : (ℓ : Loc Cert.DswigluIdeal.nD Cert.DswigluIdeal.τ Cert.DswigluIdeal.sig) → Buf (Elt Ideal) ℓ) (g : Dev Cert.DswigluIdeal.nD → PrngReg), Pre_DswigluIdeal m →
    θ_run (Cert.DswigluIdeal.defs (F := Ideal)) (onTc (τ := Cert.DswigluIdeal.τ) (Cert.DswigluIdeal.main (F := Ideal))) ⟨m, fun _ => 0, g⟩ (fun r => (∀ c : Dev Cert.DswigluIdeal.nD,
      r.2.mem ((c.tc : Thread Cert.DswigluIdeal.nD Cert.DswigluIdeal.τ).loc Cert.DswigluIdeal.main_arg0) = m ((c.tc : Thread Cert.DswigluIdeal.nD Cert.DswigluIdeal.τ).loc Cert.DswigluIdeal.main_arg0)
      ∧ r.2.mem ((c.tc : Thread Cert.DswigluIdeal.nD Cert.DswigluIdeal.τ).loc Cert.DswigluIdeal.main_arg1) = m ((c.tc : Thread Cert.DswigluIdeal.nD Cert.DswigluIdeal.τ).loc Cert.DswigluIdeal.main_arg1)
      ∧ r.2.mem ((c.tc : Thread Cert.DswigluIdeal.nD Cert.DswigluIdeal.τ).loc Cert.DswigluIdeal.main_arg2) = m ((c.tc : Thread Cert.DswigluIdeal.nD Cert.DswigluIdeal.τ).loc Cert.DswigluIdeal.main_arg2))
      ∧ r.2.sem = fun _ => 0)

def quiescent_DswigluIdeal_pre_finite_dswiglu [hDswigluIdeal : Cert.DswigluIdeal.Facts] [hPre_finite_dswiglu : Cert.Pre_finite_dswiglu.Facts] : Prop :=
  ∀ (m : (ℓ : Loc Cert.DswigluIdeal.nD Cert.DswigluIdeal.τ Cert.DswigluIdeal.sig) → Buf (Elt Ideal) ℓ) (g : Dev Cert.DswigluIdeal.nD → PrngReg), Pre_DswigluIdeal_finite_dswiglu m →
    θ_run (Cert.DswigluIdeal.defs (F := Ideal)) (onTc (τ := Cert.DswigluIdeal.τ) (Cert.DswigluIdeal.main (F := Ideal))) ⟨m, fun _ => 0, g⟩ (fun r => (∀ c : Dev Cert.DswigluIdeal.nD,
      r.2.mem ((c.tc : Thread Cert.DswigluIdeal.nD Cert.DswigluIdeal.τ).loc Cert.DswigluIdeal.main_arg0) = m ((c.tc : Thread Cert.DswigluIdeal.nD Cert.DswigluIdeal.τ).loc Cert.DswigluIdeal.main_arg0)
      ∧ r.2.mem ((c.tc : Thread Cert.DswigluIdeal.nD Cert.DswigluIdeal.τ).loc Cert.DswigluIdeal.main_arg1) = m ((c.tc : Thread Cert.DswigluIdeal.nD Cert.DswigluIdeal.τ).loc Cert.DswigluIdeal.main_arg1)
      ∧ r.2.mem ((c.tc : Thread Cert.DswigluIdeal.nD Cert.DswigluIdeal.τ).loc Cert.DswigluIdeal.main_arg2) = m ((c.tc : Thread Cert.DswigluIdeal.nD Cert.DswigluIdeal.τ).loc Cert.DswigluIdeal.main_arg2))
      ∧ r.2.sem = fun _ => 0)

def quiescent_DswigluRefIdeal [hDswigluRefIdeal : Cert.DswigluRefIdeal.Facts] : Prop :=
  ∀ (m : (ℓ : Loc Cert.DswigluRefIdeal.nD Cert.DswigluRefIdeal.τ Cert.DswigluRefIdeal.sig) → Buf (Elt Ideal) ℓ) (g : Dev Cert.DswigluRefIdeal.nD → PrngReg), Pre_DswigluRefIdeal m →
    θ_run (Cert.DswigluRefIdeal.defs (F := Ideal)) (onTc (τ := Cert.DswigluRefIdeal.τ) (Cert.DswigluRefIdeal.main (F := Ideal))) ⟨m, fun _ => 0, g⟩ (fun r => (∀ c : Dev Cert.DswigluRefIdeal.nD,
      r.2.mem ((c.tc : Thread Cert.DswigluRefIdeal.nD Cert.DswigluRefIdeal.τ).loc Cert.DswigluRefIdeal.main_arg0) = m ((c.tc : Thread Cert.DswigluRefIdeal.nD Cert.DswigluRefIdeal.τ).loc Cert.DswigluRefIdeal.main_arg0)
      ∧ r.2.mem ((c.tc : Thread Cert.DswigluRefIdeal.nD Cert.DswigluRefIdeal.τ).loc Cert.DswigluRefIdeal.main_arg1) = m ((c.tc : Thread Cert.DswigluRefIdeal.nD Cert.DswigluRefIdeal.τ).loc Cert.DswigluRefIdeal.main_arg1)
      ∧ r.2.mem ((c.tc : Thread Cert.DswigluRefIdeal.nD Cert.DswigluRefIdeal.τ).loc Cert.DswigluRefIdeal.main_arg2) = m ((c.tc : Thread Cert.DswigluRefIdeal.nD Cert.DswigluRefIdeal.τ).loc Cert.DswigluRefIdeal.main_arg2))
      ∧ r.2.sem = fun _ => 0)

def quiescent_DswigluRefIdeal_pre_finite_dswiglu [hDswigluRefIdeal : Cert.DswigluRefIdeal.Facts] [hPre_finite_dswiglu : Cert.Pre_finite_dswiglu.Facts] : Prop :=
  ∀ (m : (ℓ : Loc Cert.DswigluRefIdeal.nD Cert.DswigluRefIdeal.τ Cert.DswigluRefIdeal.sig) → Buf (Elt Ideal) ℓ) (g : Dev Cert.DswigluRefIdeal.nD → PrngReg), Pre_DswigluRefIdeal_finite_dswiglu m →
    θ_run (Cert.DswigluRefIdeal.defs (F := Ideal)) (onTc (τ := Cert.DswigluRefIdeal.τ) (Cert.DswigluRefIdeal.main (F := Ideal))) ⟨m, fun _ => 0, g⟩ (fun r => (∀ c : Dev Cert.DswigluRefIdeal.nD,
      r.2.mem ((c.tc : Thread Cert.DswigluRefIdeal.nD Cert.DswigluRefIdeal.τ).loc Cert.DswigluRefIdeal.main_arg0) = m ((c.tc : Thread Cert.DswigluRefIdeal.nD Cert.DswigluRefIdeal.τ).loc Cert.DswigluRefIdeal.main_arg0)
      ∧ r.2.mem ((c.tc : Thread Cert.DswigluRefIdeal.nD Cert.DswigluRefIdeal.τ).loc Cert.DswigluRefIdeal.main_arg1) = m ((c.tc : Thread Cert.DswigluRefIdeal.nD Cert.DswigluRefIdeal.τ).loc Cert.DswigluRefIdeal.main_arg1)
      ∧ r.2.mem ((c.tc : Thread Cert.DswigluRefIdeal.nD Cert.DswigluRefIdeal.τ).loc Cert.DswigluRefIdeal.main_arg2) = m ((c.tc : Thread Cert.DswigluRefIdeal.nD Cert.DswigluRefIdeal.τ).loc Cert.DswigluRefIdeal.main_arg2))
      ∧ r.2.sem = fun _ => 0)

def quiescent_Gated [hGated : Cert.Gated.Facts] : Prop :=
  ∀ (m : (ℓ : Loc Cert.Gated.nD Cert.Gated.τ Cert.Gated.sig) → Buf (Elt Bits) ℓ) (g : Dev Cert.Gated.nD → PrngReg), Pre_Gated m →
    θ_run (Cert.Gated.defs (F := Bits)) (onTc (τ := Cert.Gated.τ) (Cert.Gated.main (F := Bits))) ⟨m, fun _ => 0, g⟩ (fun r => (∀ c : Dev Cert.Gated.nD,
      r.2.mem ((c.tc : Thread Cert.Gated.nD Cert.Gated.τ).loc Cert.Gated.main_arg0) = m ((c.tc : Thread Cert.Gated.nD Cert.Gated.τ).loc Cert.Gated.main_arg0)
      ∧ r.2.mem ((c.tc : Thread Cert.Gated.nD Cert.Gated.τ).loc Cert.Gated.main_arg1) = m ((c.tc : Thread Cert.Gated.nD Cert.Gated.τ).loc Cert.Gated.main_arg1)
      ∧ r.2.mem ((c.tc : Thread Cert.Gated.nD Cert.Gated.τ).loc Cert.Gated.main_arg2) = m ((c.tc : Thread Cert.Gated.nD Cert.Gated.τ).loc Cert.Gated.main_arg2)
      ∧ r.2.mem ((c.tc : Thread Cert.Gated.nD Cert.Gated.τ).loc Cert.Gated.main_arg3) = m ((c.tc : Thread Cert.Gated.nD Cert.Gated.τ).loc Cert.Gated.main_arg3))
      ∧ r.2.sem = fun _ => 0)

def quiescent_GatedIdeal [hGatedIdeal : Cert.GatedIdeal.Facts] : Prop :=
  ∀ (m : (ℓ : Loc Cert.GatedIdeal.nD Cert.GatedIdeal.τ Cert.GatedIdeal.sig) → Buf (Elt Ideal) ℓ) (g : Dev Cert.GatedIdeal.nD → PrngReg), Pre_GatedIdeal m →
    θ_run (Cert.GatedIdeal.defs (F := Ideal)) (onTc (τ := Cert.GatedIdeal.τ) (Cert.GatedIdeal.main (F := Ideal))) ⟨m, fun _ => 0, g⟩ (fun r => (∀ c : Dev Cert.GatedIdeal.nD,
      r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
      ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
      ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
      ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3))
      ∧ r.2.sem = fun _ => 0)

def quiescent_GatedRefIdeal [hGatedRefIdeal : Cert.GatedRefIdeal.Facts] : Prop :=
  ∀ (m : (ℓ : Loc Cert.GatedRefIdeal.nD Cert.GatedRefIdeal.τ Cert.GatedRefIdeal.sig) → Buf (Elt Ideal) ℓ) (g : Dev Cert.GatedRefIdeal.nD → PrngReg), Pre_GatedRefIdeal m →
    θ_run (Cert.GatedRefIdeal.defs (F := Ideal)) (onTc (τ := Cert.GatedRefIdeal.τ) (Cert.GatedRefIdeal.main (F := Ideal))) ⟨m, fun _ => 0, g⟩ (fun r => (∀ c : Dev Cert.GatedRefIdeal.nD,
      r.2.mem ((c.tc : Thread Cert.GatedRefIdeal.nD Cert.GatedRefIdeal.τ).loc Cert.GatedRefIdeal.main_arg0) = m ((c.tc : Thread Cert.GatedRefIdeal.nD Cert.GatedRefIdeal.τ).loc Cert.GatedRefIdeal.main_arg0)
      ∧ r.2.mem ((c.tc : Thread Cert.GatedRefIdeal.nD Cert.GatedRefIdeal.τ).loc Cert.GatedRefIdeal.main_arg1) = m ((c.tc : Thread Cert.GatedRefIdeal.nD Cert.GatedRefIdeal.τ).loc Cert.GatedRefIdeal.main_arg1)
      ∧ r.2.mem ((c.tc : Thread Cert.GatedRefIdeal.nD Cert.GatedRefIdeal.τ).loc Cert.GatedRefIdeal.main_arg2) = m ((c.tc : Thread Cert.GatedRefIdeal.nD Cert.GatedRefIdeal.τ).loc Cert.GatedRefIdeal.main_arg2)
      ∧ r.2.mem ((c.tc : Thread Cert.GatedRefIdeal.nD Cert.GatedRefIdeal.τ).loc Cert.GatedRefIdeal.main_arg3) = m ((c.tc : Thread Cert.GatedRefIdeal.nD Cert.GatedRefIdeal.τ).loc Cert.GatedRefIdeal.main_arg3))
      ∧ r.2.sem = fun _ => 0)

def quiescent_Dgated [hDgated : Cert.Dgated.Facts] : Prop :=
  ∀ (m : (ℓ : Loc Cert.Dgated.nD Cert.Dgated.τ Cert.Dgated.sig) → Buf (Elt Bits) ℓ) (g : Dev Cert.Dgated.nD → PrngReg), Pre_Dgated m →
    θ_run (Cert.Dgated.defs (F := Bits)) (onTc (τ := Cert.Dgated.τ) (Cert.Dgated.main (F := Bits))) ⟨m, fun _ => 0, g⟩ (fun r => (∀ c : Dev Cert.Dgated.nD,
      r.2.mem ((c.tc : Thread Cert.Dgated.nD Cert.Dgated.τ).loc Cert.Dgated.main_arg0) = m ((c.tc : Thread Cert.Dgated.nD Cert.Dgated.τ).loc Cert.Dgated.main_arg0)
      ∧ r.2.mem ((c.tc : Thread Cert.Dgated.nD Cert.Dgated.τ).loc Cert.Dgated.main_arg1) = m ((c.tc : Thread Cert.Dgated.nD Cert.Dgated.τ).loc Cert.Dgated.main_arg1)
      ∧ r.2.mem ((c.tc : Thread Cert.Dgated.nD Cert.Dgated.τ).loc Cert.Dgated.main_arg2) = m ((c.tc : Thread Cert.Dgated.nD Cert.Dgated.τ).loc Cert.Dgated.main_arg2)
      ∧ r.2.mem ((c.tc : Thread Cert.Dgated.nD Cert.Dgated.τ).loc Cert.Dgated.main_arg3) = m ((c.tc : Thread Cert.Dgated.nD Cert.Dgated.τ).loc Cert.Dgated.main_arg3))
      ∧ r.2.sem = fun _ => 0)

def quiescent_DgatedIdeal [hDgatedIdeal : Cert.DgatedIdeal.Facts] : Prop :=
  ∀ (m : (ℓ : Loc Cert.DgatedIdeal.nD Cert.DgatedIdeal.τ Cert.DgatedIdeal.sig) → Buf (Elt Ideal) ℓ) (g : Dev Cert.DgatedIdeal.nD → PrngReg), Pre_DgatedIdeal m →
    θ_run (Cert.DgatedIdeal.defs (F := Ideal)) (onTc (τ := Cert.DgatedIdeal.τ) (Cert.DgatedIdeal.main (F := Ideal))) ⟨m, fun _ => 0, g⟩ (fun r => (∀ c : Dev Cert.DgatedIdeal.nD,
      r.2.mem ((c.tc : Thread Cert.DgatedIdeal.nD Cert.DgatedIdeal.τ).loc Cert.DgatedIdeal.main_arg0) = m ((c.tc : Thread Cert.DgatedIdeal.nD Cert.DgatedIdeal.τ).loc Cert.DgatedIdeal.main_arg0)
      ∧ r.2.mem ((c.tc : Thread Cert.DgatedIdeal.nD Cert.DgatedIdeal.τ).loc Cert.DgatedIdeal.main_arg1) = m ((c.tc : Thread Cert.DgatedIdeal.nD Cert.DgatedIdeal.τ).loc Cert.DgatedIdeal.main_arg1)
      ∧ r.2.mem ((c.tc : Thread Cert.DgatedIdeal.nD Cert.DgatedIdeal.τ).loc Cert.DgatedIdeal.main_arg2) = m ((c.tc : Thread Cert.DgatedIdeal.nD Cert.DgatedIdeal.τ).loc Cert.DgatedIdeal.main_arg2)
      ∧ r.2.mem ((c.tc : Thread Cert.DgatedIdeal.nD Cert.DgatedIdeal.τ).loc Cert.DgatedIdeal.main_arg3) = m ((c.tc : Thread Cert.DgatedIdeal.nD Cert.DgatedIdeal.τ).loc Cert.DgatedIdeal.main_arg3))
      ∧ r.2.sem = fun _ => 0)

def quiescent_DgatedRefIdeal [hDgatedRefIdeal : Cert.DgatedRefIdeal.Facts] : Prop :=
  ∀ (m : (ℓ : Loc Cert.DgatedRefIdeal.nD Cert.DgatedRefIdeal.τ Cert.DgatedRefIdeal.sig) → Buf (Elt Ideal) ℓ) (g : Dev Cert.DgatedRefIdeal.nD → PrngReg), Pre_DgatedRefIdeal m →
    θ_run (Cert.DgatedRefIdeal.defs (F := Ideal)) (onTc (τ := Cert.DgatedRefIdeal.τ) (Cert.DgatedRefIdeal.main (F := Ideal))) ⟨m, fun _ => 0, g⟩ (fun r => (∀ c : Dev Cert.DgatedRefIdeal.nD,
      r.2.mem ((c.tc : Thread Cert.DgatedRefIdeal.nD Cert.DgatedRefIdeal.τ).loc Cert.DgatedRefIdeal.main_arg0) = m ((c.tc : Thread Cert.DgatedRefIdeal.nD Cert.DgatedRefIdeal.τ).loc Cert.DgatedRefIdeal.main_arg0)
      ∧ r.2.mem ((c.tc : Thread Cert.DgatedRefIdeal.nD Cert.DgatedRefIdeal.τ).loc Cert.DgatedRefIdeal.main_arg1) = m ((c.tc : Thread Cert.DgatedRefIdeal.nD Cert.DgatedRefIdeal.τ).loc Cert.DgatedRefIdeal.main_arg1)
      ∧ r.2.mem ((c.tc : Thread Cert.DgatedRefIdeal.nD Cert.DgatedRefIdeal.τ).loc Cert.DgatedRefIdeal.main_arg2) = m ((c.tc : Thread Cert.DgatedRefIdeal.nD Cert.DgatedRefIdeal.τ).loc Cert.DgatedRefIdeal.main_arg2)
      ∧ r.2.mem ((c.tc : Thread Cert.DgatedRefIdeal.nD Cert.DgatedRefIdeal.τ).loc Cert.DgatedRefIdeal.main_arg3) = m ((c.tc : Thread Cert.DgatedRefIdeal.nD Cert.DgatedRefIdeal.τ).loc Cert.DgatedRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_Dnorm [hDnorm : Cert.Dnorm.Facts] : Prop :=
  ∀ (m : (ℓ : Loc Cert.Dnorm.nD Cert.Dnorm.τ Cert.Dnorm.sig) → Buf (Elt Bits) ℓ) (g : Dev Cert.Dnorm.nD → PrngReg), Pre_Dnorm m →
    θ_run (Cert.Dnorm.defs (F := Bits)) (onTc (τ := Cert.Dnorm.τ) (Cert.Dnorm.main (F := Bits))) ⟨m, fun _ => 0, g⟩ (fun r => (∀ c : Dev Cert.Dnorm.nD,
      r.2.mem ((c.tc : Thread Cert.Dnorm.nD Cert.Dnorm.τ).loc Cert.Dnorm.main_arg0) = m ((c.tc : Thread Cert.Dnorm.nD Cert.Dnorm.τ).loc Cert.Dnorm.main_arg0)
      ∧ r.2.mem ((c.tc : Thread Cert.Dnorm.nD Cert.Dnorm.τ).loc Cert.Dnorm.main_arg1) = m ((c.tc : Thread Cert.Dnorm.nD Cert.Dnorm.τ).loc Cert.Dnorm.main_arg1)
      ∧ r.2.mem ((c.tc : Thread Cert.Dnorm.nD Cert.Dnorm.τ).loc Cert.Dnorm.main_arg2) = m ((c.tc : Thread Cert.Dnorm.nD Cert.Dnorm.τ).loc Cert.Dnorm.main_arg2)
      ∧ r.2.mem ((c.tc : Thread Cert.Dnorm.nD Cert.Dnorm.τ).loc Cert.Dnorm.main_arg3) = m ((c.tc : Thread Cert.Dnorm.nD Cert.Dnorm.τ).loc Cert.Dnorm.main_arg3))
      ∧ r.2.sem = fun _ => 0)

def quiescent_DnormIdeal [hDnormIdeal : Cert.DnormIdeal.Facts] : Prop :=
  ∀ (m : (ℓ : Loc Cert.DnormIdeal.nD Cert.DnormIdeal.τ Cert.DnormIdeal.sig) → Buf (Elt Ideal) ℓ) (g : Dev Cert.DnormIdeal.nD → PrngReg), Pre_DnormIdeal m →
    θ_run (Cert.DnormIdeal.defs (F := Ideal)) (onTc (τ := Cert.DnormIdeal.τ) (Cert.DnormIdeal.main (F := Ideal))) ⟨m, fun _ => 0, g⟩ (fun r => (∀ c : Dev Cert.DnormIdeal.nD,
      r.2.mem ((c.tc : Thread Cert.DnormIdeal.nD Cert.DnormIdeal.τ).loc Cert.DnormIdeal.main_arg0) = m ((c.tc : Thread Cert.DnormIdeal.nD Cert.DnormIdeal.τ).loc Cert.DnormIdeal.main_arg0)
      ∧ r.2.mem ((c.tc : Thread Cert.DnormIdeal.nD Cert.DnormIdeal.τ).loc Cert.DnormIdeal.main_arg1) = m ((c.tc : Thread Cert.DnormIdeal.nD Cert.DnormIdeal.τ).loc Cert.DnormIdeal.main_arg1)
      ∧ r.2.mem ((c.tc : Thread Cert.DnormIdeal.nD Cert.DnormIdeal.τ).loc Cert.DnormIdeal.main_arg2) = m ((c.tc : Thread Cert.DnormIdeal.nD Cert.DnormIdeal.τ).loc Cert.DnormIdeal.main_arg2)
      ∧ r.2.mem ((c.tc : Thread Cert.DnormIdeal.nD Cert.DnormIdeal.τ).loc Cert.DnormIdeal.main_arg3) = m ((c.tc : Thread Cert.DnormIdeal.nD Cert.DnormIdeal.τ).loc Cert.DnormIdeal.main_arg3))
      ∧ r.2.sem = fun _ => 0)

def quiescent_DnormIdeal_pre_finite_dln [hDnormIdeal : Cert.DnormIdeal.Facts] [hPre_finite_dln : Cert.Pre_finite_dln.Facts] : Prop :=
  ∀ (m : (ℓ : Loc Cert.DnormIdeal.nD Cert.DnormIdeal.τ Cert.DnormIdeal.sig) → Buf (Elt Ideal) ℓ) (g : Dev Cert.DnormIdeal.nD → PrngReg), Pre_DnormIdeal_finite_dln m →
    θ_run (Cert.DnormIdeal.defs (F := Ideal)) (onTc (τ := Cert.DnormIdeal.τ) (Cert.DnormIdeal.main (F := Ideal))) ⟨m, fun _ => 0, g⟩ (fun r => (∀ c : Dev Cert.DnormIdeal.nD,
      r.2.mem ((c.tc : Thread Cert.DnormIdeal.nD Cert.DnormIdeal.τ).loc Cert.DnormIdeal.main_arg0) = m ((c.tc : Thread Cert.DnormIdeal.nD Cert.DnormIdeal.τ).loc Cert.DnormIdeal.main_arg0)
      ∧ r.2.mem ((c.tc : Thread Cert.DnormIdeal.nD Cert.DnormIdeal.τ).loc Cert.DnormIdeal.main_arg1) = m ((c.tc : Thread Cert.DnormIdeal.nD Cert.DnormIdeal.τ).loc Cert.DnormIdeal.main_arg1)
      ∧ r.2.mem ((c.tc : Thread Cert.DnormIdeal.nD Cert.DnormIdeal.τ).loc Cert.DnormIdeal.main_arg2) = m ((c.tc : Thread Cert.DnormIdeal.nD Cert.DnormIdeal.τ).loc Cert.DnormIdeal.main_arg2)
      ∧ r.2.mem ((c.tc : Thread Cert.DnormIdeal.nD Cert.DnormIdeal.τ).loc Cert.DnormIdeal.main_arg3) = m ((c.tc : Thread Cert.DnormIdeal.nD Cert.DnormIdeal.τ).loc Cert.DnormIdeal.main_arg3))
      ∧ r.2.sem = fun _ => 0)

def quiescent_DnormRefIdeal [hDnormRefIdeal : Cert.DnormRefIdeal.Facts] : Prop :=
  ∀ (m : (ℓ : Loc Cert.DnormRefIdeal.nD Cert.DnormRefIdeal.τ Cert.DnormRefIdeal.sig) → Buf (Elt Ideal) ℓ) (g : Dev Cert.DnormRefIdeal.nD → PrngReg), Pre_DnormRefIdeal m →
    θ_run (Cert.DnormRefIdeal.defs (F := Ideal)) (onTc (τ := Cert.DnormRefIdeal.τ) (Cert.DnormRefIdeal.main (F := Ideal))) ⟨m, fun _ => 0, g⟩ (fun r => (∀ c : Dev Cert.DnormRefIdeal.nD,
      r.2.mem ((c.tc : Thread Cert.DnormRefIdeal.nD Cert.DnormRefIdeal.τ).loc Cert.DnormRefIdeal.main_arg0) = m ((c.tc : Thread Cert.DnormRefIdeal.nD Cert.DnormRefIdeal.τ).loc Cert.DnormRefIdeal.main_arg0)
      ∧ r.2.mem ((c.tc : Thread Cert.DnormRefIdeal.nD Cert.DnormRefIdeal.τ).loc Cert.DnormRefIdeal.main_arg1) = m ((c.tc : Thread Cert.DnormRefIdeal.nD Cert.DnormRefIdeal.τ).loc Cert.DnormRefIdeal.main_arg1)
      ∧ r.2.mem ((c.tc : Thread Cert.DnormRefIdeal.nD Cert.DnormRefIdeal.τ).loc Cert.DnormRefIdeal.main_arg2) = m ((c.tc : Thread Cert.DnormRefIdeal.nD Cert.DnormRefIdeal.τ).loc Cert.DnormRefIdeal.main_arg2)
      ∧ r.2.mem ((c.tc : Thread Cert.DnormRefIdeal.nD Cert.DnormRefIdeal.τ).loc Cert.DnormRefIdeal.main_arg3) = m ((c.tc : Thread Cert.DnormRefIdeal.nD Cert.DnormRefIdeal.τ).loc Cert.DnormRefIdeal.main_arg3))
      ∧ r.2.sem = fun _ => 0)

def quiescent_DnormRefIdeal_pre_finite_dln [hDnormRefIdeal : Cert.DnormRefIdeal.Facts] [hPre_finite_dln : Cert.Pre_finite_dln.Facts] : Prop :=
  ∀ (m : (ℓ : Loc Cert.DnormRefIdeal.nD Cert.DnormRefIdeal.τ Cert.DnormRefIdeal.sig) → Buf (Elt Ideal) ℓ) (g : Dev Cert.DnormRefIdeal.nD → PrngReg), Pre_DnormRefIdeal_finite_dln m →
    θ_run (Cert.DnormRefIdeal.defs (F := Ideal)) (onTc (τ := Cert.DnormRefIdeal.τ) (Cert.DnormRefIdeal.main (F := Ideal))) ⟨m, fun _ => 0, g⟩ (fun r => (∀ c : Dev Cert.DnormRefIdeal.nD,
      r.2.mem ((c.tc : Thread Cert.DnormRefIdeal.nD Cert.DnormRefIdeal.τ).loc Cert.DnormRefIdeal.main_arg0) = m ((c.tc : Thread Cert.DnormRefIdeal.nD Cert.DnormRefIdeal.τ).loc Cert.DnormRefIdeal.main_arg0)
      ∧ r.2.mem ((c.tc : Thread Cert.DnormRefIdeal.nD Cert.DnormRefIdeal.τ).loc Cert.DnormRefIdeal.main_arg1) = m ((c.tc : Thread Cert.DnormRefIdeal.nD Cert.DnormRefIdeal.τ).loc Cert.DnormRefIdeal.main_arg1)
      ∧ r.2.mem ((c.tc : Thread Cert.DnormRefIdeal.nD Cert.DnormRefIdeal.τ).loc Cert.DnormRefIdeal.main_arg2) = m ((c.tc : Thread Cert.DnormRefIdeal.nD Cert.DnormRefIdeal.τ).loc Cert.DnormRefIdeal.main_arg2)
      ∧ r.2.mem ((c.tc : Thread Cert.DnormRefIdeal.nD Cert.DnormRefIdeal.τ).loc Cert.DnormRefIdeal.main_arg3) = m ((c.tc : Thread Cert.DnormRefIdeal.nD Cert.DnormRefIdeal.τ).loc Cert.DnormRefIdeal.main_arg3))
      ∧ r.2.sem = fun _ => 0)

def quiescent_Dpool [hDpool : Cert.Dpool.Facts] : Prop :=
  ∀ (m : (ℓ : Loc Cert.Dpool.nD Cert.Dpool.τ Cert.Dpool.sig) → Buf (Elt Bits) ℓ) (g : Dev Cert.Dpool.nD → PrngReg), Pre_Dpool m →
    θ_run (Cert.Dpool.defs (F := Bits)) (onTc (τ := Cert.Dpool.τ) (Cert.Dpool.main (F := Bits))) ⟨m, fun _ => 0, g⟩ (fun r => (∀ c : Dev Cert.Dpool.nD,
      r.2.mem ((c.tc : Thread Cert.Dpool.nD Cert.Dpool.τ).loc Cert.Dpool.main_arg0) = m ((c.tc : Thread Cert.Dpool.nD Cert.Dpool.τ).loc Cert.Dpool.main_arg0)
      ∧ r.2.mem ((c.tc : Thread Cert.Dpool.nD Cert.Dpool.τ).loc Cert.Dpool.main_arg1) = m ((c.tc : Thread Cert.Dpool.nD Cert.Dpool.τ).loc Cert.Dpool.main_arg1)
      ∧ r.2.mem ((c.tc : Thread Cert.Dpool.nD Cert.Dpool.τ).loc Cert.Dpool.main_arg2) = m ((c.tc : Thread Cert.Dpool.nD Cert.Dpool.τ).loc Cert.Dpool.main_arg2)
      ∧ r.2.mem ((c.tc : Thread Cert.Dpool.nD Cert.Dpool.τ).loc Cert.Dpool.main_arg3) = m ((c.tc : Thread Cert.Dpool.nD Cert.Dpool.τ).loc Cert.Dpool.main_arg3))
      ∧ r.2.sem = fun _ => 0)

def quiescent_DpoolIdeal [hDpoolIdeal : Cert.DpoolIdeal.Facts] : Prop :=
  ∀ (m : (ℓ : Loc Cert.DpoolIdeal.nD Cert.DpoolIdeal.τ Cert.DpoolIdeal.sig) → Buf (Elt Ideal) ℓ) (g : Dev Cert.DpoolIdeal.nD → PrngReg), Pre_DpoolIdeal m →
    θ_run (Cert.DpoolIdeal.defs (F := Ideal)) (onTc (τ := Cert.DpoolIdeal.τ) (Cert.DpoolIdeal.main (F := Ideal))) ⟨m, fun _ => 0, g⟩ (fun r => (∀ c : Dev Cert.DpoolIdeal.nD,
      r.2.mem ((c.tc : Thread Cert.DpoolIdeal.nD Cert.DpoolIdeal.τ).loc Cert.DpoolIdeal.main_arg0) = m ((c.tc : Thread Cert.DpoolIdeal.nD Cert.DpoolIdeal.τ).loc Cert.DpoolIdeal.main_arg0)
      ∧ r.2.mem ((c.tc : Thread Cert.DpoolIdeal.nD Cert.DpoolIdeal.τ).loc Cert.DpoolIdeal.main_arg1) = m ((c.tc : Thread Cert.DpoolIdeal.nD Cert.DpoolIdeal.τ).loc Cert.DpoolIdeal.main_arg1)
      ∧ r.2.mem ((c.tc : Thread Cert.DpoolIdeal.nD Cert.DpoolIdeal.τ).loc Cert.DpoolIdeal.main_arg2) = m ((c.tc : Thread Cert.DpoolIdeal.nD Cert.DpoolIdeal.τ).loc Cert.DpoolIdeal.main_arg2)
      ∧ r.2.mem ((c.tc : Thread Cert.DpoolIdeal.nD Cert.DpoolIdeal.τ).loc Cert.DpoolIdeal.main_arg3) = m ((c.tc : Thread Cert.DpoolIdeal.nD Cert.DpoolIdeal.τ).loc Cert.DpoolIdeal.main_arg3))
      ∧ r.2.sem = fun _ => 0)

def quiescent_DpoolRefIdeal [hDpoolRefIdeal : Cert.DpoolRefIdeal.Facts] : Prop :=
  ∀ (m : (ℓ : Loc Cert.DpoolRefIdeal.nD Cert.DpoolRefIdeal.τ Cert.DpoolRefIdeal.sig) → Buf (Elt Ideal) ℓ) (g : Dev Cert.DpoolRefIdeal.nD → PrngReg), Pre_DpoolRefIdeal m →
    θ_run (Cert.DpoolRefIdeal.defs (F := Ideal)) (onTc (τ := Cert.DpoolRefIdeal.τ) (Cert.DpoolRefIdeal.main (F := Ideal))) ⟨m, fun _ => 0, g⟩ (fun r => (∀ c : Dev Cert.DpoolRefIdeal.nD,
      r.2.mem ((c.tc : Thread Cert.DpoolRefIdeal.nD Cert.DpoolRefIdeal.τ).loc Cert.DpoolRefIdeal.main_arg0) = m ((c.tc : Thread Cert.DpoolRefIdeal.nD Cert.DpoolRefIdeal.τ).loc Cert.DpoolRefIdeal.main_arg0)
      ∧ r.2.mem ((c.tc : Thread Cert.DpoolRefIdeal.nD Cert.DpoolRefIdeal.τ).loc Cert.DpoolRefIdeal.main_arg1) = m ((c.tc : Thread Cert.DpoolRefIdeal.nD Cert.DpoolRefIdeal.τ).loc Cert.DpoolRefIdeal.main_arg1)
      ∧ r.2.mem ((c.tc : Thread Cert.DpoolRefIdeal.nD Cert.DpoolRefIdeal.τ).loc Cert.DpoolRefIdeal.main_arg2) = m ((c.tc : Thread Cert.DpoolRefIdeal.nD Cert.DpoolRefIdeal.τ).loc Cert.DpoolRefIdeal.main_arg2)
      ∧ r.2.mem ((c.tc : Thread Cert.DpoolRefIdeal.nD Cert.DpoolRefIdeal.τ).loc Cert.DpoolRefIdeal.main_arg3) = m ((c.tc : Thread Cert.DpoolRefIdeal.nD Cert.DpoolRefIdeal.τ).loc Cert.DpoolRefIdeal.main_arg3))
      ∧ r.2.sem = fun _ => 0)

def quiescent_Gating [hGating : Cert.Gating.Facts] : Prop :=
  ∀ (m : (ℓ : Loc Cert.Gating.nD Cert.Gating.τ Cert.Gating.sig) → Buf (Elt Bits) ℓ) (g : Dev Cert.Gating.nD → PrngReg), Pre_Gating m →
    θ_run (Cert.Gating.defs (F := Bits)) (onTc (τ := Cert.Gating.τ) (Cert.Gating.main (F := Bits))) ⟨m, fun _ => 0, g⟩ (fun r => (∀ c : Dev Cert.Gating.nD,
      r.2.mem ((c.tc : Thread Cert.Gating.nD Cert.Gating.τ).loc Cert.Gating.main_arg0) = m ((c.tc : Thread Cert.Gating.nD Cert.Gating.τ).loc Cert.Gating.main_arg0)
      ∧ r.2.mem ((c.tc : Thread Cert.Gating.nD Cert.Gating.τ).loc Cert.Gating.main_arg1) = m ((c.tc : Thread Cert.Gating.nD Cert.Gating.τ).loc Cert.Gating.main_arg1)
      ∧ r.2.mem ((c.tc : Thread Cert.Gating.nD Cert.Gating.τ).loc Cert.Gating.main_arg2) = m ((c.tc : Thread Cert.Gating.nD Cert.Gating.τ).loc Cert.Gating.main_arg2)
      ∧ r.2.mem ((c.tc : Thread Cert.Gating.nD Cert.Gating.τ).loc Cert.Gating.main_arg3) = m ((c.tc : Thread Cert.Gating.nD Cert.Gating.τ).loc Cert.Gating.main_arg3)
      ∧ r.2.mem ((c.tc : Thread Cert.Gating.nD Cert.Gating.τ).loc Cert.Gating.main_arg4) = m ((c.tc : Thread Cert.Gating.nD Cert.Gating.τ).loc Cert.Gating.main_arg4))
      ∧ r.2.sem = fun _ => 0)

def quiescent_GatingIdeal [hGatingIdeal : Cert.GatingIdeal.Facts] : Prop :=
  ∀ (m : (ℓ : Loc Cert.GatingIdeal.nD Cert.GatingIdeal.τ Cert.GatingIdeal.sig) → Buf (Elt Ideal) ℓ) (g : Dev Cert.GatingIdeal.nD → PrngReg), Pre_GatingIdeal m →
    θ_run (Cert.GatingIdeal.defs (F := Ideal)) (onTc (τ := Cert.GatingIdeal.τ) (Cert.GatingIdeal.main (F := Ideal))) ⟨m, fun _ => 0, g⟩ (fun r => (∀ c : Dev Cert.GatingIdeal.nD,
      r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
      ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
      ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
      ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3)
      ∧ r.2.mem ((c.tc : Thread Cert.GatingIdeal.nD Cert.GatingIdeal.τ).loc Cert.GatingIdeal.main_arg4) = m ((c.tc : Thread Cert.GatingIdeal.nD Cert.GatingIdeal.τ).loc Cert.GatingIdeal.main_arg4))
      ∧ r.2.sem = fun _ => 0)

def quiescent_GatingRefIdeal [hGatingRefIdeal : Cert.GatingRefIdeal.Facts] : Prop :=
  ∀ (m : (ℓ : Loc Cert.GatingRefIdeal.nD Cert.GatingRefIdeal.τ Cert.GatingRefIdeal.sig) → Buf (Elt Ideal) ℓ) (g : Dev Cert.GatingRefIdeal.nD → PrngReg), Pre_GatingRefIdeal m →
    θ_run (Cert.GatingRefIdeal.defs (F := Ideal)) (onTc (τ := Cert.GatingRefIdeal.τ) (Cert.GatingRefIdeal.main (F := Ideal))) ⟨m, fun _ => 0, g⟩ (fun r => (∀ c : Dev Cert.GatingRefIdeal.nD,
      r.2.mem ((c.tc : Thread Cert.GatingRefIdeal.nD Cert.GatingRefIdeal.τ).loc Cert.GatingRefIdeal.main_arg0) = m ((c.tc : Thread Cert.GatingRefIdeal.nD Cert.GatingRefIdeal.τ).loc Cert.GatingRefIdeal.main_arg0)
      ∧ r.2.mem ((c.tc : Thread Cert.GatingRefIdeal.nD Cert.GatingRefIdeal.τ).loc Cert.GatingRefIdeal.main_arg1) = m ((c.tc : Thread Cert.GatingRefIdeal.nD Cert.GatingRefIdeal.τ).loc Cert.GatingRefIdeal.main_arg1)
      ∧ r.2.mem ((c.tc : Thread Cert.GatingRefIdeal.nD Cert.GatingRefIdeal.τ).loc Cert.GatingRefIdeal.main_arg2) = m ((c.tc : Thread Cert.GatingRefIdeal.nD Cert.GatingRefIdeal.τ).loc Cert.GatingRefIdeal.main_arg2)
      ∧ r.2.mem ((c.tc : Thread Cert.GatingRefIdeal.nD Cert.GatingRefIdeal.τ).loc Cert.GatingRefIdeal.main_arg3) = m ((c.tc : Thread Cert.GatingRefIdeal.nD Cert.GatingRefIdeal.τ).loc Cert.GatingRefIdeal.main_arg3)
      ∧ r.2.mem ((c.tc : Thread Cert.GatingRefIdeal.nD Cert.GatingRefIdeal.τ).loc Cert.GatingRefIdeal.main_arg4) = m ((c.tc : Thread Cert.GatingRefIdeal.nD Cert.GatingRefIdeal.τ).loc Cert.GatingRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_SumIn [hSumIn : Cert.SumIn.Facts] : Prop :=
  ∀ (m : (ℓ : Loc Cert.SumIn.nD Cert.SumIn.τ Cert.SumIn.sig) → Buf (Elt Bits) ℓ) (g : Dev Cert.SumIn.nD → PrngReg), Pre_SumIn m →
    θ_run (Cert.SumIn.defs (F := Bits)) (onTc (τ := Cert.SumIn.τ) (Cert.SumIn.main (F := Bits))) ⟨m, fun _ => 0, g⟩ (fun r => (∀ c : Dev Cert.SumIn.nD,
      r.2.mem ((c.tc : Thread Cert.SumIn.nD Cert.SumIn.τ).loc Cert.SumIn.main_arg0) = m ((c.tc : Thread Cert.SumIn.nD Cert.SumIn.τ).loc Cert.SumIn.main_arg0))
      ∧ r.2.sem = fun _ => 0)

def quiescent_SumInIdeal [hSumInIdeal : Cert.SumInIdeal.Facts] : Prop :=
  ∀ (m : (ℓ : Loc Cert.SumInIdeal.nD Cert.SumInIdeal.τ Cert.SumInIdeal.sig) → Buf (Elt Ideal) ℓ) (g : Dev Cert.SumInIdeal.nD → PrngReg), Pre_SumInIdeal m →
    θ_run (Cert.SumInIdeal.defs (F := Ideal)) (onTc (τ := Cert.SumInIdeal.τ) (Cert.SumInIdeal.main (F := Ideal))) ⟨m, fun _ => 0, g⟩ (fun r => (∀ c : Dev Cert.SumInIdeal.nD,
      r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ r.2.sem = fun _ => 0)

def quiescent_SumInRefIdeal [hSumInRefIdeal : Cert.SumInRefIdeal.Facts] : Prop :=
  ∀ (m : (ℓ : Loc Cert.SumInRefIdeal.nD Cert.SumInRefIdeal.τ Cert.SumInRefIdeal.sig) → Buf (Elt Ideal) ℓ) (g : Dev Cert.SumInRefIdeal.nD → PrngReg), Pre_SumInRefIdeal m →
    θ_run (Cert.SumInRefIdeal.defs (F := Ideal)) (onTc (τ := Cert.SumInRefIdeal.τ) (Cert.SumInRefIdeal.main (F := Ideal))) ⟨m, fun _ => 0, g⟩ (fun r => (∀ c : Dev Cert.SumInRefIdeal.nD,
      r.2.mem ((c.tc : Thread Cert.SumInRefIdeal.nD Cert.SumInRefIdeal.τ).loc Cert.SumInRefIdeal.main_arg0) = m ((c.tc : Thread Cert.SumInRefIdeal.nD Cert.SumInRefIdeal.τ).loc Cert.SumInRefIdeal.main_arg0))
      ∧ r.2.sem = fun _ => 0)

def quiescent_SumOut [hSumOut : Cert.SumOut.Facts] : Prop :=
  ∀ (m : (ℓ : Loc Cert.SumOut.nD Cert.SumOut.τ Cert.SumOut.sig) → Buf (Elt Bits) ℓ) (g : Dev Cert.SumOut.nD → PrngReg), Pre_SumOut m →
    θ_run (Cert.SumOut.defs (F := Bits)) (onTc (τ := Cert.SumOut.τ) (Cert.SumOut.main (F := Bits))) ⟨m, fun _ => 0, g⟩ (fun r => (∀ c : Dev Cert.SumOut.nD,
      r.2.mem ((c.tc : Thread Cert.SumOut.nD Cert.SumOut.τ).loc Cert.SumOut.main_arg0) = m ((c.tc : Thread Cert.SumOut.nD Cert.SumOut.τ).loc Cert.SumOut.main_arg0))
      ∧ r.2.sem = fun _ => 0)

def quiescent_SumOutIdeal [hSumOutIdeal : Cert.SumOutIdeal.Facts] : Prop :=
  ∀ (m : (ℓ : Loc Cert.SumOutIdeal.nD Cert.SumOutIdeal.τ Cert.SumOutIdeal.sig) → Buf (Elt Ideal) ℓ) (g : Dev Cert.SumOutIdeal.nD → PrngReg), Pre_SumOutIdeal m →
    θ_run (Cert.SumOutIdeal.defs (F := Ideal)) (onTc (τ := Cert.SumOutIdeal.τ) (Cert.SumOutIdeal.main (F := Ideal))) ⟨m, fun _ => 0, g⟩ (fun r => (∀ c : Dev Cert.SumOutIdeal.nD,
      r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0))
      ∧ r.2.sem = fun _ => 0)

def quiescent_SumOutRefIdeal [hSumOutRefIdeal : Cert.SumOutRefIdeal.Facts] : Prop :=
  ∀ (m : (ℓ : Loc Cert.SumOutRefIdeal.nD Cert.SumOutRefIdeal.τ Cert.SumOutRefIdeal.sig) → Buf (Elt Ideal) ℓ) (g : Dev Cert.SumOutRefIdeal.nD → PrngReg), Pre_SumOutRefIdeal m →
    θ_run (Cert.SumOutRefIdeal.defs (F := Ideal)) (onTc (τ := Cert.SumOutRefIdeal.τ) (Cert.SumOutRefIdeal.main (F := Ideal))) ⟨m, fun _ => 0, g⟩ (fun r => (∀ c : Dev Cert.SumOutRefIdeal.nD,
      r.2.mem ((c.tc : Thread Cert.SumOutRefIdeal.nD Cert.SumOutRefIdeal.τ).loc Cert.SumOutRefIdeal.main_arg0) = m ((c.tc : Thread Cert.SumOutRefIdeal.nD Cert.SumOutRefIdeal.τ).loc Cert.SumOutRefIdeal.main_arg0))
      ∧ r.2.sem = fun _ => 0)

def quiescent_SumUp [hSumUp : Cert.SumUp.Facts] : Prop :=
  ∀ (m : (ℓ : Loc Cert.SumUp.nD Cert.SumUp.τ Cert.SumUp.sig) → Buf (Elt Bits) ℓ) (g : Dev Cert.SumUp.nD → PrngReg), Pre_SumUp m →
    θ_run (Cert.SumUp.defs (F := Bits)) (onTc (τ := Cert.SumUp.τ) (Cert.SumUp.main (F := Bits))) ⟨m, fun _ => 0, g⟩ (fun r => (∀ c : Dev Cert.SumUp.nD,
      r.2.mem ((c.tc : Thread Cert.SumUp.nD Cert.SumUp.τ).loc Cert.SumUp.main_arg0) = m ((c.tc : Thread Cert.SumUp.nD Cert.SumUp.τ).loc Cert.SumUp.main_arg0))
      ∧ r.2.sem = fun _ => 0)

def quiescent_SumUpIdeal [hSumUpIdeal : Cert.SumUpIdeal.Facts] : Prop :=
  ∀ (m : (ℓ : Loc Cert.SumUpIdeal.nD Cert.SumUpIdeal.τ Cert.SumUpIdeal.sig) → Buf (Elt Ideal) ℓ) (g : Dev Cert.SumUpIdeal.nD → PrngReg), Pre_SumUpIdeal m →
    θ_run (Cert.SumUpIdeal.defs (F := Ideal)) (onTc (τ := Cert.SumUpIdeal.τ) (Cert.SumUpIdeal.main (F := Ideal))) ⟨m, fun _ => 0, g⟩ (fun r => (∀ c : Dev Cert.SumUpIdeal.nD,
      r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0))
      ∧ r.2.sem = fun _ => 0)

def quiescent_SumUpRefIdeal [hSumUpRefIdeal : Cert.SumUpRefIdeal.Facts] : Prop :=
  ∀ (m : (ℓ : Loc Cert.SumUpRefIdeal.nD Cert.SumUpRefIdeal.τ Cert.SumUpRefIdeal.sig) → Buf (Elt Ideal) ℓ) (g : Dev Cert.SumUpRefIdeal.nD → PrngReg), Pre_SumUpRefIdeal m →
    θ_run (Cert.SumUpRefIdeal.defs (F := Ideal)) (onTc (τ := Cert.SumUpRefIdeal.τ) (Cert.SumUpRefIdeal.main (F := Ideal))) ⟨m, fun _ => 0, g⟩ (fun r => (∀ c : Dev Cert.SumUpRefIdeal.nD,
      r.2.mem ((c.tc : Thread Cert.SumUpRefIdeal.nD Cert.SumUpRefIdeal.τ).loc Cert.SumUpRefIdeal.main_arg0) = m ((c.tc : Thread Cert.SumUpRefIdeal.nD Cert.SumUpRefIdeal.τ).loc Cert.SumUpRefIdeal.main_arg0))
      ∧ r.2.sem = fun _ => 0)

def quiescent_SumDown [hSumDown : Cert.SumDown.Facts] : Prop :=
  ∀ (m : (ℓ : Loc Cert.SumDown.nD Cert.SumDown.τ Cert.SumDown.sig) → Buf (Elt Bits) ℓ) (g : Dev Cert.SumDown.nD → PrngReg), Pre_SumDown m →
    θ_run (Cert.SumDown.defs (F := Bits)) (onTc (τ := Cert.SumDown.τ) (Cert.SumDown.main (F := Bits))) ⟨m, fun _ => 0, g⟩ (fun r => (∀ c : Dev Cert.SumDown.nD,
      r.2.mem ((c.tc : Thread Cert.SumDown.nD Cert.SumDown.τ).loc Cert.SumDown.main_arg0) = m ((c.tc : Thread Cert.SumDown.nD Cert.SumDown.τ).loc Cert.SumDown.main_arg0))
      ∧ r.2.sem = fun _ => 0)

def quiescent_SumDownIdeal [hSumDownIdeal : Cert.SumDownIdeal.Facts] : Prop :=
  ∀ (m : (ℓ : Loc Cert.SumDownIdeal.nD Cert.SumDownIdeal.τ Cert.SumDownIdeal.sig) → Buf (Elt Ideal) ℓ) (g : Dev Cert.SumDownIdeal.nD → PrngReg), Pre_SumDownIdeal m →
    θ_run (Cert.SumDownIdeal.defs (F := Ideal)) (onTc (τ := Cert.SumDownIdeal.τ) (Cert.SumDownIdeal.main (F := Ideal))) ⟨m, fun _ => 0, g⟩ (fun r => (∀ c : Dev Cert.SumDownIdeal.nD,
      r.2.mem ((c.tc : Thread Cert.SumDownIdeal.nD Cert.SumDownIdeal.τ).loc Cert.SumDownIdeal.main_arg0) = m ((c.tc : Thread Cert.SumDownIdeal.nD Cert.SumDownIdeal.τ).loc Cert.SumDownIdeal.main_arg0))
      ∧ r.2.sem = fun _ => 0)

def quiescent_SumDownRefIdeal [hSumDownRefIdeal : Cert.SumDownRefIdeal.Facts] : Prop :=
  ∀ (m : (ℓ : Loc Cert.SumDownRefIdeal.nD Cert.SumDownRefIdeal.τ Cert.SumDownRefIdeal.sig) → Buf (Elt Ideal) ℓ) (g : Dev Cert.SumDownRefIdeal.nD → PrngReg), Pre_SumDownRefIdeal m →
    θ_run (Cert.SumDownRefIdeal.defs (F := Ideal)) (onTc (τ := Cert.SumDownRefIdeal.τ) (Cert.SumDownRefIdeal.main (F := Ideal))) ⟨m, fun _ => 0, g⟩ (fun r => (∀ c : Dev Cert.SumDownRefIdeal.nD,
      r.2.mem ((c.tc : Thread Cert.SumDownRefIdeal.nD Cert.SumDownRefIdeal.τ).loc Cert.SumDownRefIdeal.main_arg0) = m ((c.tc : Thread Cert.SumDownRefIdeal.nD Cert.SumDownRefIdeal.τ).loc Cert.SumDownRefIdeal.main_arg0))
      ∧ r.2.sem = fun _ => 0)

def quiescent_SumProj [hSumProj : Cert.SumProj.Facts] : Prop :=
  ∀ (m : (ℓ : Loc Cert.SumProj.nD Cert.SumProj.τ Cert.SumProj.sig) → Buf (Elt Bits) ℓ) (g : Dev Cert.SumProj.nD → PrngReg), Pre_SumProj m →
    θ_run (Cert.SumProj.defs (F := Bits)) (onTc (τ := Cert.SumProj.τ) (Cert.SumProj.main (F := Bits))) ⟨m, fun _ => 0, g⟩ (fun r => (∀ c : Dev Cert.SumProj.nD,
      r.2.mem ((c.tc : Thread Cert.SumProj.nD Cert.SumProj.τ).loc Cert.SumProj.main_arg0) = m ((c.tc : Thread Cert.SumProj.nD Cert.SumProj.τ).loc Cert.SumProj.main_arg0))
      ∧ r.2.sem = fun _ => 0)

def quiescent_SumProjIdeal [hSumProjIdeal : Cert.SumProjIdeal.Facts] : Prop :=
  ∀ (m : (ℓ : Loc Cert.SumProjIdeal.nD Cert.SumProjIdeal.τ Cert.SumProjIdeal.sig) → Buf (Elt Ideal) ℓ) (g : Dev Cert.SumProjIdeal.nD → PrngReg), Pre_SumProjIdeal m →
    θ_run (Cert.SumProjIdeal.defs (F := Ideal)) (onTc (τ := Cert.SumProjIdeal.τ) (Cert.SumProjIdeal.main (F := Ideal))) ⟨m, fun _ => 0, g⟩ (fun r => (∀ c : Dev Cert.SumProjIdeal.nD,
      r.2.mem ((c.tc : Thread Cert.SumProjIdeal.nD Cert.SumProjIdeal.τ).loc Cert.SumProjIdeal.main_arg0) = m ((c.tc : Thread Cert.SumProjIdeal.nD Cert.SumProjIdeal.τ).loc Cert.SumProjIdeal.main_arg0))
      ∧ r.2.sem = fun _ => 0)

def quiescent_SumProjRefIdeal [hSumProjRefIdeal : Cert.SumProjRefIdeal.Facts] : Prop :=
  ∀ (m : (ℓ : Loc Cert.SumProjRefIdeal.nD Cert.SumProjRefIdeal.τ Cert.SumProjRefIdeal.sig) → Buf (Elt Ideal) ℓ) (g : Dev Cert.SumProjRefIdeal.nD → PrngReg), Pre_SumProjRefIdeal m →
    θ_run (Cert.SumProjRefIdeal.defs (F := Ideal)) (onTc (τ := Cert.SumProjRefIdeal.τ) (Cert.SumProjRefIdeal.main (F := Ideal))) ⟨m, fun _ => 0, g⟩ (fun r => (∀ c : Dev Cert.SumProjRefIdeal.nD,
      r.2.mem ((c.tc : Thread Cert.SumProjRefIdeal.nD Cert.SumProjRefIdeal.τ).loc Cert.SumProjRefIdeal.main_arg0) = m ((c.tc : Thread Cert.SumProjRefIdeal.nD Cert.SumProjRefIdeal.τ).loc Cert.SumProjRefIdeal.main_arg0))
      ∧ r.2.sem = fun _ => 0)

def quiescent_SumGate [hSumGate : Cert.SumGate.Facts] : Prop :=
  ∀ (m : (ℓ : Loc Cert.SumGate.nD Cert.SumGate.τ Cert.SumGate.sig) → Buf (Elt Bits) ℓ) (g : Dev Cert.SumGate.nD → PrngReg), Pre_SumGate m →
    θ_run (Cert.SumGate.defs (F := Bits)) (onTc (τ := Cert.SumGate.τ) (Cert.SumGate.main (F := Bits))) ⟨m, fun _ => 0, g⟩ (fun r => (∀ c : Dev Cert.SumGate.nD,
      r.2.mem ((c.tc : Thread Cert.SumGate.nD Cert.SumGate.τ).loc Cert.SumGate.main_arg0) = m ((c.tc : Thread Cert.SumGate.nD Cert.SumGate.τ).loc Cert.SumGate.main_arg0))
      ∧ r.2.sem = fun _ => 0)

def quiescent_SumGateIdeal [hSumGateIdeal : Cert.SumGateIdeal.Facts] : Prop :=
  ∀ (m : (ℓ : Loc Cert.SumGateIdeal.nD Cert.SumGateIdeal.τ Cert.SumGateIdeal.sig) → Buf (Elt Ideal) ℓ) (g : Dev Cert.SumGateIdeal.nD → PrngReg), Pre_SumGateIdeal m →
    θ_run (Cert.SumGateIdeal.defs (F := Ideal)) (onTc (τ := Cert.SumGateIdeal.τ) (Cert.SumGateIdeal.main (F := Ideal))) ⟨m, fun _ => 0, g⟩ (fun r => (∀ c : Dev Cert.SumGateIdeal.nD,
      r.2.mem ((c.tc : Thread Cert.SumGateIdeal.nD Cert.SumGateIdeal.τ).loc Cert.SumGateIdeal.main_arg0) = m ((c.tc : Thread Cert.SumGateIdeal.nD Cert.SumGateIdeal.τ).loc Cert.SumGateIdeal.main_arg0))
      ∧ r.2.sem = fun _ => 0)

def quiescent_SumGateRefIdeal [hSumGateRefIdeal : Cert.SumGateRefIdeal.Facts] : Prop :=
  ∀ (m : (ℓ : Loc Cert.SumGateRefIdeal.nD Cert.SumGateRefIdeal.τ Cert.SumGateRefIdeal.sig) → Buf (Elt Ideal) ℓ) (g : Dev Cert.SumGateRefIdeal.nD → PrngReg), Pre_SumGateRefIdeal m →
    θ_run (Cert.SumGateRefIdeal.defs (F := Ideal)) (onTc (τ := Cert.SumGateRefIdeal.τ) (Cert.SumGateRefIdeal.main (F := Ideal))) ⟨m, fun _ => 0, g⟩ (fun r => (∀ c : Dev Cert.SumGateRefIdeal.nD,
      r.2.mem ((c.tc : Thread Cert.SumGateRefIdeal.nD Cert.SumGateRefIdeal.τ).loc Cert.SumGateRefIdeal.main_arg0) = m ((c.tc : Thread Cert.SumGateRefIdeal.nD Cert.SumGateRefIdeal.τ).loc Cert.SumGateRefIdeal.main_arg0))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4))
      ∧ r.2.sem = fun _ => 0)

def quiescent_AdamProj [hAdamProj : Cert.AdamProj.Facts] : Prop :=
  ∀ (m : (ℓ : Loc Cert.AdamProj.nD Cert.AdamProj.τ Cert.AdamProj.sig) → Buf (Elt Bits) ℓ) (g : Dev Cert.AdamProj.nD → PrngReg), Pre_AdamProj m →
    θ_run (Cert.AdamProj.defs (F := Bits)) (onTc (τ := Cert.AdamProj.τ) (Cert.AdamProj.main (F := Bits))) ⟨m, fun _ => 0, g⟩ (fun r => (∀ c : Dev Cert.AdamProj.nD,
      r.2.mem ((c.tc : Thread Cert.AdamProj.nD Cert.AdamProj.τ).loc Cert.AdamProj.main_arg0) = m ((c.tc : Thread Cert.AdamProj.nD Cert.AdamProj.τ).loc Cert.AdamProj.main_arg0)
      ∧ r.2.mem ((c.tc : Thread Cert.AdamProj.nD Cert.AdamProj.τ).loc Cert.AdamProj.main_arg1) = m ((c.tc : Thread Cert.AdamProj.nD Cert.AdamProj.τ).loc Cert.AdamProj.main_arg1)
      ∧ r.2.mem ((c.tc : Thread Cert.AdamProj.nD Cert.AdamProj.τ).loc Cert.AdamProj.main_arg2) = m ((c.tc : Thread Cert.AdamProj.nD Cert.AdamProj.τ).loc Cert.AdamProj.main_arg2)
      ∧ r.2.mem ((c.tc : Thread Cert.AdamProj.nD Cert.AdamProj.τ).loc Cert.AdamProj.main_arg3) = m ((c.tc : Thread Cert.AdamProj.nD Cert.AdamProj.τ).loc Cert.AdamProj.main_arg3)
      ∧ r.2.mem ((c.tc : Thread Cert.AdamProj.nD Cert.AdamProj.τ).loc Cert.AdamProj.main_arg4) = m ((c.tc : Thread Cert.AdamProj.nD Cert.AdamProj.τ).loc Cert.AdamProj.main_arg4))
      ∧ r.2.sem = fun _ => 0)

def quiescent_AdamProjIdeal [hAdamProjIdeal : Cert.AdamProjIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg), Pre_AdamProjIdeal m →
    θ_run (Cert.AdamProjIdeal.defs (F := Ideal)) (onTc (τ := Cert.AdamProjIdeal.τ) (Cert.AdamProjIdeal.main (F := Ideal))) ⟨m, fun _ => 0, g⟩ (fun r => (∀ c : Dev Cert.AdamProjIdeal.nD,
      r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
      ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
      ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
      ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3)
      ∧ r.2.mem ((c.tc : Thread Cert.AdamProjIdeal.nD Cert.AdamProjIdeal.τ).loc Cert.AdamProjIdeal.main_arg4) = m ((c.tc : Thread Cert.AdamProjIdeal.nD Cert.AdamProjIdeal.τ).loc Cert.AdamProjIdeal.main_arg4))
      ∧ r.2.sem = fun _ => 0)

def quiescent_AdamProjRefIdeal [hAdamProjRefIdeal : Cert.AdamProjRefIdeal.Facts] : Prop :=
  ∀ (m : (ℓ : Loc Cert.AdamProjRefIdeal.nD Cert.AdamProjRefIdeal.τ Cert.AdamProjRefIdeal.sig) → Buf (Elt Ideal) ℓ) (g : Dev Cert.AdamProjRefIdeal.nD → PrngReg), Pre_AdamProjRefIdeal m →
    θ_run (Cert.AdamProjRefIdeal.defs (F := Ideal)) (onTc (τ := Cert.AdamProjRefIdeal.τ) (Cert.AdamProjRefIdeal.main (F := Ideal))) ⟨m, fun _ => 0, g⟩ (fun r => (∀ c : Dev Cert.AdamProjRefIdeal.nD,
      r.2.mem ((c.tc : Thread Cert.AdamProjRefIdeal.nD Cert.AdamProjRefIdeal.τ).loc Cert.AdamProjRefIdeal.main_arg0) = m ((c.tc : Thread Cert.AdamProjRefIdeal.nD Cert.AdamProjRefIdeal.τ).loc Cert.AdamProjRefIdeal.main_arg0)
      ∧ r.2.mem ((c.tc : Thread Cert.AdamProjRefIdeal.nD Cert.AdamProjRefIdeal.τ).loc Cert.AdamProjRefIdeal.main_arg1) = m ((c.tc : Thread Cert.AdamProjRefIdeal.nD Cert.AdamProjRefIdeal.τ).loc Cert.AdamProjRefIdeal.main_arg1)
      ∧ r.2.mem ((c.tc : Thread Cert.AdamProjRefIdeal.nD Cert.AdamProjRefIdeal.τ).loc Cert.AdamProjRefIdeal.main_arg2) = m ((c.tc : Thread Cert.AdamProjRefIdeal.nD Cert.AdamProjRefIdeal.τ).loc Cert.AdamProjRefIdeal.main_arg2)
      ∧ r.2.mem ((c.tc : Thread Cert.AdamProjRefIdeal.nD Cert.AdamProjRefIdeal.τ).loc Cert.AdamProjRefIdeal.main_arg3) = m ((c.tc : Thread Cert.AdamProjRefIdeal.nD Cert.AdamProjRefIdeal.τ).loc Cert.AdamProjRefIdeal.main_arg3)
      ∧ r.2.mem ((c.tc : Thread Cert.AdamProjRefIdeal.nD Cert.AdamProjRefIdeal.τ).loc Cert.AdamProjRefIdeal.main_arg4) = m ((c.tc : Thread Cert.AdamProjRefIdeal.nD Cert.AdamProjRefIdeal.τ).loc Cert.AdamProjRefIdeal.main_arg4))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3)
      ∧ r.2.mem ((c.tc : Thread Cert.AdamGate.nD Cert.AdamGate.τ).loc Cert.AdamGate.main_arg4) = m ((c.tc : Thread Cert.AdamGate.nD Cert.AdamGate.τ).loc Cert.AdamGate.main_arg4))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3)
      ∧ r.2.mem ((c.tc : Thread Cert.AdamGateIdeal.nD Cert.AdamGateIdeal.τ).loc Cert.AdamGateIdeal.main_arg4) = m ((c.tc : Thread Cert.AdamGateIdeal.nD Cert.AdamGateIdeal.τ).loc Cert.AdamGateIdeal.main_arg4))
      ∧ r.2.sem = fun _ => 0)

def quiescent_AdamGateRefIdeal [hAdamGateRefIdeal : Cert.AdamGateRefIdeal.Facts] : Prop :=
  ∀ (m : (ℓ : Loc Cert.AdamGateRefIdeal.nD Cert.AdamGateRefIdeal.τ Cert.AdamGateRefIdeal.sig) → Buf (Elt Ideal) ℓ) (g : Dev Cert.AdamGateRefIdeal.nD → PrngReg), Pre_AdamGateRefIdeal m →
    θ_run (Cert.AdamGateRefIdeal.defs (F := Ideal)) (onTc (τ := Cert.AdamGateRefIdeal.τ) (Cert.AdamGateRefIdeal.main (F := Ideal))) ⟨m, fun _ => 0, g⟩ (fun r => (∀ c : Dev Cert.AdamGateRefIdeal.nD,
      r.2.mem ((c.tc : Thread Cert.AdamGateRefIdeal.nD Cert.AdamGateRefIdeal.τ).loc Cert.AdamGateRefIdeal.main_arg0) = m ((c.tc : Thread Cert.AdamGateRefIdeal.nD Cert.AdamGateRefIdeal.τ).loc Cert.AdamGateRefIdeal.main_arg0)
      ∧ r.2.mem ((c.tc : Thread Cert.AdamGateRefIdeal.nD Cert.AdamGateRefIdeal.τ).loc Cert.AdamGateRefIdeal.main_arg1) = m ((c.tc : Thread Cert.AdamGateRefIdeal.nD Cert.AdamGateRefIdeal.τ).loc Cert.AdamGateRefIdeal.main_arg1)
      ∧ r.2.mem ((c.tc : Thread Cert.AdamGateRefIdeal.nD Cert.AdamGateRefIdeal.τ).loc Cert.AdamGateRefIdeal.main_arg2) = m ((c.tc : Thread Cert.AdamGateRefIdeal.nD Cert.AdamGateRefIdeal.τ).loc Cert.AdamGateRefIdeal.main_arg2)
      ∧ r.2.mem ((c.tc : Thread Cert.AdamGateRefIdeal.nD Cert.AdamGateRefIdeal.τ).loc Cert.AdamGateRefIdeal.main_arg3) = m ((c.tc : Thread Cert.AdamGateRefIdeal.nD Cert.AdamGateRefIdeal.τ).loc Cert.AdamGateRefIdeal.main_arg3)
      ∧ r.2.mem ((c.tc : Thread Cert.AdamGateRefIdeal.nD Cert.AdamGateRefIdeal.τ).loc Cert.AdamGateRefIdeal.main_arg4) = m ((c.tc : Thread Cert.AdamGateRefIdeal.nD Cert.AdamGateRefIdeal.τ).loc Cert.AdamGateRefIdeal.main_arg4))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def preserves_Kernel_KernelIdeal : Prop :=
  IdealRules.named_const.Statement Cert.KernelIdeal.κ "gelu_a" .f32 0x3D372713#32 ((8943 / 200000 : ℝ) : EReal)
  ∧ IdealRules.named_const.Statement Cert.KernelIdeal.κ "gelu_3a" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v37_0)) (v1 : (c : Dev Cert.KernelIdeal.nD) → Buf (Elt Ideal) ((c.tc : Thread Cert.KernelIdeal.nD Cert.KernelIdeal.τ).loc Cert.KernelIdeal.main_v37_1)) (v2 : (c : Dev Cert.KernelIdeal.nD) → Buf (Elt Ideal) ((c.tc : Thread Cert.KernelIdeal.nD Cert.KernelIdeal.τ).loc Cert.KernelIdeal.main_v37_2)) (v3 : (c : Dev Cert.KernelIdeal.nD) → Buf (Elt Ideal) ((c.tc : Thread Cert.KernelIdeal.nD Cert.KernelIdeal.τ).loc Cert.KernelIdeal.main_v37_3)) (v4 : (c : Dev Cert.KernelIdeal.nD) → Buf (Elt Ideal) ((c.tc : Thread Cert.KernelIdeal.nD Cert.KernelIdeal.τ).loc Cert.KernelIdeal.main_v37_4)) (v5 : (c : Dev Cert.KernelIdeal.nD) → Buf (Elt Ideal) ((c.tc : Thread Cert.KernelIdeal.nD Cert.KernelIdeal.τ).loc Cert.KernelIdeal.main_v37_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37_0) = v0 c
          ∧ r.2.mem ((c.tc : Thread Cert.KernelIdeal.nD Cert.KernelIdeal.τ).loc Cert.KernelIdeal.main_v37_1) = v1 c
          ∧ r.2.mem ((c.tc : Thread Cert.KernelIdeal.nD Cert.KernelIdeal.τ).loc Cert.KernelIdeal.main_v37_2) = v2 c
          ∧ r.2.mem ((c.tc : Thread Cert.KernelIdeal.nD Cert.KernelIdeal.τ).loc Cert.KernelIdeal.main_v37_3) = v3 c
          ∧ r.2.mem ((c.tc : Thread Cert.KernelIdeal.nD Cert.KernelIdeal.τ).loc Cert.KernelIdeal.main_v37_4) = v4 c
          ∧ r.2.mem ((c.tc : Thread Cert.KernelIdeal.nD Cert.KernelIdeal.τ).loc Cert.KernelIdeal.main_v37_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_v133) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_v135) = v3 c
          ∧ r.2.mem ((c.tc : Thread Cert.ReferenceIdeal.nD Cert.ReferenceIdeal.τ).loc Cert.ReferenceIdeal.main_v136) = v4 c
          ∧ r.2.mem ((c.tc : Thread Cert.ReferenceIdeal.nD Cert.ReferenceIdeal.τ).loc Cert.ReferenceIdeal.main_v137) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Dact_DactIdeal : Prop :=
  True

def algebraic_DactIdeal_DactRefIdeal [hDactIdeal : Cert.DactIdeal.Facts] [hDactRefIdeal : Cert.DactRefIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)) →
    ∃ (v0 : (c : Dev Cert.DactIdeal.nD) → Buf (Elt Ideal) ((c.tc : Thread Cert.DactIdeal.nD Cert.DactIdeal.τ).loc Cert.DactIdeal.main_v3)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v3) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v6) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1))

def preserves_Ddown_DdownIdeal : Prop :=
  True

def algebraic_DdownIdeal_DdownRefIdeal [hDdownIdeal : Cert.DdownIdeal.Facts] [hDdownRefIdeal : Cert.DdownRefIdeal.Facts] : Prop :=
  ∀ (m : (ℓ : Loc Cert.DdownIdeal.nD Cert.DdownIdeal.τ Cert.DdownIdeal.sig) → Buf (Elt Ideal) ℓ) (g : Dev Cert.DdownIdeal.nD → PrngReg)
    (m' : (ℓ : Loc Cert.DdownRefIdeal.nD Cert.DdownRefIdeal.τ Cert.DdownRefIdeal.sig) → Buf (Elt Ideal) ℓ) (g' : Dev Cert.DdownRefIdeal.nD → PrngReg), Pre_DdownIdeal m →
    (∀ c : Dev Cert.DdownIdeal.nD,
      m' ((c.tc : Thread Cert.DdownRefIdeal.nD Cert.DdownRefIdeal.τ).loc Cert.DdownRefIdeal.main_arg0) = m ((c.tc : Thread Cert.DdownIdeal.nD Cert.DdownIdeal.τ).loc Cert.DdownIdeal.main_arg0)
      ∧ m' ((c.tc : Thread Cert.DdownRefIdeal.nD Cert.DdownRefIdeal.τ).loc Cert.DdownRefIdeal.main_arg1) = m ((c.tc : Thread Cert.DdownIdeal.nD Cert.DdownIdeal.τ).loc Cert.DdownIdeal.main_arg1)) →
    ∃ (v0 : (c : Dev Cert.DdownIdeal.nD) → Buf (Elt Ideal) ((c.tc : Thread Cert.DdownIdeal.nD Cert.DdownIdeal.τ).loc Cert.DdownIdeal.main_v3)),
      θ_run (Cert.DdownIdeal.defs (F := Ideal)) (onTc (τ := Cert.DdownIdeal.τ) (Cert.DdownIdeal.main (F := Ideal))) ⟨m, fun _ => 0, g⟩ (fun r => ∀ c : Dev Cert.DdownIdeal.nD,
          r.2.mem ((c.tc : Thread Cert.DdownIdeal.nD Cert.DdownIdeal.τ).loc Cert.DdownIdeal.main_v3) = v0 c
          ∧ r.2.mem ((c.tc : Thread Cert.DdownIdeal.nD Cert.DdownIdeal.τ).loc Cert.DdownIdeal.main_arg0) = m ((c.tc : Thread Cert.DdownIdeal.nD Cert.DdownIdeal.τ).loc Cert.DdownIdeal.main_arg0)
          ∧ r.2.mem ((c.tc : Thread Cert.DdownIdeal.nD Cert.DdownIdeal.τ).loc Cert.DdownIdeal.main_arg1) = m ((c.tc : Thread Cert.DdownIdeal.nD Cert.DdownIdeal.τ).loc Cert.DdownIdeal.main_arg1))
      ∧ θ_run (Cert.DdownRefIdeal.defs (F := Ideal)) (onTc (τ := Cert.DdownRefIdeal.τ) (Cert.DdownRefIdeal.main (F := Ideal))) ⟨m', fun _ => 0, g'⟩ (fun r => ∀ c : Dev Cert.DdownRefIdeal.nD,
          r.2.mem ((c.tc : Thread Cert.DdownRefIdeal.nD Cert.DdownRefIdeal.τ).loc Cert.DdownRefIdeal.main_v5) = v0 c
          ∧ r.2.mem ((c.tc : Thread Cert.DdownRefIdeal.nD Cert.DdownRefIdeal.τ).loc Cert.DdownRefIdeal.main_arg0) = m' ((c.tc : Thread Cert.DdownRefIdeal.nD Cert.DdownRefIdeal.τ).loc Cert.DdownRefIdeal.main_arg0)
          ∧ r.2.mem ((c.tc : Thread Cert.DdownRefIdeal.nD Cert.DdownRefIdeal.τ).loc Cert.DdownRefIdeal.main_arg1) = m' ((c.tc : Thread Cert.DdownRefIdeal.nD Cert.DdownRefIdeal.τ).loc Cert.DdownRefIdeal.main_arg1))

def preserves_Dgatew_DgatewIdeal : Prop :=
  True

def algebraic_DgatewIdeal_DgatewRefIdeal [hDgatewIdeal : Cert.DgatewIdeal.Facts] [hDgatewRefIdeal : Cert.DgatewRefIdeal.Facts] : Prop :=
  ∀ (m : (ℓ : Loc Cert.DgatewIdeal.nD Cert.DgatewIdeal.τ Cert.DgatewIdeal.sig) → Buf (Elt Ideal) ℓ) (g : Dev Cert.DgatewIdeal.nD → PrngReg)
    (m' : (ℓ : Loc Cert.DgatewRefIdeal.nD Cert.DgatewRefIdeal.τ Cert.DgatewRefIdeal.sig) → Buf (Elt Ideal) ℓ) (g' : Dev Cert.DgatewRefIdeal.nD → PrngReg), Pre_DgatewIdeal m →
    (∀ c : Dev Cert.DgatewIdeal.nD,
      m' ((c.tc : Thread Cert.DgatewRefIdeal.nD Cert.DgatewRefIdeal.τ).loc Cert.DgatewRefIdeal.main_arg0) = m ((c.tc : Thread Cert.DgatewIdeal.nD Cert.DgatewIdeal.τ).loc Cert.DgatewIdeal.main_arg0)
      ∧ m' ((c.tc : Thread Cert.DgatewRefIdeal.nD Cert.DgatewRefIdeal.τ).loc Cert.DgatewRefIdeal.main_arg1) = m ((c.tc : Thread Cert.DgatewIdeal.nD Cert.DgatewIdeal.τ).loc Cert.DgatewIdeal.main_arg1)) →
    ∃ (v0 : (c : Dev Cert.DgatewIdeal.nD) → Buf (Elt Ideal) ((c.tc : Thread Cert.DgatewIdeal.nD Cert.DgatewIdeal.τ).loc Cert.DgatewIdeal.main_v3)),
      θ_run (Cert.DgatewIdeal.defs (F := Ideal)) (onTc (τ := Cert.DgatewIdeal.τ) (Cert.DgatewIdeal.main (F := Ideal))) ⟨m, fun _ => 0, g⟩ (fun r => ∀ c : Dev Cert.DgatewIdeal.nD,
          r.2.mem ((c.tc : Thread Cert.DgatewIdeal.nD Cert.DgatewIdeal.τ).loc Cert.DgatewIdeal.main_v3) = v0 c
          ∧ r.2.mem ((c.tc : Thread Cert.DgatewIdeal.nD Cert.DgatewIdeal.τ).loc Cert.DgatewIdeal.main_arg0) = m ((c.tc : Thread Cert.DgatewIdeal.nD Cert.DgatewIdeal.τ).loc Cert.DgatewIdeal.main_arg0)
          ∧ r.2.mem ((c.tc : Thread Cert.DgatewIdeal.nD Cert.DgatewIdeal.τ).loc Cert.DgatewIdeal.main_arg1) = m ((c.tc : Thread Cert.DgatewIdeal.nD Cert.DgatewIdeal.τ).loc Cert.DgatewIdeal.main_arg1))
      ∧ θ_run (Cert.DgatewRefIdeal.defs (F := Ideal)) (onTc (τ := Cert.DgatewRefIdeal.τ) (Cert.DgatewRefIdeal.main (F := Ideal))) ⟨m', fun _ => 0, g'⟩ (fun r => ∀ c : Dev Cert.DgatewRefIdeal.nD,
          r.2.mem ((c.tc : Thread Cert.DgatewRefIdeal.nD Cert.DgatewRefIdeal.τ).loc Cert.DgatewRefIdeal.main_v6) = v0 c
          ∧ r.2.mem ((c.tc : Thread Cert.DgatewRefIdeal.nD Cert.DgatewRefIdeal.τ).loc Cert.DgatewRefIdeal.main_arg0) = m' ((c.tc : Thread Cert.DgatewRefIdeal.nD Cert.DgatewRefIdeal.τ).loc Cert.DgatewRefIdeal.main_arg0)
          ∧ r.2.mem ((c.tc : Thread Cert.DgatewRefIdeal.nD Cert.DgatewRefIdeal.τ).loc Cert.DgatewRefIdeal.main_arg1) = m' ((c.tc : Thread Cert.DgatewRefIdeal.nD Cert.DgatewRefIdeal.τ).loc Cert.DgatewRefIdeal.main_arg1))

def preserves_Dxa_DxaIdeal : Prop :=
  True

def algebraic_DxaIdeal_DxaRefIdeal [hDxaIdeal : Cert.DxaIdeal.Facts] [hDxaRefIdeal : Cert.DxaRefIdeal.Facts] : Prop :=
  ∀ (m : (ℓ : Loc Cert.DxaIdeal.nD Cert.DxaIdeal.τ Cert.DxaIdeal.sig) → Buf (Elt Ideal) ℓ) (g : Dev Cert.DxaIdeal.nD → PrngReg)
    (m' : (ℓ : Loc Cert.DxaRefIdeal.nD Cert.DxaRefIdeal.τ Cert.DxaRefIdeal.sig) → Buf (Elt Ideal) ℓ) (g' : Dev Cert.DxaRefIdeal.nD → PrngReg), Pre_DxaIdeal m →
    (∀ c : Dev Cert.DxaIdeal.nD,
      m' ((c.tc : Thread Cert.DxaRefIdeal.nD Cert.DxaRefIdeal.τ).loc Cert.DxaRefIdeal.main_arg0) = m ((c.tc : Thread Cert.DxaIdeal.nD Cert.DxaIdeal.τ).loc Cert.DxaIdeal.main_arg0)
      ∧ m' ((c.tc : Thread Cert.DxaRefIdeal.nD Cert.DxaRefIdeal.τ).loc Cert.DxaRefIdeal.main_arg1) = m ((c.tc : Thread Cert.DxaIdeal.nD Cert.DxaIdeal.τ).loc Cert.DxaIdeal.main_arg1)
      ∧ m' ((c.tc : Thread Cert.DxaRefIdeal.nD Cert.DxaRefIdeal.τ).loc Cert.DxaRefIdeal.main_arg2) = m ((c.tc : Thread Cert.DxaIdeal.nD Cert.DxaIdeal.τ).loc Cert.DxaIdeal.main_arg2)) →
    ∃ (v0 : (c : Dev Cert.DxaIdeal.nD) → Buf (Elt Ideal) ((c.tc : Thread Cert.DxaIdeal.nD Cert.DxaIdeal.τ).loc Cert.DxaIdeal.main_v6)),
      θ_run (Cert.DxaIdeal.defs (F := Ideal)) (onTc (τ := Cert.DxaIdeal.τ) (Cert.DxaIdeal.main (F := Ideal))) ⟨m, fun _ => 0, g⟩ (fun r => ∀ c : Dev Cert.DxaIdeal.nD,
          r.2.mem ((c.tc : Thread Cert.DxaIdeal.nD Cert.DxaIdeal.τ).loc Cert.DxaIdeal.main_v6) = v0 c
          ∧ r.2.mem ((c.tc : Thread Cert.DxaIdeal.nD Cert.DxaIdeal.τ).loc Cert.DxaIdeal.main_arg0) = m ((c.tc : Thread Cert.DxaIdeal.nD Cert.DxaIdeal.τ).loc Cert.DxaIdeal.main_arg0)
          ∧ r.2.mem ((c.tc : Thread Cert.DxaIdeal.nD Cert.DxaIdeal.τ).loc Cert.DxaIdeal.main_arg1) = m ((c.tc : Thread Cert.DxaIdeal.nD Cert.DxaIdeal.τ).loc Cert.DxaIdeal.main_arg1)
          ∧ r.2.mem ((c.tc : Thread Cert.DxaIdeal.nD Cert.DxaIdeal.τ).loc Cert.DxaIdeal.main_arg2) = m ((c.tc : Thread Cert.DxaIdeal.nD Cert.DxaIdeal.τ).loc Cert.DxaIdeal.main_arg2))
      ∧ θ_run (Cert.DxaRefIdeal.defs (F := Ideal)) (onTc (τ := Cert.DxaRefIdeal.τ) (Cert.DxaRefIdeal.main (F := Ideal))) ⟨m', fun _ => 0, g'⟩ (fun r => ∀ c : Dev Cert.DxaRefIdeal.nD,
          r.2.mem ((c.tc : Thread Cert.DxaRefIdeal.nD Cert.DxaRefIdeal.τ).loc Cert.DxaRefIdeal.main_v9) = v0 c
          ∧ r.2.mem ((c.tc : Thread Cert.DxaRefIdeal.nD Cert.DxaRefIdeal.τ).loc Cert.DxaRefIdeal.main_arg0) = m' ((c.tc : Thread Cert.DxaRefIdeal.nD Cert.DxaRefIdeal.τ).loc Cert.DxaRefIdeal.main_arg0)
          ∧ r.2.mem ((c.tc : Thread Cert.DxaRefIdeal.nD Cert.DxaRefIdeal.τ).loc Cert.DxaRefIdeal.main_arg1) = m' ((c.tc : Thread Cert.DxaRefIdeal.nD Cert.DxaRefIdeal.τ).loc Cert.DxaRefIdeal.main_arg1)
          ∧ r.2.mem ((c.tc : Thread Cert.DxaRefIdeal.nD Cert.DxaRefIdeal.τ).loc Cert.DxaRefIdeal.main_arg2) = m' ((c.tc : Thread Cert.DxaRefIdeal.nD Cert.DxaRefIdeal.τ).loc Cert.DxaRefIdeal.main_arg2))

def preserves_Dxb_DxbIdeal : Prop :=
  True

def algebraic_DxbIdeal_DxbRefIdeal [hDxbIdeal : Cert.DxbIdeal.Facts] [hDxbRefIdeal : Cert.DxbRefIdeal.Facts] : Prop :=
  ∀ (m : (ℓ : Loc Cert.DxbIdeal.nD Cert.DxbIdeal.τ Cert.DxbIdeal.sig) → Buf (Elt Ideal) ℓ) (g : Dev Cert.DxbIdeal.nD → PrngReg)
    (m' : (ℓ : Loc Cert.DxbRefIdeal.nD Cert.DxbRefIdeal.τ Cert.DxbRefIdeal.sig) → Buf (Elt Ideal) ℓ) (g' : Dev Cert.DxbRefIdeal.nD → PrngReg), Pre_DxbIdeal m →
    (∀ c : Dev Cert.DxbIdeal.nD,
      m' ((c.tc : Thread Cert.DxbRefIdeal.nD Cert.DxbRefIdeal.τ).loc Cert.DxbRefIdeal.main_arg0) = m ((c.tc : Thread Cert.DxbIdeal.nD Cert.DxbIdeal.τ).loc Cert.DxbIdeal.main_arg0)
      ∧ m' ((c.tc : Thread Cert.DxbRefIdeal.nD Cert.DxbRefIdeal.τ).loc Cert.DxbRefIdeal.main_arg1) = m ((c.tc : Thread Cert.DxbIdeal.nD Cert.DxbIdeal.τ).loc Cert.DxbIdeal.main_arg1)
      ∧ m' ((c.tc : Thread Cert.DxbRefIdeal.nD Cert.DxbRefIdeal.τ).loc Cert.DxbRefIdeal.main_arg2) = m ((c.tc : Thread Cert.DxbIdeal.nD Cert.DxbIdeal.τ).loc Cert.DxbIdeal.main_arg2)) →
    ∃ (v0 : (c : Dev Cert.DxbIdeal.nD) → Buf (Elt Ideal) ((c.tc : Thread Cert.DxbIdeal.nD Cert.DxbIdeal.τ).loc Cert.DxbIdeal.main_v6)),
      θ_run (Cert.DxbIdeal.defs (F := Ideal)) (onTc (τ := Cert.DxbIdeal.τ) (Cert.DxbIdeal.main (F := Ideal))) ⟨m, fun _ => 0, g⟩ (fun r => ∀ c : Dev Cert.DxbIdeal.nD,
          r.2.mem ((c.tc : Thread Cert.DxbIdeal.nD Cert.DxbIdeal.τ).loc Cert.DxbIdeal.main_v6) = v0 c
          ∧ r.2.mem ((c.tc : Thread Cert.DxbIdeal.nD Cert.DxbIdeal.τ).loc Cert.DxbIdeal.main_arg0) = m ((c.tc : Thread Cert.DxbIdeal.nD Cert.DxbIdeal.τ).loc Cert.DxbIdeal.main_arg0)
          ∧ r.2.mem ((c.tc : Thread Cert.DxbIdeal.nD Cert.DxbIdeal.τ).loc Cert.DxbIdeal.main_arg1) = m ((c.tc : Thread Cert.DxbIdeal.nD Cert.DxbIdeal.τ).loc Cert.DxbIdeal.main_arg1)
          ∧ r.2.mem ((c.tc : Thread Cert.DxbIdeal.nD Cert.DxbIdeal.τ).loc Cert.DxbIdeal.main_arg2) = m ((c.tc : Thread Cert.DxbIdeal.nD Cert.DxbIdeal.τ).loc Cert.DxbIdeal.main_arg2))
      ∧ θ_run (Cert.DxbRefIdeal.defs (F := Ideal)) (onTc (τ := Cert.DxbRefIdeal.τ) (Cert.DxbRefIdeal.main (F := Ideal))) ⟨m', fun _ => 0, g'⟩ (fun r => ∀ c : Dev Cert.DxbRefIdeal.nD,
          r.2.mem ((c.tc : Thread Cert.DxbRefIdeal.nD Cert.DxbRefIdeal.τ).loc Cert.DxbRefIdeal.main_v5) = v0 c
          ∧ r.2.mem ((c.tc : Thread Cert.DxbRefIdeal.nD Cert.DxbRefIdeal.τ).loc Cert.DxbRefIdeal.main_arg0) = m' ((c.tc : Thread Cert.DxbRefIdeal.nD Cert.DxbRefIdeal.τ).loc Cert.DxbRefIdeal.main_arg0)
          ∧ r.2.mem ((c.tc : Thread Cert.DxbRefIdeal.nD Cert.DxbRefIdeal.τ).loc Cert.DxbRefIdeal.main_arg1) = m' ((c.tc : Thread Cert.DxbRefIdeal.nD Cert.DxbRefIdeal.τ).loc Cert.DxbRefIdeal.main_arg1)
          ∧ r.2.mem ((c.tc : Thread Cert.DxbRefIdeal.nD Cert.DxbRefIdeal.τ).loc Cert.DxbRefIdeal.main_arg2) = m' ((c.tc : Thread Cert.DxbRefIdeal.nD Cert.DxbRefIdeal.τ).loc Cert.DxbRefIdeal.main_arg2))

def preserves_Dple_DpleIdeal : Prop :=
  True

def algebraic_DpleIdeal_DpleRefIdeal [hDpleIdeal : Cert.DpleIdeal.Facts] [hDpleRefIdeal : Cert.DpleRefIdeal.Facts] : Prop :=
  ∀ (m : (ℓ : Loc Cert.DpleIdeal.nD Cert.DpleIdeal.τ Cert.DpleIdeal.sig) → Buf (Elt Ideal) ℓ) (g : Dev Cert.DpleIdeal.nD → PrngReg)
    (m' : (ℓ : Loc Cert.DpleRefIdeal.nD Cert.DpleRefIdeal.τ Cert.DpleRefIdeal.sig) → Buf (Elt Ideal) ℓ) (g' : Dev Cert.DpleRefIdeal.nD → PrngReg), Pre_DpleIdeal m →
    (∀ c : Dev Cert.DpleIdeal.nD,
      m' ((c.tc : Thread Cert.DpleRefIdeal.nD Cert.DpleRefIdeal.τ).loc Cert.DpleRefIdeal.main_arg0) = m ((c.tc : Thread Cert.DpleIdeal.nD Cert.DpleIdeal.τ).loc Cert.DpleIdeal.main_arg0)
      ∧ m' ((c.tc : Thread Cert.DpleRefIdeal.nD Cert.DpleRefIdeal.τ).loc Cert.DpleRefIdeal.main_arg1) = m ((c.tc : Thread Cert.DpleIdeal.nD Cert.DpleIdeal.τ).loc Cert.DpleIdeal.main_arg1)
      ∧ m' ((c.tc : Thread Cert.DpleRefIdeal.nD Cert.DpleRefIdeal.τ).loc Cert.DpleRefIdeal.main_arg2) = m ((c.tc : Thread Cert.DpleIdeal.nD Cert.DpleIdeal.τ).loc Cert.DpleIdeal.main_arg2)) →
    ∃ (v0 : (c : Dev Cert.DpleIdeal.nD) → Buf (Elt Ideal) ((c.tc : Thread Cert.DpleIdeal.nD Cert.DpleIdeal.τ).loc Cert.DpleIdeal.main_v4)),
      θ_run (Cert.DpleIdeal.defs (F := Ideal)) (onTc (τ := Cert.DpleIdeal.τ) (Cert.DpleIdeal.main (F := Ideal))) ⟨m, fun _ => 0, g⟩ (fun r => ∀ c : Dev Cert.DpleIdeal.nD,
          r.2.mem ((c.tc : Thread Cert.DpleIdeal.nD Cert.DpleIdeal.τ).loc Cert.DpleIdeal.main_v4) = v0 c
          ∧ r.2.mem ((c.tc : Thread Cert.DpleIdeal.nD Cert.DpleIdeal.τ).loc Cert.DpleIdeal.main_arg0) = m ((c.tc : Thread Cert.DpleIdeal.nD Cert.DpleIdeal.τ).loc Cert.DpleIdeal.main_arg0)
          ∧ r.2.mem ((c.tc : Thread Cert.DpleIdeal.nD Cert.DpleIdeal.τ).loc Cert.DpleIdeal.main_arg1) = m ((c.tc : Thread Cert.DpleIdeal.nD Cert.DpleIdeal.τ).loc Cert.DpleIdeal.main_arg1)
          ∧ r.2.mem ((c.tc : Thread Cert.DpleIdeal.nD Cert.DpleIdeal.τ).loc Cert.DpleIdeal.main_arg2) = m ((c.tc : Thread Cert.DpleIdeal.nD Cert.DpleIdeal.τ).loc Cert.DpleIdeal.main_arg2))
      ∧ θ_run (Cert.DpleRefIdeal.defs (F := Ideal)) (onTc (τ := Cert.DpleRefIdeal.τ) (Cert.DpleRefIdeal.main (F := Ideal))) ⟨m', fun _ => 0, g'⟩ (fun r => ∀ c : Dev Cert.DpleRefIdeal.nD,
          r.2.mem ((c.tc : Thread Cert.DpleRefIdeal.nD Cert.DpleRefIdeal.τ).loc Cert.DpleRefIdeal.main_v5) = v0 c
          ∧ r.2.mem ((c.tc : Thread Cert.DpleRefIdeal.nD Cert.DpleRefIdeal.τ).loc Cert.DpleRefIdeal.main_arg0) = m' ((c.tc : Thread Cert.DpleRefIdeal.nD Cert.DpleRefIdeal.τ).loc Cert.DpleRefIdeal.main_arg0)
          ∧ r.2.mem ((c.tc : Thread Cert.DpleRefIdeal.nD Cert.DpleRefIdeal.τ).loc Cert.DpleRefIdeal.main_arg1) = m' ((c.tc : Thread Cert.DpleRefIdeal.nD Cert.DpleRefIdeal.τ).loc Cert.DpleRefIdeal.main_arg1)
          ∧ r.2.mem ((c.tc : Thread Cert.DpleRefIdeal.nD Cert.DpleRefIdeal.τ).loc Cert.DpleRefIdeal.main_arg2) = m' ((c.tc : Thread Cert.DpleRefIdeal.nD Cert.DpleRefIdeal.τ).loc Cert.DpleRefIdeal.main_arg2))

def preserves_Dproj_DprojIdeal : Prop :=
  True

def algebraic_DprojIdeal_DprojRefIdeal [hDprojIdeal : Cert.DprojIdeal.Facts] [hDprojRefIdeal : Cert.DprojRefIdeal.Facts] : Prop :=
  ∀ (m : (ℓ : Loc Cert.DprojIdeal.nD Cert.DprojIdeal.τ Cert.DprojIdeal.sig) → Buf (Elt Ideal) ℓ) (g : Dev Cert.DprojIdeal.nD → PrngReg)
    (m' : (ℓ : Loc Cert.DprojRefIdeal.nD Cert.DprojRefIdeal.τ Cert.DprojRefIdeal.sig) → Buf (Elt Ideal) ℓ) (g' : Dev Cert.DprojRefIdeal.nD → PrngReg), Pre_DprojIdeal m →
    (∀ c : Dev Cert.DprojIdeal.nD,
      m' ((c.tc : Thread Cert.DprojRefIdeal.nD Cert.DprojRefIdeal.τ).loc Cert.DprojRefIdeal.main_arg0) = m ((c.tc : Thread Cert.DprojIdeal.nD Cert.DprojIdeal.τ).loc Cert.DprojIdeal.main_arg0)
      ∧ m' ((c.tc : Thread Cert.DprojRefIdeal.nD Cert.DprojRefIdeal.τ).loc Cert.DprojRefIdeal.main_arg1) = m ((c.tc : Thread Cert.DprojIdeal.nD Cert.DprojIdeal.τ).loc Cert.DprojIdeal.main_arg1)) →
    ∃ (v0 : (c : Dev Cert.DprojIdeal.nD) → Buf (Elt Ideal) ((c.tc : Thread Cert.DprojIdeal.nD Cert.DprojIdeal.τ).loc Cert.DprojIdeal.main_v1)),
      θ_run (Cert.DprojIdeal.defs (F := Ideal)) (onTc (τ := Cert.DprojIdeal.τ) (Cert.DprojIdeal.main (F := Ideal))) ⟨m, fun _ => 0, g⟩ (fun r => ∀ c : Dev Cert.DprojIdeal.nD,
          r.2.mem ((c.tc : Thread Cert.DprojIdeal.nD Cert.DprojIdeal.τ).loc Cert.DprojIdeal.main_v1) = v0 c
          ∧ r.2.mem ((c.tc : Thread Cert.DprojIdeal.nD Cert.DprojIdeal.τ).loc Cert.DprojIdeal.main_arg0) = m ((c.tc : Thread Cert.DprojIdeal.nD Cert.DprojIdeal.τ).loc Cert.DprojIdeal.main_arg0)
          ∧ r.2.mem ((c.tc : Thread Cert.DprojIdeal.nD Cert.DprojIdeal.τ).loc Cert.DprojIdeal.main_arg1) = m ((c.tc : Thread Cert.DprojIdeal.nD Cert.DprojIdeal.τ).loc Cert.DprojIdeal.main_arg1))
      ∧ θ_run (Cert.DprojRefIdeal.defs (F := Ideal)) (onTc (τ := Cert.DprojRefIdeal.τ) (Cert.DprojRefIdeal.main (F := Ideal))) ⟨m', fun _ => 0, g'⟩ (fun r => ∀ c : Dev Cert.DprojRefIdeal.nD,
          r.2.mem ((c.tc : Thread Cert.DprojRefIdeal.nD Cert.DprojRefIdeal.τ).loc Cert.DprojRefIdeal.main_v6) = v0 c
          ∧ r.2.mem ((c.tc : Thread Cert.DprojRefIdeal.nD Cert.DprojRefIdeal.τ).loc Cert.DprojRefIdeal.main_arg0) = m' ((c.tc : Thread Cert.DprojRefIdeal.nD Cert.DprojRefIdeal.τ).loc Cert.DprojRefIdeal.main_arg0)
          ∧ r.2.mem ((c.tc : Thread Cert.DprojRefIdeal.nD Cert.DprojRefIdeal.τ).loc Cert.DprojRefIdeal.main_arg1) = m' ((c.tc : Thread Cert.DprojRefIdeal.nD Cert.DprojRefIdeal.τ).loc Cert.DprojRefIdeal.main_arg1))

def preserves_Dgate_DgateIdeal : Prop :=
  True

def algebraic_DgateIdeal_DgateRefIdeal [hDgateIdeal : Cert.DgateIdeal.Facts] [hDgateRefIdeal : Cert.DgateRefIdeal.Facts] : Prop :=
  ∀ (m : (ℓ : Loc Cert.DgateIdeal.nD Cert.DgateIdeal.τ Cert.DgateIdeal.sig) → Buf (Elt Ideal) ℓ) (g : Dev Cert.DgateIdeal.nD → PrngReg)
    (m' : (ℓ : Loc Cert.DgateRefIdeal.nD Cert.DgateRefIdeal.τ Cert.DgateRefIdeal.sig) → Buf (Elt Ideal) ℓ) (g' : Dev Cert.DgateRefIdeal.nD → PrngReg), Pre_DgateIdeal m →
    (∀ c : Dev Cert.DgateIdeal.nD,
      m' ((c.tc : Thread Cert.DgateRefIdeal.nD Cert.DgateRefIdeal.τ).loc Cert.DgateRefIdeal.main_arg0) = m ((c.tc : Thread Cert.DgateIdeal.nD Cert.DgateIdeal.τ).loc Cert.DgateIdeal.main_arg0)
      ∧ m' ((c.tc : Thread Cert.DgateRefIdeal.nD Cert.DgateRefIdeal.τ).loc Cert.DgateRefIdeal.main_arg1) = m ((c.tc : Thread Cert.DgateIdeal.nD Cert.DgateIdeal.τ).loc Cert.DgateIdeal.main_arg1)) →
    ∃ (v0 : (c : Dev Cert.DgateIdeal.nD) → Buf (Elt Ideal) ((c.tc : Thread Cert.DgateIdeal.nD Cert.DgateIdeal.τ).loc Cert.DgateIdeal.main_v1)),
      θ_run (Cert.DgateIdeal.defs (F := Ideal)) (onTc (τ := Cert.DgateIdeal.τ) (Cert.DgateIdeal.main (F := Ideal))) ⟨m, fun _ => 0, g⟩ (fun r => ∀ c : Dev Cert.DgateIdeal.nD,
          r.2.mem ((c.tc : Thread Cert.DgateIdeal.nD Cert.DgateIdeal.τ).loc Cert.DgateIdeal.main_v1) = v0 c
          ∧ r.2.mem ((c.tc : Thread Cert.DgateIdeal.nD Cert.DgateIdeal.τ).loc Cert.DgateIdeal.main_arg0) = m ((c.tc : Thread Cert.DgateIdeal.nD Cert.DgateIdeal.τ).loc Cert.DgateIdeal.main_arg0)
          ∧ r.2.mem ((c.tc : Thread Cert.DgateIdeal.nD Cert.DgateIdeal.τ).loc Cert.DgateIdeal.main_arg1) = m ((c.tc : Thread Cert.DgateIdeal.nD Cert.DgateIdeal.τ).loc Cert.DgateIdeal.main_arg1))
      ∧ θ_run (Cert.DgateRefIdeal.defs (F := Ideal)) (onTc (τ := Cert.DgateRefIdeal.τ) (Cert.DgateRefIdeal.main (F := Ideal))) ⟨m', fun _ => 0, g'⟩ (fun r => ∀ c : Dev Cert.DgateRefIdeal.nD,
          r.2.mem ((c.tc : Thread Cert.DgateRefIdeal.nD Cert.DgateRefIdeal.τ).loc Cert.DgateRefIdeal.main_v5) = v0 c
          ∧ r.2.mem ((c.tc : Thread Cert.DgateRefIdeal.nD Cert.DgateRefIdeal.τ).loc Cert.DgateRefIdeal.main_arg0) = m' ((c.tc : Thread Cert.DgateRefIdeal.nD Cert.DgateRefIdeal.τ).loc Cert.DgateRefIdeal.main_arg0)
          ∧ r.2.mem ((c.tc : Thread Cert.DgateRefIdeal.nD Cert.DgateRefIdeal.τ).loc Cert.DgateRefIdeal.main_arg1) = m' ((c.tc : Thread Cert.DgateRefIdeal.nD Cert.DgateRefIdeal.τ).loc Cert.DgateRefIdeal.main_arg1))

def preserves_Dout_DoutIdeal : Prop :=
  True

def algebraic_DoutIdeal_DoutRefIdeal [hDoutIdeal : Cert.DoutIdeal.Facts] [hDoutRefIdeal : Cert.DoutRefIdeal.Facts] : Prop :=
  ∀ (m : (ℓ : Loc Cert.DoutIdeal.nD Cert.DoutIdeal.τ Cert.DoutIdeal.sig) → Buf (Elt Ideal) ℓ) (g : Dev Cert.DoutIdeal.nD → PrngReg)
    (m' : (ℓ : Loc Cert.DoutRefIdeal.nD Cert.DoutRefIdeal.τ Cert.DoutRefIdeal.sig) → Buf (Elt Ideal) ℓ) (g' : Dev Cert.DoutRefIdeal.nD → PrngReg), Pre_DoutIdeal m →
    (∀ c : Dev Cert.DoutIdeal.nD,
      m' ((c.tc : Thread Cert.DoutRefIdeal.nD Cert.DoutRefIdeal.τ).loc Cert.DoutRefIdeal.main_arg0) = m ((c.tc : Thread Cert.DoutIdeal.nD Cert.DoutIdeal.τ).loc Cert.DoutIdeal.main_arg0)
      ∧ m' ((c.tc : Thread Cert.DoutRefIdeal.nD Cert.DoutRefIdeal.τ).loc Cert.DoutRefIdeal.main_arg1) = m ((c.tc : Thread Cert.DoutIdeal.nD Cert.DoutIdeal.τ).loc Cert.DoutIdeal.main_arg1)) →
    ∃ (v0 : (c : Dev Cert.DoutIdeal.nD) → Buf (Elt Ideal) ((c.tc : Thread Cert.DoutIdeal.nD Cert.DoutIdeal.τ).loc Cert.DoutIdeal.main_v1)),
      θ_run (Cert.DoutIdeal.defs (F := Ideal)) (onTc (τ := Cert.DoutIdeal.τ) (Cert.DoutIdeal.main (F := Ideal))) ⟨m, fun _ => 0, g⟩ (fun r => ∀ c : Dev Cert.DoutIdeal.nD,
          r.2.mem ((c.tc : Thread Cert.DoutIdeal.nD Cert.DoutIdeal.τ).loc Cert.DoutIdeal.main_v1) = v0 c
          ∧ r.2.mem ((c.tc : Thread Cert.DoutIdeal.nD Cert.DoutIdeal.τ).loc Cert.DoutIdeal.main_arg0) = m ((c.tc : Thread Cert.DoutIdeal.nD Cert.DoutIdeal.τ).loc Cert.DoutIdeal.main_arg0)
          ∧ r.2.mem ((c.tc : Thread Cert.DoutIdeal.nD Cert.DoutIdeal.τ).loc Cert.DoutIdeal.main_arg1) = m ((c.tc : Thread Cert.DoutIdeal.nD Cert.DoutIdeal.τ).loc Cert.DoutIdeal.main_arg1))
      ∧ θ_run (Cert.DoutRefIdeal.defs (F := Ideal)) (onTc (τ := Cert.DoutRefIdeal.τ) (Cert.DoutRefIdeal.main (F := Ideal))) ⟨m', fun _ => 0, g'⟩ (fun r => ∀ c : Dev Cert.DoutRefIdeal.nD,
          r.2.mem ((c.tc : Thread Cert.DoutRefIdeal.nD Cert.DoutRefIdeal.τ).loc Cert.DoutRefIdeal.main_v5) = v0 c
          ∧ r.2.mem ((c.tc : Thread Cert.DoutRefIdeal.nD Cert.DoutRefIdeal.τ).loc Cert.DoutRefIdeal.main_arg0) = m' ((c.tc : Thread Cert.DoutRefIdeal.nD Cert.DoutRefIdeal.τ).loc Cert.DoutRefIdeal.main_arg0)
          ∧ r.2.mem ((c.tc : Thread Cert.DoutRefIdeal.nD Cert.DoutRefIdeal.τ).loc Cert.DoutRefIdeal.main_arg1) = m' ((c.tc : Thread Cert.DoutRefIdeal.nD Cert.DoutRefIdeal.τ).loc Cert.DoutRefIdeal.main_arg1))

def preserves_Dcat_DcatIdeal : Prop :=
  True

def algebraic_DcatIdeal_DcatRefIdeal [hDcatIdeal : Cert.DcatIdeal.Facts] [hDcatRefIdeal : Cert.DcatRefIdeal.Facts] : Prop :=
  ∀ (m : (ℓ : Loc Cert.DcatIdeal.nD Cert.DcatIdeal.τ Cert.DcatIdeal.sig) → Buf (Elt Ideal) ℓ) (g : Dev Cert.DcatIdeal.nD → PrngReg)
    (m' : (ℓ : Loc Cert.DcatRefIdeal.nD Cert.DcatRefIdeal.τ Cert.DcatRefIdeal.sig) → Buf (Elt Ideal) ℓ) (g' : Dev Cert.DcatRefIdeal.nD → PrngReg), Pre_DcatIdeal m →
    (∀ c : Dev Cert.DcatIdeal.nD,
      m' ((c.tc : Thread Cert.DcatRefIdeal.nD Cert.DcatRefIdeal.τ).loc Cert.DcatRefIdeal.main_arg0) = m ((c.tc : Thread Cert.DcatIdeal.nD Cert.DcatIdeal.τ).loc Cert.DcatIdeal.main_arg0)
      ∧ m' ((c.tc : Thread Cert.DcatRefIdeal.nD Cert.DcatRefIdeal.τ).loc Cert.DcatRefIdeal.main_arg1) = m ((c.tc : Thread Cert.DcatIdeal.nD Cert.DcatIdeal.τ).loc Cert.DcatIdeal.main_arg1)) →
    ∃ (v0 : (c : Dev Cert.DcatIdeal.nD) → Buf (Elt Ideal) ((c.tc : Thread Cert.DcatIdeal.nD Cert.DcatIdeal.τ).loc Cert.DcatIdeal.main_v3)),
      θ_run (Cert.DcatIdeal.defs (F := Ideal)) (onTc (τ := Cert.DcatIdeal.τ) (Cert.DcatIdeal.main (F := Ideal))) ⟨m, fun _ => 0, g⟩ (fun r => ∀ c : Dev Cert.DcatIdeal.nD,
          r.2.mem ((c.tc : Thread Cert.DcatIdeal.nD Cert.DcatIdeal.τ).loc Cert.DcatIdeal.main_v3) = v0 c
          ∧ r.2.mem ((c.tc : Thread Cert.DcatIdeal.nD Cert.DcatIdeal.τ).loc Cert.DcatIdeal.main_arg0) = m ((c.tc : Thread Cert.DcatIdeal.nD Cert.DcatIdeal.τ).loc Cert.DcatIdeal.main_arg0)
          ∧ r.2.mem ((c.tc : Thread Cert.DcatIdeal.nD Cert.DcatIdeal.τ).loc Cert.DcatIdeal.main_arg1) = m ((c.tc : Thread Cert.DcatIdeal.nD Cert.DcatIdeal.τ).loc Cert.DcatIdeal.main_arg1))
      ∧ θ_run (Cert.DcatRefIdeal.defs (F := Ideal)) (onTc (τ := Cert.DcatRefIdeal.τ) (Cert.DcatRefIdeal.main (F := Ideal))) ⟨m', fun _ => 0, g'⟩ (fun r => ∀ c : Dev Cert.DcatRefIdeal.nD,
          r.2.mem ((c.tc : Thread Cert.DcatRefIdeal.nD Cert.DcatRefIdeal.τ).loc Cert.DcatRefIdeal.main_v3) = v0 c
          ∧ r.2.mem ((c.tc : Thread Cert.DcatRefIdeal.nD Cert.DcatRefIdeal.τ).loc Cert.DcatRefIdeal.main_arg0) = m' ((c.tc : Thread Cert.DcatRefIdeal.nD Cert.DcatRefIdeal.τ).loc Cert.DcatRefIdeal.main_arg0)
          ∧ r.2.mem ((c.tc : Thread Cert.DcatRefIdeal.nD Cert.DcatRefIdeal.τ).loc Cert.DcatRefIdeal.main_arg1) = m' ((c.tc : Thread Cert.DcatRefIdeal.nD Cert.DcatRefIdeal.τ).loc Cert.DcatRefIdeal.main_arg1))

def preserves_Din_DinIdeal : Prop :=
  True

def algebraic_DinIdeal_DinRefIdeal [hDinIdeal : Cert.DinIdeal.Facts] [hDinRefIdeal : Cert.DinRefIdeal.Facts] : Prop :=
  ∀ (m : (ℓ : Loc Cert.DinIdeal.nD Cert.DinIdeal.τ Cert.DinIdeal.sig) → Buf (Elt Ideal) ℓ) (g : Dev Cert.DinIdeal.nD → PrngReg)
    (m' : (ℓ : Loc Cert.DinRefIdeal.nD Cert.DinRefIdeal.τ Cert.DinRefIdeal.sig) → Buf (Elt Ideal) ℓ) (g' : Dev Cert.DinRefIdeal.nD → PrngReg), Pre_DinIdeal m →
    (∀ c : Dev Cert.DinIdeal.nD,
      m' ((c.tc : Thread Cert.DinRefIdeal.nD Cert.DinRefIdeal.τ).loc Cert.DinRefIdeal.main_arg0) = m ((c.tc : Thread Cert.DinIdeal.nD Cert.DinIdeal.τ).loc Cert.DinIdeal.main_arg0)
      ∧ m' ((c.tc : Thread Cert.DinRefIdeal.nD Cert.DinRefIdeal.τ).loc Cert.DinRefIdeal.main_arg1) = m ((c.tc : Thread Cert.DinIdeal.nD Cert.DinIdeal.τ).loc Cert.DinIdeal.main_arg1)) →
    ∃ (v0 : (c : Dev Cert.DinIdeal.nD) → Buf (Elt Ideal) ((c.tc : Thread Cert.DinIdeal.nD Cert.DinIdeal.τ).loc Cert.DinIdeal.main_v3)),
      θ_run (Cert.DinIdeal.defs (F := Ideal)) (onTc (τ := Cert.DinIdeal.τ) (Cert.DinIdeal.main (F := Ideal))) ⟨m, fun _ => 0, g⟩ (fun r => ∀ c : Dev Cert.DinIdeal.nD,
          r.2.mem ((c.tc : Thread Cert.DinIdeal.nD Cert.DinIdeal.τ).loc Cert.DinIdeal.main_v3) = v0 c
          ∧ r.2.mem ((c.tc : Thread Cert.DinIdeal.nD Cert.DinIdeal.τ).loc Cert.DinIdeal.main_arg0) = m ((c.tc : Thread Cert.DinIdeal.nD Cert.DinIdeal.τ).loc Cert.DinIdeal.main_arg0)
          ∧ r.2.mem ((c.tc : Thread Cert.DinIdeal.nD Cert.DinIdeal.τ).loc Cert.DinIdeal.main_arg1) = m ((c.tc : Thread Cert.DinIdeal.nD Cert.DinIdeal.τ).loc Cert.DinIdeal.main_arg1))
      ∧ θ_run (Cert.DinRefIdeal.defs (F := Ideal)) (onTc (τ := Cert.DinRefIdeal.τ) (Cert.DinRefIdeal.main (F := Ideal))) ⟨m', fun _ => 0, g'⟩ (fun r => ∀ c : Dev Cert.DinRefIdeal.nD,
          r.2.mem ((c.tc : Thread Cert.DinRefIdeal.nD Cert.DinRefIdeal.τ).loc Cert.DinRefIdeal.main_v6) = v0 c
          ∧ r.2.mem ((c.tc : Thread Cert.DinRefIdeal.nD Cert.DinRefIdeal.τ).loc Cert.DinRefIdeal.main_arg0) = m' ((c.tc : Thread Cert.DinRefIdeal.nD Cert.DinRefIdeal.τ).loc Cert.DinRefIdeal.main_arg0)
          ∧ r.2.mem ((c.tc : Thread Cert.DinRefIdeal.nD Cert.DinRefIdeal.τ).loc Cert.DinRefIdeal.main_arg1) = m' ((c.tc : Thread Cert.DinRefIdeal.nD Cert.DinRefIdeal.τ).loc Cert.DinRefIdeal.main_arg1))

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)) →
    ∃ (v0 : (c : Dev Cert.DxIdeal.nD) → Buf (Elt Ideal) ((c.tc : Thread Cert.DxIdeal.nD Cert.DxIdeal.τ).loc Cert.DxIdeal.main_v6)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v6) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v8) = v0 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)) →
    ∃ (v0 : (c : Dev Cert.InpIdeal.nD) → Buf (Elt Ideal) ((c.tc : Thread Cert.InpIdeal.nD Cert.InpIdeal.τ).loc Cert.InpIdeal.main_v3)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v3) = v0 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v3) = v0 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v4)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v3)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v3) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v4) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v6)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v6) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Pgate_PgateIdeal : Prop :=
  True

def algebraic_PgateIdeal_PgateRefIdeal [hPgateIdeal : Cert.PgateIdeal.Facts] [hPgateRefIdeal : Cert.PgateRefIdeal.Facts] : Prop :=
  ∀ (m : (ℓ : Loc Cert.PgateIdeal.nD Cert.PgateIdeal.τ Cert.PgateIdeal.sig) → Buf (Elt Ideal) ℓ) (g : Dev Cert.PgateIdeal.nD → PrngReg)
    (m' : (ℓ : Loc Cert.PgateRefIdeal.nD Cert.PgateRefIdeal.τ Cert.PgateRefIdeal.sig) → Buf (Elt Ideal) ℓ) (g' : Dev Cert.PgateRefIdeal.nD → PrngReg), Pre_PgateIdeal m →
    (∀ c : Dev Cert.PgateIdeal.nD,
      m' ((c.tc : Thread Cert.PgateRefIdeal.nD Cert.PgateRefIdeal.τ).loc Cert.PgateRefIdeal.main_arg0) = m ((c.tc : Thread Cert.PgateIdeal.nD Cert.PgateIdeal.τ).loc Cert.PgateIdeal.main_arg0)
      ∧ m' ((c.tc : Thread Cert.PgateRefIdeal.nD Cert.PgateRefIdeal.τ).loc Cert.PgateRefIdeal.main_arg1) = m ((c.tc : Thread Cert.PgateIdeal.nD Cert.PgateIdeal.τ).loc Cert.PgateIdeal.main_arg1)) →
    ∃ (v0 : (c : Dev Cert.PgateIdeal.nD) → Buf (Elt Ideal) ((c.tc : Thread Cert.PgateIdeal.nD Cert.PgateIdeal.τ).loc Cert.PgateIdeal.main_v3)),
      θ_run (Cert.PgateIdeal.defs (F := Ideal)) (onTc (τ := Cert.PgateIdeal.τ) (Cert.PgateIdeal.main (F := Ideal))) ⟨m, fun _ => 0, g⟩ (fun r => ∀ c : Dev Cert.PgateIdeal.nD,
          r.2.mem ((c.tc : Thread Cert.PgateIdeal.nD Cert.PgateIdeal.τ).loc Cert.PgateIdeal.main_v3) = v0 c
          ∧ r.2.mem ((c.tc : Thread Cert.PgateIdeal.nD Cert.PgateIdeal.τ).loc Cert.PgateIdeal.main_arg0) = m ((c.tc : Thread Cert.PgateIdeal.nD Cert.PgateIdeal.τ).loc Cert.PgateIdeal.main_arg0)
          ∧ r.2.mem ((c.tc : Thread Cert.PgateIdeal.nD Cert.PgateIdeal.τ).loc Cert.PgateIdeal.main_arg1) = m ((c.tc : Thread Cert.PgateIdeal.nD Cert.PgateIdeal.τ).loc Cert.PgateIdeal.main_arg1))
      ∧ θ_run (Cert.PgateRefIdeal.defs (F := Ideal)) (onTc (τ := Cert.PgateRefIdeal.τ) (Cert.PgateRefIdeal.main (F := Ideal))) ⟨m', fun _ => 0, g'⟩ (fun r => ∀ c : Dev Cert.PgateRefIdeal.nD,
          r.2.mem ((c.tc : Thread Cert.PgateRefIdeal.nD Cert.PgateRefIdeal.τ).loc Cert.PgateRefIdeal.main_v2) = v0 c
          ∧ r.2.mem ((c.tc : Thread Cert.PgateRefIdeal.nD Cert.PgateRefIdeal.τ).loc Cert.PgateRefIdeal.main_arg0) = m' ((c.tc : Thread Cert.PgateRefIdeal.nD Cert.PgateRefIdeal.τ).loc Cert.PgateRefIdeal.main_arg0)
          ∧ r.2.mem ((c.tc : Thread Cert.PgateRefIdeal.nD Cert.PgateRefIdeal.τ).loc Cert.PgateRefIdeal.main_arg1) = m' ((c.tc : Thread Cert.PgateRefIdeal.nD Cert.PgateRefIdeal.τ).loc Cert.PgateRefIdeal.main_arg1))

def preserves_Pproj_PprojIdeal : Prop :=
  True

def algebraic_PprojIdeal_PprojRefIdeal [hPprojIdeal : Cert.PprojIdeal.Facts] [hPprojRefIdeal : Cert.PprojRefIdeal.Facts] : Prop :=
  ∀ (m : (ℓ : Loc Cert.PprojIdeal.nD Cert.PprojIdeal.τ Cert.PprojIdeal.sig) → Buf (Elt Ideal) ℓ) (g : Dev Cert.PprojIdeal.nD → PrngReg)
    (m' : (ℓ : Loc Cert.PprojRefIdeal.nD Cert.PprojRefIdeal.τ Cert.PprojRefIdeal.sig) → Buf (Elt Ideal) ℓ) (g' : Dev Cert.PprojRefIdeal.nD → PrngReg), Pre_PprojIdeal m →
    (∀ c : Dev Cert.PprojIdeal.nD,
      m' ((c.tc : Thread Cert.PprojRefIdeal.nD Cert.PprojRefIdeal.τ).loc Cert.PprojRefIdeal.main_arg0) = m ((c.tc : Thread Cert.PprojIdeal.nD Cert.PprojIdeal.τ).loc Cert.PprojIdeal.main_arg0)
      ∧ m' ((c.tc : Thread Cert.PprojRefIdeal.nD Cert.PprojRefIdeal.τ).loc Cert.PprojRefIdeal.main_arg1) = m ((c.tc : Thread Cert.PprojIdeal.nD Cert.PprojIdeal.τ).loc Cert.PprojIdeal.main_arg1)) →
    ∃ (v0 : (c : Dev Cert.PprojIdeal.nD) → Buf (Elt Ideal) ((c.tc : Thread Cert.PprojIdeal.nD Cert.PprojIdeal.τ).loc Cert.PprojIdeal.main_v3)),
      θ_run (Cert.PprojIdeal.defs (F := Ideal)) (onTc (τ := Cert.PprojIdeal.τ) (Cert.PprojIdeal.main (F := Ideal))) ⟨m, fun _ => 0, g⟩ (fun r => ∀ c : Dev Cert.PprojIdeal.nD,
          r.2.mem ((c.tc : Thread Cert.PprojIdeal.nD Cert.PprojIdeal.τ).loc Cert.PprojIdeal.main_v3) = v0 c
          ∧ r.2.mem ((c.tc : Thread Cert.PprojIdeal.nD Cert.PprojIdeal.τ).loc Cert.PprojIdeal.main_arg0) = m ((c.tc : Thread Cert.PprojIdeal.nD Cert.PprojIdeal.τ).loc Cert.PprojIdeal.main_arg0)
          ∧ r.2.mem ((c.tc : Thread Cert.PprojIdeal.nD Cert.PprojIdeal.τ).loc Cert.PprojIdeal.main_arg1) = m ((c.tc : Thread Cert.PprojIdeal.nD Cert.PprojIdeal.τ).loc Cert.PprojIdeal.main_arg1))
      ∧ θ_run (Cert.PprojRefIdeal.defs (F := Ideal)) (onTc (τ := Cert.PprojRefIdeal.τ) (Cert.PprojRefIdeal.main (F := Ideal))) ⟨m', fun _ => 0, g'⟩ (fun r => ∀ c : Dev Cert.PprojRefIdeal.nD,
          r.2.mem ((c.tc : Thread Cert.PprojRefIdeal.nD Cert.PprojRefIdeal.τ).loc Cert.PprojRefIdeal.main_v2) = v0 c
          ∧ r.2.mem ((c.tc : Thread Cert.PprojRefIdeal.nD Cert.PprojRefIdeal.τ).loc Cert.PprojRefIdeal.main_arg0) = m' ((c.tc : Thread Cert.PprojRefIdeal.nD Cert.PprojRefIdeal.τ).loc Cert.PprojRefIdeal.main_arg0)
          ∧ r.2.mem ((c.tc : Thread Cert.PprojRefIdeal.nD Cert.PprojRefIdeal.τ).loc Cert.PprojRefIdeal.main_arg1) = m' ((c.tc : Thread Cert.PprojRefIdeal.nD Cert.PprojRefIdeal.τ).loc Cert.PprojRefIdeal.main_arg1))

def preserves_DactZero_DactZeroIdeal : Prop :=
  True

def algebraic_DactZeroIdeal_DactZeroRefIdeal [hDactZeroIdeal : Cert.DactZeroIdeal.Facts] [hDactZeroRefIdeal : Cert.DactZeroRefIdeal.Facts] : Prop :=
  ∀ (m : (ℓ : Loc Cert.DactZeroIdeal.nD Cert.DactZeroIdeal.τ Cert.DactZeroIdeal.sig) → Buf (Elt Ideal) ℓ) (g : Dev Cert.DactZeroIdeal.nD → PrngReg)
    (m' : (ℓ : Loc Cert.DactZeroRefIdeal.nD Cert.DactZeroRefIdeal.τ Cert.DactZeroRefIdeal.sig) → Buf (Elt Ideal) ℓ) (g' : Dev Cert.DactZeroRefIdeal.nD → PrngReg), Pre_DactZeroIdeal m →
    (∀ c : Dev Cert.DactZeroIdeal.nD,
      m' ((c.tc : Thread Cert.DactZeroRefIdeal.nD Cert.DactZeroRefIdeal.τ).loc Cert.DactZeroRefIdeal.main_arg0) = m ((c.tc : Thread Cert.DactZeroIdeal.nD Cert.DactZeroIdeal.τ).loc Cert.DactZeroIdeal.main_arg0)
      ∧ m' ((c.tc : Thread Cert.DactZeroRefIdeal.nD Cert.DactZeroRefIdeal.τ).loc Cert.DactZeroRefIdeal.main_arg1) = m ((c.tc : Thread Cert.DactZeroIdeal.nD Cert.DactZeroIdeal.τ).loc Cert.DactZeroIdeal.main_arg1)) →
    ∃ (v0 : (c : Dev Cert.DactZeroIdeal.nD) → Buf (Elt Ideal) ((c.tc : Thread Cert.DactZeroIdeal.nD Cert.DactZeroIdeal.τ).loc Cert.DactZeroIdeal.main_v3)),
      θ_run (Cert.DactZeroIdeal.defs (F := Ideal)) (onTc (τ := Cert.DactZeroIdeal.τ) (Cert.DactZeroIdeal.main (F := Ideal))) ⟨m, fun _ => 0, g⟩ (fun r => ∀ c : Dev Cert.DactZeroIdeal.nD,
          r.2.mem ((c.tc : Thread Cert.DactZeroIdeal.nD Cert.DactZeroIdeal.τ).loc Cert.DactZeroIdeal.main_v3) = v0 c
          ∧ r.2.mem ((c.tc : Thread Cert.DactZeroIdeal.nD Cert.DactZeroIdeal.τ).loc Cert.DactZeroIdeal.main_arg0) = m ((c.tc : Thread Cert.DactZeroIdeal.nD Cert.DactZeroIdeal.τ).loc Cert.DactZeroIdeal.main_arg0)
          ∧ r.2.mem ((c.tc : Thread Cert.DactZeroIdeal.nD Cert.DactZeroIdeal.τ).loc Cert.DactZeroIdeal.main_arg1) = m ((c.tc : Thread Cert.DactZeroIdeal.nD Cert.DactZeroIdeal.τ).loc Cert.DactZeroIdeal.main_arg1))
      ∧ θ_run (Cert.DactZeroRefIdeal.defs (F := Ideal)) (onTc (τ := Cert.DactZeroRefIdeal.τ) (Cert.DactZeroRefIdeal.main (F := Ideal))) ⟨m', fun _ => 0, g'⟩ (fun r => ∀ c : Dev Cert.DactZeroRefIdeal.nD,
          r.2.mem ((c.tc : Thread Cert.DactZeroRefIdeal.nD Cert.DactZeroRefIdeal.τ).loc Cert.DactZeroRefIdeal.main_v6) = v0 c
          ∧ r.2.mem ((c.tc : Thread Cert.DactZeroRefIdeal.nD Cert.DactZeroRefIdeal.τ).loc Cert.DactZeroRefIdeal.main_arg0) = m' ((c.tc : Thread Cert.DactZeroRefIdeal.nD Cert.DactZeroRefIdeal.τ).loc Cert.DactZeroRefIdeal.main_arg0)
          ∧ r.2.mem ((c.tc : Thread Cert.DactZeroRefIdeal.nD Cert.DactZeroRefIdeal.τ).loc Cert.DactZeroRefIdeal.main_arg1) = m' ((c.tc : Thread Cert.DactZeroRefIdeal.nD Cert.DactZeroRefIdeal.τ).loc Cert.DactZeroRefIdeal.main_arg1))

def preserves_DxaZero_DxaZeroIdeal : Prop :=
  True

def algebraic_DxaZeroIdeal_DxaZeroRefIdeal [hDxaZeroIdeal : Cert.DxaZeroIdeal.Facts] [hDxaZeroRefIdeal : Cert.DxaZeroRefIdeal.Facts] : Prop :=
  ∀ (m : (ℓ : Loc Cert.DxaZeroIdeal.nD Cert.DxaZeroIdeal.τ Cert.DxaZeroIdeal.sig) → Buf (Elt Ideal) ℓ) (g : Dev Cert.DxaZeroIdeal.nD → PrngReg)
    (m' : (ℓ : Loc Cert.DxaZeroRefIdeal.nD Cert.DxaZeroRefIdeal.τ Cert.DxaZeroRefIdeal.sig) → Buf (Elt Ideal) ℓ) (g' : Dev Cert.DxaZeroRefIdeal.nD → PrngReg), Pre_DxaZeroIdeal m →
    (∀ c : Dev Cert.DxaZeroIdeal.nD,
      m' ((c.tc : Thread Cert.DxaZeroRefIdeal.nD Cert.DxaZeroRefIdeal.τ).loc Cert.DxaZeroRefIdeal.main_arg0) = m ((c.tc : Thread Cert.DxaZeroIdeal.nD Cert.DxaZeroIdeal.τ).loc Cert.DxaZeroIdeal.main_arg0)
      ∧ m' ((c.tc : Thread Cert.DxaZeroRefIdeal.nD Cert.DxaZeroRefIdeal.τ).loc Cert.DxaZeroRefIdeal.main_arg1) = m ((c.tc : Thread Cert.DxaZeroIdeal.nD Cert.DxaZeroIdeal.τ).loc Cert.DxaZeroIdeal.main_arg1)
      ∧ m' ((c.tc : Thread Cert.DxaZeroRefIdeal.nD Cert.DxaZeroRefIdeal.τ).loc Cert.DxaZeroRefIdeal.main_arg2) = m ((c.tc : Thread Cert.DxaZeroIdeal.nD Cert.DxaZeroIdeal.τ).loc Cert.DxaZeroIdeal.main_arg2)) →
    ∃ (v0 : (c : Dev Cert.DxaZeroIdeal.nD) → Buf (Elt Ideal) ((c.tc : Thread Cert.DxaZeroIdeal.nD Cert.DxaZeroIdeal.τ).loc Cert.DxaZeroIdeal.main_v6)),
      θ_run (Cert.DxaZeroIdeal.defs (F := Ideal)) (onTc (τ := Cert.DxaZeroIdeal.τ) (Cert.DxaZeroIdeal.main (F := Ideal))) ⟨m, fun _ => 0, g⟩ (fun r => ∀ c : Dev Cert.DxaZeroIdeal.nD,
          r.2.mem ((c.tc : Thread Cert.DxaZeroIdeal.nD Cert.DxaZeroIdeal.τ).loc Cert.DxaZeroIdeal.main_v6) = v0 c
          ∧ r.2.mem ((c.tc : Thread Cert.DxaZeroIdeal.nD Cert.DxaZeroIdeal.τ).loc Cert.DxaZeroIdeal.main_arg0) = m ((c.tc : Thread Cert.DxaZeroIdeal.nD Cert.DxaZeroIdeal.τ).loc Cert.DxaZeroIdeal.main_arg0)
          ∧ r.2.mem ((c.tc : Thread Cert.DxaZeroIdeal.nD Cert.DxaZeroIdeal.τ).loc Cert.DxaZeroIdeal.main_arg1) = m ((c.tc : Thread Cert.DxaZeroIdeal.nD Cert.DxaZeroIdeal.τ).loc Cert.DxaZeroIdeal.main_arg1)
          ∧ r.2.mem ((c.tc : Thread Cert.DxaZeroIdeal.nD Cert.DxaZeroIdeal.τ).loc Cert.DxaZeroIdeal.main_arg2) = m ((c.tc : Thread Cert.DxaZeroIdeal.nD Cert.DxaZeroIdeal.τ).loc Cert.DxaZeroIdeal.main_arg2))
      ∧ θ_run (Cert.DxaZeroRefIdeal.defs (F := Ideal)) (onTc (τ := Cert.DxaZeroRefIdeal.τ) (Cert.DxaZeroRefIdeal.main (F := Ideal))) ⟨m', fun _ => 0, g'⟩ (fun r => ∀ c : Dev Cert.DxaZeroRefIdeal.nD,
          r.2.mem ((c.tc : Thread Cert.DxaZeroRefIdeal.nD Cert.DxaZeroRefIdeal.τ).loc Cert.DxaZeroRefIdeal.main_v9) = v0 c
          ∧ r.2.mem ((c.tc : Thread Cert.DxaZeroRefIdeal.nD Cert.DxaZeroRefIdeal.τ).loc Cert.DxaZeroRefIdeal.main_arg0) = m' ((c.tc : Thread Cert.DxaZeroRefIdeal.nD Cert.DxaZeroRefIdeal.τ).loc Cert.DxaZeroRefIdeal.main_arg0)
          ∧ r.2.mem ((c.tc : Thread Cert.DxaZeroRefIdeal.nD Cert.DxaZeroRefIdeal.τ).loc Cert.DxaZeroRefIdeal.main_arg1) = m' ((c.tc : Thread Cert.DxaZeroRefIdeal.nD Cert.DxaZeroRefIdeal.τ).loc Cert.DxaZeroRefIdeal.main_arg1)
          ∧ r.2.mem ((c.tc : Thread Cert.DxaZeroRefIdeal.nD Cert.DxaZeroRefIdeal.τ).loc Cert.DxaZeroRefIdeal.main_arg2) = m' ((c.tc : Thread Cert.DxaZeroRefIdeal.nD Cert.DxaZeroRefIdeal.τ).loc Cert.DxaZeroRefIdeal.main_arg2))

def preserves_DxbZero_DxbZeroIdeal : Prop :=
  True

def algebraic_DxbZeroIdeal_DxbZeroRefIdeal [hDxbZeroIdeal : Cert.DxbZeroIdeal.Facts] [hDxbZeroRefIdeal : Cert.DxbZeroRefIdeal.Facts] : Prop :=
  ∀ (m : (ℓ : Loc Cert.DxbZeroIdeal.nD Cert.DxbZeroIdeal.τ Cert.DxbZeroIdeal.sig) → Buf (Elt Ideal) ℓ) (g : Dev Cert.DxbZeroIdeal.nD → PrngReg)
    (m' : (ℓ : Loc Cert.DxbZeroRefIdeal.nD Cert.DxbZeroRefIdeal.τ Cert.DxbZeroRefIdeal.sig) → Buf (Elt Ideal) ℓ) (g' : Dev Cert.DxbZeroRefIdeal.nD → PrngReg), Pre_DxbZeroIdeal m →
    (∀ c : Dev Cert.DxbZeroIdeal.nD,
      m' ((c.tc : Thread Cert.DxbZeroRefIdeal.nD Cert.DxbZeroRefIdeal.τ).loc Cert.DxbZeroRefIdeal.main_arg0) = m ((c.tc : Thread Cert.DxbZeroIdeal.nD Cert.DxbZeroIdeal.τ).loc Cert.DxbZeroIdeal.main_arg0)
      ∧ m' ((c.tc : Thread Cert.DxbZeroRefIdeal.nD Cert.DxbZeroRefIdeal.τ).loc Cert.DxbZeroRefIdeal.main_arg1) = m ((c.tc : Thread Cert.DxbZeroIdeal.nD Cert.DxbZeroIdeal.τ).loc Cert.DxbZeroIdeal.main_arg1)
      ∧ m' ((c.tc : Thread Cert.DxbZeroRefIdeal.nD Cert.DxbZeroRefIdeal.τ).loc Cert.DxbZeroRefIdeal.main_arg2) = m ((c.tc : Thread Cert.DxbZeroIdeal.nD Cert.DxbZeroIdeal.τ).loc Cert.DxbZeroIdeal.main_arg2)) →
    ∃ (v0 : (c : Dev Cert.DxbZeroIdeal.nD) → Buf (Elt Ideal) ((c.tc : Thread Cert.DxbZeroIdeal.nD Cert.DxbZeroIdeal.τ).loc Cert.DxbZeroIdeal.main_v6)),
      θ_run (Cert.DxbZeroIdeal.defs (F := Ideal)) (onTc (τ := Cert.DxbZeroIdeal.τ) (Cert.DxbZeroIdeal.main (F := Ideal))) ⟨m, fun _ => 0, g⟩ (fun r => ∀ c : Dev Cert.DxbZeroIdeal.nD,
          r.2.mem ((c.tc : Thread Cert.DxbZeroIdeal.nD Cert.DxbZeroIdeal.τ).loc Cert.DxbZeroIdeal.main_v6) = v0 c
          ∧ r.2.mem ((c.tc : Thread Cert.DxbZeroIdeal.nD Cert.DxbZeroIdeal.τ).loc Cert.DxbZeroIdeal.main_arg0) = m ((c.tc : Thread Cert.DxbZeroIdeal.nD Cert.DxbZeroIdeal.τ).loc Cert.DxbZeroIdeal.main_arg0)
          ∧ r.2.mem ((c.tc : Thread Cert.DxbZeroIdeal.nD Cert.DxbZeroIdeal.τ).loc Cert.DxbZeroIdeal.main_arg1) = m ((c.tc : Thread Cert.DxbZeroIdeal.nD Cert.DxbZeroIdeal.τ).loc Cert.DxbZeroIdeal.main_arg1)
          ∧ r.2.mem ((c.tc : Thread Cert.DxbZeroIdeal.nD Cert.DxbZeroIdeal.τ).loc Cert.DxbZeroIdeal.main_arg2) = m ((c.tc : Thread Cert.DxbZeroIdeal.nD Cert.DxbZeroIdeal.τ).loc Cert.DxbZeroIdeal.main_arg2))
      ∧ θ_run (Cert.DxbZeroRefIdeal.defs (F := Ideal)) (onTc (τ := Cert.DxbZeroRefIdeal.τ) (Cert.DxbZeroRefIdeal.main (F := Ideal))) ⟨m', fun _ => 0, g'⟩ (fun r => ∀ c : Dev Cert.DxbZeroRefIdeal.nD,
          r.2.mem ((c.tc : Thread Cert.DxbZeroRefIdeal.nD Cert.DxbZeroRefIdeal.τ).loc Cert.DxbZeroRefIdeal.main_v5) = v0 c
          ∧ r.2.mem ((c.tc : Thread Cert.DxbZeroRefIdeal.nD Cert.DxbZeroRefIdeal.τ).loc Cert.DxbZeroRefIdeal.main_arg0) = m' ((c.tc : Thread Cert.DxbZeroRefIdeal.nD Cert.DxbZeroRefIdeal.τ).loc Cert.DxbZeroRefIdeal.main_arg0)
          ∧ r.2.mem ((c.tc : Thread Cert.DxbZeroRefIdeal.nD Cert.DxbZeroRefIdeal.τ).loc Cert.DxbZeroRefIdeal.main_arg1) = m' ((c.tc : Thread Cert.DxbZeroRefIdeal.nD Cert.DxbZeroRefIdeal.τ).loc Cert.DxbZeroRefIdeal.main_arg1)
          ∧ r.2.mem ((c.tc : Thread Cert.DxbZeroRefIdeal.nD Cert.DxbZeroRefIdeal.τ).loc Cert.DxbZeroRefIdeal.main_arg2) = m' ((c.tc : Thread Cert.DxbZeroRefIdeal.nD Cert.DxbZeroRefIdeal.τ).loc Cert.DxbZeroRefIdeal.main_arg2))

def preserves_DpleZero_DpleZeroIdeal : Prop :=
  True

def algebraic_DpleZeroIdeal_DpleZeroRefIdeal [hDpleZeroIdeal : Cert.DpleZeroIdeal.Facts] [hDpleZeroRefIdeal : Cert.DpleZeroRefIdeal.Facts] : Prop :=
  ∀ (m : (ℓ : Loc Cert.DpleZeroIdeal.nD Cert.DpleZeroIdeal.τ Cert.DpleZeroIdeal.sig) → Buf (Elt Ideal) ℓ) (g : Dev Cert.DpleZeroIdeal.nD → PrngReg)
    (m' : (ℓ : Loc Cert.DpleZeroRefIdeal.nD Cert.DpleZeroRefIdeal.τ Cert.DpleZeroRefIdeal.sig) → Buf (Elt Ideal) ℓ) (g' : Dev Cert.DpleZeroRefIdeal.nD → PrngReg), Pre_DpleZeroIdeal m →
    (∀ c : Dev Cert.DpleZeroIdeal.nD,
      m' ((c.tc : Thread Cert.DpleZeroRefIdeal.nD Cert.DpleZeroRefIdeal.τ).loc Cert.DpleZeroRefIdeal.main_arg0) = m ((c.tc : Thread Cert.DpleZeroIdeal.nD Cert.DpleZeroIdeal.τ).loc Cert.DpleZeroIdeal.main_arg0)
      ∧ m' ((c.tc : Thread Cert.DpleZeroRefIdeal.nD Cert.DpleZeroRefIdeal.τ).loc Cert.DpleZeroRefIdeal.main_arg1) = m ((c.tc : Thread Cert.DpleZeroIdeal.nD Cert.DpleZeroIdeal.τ).loc Cert.DpleZeroIdeal.main_arg1)
      ∧ m' ((c.tc : Thread Cert.DpleZeroRefIdeal.nD Cert.DpleZeroRefIdeal.τ).loc Cert.DpleZeroRefIdeal.main_arg2) = m ((c.tc : Thread Cert.DpleZeroIdeal.nD Cert.DpleZeroIdeal.τ).loc Cert.DpleZeroIdeal.main_arg2)) →
    ∃ (v0 : (c : Dev Cert.DpleZeroIdeal.nD) → Buf (Elt Ideal) ((c.tc : Thread Cert.DpleZeroIdeal.nD Cert.DpleZeroIdeal.τ).loc Cert.DpleZeroIdeal.main_v4)),
      θ_run (Cert.DpleZeroIdeal.defs (F := Ideal)) (onTc (τ := Cert.DpleZeroIdeal.τ) (Cert.DpleZeroIdeal.main (F := Ideal))) ⟨m, fun _ => 0, g⟩ (fun r => ∀ c : Dev Cert.DpleZeroIdeal.nD,
          r.2.mem ((c.tc : Thread Cert.DpleZeroIdeal.nD Cert.DpleZeroIdeal.τ).loc Cert.DpleZeroIdeal.main_v4) = v0 c
          ∧ r.2.mem ((c.tc : Thread Cert.DpleZeroIdeal.nD Cert.DpleZeroIdeal.τ).loc Cert.DpleZeroIdeal.main_arg0) = m ((c.tc : Thread Cert.DpleZeroIdeal.nD Cert.DpleZeroIdeal.τ).loc Cert.DpleZeroIdeal.main_arg0)
          ∧ r.2.mem ((c.tc : Thread Cert.DpleZeroIdeal.nD Cert.DpleZeroIdeal.τ).loc Cert.DpleZeroIdeal.main_arg1) = m ((c.tc : Thread Cert.DpleZeroIdeal.nD Cert.DpleZeroIdeal.τ).loc Cert.DpleZeroIdeal.main_arg1)
          ∧ r.2.mem ((c.tc : Thread Cert.DpleZeroIdeal.nD Cert.DpleZeroIdeal.τ).loc Cert.DpleZeroIdeal.main_arg2) = m ((c.tc : Thread Cert.DpleZeroIdeal.nD Cert.DpleZeroIdeal.τ).loc Cert.DpleZeroIdeal.main_arg2))
      ∧ θ_run (Cert.DpleZeroRefIdeal.defs (F := Ideal)) (onTc (τ := Cert.DpleZeroRefIdeal.τ) (Cert.DpleZeroRefIdeal.main (F := Ideal))) ⟨m', fun _ => 0, g'⟩ (fun r => ∀ c : Dev Cert.DpleZeroRefIdeal.nD,
          r.2.mem ((c.tc : Thread Cert.DpleZeroRefIdeal.nD Cert.DpleZeroRefIdeal.τ).loc Cert.DpleZeroRefIdeal.main_v5) = v0 c
          ∧ r.2.mem ((c.tc : Thread Cert.DpleZeroRefIdeal.nD Cert.DpleZeroRefIdeal.τ).loc Cert.DpleZeroRefIdeal.main_arg0) = m' ((c.tc : Thread Cert.DpleZeroRefIdeal.nD Cert.DpleZeroRefIdeal.τ).loc Cert.DpleZeroRefIdeal.main_arg0)
          ∧ r.2.mem ((c.tc : Thread Cert.DpleZeroRefIdeal.nD Cert.DpleZeroRefIdeal.τ).loc Cert.DpleZeroRefIdeal.main_arg1) = m' ((c.tc : Thread Cert.DpleZeroRefIdeal.nD Cert.DpleZeroRefIdeal.τ).loc Cert.DpleZeroRefIdeal.main_arg1)
          ∧ r.2.mem ((c.tc : Thread Cert.DpleZeroRefIdeal.nD Cert.DpleZeroRefIdeal.τ).loc Cert.DpleZeroRefIdeal.main_arg2) = m' ((c.tc : Thread Cert.DpleZeroRefIdeal.nD Cert.DpleZeroRefIdeal.τ).loc Cert.DpleZeroRefIdeal.main_arg2))

def preserves_GateZero_GateZeroIdeal : Prop :=
  True

def algebraic_GateZeroIdeal_GateZeroRefIdeal [hGateZeroIdeal : Cert.GateZeroIdeal.Facts] [hGateZeroRefIdeal : Cert.GateZeroRefIdeal.Facts] : Prop :=
  ∀ (m : (ℓ : Loc Cert.GateZeroIdeal.nD Cert.GateZeroIdeal.τ Cert.GateZeroIdeal.sig) → Buf (Elt Ideal) ℓ) (g : Dev Cert.GateZeroIdeal.nD → PrngReg)
    (m' : (ℓ : Loc Cert.GateZeroRefIdeal.nD Cert.GateZeroRefIdeal.τ Cert.GateZeroRefIdeal.sig) → Buf (Elt Ideal) ℓ) (g' : Dev Cert.GateZeroRefIdeal.nD → PrngReg), Pre_GateZeroIdeal m →
    (∀ c : Dev Cert.GateZeroIdeal.nD,
      m' ((c.tc : Thread Cert.GateZeroRefIdeal.nD Cert.GateZeroRefIdeal.τ).loc Cert.GateZeroRefIdeal.main_arg0) = m ((c.tc : Thread Cert.GateZeroIdeal.nD Cert.GateZeroIdeal.τ).loc Cert.GateZeroIdeal.main_arg0)
      ∧ m' ((c.tc : Thread Cert.GateZeroRefIdeal.nD Cert.GateZeroRefIdeal.τ).loc Cert.GateZeroRefIdeal.main_arg1) = m ((c.tc : Thread Cert.GateZeroIdeal.nD Cert.GateZeroIdeal.τ).loc Cert.GateZeroIdeal.main_arg1)) →
    ∃ (v0 : (c : Dev Cert.GateZeroIdeal.nD) → Buf (Elt Ideal) ((c.tc : Thread Cert.GateZeroIdeal.nD Cert.GateZeroIdeal.τ).loc Cert.GateZeroIdeal.main_v3)),
      θ_run (Cert.GateZeroIdeal.defs (F := Ideal)) (onTc (τ := Cert.GateZeroIdeal.τ) (Cert.GateZeroIdeal.main (F := Ideal))) ⟨m, fun _ => 0, g⟩ (fun r => ∀ c : Dev Cert.GateZeroIdeal.nD,
          r.2.mem ((c.tc : Thread Cert.GateZeroIdeal.nD Cert.GateZeroIdeal.τ).loc Cert.GateZeroIdeal.main_v3) = v0 c
          ∧ r.2.mem ((c.tc : Thread Cert.GateZeroIdeal.nD Cert.GateZeroIdeal.τ).loc Cert.GateZeroIdeal.main_arg0) = m ((c.tc : Thread Cert.GateZeroIdeal.nD Cert.GateZeroIdeal.τ).loc Cert.GateZeroIdeal.main_arg0)
          ∧ r.2.mem ((c.tc : Thread Cert.GateZeroIdeal.nD Cert.GateZeroIdeal.τ).loc Cert.GateZeroIdeal.main_arg1) = m ((c.tc : Thread Cert.GateZeroIdeal.nD Cert.GateZeroIdeal.τ).loc Cert.GateZeroIdeal.main_arg1))
      ∧ θ_run (Cert.GateZeroRefIdeal.defs (F := Ideal)) (onTc (τ := Cert.GateZeroRefIdeal.τ) (Cert.GateZeroRefIdeal.main (F := Ideal))) ⟨m', fun _ => 0, g'⟩ (fun r => ∀ c : Dev Cert.GateZeroRefIdeal.nD,
          r.2.mem ((c.tc : Thread Cert.GateZeroRefIdeal.nD Cert.GateZeroRefIdeal.τ).loc Cert.GateZeroRefIdeal.main_v4) = v0 c
          ∧ r.2.mem ((c.tc : Thread Cert.GateZeroRefIdeal.nD Cert.GateZeroRefIdeal.τ).loc Cert.GateZeroRefIdeal.main_arg0) = m' ((c.tc : Thread Cert.GateZeroRefIdeal.nD Cert.GateZeroRefIdeal.τ).loc Cert.GateZeroRefIdeal.main_arg0)
          ∧ r.2.mem ((c.tc : Thread Cert.GateZeroRefIdeal.nD Cert.GateZeroRefIdeal.τ).loc Cert.GateZeroRefIdeal.main_arg1) = m' ((c.tc : Thread Cert.GateZeroRefIdeal.nD Cert.GateZeroRefIdeal.τ).loc Cert.GateZeroRefIdeal.main_arg1))

def preserves_DownZero_DownZeroIdeal : Prop :=
  True

def algebraic_DownZeroIdeal_DownZeroRefIdeal [hDownZeroIdeal : Cert.DownZeroIdeal.Facts] [hDownZeroRefIdeal : Cert.DownZeroRefIdeal.Facts] : Prop :=
  ∀ (m : (ℓ : Loc Cert.DownZeroIdeal.nD Cert.DownZeroIdeal.τ Cert.DownZeroIdeal.sig) → Buf (Elt Ideal) ℓ) (g : Dev Cert.DownZeroIdeal.nD → PrngReg)
    (m' : (ℓ : Loc Cert.DownZeroRefIdeal.nD Cert.DownZeroRefIdeal.τ Cert.DownZeroRefIdeal.sig) → Buf (Elt Ideal) ℓ) (g' : Dev Cert.DownZeroRefIdeal.nD → PrngReg), Pre_DownZeroIdeal m →
    (∀ c : Dev Cert.DownZeroIdeal.nD,
      m' ((c.tc : Thread Cert.DownZeroRefIdeal.nD Cert.DownZeroRefIdeal.τ).loc Cert.DownZeroRefIdeal.main_arg0) = m ((c.tc : Thread Cert.DownZeroIdeal.nD Cert.DownZeroIdeal.τ).loc Cert.DownZeroIdeal.main_arg0)
      ∧ m' ((c.tc : Thread Cert.DownZeroRefIdeal.nD Cert.DownZeroRefIdeal.τ).loc Cert.DownZeroRefIdeal.main_arg1) = m ((c.tc : Thread Cert.DownZeroIdeal.nD Cert.DownZeroIdeal.τ).loc Cert.DownZeroIdeal.main_arg1)) →
    ∃ (v0 : (c : Dev Cert.DownZeroIdeal.nD) → Buf (Elt Ideal) ((c.tc : Thread Cert.DownZeroIdeal.nD Cert.DownZeroIdeal.τ).loc Cert.DownZeroIdeal.main_v6)),
      θ_run (Cert.DownZeroIdeal.defs (F := Ideal)) (onTc (τ := Cert.DownZeroIdeal.τ) (Cert.DownZeroIdeal.main (F := Ideal))) ⟨m, fun _ => 0, g⟩ (fun r => ∀ c : Dev Cert.DownZeroIdeal.nD,
          r.2.mem ((c.tc : Thread Cert.DownZeroIdeal.nD Cert.DownZeroIdeal.τ).loc Cert.DownZeroIdeal.main_v6) = v0 c
          ∧ r.2.mem ((c.tc : Thread Cert.DownZeroIdeal.nD Cert.DownZeroIdeal.τ).loc Cert.DownZeroIdeal.main_arg0) = m ((c.tc : Thread Cert.DownZeroIdeal.nD Cert.DownZeroIdeal.τ).loc Cert.DownZeroIdeal.main_arg0)
          ∧ r.2.mem ((c.tc : Thread Cert.DownZeroIdeal.nD Cert.DownZeroIdeal.τ).loc Cert.DownZeroIdeal.main_arg1) = m ((c.tc : Thread Cert.DownZeroIdeal.nD Cert.DownZeroIdeal.τ).loc Cert.DownZeroIdeal.main_arg1))
      ∧ θ_run (Cert.DownZeroRefIdeal.defs (F := Ideal)) (onTc (τ := Cert.DownZeroRefIdeal.τ) (Cert.DownZeroRefIdeal.main (F := Ideal))) ⟨m', fun _ => 0, g'⟩ (fun r => ∀ c : Dev Cert.DownZeroRefIdeal.nD,
          r.2.mem ((c.tc : Thread Cert.DownZeroRefIdeal.nD Cert.DownZeroRefIdeal.τ).loc Cert.DownZeroRefIdeal.main_v2) = v0 c
          ∧ r.2.mem ((c.tc : Thread Cert.DownZeroRefIdeal.nD Cert.DownZeroRefIdeal.τ).loc Cert.DownZeroRefIdeal.main_arg0) = m' ((c.tc : Thread Cert.DownZeroRefIdeal.nD Cert.DownZeroRefIdeal.τ).loc Cert.DownZeroRefIdeal.main_arg0)
          ∧ r.2.mem ((c.tc : Thread Cert.DownZeroRefIdeal.nD Cert.DownZeroRefIdeal.τ).loc Cert.DownZeroRefIdeal.main_arg1) = m' ((c.tc : Thread Cert.DownZeroRefIdeal.nD Cert.DownZeroRefIdeal.τ).loc Cert.DownZeroRefIdeal.main_arg1))

def preserves_PgateZero_PgateZeroIdeal : Prop :=
  True

def algebraic_PgateZeroIdeal_PgateZeroRefIdeal [hPgateZeroIdeal : Cert.PgateZeroIdeal.Facts] [hPgateZeroRefIdeal : Cert.PgateZeroRefIdeal.Facts] : Prop :=
  ∀ (m : (ℓ : Loc Cert.PgateZeroIdeal.nD Cert.PgateZeroIdeal.τ Cert.PgateZeroIdeal.sig) → Buf (Elt Ideal) ℓ) (g : Dev Cert.PgateZeroIdeal.nD → PrngReg)
    (m' : (ℓ : Loc Cert.PgateZeroRefIdeal.nD Cert.PgateZeroRefIdeal.τ Cert.PgateZeroRefIdeal.sig) → Buf (Elt Ideal) ℓ) (g' : Dev Cert.PgateZeroRefIdeal.nD → PrngReg), Pre_PgateZeroIdeal m →
    (∀ c : Dev Cert.PgateZeroIdeal.nD,
      m' ((c.tc : Thread Cert.PgateZeroRefIdeal.nD Cert.PgateZeroRefIdeal.τ).loc Cert.PgateZeroRefIdeal.main_arg0) = m ((c.tc : Thread Cert.PgateZeroIdeal.nD Cert.PgateZeroIdeal.τ).loc Cert.PgateZeroIdeal.main_arg0)
      ∧ m' ((c.tc : Thread Cert.PgateZeroRefIdeal.nD Cert.PgateZeroRefIdeal.τ).loc Cert.PgateZeroRefIdeal.main_arg1) = m ((c.tc : Thread Cert.PgateZeroIdeal.nD Cert.PgateZeroIdeal.τ).loc Cert.PgateZeroIdeal.main_arg1)) →
    ∃ (v0 : (c : Dev Cert.PgateZeroIdeal.nD) → Buf (Elt Ideal) ((c.tc : Thread Cert.PgateZeroIdeal.nD Cert.PgateZeroIdeal.τ).loc Cert.PgateZeroIdeal.main_v3)),
      θ_run (Cert.PgateZeroIdeal.defs (F := Ideal)) (onTc (τ := Cert.PgateZeroIdeal.τ) (Cert.PgateZeroIdeal.main (F := Ideal))) ⟨m, fun _ => 0, g⟩ (fun r => ∀ c : Dev Cert.PgateZeroIdeal.nD,
          r.2.mem ((c.tc : Thread Cert.PgateZeroIdeal.nD Cert.PgateZeroIdeal.τ).loc Cert.PgateZeroIdeal.main_v3) = v0 c
          ∧ r.2.mem ((c.tc : Thread Cert.PgateZeroIdeal.nD Cert.PgateZeroIdeal.τ).loc Cert.PgateZeroIdeal.main_arg0) = m ((c.tc : Thread Cert.PgateZeroIdeal.nD Cert.PgateZeroIdeal.τ).loc Cert.PgateZeroIdeal.main_arg0)
          ∧ r.2.mem ((c.tc : Thread Cert.PgateZeroIdeal.nD Cert.PgateZeroIdeal.τ).loc Cert.PgateZeroIdeal.main_arg1) = m ((c.tc : Thread Cert.PgateZeroIdeal.nD Cert.PgateZeroIdeal.τ).loc Cert.PgateZeroIdeal.main_arg1))
      ∧ θ_run (Cert.PgateZeroRefIdeal.defs (F := Ideal)) (onTc (τ := Cert.PgateZeroRefIdeal.τ) (Cert.PgateZeroRefIdeal.main (F := Ideal))) ⟨m', fun _ => 0, g'⟩ (fun r => ∀ c : Dev Cert.PgateZeroRefIdeal.nD,
          r.2.mem ((c.tc : Thread Cert.PgateZeroRefIdeal.nD Cert.PgateZeroRefIdeal.τ).loc Cert.PgateZeroRefIdeal.main_v2) = v0 c
          ∧ r.2.mem ((c.tc : Thread Cert.PgateZeroRefIdeal.nD Cert.PgateZeroRefIdeal.τ).loc Cert.PgateZeroRefIdeal.main_arg0) = m' ((c.tc : Thread Cert.PgateZeroRefIdeal.nD Cert.PgateZeroRefIdeal.τ).loc Cert.PgateZeroRefIdeal.main_arg0)
          ∧ r.2.mem ((c.tc : Thread Cert.PgateZeroRefIdeal.nD Cert.PgateZeroRefIdeal.τ).loc Cert.PgateZeroRefIdeal.main_arg1) = m' ((c.tc : Thread Cert.PgateZeroRefIdeal.nD Cert.PgateZeroRefIdeal.τ).loc Cert.PgateZeroRefIdeal.main_arg1))

def preserves_PprojZero_PprojZeroIdeal : Prop :=
  True

def algebraic_PprojZeroIdeal_PprojZeroRefIdeal [hPprojZeroIdeal : Cert.PprojZeroIdeal.Facts] [hPprojZeroRefIdeal : Cert.PprojZeroRefIdeal.Facts] : Prop :=
  ∀ (m : (ℓ : Loc Cert.PprojZeroIdeal.nD Cert.PprojZeroIdeal.τ Cert.PprojZeroIdeal.sig) → Buf (Elt Ideal) ℓ) (g : Dev Cert.PprojZeroIdeal.nD → PrngReg)
    (m' : (ℓ : Loc Cert.PprojZeroRefIdeal.nD Cert.PprojZeroRefIdeal.τ Cert.PprojZeroRefIdeal.sig) → Buf (Elt Ideal) ℓ) (g' : Dev Cert.PprojZeroRefIdeal.nD → PrngReg), Pre_PprojZeroIdeal m →
    (∀ c : Dev Cert.PprojZeroIdeal.nD,
      m' ((c.tc : Thread Cert.PprojZeroRefIdeal.nD Cert.PprojZeroRefIdeal.τ).loc Cert.PprojZeroRefIdeal.main_arg0) = m ((c.tc : Thread Cert.PprojZeroIdeal.nD Cert.PprojZeroIdeal.τ).loc Cert.PprojZeroIdeal.main_arg0)
      ∧ m' ((c.tc : Thread Cert.PprojZeroRefIdeal.nD Cert.PprojZeroRefIdeal.τ).loc Cert.PprojZeroRefIdeal.main_arg1) = m ((c.tc : Thread Cert.PprojZeroIdeal.nD Cert.PprojZeroIdeal.τ).loc Cert.PprojZeroIdeal.main_arg1)) →
    ∃ (v0 : (c : Dev Cert.PprojZeroIdeal.nD) → Buf (Elt Ideal) ((c.tc : Thread Cert.PprojZeroIdeal.nD Cert.PprojZeroIdeal.τ).loc Cert.PprojZeroIdeal.main_v3)),
      θ_run (Cert.PprojZeroIdeal.defs (F := Ideal)) (onTc (τ := Cert.PprojZeroIdeal.τ) (Cert.PprojZeroIdeal.main (F := Ideal))) ⟨m, fun _ => 0, g⟩ (fun r => ∀ c : Dev Cert.PprojZeroIdeal.nD,
          r.2.mem ((c.tc : Thread Cert.PprojZeroIdeal.nD Cert.PprojZeroIdeal.τ).loc Cert.PprojZeroIdeal.main_v3) = v0 c
          ∧ r.2.mem ((c.tc : Thread Cert.PprojZeroIdeal.nD Cert.PprojZeroIdeal.τ).loc Cert.PprojZeroIdeal.main_arg0) = m ((c.tc : Thread Cert.PprojZeroIdeal.nD Cert.PprojZeroIdeal.τ).loc Cert.PprojZeroIdeal.main_arg0)
          ∧ r.2.mem ((c.tc : Thread Cert.PprojZeroIdeal.nD Cert.PprojZeroIdeal.τ).loc Cert.PprojZeroIdeal.main_arg1) = m ((c.tc : Thread Cert.PprojZeroIdeal.nD Cert.PprojZeroIdeal.τ).loc Cert.PprojZeroIdeal.main_arg1))
      ∧ θ_run (Cert.PprojZeroRefIdeal.defs (F := Ideal)) (onTc (τ := Cert.PprojZeroRefIdeal.τ) (Cert.PprojZeroRefIdeal.main (F := Ideal))) ⟨m', fun _ => 0, g'⟩ (fun r => ∀ c : Dev Cert.PprojZeroRefIdeal.nD,
          r.2.mem ((c.tc : Thread Cert.PprojZeroRefIdeal.nD Cert.PprojZeroRefIdeal.τ).loc Cert.PprojZeroRefIdeal.main_v2) = v0 c
          ∧ r.2.mem ((c.tc : Thread Cert.PprojZeroRefIdeal.nD Cert.PprojZeroRefIdeal.τ).loc Cert.PprojZeroRefIdeal.main_arg0) = m' ((c.tc : Thread Cert.PprojZeroRefIdeal.nD Cert.PprojZeroRefIdeal.τ).loc Cert.PprojZeroRefIdeal.main_arg0)
          ∧ r.2.mem ((c.tc : Thread Cert.PprojZeroRefIdeal.nD Cert.PprojZeroRefIdeal.τ).loc Cert.PprojZeroRefIdeal.main_arg1) = m' ((c.tc : Thread Cert.PprojZeroRefIdeal.nD Cert.PprojZeroRefIdeal.τ).loc Cert.PprojZeroRefIdeal.main_arg1))

def preserves_Swiglu_SwigluIdeal : Prop :=
  True

def algebraic_SwigluIdeal_SwigluRefIdeal [hSwigluIdeal : Cert.SwigluIdeal.Facts] [hSwigluRefIdeal : Cert.SwigluRefIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)) →
    ∃ (v0 : (c : Dev Cert.SwigluIdeal.nD) → Buf (Elt Ideal) ((c.tc : Thread Cert.SwigluIdeal.nD Cert.SwigluIdeal.τ).loc Cert.SwigluIdeal.main_v0)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v2) = v0 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1))

def preserves_Dswiglu_DswigluIdeal : Prop :=
  True

def algebraic_DswigluIdeal_DswigluRefIdeal_pre_finite_dswiglu [hDswigluIdeal : Cert.DswigluIdeal.Facts] [hDswigluRefIdeal : Cert.DswigluRefIdeal.Facts] [hPre_finite_dswiglu : Cert.Pre_finite_dswiglu.Facts] : Prop :=
  ∀ (m : (ℓ : Loc Cert.DswigluIdeal.nD Cert.DswigluIdeal.τ Cert.DswigluIdeal.sig) → Buf (Elt Ideal) ℓ) (g : Dev Cert.DswigluIdeal.nD → PrngReg)
    (m' : (ℓ : Loc Cert.DswigluRefIdeal.nD Cert.DswigluRefIdeal.τ Cert.DswigluRefIdeal.sig) → Buf (Elt Ideal) ℓ) (g' : Dev Cert.DswigluRefIdeal.nD → PrngReg), Pre_DswigluIdeal_finite_dswiglu m →
    (∀ c : Dev Cert.DswigluIdeal.nD,
      m' ((c.tc : Thread Cert.DswigluRefIdeal.nD Cert.DswigluRefIdeal.τ).loc Cert.DswigluRefIdeal.main_arg0) = m ((c.tc : Thread Cert.DswigluIdeal.nD Cert.DswigluIdeal.τ).loc Cert.DswigluIdeal.main_arg0)
      ∧ m' ((c.tc : Thread Cert.DswigluRefIdeal.nD Cert.DswigluRefIdeal.τ).loc Cert.DswigluRefIdeal.main_arg1) = m ((c.tc : Thread Cert.DswigluIdeal.nD Cert.DswigluIdeal.τ).loc Cert.DswigluIdeal.main_arg1)
      ∧ m' ((c.tc : Thread Cert.DswigluRefIdeal.nD Cert.DswigluRefIdeal.τ).loc Cert.DswigluRefIdeal.main_arg2) = m ((c.tc : Thread Cert.DswigluIdeal.nD Cert.DswigluIdeal.τ).loc Cert.DswigluIdeal.main_arg2)) →
    ∃ (v0 : (c : Dev Cert.DswigluIdeal.nD) → Buf (Elt Ideal) ((c.tc : Thread Cert.DswigluIdeal.nD Cert.DswigluIdeal.τ).loc Cert.DswigluIdeal.main_v0_0)) (v1 : (c : Dev Cert.DswigluIdeal.nD) → Buf (Elt Ideal) ((c.tc : Thread Cert.DswigluIdeal.nD Cert.DswigluIdeal.τ).loc Cert.DswigluIdeal.main_v0_1)),
      θ_run (Cert.DswigluIdeal.defs (F := Ideal)) (onTc (τ := Cert.DswigluIdeal.τ) (Cert.DswigluIdeal.main (F := Ideal))) ⟨m, fun _ => 0, g⟩ (fun r => ∀ c : Dev Cert.DswigluIdeal.nD,
          r.2.mem ((c.tc : Thread Cert.DswigluIdeal.nD Cert.DswigluIdeal.τ).loc Cert.DswigluIdeal.main_v0_0) = v0 c
          ∧ r.2.mem ((c.tc : Thread Cert.DswigluIdeal.nD Cert.DswigluIdeal.τ).loc Cert.DswigluIdeal.main_v0_1) = v1 c
          ∧ r.2.mem ((c.tc : Thread Cert.DswigluIdeal.nD Cert.DswigluIdeal.τ).loc Cert.DswigluIdeal.main_arg0) = m ((c.tc : Thread Cert.DswigluIdeal.nD Cert.DswigluIdeal.τ).loc Cert.DswigluIdeal.main_arg0)
          ∧ r.2.mem ((c.tc : Thread Cert.DswigluIdeal.nD Cert.DswigluIdeal.τ).loc Cert.DswigluIdeal.main_arg1) = m ((c.tc : Thread Cert.DswigluIdeal.nD Cert.DswigluIdeal.τ).loc Cert.DswigluIdeal.main_arg1)
          ∧ r.2.mem ((c.tc : Thread Cert.DswigluIdeal.nD Cert.DswigluIdeal.τ).loc Cert.DswigluIdeal.main_arg2) = m ((c.tc : Thread Cert.DswigluIdeal.nD Cert.DswigluIdeal.τ).loc Cert.DswigluIdeal.main_arg2))
      ∧ θ_run (Cert.DswigluRefIdeal.defs (F := Ideal)) (onTc (τ := Cert.DswigluRefIdeal.τ) (Cert.DswigluRefIdeal.main (F := Ideal))) ⟨m', fun _ => 0, g'⟩ (fun r => ∀ c : Dev Cert.DswigluRefIdeal.nD,
          r.2.mem ((c.tc : Thread Cert.DswigluRefIdeal.nD Cert.DswigluRefIdeal.τ).loc Cert.DswigluRefIdeal.main_v5) = v0 c
          ∧ r.2.mem ((c.tc : Thread Cert.DswigluRefIdeal.nD Cert.DswigluRefIdeal.τ).loc Cert.DswigluRefIdeal.main_v6) = v1 c
          ∧ r.2.mem ((c.tc : Thread Cert.DswigluRefIdeal.nD Cert.DswigluRefIdeal.τ).loc Cert.DswigluRefIdeal.main_arg0) = m' ((c.tc : Thread Cert.DswigluRefIdeal.nD Cert.DswigluRefIdeal.τ).loc Cert.DswigluRefIdeal.main_arg0)
          ∧ r.2.mem ((c.tc : Thread Cert.DswigluRefIdeal.nD Cert.DswigluRefIdeal.τ).loc Cert.DswigluRefIdeal.main_arg1) = m' ((c.tc : Thread Cert.DswigluRefIdeal.nD Cert.DswigluRefIdeal.τ).loc Cert.DswigluRefIdeal.main_arg1)
          ∧ r.2.mem ((c.tc : Thread Cert.DswigluRefIdeal.nD Cert.DswigluRefIdeal.τ).loc Cert.DswigluRefIdeal.main_arg2) = m' ((c.tc : Thread Cert.DswigluRefIdeal.nD Cert.DswigluRefIdeal.τ).loc Cert.DswigluRefIdeal.main_arg2))

def preserves_Gated_GatedIdeal : Prop :=
  True

def algebraic_GatedIdeal_GatedRefIdeal [hGatedIdeal : Cert.GatedIdeal.Facts] [hGatedRefIdeal : Cert.GatedRefIdeal.Facts] : Prop :=
  ∀ (m : (ℓ : Loc Cert.GatedIdeal.nD Cert.GatedIdeal.τ Cert.GatedIdeal.sig) → Buf (Elt Ideal) ℓ) (g : Dev Cert.GatedIdeal.nD → PrngReg)
    (m' : (ℓ : Loc Cert.GatedRefIdeal.nD Cert.GatedRefIdeal.τ Cert.GatedRefIdeal.sig) → Buf (Elt Ideal) ℓ) (g' : Dev Cert.GatedRefIdeal.nD → PrngReg), Pre_GatedIdeal m →
    (∀ c : Dev Cert.GatedIdeal.nD,
      m' ((c.tc : Thread Cert.GatedRefIdeal.nD Cert.GatedRefIdeal.τ).loc Cert.GatedRefIdeal.main_arg0) = m ((c.tc : Thread Cert.GatedIdeal.nD Cert.GatedIdeal.τ).loc Cert.GatedIdeal.main_arg0)
      ∧ m' ((c.tc : Thread Cert.GatedRefIdeal.nD Cert.GatedRefIdeal.τ).loc Cert.GatedRefIdeal.main_arg1) = m ((c.tc : Thread Cert.GatedIdeal.nD Cert.GatedIdeal.τ).loc Cert.GatedIdeal.main_arg1)
      ∧ m' ((c.tc : Thread Cert.GatedRefIdeal.nD Cert.GatedRefIdeal.τ).loc Cert.GatedRefIdeal.main_arg2) = m ((c.tc : Thread Cert.GatedIdeal.nD Cert.GatedIdeal.τ).loc Cert.GatedIdeal.main_arg2)
      ∧ m' ((c.tc : Thread Cert.GatedRefIdeal.nD Cert.GatedRefIdeal.τ).loc Cert.GatedRefIdeal.main_arg3) = m ((c.tc : Thread Cert.GatedIdeal.nD Cert.GatedIdeal.τ).loc Cert.GatedIdeal.main_arg3)) →
    ∃ (v0 : (c : Dev Cert.GatedIdeal.nD) → Buf (Elt Ideal) ((c.tc : Thread Cert.GatedIdeal.nD Cert.GatedIdeal.τ).loc Cert.GatedIdeal.main_v0)),
      θ_run (Cert.GatedIdeal.defs (F := Ideal)) (onTc (τ := Cert.GatedIdeal.τ) (Cert.GatedIdeal.main (F := Ideal))) ⟨m, fun _ => 0, g⟩ (fun r => ∀ c : Dev Cert.GatedIdeal.nD,
          r.2.mem ((c.tc : Thread Cert.GatedIdeal.nD Cert.GatedIdeal.τ).loc Cert.GatedIdeal.main_v0) = v0 c
          ∧ r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
          ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
          ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
          ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3))
      ∧ θ_run (Cert.GatedRefIdeal.defs (F := Ideal)) (onTc (τ := Cert.GatedRefIdeal.τ) (Cert.GatedRefIdeal.main (F := Ideal))) ⟨m', fun _ => 0, g'⟩ (fun r => ∀ c : Dev Cert.GatedRefIdeal.nD,
          r.2.mem ((c.tc : Thread Cert.GatedRefIdeal.nD Cert.GatedRefIdeal.τ).loc Cert.GatedRefIdeal.main_v9) = v0 c
          ∧ r.2.mem ((c.tc : Thread Cert.GatedRefIdeal.nD Cert.GatedRefIdeal.τ).loc Cert.GatedRefIdeal.main_arg0) = m' ((c.tc : Thread Cert.GatedRefIdeal.nD Cert.GatedRefIdeal.τ).loc Cert.GatedRefIdeal.main_arg0)
          ∧ r.2.mem ((c.tc : Thread Cert.GatedRefIdeal.nD Cert.GatedRefIdeal.τ).loc Cert.GatedRefIdeal.main_arg1) = m' ((c.tc : Thread Cert.GatedRefIdeal.nD Cert.GatedRefIdeal.τ).loc Cert.GatedRefIdeal.main_arg1)
          ∧ r.2.mem ((c.tc : Thread Cert.GatedRefIdeal.nD Cert.GatedRefIdeal.τ).loc Cert.GatedRefIdeal.main_arg2) = m' ((c.tc : Thread Cert.GatedRefIdeal.nD Cert.GatedRefIdeal.τ).loc Cert.GatedRefIdeal.main_arg2)
          ∧ r.2.mem ((c.tc : Thread Cert.GatedRefIdeal.nD Cert.GatedRefIdeal.τ).loc Cert.GatedRefIdeal.main_arg3) = m' ((c.tc : Thread Cert.GatedRefIdeal.nD Cert.GatedRefIdeal.τ).loc Cert.GatedRefIdeal.main_arg3))

def preserves_Dgated_DgatedIdeal : Prop :=
  True

def algebraic_DgatedIdeal_DgatedRefIdeal [hDgatedIdeal : Cert.DgatedIdeal.Facts] [hDgatedRefIdeal : Cert.DgatedRefIdeal.Facts] : Prop :=
  ∀ (m : (ℓ : Loc Cert.DgatedIdeal.nD Cert.DgatedIdeal.τ Cert.DgatedIdeal.sig) → Buf (Elt Ideal) ℓ) (g : Dev Cert.DgatedIdeal.nD → PrngReg)
    (m' : (ℓ : Loc Cert.DgatedRefIdeal.nD Cert.DgatedRefIdeal.τ Cert.DgatedRefIdeal.sig) → Buf (Elt Ideal) ℓ) (g' : Dev Cert.DgatedRefIdeal.nD → PrngReg), Pre_DgatedIdeal m →
    (∀ c : Dev Cert.DgatedIdeal.nD,
      m' ((c.tc : Thread Cert.DgatedRefIdeal.nD Cert.DgatedRefIdeal.τ).loc Cert.DgatedRefIdeal.main_arg0) = m ((c.tc : Thread Cert.DgatedIdeal.nD Cert.DgatedIdeal.τ).loc Cert.DgatedIdeal.main_arg0)
      ∧ m' ((c.tc : Thread Cert.DgatedRefIdeal.nD Cert.DgatedRefIdeal.τ).loc Cert.DgatedRefIdeal.main_arg1) = m ((c.tc : Thread Cert.DgatedIdeal.nD Cert.DgatedIdeal.τ).loc Cert.DgatedIdeal.main_arg1)
      ∧ m' ((c.tc : Thread Cert.DgatedRefIdeal.nD Cert.DgatedRefIdeal.τ).loc Cert.DgatedRefIdeal.main_arg2) = m ((c.tc : Thread Cert.DgatedIdeal.nD Cert.DgatedIdeal.τ).loc Cert.DgatedIdeal.main_arg2)
      ∧ m' ((c.tc : Thread Cert.DgatedRefIdeal.nD Cert.DgatedRefIdeal.τ).loc Cert.DgatedRefIdeal.main_arg3) = m ((c.tc : Thread Cert.DgatedIdeal.nD Cert.DgatedIdeal.τ).loc Cert.DgatedIdeal.main_arg3)) →
    ∃ (v0 : (c : Dev Cert.DgatedIdeal.nD) → Buf (Elt Ideal) ((c.tc : Thread Cert.DgatedIdeal.nD Cert.DgatedIdeal.τ).loc Cert.DgatedIdeal.main_v0_0)) (v1 : (c : Dev Cert.DgatedIdeal.nD) → Buf (Elt Ideal) ((c.tc : Thread Cert.DgatedIdeal.nD Cert.DgatedIdeal.τ).loc Cert.DgatedIdeal.main_v0_1)) (v2 : (c : Dev Cert.DgatedIdeal.nD) → Buf (Elt Ideal) ((c.tc : Thread Cert.DgatedIdeal.nD Cert.DgatedIdeal.τ).loc Cert.DgatedIdeal.main_v0_2)),
      θ_run (Cert.DgatedIdeal.defs (F := Ideal)) (onTc (τ := Cert.DgatedIdeal.τ) (Cert.DgatedIdeal.main (F := Ideal))) ⟨m, fun _ => 0, g⟩ (fun r => ∀ c : Dev Cert.DgatedIdeal.nD,
          r.2.mem ((c.tc : Thread Cert.DgatedIdeal.nD Cert.DgatedIdeal.τ).loc Cert.DgatedIdeal.main_v0_0) = v0 c
          ∧ r.2.mem ((c.tc : Thread Cert.DgatedIdeal.nD Cert.DgatedIdeal.τ).loc Cert.DgatedIdeal.main_v0_1) = v1 c
          ∧ r.2.mem ((c.tc : Thread Cert.DgatedIdeal.nD Cert.DgatedIdeal.τ).loc Cert.DgatedIdeal.main_v0_2) = v2 c
          ∧ r.2.mem ((c.tc : Thread Cert.DgatedIdeal.nD Cert.DgatedIdeal.τ).loc Cert.DgatedIdeal.main_arg0) = m ((c.tc : Thread Cert.DgatedIdeal.nD Cert.DgatedIdeal.τ).loc Cert.DgatedIdeal.main_arg0)
          ∧ r.2.mem ((c.tc : Thread Cert.DgatedIdeal.nD Cert.DgatedIdeal.τ).loc Cert.DgatedIdeal.main_arg1) = m ((c.tc : Thread Cert.DgatedIdeal.nD Cert.DgatedIdeal.τ).loc Cert.DgatedIdeal.main_arg1)
          ∧ r.2.mem ((c.tc : Thread Cert.DgatedIdeal.nD Cert.DgatedIdeal.τ).loc Cert.DgatedIdeal.main_arg2) = m ((c.tc : Thread Cert.DgatedIdeal.nD Cert.DgatedIdeal.τ).loc Cert.DgatedIdeal.main_arg2)
          ∧ r.2.mem ((c.tc : Thread Cert.DgatedIdeal.nD Cert.DgatedIdeal.τ).loc Cert.DgatedIdeal.main_arg3) = m ((c.tc : Thread Cert.DgatedIdeal.nD Cert.DgatedIdeal.τ).loc Cert.DgatedIdeal.main_arg3))
      ∧ θ_run (Cert.DgatedRefIdeal.defs (F := Ideal)) (onTc (τ := Cert.DgatedRefIdeal.τ) (Cert.DgatedRefIdeal.main (F := Ideal))) ⟨m', fun _ => 0, g'⟩ (fun r => ∀ c : Dev Cert.DgatedRefIdeal.nD,
          r.2.mem ((c.tc : Thread Cert.DgatedRefIdeal.nD Cert.DgatedRefIdeal.τ).loc Cert.DgatedRefIdeal.main_v17) = v0 c
          ∧ r.2.mem ((c.tc : Thread Cert.DgatedRefIdeal.nD Cert.DgatedRefIdeal.τ).loc Cert.DgatedRefIdeal.main_v18) = v1 c
          ∧ r.2.mem ((c.tc : Thread Cert.DgatedRefIdeal.nD Cert.DgatedRefIdeal.τ).loc Cert.DgatedRefIdeal.main_v16) = v2 c
          ∧ r.2.mem ((c.tc : Thread Cert.DgatedRefIdeal.nD Cert.DgatedRefIdeal.τ).loc Cert.DgatedRefIdeal.main_arg0) = m' ((c.tc : Thread Cert.DgatedRefIdeal.nD Cert.DgatedRefIdeal.τ).loc Cert.DgatedRefIdeal.main_arg0)
          ∧ r.2.mem ((c.tc : Thread Cert.DgatedRefIdeal.nD Cert.DgatedRefIdeal.τ).loc Cert.DgatedRefIdeal.main_arg1) = m' ((c.tc : Thread Cert.DgatedRefIdeal.nD Cert.DgatedRefIdeal.τ).loc Cert.DgatedRefIdeal.main_arg1)
          ∧ r.2.mem ((c.tc : Thread Cert.DgatedRefIdeal.nD Cert.DgatedRefIdeal.τ).loc Cert.DgatedRefIdeal.main_arg2) = m' ((c.tc : Thread Cert.DgatedRefIdeal.nD Cert.DgatedRefIdeal.τ).loc Cert.DgatedRefIdeal.main_arg2)
          ∧ r.2.mem ((c.tc : Thread Cert.DgatedRefIdeal.nD Cert.DgatedRefIdeal.τ).loc Cert.DgatedRefIdeal.main_arg3) = m' ((c.tc : Thread Cert.DgatedRefIdeal.nD Cert.DgatedRefIdeal.τ).loc Cert.DgatedRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v24) = v0 c
          ∧ r.2.mem ((c.tc : Thread Cert.NormRefIdeal.nD Cert.NormRefIdeal.τ).loc Cert.NormRefIdeal.main_v20) = v1 c
          ∧ r.2.mem ((c.tc : Thread Cert.NormRefIdeal.nD Cert.NormRefIdeal.τ).loc Cert.NormRefIdeal.main_v16) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_Dnorm_DnormIdeal : Prop :=
  True

def algebraic_DnormIdeal_DnormRefIdeal_pre_finite_dln [hDnormIdeal : Cert.DnormIdeal.Facts] [hDnormRefIdeal : Cert.DnormRefIdeal.Facts] [hPre_finite_dln : Cert.Pre_finite_dln.Facts] : Prop :=
  ∀ (m : (ℓ : Loc Cert.DnormIdeal.nD Cert.DnormIdeal.τ Cert.DnormIdeal.sig) → Buf (Elt Ideal) ℓ) (g : Dev Cert.DnormIdeal.nD → PrngReg)
    (m' : (ℓ : Loc Cert.DnormRefIdeal.nD Cert.DnormRefIdeal.τ Cert.DnormRefIdeal.sig) → Buf (Elt Ideal) ℓ) (g' : Dev Cert.DnormRefIdeal.nD → PrngReg), Pre_DnormIdeal_finite_dln m →
    (∀ c : Dev Cert.DnormIdeal.nD,
      m' ((c.tc : Thread Cert.DnormRefIdeal.nD Cert.DnormRefIdeal.τ).loc Cert.DnormRefIdeal.main_arg0) = m ((c.tc : Thread Cert.DnormIdeal.nD Cert.DnormIdeal.τ).loc Cert.DnormIdeal.main_arg0)
      ∧ m' ((c.tc : Thread Cert.DnormRefIdeal.nD Cert.DnormRefIdeal.τ).loc Cert.DnormRefIdeal.main_arg1) = m ((c.tc : Thread Cert.DnormIdeal.nD Cert.DnormIdeal.τ).loc Cert.DnormIdeal.main_arg1)
      ∧ m' ((c.tc : Thread Cert.DnormRefIdeal.nD Cert.DnormRefIdeal.τ).loc Cert.DnormRefIdeal.main_arg2) = m ((c.tc : Thread Cert.DnormIdeal.nD Cert.DnormIdeal.τ).loc Cert.DnormIdeal.main_arg2)
      ∧ m' ((c.tc : Thread Cert.DnormRefIdeal.nD Cert.DnormRefIdeal.τ).loc Cert.DnormRefIdeal.main_arg3) = m ((c.tc : Thread Cert.DnormIdeal.nD Cert.DnormIdeal.τ).loc Cert.DnormIdeal.main_arg3)) →
    ∃ (v0 : (c : Dev Cert.DnormIdeal.nD) → Buf (Elt Ideal) ((c.tc : Thread Cert.DnormIdeal.nD Cert.DnormIdeal.τ).loc Cert.DnormIdeal.main_v18_0)) (v1 : (c : Dev Cert.DnormIdeal.nD) → Buf (Elt Ideal) ((c.tc : Thread Cert.DnormIdeal.nD Cert.DnormIdeal.τ).loc Cert.DnormIdeal.main_v18_1)) (v2 : (c : Dev Cert.DnormIdeal.nD) → Buf (Elt Ideal) ((c.tc : Thread Cert.DnormIdeal.nD Cert.DnormIdeal.τ).loc Cert.DnormIdeal.main_v18_2)),
      θ_run (Cert.DnormIdeal.defs (F := Ideal)) (onTc (τ := Cert.DnormIdeal.τ) (Cert.DnormIdeal.main (F := Ideal))) ⟨m, fun _ => 0, g⟩ (fun r => ∀ c : Dev Cert.DnormIdeal.nD,
          r.2.mem ((c.tc : Thread Cert.DnormIdeal.nD Cert.DnormIdeal.τ).loc Cert.DnormIdeal.main_v18_0) = v0 c
          ∧ r.2.mem ((c.tc : Thread Cert.DnormIdeal.nD Cert.DnormIdeal.τ).loc Cert.DnormIdeal.main_v18_1) = v1 c
          ∧ r.2.mem ((c.tc : Thread Cert.DnormIdeal.nD Cert.DnormIdeal.τ).loc Cert.DnormIdeal.main_v18_2) = v2 c
          ∧ r.2.mem ((c.tc : Thread Cert.DnormIdeal.nD Cert.DnormIdeal.τ).loc Cert.DnormIdeal.main_arg0) = m ((c.tc : Thread Cert.DnormIdeal.nD Cert.DnormIdeal.τ).loc Cert.DnormIdeal.main_arg0)
          ∧ r.2.mem ((c.tc : Thread Cert.DnormIdeal.nD Cert.DnormIdeal.τ).loc Cert.DnormIdeal.main_arg1) = m ((c.tc : Thread Cert.DnormIdeal.nD Cert.DnormIdeal.τ).loc Cert.DnormIdeal.main_arg1)
          ∧ r.2.mem ((c.tc : Thread Cert.DnormIdeal.nD Cert.DnormIdeal.τ).loc Cert.DnormIdeal.main_arg2) = m ((c.tc : Thread Cert.DnormIdeal.nD Cert.DnormIdeal.τ).loc Cert.DnormIdeal.main_arg2)
          ∧ r.2.mem ((c.tc : Thread Cert.DnormIdeal.nD Cert.DnormIdeal.τ).loc Cert.DnormIdeal.main_arg3) = m ((c.tc : Thread Cert.DnormIdeal.nD Cert.DnormIdeal.τ).loc Cert.DnormIdeal.main_arg3))
      ∧ θ_run (Cert.DnormRefIdeal.defs (F := Ideal)) (onTc (τ := Cert.DnormRefIdeal.τ) (Cert.DnormRefIdeal.main (F := Ideal))) ⟨m', fun _ => 0, g'⟩ (fun r => ∀ c : Dev Cert.DnormRefIdeal.nD,
          r.2.mem ((c.tc : Thread Cert.DnormRefIdeal.nD Cert.DnormRefIdeal.τ).loc Cert.DnormRefIdeal.main_v58) = v0 c
          ∧ r.2.mem ((c.tc : Thread Cert.DnormRefIdeal.nD Cert.DnormRefIdeal.τ).loc Cert.DnormRefIdeal.main_v32) = v1 c
          ∧ r.2.mem ((c.tc : Thread Cert.DnormRefIdeal.nD Cert.DnormRefIdeal.τ).loc Cert.DnormRefIdeal.main_v29) = v2 c
          ∧ r.2.mem ((c.tc : Thread Cert.DnormRefIdeal.nD Cert.DnormRefIdeal.τ).loc Cert.DnormRefIdeal.main_arg0) = m' ((c.tc : Thread Cert.DnormRefIdeal.nD Cert.DnormRefIdeal.τ).loc Cert.DnormRefIdeal.main_arg0)
          ∧ r.2.mem ((c.tc : Thread Cert.DnormRefIdeal.nD Cert.DnormRefIdeal.τ).loc Cert.DnormRefIdeal.main_arg1) = m' ((c.tc : Thread Cert.DnormRefIdeal.nD Cert.DnormRefIdeal.τ).loc Cert.DnormRefIdeal.main_arg1)
          ∧ r.2.mem ((c.tc : Thread Cert.DnormRefIdeal.nD Cert.DnormRefIdeal.τ).loc Cert.DnormRefIdeal.main_arg2) = m' ((c.tc : Thread Cert.DnormRefIdeal.nD Cert.DnormRefIdeal.τ).loc Cert.DnormRefIdeal.main_arg2)
          ∧ r.2.mem ((c.tc : Thread Cert.DnormRefIdeal.nD Cert.DnormRefIdeal.τ).loc Cert.DnormRefIdeal.main_arg3) = m' ((c.tc : Thread Cert.DnormRefIdeal.nD Cert.DnormRefIdeal.τ).loc Cert.DnormRefIdeal.main_arg3))

def preserves_Dpool_DpoolIdeal : Prop :=
  True

def algebraic_DpoolIdeal_DpoolRefIdeal [hDpoolIdeal : Cert.DpoolIdeal.Facts] [hDpoolRefIdeal : Cert.DpoolRefIdeal.Facts] : Prop :=
  ∀ (m : (ℓ : Loc Cert.DpoolIdeal.nD Cert.DpoolIdeal.τ Cert.DpoolIdeal.sig) → Buf (Elt Ideal) ℓ) (g : Dev Cert.DpoolIdeal.nD → PrngReg)
    (m' : (ℓ : Loc Cert.DpoolRefIdeal.nD Cert.DpoolRefIdeal.τ Cert.DpoolRefIdeal.sig) → Buf (Elt Ideal) ℓ) (g' : Dev Cert.DpoolRefIdeal.nD → PrngReg), Pre_DpoolIdeal m →
    (∀ c : Dev Cert.DpoolIdeal.nD,
      m' ((c.tc : Thread Cert.DpoolRefIdeal.nD Cert.DpoolRefIdeal.τ).loc Cert.DpoolRefIdeal.main_arg0) = m ((c.tc : Thread Cert.DpoolIdeal.nD Cert.DpoolIdeal.τ).loc Cert.DpoolIdeal.main_arg0)
      ∧ m' ((c.tc : Thread Cert.DpoolRefIdeal.nD Cert.DpoolRefIdeal.τ).loc Cert.DpoolRefIdeal.main_arg1) = m ((c.tc : Thread Cert.DpoolIdeal.nD Cert.DpoolIdeal.τ).loc Cert.DpoolIdeal.main_arg1)
      ∧ m' ((c.tc : Thread Cert.DpoolRefIdeal.nD Cert.DpoolRefIdeal.τ).loc Cert.DpoolRefIdeal.main_arg2) = m ((c.tc : Thread Cert.DpoolIdeal.nD Cert.DpoolIdeal.τ).loc Cert.DpoolIdeal.main_arg2)
      ∧ m' ((c.tc : Thread Cert.DpoolRefIdeal.nD Cert.DpoolRefIdeal.τ).loc Cert.DpoolRefIdeal.main_arg3) = m ((c.tc : Thread Cert.DpoolIdeal.nD Cert.DpoolIdeal.τ).loc Cert.DpoolIdeal.main_arg3)) →
    ∃ (v0 : (c : Dev Cert.DpoolIdeal.nD) → Buf (Elt Ideal) ((c.tc : Thread Cert.DpoolIdeal.nD Cert.DpoolIdeal.τ).loc Cert.DpoolIdeal.main_v1_0)) (v1 : (c : Dev Cert.DpoolIdeal.nD) → Buf (Elt Ideal) ((c.tc : Thread Cert.DpoolIdeal.nD Cert.DpoolIdeal.τ).loc Cert.DpoolIdeal.main_v1_1)) (v2 : (c : Dev Cert.DpoolIdeal.nD) → Buf (Elt Ideal) ((c.tc : Thread Cert.DpoolIdeal.nD Cert.DpoolIdeal.τ).loc Cert.DpoolIdeal.main_v1_2)),
      θ_run (Cert.DpoolIdeal.defs (F := Ideal)) (onTc (τ := Cert.DpoolIdeal.τ) (Cert.DpoolIdeal.main (F := Ideal))) ⟨m, fun _ => 0, g⟩ (fun r => ∀ c : Dev Cert.DpoolIdeal.nD,
          r.2.mem ((c.tc : Thread Cert.DpoolIdeal.nD Cert.DpoolIdeal.τ).loc Cert.DpoolIdeal.main_v1_0) = v0 c
          ∧ r.2.mem ((c.tc : Thread Cert.DpoolIdeal.nD Cert.DpoolIdeal.τ).loc Cert.DpoolIdeal.main_v1_1) = v1 c
          ∧ r.2.mem ((c.tc : Thread Cert.DpoolIdeal.nD Cert.DpoolIdeal.τ).loc Cert.DpoolIdeal.main_v1_2) = v2 c
          ∧ r.2.mem ((c.tc : Thread Cert.DpoolIdeal.nD Cert.DpoolIdeal.τ).loc Cert.DpoolIdeal.main_arg0) = m ((c.tc : Thread Cert.DpoolIdeal.nD Cert.DpoolIdeal.τ).loc Cert.DpoolIdeal.main_arg0)
          ∧ r.2.mem ((c.tc : Thread Cert.DpoolIdeal.nD Cert.DpoolIdeal.τ).loc Cert.DpoolIdeal.main_arg1) = m ((c.tc : Thread Cert.DpoolIdeal.nD Cert.DpoolIdeal.τ).loc Cert.DpoolIdeal.main_arg1)
          ∧ r.2.mem ((c.tc : Thread Cert.DpoolIdeal.nD Cert.DpoolIdeal.τ).loc Cert.DpoolIdeal.main_arg2) = m ((c.tc : Thread Cert.DpoolIdeal.nD Cert.DpoolIdeal.τ).loc Cert.DpoolIdeal.main_arg2)
          ∧ r.2.mem ((c.tc : Thread Cert.DpoolIdeal.nD Cert.DpoolIdeal.τ).loc Cert.DpoolIdeal.main_arg3) = m ((c.tc : Thread Cert.DpoolIdeal.nD Cert.DpoolIdeal.τ).loc Cert.DpoolIdeal.main_arg3))
      ∧ θ_run (Cert.DpoolRefIdeal.defs (F := Ideal)) (onTc (τ := Cert.DpoolRefIdeal.τ) (Cert.DpoolRefIdeal.main (F := Ideal))) ⟨m', fun _ => 0, g'⟩ (fun r => ∀ c : Dev Cert.DpoolRefIdeal.nD,
          r.2.mem ((c.tc : Thread Cert.DpoolRefIdeal.nD Cert.DpoolRefIdeal.τ).loc Cert.DpoolRefIdeal.main_v64) = v0 c
          ∧ r.2.mem ((c.tc : Thread Cert.DpoolRefIdeal.nD Cert.DpoolRefIdeal.τ).loc Cert.DpoolRefIdeal.main_v19) = v1 c
          ∧ r.2.mem ((c.tc : Thread Cert.DpoolRefIdeal.nD Cert.DpoolRefIdeal.τ).loc Cert.DpoolRefIdeal.main_v65) = v2 c
          ∧ r.2.mem ((c.tc : Thread Cert.DpoolRefIdeal.nD Cert.DpoolRefIdeal.τ).loc Cert.DpoolRefIdeal.main_arg0) = m' ((c.tc : Thread Cert.DpoolRefIdeal.nD Cert.DpoolRefIdeal.τ).loc Cert.DpoolRefIdeal.main_arg0)
          ∧ r.2.mem ((c.tc : Thread Cert.DpoolRefIdeal.nD Cert.DpoolRefIdeal.τ).loc Cert.DpoolRefIdeal.main_arg1) = m' ((c.tc : Thread Cert.DpoolRefIdeal.nD Cert.DpoolRefIdeal.τ).loc Cert.DpoolRefIdeal.main_arg1)
          ∧ r.2.mem ((c.tc : Thread Cert.DpoolRefIdeal.nD Cert.DpoolRefIdeal.τ).loc Cert.DpoolRefIdeal.main_arg2) = m' ((c.tc : Thread Cert.DpoolRefIdeal.nD Cert.DpoolRefIdeal.τ).loc Cert.DpoolRefIdeal.main_arg2)
          ∧ r.2.mem ((c.tc : Thread Cert.DpoolRefIdeal.nD Cert.DpoolRefIdeal.τ).loc Cert.DpoolRefIdeal.main_arg3) = m' ((c.tc : Thread Cert.DpoolRefIdeal.nD Cert.DpoolRefIdeal.τ).loc Cert.DpoolRefIdeal.main_arg3))

def preserves_Gating_GatingIdeal : Prop :=
  True

def algebraic_GatingIdeal_GatingRefIdeal [hGatingIdeal : Cert.GatingIdeal.Facts] [hGatingRefIdeal : Cert.GatingRefIdeal.Facts] : Prop :=
  ∀ (m : (ℓ : Loc Cert.GatingIdeal.nD Cert.GatingIdeal.τ Cert.GatingIdeal.sig) → Buf (Elt Ideal) ℓ) (g : Dev Cert.GatingIdeal.nD → PrngReg)
    (m' : (ℓ : Loc Cert.GatingRefIdeal.nD Cert.GatingRefIdeal.τ Cert.GatingRefIdeal.sig) → Buf (Elt Ideal) ℓ) (g' : Dev Cert.GatingRefIdeal.nD → PrngReg), Pre_GatingIdeal m →
    (∀ c : Dev Cert.GatingIdeal.nD,
      m' ((c.tc : Thread Cert.GatingRefIdeal.nD Cert.GatingRefIdeal.τ).loc Cert.GatingRefIdeal.main_arg0) = m ((c.tc : Thread Cert.GatingIdeal.nD Cert.GatingIdeal.τ).loc Cert.GatingIdeal.main_arg0)
      ∧ m' ((c.tc : Thread Cert.GatingRefIdeal.nD Cert.GatingRefIdeal.τ).loc Cert.GatingRefIdeal.main_arg1) = m ((c.tc : Thread Cert.GatingIdeal.nD Cert.GatingIdeal.τ).loc Cert.GatingIdeal.main_arg1)
      ∧ m' ((c.tc : Thread Cert.GatingRefIdeal.nD Cert.GatingRefIdeal.τ).loc Cert.GatingRefIdeal.main_arg2) = m ((c.tc : Thread Cert.GatingIdeal.nD Cert.GatingIdeal.τ).loc Cert.GatingIdeal.main_arg2)
      ∧ m' ((c.tc : Thread Cert.GatingRefIdeal.nD Cert.GatingRefIdeal.τ).loc Cert.GatingRefIdeal.main_arg3) = m ((c.tc : Thread Cert.GatingIdeal.nD Cert.GatingIdeal.τ).loc Cert.GatingIdeal.main_arg3)
      ∧ m' ((c.tc : Thread Cert.GatingRefIdeal.nD Cert.GatingRefIdeal.τ).loc Cert.GatingRefIdeal.main_arg4) = m ((c.tc : Thread Cert.GatingIdeal.nD Cert.GatingIdeal.τ).loc Cert.GatingIdeal.main_arg4)) →
    ∃ (v0 : (c : Dev Cert.GatingIdeal.nD) → Buf (Elt Ideal) ((c.tc : Thread Cert.GatingIdeal.nD Cert.GatingIdeal.τ).loc Cert.GatingIdeal.main_v5_0)) (v1 : (c : Dev Cert.GatingIdeal.nD) → Buf (Elt Ideal) ((c.tc : Thread Cert.GatingIdeal.nD Cert.GatingIdeal.τ).loc Cert.GatingIdeal.main_v5_1)) (v2 : (c : Dev Cert.GatingIdeal.nD) → Buf (Elt Ideal) ((c.tc : Thread Cert.GatingIdeal.nD Cert.GatingIdeal.τ).loc Cert.GatingIdeal.main_v5_2)),
      θ_run (Cert.GatingIdeal.defs (F := Ideal)) (onTc (τ := Cert.GatingIdeal.τ) (Cert.GatingIdeal.main (F := Ideal))) ⟨m, fun _ => 0, g⟩ (fun r => ∀ c : Dev Cert.GatingIdeal.nD,
          r.2.mem ((c.tc : Thread Cert.GatingIdeal.nD Cert.GatingIdeal.τ).loc Cert.GatingIdeal.main_v5_0) = v0 c
          ∧ r.2.mem ((c.tc : Thread Cert.GatingIdeal.nD Cert.GatingIdeal.τ).loc Cert.GatingIdeal.main_v5_1) = v1 c
          ∧ r.2.mem ((c.tc : Thread Cert.GatingIdeal.nD Cert.GatingIdeal.τ).loc Cert.GatingIdeal.main_v5_2) = v2 c
          ∧ r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
          ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
          ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
          ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3)
          ∧ r.2.mem ((c.tc : Thread Cert.GatingIdeal.nD Cert.GatingIdeal.τ).loc Cert.GatingIdeal.main_arg4) = m ((c.tc : Thread Cert.GatingIdeal.nD Cert.GatingIdeal.τ).loc Cert.GatingIdeal.main_arg4))
      ∧ θ_run (Cert.GatingRefIdeal.defs (F := Ideal)) (onTc (τ := Cert.GatingRefIdeal.τ) (Cert.GatingRefIdeal.main (F := Ideal))) ⟨m', fun _ => 0, g'⟩ (fun r => ∀ c : Dev Cert.GatingRefIdeal.nD,
          r.2.mem ((c.tc : Thread Cert.GatingRefIdeal.nD Cert.GatingRefIdeal.τ).loc Cert.GatingRefIdeal.main_v53) = v0 c
          ∧ r.2.mem ((c.tc : Thread Cert.GatingRefIdeal.nD Cert.GatingRefIdeal.τ).loc Cert.GatingRefIdeal.main_v33) = v1 c
          ∧ r.2.mem ((c.tc : Thread Cert.GatingRefIdeal.nD Cert.GatingRefIdeal.τ).loc Cert.GatingRefIdeal.main_v29) = v2 c
          ∧ r.2.mem ((c.tc : Thread Cert.GatingRefIdeal.nD Cert.GatingRefIdeal.τ).loc Cert.GatingRefIdeal.main_arg0) = m' ((c.tc : Thread Cert.GatingRefIdeal.nD Cert.GatingRefIdeal.τ).loc Cert.GatingRefIdeal.main_arg0)
          ∧ r.2.mem ((c.tc : Thread Cert.GatingRefIdeal.nD Cert.GatingRefIdeal.τ).loc Cert.GatingRefIdeal.main_arg1) = m' ((c.tc : Thread Cert.GatingRefIdeal.nD Cert.GatingRefIdeal.τ).loc Cert.GatingRefIdeal.main_arg1)
          ∧ r.2.mem ((c.tc : Thread Cert.GatingRefIdeal.nD Cert.GatingRefIdeal.τ).loc Cert.GatingRefIdeal.main_arg2) = m' ((c.tc : Thread Cert.GatingRefIdeal.nD Cert.GatingRefIdeal.τ).loc Cert.GatingRefIdeal.main_arg2)
          ∧ r.2.mem ((c.tc : Thread Cert.GatingRefIdeal.nD Cert.GatingRefIdeal.τ).loc Cert.GatingRefIdeal.main_arg3) = m' ((c.tc : Thread Cert.GatingRefIdeal.nD Cert.GatingRefIdeal.τ).loc Cert.GatingRefIdeal.main_arg3)
          ∧ r.2.mem ((c.tc : Thread Cert.GatingRefIdeal.nD Cert.GatingRefIdeal.τ).loc Cert.GatingRefIdeal.main_arg4) = m' ((c.tc : Thread Cert.GatingRefIdeal.nD Cert.GatingRefIdeal.τ).loc Cert.GatingRefIdeal.main_arg4))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v15) = v0 c
          ∧ r.2.mem ((c.tc : Thread Cert.LossRefIdeal.nD Cert.LossRefIdeal.τ).loc Cert.LossRefIdeal.main_v14) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_SumIn_SumInIdeal : Prop :=
  True

def algebraic_SumInIdeal_SumInRefIdeal [hSumInIdeal : Cert.SumInIdeal.Facts] [hSumInRefIdeal : Cert.SumInRefIdeal.Facts] : Prop :=
  ∀ (m : (ℓ : Loc Cert.SumInIdeal.nD Cert.SumInIdeal.τ Cert.SumInIdeal.sig) → Buf (Elt Ideal) ℓ) (g : Dev Cert.SumInIdeal.nD → PrngReg)
    (m' : (ℓ : Loc Cert.SumInRefIdeal.nD Cert.SumInRefIdeal.τ Cert.SumInRefIdeal.sig) → Buf (Elt Ideal) ℓ) (g' : Dev Cert.SumInRefIdeal.nD → PrngReg), Pre_SumInIdeal m →
    (∀ c : Dev Cert.SumInIdeal.nD,
      m' ((c.tc : Thread Cert.SumInRefIdeal.nD Cert.SumInRefIdeal.τ).loc Cert.SumInRefIdeal.main_arg0) = m ((c.tc : Thread Cert.SumInIdeal.nD Cert.SumInIdeal.τ).loc Cert.SumInIdeal.main_arg0)) →
    ∃ (v0 : (c : Dev Cert.SumInIdeal.nD) → Buf (Elt Ideal) ((c.tc : Thread Cert.SumInIdeal.nD Cert.SumInIdeal.τ).loc Cert.SumInIdeal.main_v1)),
      θ_run (Cert.SumInIdeal.defs (F := Ideal)) (onTc (τ := Cert.SumInIdeal.τ) (Cert.SumInIdeal.main (F := Ideal))) ⟨m, fun _ => 0, g⟩ (fun r => ∀ c : Dev Cert.SumInIdeal.nD,
          r.2.mem ((c.tc : Thread Cert.SumInIdeal.nD Cert.SumInIdeal.τ).loc Cert.SumInIdeal.main_v1) = v0 c
          ∧ r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ θ_run (Cert.SumInRefIdeal.defs (F := Ideal)) (onTc (τ := Cert.SumInRefIdeal.τ) (Cert.SumInRefIdeal.main (F := Ideal))) ⟨m', fun _ => 0, g'⟩ (fun r => ∀ c : Dev Cert.SumInRefIdeal.nD,
          r.2.mem ((c.tc : Thread Cert.SumInRefIdeal.nD Cert.SumInRefIdeal.τ).loc Cert.SumInRefIdeal.main_v2) = v0 c
          ∧ r.2.mem ((c.tc : Thread Cert.SumInRefIdeal.nD Cert.SumInRefIdeal.τ).loc Cert.SumInRefIdeal.main_arg0) = m' ((c.tc : Thread Cert.SumInRefIdeal.nD Cert.SumInRefIdeal.τ).loc Cert.SumInRefIdeal.main_arg0))

def preserves_SumOut_SumOutIdeal : Prop :=
  True

def algebraic_SumOutIdeal_SumOutRefIdeal [hSumOutIdeal : Cert.SumOutIdeal.Facts] [hSumOutRefIdeal : Cert.SumOutRefIdeal.Facts] : Prop :=
  ∀ (m : (ℓ : Loc Cert.SumOutIdeal.nD Cert.SumOutIdeal.τ Cert.SumOutIdeal.sig) → Buf (Elt Ideal) ℓ) (g : Dev Cert.SumOutIdeal.nD → PrngReg)
    (m' : (ℓ : Loc Cert.SumOutRefIdeal.nD Cert.SumOutRefIdeal.τ Cert.SumOutRefIdeal.sig) → Buf (Elt Ideal) ℓ) (g' : Dev Cert.SumOutRefIdeal.nD → PrngReg), Pre_SumOutIdeal m →
    (∀ c : Dev Cert.SumOutIdeal.nD,
      m' ((c.tc : Thread Cert.SumOutRefIdeal.nD Cert.SumOutRefIdeal.τ).loc Cert.SumOutRefIdeal.main_arg0) = m ((c.tc : Thread Cert.SumOutIdeal.nD Cert.SumOutIdeal.τ).loc Cert.SumOutIdeal.main_arg0)) →
    ∃ (v0 : (c : Dev Cert.SumOutIdeal.nD) → Buf (Elt Ideal) ((c.tc : Thread Cert.SumOutIdeal.nD Cert.SumOutIdeal.τ).loc Cert.SumOutIdeal.main_v1)),
      θ_run (Cert.SumOutIdeal.defs (F := Ideal)) (onTc (τ := Cert.SumOutIdeal.τ) (Cert.SumOutIdeal.main (F := Ideal))) ⟨m, fun _ => 0, g⟩ (fun r => ∀ c : Dev Cert.SumOutIdeal.nD,
          r.2.mem ((c.tc : Thread Cert.SumOutIdeal.nD Cert.SumOutIdeal.τ).loc Cert.SumOutIdeal.main_v1) = v0 c
          ∧ r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0))
      ∧ θ_run (Cert.SumOutRefIdeal.defs (F := Ideal)) (onTc (τ := Cert.SumOutRefIdeal.τ) (Cert.SumOutRefIdeal.main (F := Ideal))) ⟨m', fun _ => 0, g'⟩ (fun r => ∀ c : Dev Cert.SumOutRefIdeal.nD,
          r.2.mem ((c.tc : Thread Cert.SumOutRefIdeal.nD Cert.SumOutRefIdeal.τ).loc Cert.SumOutRefIdeal.main_v2) = v0 c
          ∧ r.2.mem ((c.tc : Thread Cert.SumOutRefIdeal.nD Cert.SumOutRefIdeal.τ).loc Cert.SumOutRefIdeal.main_arg0) = m' ((c.tc : Thread Cert.SumOutRefIdeal.nD Cert.SumOutRefIdeal.τ).loc Cert.SumOutRefIdeal.main_arg0))

def preserves_SumUp_SumUpIdeal : Prop :=
  True

def algebraic_SumUpIdeal_SumUpRefIdeal [hSumUpIdeal : Cert.SumUpIdeal.Facts] [hSumUpRefIdeal : Cert.SumUpRefIdeal.Facts] : Prop :=
  ∀ (m : (ℓ : Loc Cert.SumUpIdeal.nD Cert.SumUpIdeal.τ Cert.SumUpIdeal.sig) → Buf (Elt Ideal) ℓ) (g : Dev Cert.SumUpIdeal.nD → PrngReg)
    (m' : (ℓ : Loc Cert.SumUpRefIdeal.nD Cert.SumUpRefIdeal.τ Cert.SumUpRefIdeal.sig) → Buf (Elt Ideal) ℓ) (g' : Dev Cert.SumUpRefIdeal.nD → PrngReg), Pre_SumUpIdeal m →
    (∀ c : Dev Cert.SumUpIdeal.nD,
      m' ((c.tc : Thread Cert.SumUpRefIdeal.nD Cert.SumUpRefIdeal.τ).loc Cert.SumUpRefIdeal.main_arg0) = m ((c.tc : Thread Cert.SumUpIdeal.nD Cert.SumUpIdeal.τ).loc Cert.SumUpIdeal.main_arg0)) →
    ∃ (v0 : (c : Dev Cert.SumUpIdeal.nD) → Buf (Elt Ideal) ((c.tc : Thread Cert.SumUpIdeal.nD Cert.SumUpIdeal.τ).loc Cert.SumUpIdeal.main_v1)),
      θ_run (Cert.SumUpIdeal.defs (F := Ideal)) (onTc (τ := Cert.SumUpIdeal.τ) (Cert.SumUpIdeal.main (F := Ideal))) ⟨m, fun _ => 0, g⟩ (fun r => ∀ c : Dev Cert.SumUpIdeal.nD,
          r.2.mem ((c.tc : Thread Cert.SumUpIdeal.nD Cert.SumUpIdeal.τ).loc Cert.SumUpIdeal.main_v1) = v0 c
          ∧ r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0))
      ∧ θ_run (Cert.SumUpRefIdeal.defs (F := Ideal)) (onTc (τ := Cert.SumUpRefIdeal.τ) (Cert.SumUpRefIdeal.main (F := Ideal))) ⟨m', fun _ => 0, g'⟩ (fun r => ∀ c : Dev Cert.SumUpRefIdeal.nD,
          r.2.mem ((c.tc : Thread Cert.SumUpRefIdeal.nD Cert.SumUpRefIdeal.τ).loc Cert.SumUpRefIdeal.main_v2) = v0 c
          ∧ r.2.mem ((c.tc : Thread Cert.SumUpRefIdeal.nD Cert.SumUpRefIdeal.τ).loc Cert.SumUpRefIdeal.main_arg0) = m' ((c.tc : Thread Cert.SumUpRefIdeal.nD Cert.SumUpRefIdeal.τ).loc Cert.SumUpRefIdeal.main_arg0))

def preserves_SumDown_SumDownIdeal : Prop :=
  True

def algebraic_SumDownIdeal_SumDownRefIdeal [hSumDownIdeal : Cert.SumDownIdeal.Facts] [hSumDownRefIdeal : Cert.SumDownRefIdeal.Facts] : Prop :=
  ∀ (m : (ℓ : Loc Cert.SumDownIdeal.nD Cert.SumDownIdeal.τ Cert.SumDownIdeal.sig) → Buf (Elt Ideal) ℓ) (g : Dev Cert.SumDownIdeal.nD → PrngReg)
    (m' : (ℓ : Loc Cert.SumDownRefIdeal.nD Cert.SumDownRefIdeal.τ Cert.SumDownRefIdeal.sig) → Buf (Elt Ideal) ℓ) (g' : Dev Cert.SumDownRefIdeal.nD → PrngReg), Pre_SumDownIdeal m →
    (∀ c : Dev Cert.SumDownIdeal.nD,
      m' ((c.tc : Thread Cert.SumDownRefIdeal.nD Cert.SumDownRefIdeal.τ).loc Cert.SumDownRefIdeal.main_arg0) = m ((c.tc : Thread Cert.SumDownIdeal.nD Cert.SumDownIdeal.τ).loc Cert.SumDownIdeal.main_arg0)) →
    ∃ (v0 : (c : Dev Cert.SumDownIdeal.nD) → Buf (Elt Ideal) ((c.tc : Thread Cert.SumDownIdeal.nD Cert.SumDownIdeal.τ).loc Cert.SumDownIdeal.main_v1)),
      θ_run (Cert.SumDownIdeal.defs (F := Ideal)) (onTc (τ := Cert.SumDownIdeal.τ) (Cert.SumDownIdeal.main (F := Ideal))) ⟨m, fun _ => 0, g⟩ (fun r => ∀ c : Dev Cert.SumDownIdeal.nD,
          r.2.mem ((c.tc : Thread Cert.SumDownIdeal.nD Cert.SumDownIdeal.τ).loc Cert.SumDownIdeal.main_v1) = v0 c
          ∧ r.2.mem ((c.tc : Thread Cert.SumDownIdeal.nD Cert.SumDownIdeal.τ).loc Cert.SumDownIdeal.main_arg0) = m ((c.tc : Thread Cert.SumDownIdeal.nD Cert.SumDownIdeal.τ).loc Cert.SumDownIdeal.main_arg0))
      ∧ θ_run (Cert.SumDownRefIdeal.defs (F := Ideal)) (onTc (τ := Cert.SumDownRefIdeal.τ) (Cert.SumDownRefIdeal.main (F := Ideal))) ⟨m', fun _ => 0, g'⟩ (fun r => ∀ c : Dev Cert.SumDownRefIdeal.nD,
          r.2.mem ((c.tc : Thread Cert.SumDownRefIdeal.nD Cert.SumDownRefIdeal.τ).loc Cert.SumDownRefIdeal.main_v2) = v0 c
          ∧ r.2.mem ((c.tc : Thread Cert.SumDownRefIdeal.nD Cert.SumDownRefIdeal.τ).loc Cert.SumDownRefIdeal.main_arg0) = m' ((c.tc : Thread Cert.SumDownRefIdeal.nD Cert.SumDownRefIdeal.τ).loc Cert.SumDownRefIdeal.main_arg0))

def preserves_SumProj_SumProjIdeal : Prop :=
  True

def algebraic_SumProjIdeal_SumProjRefIdeal [hSumProjIdeal : Cert.SumProjIdeal.Facts] [hSumProjRefIdeal : Cert.SumProjRefIdeal.Facts] : Prop :=
  ∀ (m : (ℓ : Loc Cert.SumProjIdeal.nD Cert.SumProjIdeal.τ Cert.SumProjIdeal.sig) → Buf (Elt Ideal) ℓ) (g : Dev Cert.SumProjIdeal.nD → PrngReg)
    (m' : (ℓ : Loc Cert.SumProjRefIdeal.nD Cert.SumProjRefIdeal.τ Cert.SumProjRefIdeal.sig) → Buf (Elt Ideal) ℓ) (g' : Dev Cert.SumProjRefIdeal.nD → PrngReg), Pre_SumProjIdeal m →
    (∀ c : Dev Cert.SumProjIdeal.nD,
      m' ((c.tc : Thread Cert.SumProjRefIdeal.nD Cert.SumProjRefIdeal.τ).loc Cert.SumProjRefIdeal.main_arg0) = m ((c.tc : Thread Cert.SumProjIdeal.nD Cert.SumProjIdeal.τ).loc Cert.SumProjIdeal.main_arg0)) →
    ∃ (v0 : (c : Dev Cert.SumProjIdeal.nD) → Buf (Elt Ideal) ((c.tc : Thread Cert.SumProjIdeal.nD Cert.SumProjIdeal.τ).loc Cert.SumProjIdeal.main_v1)),
      θ_run (Cert.SumProjIdeal.defs (F := Ideal)) (onTc (τ := Cert.SumProjIdeal.τ) (Cert.SumProjIdeal.main (F := Ideal))) ⟨m, fun _ => 0, g⟩ (fun r => ∀ c : Dev Cert.SumProjIdeal.nD,
          r.2.mem ((c.tc : Thread Cert.SumProjIdeal.nD Cert.SumProjIdeal.τ).loc Cert.SumProjIdeal.main_v1) = v0 c
          ∧ r.2.mem ((c.tc : Thread Cert.SumProjIdeal.nD Cert.SumProjIdeal.τ).loc Cert.SumProjIdeal.main_arg0) = m ((c.tc : Thread Cert.SumProjIdeal.nD Cert.SumProjIdeal.τ).loc Cert.SumProjIdeal.main_arg0))
      ∧ θ_run (Cert.SumProjRefIdeal.defs (F := Ideal)) (onTc (τ := Cert.SumProjRefIdeal.τ) (Cert.SumProjRefIdeal.main (F := Ideal))) ⟨m', fun _ => 0, g'⟩ (fun r => ∀ c : Dev Cert.SumProjRefIdeal.nD,
          r.2.mem ((c.tc : Thread Cert.SumProjRefIdeal.nD Cert.SumProjRefIdeal.τ).loc Cert.SumProjRefIdeal.main_v2) = v0 c
          ∧ r.2.mem ((c.tc : Thread Cert.SumProjRefIdeal.nD Cert.SumProjRefIdeal.τ).loc Cert.SumProjRefIdeal.main_arg0) = m' ((c.tc : Thread Cert.SumProjRefIdeal.nD Cert.SumProjRefIdeal.τ).loc Cert.SumProjRefIdeal.main_arg0))

def preserves_SumGate_SumGateIdeal : Prop :=
  True

def algebraic_SumGateIdeal_SumGateRefIdeal [hSumGateIdeal : Cert.SumGateIdeal.Facts] [hSumGateRefIdeal : Cert.SumGateRefIdeal.Facts] : Prop :=
  ∀ (m : (ℓ : Loc Cert.SumGateIdeal.nD Cert.SumGateIdeal.τ Cert.SumGateIdeal.sig) → Buf (Elt Ideal) ℓ) (g : Dev Cert.SumGateIdeal.nD → PrngReg)
    (m' : (ℓ : Loc Cert.SumGateRefIdeal.nD Cert.SumGateRefIdeal.τ Cert.SumGateRefIdeal.sig) → Buf (Elt Ideal) ℓ) (g' : Dev Cert.SumGateRefIdeal.nD → PrngReg), Pre_SumGateIdeal m →
    (∀ c : Dev Cert.SumGateIdeal.nD,
      m' ((c.tc : Thread Cert.SumGateRefIdeal.nD Cert.SumGateRefIdeal.τ).loc Cert.SumGateRefIdeal.main_arg0) = m ((c.tc : Thread Cert.SumGateIdeal.nD Cert.SumGateIdeal.τ).loc Cert.SumGateIdeal.main_arg0)) →
    ∃ (v0 : (c : Dev Cert.SumGateIdeal.nD) → Buf (Elt Ideal) ((c.tc : Thread Cert.SumGateIdeal.nD Cert.SumGateIdeal.τ).loc Cert.SumGateIdeal.main_v1)),
      θ_run (Cert.SumGateIdeal.defs (F := Ideal)) (onTc (τ := Cert.SumGateIdeal.τ) (Cert.SumGateIdeal.main (F := Ideal))) ⟨m, fun _ => 0, g⟩ (fun r => ∀ c : Dev Cert.SumGateIdeal.nD,
          r.2.mem ((c.tc : Thread Cert.SumGateIdeal.nD Cert.SumGateIdeal.τ).loc Cert.SumGateIdeal.main_v1) = v0 c
          ∧ r.2.mem ((c.tc : Thread Cert.SumGateIdeal.nD Cert.SumGateIdeal.τ).loc Cert.SumGateIdeal.main_arg0) = m ((c.tc : Thread Cert.SumGateIdeal.nD Cert.SumGateIdeal.τ).loc Cert.SumGateIdeal.main_arg0))
      ∧ θ_run (Cert.SumGateRefIdeal.defs (F := Ideal)) (onTc (τ := Cert.SumGateRefIdeal.τ) (Cert.SumGateRefIdeal.main (F := Ideal))) ⟨m', fun _ => 0, g'⟩ (fun r => ∀ c : Dev Cert.SumGateRefIdeal.nD,
          r.2.mem ((c.tc : Thread Cert.SumGateRefIdeal.nD Cert.SumGateRefIdeal.τ).loc Cert.SumGateRefIdeal.main_v2) = v0 c
          ∧ r.2.mem ((c.tc : Thread Cert.SumGateRefIdeal.nD Cert.SumGateRefIdeal.τ).loc Cert.SumGateRefIdeal.main_arg0) = m' ((c.tc : Thread Cert.SumGateRefIdeal.nD Cert.SumGateRefIdeal.τ).loc Cert.SumGateRefIdeal.main_arg0))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v0) = v0 c
          ∧ r.2.mem ((c.tc : Thread Cert.AdamInRefIdeal.nD Cert.AdamInRefIdeal.τ).loc Cert.AdamInRefIdeal.main_v24) = v1 c
          ∧ r.2.mem ((c.tc : Thread Cert.AdamInRefIdeal.nD Cert.AdamInRefIdeal.τ).loc Cert.AdamInRefIdeal.main_v5) = v2 c
          ∧ r.2.mem ((c.tc : Thread Cert.AdamInRefIdeal.nD Cert.AdamInRefIdeal.τ).loc Cert.AdamInRefIdeal.main_v11) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v0) = v0 c
          ∧ r.2.mem ((c.tc : Thread Cert.AdamOutRefIdeal.nD Cert.AdamOutRefIdeal.τ).loc Cert.AdamOutRefIdeal.main_v24) = v1 c
          ∧ r.2.mem ((c.tc : Thread Cert.AdamOutRefIdeal.nD Cert.AdamOutRefIdeal.τ).loc Cert.AdamOutRefIdeal.main_v5) = v2 c
          ∧ r.2.mem ((c.tc : Thread Cert.AdamOutRefIdeal.nD Cert.AdamOutRefIdeal.τ).loc Cert.AdamOutRefIdeal.main_v11) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v0) = v0 c
          ∧ r.2.mem ((c.tc : Thread Cert.AdamUpRefIdeal.nD Cert.AdamUpRefIdeal.τ).loc Cert.AdamUpRefIdeal.main_v24) = v1 c
          ∧ r.2.mem ((c.tc : Thread Cert.AdamUpRefIdeal.nD Cert.AdamUpRefIdeal.τ).loc Cert.AdamUpRefIdeal.main_v5) = v2 c
          ∧ r.2.mem ((c.tc : Thread Cert.AdamUpRefIdeal.nD Cert.AdamUpRefIdeal.τ).loc Cert.AdamUpRefIdeal.main_v11) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v0) = v0 c
          ∧ r.2.mem ((c.tc : Thread Cert.AdamDownRefIdeal.nD Cert.AdamDownRefIdeal.τ).loc Cert.AdamDownRefIdeal.main_v24) = v1 c
          ∧ r.2.mem ((c.tc : Thread Cert.AdamDownRefIdeal.nD Cert.AdamDownRefIdeal.τ).loc Cert.AdamDownRefIdeal.main_v5) = v2 c
          ∧ r.2.mem ((c.tc : Thread Cert.AdamDownRefIdeal.nD Cert.AdamDownRefIdeal.τ).loc Cert.AdamDownRefIdeal.main_v11) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4))

def preserves_AdamProj_AdamProjIdeal : Prop :=
  True

def algebraic_AdamProjIdeal_AdamProjRefIdeal [hAdamProjIdeal : Cert.AdamProjIdeal.Facts] [hAdamProjRefIdeal : Cert.AdamProjRefIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg)
    (m' : (ℓ : Loc Cert.AdamProjRefIdeal.nD Cert.AdamProjRefIdeal.τ Cert.AdamProjRefIdeal.sig) → Buf (Elt Ideal) ℓ) (g' : Dev Cert.AdamProjRefIdeal.nD → PrngReg), Pre_AdamProjIdeal m →
    (∀ c : Dev Cert.AdamProjIdeal.nD,
      m' ((c.tc : Thread Cert.AdamProjRefIdeal.nD Cert.AdamProjRefIdeal.τ).loc Cert.AdamProjRefIdeal.main_arg0) = m ((c.tc : Thread Cert.AdamProjIdeal.nD Cert.AdamProjIdeal.τ).loc Cert.AdamProjIdeal.main_arg0)
      ∧ m' ((c.tc : Thread Cert.AdamProjRefIdeal.nD Cert.AdamProjRefIdeal.τ).loc Cert.AdamProjRefIdeal.main_arg1) = m ((c.tc : Thread Cert.AdamProjIdeal.nD Cert.AdamProjIdeal.τ).loc Cert.AdamProjIdeal.main_arg1)
      ∧ m' ((c.tc : Thread Cert.AdamProjRefIdeal.nD Cert.AdamProjRefIdeal.τ).loc Cert.AdamProjRefIdeal.main_arg2) = m ((c.tc : Thread Cert.AdamProjIdeal.nD Cert.AdamProjIdeal.τ).loc Cert.AdamProjIdeal.main_arg2)
      ∧ m' ((c.tc : Thread Cert.AdamProjRefIdeal.nD Cert.AdamProjRefIdeal.τ).loc Cert.AdamProjRefIdeal.main_arg3) = m ((c.tc : Thread Cert.AdamProjIdeal.nD Cert.AdamProjIdeal.τ).loc Cert.AdamProjIdeal.main_arg3)
      ∧ m' ((c.tc : Thread Cert.AdamProjRefIdeal.nD Cert.AdamProjRefIdeal.τ).loc Cert.AdamProjRefIdeal.main_arg4) = m ((c.tc : Thread Cert.AdamProjIdeal.nD Cert.AdamProjIdeal.τ).loc Cert.AdamProjIdeal.main_arg4)) →
    ∃ (v0 : (c : Dev Cert.AdamProjIdeal.nD) → Buf (Elt Ideal) ((c.tc : Thread Cert.AdamProjIdeal.nD Cert.AdamProjIdeal.τ).loc Cert.AdamProjIdeal.main_v0_0)) (v1 : (c : Dev Cert.AdamProjIdeal.nD) → Buf (Elt Ideal) ((c.tc : Thread Cert.AdamProjIdeal.nD Cert.AdamProjIdeal.τ).loc Cert.AdamProjIdeal.main_v0_1)) (v2 : (c : Dev Cert.AdamProjIdeal.nD) → Buf (Elt Ideal) ((c.tc : Thread Cert.AdamProjIdeal.nD Cert.AdamProjIdeal.τ).loc Cert.AdamProjIdeal.main_v0_2)) (v3 : (c : Dev Cert.AdamProjIdeal.nD) → Buf (Elt Ideal) ((c.tc : Thread Cert.AdamProjIdeal.nD Cert.AdamProjIdeal.τ).loc Cert.AdamProjIdeal.main_v0_3)),
      θ_run (Cert.AdamProjIdeal.defs (F := Ideal)) (onTc (τ := Cert.AdamProjIdeal.τ) (Cert.AdamProjIdeal.main (F := Ideal))) ⟨m, fun _ => 0, g⟩ (fun r => ∀ c : Dev Cert.AdamProjIdeal.nD,
          r.2.mem ((c.tc : Thread Cert.AdamProjIdeal.nD Cert.AdamProjIdeal.τ).loc Cert.AdamProjIdeal.main_v0_0) = v0 c
          ∧ r.2.mem ((c.tc : Thread Cert.AdamProjIdeal.nD Cert.AdamProjIdeal.τ).loc Cert.AdamProjIdeal.main_v0_1) = v1 c
          ∧ r.2.mem ((c.tc : Thread Cert.AdamProjIdeal.nD Cert.AdamProjIdeal.τ).loc Cert.AdamProjIdeal.main_v0_2) = v2 c
          ∧ r.2.mem ((c.tc : Thread Cert.AdamProjIdeal.nD Cert.AdamProjIdeal.τ).loc Cert.AdamProjIdeal.main_v0_3) = v3 c
          ∧ r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
          ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
          ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
          ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3)
          ∧ r.2.mem ((c.tc : Thread Cert.AdamProjIdeal.nD Cert.AdamProjIdeal.τ).loc Cert.AdamProjIdeal.main_arg4) = m ((c.tc : Thread Cert.AdamProjIdeal.nD Cert.AdamProjIdeal.τ).loc Cert.AdamProjIdeal.main_arg4))
      ∧ θ_run (Cert.AdamProjRefIdeal.defs (F := Ideal)) (onTc (τ := Cert.AdamProjRefIdeal.τ) (Cert.AdamProjRefIdeal.main (F := Ideal))) ⟨m', fun _ => 0, g'⟩ (fun r => ∀ c : Dev Cert.AdamProjRefIdeal.nD,
          r.2.mem ((c.tc : Thread Cert.AdamProjRefIdeal.nD Cert.AdamProjRefIdeal.τ).loc Cert.AdamProjRefIdeal.main_v0) = v0 c
          ∧ r.2.mem ((c.tc : Thread Cert.AdamProjRefIdeal.nD Cert.AdamProjRefIdeal.τ).loc Cert.AdamProjRefIdeal.main_v24) = v1 c
          ∧ r.2.mem ((c.tc : Thread Cert.AdamProjRefIdeal.nD Cert.AdamProjRefIdeal.τ).loc Cert.AdamProjRefIdeal.main_v5) = v2 c
          ∧ r.2.mem ((c.tc : Thread Cert.AdamProjRefIdeal.nD Cert.AdamProjRefIdeal.τ).loc Cert.AdamProjRefIdeal.main_v11) = v3 c
          ∧ r.2.mem ((c.tc : Thread Cert.AdamProjRefIdeal.nD Cert.AdamProjRefIdeal.τ).loc Cert.AdamProjRefIdeal.main_arg0) = m' ((c.tc : Thread Cert.AdamProjRefIdeal.nD Cert.AdamProjRefIdeal.τ).loc Cert.AdamProjRefIdeal.main_arg0)
          ∧ r.2.mem ((c.tc : Thread Cert.AdamProjRefIdeal.nD Cert.AdamProjRefIdeal.τ).loc Cert.AdamProjRefIdeal.main_arg1) = m' ((c.tc : Thread Cert.AdamProjRefIdeal.nD Cert.AdamProjRefIdeal.τ).loc Cert.AdamProjRefIdeal.main_arg1)
          ∧ r.2.mem ((c.tc : Thread Cert.AdamProjRefIdeal.nD Cert.AdamProjRefIdeal.τ).loc Cert.AdamProjRefIdeal.main_arg2) = m' ((c.tc : Thread Cert.AdamProjRefIdeal.nD Cert.AdamProjRefIdeal.τ).loc Cert.AdamProjRefIdeal.main_arg2)
          ∧ r.2.mem ((c.tc : Thread Cert.AdamProjRefIdeal.nD Cert.AdamProjRefIdeal.τ).loc Cert.AdamProjRefIdeal.main_arg3) = m' ((c.tc : Thread Cert.AdamProjRefIdeal.nD Cert.AdamProjRefIdeal.τ).loc Cert.AdamProjRefIdeal.main_arg3)
          ∧ r.2.mem ((c.tc : Thread Cert.AdamProjRefIdeal.nD Cert.AdamProjRefIdeal.τ).loc Cert.AdamProjRefIdeal.main_arg4) = m' ((c.tc : Thread Cert.AdamProjRefIdeal.nD Cert.AdamProjRefIdeal.τ).loc Cert.AdamProjRefIdeal.main_arg4))

def preserves_AdamGate_AdamGateIdeal : Prop :=
  True

def algebraic_AdamGateIdeal_AdamGateRefIdeal [hAdamGateIdeal : Cert.AdamGateIdeal.Facts] [hAdamGateRefIdeal : Cert.AdamGateRefIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateRefIdeal.nD Cert.AdamGateRefIdeal.τ Cert.AdamGateRefIdeal.sig) → Buf (Elt Ideal) ℓ) (g' : Dev Cert.AdamGateRefIdeal.nD → PrngReg), Pre_AdamGateIdeal m →
    (∀ c : Dev Cert.AdamGateIdeal.nD,
      m' ((c.tc : Thread Cert.AdamGateRefIdeal.nD Cert.AdamGateRefIdeal.τ).loc Cert.AdamGateRefIdeal.main_arg0) = m ((c.tc : Thread Cert.AdamGateIdeal.nD Cert.AdamGateIdeal.τ).loc Cert.AdamGateIdeal.main_arg0)
      ∧ m' ((c.tc : Thread Cert.AdamGateRefIdeal.nD Cert.AdamGateRefIdeal.τ).loc Cert.AdamGateRefIdeal.main_arg1) = m ((c.tc : Thread Cert.AdamGateIdeal.nD Cert.AdamGateIdeal.τ).loc Cert.AdamGateIdeal.main_arg1)
      ∧ m' ((c.tc : Thread Cert.AdamGateRefIdeal.nD Cert.AdamGateRefIdeal.τ).loc Cert.AdamGateRefIdeal.main_arg2) = m ((c.tc : Thread Cert.AdamGateIdeal.nD Cert.AdamGateIdeal.τ).loc Cert.AdamGateIdeal.main_arg2)
      ∧ m' ((c.tc : Thread Cert.AdamGateRefIdeal.nD Cert.AdamGateRefIdeal.τ).loc Cert.AdamGateRefIdeal.main_arg3) = m ((c.tc : Thread Cert.AdamGateIdeal.nD Cert.AdamGateIdeal.τ).loc Cert.AdamGateIdeal.main_arg3)
      ∧ m' ((c.tc : Thread Cert.AdamGateRefIdeal.nD Cert.AdamGateRefIdeal.τ).loc Cert.AdamGateRefIdeal.main_arg4) = m ((c.tc : Thread Cert.AdamGateIdeal.nD Cert.AdamGateIdeal.τ).loc Cert.AdamGateIdeal.main_arg4)) →
    ∃ (v0 : (c : Dev Cert.AdamGateIdeal.nD) → Buf (Elt Ideal) ((c.tc : Thread Cert.AdamGateIdeal.nD Cert.AdamGateIdeal.τ).loc Cert.AdamGateIdeal.main_v0_0)) (v1 : (c : Dev Cert.AdamGateIdeal.nD) → Buf (Elt Ideal) ((c.tc : Thread Cert.AdamGateIdeal.nD Cert.AdamGateIdeal.τ).loc Cert.AdamGateIdeal.main_v0_1)) (v2 : (c : Dev Cert.AdamGateIdeal.nD) → Buf (Elt Ideal) ((c.tc : Thread Cert.AdamGateIdeal.nD Cert.AdamGateIdeal.τ).loc Cert.AdamGateIdeal.main_v0_2)) (v3 : (c : Dev Cert.AdamGateIdeal.nD) → Buf (Elt Ideal) ((c.tc : Thread Cert.AdamGateIdeal.nD Cert.AdamGateIdeal.τ).loc Cert.AdamGateIdeal.main_v0_3)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v0_0) = v0 c
          ∧ r.2.mem ((c.tc : Thread Cert.AdamGateIdeal.nD Cert.AdamGateIdeal.τ).loc Cert.AdamGateIdeal.main_v0_1) = v1 c
          ∧ r.2.mem ((c.tc : Thread Cert.AdamGateIdeal.nD Cert.AdamGateIdeal.τ).loc Cert.AdamGateIdeal.main_v0_2) = v2 c
          ∧ r.2.mem ((c.tc : Thread Cert.AdamGateIdeal.nD Cert.AdamGateIdeal.τ).loc Cert.AdamGateIdeal.main_v0_3) = v3 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3)
          ∧ r.2.mem ((c.tc : Thread Cert.AdamGateIdeal.nD Cert.AdamGateIdeal.τ).loc Cert.AdamGateIdeal.main_arg4) = m ((c.tc : Thread Cert.AdamGateIdeal.nD Cert.AdamGateIdeal.τ).loc Cert.AdamGateIdeal.main_arg4))
      ∧ θ_run (Cert.AdamGateRefIdeal.defs (F := Ideal)) (onTc (τ := Cert.AdamGateRefIdeal.τ) (Cert.AdamGateRefIdeal.main (F := Ideal))) ⟨m', fun _ => 0, g'⟩ (fun r => ∀ c : Dev Cert.AdamGateRefIdeal.nD,
          r.2.mem ((c.tc : Thread Cert.AdamGateRefIdeal.nD Cert.AdamGateRefIdeal.τ).loc Cert.AdamGateRefIdeal.main_v0) = v0 c
          ∧ r.2.mem ((c.tc : Thread Cert.AdamGateRefIdeal.nD Cert.AdamGateRefIdeal.τ).loc Cert.AdamGateRefIdeal.main_v24) = v1 c
          ∧ r.2.mem ((c.tc : Thread Cert.AdamGateRefIdeal.nD Cert.AdamGateRefIdeal.τ).loc Cert.AdamGateRefIdeal.main_v5) = v2 c
          ∧ r.2.mem ((c.tc : Thread Cert.AdamGateRefIdeal.nD Cert.AdamGateRefIdeal.τ).loc Cert.AdamGateRefIdeal.main_v11) = v3 c
          ∧ r.2.mem ((c.tc : Thread Cert.AdamGateRefIdeal.nD Cert.AdamGateRefIdeal.τ).loc Cert.AdamGateRefIdeal.main_arg0) = m' ((c.tc : Thread Cert.AdamGateRefIdeal.nD Cert.AdamGateRefIdeal.τ).loc Cert.AdamGateRefIdeal.main_arg0)
          ∧ r.2.mem ((c.tc : Thread Cert.AdamGateRefIdeal.nD Cert.AdamGateRefIdeal.τ).loc Cert.AdamGateRefIdeal.main_arg1) = m' ((c.tc : Thread Cert.AdamGateRefIdeal.nD Cert.AdamGateRefIdeal.τ).loc Cert.AdamGateRefIdeal.main_arg1)
          ∧ r.2.mem ((c.tc : Thread Cert.AdamGateRefIdeal.nD Cert.AdamGateRefIdeal.τ).loc Cert.AdamGateRefIdeal.main_arg2) = m' ((c.tc : Thread Cert.AdamGateRefIdeal.nD Cert.AdamGateRefIdeal.τ).loc Cert.AdamGateRefIdeal.main_arg2)
          ∧ r.2.mem ((c.tc : Thread Cert.AdamGateRefIdeal.nD Cert.AdamGateRefIdeal.τ).loc Cert.AdamGateRefIdeal.main_arg3) = m' ((c.tc : Thread Cert.AdamGateRefIdeal.nD Cert.AdamGateRefIdeal.τ).loc Cert.AdamGateRefIdeal.main_arg3)
          ∧ r.2.mem ((c.tc : Thread Cert.AdamGateRefIdeal.nD Cert.AdamGateRefIdeal.τ).loc Cert.AdamGateRefIdeal.main_arg4) = m' ((c.tc : Thread Cert.AdamGateRefIdeal.nD Cert.AdamGateRefIdeal.τ).loc Cert.AdamGateRefIdeal.main_arg4))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_arg1) = v0 c
          ∧ r.2.mem ((c.tc : Thread Cert.AdamSmallRefIdeal.nD Cert.AdamSmallRefIdeal.τ).loc Cert.AdamSmallRefIdeal.main_v23) = v1 c
          ∧ r.2.mem ((c.tc : Thread Cert.AdamSmallRefIdeal.nD Cert.AdamSmallRefIdeal.τ).loc Cert.AdamSmallRefIdeal.main_v4) = v2 c
          ∧ r.2.mem ((c.tc : Thread Cert.AdamSmallRefIdeal.nD Cert.AdamSmallRefIdeal.τ).loc Cert.AdamSmallRefIdeal.main_v10) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def Claim : Prop :=
  ∃ (hKernel : Cert.Kernel.Facts) (hKernelIdeal : Cert.KernelIdeal.Facts) (hReferenceIdeal : Cert.ReferenceIdeal.Facts) (hDact : Cert.Dact.Facts) (hDactIdeal : Cert.DactIdeal.Facts) (hDactRefIdeal : Cert.DactRefIdeal.Facts) (hDdown : Cert.Ddown.Facts) (hDdownIdeal : Cert.DdownIdeal.Facts) (hDdownRefIdeal : Cert.DdownRefIdeal.Facts) (hDgatew : Cert.Dgatew.Facts) (hDgatewIdeal : Cert.DgatewIdeal.Facts) (hDgatewRefIdeal : Cert.DgatewRefIdeal.Facts) (hDxa : Cert.Dxa.Facts) (hDxaIdeal : Cert.DxaIdeal.Facts) (hDxaRefIdeal : Cert.DxaRefIdeal.Facts) (hDxb : Cert.Dxb.Facts) (hDxbIdeal : Cert.DxbIdeal.Facts) (hDxbRefIdeal : Cert.DxbRefIdeal.Facts) (hDple : Cert.Dple.Facts) (hDpleIdeal : Cert.DpleIdeal.Facts) (hDpleRefIdeal : Cert.DpleRefIdeal.Facts) (hDproj : Cert.Dproj.Facts) (hDprojIdeal : Cert.DprojIdeal.Facts) (hDprojRefIdeal : Cert.DprojRefIdeal.Facts) (hDgate : Cert.Dgate.Facts) (hDgateIdeal : Cert.DgateIdeal.Facts) (hDgateRefIdeal : Cert.DgateRefIdeal.Facts) (hDout : Cert.Dout.Facts) (hDoutIdeal : Cert.DoutIdeal.Facts) (hDoutRefIdeal : Cert.DoutRefIdeal.Facts) (hDcat : Cert.Dcat.Facts) (hDcatIdeal : Cert.DcatIdeal.Facts) (hDcatRefIdeal : Cert.DcatRefIdeal.Facts) (hDin : Cert.Din.Facts) (hDinIdeal : Cert.DinIdeal.Facts) (hDinRefIdeal : Cert.DinRefIdeal.Facts) (hDx : Cert.Dx.Facts) (hDxIdeal : Cert.DxIdeal.Facts) (hDxRefIdeal : Cert.DxRefIdeal.Facts) (hInp : Cert.Inp.Facts) (hInpIdeal : Cert.InpIdeal.Facts) (hInpRefIdeal : Cert.InpRefIdeal.Facts) (hOut : Cert.Out.Facts) (hOutIdeal : Cert.OutIdeal.Facts) (hOutRefIdeal : Cert.OutRefIdeal.Facts) (hGate : Cert.Gate.Facts) (hGateIdeal : Cert.GateIdeal.Facts) (hGateRefIdeal : Cert.GateRefIdeal.Facts) (hDown : Cert.Down.Facts) (hDownIdeal : Cert.DownIdeal.Facts) (hDownRefIdeal : Cert.DownRefIdeal.Facts) (hPgate : Cert.Pgate.Facts) (hPgateIdeal : Cert.PgateIdeal.Facts) (hPgateRefIdeal : Cert.PgateRefIdeal.Facts) (hPproj : Cert.Pproj.Facts) (hPprojIdeal : Cert.PprojIdeal.Facts) (hPprojRefIdeal : Cert.PprojRefIdeal.Facts) (hDactZero : Cert.DactZero.Facts) (hDactZeroIdeal : Cert.DactZeroIdeal.Facts) (hDactZeroRefIdeal : Cert.DactZeroRefIdeal.Facts) (hDxaZero : Cert.DxaZero.Facts) (hDxaZeroIdeal : Cert.DxaZeroIdeal.Facts) (hDxaZeroRefIdeal : Cert.DxaZeroRefIdeal.Facts) (hDxbZero : Cert.DxbZero.Facts) (hDxbZeroIdeal : Cert.DxbZeroIdeal.Facts) (hDxbZeroRefIdeal : Cert.DxbZeroRefIdeal.Facts) (hDpleZero : Cert.DpleZero.Facts) (hDpleZeroIdeal : Cert.DpleZeroIdeal.Facts) (hDpleZeroRefIdeal : Cert.DpleZeroRefIdeal.Facts) (hGateZero : Cert.GateZero.Facts) (hGateZeroIdeal : Cert.GateZeroIdeal.Facts) (hGateZeroRefIdeal : Cert.GateZeroRefIdeal.Facts) (hDownZero : Cert.DownZero.Facts) (hDownZeroIdeal : Cert.DownZeroIdeal.Facts) (hDownZeroRefIdeal : Cert.DownZeroRefIdeal.Facts) (hPgateZero : Cert.PgateZero.Facts) (hPgateZeroIdeal : Cert.PgateZeroIdeal.Facts) (hPgateZeroRefIdeal : Cert.PgateZeroRefIdeal.Facts) (hPprojZero : Cert.PprojZero.Facts) (hPprojZeroIdeal : Cert.PprojZeroIdeal.Facts) (hPprojZeroRefIdeal : Cert.PprojZeroRefIdeal.Facts) (hSwiglu : Cert.Swiglu.Facts) (hSwigluIdeal : Cert.SwigluIdeal.Facts) (hSwigluRefIdeal : Cert.SwigluRefIdeal.Facts) (hDswiglu : Cert.Dswiglu.Facts) (hDswigluIdeal : Cert.DswigluIdeal.Facts) (hDswigluRefIdeal : Cert.DswigluRefIdeal.Facts) (hGated : Cert.Gated.Facts) (hGatedIdeal : Cert.GatedIdeal.Facts) (hGatedRefIdeal : Cert.GatedRefIdeal.Facts) (hDgated : Cert.Dgated.Facts) (hDgatedIdeal : Cert.DgatedIdeal.Facts) (hDgatedRefIdeal : Cert.DgatedRefIdeal.Facts) (hNorm : Cert.Norm.Facts) (hNormIdeal : Cert.NormIdeal.Facts) (hNormRefIdeal : Cert.NormRefIdeal.Facts) (hDnorm : Cert.Dnorm.Facts) (hDnormIdeal : Cert.DnormIdeal.Facts) (hDnormRefIdeal : Cert.DnormRefIdeal.Facts) (hDpool : Cert.Dpool.Facts) (hDpoolIdeal : Cert.DpoolIdeal.Facts) (hDpoolRefIdeal : Cert.DpoolRefIdeal.Facts) (hGating : Cert.Gating.Facts) (hGatingIdeal : Cert.GatingIdeal.Facts) (hGatingRefIdeal : Cert.GatingRefIdeal.Facts) (hLoss : Cert.Loss.Facts) (hLossIdeal : Cert.LossIdeal.Facts) (hLossRefIdeal : Cert.LossRefIdeal.Facts) (hSumIn : Cert.SumIn.Facts) (hSumInIdeal : Cert.SumInIdeal.Facts) (hSumInRefIdeal : Cert.SumInRefIdeal.Facts) (hSumOut : Cert.SumOut.Facts) (hSumOutIdeal : Cert.SumOutIdeal.Facts) (hSumOutRefIdeal : Cert.SumOutRefIdeal.Facts) (hSumUp : Cert.SumUp.Facts) (hSumUpIdeal : Cert.SumUpIdeal.Facts) (hSumUpRefIdeal : Cert.SumUpRefIdeal.Facts) (hSumDown : Cert.SumDown.Facts) (hSumDownIdeal : Cert.SumDownIdeal.Facts) (hSumDownRefIdeal : Cert.SumDownRefIdeal.Facts) (hSumProj : Cert.SumProj.Facts) (hSumProjIdeal : Cert.SumProjIdeal.Facts) (hSumProjRefIdeal : Cert.SumProjRefIdeal.Facts) (hSumGate : Cert.SumGate.Facts) (hSumGateIdeal : Cert.SumGateIdeal.Facts) (hSumGateRefIdeal : Cert.SumGateRefIdeal.Facts) (hSumSmall : Cert.SumSmall.Facts) (hSumSmallIdeal : Cert.SumSmallIdeal.Facts) (hSumSmallRefIdeal : Cert.SumSmallRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamProj : Cert.AdamProj.Facts) (hAdamProjIdeal : Cert.AdamProjIdeal.Facts) (hAdamProjRefIdeal : Cert.AdamProjRefIdeal.Facts) (hAdamGate : Cert.AdamGate.Facts) (hAdamGateIdeal : Cert.AdamGateIdeal.Facts) (hAdamGateRefIdeal : Cert.AdamGateRefIdeal.Facts) (hAdamSmall : Cert.AdamSmall.Facts) (hAdamSmallIdeal : Cert.AdamSmallIdeal.Facts) (hAdamSmallRefIdeal : Cert.AdamSmallRefIdeal.Facts) (hPre_finite : Cert.Pre_finite.Facts) (hPre_finite_dswiglu : Cert.Pre_finite_dswiglu.Facts) (hPre_finite_dln : Cert.Pre_finite_dln.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Dact (hDact := hDact)
    ∧ quiescent_DactIdeal (hDactIdeal := hDactIdeal)
    ∧ quiescent_DactRefIdeal (hDactRefIdeal := hDactRefIdeal)
    ∧ quiescent_Ddown (hDdown := hDdown)
    ∧ quiescent_DdownIdeal (hDdownIdeal := hDdownIdeal)
    ∧ quiescent_DdownRefIdeal (hDdownRefIdeal := hDdownRefIdeal)
    ∧ quiescent_Dgatew (hDgatew := hDgatew)
    ∧ quiescent_DgatewIdeal (hDgatewIdeal := hDgatewIdeal)
    ∧ quiescent_DgatewRefIdeal (hDgatewRefIdeal := hDgatewRefIdeal)
    ∧ quiescent_Dxa (hDxa := hDxa)
    ∧ quiescent_DxaIdeal (hDxaIdeal := hDxaIdeal)
    ∧ quiescent_DxaRefIdeal (hDxaRefIdeal := hDxaRefIdeal)
    ∧ quiescent_Dxb (hDxb := hDxb)
    ∧ quiescent_DxbIdeal (hDxbIdeal := hDxbIdeal)
    ∧ quiescent_DxbRefIdeal (hDxbRefIdeal := hDxbRefIdeal)
    ∧ quiescent_Dple (hDple := hDple)
    ∧ quiescent_DpleIdeal (hDpleIdeal := hDpleIdeal)
    ∧ quiescent_DpleRefIdeal (hDpleRefIdeal := hDpleRefIdeal)
    ∧ quiescent_Dproj (hDproj := hDproj)
    ∧ quiescent_DprojIdeal (hDprojIdeal := hDprojIdeal)
    ∧ quiescent_DprojRefIdeal (hDprojRefIdeal := hDprojRefIdeal)
    ∧ quiescent_Dgate (hDgate := hDgate)
    ∧ quiescent_DgateIdeal (hDgateIdeal := hDgateIdeal)
    ∧ quiescent_DgateRefIdeal (hDgateRefIdeal := hDgateRefIdeal)
    ∧ quiescent_Dout (hDout := hDout)
    ∧ quiescent_DoutIdeal (hDoutIdeal := hDoutIdeal)
    ∧ quiescent_DoutRefIdeal (hDoutRefIdeal := hDoutRefIdeal)
    ∧ quiescent_Dcat (hDcat := hDcat)
    ∧ quiescent_DcatIdeal (hDcatIdeal := hDcatIdeal)
    ∧ quiescent_DcatRefIdeal (hDcatRefIdeal := hDcatRefIdeal)
    ∧ quiescent_Din (hDin := hDin)
    ∧ quiescent_DinIdeal (hDinIdeal := hDinIdeal)
    ∧ quiescent_DinRefIdeal (hDinRefIdeal := hDinRefIdeal)
    ∧ quiescent_Dx (hDx := hDx)
    ∧ quiescent_DxIdeal (hDxIdeal := hDxIdeal)
    ∧ quiescent_DxRefIdeal (hDxRefIdeal := hDxRefIdeal)
    ∧ quiescent_Inp (hInp := hInp)
    ∧ quiescent_InpIdeal (hInpIdeal := hInpIdeal)
    ∧ quiescent_InpRefIdeal (hInpRefIdeal := hInpRefIdeal)
    ∧ quiescent_Out (hOut := hOut)
    ∧ quiescent_OutIdeal (hOutIdeal := hOutIdeal)
    ∧ quiescent_OutRefIdeal (hOutRefIdeal := hOutRefIdeal)
    ∧ quiescent_Gate (hGate := hGate)
    ∧ quiescent_GateIdeal (hGateIdeal := hGateIdeal)
    ∧ quiescent_GateRefIdeal (hGateRefIdeal := hGateRefIdeal)
    ∧ quiescent_Down (hDown := hDown)
    ∧ quiescent_DownIdeal (hDownIdeal := hDownIdeal)
    ∧ quiescent_DownRefIdeal (hDownRefIdeal := hDownRefIdeal)
    ∧ quiescent_Pgate (hPgate := hPgate)
    ∧ quiescent_PgateIdeal (hPgateIdeal := hPgateIdeal)
    ∧ quiescent_PgateRefIdeal (hPgateRefIdeal := hPgateRefIdeal)
    ∧ quiescent_Pproj (hPproj := hPproj)
    ∧ quiescent_PprojIdeal (hPprojIdeal := hPprojIdeal)
    ∧ quiescent_PprojRefIdeal (hPprojRefIdeal := hPprojRefIdeal)
    ∧ quiescent_DactZero (hDactZero := hDactZero)
    ∧ quiescent_DactZeroIdeal (hDactZeroIdeal := hDactZeroIdeal)
    ∧ quiescent_DactZeroRefIdeal (hDactZeroRefIdeal := hDactZeroRefIdeal)
    ∧ quiescent_DxaZero (hDxaZero := hDxaZero)
    ∧ quiescent_DxaZeroIdeal (hDxaZeroIdeal := hDxaZeroIdeal)
    ∧ quiescent_DxaZeroRefIdeal (hDxaZeroRefIdeal := hDxaZeroRefIdeal)
    ∧ quiescent_DxbZero (hDxbZero := hDxbZero)
    ∧ quiescent_DxbZeroIdeal (hDxbZeroIdeal := hDxbZeroIdeal)
    ∧ quiescent_DxbZeroRefIdeal (hDxbZeroRefIdeal := hDxbZeroRefIdeal)
    ∧ quiescent_DpleZero (hDpleZero := hDpleZero)
    ∧ quiescent_DpleZeroIdeal (hDpleZeroIdeal := hDpleZeroIdeal)
    ∧ quiescent_DpleZeroRefIdeal (hDpleZeroRefIdeal := hDpleZeroRefIdeal)
    ∧ quiescent_GateZero (hGateZero := hGateZero)
    ∧ quiescent_GateZeroIdeal (hGateZeroIdeal := hGateZeroIdeal)
    ∧ quiescent_GateZeroRefIdeal (hGateZeroRefIdeal := hGateZeroRefIdeal)
    ∧ quiescent_DownZero (hDownZero := hDownZero)
    ∧ quiescent_DownZeroIdeal (hDownZeroIdeal := hDownZeroIdeal)
    ∧ quiescent_DownZeroRefIdeal (hDownZeroRefIdeal := hDownZeroRefIdeal)
    ∧ quiescent_PgateZero (hPgateZero := hPgateZero)
    ∧ quiescent_PgateZeroIdeal (hPgateZeroIdeal := hPgateZeroIdeal)
    ∧ quiescent_PgateZeroRefIdeal (hPgateZeroRefIdeal := hPgateZeroRefIdeal)
    ∧ quiescent_PprojZero (hPprojZero := hPprojZero)
    ∧ quiescent_PprojZeroIdeal (hPprojZeroIdeal := hPprojZeroIdeal)
    ∧ quiescent_PprojZeroRefIdeal (hPprojZeroRefIdeal := hPprojZeroRefIdeal)
    ∧ quiescent_Swiglu (hSwiglu := hSwiglu)
    ∧ quiescent_SwigluIdeal (hSwigluIdeal := hSwigluIdeal)
    ∧ quiescent_SwigluRefIdeal (hSwigluRefIdeal := hSwigluRefIdeal)
    ∧ quiescent_Dswiglu (hDswiglu := hDswiglu)
    ∧ quiescent_DswigluIdeal (hDswigluIdeal := hDswigluIdeal)
    ∧ quiescent_DswigluIdeal_pre_finite_dswiglu (hDswigluIdeal := hDswigluIdeal) (hPre_finite_dswiglu := hPre_finite_dswiglu)
    ∧ quiescent_DswigluRefIdeal (hDswigluRefIdeal := hDswigluRefIdeal)
    ∧ quiescent_DswigluRefIdeal_pre_finite_dswiglu (hDswigluRefIdeal := hDswigluRefIdeal) (hPre_finite_dswiglu := hPre_finite_dswiglu)
    ∧ quiescent_Gated (hGated := hGated)
    ∧ quiescent_GatedIdeal (hGatedIdeal := hGatedIdeal)
    ∧ quiescent_GatedRefIdeal (hGatedRefIdeal := hGatedRefIdeal)
    ∧ quiescent_Dgated (hDgated := hDgated)
    ∧ quiescent_DgatedIdeal (hDgatedIdeal := hDgatedIdeal)
    ∧ quiescent_DgatedRefIdeal (hDgatedRefIdeal := hDgatedRefIdeal)
    ∧ quiescent_Norm (hNorm := hNorm)
    ∧ quiescent_NormIdeal (hNormIdeal := hNormIdeal)
    ∧ quiescent_NormRefIdeal (hNormRefIdeal := hNormRefIdeal)
    ∧ quiescent_Dnorm (hDnorm := hDnorm)
    ∧ quiescent_DnormIdeal (hDnormIdeal := hDnormIdeal)
    ∧ quiescent_DnormIdeal_pre_finite_dln (hDnormIdeal := hDnormIdeal) (hPre_finite_dln := hPre_finite_dln)
    ∧ quiescent_DnormRefIdeal (hDnormRefIdeal := hDnormRefIdeal)
    ∧ quiescent_DnormRefIdeal_pre_finite_dln (hDnormRefIdeal := hDnormRefIdeal) (hPre_finite_dln := hPre_finite_dln)
    ∧ quiescent_Dpool (hDpool := hDpool)
    ∧ quiescent_DpoolIdeal (hDpoolIdeal := hDpoolIdeal)
    ∧ quiescent_DpoolRefIdeal (hDpoolRefIdeal := hDpoolRefIdeal)
    ∧ quiescent_Gating (hGating := hGating)
    ∧ quiescent_GatingIdeal (hGatingIdeal := hGatingIdeal)
    ∧ quiescent_GatingRefIdeal (hGatingRefIdeal := hGatingRefIdeal)
    ∧ quiescent_Loss (hLoss := hLoss)
    ∧ quiescent_LossIdeal (hLossIdeal := hLossIdeal)
    ∧ quiescent_LossRefIdeal (hLossRefIdeal := hLossRefIdeal)
    ∧ quiescent_SumIn (hSumIn := hSumIn)
    ∧ quiescent_SumInIdeal (hSumInIdeal := hSumInIdeal)
    ∧ quiescent_SumInRefIdeal (hSumInRefIdeal := hSumInRefIdeal)
    ∧ quiescent_SumOut (hSumOut := hSumOut)
    ∧ quiescent_SumOutIdeal (hSumOutIdeal := hSumOutIdeal)
    ∧ quiescent_SumOutRefIdeal (hSumOutRefIdeal := hSumOutRefIdeal)
    ∧ quiescent_SumUp (hSumUp := hSumUp)
    ∧ quiescent_SumUpIdeal (hSumUpIdeal := hSumUpIdeal)
    ∧ quiescent_SumUpRefIdeal (hSumUpRefIdeal := hSumUpRefIdeal)
    ∧ quiescent_SumDown (hSumDown := hSumDown)
    ∧ quiescent_SumDownIdeal (hSumDownIdeal := hSumDownIdeal)
    ∧ quiescent_SumDownRefIdeal (hSumDownRefIdeal := hSumDownRefIdeal)
    ∧ quiescent_SumProj (hSumProj := hSumProj)
    ∧ quiescent_SumProjIdeal (hSumProjIdeal := hSumProjIdeal)
    ∧ quiescent_SumProjRefIdeal (hSumProjRefIdeal := hSumProjRefIdeal)
    ∧ quiescent_SumGate (hSumGate := hSumGate)
    ∧ quiescent_SumGateIdeal (hSumGateIdeal := hSumGateIdeal)
    ∧ quiescent_SumGateRefIdeal (hSumGateRefIdeal := hSumGateRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamProj (hAdamProj := hAdamProj)
    ∧ quiescent_AdamProjIdeal (hAdamProjIdeal := hAdamProjIdeal)
    ∧ quiescent_AdamProjRefIdeal (hAdamProjRefIdeal := hAdamProjRefIdeal)
    ∧ quiescent_AdamGate (hAdamGate := hAdamGate)
    ∧ quiescent_AdamGateIdeal (hAdamGateIdeal := hAdamGateIdeal)
    ∧ quiescent_AdamGateRefIdeal (hAdamGateRefIdeal := hAdamGateRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Dact_DactIdeal
    ∧ algebraic_DactIdeal_DactRefIdeal (hDactIdeal := hDactIdeal) (hDactRefIdeal := hDactRefIdeal)
    ∧ preserves_Ddown_DdownIdeal
    ∧ algebraic_DdownIdeal_DdownRefIdeal (hDdownIdeal := hDdownIdeal) (hDdownRefIdeal := hDdownRefIdeal)
    ∧ preserves_Dgatew_DgatewIdeal
    ∧ algebraic_DgatewIdeal_DgatewRefIdeal (hDgatewIdeal := hDgatewIdeal) (hDgatewRefIdeal := hDgatewRefIdeal)
    ∧ preserves_Dxa_DxaIdeal
    ∧ algebraic_DxaIdeal_DxaRefIdeal (hDxaIdeal := hDxaIdeal) (hDxaRefIdeal := hDxaRefIdeal)
    ∧ preserves_Dxb_DxbIdeal
    ∧ algebraic_DxbIdeal_DxbRefIdeal (hDxbIdeal := hDxbIdeal) (hDxbRefIdeal := hDxbRefIdeal)
    ∧ preserves_Dple_DpleIdeal
    ∧ algebraic_DpleIdeal_DpleRefIdeal (hDpleIdeal := hDpleIdeal) (hDpleRefIdeal := hDpleRefIdeal)
    ∧ preserves_Dproj_DprojIdeal
    ∧ algebraic_DprojIdeal_DprojRefIdeal (hDprojIdeal := hDprojIdeal) (hDprojRefIdeal := hDprojRefIdeal)
    ∧ preserves_Dgate_DgateIdeal
    ∧ algebraic_DgateIdeal_DgateRefIdeal (hDgateIdeal := hDgateIdeal) (hDgateRefIdeal := hDgateRefIdeal)
    ∧ preserves_Dout_DoutIdeal
    ∧ algebraic_DoutIdeal_DoutRefIdeal (hDoutIdeal := hDoutIdeal) (hDoutRefIdeal := hDoutRefIdeal)
    ∧ preserves_Dcat_DcatIdeal
    ∧ algebraic_DcatIdeal_DcatRefIdeal (hDcatIdeal := hDcatIdeal) (hDcatRefIdeal := hDcatRefIdeal)
    ∧ preserves_Din_DinIdeal
    ∧ algebraic_DinIdeal_DinRefIdeal (hDinIdeal := hDinIdeal) (hDinRefIdeal := hDinRefIdeal)
    ∧ preserves_Dx_DxIdeal
    ∧ algebraic_DxIdeal_DxRefIdeal (hDxIdeal := hDxIdeal) (hDxRefIdeal := hDxRefIdeal)
    ∧ preserves_Inp_InpIdeal
    ∧ algebraic_InpIdeal_InpRefIdeal (hInpIdeal := hInpIdeal) (hInpRefIdeal := hInpRefIdeal)
    ∧ preserves_Out_OutIdeal
    ∧ algebraic_OutIdeal_OutRefIdeal (hOutIdeal := hOutIdeal) (hOutRefIdeal := hOutRefIdeal)
    ∧ preserves_Gate_GateIdeal
    ∧ algebraic_GateIdeal_GateRefIdeal (hGateIdeal := hGateIdeal) (hGateRefIdeal := hGateRefIdeal)
    ∧ preserves_Down_DownIdeal
    ∧ algebraic_DownIdeal_DownRefIdeal (hDownIdeal := hDownIdeal) (hDownRefIdeal := hDownRefIdeal)
    ∧ preserves_Pgate_PgateIdeal
    ∧ algebraic_PgateIdeal_PgateRefIdeal (hPgateIdeal := hPgateIdeal) (hPgateRefIdeal := hPgateRefIdeal)
    ∧ preserves_Pproj_PprojIdeal
    ∧ algebraic_PprojIdeal_PprojRefIdeal (hPprojIdeal := hPprojIdeal) (hPprojRefIdeal := hPprojRefIdeal)
    ∧ preserves_DactZero_DactZeroIdeal
    ∧ algebraic_DactZeroIdeal_DactZeroRefIdeal (hDactZeroIdeal := hDactZeroIdeal) (hDactZeroRefIdeal := hDactZeroRefIdeal)
    ∧ preserves_DxaZero_DxaZeroIdeal
    ∧ algebraic_DxaZeroIdeal_DxaZeroRefIdeal (hDxaZeroIdeal := hDxaZeroIdeal) (hDxaZeroRefIdeal := hDxaZeroRefIdeal)
    ∧ preserves_DxbZero_DxbZeroIdeal
    ∧ algebraic_DxbZeroIdeal_DxbZeroRefIdeal (hDxbZeroIdeal := hDxbZeroIdeal) (hDxbZeroRefIdeal := hDxbZeroRefIdeal)
    ∧ preserves_DpleZero_DpleZeroIdeal
    ∧ algebraic_DpleZeroIdeal_DpleZeroRefIdeal (hDpleZeroIdeal := hDpleZeroIdeal) (hDpleZeroRefIdeal := hDpleZeroRefIdeal)
    ∧ preserves_GateZero_GateZeroIdeal
    ∧ algebraic_GateZeroIdeal_GateZeroRefIdeal (hGateZeroIdeal := hGateZeroIdeal) (hGateZeroRefIdeal := hGateZeroRefIdeal)
    ∧ preserves_DownZero_DownZeroIdeal
    ∧ algebraic_DownZeroIdeal_DownZeroRefIdeal (hDownZeroIdeal := hDownZeroIdeal) (hDownZeroRefIdeal := hDownZeroRefIdeal)
    ∧ preserves_PgateZero_PgateZeroIdeal
    ∧ algebraic_PgateZeroIdeal_PgateZeroRefIdeal (hPgateZeroIdeal := hPgateZeroIdeal) (hPgateZeroRefIdeal := hPgateZeroRefIdeal)
    ∧ preserves_PprojZero_PprojZeroIdeal
    ∧ algebraic_PprojZeroIdeal_PprojZeroRefIdeal (hPprojZeroIdeal := hPprojZeroIdeal) (hPprojZeroRefIdeal := hPprojZeroRefIdeal)
    ∧ preserves_Swiglu_SwigluIdeal
    ∧ algebraic_SwigluIdeal_SwigluRefIdeal (hSwigluIdeal := hSwigluIdeal) (hSwigluRefIdeal := hSwigluRefIdeal)
    ∧ preserves_Dswiglu_DswigluIdeal
    ∧ algebraic_DswigluIdeal_DswigluRefIdeal_pre_finite_dswiglu (hDswigluIdeal := hDswigluIdeal) (hDswigluRefIdeal := hDswigluRefIdeal) (hPre_finite_dswiglu := hPre_finite_dswiglu)
    ∧ preserves_Gated_GatedIdeal
    ∧ algebraic_GatedIdeal_GatedRefIdeal (hGatedIdeal := hGatedIdeal) (hGatedRefIdeal := hGatedRefIdeal)
    ∧ preserves_Dgated_DgatedIdeal
    ∧ algebraic_DgatedIdeal_DgatedRefIdeal (hDgatedIdeal := hDgatedIdeal) (hDgatedRefIdeal := hDgatedRefIdeal)
    ∧ preserves_Norm_NormIdeal
    ∧ algebraic_NormIdeal_NormRefIdeal (hNormIdeal := hNormIdeal) (hNormRefIdeal := hNormRefIdeal)
    ∧ preserves_Dnorm_DnormIdeal
    ∧ algebraic_DnormIdeal_DnormRefIdeal_pre_finite_dln (hDnormIdeal := hDnormIdeal) (hDnormRefIdeal := hDnormRefIdeal) (hPre_finite_dln := hPre_finite_dln)
    ∧ preserves_Dpool_DpoolIdeal
    ∧ algebraic_DpoolIdeal_DpoolRefIdeal (hDpoolIdeal := hDpoolIdeal) (hDpoolRefIdeal := hDpoolRefIdeal)
    ∧ preserves_Gating_GatingIdeal
    ∧ algebraic_GatingIdeal_GatingRefIdeal (hGatingIdeal := hGatingIdeal) (hGatingRefIdeal := hGatingRefIdeal)
    ∧ preserves_Loss_LossIdeal
    ∧ algebraic_LossIdeal_LossRefIdeal (hLossIdeal := hLossIdeal) (hLossRefIdeal := hLossRefIdeal)
    ∧ preserves_SumIn_SumInIdeal
    ∧ algebraic_SumInIdeal_SumInRefIdeal (hSumInIdeal := hSumInIdeal) (hSumInRefIdeal := hSumInRefIdeal)
    ∧ preserves_SumOut_SumOutIdeal
    ∧ algebraic_SumOutIdeal_SumOutRefIdeal (hSumOutIdeal := hSumOutIdeal) (hSumOutRefIdeal := hSumOutRefIdeal)
    ∧ preserves_SumUp_SumUpIdeal
    ∧ algebraic_SumUpIdeal_SumUpRefIdeal (hSumUpIdeal := hSumUpIdeal) (hSumUpRefIdeal := hSumUpRefIdeal)
    ∧ preserves_SumDown_SumDownIdeal
    ∧ algebraic_SumDownIdeal_SumDownRefIdeal (hSumDownIdeal := hSumDownIdeal) (hSumDownRefIdeal := hSumDownRefIdeal)
    ∧ preserves_SumProj_SumProjIdeal
    ∧ algebraic_SumProjIdeal_SumProjRefIdeal (hSumProjIdeal := hSumProjIdeal) (hSumProjRefIdeal := hSumProjRefIdeal)
    ∧ preserves_SumGate_SumGateIdeal
    ∧ algebraic_SumGateIdeal_SumGateRefIdeal (hSumGateIdeal := hSumGateIdeal) (hSumGateRefIdeal := hSumGateRefIdeal)
    ∧ preserves_SumSmall_SumSmallIdeal
    ∧ algebraic_SumSmallIdeal_SumSmallRefIdeal (hSumSmallIdeal := hSumSmallIdeal) (hSumSmallRefIdeal := hSumSmallRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamProj_AdamProjIdeal
    ∧ algebraic_AdamProjIdeal_AdamProjRefIdeal (hAdamProjIdeal := hAdamProjIdeal) (hAdamProjRefIdeal := hAdamProjRefIdeal)
    ∧ preserves_AdamGate_AdamGateIdeal
    ∧ algebraic_AdamGateIdeal_AdamGateRefIdeal (hAdamGateIdeal := hAdamGateIdeal) (hAdamGateRefIdeal := hAdamGateRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== Pre_finite.lean ====
abbrev S2048x2048 : Shape := ⟨2, ![2048, 2048]⟩
abbrev S2048x1024 : Shape := ⟨2, ![2048, 1024]⟩
abbrev S512 : Shape := ⟨1, ![512]⟩
abbrev S4x128x128 : Shape := ⟨3, ![4, 128, 128]⟩
abbrev S4x128 : Shape := ⟨2, ![4, 128]⟩
abbrev S_ : Shape := ⟨0, ![]⟩

class Facts : Prop where
  bcast_S_S2048x2048 : S_.BroadcastsInDim S2048x2048 (![] : Fin 0 → Fin S2048x2048.rank)
  bcast_S_S2048x1024 : S_.BroadcastsInDim S2048x1024 (![] : Fin 0 → Fin S2048x1024.rank)
  bcast_S_S512 : S_.BroadcastsInDim S512 (![] : Fin 0 → Fin S512.rank)
  bcast_S_S4x128x128 : S_.BroadcastsInDim S4x128x128 (![] : Fin 0 → Fin S4x128x128.rank)
  bcast_S_S4x128 : S_.BroadcastsInDim S4x128 (![] : Fin 0 → Fin S4x128.rank)

variable [Facts]

def fn {F : FTy → Type} [FloatOps F] (main_arg0 : FVec F S2048x2048 .f32) (main_arg1 : FVec F S2048x1024 .f32) (main_arg2 : FVec F S512 .f32) (main_arg3 : FVec F S512 .f32) (main_arg4 : FVec F S4x128x128 .f32) (main_arg5 : FVec F S4x128 .f32) : IVec S2048x2048 1 × IVec S2048x1024 1 × IVec S512 1 × IVec S512 1 × IVec S4x128x128 1 × IVec S4x128 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S512 .f32 := Host.absf main_arg2
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_v12 : FVec F S4x128x128 .f32 := Host.absf main_arg4
  let main_cst_3 : FVec F S_ .f32 := constant S_ .f32 0x7F800000#32
  let main_v13 : FVec F S4x128x128 .f32 := broadcastInDim S4x128x128 ![] bcast_S_S4x128x128 main_cst_3
  let main_v14 : IVec S4x128x128 1 := cmpf .olt main_v12 main_v13
  let main_v15 : FVec F S4x128 .f32 := Host.absf main_arg5
  let main_cst_4 : FVec F S_ .f32 := constant S_ .f32 0x7F800000#32
  let main_v16 : FVec F S4x128 .f32 := broadcastInDim S4x128 ![] bcast_S_S4x128 main_cst_4
  let main_v17 : IVec S4x128 1 := cmpf .olt main_v15 main_v16
  (main_v2, main_v5, main_v8, main_v11, main_v14, main_v17)
-- ==== Pre_finite_dln.lean ====
abbrev S2048x1024 : Shape := ⟨2, ![2048, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  bcast_S_S1x1024 : S_.BroadcastsInDim S1x1024 (![] : Fin 0 → Fin S1x1024.rank)

variable [Facts]

def fn {F : FTy → Type} [FloatOps F] (main_arg0 : FVec F S2048x1024 .f32) (main_arg1 : FVec F S2048x1024 .f32) (main_arg2 : FVec F S1x1024 .f32) (main_arg3 : FVec F S1x1024 .f32) : IVec S2048x1024 1 × IVec S2048x1024 1 × IVec S1x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  (main_v2, main_v5, main_v8)
-- ==== Pre_finite_dswiglu.lean ====
abbrev S4x2048x704 : Shape := ⟨3, ![4, 2048, 704]⟩
abbrev S_ : Shape := ⟨0, ![]⟩

class Facts : Prop where
  bcast_S_S4x2048x704 : S_.BroadcastsInDim S4x2048x704 (![] : Fin 0 → Fin S4x2048x704.rank)

variable [Facts]

def fn {F : FTy → Type} [FloatOps F] (main_arg0 : FVec F S4x2048x704 .f32) (main_arg1 : FVec F S4x2048x704 .f32) (main_arg2 : FVec F S4x2048x704 .f32) : IVec S4x2048x704 1 × IVec S4x2048x704 1 :=
  let main_v0 : FVec F S4x2048x704 .f32 := Host.absf main_arg0
  let main_cst : FVec F S_ .f32 := constant S_ .f32 0x7F800000#32
  let main_v1 : FVec F S4x2048x704 .f32 := broadcastInDim S4x2048x704 ![] bcast_S_S4x2048x704 main_cst
  let main_v2 : IVec S4x2048x704 1 := cmpf .olt main_v0 main_v1
  let main_v3 : FVec F S4x2048x704 .f32 := Host.absf main_arg2
  let main_cst_0 : FVec F S_ .f32 := constant S_ .f32 0x7F800000#32
  let main_v4 : FVec F S4x2048x704 .f32 := broadcastInDim S4x2048x704 ![] bcast_S_S4x2048x704 main_cst_0
  let main_v5 : IVec S4x2048x704 1 := cmpf .olt main_v3 main_v4
  (main_v2, main_v5)
-- ==== Kernel.lean ====
abbrev S2048x2048 : Shape := ⟨2, ![2048, 2048]⟩
abbrev S2048x1024 : Shape := ⟨2, ![2048, 1024]⟩
abbrev S512 : Shape := ⟨1, ![512]⟩
abbrev S4x128x128 : Shape := ⟨3, ![4, 128, 128]⟩
abbrev S4x128 : Shape := ⟨2, ![4, 128]⟩
abbrev S2048x4x512 : Shape := ⟨3, ![2048, 4, 512]⟩
abbrev S4x2048x512 : Shape := ⟨3, ![4, 2048, 512]⟩
abbrev S1x2048x512 : Shape := ⟨3, ![1, 2048, 512]⟩
abbrev S2048x512 : Shape := ⟨2, ![2048, 512]⟩
abbrev S_ : Shape := ⟨0, ![]⟩
abbrev S2048 : Shape := ⟨1, ![2048]⟩
abbrev S2048x1 : Shape := ⟨2, ![2048, 1]⟩
abbrev S1x512 : Shape := ⟨2, ![1, 512]⟩
abbrev S128x4 : Shape := ⟨2, ![128, 4]⟩
abbrev S128x512 : Shape := ⟨2, ![128, 512]⟩
abbrev S1x128x512 : Shape := ⟨3, ![1, 128, 512]⟩
abbrev S128x1 : Shape := ⟨2, ![128, 1]⟩
abbrev S128x128 : Shape := ⟨2, ![128, 128]⟩
abbrev S1x128x128 : Shape := ⟨3, ![1, 128, 128]⟩
abbrev S128 : Shape := ⟨1, ![128]⟩

abbrev nBuf : Space → Nat
  | .hbm => 59
  | .vmem => 22
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S512, .f32⟩
  | .hbm, ⟨3, _⟩ => ⟨S512, .f32⟩
  | .hbm, ⟨4, _⟩ => ⟨S4x128x128, .f32⟩
  | .hbm, ⟨5, _⟩ => ⟨S4x128, .f32⟩
  | .hbm, ⟨6, _⟩ => ⟨S2048x4x512, .f32⟩
  | .hbm, ⟨7, _⟩ => ⟨S4x2048x512, .f32⟩
  | .hbm, ⟨8, _⟩ => ⟨S1x2048x512, .f32⟩
  | .hbm, ⟨9, _⟩ => ⟨S2048x512, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2048x512, .f32⟩
  | .hbm, ⟨14, _⟩ => ⟨S2048x512, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S_, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S_, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S_, .f32⟩
  | .hbm, ⟨30, _⟩ => ⟨S2048, .f32⟩
  | .hbm, ⟨31, _⟩ => ⟨S2048x1, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S_, .f32⟩
  | .hbm, ⟨39, _⟩ => ⟨S2048, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S2048x1, .f32⟩
  | .hbm, ⟨48, _⟩ => ⟨S2048x512, .f32⟩
  | .hbm, ⟨49, _⟩ => ⟨S2048x512, .f32⟩
  | .hbm, ⟨50, _⟩ => ⟨S1x512, .f32⟩
  | .hbm, ⟨51, _⟩ => ⟨S1x512, .f32⟩
  | .hbm, ⟨52, _⟩ => ⟨S128x4, .f32⟩
  | .hbm, ⟨53, _⟩ => ⟨S2048x512, .f32⟩
  | .hbm, ⟨54, _⟩ => ⟨S2048x512, .f32⟩
  | .hbm, ⟨55, _⟩ => ⟨S4x128x128, .f32⟩
  | .hbm, ⟨56, _⟩ => ⟨S4x128x128, .f32⟩
  | .hbm, ⟨57, _⟩ => ⟨S1x512, .f32⟩
  | .hbm, ⟨58, _⟩ => ⟨S1x512, .f32⟩
  | .local _ .vmem, ⟨0, _⟩ => ⟨S128x512, .f32⟩
  | .local _ .vmem, ⟨1, _⟩ => ⟨S128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S128x512, .f32⟩
  | .local _ .vmem, ⟨7, _⟩ => ⟨S128x512, .f32⟩
  | .local _ .vmem, ⟨8, _⟩ => ⟨S128x1, .f32⟩
  | .local _ .vmem, ⟨9, _⟩ => ⟨S128x1, .f32⟩
  | .local _ .vmem, ⟨10, _⟩ => ⟨S1x512, .f32⟩
  | .local _ .vmem, ⟨11, _⟩ => ⟨S1x512, .f32⟩
  | .local _ .vmem, ⟨12, _⟩ => ⟨S4x128x128, .f32⟩
  | .local _ .vmem, ⟨13, _⟩ => ⟨S128x4, .f32⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | .local _ .vmem, ⟨18, _⟩ => ⟨S4x128x128, .f32⟩
  | .local _ .vmem, ⟨19, _⟩ => ⟨S4x128x128, .f32⟩
  | .local _ .vmem, ⟨20, _⟩ => ⟨S1x512, .f32⟩
  | .local _ .vmem, ⟨21, _⟩ => ⟨S1x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37_0 : Ref sig .tc := ⟨.hbm, 53, rfl⟩
abbrev main_v37_1 : Ref sig .tc := ⟨.hbm, 54, rfl⟩
abbrev main_v37_2 : Ref sig .tc := ⟨.hbm, 55, rfl⟩
abbrev main_v37_3 : Ref sig .tc := ⟨.hbm, 56, rfl⟩
abbrev main_v37_4 : Ref sig .tc := ⟨.hbm, 57, rfl⟩
abbrev main_v37_5 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S4x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== KernelIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== ReferenceIdeal.lean ====
abbrev S2048x2048 : Shape := ⟨2, ![2048, 2048]⟩
abbrev S2048x1024 : Shape := ⟨2, ![2048, 1024]⟩
abbrev S512 : Shape := ⟨1, ![512]⟩
abbrev S4x128x128 : Shape := ⟨3, ![4, 128, 128]⟩
abbrev S4x128 : Shape := ⟨2, ![4, 128]⟩
abbrev S_ : Shape := ⟨0, ![]⟩
abbrev S2048x512 : Shape := ⟨2, ![2048, 512]⟩
abbrev S2048 : Shape := ⟨1, ![2048]⟩
abbrev S2048x1 : Shape := ⟨2, ![2048, 1]⟩
abbrev S1x512 : Shape := ⟨2, ![1, 512]⟩
abbrev S128x128 : Shape := ⟨2, ![128, 128]⟩
abbrev S1x128x128 : Shape := ⟨3, ![1, 128, 128]⟩
abbrev S16x128x4x128 : Shape := ⟨4, ![16, 128, 4, 128]⟩
abbrev S4x16x128x128 : Shape := ⟨4, ![4, 16, 128, 128]⟩
abbrev S128x4 : Shape := ⟨2, ![128, 4]⟩
abbrev S1x128x4x1 : Shape := ⟨4, ![1, 128, 4, 1]⟩
abbrev S4x128x1 : Shape := ⟨3, ![4, 128, 1]⟩

abbrev nBuf : Space → Nat
  | .hbm => 186
  | .vmem => 0
  | .smem => 0
  | _ => 0

abbrev hbmTy0_0 (i : Nat) : BufTy := match i % 128 with
  | 0 => ⟨S2048x2048, .f32⟩
  | 1 => ⟨S2048x1024, .f32⟩
  | 2 => ⟨S512, .f32⟩
  | 3 => ⟨S512, .f32⟩
  | 4 => ⟨S4x128x128, .f32⟩
  | 5 => ⟨S4x128, .f32⟩
  | 6 => ⟨S2048x1024, .f32⟩
  | 7 => ⟨S_, .f32⟩
  | 8 => ⟨S_, .f32⟩
  | 9 => ⟨S_, .f32⟩
  | 10 => ⟨S2048x1024, .f32⟩
  | 11 => ⟨S2048x1024, .f32⟩
  | 12 => ⟨S2048x1024, .f32⟩
  | 13 => ⟨S_, .f32⟩
  | 14 => ⟨S2048x1024, .f32⟩
  | 15 => ⟨S2048x1024, .f32⟩
  | 16 => ⟨S2048x1024, .f32⟩
  | 17 => ⟨S2048x1024, .f32⟩
  | 18 => ⟨S2048x1024, .f32⟩
  | 19 => ⟨S_, .f32⟩
  | 20 => ⟨S2048x1024, .f32⟩
  | 21 => ⟨S2048x1024, .f32⟩
  | 22 => ⟨S2048x1024, .f32⟩
  | 23 => ⟨S_, .f32⟩
  | 24 => ⟨S2048x1024, .f32⟩
  | 25 => ⟨S2048x1024, .f32⟩
  | 26 => ⟨S_, .f32⟩
  | 27 => ⟨S2048x1024, .f32⟩
  | 28 => ⟨S2048x1024, .f32⟩
  | 29 => ⟨S2048x1024, .f32⟩
  | 30 => ⟨S_, .f32⟩
  | 31 => ⟨S2048x1024, .f32⟩
  | 32 => ⟨S2048x1024, .f32⟩
  | 33 => ⟨S_, .f32⟩
  | 34 => ⟨S2048x1024, .f32⟩
  | 35 => ⟨S2048x1024, .f32⟩
  | 36 => ⟨S2048x1024, .f32⟩
  | 37 => ⟨S2048x512, .f32⟩
  | 38 => ⟨S2048x512, .f32⟩
  | 39 => ⟨S_, .f32⟩
  | 40 => ⟨S2048, .f32⟩
  | 41 => ⟨S2048x1, .f32⟩
  | 42 => ⟨S_, .f32⟩
  | 43 => ⟨S2048x1, .f32⟩
  | 44 => ⟨S2048x1, .f32⟩
  | 45 => ⟨S2048x512, .f32⟩
  | 46 => ⟨S2048x512, .f32⟩
  | 47 => ⟨S2048x512, .f32⟩
  | 48 => ⟨S_, .f32⟩
  | 49 => ⟨S2048x512, .f32⟩
  | 50 => ⟨S2048x512, .f32⟩
  | 51 => ⟨S_, .f32⟩
  | 52 => ⟨S2048, .f32⟩
  | 53 => ⟨S2048x1, .f32⟩
  | 54 => ⟨S_, .f32⟩
  | 55 => ⟨S2048x1, .f32⟩
  | 56 => ⟨S2048x1, .f32⟩
  | 57 => ⟨S2048x512, .f32⟩
  | 58 => ⟨S2048x512, .f32⟩
  | 59 => ⟨S_, .f32⟩
  | 60 => ⟨S2048x1, .f32⟩
  | 61 => ⟨S2048x1, .f32⟩
  | 62 => ⟨S2048x1, .f32⟩
  | 63 => ⟨S2048x1, .f32⟩
  | 64 => ⟨S_, .f32⟩
  | 65 => ⟨S2048x1, .f32⟩
  | 66 => ⟨S2048x1, .f32⟩
  | 67 => ⟨S2048x512, .f32⟩
  | 68 => ⟨S2048x512, .f32⟩
  | 69 => ⟨S1x512, .f32⟩
  | 70 => ⟨S2048x512, .f32⟩
  | 71 => ⟨S2048x512, .f32⟩
  | 72 => ⟨S1x512, .f32⟩
  | 73 => ⟨S2048x512, .f32⟩
  | 74 => ⟨S2048x512, .f32⟩
  | 75 => ⟨S_, .f32⟩
  | 76 => ⟨S128x128, .f32⟩
  | 77 => ⟨S128x128, .i32⟩
  | 78 => ⟨S_, .i32⟩
  | 79 => ⟨S128x128, .i32⟩
  | 80 => ⟨S128x128, .i32⟩
  | 81 => ⟨S128x128, .i32⟩
  | 82 => ⟨S128x128, .i1⟩
  | 83 => ⟨S_, .f32⟩
  | 84 => ⟨S128x128, .f32⟩
  | 85 => ⟨S128x128, .f32⟩
  | 86 => ⟨S1x128x128, .f32⟩
  | 87 => ⟨S4x128x128, .f32⟩
  | 88 => ⟨S4x128x128, .f32⟩
  | 89 => ⟨S16x128x4x128, .f32⟩
  | 90 => ⟨S4x16x128x128, .f32⟩
  | 91 => ⟨S16x128x4x128, .f32⟩
  | 92 => ⟨S128x4, .f32⟩
  | 93 => ⟨S1x128x4x1, .f32⟩
  | 94 => ⟨S16x128x4x128, .f32⟩
  | 95 => ⟨S16x128x4x128, .f32⟩
  | 96 => ⟨S2048x512, .f32⟩
  | 97 => ⟨S2048x512, .f32⟩
  | 98 => ⟨S2048x512, .f32⟩
  | 99 => ⟨S2048x512, .f32⟩
  | 100 => ⟨S2048x512, .f32⟩
  | 101 => ⟨S16x128x4x128, .f32⟩
  | 102 => ⟨S_, .f32⟩
  | 103 => ⟨S128x4, .f32⟩
  | 104 => ⟨S1x128x4x1, .f32⟩
  | 105 => ⟨S_, .f32⟩
  | 106 => ⟨S128x4, .f32⟩
  | 107 => ⟨S4x128, .f32⟩
  | 108 => ⟨S4x16x128x128, .f32⟩
  | 109 => ⟨S4x128x128, .f32⟩
  | 110 => ⟨S4x16x128x128, .f32⟩
  | 111 => ⟨S16x128x4x128, .f32⟩
  | 112 => ⟨S2048x512, .f32⟩
  | 113 => ⟨S4x128x128, .f32⟩
  | 114 => ⟨S4x128x128, .f32⟩
  | 115 => ⟨S_, .f32⟩
  | 116 => ⟨S512, .f32⟩
  | 117 => ⟨S1x512, .f32⟩
  | 118 => ⟨S_, .f32⟩
  | 119 => ⟨S512, .f32⟩
  | 120 => ⟨S2048x512, .f32⟩
  | 121 => ⟨S_, .f32⟩
  | 122 => ⟨S512, .f32⟩
  | 123 => ⟨S1x512, .f32⟩
  | 124 => ⟨S2048x512, .f32⟩
  | 125 => ⟨S2048x512, .f32⟩
  | 126 => ⟨S_, .f32⟩
  | 127 => ⟨S512, .f32⟩
  | _ => ⟨S2048x2048, .f32⟩

abbrev hbmTy0_1 (i : Nat) : BufTy := match i % 128 with
  | 0 => ⟨S2048x512, .f32⟩
  | 1 => ⟨S_, .f32⟩
  | 2 => ⟨S2048, .f32⟩
  | 3 => ⟨S2048x1, .f32⟩
  | 4 => ⟨S2048x512, .f32⟩
  | 5 => ⟨S2048x512, .f32⟩
  | 6 => ⟨S2048x1, .f32⟩
  | 7 => ⟨S2048x512, .f32⟩
  | 8 => ⟨S_, .f32⟩
  | 9 => ⟨S2048, .f32⟩
  | 10 => ⟨S2048x1, .f32⟩
  | 11 => ⟨S_, .f32⟩
  | 12 => ⟨S2048x1, .f32⟩
  | 13 => ⟨S2048x1, .f32⟩
  | 14 => ⟨S_, .f32⟩
  | 15 => ⟨S2048, .f32⟩
  | 16 => ⟨S2048x512, .f32⟩
  | 17 => ⟨S2048x512, .f32⟩
  | 18 => ⟨S2048x512, .f32⟩
  | 19 => ⟨S_, .f32⟩
  | 20 => ⟨S2048, .f32⟩
  | 21 => ⟨S2048x1, .f32⟩
  | 22 => ⟨S2048x512, .f32⟩
  | 23 => ⟨S2048x1, .f32⟩
  | 24 => ⟨S_, .f32⟩
  | 25 => ⟨S2048x1, .f32⟩
  | 26 => ⟨S2048x1, .f32⟩
  | 27 => ⟨S_, .f32⟩
  | 28 => ⟨S2048, .f32⟩
  | 29 => ⟨S2048x512, .f32⟩
  | 30 => ⟨S2048x512, .f32⟩
  | 31 => ⟨S_, .f32⟩
  | 32 => ⟨S2048x1024, .f32⟩
  | 33 => ⟨S_, .f32⟩
  | 34 => ⟨S2048x1024, .f32⟩
  | 35 => ⟨S2048x1024, .f32⟩
  | 36 => ⟨S2048x1024, .f32⟩
  | 37 => ⟨S2048x1024, .f32⟩
  | 38 => ⟨S_, .f32⟩
  | 39 => ⟨S2048x1024, .f32⟩
  | 40 => ⟨S2048x1024, .f32⟩
  | 41 => ⟨S2048x1024, .f32⟩
  | 42 => ⟨S_, .f32⟩
  | 43 => ⟨S2048x1024, .f32⟩
  | 44 => ⟨S2048x1024, .f32⟩
  | 45 => ⟨S2048x1024, .f32⟩
  | 46 => ⟨S2048x1024, .f32⟩
  | 47 => ⟨S2048x1024, .f32⟩
  | 48 => ⟨S2048x1024, .f32⟩
  | 49 => ⟨S2048x1024, .f32⟩
  | 50 => ⟨S_, .f32⟩
  | 51 => ⟨S2048x2048, .f32⟩
  | 52 => ⟨S2048x512, .f32⟩
  | 53 => ⟨S2048x512, .f32⟩
  | 54 => ⟨S4x128x1, .f32⟩
  | 55 => ⟨S4x128x128, .f32⟩
  | 56 => ⟨S1x512, .f32⟩
  | 57 => ⟨S1x512, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_cst_10 : Ref sig .tc := ⟨.hbm, 51, rfl⟩
abbrev main_v34 : Ref sig .tc := ⟨.hbm, 52, rfl⟩
abbrev main_v35 : Ref sig .tc := ⟨.hbm, 53, rfl⟩
abbrev main_cst_11 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_12 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_13 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_14 : Ref sig .tc := ⟨.hbm, 75, rfl⟩
abbrev main_v54 : Ref sig .tc := ⟨.hbm, 76, rfl⟩
abbrev main_call0_v0 : Ref sig .tc := ⟨.hbm, 77, rfl⟩
abbrev main_call0_c : Ref sig .tc := ⟨.hbm, 78, rfl⟩
abbrev main_call0_v1 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_cst : Ref sig .tc := ⟨.hbm, 83, rfl⟩
abbrev main_call0_v5 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_15 : Ref sig .tc := ⟨.hbm, 102, rfl⟩
abbrev main_v72 : Ref sig .tc := ⟨.hbm, 103, rfl⟩
abbrev main_v73 : Ref sig .tc := ⟨.hbm, 104, rfl⟩
abbrev main_cst_16 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_17 : Ref sig .tc := ⟨.hbm, 115, rfl⟩
abbrev main_v83 : Ref sig .tc := ⟨.hbm, 116, rfl⟩
abbrev main_v84 : Ref sig .tc := ⟨.hbm, 117, rfl⟩
abbrev main_cst_18 : Ref sig .tc := ⟨.hbm, 118, rfl⟩
abbrev main_v85 : Ref sig .tc := ⟨.hbm, 119, rfl⟩
abbrev main_v86 : Ref sig .tc := ⟨.hbm, 120, rfl⟩
abbrev main_cst_19 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_20 : Ref sig .tc := ⟨.hbm, 126, rfl⟩
abbrev main_v91 : Ref sig .tc := ⟨.hbm, 127, rfl⟩
abbrev main_v92 : Ref sig .tc := ⟨.hbm, 128, rfl⟩
abbrev main_cst_21 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_22 : Ref sig .tc := ⟨.hbm, 136, rfl⟩
abbrev main_v99 : Ref sig .tc := ⟨.hbm, 137, rfl⟩
abbrev main_v100 : Ref sig .tc := ⟨.hbm, 138, rfl⟩
abbrev main_cst_23 : Ref sig .tc := ⟨.hbm, 139, rfl⟩
abbrev main_v101 : Ref sig .tc := ⟨.hbm, 140, rfl⟩
abbrev main_v102 : Ref sig .tc := ⟨.hbm, 141, rfl⟩
abbrev main_cst_24 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_25 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_cst_26 : Ref sig .tc := ⟨.hbm, 152, rfl⟩
abbrev main_v111 : Ref sig .tc := ⟨.hbm, 153, rfl⟩
abbrev main_v112 : Ref sig .tc := ⟨.hbm, 154, rfl⟩
abbrev main_cst_27 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_cst_28 : Ref sig .tc := ⟨.hbm, 159, rfl⟩
abbrev main_v116 : Ref sig .tc := ⟨.hbm, 160, rfl⟩
abbrev main_cst_29 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_cst_30 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_cst_31 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_cst_32 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩

abbrev nD : Nat := 1
abbrev τ : Topo := Topo.v7x

variable {F : FTy → Type} [FloatOps F]
-- ==== Dact.lean ====
abbrev S2x2816x1024 : Shape := ⟨3, ![2, 2816, 1024]⟩
abbrev S2048x1024 : Shape := ⟨2, ![2048, 1024]⟩
abbrev S2x4x704x1024 : Shape := ⟨4, ![2, 4, 704, 1024]⟩
abbrev S4x2x704x1024 : Shape := ⟨4, ![4, 2, 704, 1024]⟩
abbrev S4x2048x704 : Shape := ⟨3, ![4, 2048, 704]⟩
abbrev S1x1x704x1024 : Shape := ⟨4, ![1, 1, 704, 1024]⟩
abbrev S1x2048x704 : Shape := ⟨3, ![1, 2048, 704]⟩
abbrev S704x1024 : Shape := ⟨2, ![704, 1024]⟩
abbrev S2048x704 : Shape := ⟨2, ![2048, 704]⟩

abbrev nBuf : Space → Nat
  | .hbm => 6
  | .vmem => 5
  | .smem => 0
  | _ => 0

abbrev bufTy : (tb : Table) → Fin (tcTables nBuf tb) → BufTy
  | .hbm, ⟨0, _⟩ => ⟨S2x2816x1024, .f32⟩
  | .hbm, ⟨1, _⟩ => ⟨S2048x1024, .f32⟩
  | .hbm, ⟨2, _⟩ => ⟨S2x2816x1024, .bf16⟩
  | .hbm, ⟨3, _⟩ => ⟨S2x4x704x1024, .bf16⟩
  | .hbm, ⟨4, _⟩ => ⟨S4x2x704x1024, .bf16⟩
  | .hbm, ⟨5, _⟩ => ⟨S4x2048x704, .f32⟩
  | .local _ .vmem, ⟨0, _⟩ => ⟨S2048x1024, .f32⟩
  | .local _ .vmem, ⟨1, _⟩ => ⟨S1x1x704x1024, .bf16⟩
  | .local _ .vmem, ⟨2, _⟩ => ⟨S1x1x704x1024, .bf16⟩
  | .local _ .vmem, ⟨3, _⟩ => ⟨S1x2048x704, .f32⟩
  | .local _ .vmem, ⟨4, _⟩ => ⟨S1x2048x704, .f32⟩
  | _, _ => ⟨S2x2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DactIdeal.lean ====
  let c1_i32 : BitVec 32 := 1#32
  ![arg1.toNat, c1_i32.toNat, c0_i32.toNat, c0_i32_0.toNat]
-- ==== DactRefIdeal.lean ====
abbrev S2x2816x1024 : Shape := ⟨3, ![2, 2816, 1024]⟩
abbrev S2048x1024 : Shape := ⟨2, ![2048, 1024]⟩
abbrev S_ : Shape := ⟨0, ![]⟩
abbrev S2048x2816 : Shape := ⟨2, ![2048, 2816]⟩
abbrev S1x2816x1024 : Shape := ⟨3, ![1, 2816, 1024]⟩
abbrev S2816x1024 : Shape := ⟨2, ![2816, 1024]⟩
abbrev S2048x4x704 : Shape := ⟨3, ![2048, 4, 704]⟩
abbrev S4x2048x704 : Shape := ⟨3, ![4, 2048, 704]⟩

abbrev nBuf : Space → Nat
  | .hbm => 10
  | .vmem => 0
  | .smem => 0
  | _ => 0

abbrev bufTy : (tb : Table) → Fin (tcTables nBuf tb) → BufTy
  | .hbm, ⟨0, _⟩ => ⟨S2x2816x1024, .f32⟩
  | .hbm, ⟨1, _⟩ => ⟨S2048x1024, .f32⟩
  | .hbm, ⟨2, _⟩ => ⟨S_, .f32⟩
  | .hbm, ⟨3, _⟩ => ⟨S2048x2816, .f32⟩
  | .hbm, ⟨4, _⟩ => ⟨S1x2816x1024, .f32⟩
  | .hbm, ⟨5, _⟩ => ⟨S2816x1024, .f32⟩
  | .hbm, ⟨6, _⟩ => ⟨S2048x1024, .f32⟩
  | .hbm, ⟨7, _⟩ => ⟨S2048x2816, .f32⟩
  | .hbm, ⟨8, _⟩ => ⟨S2048x4x704, .f32⟩
  | .hbm, ⟨9, _⟩ => ⟨S4x2048x704, .f32⟩
  | _, _ => ⟨S2x2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Ddown.lean ====
abbrev S2048x2816 : Shape := ⟨2, ![2048, 2816]⟩
abbrev S2048x1024 : Shape := ⟨2, ![2048, 1024]⟩
abbrev S2048x4x704 : Shape := ⟨3, ![2048, 4, 704]⟩
abbrev S4x2048x704 : Shape := ⟨3, ![4, 2048, 704]⟩
abbrev S4x704x1024 : Shape := ⟨3, ![4, 704, 1024]⟩
abbrev S1x2048x704 : Shape := ⟨3, ![1, 2048, 704]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S2048x2816, .bf16⟩
  | .hbm, ⟨3, _⟩ => ⟨S2048x4x704, .bf16⟩
  | .hbm, ⟨4, _⟩ => ⟨S4x2048x704, .bf16⟩
  | .hbm, ⟨5, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .f32⟩
  | .local _ .vmem, ⟨3, _⟩ => ⟨S1x704x1024, .bf16⟩
  | .local _ .vmem, ⟨4, _⟩ => ⟨S1x704x1024, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DdownRefIdeal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S_, .f32⟩
  | .hbm, ⟨3, _⟩ => ⟨S2816x1024, .f32⟩
  | .hbm, ⟨4, _⟩ => ⟨S2048x1024, .f32⟩
  | .hbm, ⟨5, _⟩ => ⟨S1024x2816, .f32⟩
  | .hbm, ⟨6, _⟩ => ⟨S2816x1024, .f32⟩
  | .hbm, ⟨7, _⟩ => ⟨S4x704x1024, .f32⟩
  | .hbm, ⟨8, _⟩ => ⟨S4x704x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dgatew.lean ====
abbrev S2048x1024 : Shape := ⟨2, ![2048, 1024]⟩
abbrev S2048x2816 : Shape := ⟨2, ![2048, 2816]⟩
abbrev S2048x4x704 : Shape := ⟨3, ![2048, 4, 704]⟩
abbrev S4x2048x704 : Shape := ⟨3, ![4, 2048, 704]⟩
abbrev S4x1024x704 : Shape := ⟨3, ![4, 1024, 704]⟩
abbrev S2048x512 : Shape := ⟨2, ![2048, 512]⟩
abbrev S1x2048x704 : Shape := ⟨3, ![1, 2048, 704]⟩
abbrev S1x512x704 : Shape := ⟨3, ![1, 512, 704]⟩
abbrev S2048x704 : Shape := ⟨2, ![2048, 704]⟩
abbrev S512x704 : Shape := ⟨2, ![512, 704]⟩

abbrev nBuf : Space → Nat
  | .hbm => 6
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x2816, .f32⟩
  | .hbm, ⟨2, _⟩ => ⟨S2048x2816, .bf16⟩
  | .hbm, ⟨3, _⟩ => ⟨S2048x4x704, .bf16⟩
  | .hbm, ⟨4, _⟩ => ⟨S4x2048x704, .bf16⟩
  | .hbm, ⟨5, _⟩ => ⟨S4x1024x704, .bf16⟩
  | .local _ .vmem, ⟨0, _⟩ => ⟨S2048x512, .f32⟩
  | .local _ .vmem, ⟨1, _⟩ => ⟨S2048x512, .f32⟩
  | .local _ .vmem, ⟨2, _⟩ => ⟨S1x2048x704, .bf16⟩
  | .local _ .vmem, ⟨3, _⟩ => ⟨S1x2048x704, .bf16⟩
  | .local _ .vmem, ⟨4, _⟩ => ⟨S1x512x704, .bf16⟩
  | .local _ .vmem, ⟨5, _⟩ => ⟨S1x512x704, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DgatewRefIdeal.lean ====
abbrev S2048x1024 : Shape := ⟨2, ![2048, 1024]⟩
abbrev S2048x2816 : Shape := ⟨2, ![2048, 2816]⟩
abbrev S_ : Shape := ⟨0, ![]⟩
abbrev S1024x2816 : Shape := ⟨2, ![1024, 2816]⟩
abbrev S2816x1024 : Shape := ⟨2, ![2816, 1024]⟩
abbrev S1024x4x704 : Shape := ⟨3, ![1024, 4, 704]⟩
abbrev S4x1024x704 : Shape := ⟨3, ![4, 1024, 704]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2816, .f32⟩
  | .hbm, ⟨2, _⟩ => ⟨S_, .f32⟩
  | .hbm, ⟨3, _⟩ => ⟨S1024x2816, .f32⟩
  | .hbm, ⟨4, _⟩ => ⟨S2048x2816, .f32⟩
  | .hbm, ⟨5, _⟩ => ⟨S2816x1024, .f32⟩
  | .hbm, ⟨6, _⟩ => ⟨S1024x2816, .f32⟩
  | .hbm, ⟨7, _⟩ => ⟨S1024x4x704, .f32⟩
  | .hbm, ⟨8, _⟩ => ⟨S4x1024x704, .f32⟩
  | .hbm, ⟨9, _⟩ => ⟨S4x1024x704, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dxa.lean ====
abbrev S2x1024x2816 : Shape := ⟨3, ![2, 1024, 2816]⟩
abbrev S2048x2816 : Shape := ⟨2, ![2048, 2816]⟩
abbrev S2048x1024 : Shape := ⟨2, ![2048, 1024]⟩
abbrev S2048x4x704 : Shape := ⟨3, ![2048, 4, 704]⟩
abbrev S4x2048x704 : Shape := ⟨3, ![4, 2048, 704]⟩
abbrev S2x1024x4x704 : Shape := ⟨4, ![2, 1024, 4, 704]⟩
abbrev S4x2x1024x704 : Shape := ⟨4, ![4, 2, 1024, 704]⟩
abbrev S1x2048x704 : Shape := ⟨3, ![1, 2048, 704]⟩
abbrev S1x1x1024x704 : Shape := ⟨4, ![1, 1, 1024, 704]⟩
abbrev S2048x704 : Shape := ⟨2, ![2048, 704]⟩
abbrev S1024x704 : Shape := ⟨2, ![1024, 704]⟩

abbrev nBuf : Space → Nat
  | .hbm => 10
  | .vmem => 6
  | .smem => 0
  | _ => 0

abbrev bufTy : (tb : Table) → Fin (tcTables nBuf tb) → BufTy
  | .hbm, ⟨0, _⟩ => ⟨S2x1024x2816, .f32⟩
  | .hbm, ⟨1, _⟩ => ⟨S2048x2816, .f32⟩
  | .hbm, ⟨2, _⟩ => ⟨S2048x1024, .f32⟩
  | .hbm, ⟨3, _⟩ => ⟨S2048x2816, .bf16⟩
  | .hbm, ⟨4, _⟩ => ⟨S2048x4x704, .bf16⟩
  | .hbm, ⟨5, _⟩ => ⟨S4x2048x704, .bf16⟩
  | .hbm, ⟨6, _⟩ => ⟨S2x1024x2816, .bf16⟩
  | .hbm, ⟨7, _⟩ => ⟨S2x1024x4x704, .bf16⟩
  | .hbm, ⟨8, _⟩ => ⟨S4x2x1024x704, .bf16⟩
  | .hbm, ⟨9, _⟩ => ⟨S2048x1024, .f32⟩
  | .local _ .vmem, ⟨0, _⟩ => ⟨S1x2048x704, .bf16⟩
  | .local _ .vmem, ⟨1, _⟩ => ⟨S1x2048x704, .bf16⟩
  | .local _ .vmem, ⟨2, _⟩ => ⟨S1x1x1024x704, .bf16⟩
  | .local _ .vmem, ⟨3, _⟩ => ⟨S1x1x1024x704, .bf16⟩
  | .local _ .vmem, ⟨4, _⟩ => ⟨S2048x1024, .f32⟩
  | .local _ .vmem, ⟨5, _⟩ => ⟨S2048x1024, .f32⟩
  | _, _ => ⟨S2x1024x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_6 : BitVec 32 := 0#32
  let v7 : BitVec 1 := Scalar.cmpi .ne v6 c0_i32_6
  v7

def k0_cond2 (i : grid0.Coords) : BitVec 1 :=
  let arg1 : BitVec 32 := BitVec.ofNat 32 (i 1).val
  let c0_i32_7 : BitVec 32 := 0#32
  let v8 : BitVec 1 := Scalar.cmpi .sgt arg1 c0_i32_7
  let v9 : BitVec 32 := Scalar.extui v8
  let c0_i32_8 : BitVec 32 := 0#32
  let v10 : BitVec 1 := Scalar.cmpi .ne v9 c0_i32_8
  v10

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== DxaIdeal.lean ====
  let c1_i32 : BitVec 32 := 1#32
  ![arg1.toNat, c1_i32.toNat, c0_i32.toNat, c0_i32_0.toNat]
-- ==== DxaRefIdeal.lean ====
abbrev S2x1024x2816 : Shape := ⟨3, ![2, 1024, 2816]⟩
abbrev S2048x2816 : Shape := ⟨2, ![2048, 2816]⟩
abbrev S2048x1024 : Shape := ⟨2, ![2048, 1024]⟩
abbrev S_ : Shape := ⟨0, ![]⟩
abbrev S1x1024x2816 : Shape := ⟨3, ![1, 1024, 2816]⟩
abbrev S1024x2816 : Shape := ⟨2, ![1024, 2816]⟩

abbrev nBuf : Space → Nat
  | .hbm => 16
  | .vmem => 0
  | .smem => 0
  | _ => 0

abbrev bufTy : (tb : Table) → Fin (tcTables nBuf tb) → BufTy
  | .hbm, ⟨0, _⟩ => ⟨S2x1024x2816, .f32⟩
  | .hbm, ⟨1, _⟩ => ⟨S2048x2816, .f32⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S1x1024x2816, .f32⟩
  | .hbm, ⟨9, _⟩ => ⟨S1024x2816, .f32⟩
  | .hbm, ⟨10, _⟩ => ⟨S2048x2816, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S2048x1024, .f32⟩
  | _, _ => ⟨S2x1024x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Dxb.lean ====
abbrev S2x1024x2816 : Shape := ⟨3, ![2, 1024, 2816]⟩
abbrev S2048x2816 : Shape := ⟨2, ![2048, 2816]⟩
abbrev S2048x1024 : Shape := ⟨2, ![2048, 1024]⟩
abbrev S2048x4x704 : Shape := ⟨3, ![2048, 4, 704]⟩
abbrev S4x2048x704 : Shape := ⟨3, ![4, 2048, 704]⟩
abbrev S2x1024x4x704 : Shape := ⟨4, ![2, 1024, 4, 704]⟩
abbrev S4x2x1024x704 : Shape := ⟨4, ![4, 2, 1024, 704]⟩
abbrev S1x2048x704 : Shape := ⟨3, ![1, 2048, 704]⟩
abbrev S1x1x1024x704 : Shape := ⟨4, ![1, 1, 1024, 704]⟩
abbrev S2048x704 : Shape := ⟨2, ![2048, 704]⟩
abbrev S1024x704 : Shape := ⟨2, ![1024, 704]⟩

abbrev nBuf : Space → Nat
  | .hbm => 10
  | .vmem => 6
  | .smem => 0
  | _ => 0

abbrev bufTy : (tb : Table) → Fin (tcTables nBuf tb) → BufTy
  | .hbm, ⟨0, _⟩ => ⟨S2x1024x2816, .f32⟩
  | .hbm, ⟨1, _⟩ => ⟨S2048x2816, .f32⟩
  | .hbm, ⟨2, _⟩ => ⟨S2048x1024, .f32⟩
  | .hbm, ⟨3, _⟩ => ⟨S2048x2816, .bf16⟩
  | .hbm, ⟨4, _⟩ => ⟨S2048x4x704, .bf16⟩
  | .hbm, ⟨5, _⟩ => ⟨S4x2048x704, .bf16⟩
  | .hbm, ⟨6, _⟩ => ⟨S2x1024x2816, .bf16⟩
  | .hbm, ⟨7, _⟩ => ⟨S2x1024x4x704, .bf16⟩
  | .hbm, ⟨8, _⟩ => ⟨S4x2x1024x704, .bf16⟩
  | .hbm, ⟨9, _⟩ => ⟨S2048x1024, .f32⟩
  | .local _ .vmem, ⟨0, _⟩ => ⟨S1x2048x704, .bf16⟩
  | .local _ .vmem, ⟨1, _⟩ => ⟨S1x2048x704, .bf16⟩
  | .local _ .vmem, ⟨2, _⟩ => ⟨S1x1x1024x704, .bf16⟩
  | .local _ .vmem, ⟨3, _⟩ => ⟨S1x1x1024x704, .bf16⟩
  | .local _ .vmem, ⟨4, _⟩ => ⟨S2048x1024, .f32⟩
  | .local _ .vmem, ⟨5, _⟩ => ⟨S2048x1024, .f32⟩
  | _, _ => ⟨S2x1024x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_6 : BitVec 32 := 0#32
  let v7 : BitVec 1 := Scalar.cmpi .ne v6 c0_i32_6
  v7

def k0_cond2 (i : grid0.Coords) : BitVec 1 :=
  let arg1 : BitVec 32 := BitVec.ofNat 32 (i 1).val
  let c0_i32_7 : BitVec 32 := 0#32
  let v8 : BitVec 1 := Scalar.cmpi .sgt arg1 c0_i32_7
  let v9 : BitVec 32 := Scalar.extui v8
  let c0_i32_8 : BitVec 32 := 0#32
  let v10 : BitVec 1 := Scalar.cmpi .ne v9 c0_i32_8
  v10

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== DxbIdeal.lean ====
  let c1_i32 : BitVec 32 := 1#32
  ![arg1.toNat, c1_i32.toNat, c0_i32.toNat, c0_i32_0.toNat]
-- ==== DxbRefIdeal.lean ====
abbrev S2x1024x2816 : Shape := ⟨3, ![2, 1024, 2816]⟩
abbrev S2048x2816 : Shape := ⟨2, ![2048, 2816]⟩
abbrev S2048x1024 : Shape := ⟨2, ![2048, 1024]⟩
abbrev S_ : Shape := ⟨0, ![]⟩
abbrev S1x1024x2816 : Shape := ⟨3, ![1, 1024, 2816]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2x1024x2816, .f32⟩
  | .hbm, ⟨1, _⟩ => ⟨S2048x2816, .f32⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S1x1024x2816, .f32⟩
  | .hbm, ⟨6, _⟩ => ⟨S1024x2816, .f32⟩
  | .hbm, ⟨7, _⟩ => ⟨S2048x2816, .f32⟩
  | .hbm, ⟨8, _⟩ => ⟨S2048x1024, .f32⟩
  | .hbm, ⟨9, _⟩ => ⟨S2048x1024, .f32⟩
  | _, _ => ⟨S2x1024x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Dple.lean ====
abbrev S2x1024x1024 : Shape := ⟨3, ![2, 1024, 1024]⟩
abbrev S2048x1024 : Shape := ⟨2, ![2048, 1024]⟩
abbrev S2x4x256x1024 : Shape := ⟨4, ![2, 4, 256, 1024]⟩
abbrev S4x2x256x1024 : Shape := ⟨4, ![4, 2, 256, 1024]⟩
abbrev S1x1x256x1024 : Shape := ⟨4, ![1, 1, 256, 1024]⟩
abbrev S2048x256 : Shape := ⟨2, ![2048, 256]⟩
abbrev S256x1024 : Shape := ⟨2, ![256, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2x1024x1024, .f32⟩
  | .hbm, ⟨1, _⟩ => ⟨S2048x1024, .f32⟩
  | .hbm, ⟨2, _⟩ => ⟨S2048x1024, .f32⟩
  | .hbm, ⟨3, _⟩ => ⟨S2048x1024, .bf16⟩
  | .hbm, ⟨4, _⟩ => ⟨S2x1024x1024, .bf16⟩
  | .hbm, ⟨5, _⟩ => ⟨S2x4x256x1024, .bf16⟩
  | .hbm, ⟨6, _⟩ => ⟨S4x2x256x1024, .bf16⟩
  | .hbm, ⟨7, _⟩ => ⟨S2048x1024, .f32⟩
  | .local _ .vmem, ⟨0, _⟩ => ⟨S2048x1024, .bf16⟩
  | .local _ .vmem, ⟨1, _⟩ => ⟨S1x1x256x1024, .bf16⟩
  | .local _ .vmem, ⟨2, _⟩ => ⟨S1x1x256x1024, .bf16⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DpleIdeal.lean ====
  let c1_i32 : BitVec 32 := 1#32
  ![arg1.toNat, c1_i32.toNat, c0_i32.toNat, c0_i32_0.toNat]
-- ==== DpleRefIdeal.lean ====
abbrev S2x1024x1024 : Shape := ⟨3, ![2, 1024, 1024]⟩
abbrev S2048x1024 : Shape := ⟨2, ![2048, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S2048x1024, .f32⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S1x1024x1024, .f32⟩
  | .hbm, ⟨6, _⟩ => ⟨S1024x1024, .f32⟩
  | .hbm, ⟨7, _⟩ => ⟨S2048x1024, .f32⟩
  | .hbm, ⟨8, _⟩ => ⟨S2048x1024, .f32⟩
  | .hbm, ⟨9, _⟩ => ⟨S2048x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Dproj.lean ====
abbrev S2048x256 : Shape := ⟨2, ![2048, 256]⟩
abbrev S2048x1024 : Shape := ⟨2, ![2048, 1024]⟩
abbrev S4x256x256 : Shape := ⟨3, ![4, 256, 256]⟩
abbrev S1x256x256 : Shape := ⟨3, ![1, 256, 256]⟩
abbrev S256x256 : Shape := ⟨2, ![256, 256]⟩

abbrev nBuf : Space → Nat
  | .hbm => 4
  | .vmem => 5
  | .smem => 0
  | _ => 0

abbrev bufTy : (tb : Table) → Fin (tcTables nBuf tb) → BufTy
  | .hbm, ⟨0, _⟩ => ⟨S2048x256, .f32⟩
  | .hbm, ⟨1, _⟩ => ⟨S2048x1024, .f32⟩
  | .hbm, ⟨2, _⟩ => ⟨S2048x1024, .bf16⟩
  | .hbm, ⟨3, _⟩ => ⟨S4x256x256, .bf16⟩
  | .local _ .vmem, ⟨0, _⟩ => ⟨S2048x256, .f32⟩
  | .local _ .vmem, ⟨1, _⟩ => ⟨S2048x256, .bf16⟩
  | .local _ .vmem, ⟨2, _⟩ => ⟨S2048x256, .bf16⟩
  | .local _ .vmem, ⟨3, _⟩ => ⟨S1x256x256, .bf16⟩
  | .local _ .vmem, ⟨4, _⟩ => ⟨S1x256x256, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DprojRefIdeal.lean ====
abbrev S2048x256 : Shape := ⟨2, ![2048, 256]⟩
abbrev S2048x1024 : Shape := ⟨2, ![2048, 1024]⟩
abbrev S_ : Shape := ⟨0, ![]⟩
abbrev S256x1024 : Shape := ⟨2, ![256, 1024]⟩
abbrev S1024x256 : Shape := ⟨2, ![1024, 256]⟩
abbrev S256x4x256 : Shape := ⟨3, ![256, 4, 256]⟩
abbrev S4x256x256 : Shape := ⟨3, ![4, 256, 256]⟩

abbrev nBuf : Space → Nat
  | .hbm => 10
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x1024, .f32⟩
  | .hbm, ⟨2, _⟩ => ⟨S_, .f32⟩
  | .hbm, ⟨3, _⟩ => ⟨S256x1024, .f32⟩
  | .hbm, ⟨4, _⟩ => ⟨S2048x1024, .f32⟩
  | .hbm, ⟨5, _⟩ => ⟨S1024x256, .f32⟩
  | .hbm, ⟨6, _⟩ => ⟨S256x1024, .f32⟩
  | .hbm, ⟨7, _⟩ => ⟨S256x4x256, .f32⟩
  | .hbm, ⟨8, _⟩ => ⟨S4x256x256, .f32⟩
  | .hbm, ⟨9, _⟩ => ⟨S4x256x256, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dgate.lean ====
abbrev S2048x1024 : Shape := ⟨2, ![2048, 1024]⟩
abbrev S4x256x1024 : Shape := ⟨3, ![4, 256, 1024]⟩
abbrev S2048x256 : Shape := ⟨2, ![2048, 256]⟩
abbrev S1x256x1024 : Shape := ⟨3, ![1, 256, 1024]⟩
abbrev S256x1024 : Shape := ⟨2, ![256, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S4x256x1024, .bf16⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S1x256x1024, .bf16⟩
  | .local _ .vmem, ⟨4, _⟩ => ⟨S1x256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DgateRefIdeal.lean ====
abbrev S2048x1024 : Shape := ⟨2, ![2048, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S4x256x1024, .f32⟩
  | .hbm, ⟨8, _⟩ => ⟨S4x256x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dout.lean ====
abbrev S2048x1024 : Shape := ⟨2, ![2048, 1024]⟩
abbrev S4x256x1024 : Shape := ⟨3, ![4, 256, 1024]⟩
abbrev S2048x256 : Shape := ⟨2, ![2048, 256]⟩
abbrev S1x256x1024 : Shape := ⟨3, ![1, 256, 1024]⟩
abbrev S256x1024 : Shape := ⟨2, ![256, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S4x256x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .f32⟩
  | .local _ .vmem, ⟨3, _⟩ => ⟨S1x256x1024, .bf16⟩
  | .local _ .vmem, ⟨4, _⟩ => ⟨S1x256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DoutRefIdeal.lean ====
abbrev S2048x1024 : Shape := ⟨2, ![2048, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S4x256x1024, .f32⟩
  | .hbm, ⟨8, _⟩ => ⟨S4x256x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dcat.lean ====
abbrev S1x1024x1024 : Shape := ⟨3, ![1, 1024, 1024]⟩
abbrev S2048x1024 : Shape := ⟨2, ![2048, 1024]⟩
abbrev S1x4x256x1024 : Shape := ⟨4, ![1, 4, 256, 1024]⟩
abbrev S4x1x256x1024 : Shape := ⟨4, ![4, 1, 256, 1024]⟩
abbrev S1x1x256x1024 : Shape := ⟨4, ![1, 1, 256, 1024]⟩
abbrev S2048x256 : Shape := ⟨2, ![2048, 256]⟩
abbrev S256x1024 : Shape := ⟨2, ![256, 1024]⟩

abbrev nBuf : Space → Nat
  | .hbm => 6
  | .vmem => 5
  | .smem => 0
  | _ => 0

abbrev bufTy : (tb : Table) → Fin (tcTables nBuf tb) → BufTy
  | .hbm, ⟨0, _⟩ => ⟨S1x1024x1024, .f32⟩
  | .hbm, ⟨1, _⟩ => ⟨S2048x1024, .f32⟩
  | .hbm, ⟨2, _⟩ => ⟨S1x1024x1024, .bf16⟩
  | .hbm, ⟨3, _⟩ => ⟨S1x4x256x1024, .bf16⟩
  | .hbm, ⟨4, _⟩ => ⟨S4x1x256x1024, .bf16⟩
  | .hbm, ⟨5, _⟩ => ⟨S2048x1024, .f32⟩
  | .local _ .vmem, ⟨0, _⟩ => ⟨S2048x1024, .f32⟩
  | .local _ .vmem, ⟨1, _⟩ => ⟨S1x1x256x1024, .bf16⟩
  | .local _ .vmem, ⟨2, _⟩ => ⟨S1x1x256x1024, .bf16⟩
  | .local _ .vmem, ⟨3, _⟩ => ⟨S2048x256, .f32⟩
  | .local _ .vmem, ⟨4, _⟩ => ⟨S2048x256, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DcatRefIdeal.lean ====
abbrev S1x1024x1024 : Shape := ⟨3, ![1, 1024, 1024]⟩
abbrev S2048x1024 : Shape := ⟨2, ![2048, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S2048x1024, .f32⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Din.lean ====
abbrev S2048x1024 : Shape := ⟨2, ![2048, 1024]⟩
abbrev S2048x2048 : Shape := ⟨2, ![2048, 2048]⟩
abbrev S2048x4x512 : Shape := ⟨3, ![2048, 4, 512]⟩
abbrev S4x2048x512 : Shape := ⟨3, ![4, 2048, 512]⟩
abbrev S4x1024x512 : Shape := ⟨3, ![4, 1024, 512]⟩
abbrev S2048x512 : Shape := ⟨2, ![2048, 512]⟩
abbrev S1x2048x512 : Shape := ⟨3, ![1, 2048, 512]⟩
abbrev S1x512x512 : Shape := ⟨3, ![1, 512, 512]⟩
abbrev S512x512 : Shape := ⟨2, ![512, 512]⟩

abbrev nBuf : Space → Nat
  | .hbm => 6
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048x2048, .bf16⟩
  | .hbm, ⟨3, _⟩ => ⟨S2048x4x512, .bf16⟩
  | .hbm, ⟨4, _⟩ => ⟨S4x2048x512, .bf16⟩
  | .hbm, ⟨5, _⟩ => ⟨S4x1024x512, .bf16⟩
  | .local _ .vmem, ⟨0, _⟩ => ⟨S2048x512, .f32⟩
  | .local _ .vmem, ⟨1, _⟩ => ⟨S2048x512, .f32⟩
  | .local _ .vmem, ⟨2, _⟩ => ⟨S1x2048x512, .bf16⟩
  | .local _ .vmem, ⟨3, _⟩ => ⟨S1x2048x512, .bf16⟩
  | .local _ .vmem, ⟨4, _⟩ => ⟨S1x512x512, .bf16⟩
  | .local _ .vmem, ⟨5, _⟩ => ⟨S1x512x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DinRefIdeal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩
abbrev S1024x4x512 : Shape := ⟨3, ![1024, 4, 512]⟩
abbrev S4x1024x512 : Shape := ⟨3, ![4, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S_, .f32⟩
  | .hbm, ⟨3, _⟩ => ⟨S1024x2048, .f32⟩
  | .hbm, ⟨4, _⟩ => ⟨S2048x2048, .f32⟩
  | .hbm, ⟨5, _⟩ => ⟨S2048x1024, .f32⟩
  | .hbm, ⟨6, _⟩ => ⟨S1024x2048, .f32⟩
  | .hbm, ⟨7, _⟩ => ⟨S1024x4x512, .f32⟩
  | .hbm, ⟨8, _⟩ => ⟨S4x1024x512, .f32⟩
  | .hbm, ⟨9, _⟩ => ⟨S4x1024x512, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dx.lean ====
abbrev S1x1024x2048 : Shape := ⟨3, ![1, 1024, 2048]⟩
abbrev S2048x2048 : Shape := ⟨2, ![2048, 2048]⟩
abbrev S2048x1024 : Shape := ⟨2, ![2048, 1024]⟩
abbrev S2048x4x512 : Shape := ⟨3, ![2048, 4, 512]⟩
abbrev S4x2048x512 : Shape := ⟨3, ![4, 2048, 512]⟩
abbrev S1x1024x4x512 : Shape := ⟨4, ![1, 1024, 4, 512]⟩
abbrev S4x1x1024x512 : Shape := ⟨4, ![4, 1, 1024, 512]⟩
abbrev S1x2048x512 : Shape := ⟨3, ![1, 2048, 512]⟩
abbrev S1x1x1024x512 : Shape := ⟨4, ![1, 1, 1024, 512]⟩
abbrev S2048x512 : Shape := ⟨2, ![2048, 512]⟩
abbrev S1024x512 : Shape := ⟨2, ![1024, 512]⟩

abbrev nBuf : Space → Nat
  | .hbm => 10
  | .vmem => 6
  | .smem => 0
  | _ => 0

abbrev bufTy : (tb : Table) → Fin (tcTables nBuf tb) → BufTy
  | .hbm, ⟨0, _⟩ => ⟨S1x1024x2048, .f32⟩
  | .hbm, ⟨1, _⟩ => ⟨S2048x2048, .f32⟩
  | .hbm, ⟨2, _⟩ => ⟨S2048x1024, .f32⟩
  | .hbm, ⟨3, _⟩ => ⟨S2048x2048, .bf16⟩
  | .hbm, ⟨4, _⟩ => ⟨S2048x4x512, .bf16⟩
  | .hbm, ⟨5, _⟩ => ⟨S4x2048x512, .bf16⟩
  | .hbm, ⟨6, _⟩ => ⟨S1x1024x2048, .bf16⟩
  | .hbm, ⟨7, _⟩ => ⟨S1x1024x4x512, .bf16⟩
  | .hbm, ⟨8, _⟩ => ⟨S4x1x1024x512, .bf16⟩
  | .hbm, ⟨9, _⟩ => ⟨S2048x1024, .f32⟩
  | .local _ .vmem, ⟨0, _⟩ => ⟨S1x2048x512, .bf16⟩
  | .local _ .vmem, ⟨1, _⟩ => ⟨S1x2048x512, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S2048x1024, .f32⟩
  | .local _ .vmem, ⟨5, _⟩ => ⟨S2048x1024, .f32⟩
  | _, _ => ⟨S1x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_6 : BitVec 32 := 0#32
  let v7 : BitVec 1 := Scalar.cmpi .ne v6 c0_i32_6
  v7

def k0_cond2 (i : grid0.Coords) : BitVec 1 :=
  let arg1 : BitVec 32 := BitVec.ofNat 32 (i 1).val
  let c0_i32_7 : BitVec 32 := 0#32
  let v8 : BitVec 1 := Scalar.cmpi .sgt arg1 c0_i32_7
  let v9 : BitVec 32 := Scalar.extui v8
  let c0_i32_8 : BitVec 32 := 0#32
  let v10 : BitVec 1 := Scalar.cmpi .ne v9 c0_i32_8
  v10

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== DxRefIdeal.lean ====
abbrev S1x1024x2048 : Shape := ⟨3, ![1, 1024, 2048]⟩
abbrev S2048x2048 : Shape := ⟨2, ![2048, 2048]⟩
abbrev S2048x1024 : Shape := ⟨2, ![2048, 1024]⟩
abbrev S_ : Shape := ⟨0, ![]⟩
abbrev S1024x2048 : Shape := ⟨2, ![1024, 2048]⟩

abbrev nBuf : Space → Nat
  | .hbm => 15
  | .vmem => 0
  | .smem => 0
  | _ => 0

abbrev bufTy : (tb : Table) → Fin (tcTables nBuf tb) → BufTy
  | .hbm, ⟨0, _⟩ => ⟨S1x1024x2048, .f32⟩
  | .hbm, ⟨1, _⟩ => ⟨S2048x2048, .f32⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S1024x2048, .f32⟩
  | .hbm, ⟨9, _⟩ => ⟨S2048x2048, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | _, _ => ⟨S1x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Inp.lean ====
abbrev S2048x1024 : Shape := ⟨2, ![2048, 1024]⟩
abbrev S1x1024x2048 : Shape := ⟨3, ![1, 1024, 2048]⟩
abbrev S1x1024x4x512 : Shape := ⟨4, ![1, 1024, 4, 512]⟩
abbrev S4x1x1024x512 : Shape := ⟨4, ![4, 1, 1024, 512]⟩
abbrev S4x2048x512 : Shape := ⟨3, ![4, 2048, 512]⟩
abbrev S1x1x1024x512 : Shape := ⟨4, ![1, 1, 1024, 512]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 6
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024x2048, .f32⟩
  | .hbm, ⟨2, _⟩ => ⟨S1x1024x2048, .bf16⟩
  | .hbm, ⟨3, _⟩ => ⟨S1x1024x4x512, .bf16⟩
  | .hbm, ⟨4, _⟩ => ⟨S4x1x1024x512, .bf16⟩
  | .hbm, ⟨5, _⟩ => ⟨S4x2048x512, .f32⟩
  | .local _ .vmem, ⟨0, _⟩ => ⟨S2048x1024, .f32⟩
  | .local _ .vmem, ⟨1, _⟩ => ⟨S1x1x1024x512, .bf16⟩
  | .local _ .vmem, ⟨2, _⟩ => ⟨S1x1x1024x512, .bf16⟩
  | .local _ .vmem, ⟨3, _⟩ => ⟨S1x2048x512, .f32⟩
  | .local _ .vmem, ⟨4, _⟩ => ⟨S1x2048x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InpRefIdeal.lean ====
abbrev S2048x1024 : Shape := ⟨2, ![2048, 1024]⟩
abbrev S1x1024x2048 : Shape := ⟨3, ![1, 1024, 2048]⟩
abbrev S1024x2048 : Shape := ⟨2, ![1024, 2048]⟩
abbrev S2048x2048 : Shape := ⟨2, ![2048, 2048]⟩
abbrev S2048x4x512 : Shape := ⟨3, ![2048, 4, 512]⟩
abbrev S4x2048x512 : Shape := ⟨3, ![4, 2048, 512]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024x2048, .f32⟩
  | .hbm, ⟨2, _⟩ => ⟨S1024x2048, .f32⟩
  | .hbm, ⟨3, _⟩ => ⟨S2048x2048, .f32⟩
  | .hbm, ⟨4, _⟩ => ⟨S2048x4x512, .f32⟩
  | .hbm, ⟨5, _⟩ => ⟨S4x2048x512, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Out.lean ====
abbrev S2048x1024 : Shape := ⟨2, ![2048, 1024]⟩
abbrev S1x1024x1024 : Shape := ⟨3, ![1, 1024, 1024]⟩
abbrev S1x4x256x1024 : Shape := ⟨4, ![1, 4, 256, 1024]⟩
abbrev S4x1x256x1024 : Shape := ⟨4, ![4, 1, 256, 1024]⟩
abbrev S2048x256 : Shape := ⟨2, ![2048, 256]⟩
abbrev S1x1x256x1024 : Shape := ⟨4, ![1, 1, 256, 1024]⟩
abbrev S256x1024 : Shape := ⟨2, ![256, 1024]⟩

abbrev nBuf : Space → Nat
  | .hbm => 7
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024x1024, .f32⟩
  | .hbm, ⟨2, _⟩ => ⟨S2048x1024, .bf16⟩
  | .hbm, ⟨3, _⟩ => ⟨S1x1024x1024, .bf16⟩
  | .hbm, ⟨4, _⟩ => ⟨S1x4x256x1024, .bf16⟩
  | .hbm, ⟨5, _⟩ => ⟨S4x1x256x1024, .bf16⟩
  | .hbm, ⟨6, _⟩ => ⟨S2048x1024, .f32⟩
  | .local _ .vmem, ⟨0, _⟩ => ⟨S2048x256, .bf16⟩
  | .local _ .vmem, ⟨1, _⟩ => ⟨S2048x256, .bf16⟩
  | .local _ .vmem, ⟨2, _⟩ => ⟨S1x1x256x1024, .bf16⟩
  | .local _ .vmem, ⟨3, _⟩ => ⟨S1x1x256x1024, .bf16⟩
  | .local _ .vmem, ⟨4, _⟩ => ⟨S2048x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg1 : BitVec 32 := BitVec.ofNat 32 (i 1).val
  let c0_i32_6 : BitVec 32 := 0#32
  let v8 : BitVec 1 := Scalar.cmpi .sgt arg1 c0_i32_6
  let v9 : BitVec 32 := Scalar.extui v8
  let c0_i32_7 : BitVec 32 := 0#32
  let v10 : BitVec 1 := Scalar.cmpi .ne v9 c0_i32_7
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== OutRefIdeal.lean ====
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024x1024, .f32⟩
  | .hbm, ⟨2, _⟩ => ⟨S1024x1024, .f32⟩
  | .hbm, ⟨3, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Gate.lean ====
abbrev S2048x1024 : Shape := ⟨2, ![2048, 1024]⟩
abbrev S2x1024x2816 : Shape := ⟨3, ![2, 1024, 2816]⟩
abbrev S2x1024x4x704 : Shape := ⟨4, ![2, 1024, 4, 704]⟩
abbrev S4x2x1024x704 : Shape := ⟨4, ![4, 2, 1024, 704]⟩
abbrev S4x2048x704 : Shape := ⟨3, ![4, 2048, 704]⟩
abbrev S1x1x1024x704 : Shape := ⟨4, ![1, 1, 1024, 704]⟩
abbrev S1x2048x704 : Shape := ⟨3, ![1, 2048, 704]⟩
abbrev S1024x704 : Shape := ⟨2, ![1024, 704]⟩
abbrev S2048x704 : Shape := ⟨2, ![2048, 704]⟩

abbrev nBuf : Space → Nat
  | .hbm => 6
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2x1024x2816, .f32⟩
  | .hbm, ⟨2, _⟩ => ⟨S2x1024x2816, .bf16⟩
  | .hbm, ⟨3, _⟩ => ⟨S2x1024x4x704, .bf16⟩
  | .hbm, ⟨4, _⟩ => ⟨S4x2x1024x704, .bf16⟩
  | .hbm, ⟨5, _⟩ => ⟨S4x2048x704, .f32⟩
  | .local _ .vmem, ⟨0, _⟩ => ⟨S2048x1024, .f32⟩
  | .local _ .vmem, ⟨1, _⟩ => ⟨S1x1x1024x704, .bf16⟩
  | .local _ .vmem, ⟨2, _⟩ => ⟨S1x1x1024x704, .bf16⟩
  | .local _ .vmem, ⟨3, _⟩ => ⟨S1x2048x704, .f32⟩
  | .local _ .vmem, ⟨4, _⟩ => ⟨S1x2048x704, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateIdeal.lean ====
  let c1_i32 : BitVec 32 := 1#32
  ![arg1.toNat, c1_i32.toNat, c0_i32.toNat, c0_i32_0.toNat]
-- ==== GateRefIdeal.lean ====
abbrev S2048x1024 : Shape := ⟨2, ![2048, 1024]⟩
abbrev S2x1024x2816 : Shape := ⟨3, ![2, 1024, 2816]⟩
abbrev S1x1024x2816 : Shape := ⟨3, ![1, 1024, 2816]⟩
abbrev S1024x2816 : Shape := ⟨2, ![1024, 2816]⟩
abbrev S2048x2816 : Shape := ⟨2, ![2048, 2816]⟩
abbrev S2048x4x704 : Shape := ⟨3, ![2048, 4, 704]⟩
abbrev S4x2048x704 : Shape := ⟨3, ![4, 2048, 704]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2x1024x2816, .f32⟩
  | .hbm, ⟨2, _⟩ => ⟨S1x1024x2816, .f32⟩
  | .hbm, ⟨3, _⟩ => ⟨S1024x2816, .f32⟩
  | .hbm, ⟨4, _⟩ => ⟨S2048x2816, .f32⟩
  | .hbm, ⟨5, _⟩ => ⟨S2048x4x704, .f32⟩
  | .hbm, ⟨6, _⟩ => ⟨S4x2048x704, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Down.lean ====
abbrev S2048x2816 : Shape := ⟨2, ![2048, 2816]⟩
abbrev S2x2816x1024 : Shape := ⟨3, ![2, 2816, 1024]⟩
abbrev S2048x4x704 : Shape := ⟨3, ![2048, 4, 704]⟩
abbrev S4x2048x704 : Shape := ⟨3, ![4, 2048, 704]⟩
abbrev S2x4x704x1024 : Shape := ⟨4, ![2, 4, 704, 1024]⟩
abbrev S4x2x704x1024 : Shape := ⟨4, ![4, 2, 704, 1024]⟩
abbrev S2048x1024 : Shape := ⟨2, ![2048, 1024]⟩
abbrev S1x2048x704 : Shape := ⟨3, ![1, 2048, 704]⟩
abbrev S1x1x704x1024 : Shape := ⟨4, ![1, 1, 704, 1024]⟩
abbrev S2048x704 : Shape := ⟨2, ![2048, 704]⟩
abbrev S704x1024 : Shape := ⟨2, ![704, 1024]⟩

abbrev nBuf : Space → Nat
  | .hbm => 9
  | .vmem => 5
  | .smem => 0
  | _ => 0

abbrev bufTy : (tb : Table) → Fin (tcTables nBuf tb) → BufTy
  | .hbm, ⟨0, _⟩ => ⟨S2048x2816, .f32⟩
  | .hbm, ⟨1, _⟩ => ⟨S2x2816x1024, .f32⟩
  | .hbm, ⟨2, _⟩ => ⟨S2048x2816, .bf16⟩
  | .hbm, ⟨3, _⟩ => ⟨S2048x4x704, .bf16⟩
  | .hbm, ⟨4, _⟩ => ⟨S4x2048x704, .bf16⟩
  | .hbm, ⟨5, _⟩ => ⟨S2x2816x1024, .bf16⟩
  | .hbm, ⟨6, _⟩ => ⟨S2x4x704x1024, .bf16⟩
  | .hbm, ⟨7, _⟩ => ⟨S4x2x704x1024, .bf16⟩
  | .hbm, ⟨8, _⟩ => ⟨S2048x1024, .f32⟩
  | .local _ .vmem, ⟨0, _⟩ => ⟨S1x2048x704, .bf16⟩
  | .local _ .vmem, ⟨1, _⟩ => ⟨S1x2048x704, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S2048x1024, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_6 : BitVec 32 := 0#32
  let v7 : BitVec 1 := Scalar.cmpi .ne v6 c0_i32_6
  v7

def k0_cond2 (i : grid0.Coords) : BitVec 1 :=
  let arg1 : BitVec 32 := BitVec.ofNat 32 (i 1).val
  let c0_i32_7 : BitVec 32 := 0#32
  let v8 : BitVec 1 := Scalar.cmpi .sgt arg1 c0_i32_7
  let v9 : BitVec 32 := Scalar.extui v8
  let c0_i32_8 : BitVec 32 := 0#32
  let v10 : BitVec 1 := Scalar.cmpi .ne v9 c0_i32_8
  v10

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DownIdeal.lean ====
  let c1_i32 : BitVec 32 := 1#32
  ![arg1.toNat, c1_i32.toNat, c0_i32.toNat, c0_i32_0.toNat]
-- ==== DownRefIdeal.lean ====
abbrev S2048x2816 : Shape := ⟨2, ![2048, 2816]⟩
abbrev S2x2816x1024 : Shape := ⟨3, ![2, 2816, 1024]⟩
abbrev S1x2816x1024 : Shape := ⟨3, ![1, 2816, 1024]⟩
abbrev S2816x1024 : Shape := ⟨2, ![2816, 1024]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2x2816x1024, .f32⟩
  | .hbm, ⟨2, _⟩ => ⟨S1x2816x1024, .f32⟩
  | .hbm, ⟨3, _⟩ => ⟨S2816x1024, .f32⟩
  | .hbm, ⟨4, _⟩ => ⟨S2048x1024, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Pgate.lean ====
abbrev S2048x1024 : Shape := ⟨2, ![2048, 1024]⟩
abbrev S2x1024x1024 : Shape := ⟨3, ![2, 1024, 1024]⟩
abbrev S2x4x256x1024 : Shape := ⟨4, ![2, 4, 256, 1024]⟩
abbrev S4x2x256x1024 : Shape := ⟨4, ![4, 2, 256, 1024]⟩
abbrev S2048x256 : Shape := ⟨2, ![2048, 256]⟩
abbrev S1x1x256x1024 : Shape := ⟨4, ![1, 1, 256, 1024]⟩
abbrev S256x1024 : Shape := ⟨2, ![256, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2x1024x1024, .f32⟩
  | .hbm, ⟨2, _⟩ => ⟨S2x1024x1024, .bf16⟩
  | .hbm, ⟨3, _⟩ => ⟨S2x4x256x1024, .bf16⟩
  | .hbm, ⟨4, _⟩ => ⟨S4x2x256x1024, .bf16⟩
  | .hbm, ⟨5, _⟩ => ⟨S2048x1024, .f32⟩
  | .local _ .vmem, ⟨0, _⟩ => ⟨S2048x256, .f32⟩
  | .local _ .vmem, ⟨1, _⟩ => ⟨S2048x256, .f32⟩
  | .local _ .vmem, ⟨2, _⟩ => ⟨S1x1x256x1024, .bf16⟩
  | .local _ .vmem, ⟨3, _⟩ => ⟨S1x1x256x1024, .bf16⟩
  | .local _ .vmem, ⟨4, _⟩ => ⟨S2048x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg1 : BitVec 32 := BitVec.ofNat 32 (i 1).val
  let c0_i32_6 : BitVec 32 := 0#32
  let v8 : BitVec 1 := Scalar.cmpi .sgt arg1 c0_i32_6
  let v9 : BitVec 32 := Scalar.extui v8
  let c0_i32_7 : BitVec 32 := 0#32
  let v10 : BitVec 1 := Scalar.cmpi .ne v9 c0_i32_7
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== PgateIdeal.lean ====
  let c1_i32 : BitVec 32 := 1#32
  ![arg1.toNat, c1_i32.toNat, c0_i32.toNat, c0_i32_0.toNat]
-- ==== PgateRefIdeal.lean ====
abbrev S2048x1024 : Shape := ⟨2, ![2048, 1024]⟩
abbrev S2x1024x1024 : Shape := ⟨3, ![2, 1024, 1024]⟩
abbrev S1x1024x1024 : Shape := ⟨3, ![1, 1024, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2x1024x1024, .f32⟩
  | .hbm, ⟨2, _⟩ => ⟨S1x1024x1024, .f32⟩
  | .hbm, ⟨3, _⟩ => ⟨S1024x1024, .f32⟩
  | .hbm, ⟨4, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Pproj.lean ====
abbrev S2048x256 : Shape := ⟨2, ![2048, 256]⟩
abbrev S2x256x1024 : Shape := ⟨3, ![2, 256, 1024]⟩
abbrev S2x256x4x256 : Shape := ⟨4, ![2, 256, 4, 256]⟩
abbrev S4x2x256x256 : Shape := ⟨4, ![4, 2, 256, 256]⟩
abbrev S2048x1024 : Shape := ⟨2, ![2048, 1024]⟩
abbrev S1x1x256x256 : Shape := ⟨4, ![1, 1, 256, 256]⟩
abbrev S256x256 : Shape := ⟨2, ![256, 256]⟩

abbrev nBuf : Space → Nat
  | .hbm => 6
  | .vmem => 5
  | .smem => 0
  | _ => 0

abbrev bufTy : (tb : Table) → Fin (tcTables nBuf tb) → BufTy
  | .hbm, ⟨0, _⟩ => ⟨S2048x256, .f32⟩
  | .hbm, ⟨1, _⟩ => ⟨S2x256x1024, .f32⟩
  | .hbm, ⟨2, _⟩ => ⟨S2x256x1024, .bf16⟩
  | .hbm, ⟨3, _⟩ => ⟨S2x256x4x256, .bf16⟩
  | .hbm, ⟨4, _⟩ => ⟨S4x2x256x256, .bf16⟩
  | .hbm, ⟨5, _⟩ => ⟨S2048x1024, .f32⟩
  | .local _ .vmem, ⟨0, _⟩ => ⟨S2048x256, .f32⟩
  | .local _ .vmem, ⟨1, _⟩ => ⟨S1x1x256x256, .bf16⟩
  | .local _ .vmem, ⟨2, _⟩ => ⟨S1x1x256x256, .bf16⟩
  | .local _ .vmem, ⟨3, _⟩ => ⟨S2048x256, .f32⟩
  | .local _ .vmem, ⟨4, _⟩ => ⟨S2048x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PprojIdeal.lean ====
  let c1_i32 : BitVec 32 := 1#32
  ![arg1.toNat, c1_i32.toNat, c0_i32.toNat, c0_i32_0.toNat]
-- ==== PprojRefIdeal.lean ====
abbrev S2048x256 : Shape := ⟨2, ![2048, 256]⟩
abbrev S2x256x1024 : Shape := ⟨3, ![2, 256, 1024]⟩
abbrev S1x256x1024 : Shape := ⟨3, ![1, 256, 1024]⟩
abbrev S256x1024 : Shape := ⟨2, ![256, 1024]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2x256x1024, .f32⟩
  | .hbm, ⟨2, _⟩ => ⟨S1x256x1024, .f32⟩
  | .hbm, ⟨3, _⟩ => ⟨S256x1024, .f32⟩
  | .hbm, ⟨4, _⟩ => ⟨S2048x1024, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DactZero.lean ====
abbrev S2x2816x1024 : Shape := ⟨3, ![2, 2816, 1024]⟩
abbrev S2048x1024 : Shape := ⟨2, ![2048, 1024]⟩
abbrev S2x4x704x1024 : Shape := ⟨4, ![2, 4, 704, 1024]⟩
abbrev S4x2x704x1024 : Shape := ⟨4, ![4, 2, 704, 1024]⟩
abbrev S4x2048x704 : Shape := ⟨3, ![4, 2048, 704]⟩
abbrev S1x1x704x1024 : Shape := ⟨4, ![1, 1, 704, 1024]⟩
abbrev S1x2048x704 : Shape := ⟨3, ![1, 2048, 704]⟩
abbrev S704x1024 : Shape := ⟨2, ![704, 1024]⟩
abbrev S2048x704 : Shape := ⟨2, ![2048, 704]⟩

abbrev nBuf : Space → Nat
  | .hbm => 6
  | .vmem => 5
  | .smem => 0
  | _ => 0

abbrev bufTy : (tb : Table) → Fin (tcTables nBuf tb) → BufTy
  | .hbm, ⟨0, _⟩ => ⟨S2x2816x1024, .f32⟩
  | .hbm, ⟨1, _⟩ => ⟨S2048x1024, .f32⟩
  | .hbm, ⟨2, _⟩ => ⟨S2x2816x1024, .bf16⟩
  | .hbm, ⟨3, _⟩ => ⟨S2x4x704x1024, .bf16⟩
  | .hbm, ⟨4, _⟩ => ⟨S4x2x704x1024, .bf16⟩
  | .hbm, ⟨5, _⟩ => ⟨S4x2048x704, .f32⟩
  | .local _ .vmem, ⟨0, _⟩ => ⟨S2048x1024, .f32⟩
  | .local _ .vmem, ⟨1, _⟩ => ⟨S1x1x704x1024, .bf16⟩
  | .local _ .vmem, ⟨2, _⟩ => ⟨S1x1x704x1024, .bf16⟩
  | .local _ .vmem, ⟨3, _⟩ => ⟨S1x2048x704, .f32⟩
  | .local _ .vmem, ⟨4, _⟩ => ⟨S1x2048x704, .f32⟩
  | _, _ => ⟨S2x2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DactZeroRefIdeal.lean ====
abbrev S2x2816x1024 : Shape := ⟨3, ![2, 2816, 1024]⟩
abbrev S2048x1024 : Shape := ⟨2, ![2048, 1024]⟩
abbrev S_ : Shape := ⟨0, ![]⟩
abbrev S2048x2816 : Shape := ⟨2, ![2048, 2816]⟩
abbrev S1x2816x1024 : Shape := ⟨3, ![1, 2816, 1024]⟩
abbrev S2816x1024 : Shape := ⟨2, ![2816, 1024]⟩
abbrev S2048x4x704 : Shape := ⟨3, ![2048, 4, 704]⟩
abbrev S4x2048x704 : Shape := ⟨3, ![4, 2048, 704]⟩

abbrev nBuf : Space → Nat
  | .hbm => 10
  | .vmem => 0
  | .smem => 0
  | _ => 0

abbrev bufTy : (tb : Table) → Fin (tcTables nBuf tb) → BufTy
  | .hbm, ⟨0, _⟩ => ⟨S2x2816x1024, .f32⟩
  | .hbm, ⟨1, _⟩ => ⟨S2048x1024, .f32⟩
  | .hbm, ⟨2, _⟩ => ⟨S_, .f32⟩
  | .hbm, ⟨3, _⟩ => ⟨S2048x2816, .f32⟩
  | .hbm, ⟨4, _⟩ => ⟨S1x2816x1024, .f32⟩
  | .hbm, ⟨5, _⟩ => ⟨S2816x1024, .f32⟩
  | .hbm, ⟨6, _⟩ => ⟨S2048x1024, .f32⟩
  | .hbm, ⟨7, _⟩ => ⟨S2048x2816, .f32⟩
  | .hbm, ⟨8, _⟩ => ⟨S2048x4x704, .f32⟩
  | .hbm, ⟨9, _⟩ => ⟨S4x2048x704, .f32⟩
  | _, _ => ⟨S2x2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DxaZero.lean ====
abbrev S2x1024x2816 : Shape := ⟨3, ![2, 1024, 2816]⟩
abbrev S2048x2816 : Shape := ⟨2, ![2048, 2816]⟩
abbrev S2048x1024 : Shape := ⟨2, ![2048, 1024]⟩
abbrev S2048x4x704 : Shape := ⟨3, ![2048, 4, 704]⟩
abbrev S4x2048x704 : Shape := ⟨3, ![4, 2048, 704]⟩
abbrev S2x1024x4x704 : Shape := ⟨4, ![2, 1024, 4, 704]⟩
abbrev S4x2x1024x704 : Shape := ⟨4, ![4, 2, 1024, 704]⟩
abbrev S1x2048x704 : Shape := ⟨3, ![1, 2048, 704]⟩
abbrev S1x1x1024x704 : Shape := ⟨4, ![1, 1, 1024, 704]⟩
abbrev S2048x704 : Shape := ⟨2, ![2048, 704]⟩
abbrev S1024x704 : Shape := ⟨2, ![1024, 704]⟩

abbrev nBuf : Space → Nat
  | .hbm => 10
  | .vmem => 6
  | .smem => 0
  | _ => 0

abbrev bufTy : (tb : Table) → Fin (tcTables nBuf tb) → BufTy
  | .hbm, ⟨0, _⟩ => ⟨S2x1024x2816, .f32⟩
  | .hbm, ⟨1, _⟩ => ⟨S2048x2816, .f32⟩
  | .hbm, ⟨2, _⟩ => ⟨S2048x1024, .f32⟩
  | .hbm, ⟨3, _⟩ => ⟨S2048x2816, .bf16⟩
  | .hbm, ⟨4, _⟩ => ⟨S2048x4x704, .bf16⟩
  | .hbm, ⟨5, _⟩ => ⟨S4x2048x704, .bf16⟩
  | .hbm, ⟨6, _⟩ => ⟨S2x1024x2816, .bf16⟩
  | .hbm, ⟨7, _⟩ => ⟨S2x1024x4x704, .bf16⟩
  | .hbm, ⟨8, _⟩ => ⟨S4x2x1024x704, .bf16⟩
  | .hbm, ⟨9, _⟩ => ⟨S2048x1024, .f32⟩
  | .local _ .vmem, ⟨0, _⟩ => ⟨S1x2048x704, .bf16⟩
  | .local _ .vmem, ⟨1, _⟩ => ⟨S1x2048x704, .bf16⟩
  | .local _ .vmem, ⟨2, _⟩ => ⟨S1x1x1024x704, .bf16⟩
  | .local _ .vmem, ⟨3, _⟩ => ⟨S1x1x1024x704, .bf16⟩
  | .local _ .vmem, ⟨4, _⟩ => ⟨S2048x1024, .f32⟩
  | .local _ .vmem, ⟨5, _⟩ => ⟨S2048x1024, .f32⟩
  | _, _ => ⟨S2x1024x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_6 : BitVec 32 := 0#32
  let v7 : BitVec 1 := Scalar.cmpi .ne v6 c0_i32_6
  v7

def k0_cond2 (i : grid0.Coords) : BitVec 1 :=
  let arg1 : BitVec 32 := BitVec.ofNat 32 (i 1).val
  let c0_i32_7 : BitVec 32 := 0#32
  let v8 : BitVec 1 := Scalar.cmpi .sgt arg1 c0_i32_7
  let v9 : BitVec 32 := Scalar.extui v8
  let c0_i32_8 : BitVec 32 := 0#32
  let v10 : BitVec 1 := Scalar.cmpi .ne v9 c0_i32_8
  v10

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== DxaZeroRefIdeal.lean ====
abbrev S2x1024x2816 : Shape := ⟨3, ![2, 1024, 2816]⟩
abbrev S2048x2816 : Shape := ⟨2, ![2048, 2816]⟩
abbrev S2048x1024 : Shape := ⟨2, ![2048, 1024]⟩
abbrev S_ : Shape := ⟨0, ![]⟩
abbrev S1x1024x2816 : Shape := ⟨3, ![1, 1024, 2816]⟩
abbrev S1024x2816 : Shape := ⟨2, ![1024, 2816]⟩

abbrev nBuf : Space → Nat
  | .hbm => 16
  | .vmem => 0
  | .smem => 0
  | _ => 0

abbrev bufTy : (tb : Table) → Fin (tcTables nBuf tb) → BufTy
  | .hbm, ⟨0, _⟩ => ⟨S2x1024x2816, .f32⟩
  | .hbm, ⟨1, _⟩ => ⟨S2048x2816, .f32⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S1x1024x2816, .f32⟩
  | .hbm, ⟨9, _⟩ => ⟨S1024x2816, .f32⟩
  | .hbm, ⟨10, _⟩ => ⟨S2048x2816, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S2048x1024, .f32⟩
  | _, _ => ⟨S2x1024x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== DxbZero.lean ====
abbrev S2x1024x2816 : Shape := ⟨3, ![2, 1024, 2816]⟩
abbrev S2048x2816 : Shape := ⟨2, ![2048, 2816]⟩
abbrev S2048x1024 : Shape := ⟨2, ![2048, 1024]⟩
abbrev S2048x4x704 : Shape := ⟨3, ![2048, 4, 704]⟩
abbrev S4x2048x704 : Shape := ⟨3, ![4, 2048, 704]⟩
abbrev S2x1024x4x704 : Shape := ⟨4, ![2, 1024, 4, 704]⟩
abbrev S4x2x1024x704 : Shape := ⟨4, ![4, 2, 1024, 704]⟩
abbrev S1x2048x704 : Shape := ⟨3, ![1, 2048, 704]⟩
abbrev S1x1x1024x704 : Shape := ⟨4, ![1, 1, 1024, 704]⟩
abbrev S2048x704 : Shape := ⟨2, ![2048, 704]⟩
abbrev S1024x704 : Shape := ⟨2, ![1024, 704]⟩

abbrev nBuf : Space → Nat
  | .hbm => 10
  | .vmem => 6
  | .smem => 0
  | _ => 0

abbrev bufTy : (tb : Table) → Fin (tcTables nBuf tb) → BufTy
  | .hbm, ⟨0, _⟩ => ⟨S2x1024x2816, .f32⟩
  | .hbm, ⟨1, _⟩ => ⟨S2048x2816, .f32⟩
  | .hbm, ⟨2, _⟩ => ⟨S2048x1024, .f32⟩
  | .hbm, ⟨3, _⟩ => ⟨S2048x2816, .bf16⟩
  | .hbm, ⟨4, _⟩ => ⟨S2048x4x704, .bf16⟩
  | .hbm, ⟨5, _⟩ => ⟨S4x2048x704, .bf16⟩
  | .hbm, ⟨6, _⟩ => ⟨S2x1024x2816, .bf16⟩
  | .hbm, ⟨7, _⟩ => ⟨S2x1024x4x704, .bf16⟩
  | .hbm, ⟨8, _⟩ => ⟨S4x2x1024x704, .bf16⟩
  | .hbm, ⟨9, _⟩ => ⟨S2048x1024, .f32⟩
  | .local _ .vmem, ⟨0, _⟩ => ⟨S1x2048x704, .bf16⟩
  | .local _ .vmem, ⟨1, _⟩ => ⟨S1x2048x704, .bf16⟩
  | .local _ .vmem, ⟨2, _⟩ => ⟨S1x1x1024x704, .bf16⟩
  | .local _ .vmem, ⟨3, _⟩ => ⟨S1x1x1024x704, .bf16⟩
  | .local _ .vmem, ⟨4, _⟩ => ⟨S2048x1024, .f32⟩
  | .local _ .vmem, ⟨5, _⟩ => ⟨S2048x1024, .f32⟩
  | _, _ => ⟨S2x1024x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_6 : BitVec 32 := 0#32
  let v7 : BitVec 1 := Scalar.cmpi .ne v6 c0_i32_6
  v7

def k0_cond2 (i : grid0.Coords) : BitVec 1 :=
  let arg1 : BitVec 32 := BitVec.ofNat 32 (i 1).val
  let c0_i32_7 : BitVec 32 := 0#32
  let v8 : BitVec 1 := Scalar.cmpi .sgt arg1 c0_i32_7
  let v9 : BitVec 32 := Scalar.extui v8
  let c0_i32_8 : BitVec 32 := 0#32
  let v10 : BitVec 1 := Scalar.cmpi .ne v9 c0_i32_8
  v10

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== DxbZeroRefIdeal.lean ====
abbrev S2x1024x2816 : Shape := ⟨3, ![2, 1024, 2816]⟩
abbrev S2048x2816 : Shape := ⟨2, ![2048, 2816]⟩
abbrev S2048x1024 : Shape := ⟨2, ![2048, 1024]⟩
abbrev S_ : Shape := ⟨0, ![]⟩
abbrev S1x1024x2816 : Shape := ⟨3, ![1, 1024, 2816]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2x1024x2816, .f32⟩
  | .hbm, ⟨1, _⟩ => ⟨S2048x2816, .f32⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S1x1024x2816, .f32⟩
  | .hbm, ⟨6, _⟩ => ⟨S1024x2816, .f32⟩
  | .hbm, ⟨7, _⟩ => ⟨S2048x2816, .f32⟩
  | .hbm, ⟨8, _⟩ => ⟨S2048x1024, .f32⟩
  | .hbm, ⟨9, _⟩ => ⟨S2048x1024, .f32⟩
  | _, _ => ⟨S2x1024x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== DpleZero.lean ====
abbrev S2x1024x1024 : Shape := ⟨3, ![2, 1024, 1024]⟩
abbrev S2048x1024 : Shape := ⟨2, ![2048, 1024]⟩
abbrev S2x4x256x1024 : Shape := ⟨4, ![2, 4, 256, 1024]⟩
abbrev S4x2x256x1024 : Shape := ⟨4, ![4, 2, 256, 1024]⟩
abbrev S1x1x256x1024 : Shape := ⟨4, ![1, 1, 256, 1024]⟩
abbrev S2048x256 : Shape := ⟨2, ![2048, 256]⟩
abbrev S256x1024 : Shape := ⟨2, ![256, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2x1024x1024, .f32⟩
  | .hbm, ⟨1, _⟩ => ⟨S2048x1024, .f32⟩
  | .hbm, ⟨2, _⟩ => ⟨S2048x1024, .f32⟩
  | .hbm, ⟨3, _⟩ => ⟨S2048x1024, .bf16⟩
  | .hbm, ⟨4, _⟩ => ⟨S2x1024x1024, .bf16⟩
  | .hbm, ⟨5, _⟩ => ⟨S2x4x256x1024, .bf16⟩
  | .hbm, ⟨6, _⟩ => ⟨S4x2x256x1024, .bf16⟩
  | .hbm, ⟨7, _⟩ => ⟨S2048x1024, .f32⟩
  | .local _ .vmem, ⟨0, _⟩ => ⟨S2048x1024, .bf16⟩
  | .local _ .vmem, ⟨1, _⟩ => ⟨S1x1x256x1024, .bf16⟩
  | .local _ .vmem, ⟨2, _⟩ => ⟨S1x1x256x1024, .bf16⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DpleZeroRefIdeal.lean ====
abbrev S2x1024x1024 : Shape := ⟨3, ![2, 1024, 1024]⟩
abbrev S2048x1024 : Shape := ⟨2, ![2048, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S2048x1024, .f32⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S1x1024x1024, .f32⟩
  | .hbm, ⟨6, _⟩ => ⟨S1024x1024, .f32⟩
  | .hbm, ⟨7, _⟩ => ⟨S2048x1024, .f32⟩
  | .hbm, ⟨8, _⟩ => ⟨S2048x1024, .f32⟩
  | .hbm, ⟨9, _⟩ => ⟨S2048x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== GateZero.lean ====
abbrev S2048x1024 : Shape := ⟨2, ![2048, 1024]⟩
abbrev S2x1024x2816 : Shape := ⟨3, ![2, 1024, 2816]⟩
abbrev S2x1024x4x704 : Shape := ⟨4, ![2, 1024, 4, 704]⟩
abbrev S4x2x1024x704 : Shape := ⟨4, ![4, 2, 1024, 704]⟩
abbrev S4x2048x704 : Shape := ⟨3, ![4, 2048, 704]⟩
abbrev S1x1x1024x704 : Shape := ⟨4, ![1, 1, 1024, 704]⟩
abbrev S1x2048x704 : Shape := ⟨3, ![1, 2048, 704]⟩
abbrev S1024x704 : Shape := ⟨2, ![1024, 704]⟩
abbrev S2048x704 : Shape := ⟨2, ![2048, 704]⟩

abbrev nBuf : Space → Nat
  | .hbm => 6
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2x1024x2816, .f32⟩
  | .hbm, ⟨2, _⟩ => ⟨S2x1024x2816, .bf16⟩
  | .hbm, ⟨3, _⟩ => ⟨S2x1024x4x704, .bf16⟩
  | .hbm, ⟨4, _⟩ => ⟨S4x2x1024x704, .bf16⟩
  | .hbm, ⟨5, _⟩ => ⟨S4x2048x704, .f32⟩
  | .local _ .vmem, ⟨0, _⟩ => ⟨S2048x1024, .f32⟩
  | .local _ .vmem, ⟨1, _⟩ => ⟨S1x1x1024x704, .bf16⟩
  | .local _ .vmem, ⟨2, _⟩ => ⟨S1x1x1024x704, .bf16⟩
  | .local _ .vmem, ⟨3, _⟩ => ⟨S1x2048x704, .f32⟩
  | .local _ .vmem, ⟨4, _⟩ => ⟨S1x2048x704, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateZeroRefIdeal.lean ====
abbrev S2048x1024 : Shape := ⟨2, ![2048, 1024]⟩
abbrev S2x1024x2816 : Shape := ⟨3, ![2, 1024, 2816]⟩
abbrev S1x1024x2816 : Shape := ⟨3, ![1, 1024, 2816]⟩
abbrev S1024x2816 : Shape := ⟨2, ![1024, 2816]⟩
abbrev S2048x2816 : Shape := ⟨2, ![2048, 2816]⟩
abbrev S2048x4x704 : Shape := ⟨3, ![2048, 4, 704]⟩
abbrev S4x2048x704 : Shape := ⟨3, ![4, 2048, 704]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2x1024x2816, .f32⟩
  | .hbm, ⟨2, _⟩ => ⟨S1x1024x2816, .f32⟩
  | .hbm, ⟨3, _⟩ => ⟨S1024x2816, .f32⟩
  | .hbm, ⟨4, _⟩ => ⟨S2048x2816, .f32⟩
  | .hbm, ⟨5, _⟩ => ⟨S2048x4x704, .f32⟩
  | .hbm, ⟨6, _⟩ => ⟨S4x2048x704, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DownZero.lean ====
abbrev S2048x2816 : Shape := ⟨2, ![2048, 2816]⟩
abbrev S2x2816x1024 : Shape := ⟨3, ![2, 2816, 1024]⟩
abbrev S2048x4x704 : Shape := ⟨3, ![2048, 4, 704]⟩
abbrev S4x2048x704 : Shape := ⟨3, ![4, 2048, 704]⟩
abbrev S2x4x704x1024 : Shape := ⟨4, ![2, 4, 704, 1024]⟩
abbrev S4x2x704x1024 : Shape := ⟨4, ![4, 2, 704, 1024]⟩
abbrev S2048x1024 : Shape := ⟨2, ![2048, 1024]⟩
abbrev S1x2048x704 : Shape := ⟨3, ![1, 2048, 704]⟩
abbrev S1x1x704x1024 : Shape := ⟨4, ![1, 1, 704, 1024]⟩
abbrev S2048x704 : Shape := ⟨2, ![2048, 704]⟩
abbrev S704x1024 : Shape := ⟨2, ![704, 1024]⟩

abbrev nBuf : Space → Nat
  | .hbm => 9
  | .vmem => 5
  | .smem => 0
  | _ => 0

abbrev bufTy : (tb : Table) → Fin (tcTables nBuf tb) → BufTy
  | .hbm, ⟨0, _⟩ => ⟨S2048x2816, .f32⟩
  | .hbm, ⟨1, _⟩ => ⟨S2x2816x1024, .f32⟩
  | .hbm, ⟨2, _⟩ => ⟨S2048x2816, .bf16⟩
  | .hbm, ⟨3, _⟩ => ⟨S2048x4x704, .bf16⟩
  | .hbm, ⟨4, _⟩ => ⟨S4x2048x704, .bf16⟩
  | .hbm, ⟨5, _⟩ => ⟨S2x2816x1024, .bf16⟩
  | .hbm, ⟨6, _⟩ => ⟨S2x4x704x1024, .bf16⟩
  | .hbm, ⟨7, _⟩ => ⟨S4x2x704x1024, .bf16⟩
  | .hbm, ⟨8, _⟩ => ⟨S2048x1024, .f32⟩
  | .local _ .vmem, ⟨0, _⟩ => ⟨S1x2048x704, .bf16⟩
  | .local _ .vmem, ⟨1, _⟩ => ⟨S1x2048x704, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S2048x1024, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_6 : BitVec 32 := 0#32
  let v7 : BitVec 1 := Scalar.cmpi .ne v6 c0_i32_6
  v7

def k0_cond2 (i : grid0.Coords) : BitVec 1 :=
  let arg1 : BitVec 32 := BitVec.ofNat 32 (i 1).val
  let c0_i32_7 : BitVec 32 := 0#32
  let v8 : BitVec 1 := Scalar.cmpi .sgt arg1 c0_i32_7
  let v9 : BitVec 32 := Scalar.extui v8
  let c0_i32_8 : BitVec 32 := 0#32
  let v10 : BitVec 1 := Scalar.cmpi .ne v9 c0_i32_8
  v10

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DownZeroRefIdeal.lean ====
abbrev S2048x2816 : Shape := ⟨2, ![2048, 2816]⟩
abbrev S2x2816x1024 : Shape := ⟨3, ![2, 2816, 1024]⟩
abbrev S1x2816x1024 : Shape := ⟨3, ![1, 2816, 1024]⟩
abbrev S2816x1024 : Shape := ⟨2, ![2816, 1024]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2x2816x1024, .f32⟩
  | .hbm, ⟨2, _⟩ => ⟨S1x2816x1024, .f32⟩
  | .hbm, ⟨3, _⟩ => ⟨S2816x1024, .f32⟩
  | .hbm, ⟨4, _⟩ => ⟨S2048x1024, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== PgateZero.lean ====
abbrev S2048x1024 : Shape := ⟨2, ![2048, 1024]⟩
abbrev S2x1024x1024 : Shape := ⟨3, ![2, 1024, 1024]⟩
abbrev S2x4x256x1024 : Shape := ⟨4, ![2, 4, 256, 1024]⟩
abbrev S4x2x256x1024 : Shape := ⟨4, ![4, 2, 256, 1024]⟩
abbrev S2048x256 : Shape := ⟨2, ![2048, 256]⟩
abbrev S1x1x256x1024 : Shape := ⟨4, ![1, 1, 256, 1024]⟩
abbrev S256x1024 : Shape := ⟨2, ![256, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2x1024x1024, .f32⟩
  | .hbm, ⟨2, _⟩ => ⟨S2x1024x1024, .bf16⟩
  | .hbm, ⟨3, _⟩ => ⟨S2x4x256x1024, .bf16⟩
  | .hbm, ⟨4, _⟩ => ⟨S4x2x256x1024, .bf16⟩
  | .hbm, ⟨5, _⟩ => ⟨S2048x1024, .f32⟩
  | .local _ .vmem, ⟨0, _⟩ => ⟨S2048x256, .f32⟩
  | .local _ .vmem, ⟨1, _⟩ => ⟨S2048x256, .f32⟩
  | .local _ .vmem, ⟨2, _⟩ => ⟨S1x1x256x1024, .bf16⟩
  | .local _ .vmem, ⟨3, _⟩ => ⟨S1x1x256x1024, .bf16⟩
  | .local _ .vmem, ⟨4, _⟩ => ⟨S2048x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg1 : BitVec 32 := BitVec.ofNat 32 (i 1).val
  let c0_i32_6 : BitVec 32 := 0#32
  let v8 : BitVec 1 := Scalar.cmpi .sgt arg1 c0_i32_6
  let v9 : BitVec 32 := Scalar.extui v8
  let c0_i32_7 : BitVec 32 := 0#32
  let v10 : BitVec 1 := Scalar.cmpi .ne v9 c0_i32_7
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== PgateZeroRefIdeal.lean ====
abbrev S2048x1024 : Shape := ⟨2, ![2048, 1024]⟩
abbrev S2x1024x1024 : Shape := ⟨3, ![2, 1024, 1024]⟩
abbrev S1x1024x1024 : Shape := ⟨3, ![1, 1024, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2x1024x1024, .f32⟩
  | .hbm, ⟨2, _⟩ => ⟨S1x1024x1024, .f32⟩
  | .hbm, ⟨3, _⟩ => ⟨S1024x1024, .f32⟩
  | .hbm, ⟨4, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== PprojZero.lean ====
abbrev S2048x256 : Shape := ⟨2, ![2048, 256]⟩
abbrev S2x256x1024 : Shape := ⟨3, ![2, 256, 1024]⟩
abbrev S2x256x4x256 : Shape := ⟨4, ![2, 256, 4, 256]⟩
abbrev S4x2x256x256 : Shape := ⟨4, ![4, 2, 256, 256]⟩
abbrev S2048x1024 : Shape := ⟨2, ![2048, 1024]⟩
abbrev S1x1x256x256 : Shape := ⟨4, ![1, 1, 256, 256]⟩
abbrev S256x256 : Shape := ⟨2, ![256, 256]⟩

abbrev nBuf : Space → Nat
  | .hbm => 6
  | .vmem => 5
  | .smem => 0
  | _ => 0

abbrev bufTy : (tb : Table) → Fin (tcTables nBuf tb) → BufTy
  | .hbm, ⟨0, _⟩ => ⟨S2048x256, .f32⟩
  | .hbm, ⟨1, _⟩ => ⟨S2x256x1024, .f32⟩
  | .hbm, ⟨2, _⟩ => ⟨S2x256x1024, .bf16⟩
  | .hbm, ⟨3, _⟩ => ⟨S2x256x4x256, .bf16⟩
  | .hbm, ⟨4, _⟩ => ⟨S4x2x256x256, .bf16⟩
  | .hbm, ⟨5, _⟩ => ⟨S2048x1024, .f32⟩
  | .local _ .vmem, ⟨0, _⟩ => ⟨S2048x256, .f32⟩
  | .local _ .vmem, ⟨1, _⟩ => ⟨S1x1x256x256, .bf16⟩
  | .local _ .vmem, ⟨2, _⟩ => ⟨S1x1x256x256, .bf16⟩
  | .local _ .vmem, ⟨3, _⟩ => ⟨S2048x256, .f32⟩
  | .local _ .vmem, ⟨4, _⟩ => ⟨S2048x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PprojZeroRefIdeal.lean ====
abbrev S2048x256 : Shape := ⟨2, ![2048, 256]⟩
abbrev S2x256x1024 : Shape := ⟨3, ![2, 256, 1024]⟩
abbrev S1x256x1024 : Shape := ⟨3, ![1, 256, 1024]⟩
abbrev S256x1024 : Shape := ⟨2, ![256, 1024]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2x256x1024, .f32⟩
  | .hbm, ⟨2, _⟩ => ⟨S1x256x1024, .f32⟩
  | .hbm, ⟨3, _⟩ => ⟨S256x1024, .f32⟩
  | .hbm, ⟨4, _⟩ => ⟨S2048x1024, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Swiglu.lean ====
abbrev S4x2048x704 : Shape := ⟨3, ![4, 2048, 704]⟩
abbrev S1x512x704 : Shape := ⟨3, ![1, 512, 704]⟩
abbrev S512x704 : Shape := ⟨2, ![512, 704]⟩

abbrev nBuf : Space → Nat
  | .hbm => 3
  | .vmem => 6
  | .smem => 0
  | _ => 0

abbrev bufTy : (tb : Table) → Fin (tcTables nBuf tb) → BufTy
  | .hbm, ⟨0, _⟩ => ⟨S4x2048x704, .f32⟩
  | .hbm, ⟨1, _⟩ => ⟨S4x2048x704, .f32⟩
  | .hbm, ⟨2, _⟩ => ⟨S4x2048x704, .bf16⟩
  | .local _ .vmem, ⟨0, _⟩ => ⟨S1x512x704, .f32⟩
  | .local _ .vmem, ⟨1, _⟩ => ⟨S1x512x704, .f32⟩
  | .local _ .vmem, ⟨2, _⟩ => ⟨S1x512x704, .f32⟩
  | .local _ .vmem, ⟨3, _⟩ => ⟨S1x512x704, .f32⟩
  | .local _ .vmem, ⟨4, _⟩ => ⟨S1x512x704, .bf16⟩
  | .local _ .vmem, ⟨5, _⟩ => ⟨S1x512x704, .bf16⟩
  | _, _ => ⟨S4x2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SwigluRefIdeal.lean ====
abbrev S4x2048x704 : Shape := ⟨3, ![4, 2048, 704]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x704, .f32⟩
  | .hbm, ⟨1, _⟩ => ⟨S4x2048x704, .f32⟩
  | .hbm, ⟨2, _⟩ => ⟨S4x2048x704, .f32⟩
  | .hbm, ⟨3, _⟩ => ⟨S4x2048x704, .f32⟩
  | .hbm, ⟨4, _⟩ => ⟨S_, .f32⟩
  | .hbm, ⟨5, _⟩ => ⟨S4x2048x704, .f32⟩
  | .hbm, ⟨6, _⟩ => ⟨S4x2048x704, .f32⟩
  | .hbm, ⟨7, _⟩ => ⟨S_, .f32⟩
  | .hbm, ⟨8, _⟩ => ⟨S4x2048x704, .f32⟩
  | .hbm, ⟨9, _⟩ => ⟨S4x2048x704, .f32⟩
  | .hbm, ⟨10, _⟩ => ⟨S4x2048x704, .f32⟩
  | .hbm, ⟨11, _⟩ => ⟨S4x2048x704, .f32⟩
  | .hbm, ⟨12, _⟩ => ⟨S4x2048x704, .bf16⟩
  | _, _ => ⟨S4x2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩

abbrev nD : Nat := 1
abbrev τ : Topo := Topo.v7x

variable {F : FTy → Type} [FloatOps F]
-- ==== Dswiglu.lean ====
abbrev S4x2048x704 : Shape := ⟨3, ![4, 2048, 704]⟩
abbrev S1x512x704 : Shape := ⟨3, ![1, 512, 704]⟩
abbrev S512x704 : Shape := ⟨2, ![512, 704]⟩

abbrev nBuf : Space → Nat
  | .hbm => 5
  | .vmem => 10
  | .smem => 0
  | _ => 0

abbrev bufTy : (tb : Table) → Fin (tcTables nBuf tb) → BufTy
  | .hbm, ⟨0, _⟩ => ⟨S4x2048x704, .f32⟩
  | .hbm, ⟨1, _⟩ => ⟨S4x2048x704, .f32⟩
  | .hbm, ⟨2, _⟩ => ⟨S4x2048x704, .f32⟩
  | .hbm, ⟨3, _⟩ => ⟨S4x2048x704, .bf16⟩
  | .hbm, ⟨4, _⟩ => ⟨S4x2048x704, .bf16⟩
  | .local _ .vmem, ⟨0, _⟩ => ⟨S1x512x704, .f32⟩
  | .local _ .vmem, ⟨1, _⟩ => ⟨S1x512x704, .f32⟩
  | .local _ .vmem, ⟨2, _⟩ => ⟨S1x512x704, .f32⟩
  | .local _ .vmem, ⟨3, _⟩ => ⟨S1x512x704, .f32⟩
  | .local _ .vmem, ⟨4, _⟩ => ⟨S1x512x704, .f32⟩
  | .local _ .vmem, ⟨5, _⟩ => ⟨S1x512x704, .f32⟩
  | .local _ .vmem, ⟨6, _⟩ => ⟨S1x512x704, .bf16⟩
  | .local _ .vmem, ⟨7, _⟩ => ⟨S1x512x704, .bf16⟩
  | .local _ .vmem, ⟨8, _⟩ => ⟨S1x512x704, .bf16⟩
  | .local _ .vmem, ⟨9, _⟩ => ⟨S1x512x704, .bf16⟩
  | _, _ => ⟨S4x2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DswigluRefIdeal.lean ====
abbrev S4x2048x704 : Shape := ⟨3, ![4, 2048, 704]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4x2048x704, .f32⟩
  | .hbm, ⟨1, _⟩ => ⟨S4x2048x704, .f32⟩
  | .hbm, ⟨2, _⟩ => ⟨S4x2048x704, .f32⟩
  | .hbm, ⟨3, _⟩ => ⟨S4x2048x704, .f32⟩
  | .hbm, ⟨4, _⟩ => ⟨S4x2048x704, .f32⟩
  | .hbm, ⟨5, _⟩ => ⟨S_, .f32⟩
  | .hbm, ⟨6, _⟩ => ⟨S4x2048x704, .f32⟩
  | .hbm, ⟨7, _⟩ => ⟨S4x2048x704, .f32⟩
  | .hbm, ⟨8, _⟩ => ⟨S_, .f32⟩
  | .hbm, ⟨9, _⟩ => ⟨S4x2048x704, .f32⟩
  | .hbm, ⟨10, _⟩ => ⟨S4x2048x704, .f32⟩
  | .hbm, ⟨11, _⟩ => ⟨S_, .f32⟩
  | .hbm, ⟨12, _⟩ => ⟨S4x2048x704, .f32⟩
  | .hbm, ⟨13, _⟩ => ⟨S4x2048x704, .f32⟩
  | .hbm, ⟨14, _⟩ => ⟨S4x2048x704, .f32⟩
  | .hbm, ⟨15, _⟩ => ⟨S4x2048x704, .f32⟩
  | .hbm, ⟨16, _⟩ => ⟨S4x2048x704, .f32⟩
  | .hbm, ⟨17, _⟩ => ⟨S4x2048x704, .f32⟩
  | .hbm, ⟨18, _⟩ => ⟨S4x2048x704, .f32⟩
  | .hbm, ⟨19, _⟩ => ⟨S4x2048x704, .f32⟩
  | .hbm, ⟨20, _⟩ => ⟨S4x2048x704, .f32⟩
  | .hbm, ⟨21, _⟩ => ⟨S4x2048x704, .f32⟩
  | .hbm, ⟨22, _⟩ => ⟨S4x2048x704, .f32⟩
  | .hbm, ⟨23, _⟩ => ⟨S4x2048x704, .bf16⟩
  | .hbm, ⟨24, _⟩ => ⟨S4x2048x704, .bf16⟩
  | _, _ => ⟨S4x2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_v0_2 : Ref sig .tc := ⟨.hbm, 10, rfl⟩
abbrev main_call0_cst_1 : Ref sig .tc := ⟨.hbm, 11, rfl⟩
abbrev main_call0_v6 : Ref sig .tc := ⟨.hbm, 12, rfl⟩
abbrev main_call0_v7 : Ref sig .tc := ⟨.hbm, 13, rfl⟩
abbrev main_v0_1 : Ref sig .tc := ⟨.hbm, 14, rfl⟩
abbrev main_v0_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩

abbrev nD : Nat := 1
abbrev τ : Topo := Topo.v7x

variable {F : FTy → Type} [FloatOps F]
-- ==== Gated.lean ====
abbrev S2048x1024 : Shape := ⟨2, ![2048, 1024]⟩
abbrev S1x1024 : Shape := ⟨2, ![1, 1024]⟩
abbrev S512x1024 : Shape := ⟨2, ![512, 1024]⟩

abbrev nBuf : Space → Nat
  | .hbm => 5
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GatedRefIdeal.lean ====
abbrev S2048x1024 : Shape := ⟨2, ![2048, 1024]⟩
abbrev S1x1024 : Shape := ⟨2, ![1, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Dgated.lean ====
abbrev S2048x1024 : Shape := ⟨2, ![2048, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S2048x1024, .bf16⟩
  | .hbm, ⟨5, _⟩ => ⟨S2048x1024, .bf16⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DgatedRefIdeal.lean ====
abbrev S2048x1024 : Shape := ⟨2, ![2048, 1024]⟩
abbrev S1x1024 : Shape := ⟨2, ![1, 1024]⟩
abbrev S_ : Shape := ⟨0, ![]⟩
abbrev S1024 : Shape := ⟨1, ![1024]⟩

abbrev nBuf : Space → Nat
  | .hbm => 27
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S1024, .f32⟩
  | .hbm, ⟨24, _⟩ => ⟨S1x1024, .f32⟩
  | .hbm, ⟨25, _⟩ => ⟨S2048x1024, .bf16⟩
  | .hbm, ⟨26, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Norm.lean ====
abbrev S2048x1024 : Shape := ⟨2, ![2048, 1024]⟩
abbrev S1x1024 : Shape := ⟨2, ![1, 1024]⟩
abbrev S2048x1 : Shape := ⟨2, ![2048, 1]⟩
abbrev S512x1024 : Shape := ⟨2, ![512, 1024]⟩
abbrev S512x1 : Shape := ⟨2, ![512, 1]⟩
abbrev S512 : Shape := ⟨1, ![512]⟩

abbrev nBuf : Space → Nat
  | .hbm => 7
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1, .f32⟩
  | .local _ .vmem, ⟨11, _⟩ => ⟨S512x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== NormRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 35
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Dnorm.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S512x1024 : Shape := ⟨2, ![512, 1024]⟩
abbrev S512x1 : Shape := ⟨2, ![512, 1]⟩
abbrev S512 : Shape := ⟨1, ![512]⟩
abbrev S1024 : Shape := ⟨1, ![1024]⟩

abbrev nBuf : Space → Nat
  | .hbm => 30
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S1x1024, .f32⟩
  | .hbm, ⟨29, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1, .f32⟩
  | .local _ .vmem, ⟨5, _⟩ => ⟨S512x1, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DnormRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 79
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S2048x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S2048, .f32⟩
  | .hbm, ⟨51, _⟩ => ⟨S2048x1, .f32⟩
  | .hbm, ⟨52, _⟩ => ⟨S2048x1024, .f32⟩
  | .hbm, ⟨53, _⟩ => ⟨S2048x1024, .f32⟩
  | .hbm, ⟨54, _⟩ => ⟨S2048x1, .f32⟩
  | .hbm, ⟨55, _⟩ => ⟨S2048x1024, .f32⟩
  | .hbm, ⟨56, _⟩ => ⟨S_, .f32⟩
  | .hbm, ⟨57, _⟩ => ⟨S2048, .f32⟩
  | .hbm, ⟨58, _⟩ => ⟨S2048x1, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S_, .f32⟩
  | .hbm, ⟨63, _⟩ => ⟨S2048, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S_, .f32⟩
  | .hbm, ⟨68, _⟩ => ⟨S2048, .f32⟩
  | .hbm, ⟨69, _⟩ => ⟨S2048x1, .f32⟩
  | .hbm, ⟨70, _⟩ => ⟨S2048x1024, .f32⟩
  | .hbm, ⟨71, _⟩ => ⟨S2048x1, .f32⟩
  | .hbm, ⟨72, _⟩ => ⟨S_, .f32⟩
  | .hbm, ⟨73, _⟩ => ⟨S2048x1, .f32⟩
  | .hbm, ⟨74, _⟩ => ⟨S2048x1, .f32⟩
  | .hbm, ⟨75, _⟩ => ⟨S_, .f32⟩
  | .hbm, ⟨76, _⟩ => ⟨S2048, .f32⟩
  | .hbm, ⟨77, _⟩ => ⟨S2048x1024, .f32⟩
  | .hbm, ⟨78, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_13 : Ref sig .tc := ⟨.hbm, 72, rfl⟩
abbrev main_v54 : Ref sig .tc := ⟨.hbm, 73, rfl⟩
abbrev main_v55 : Ref sig .tc := ⟨.hbm, 74, rfl⟩
abbrev main_cst_14 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== Dpool.lean ====
abbrev S2048x1024 : Shape := ⟨2, ![2048, 1024]⟩
abbrev S2048x512 : Shape := ⟨2, ![2048, 512]⟩
abbrev S4x128x128 : Shape := ⟨3, ![4, 128, 128]⟩
abbrev S512 : Shape := ⟨1, ![512]⟩
abbrev S1x512 : Shape := ⟨2, ![1, 512]⟩
abbrev S2064x512 : Shape := ⟨2, ![2064, 512]⟩
abbrev S16x512 : Shape := ⟨2, ![16, 512]⟩
abbrev S1x128x128 : Shape := ⟨3, ![1, 128, 128]⟩
abbrev S128x128 : Shape := ⟨2, ![128, 128]⟩
abbrev S2048x128 : Shape := ⟨2, ![2048, 128]⟩
abbrev S1x128 : Shape := ⟨2, ![1, 128]⟩
abbrev S128 : Shape := ⟨1, ![128]⟩
abbrev S2048x1 : Shape := ⟨2, ![2048, 1]⟩
abbrev S256x128 : Shape := ⟨2, ![256, 128]⟩

abbrev nBuf : Space → Nat
  | .hbm => 8
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S4x128x128, .f32⟩
  | .hbm, ⟨3, _⟩ => ⟨S512, .f32⟩
  | .hbm, ⟨4, _⟩ => ⟨S1x512, .f32⟩
  | .hbm, ⟨5, _⟩ => ⟨S2048x512, .f32⟩
  | .hbm, ⟨6, _⟩ => ⟨S4x128x128, .f32⟩
  | .hbm, ⟨7, _⟩ => ⟨S1x512, .f32⟩
  | .local _ .vmem, ⟨0, _⟩ => ⟨S2048x512, .f32⟩
  | .local _ .vmem, ⟨1, _⟩ => ⟨S2048x512, .f32⟩
  | .local _ .vmem, ⟨2, _⟩ => ⟨S4x128x128, .f32⟩
  | .local _ .vmem, ⟨3, _⟩ => ⟨S1x512, .f32⟩
  | .local _ .vmem, ⟨4, _⟩ => ⟨S2048x512, .f32⟩
  | .local _ .vmem, ⟨5, _⟩ => ⟨S4x128x128, .f32⟩
  | .local _ .vmem, ⟨6, _⟩ => ⟨S1x512, .f32⟩
  | .local _ .vmem, ⟨7, _⟩ => ⟨S2064x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DpoolRefIdeal.lean ====
abbrev S2048x1024 : Shape := ⟨2, ![2048, 1024]⟩
abbrev S2048x512 : Shape := ⟨2, ![2048, 512]⟩
abbrev S4x128x128 : Shape := ⟨3, ![4, 128, 128]⟩
abbrev S512 : Shape := ⟨1, ![512]⟩
abbrev S2048x4x128 : Shape := ⟨3, ![2048, 4, 128]⟩
abbrev S4x128x2048 : Shape := ⟨3, ![4, 128, 2048]⟩
abbrev S1x512 : Shape := ⟨2, ![1, 512]⟩
abbrev S_ : Shape := ⟨0, ![]⟩
abbrev S4x2048x128 : Shape := ⟨3, ![4, 2048, 128]⟩
abbrev S4 : Shape := ⟨1, ![4]⟩
abbrev S2048 : Shape := ⟨1, ![2048]⟩
abbrev S2048x1x1 : Shape := ⟨3, ![2048, 1, 1]⟩
abbrev S2048x1 : Shape := ⟨2, ![2048, 1]⟩
abbrev S1x2048x1 : Shape := ⟨3, ![1, 2048, 1]⟩
abbrev S2048x2048x1 : Shape := ⟨3, ![2048, 2048, 1]⟩
abbrev S1x4 : Shape := ⟨2, ![1, 4]⟩
abbrev S2048x4 : Shape := ⟨2, ![2048, 4]⟩
abbrev S1x2048x4 : Shape := ⟨3, ![1, 2048, 4]⟩
abbrev S2048x2048x4 : Shape := ⟨3, ![2048, 2048, 4]⟩
abbrev S2048x2048x4x1 : Shape := ⟨4, ![2048, 2048, 4, 1]⟩
abbrev S2048x2048x4x128 : Shape := ⟨4, ![2048, 2048, 4, 128]⟩
abbrev S2048x4x1 : Shape := ⟨3, ![2048, 4, 1]⟩

abbrev nBuf : Space → Nat
  | .hbm => 87
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S4x128x128, .f32⟩
  | .hbm, ⟨3, _⟩ => ⟨S512, .f32⟩
  | .hbm, ⟨4, _⟩ => ⟨S2048x4x128, .f32⟩
  | .hbm, ⟨5, _⟩ => ⟨S4x128x2048, .f32⟩
  | .hbm, ⟨6, _⟩ => ⟨S2048x4x128, .f32⟩
  | .hbm, ⟨7, _⟩ => ⟨S2048x512, .f32⟩
  | .hbm, ⟨8, _⟩ => ⟨S1x512, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S2048x512, .f32⟩
  | .hbm, ⟨13, _⟩ => ⟨S_, .f32⟩
  | .hbm, ⟨14, _⟩ => ⟨S512, .f32⟩
  | .hbm, ⟨15, _⟩ => ⟨S1x512, .f32⟩
  | .hbm, ⟨16, _⟩ => ⟨S2048x512, .f32⟩
  | .hbm, ⟨17, _⟩ => ⟨S2048x512, .f32⟩
  | .hbm, ⟨18, _⟩ => ⟨S_, .f32⟩
  | .hbm, ⟨19, _⟩ => ⟨S512, .f32⟩
  | .hbm, ⟨20, _⟩ => ⟨S2048x4x128, .f32⟩
  | .hbm, ⟨21, _⟩ => ⟨S4x128x2048, .f32⟩
  | .hbm, ⟨22, _⟩ => ⟨S4x2048x128, .f32⟩
  | .hbm, ⟨23, _⟩ => ⟨S2048x4x128, .f32⟩
  | .hbm, ⟨24, _⟩ => ⟨S4x128x128, .f32⟩
  | .hbm, ⟨25, _⟩ => ⟨S4x128x128, .f32⟩
  | .hbm, ⟨26, _⟩ => ⟨S_, .f32⟩
  | .hbm, ⟨27, _⟩ => ⟨S2048x512, .f32⟩
  | .hbm, ⟨28, _⟩ => ⟨S2048x4x128, .f32⟩
  | .hbm, ⟨29, _⟩ => ⟨S4, .i32⟩
  | .hbm, ⟨30, _⟩ => ⟨S_, .i32⟩
  | .hbm, ⟨31, _⟩ => ⟨S4, .i32⟩
  | .hbm, ⟨32, _⟩ => ⟨S4, .i32⟩
  | .hbm, ⟨33, _⟩ => ⟨S2048, .i32⟩
  | .hbm, ⟨34, _⟩ => ⟨S2048x1x1, .i32⟩
  | .hbm, ⟨35, _⟩ => ⟨S2048, .i32⟩
  | .hbm, ⟨36, _⟩ => ⟨S2048x1, .i32⟩
  | .hbm, ⟨37, _⟩ => ⟨S1x2048x1, .i32⟩
  | .hbm, ⟨38, _⟩ => ⟨S2048x2048x1, .i32⟩
  | .hbm, ⟨39, _⟩ => ⟨S2048x2048x1, .i32⟩
  | .hbm, ⟨40, _⟩ => ⟨S2048x2048x1, .i1⟩
  | .hbm, ⟨41, _⟩ => ⟨S1x4, .i32⟩
  | .hbm, ⟨42, _⟩ => ⟨S2048x4, .i32⟩
  | .hbm, ⟨43, _⟩ => ⟨S2048x4, .i32⟩
  | .hbm, ⟨44, _⟩ => ⟨S2048x4, .i32⟩
  | .hbm, ⟨45, _⟩ => ⟨S1x2048x4, .i32⟩
  | .hbm, ⟨46, _⟩ => ⟨S2048x2048x4, .i32⟩
  | .hbm, ⟨47, _⟩ => ⟨S2048x2048x4, .i32⟩
  | .hbm, ⟨48, _⟩ => ⟨S2048x2048x4, .i1⟩
  | .hbm, ⟨49, _⟩ => ⟨S2048x2048x4, .i1⟩
  | .hbm, ⟨50, _⟩ => ⟨S2048x2048x4, .i1⟩
  | .hbm, ⟨51, _⟩ => ⟨S2048x2048x4x1, .i1⟩
  | .hbm, ⟨52, _⟩ => ⟨S_, .f32⟩
  | .hbm, ⟨53, _⟩ => ⟨S_, .f32⟩
  | .hbm, ⟨54, _⟩ => ⟨S2048x2048x4x128, .i1⟩
  | .hbm, ⟨55, _⟩ => ⟨S2048x2048x4x128, .f32⟩
  | .hbm, ⟨56, _⟩ => ⟨S2048x2048x4x128, .f32⟩
  | .hbm, ⟨57, _⟩ => ⟨S2048x2048x4x128, .f32⟩
  | .hbm, ⟨58, _⟩ => ⟨S_, .f32⟩
  | .hbm, ⟨59, _⟩ => ⟨S2048x2048x4x128, .f32⟩
  | .hbm, ⟨60, _⟩ => ⟨S_, .f32⟩
  | .hbm, ⟨61, _⟩ => ⟨S2048x4x128, .f32⟩
  | .hbm, ⟨62, _⟩ => ⟨S2048x1, .i32⟩
  | .hbm, ⟨63, _⟩ => ⟨S_, .i32⟩
  | .hbm, ⟨64, _⟩ => ⟨S2048x1, .i32⟩
  | .hbm, ⟨65, _⟩ => ⟨S2048x1, .i32⟩
  | .hbm, ⟨66, _⟩ => ⟨S1x4, .i32⟩
  | .hbm, ⟨67, _⟩ => ⟨S2048x4, .i32⟩
  | .hbm, ⟨68, _⟩ => ⟨S2048x4, .i32⟩
  | .hbm, ⟨69, _⟩ => ⟨S2048x4, .i32⟩
  | .hbm, ⟨70, _⟩ => ⟨S2048x4, .f32⟩
  | .hbm, ⟨71, _⟩ => ⟨S2048x4x1, .f32⟩
  | .hbm, ⟨72, _⟩ => ⟨S2048x4x128, .f32⟩
  | .hbm, ⟨73, _⟩ => ⟨S2048x4x128, .f32⟩
  | .hbm, ⟨74, _⟩ => ⟨S2048x4x128, .f32⟩
  | .hbm, ⟨75, _⟩ => ⟨S2048x4x128, .f32⟩
  | .hbm, ⟨76, _⟩ => ⟨S2048x4x128, .f32⟩
  | .hbm, ⟨77, _⟩ => ⟨S2048x4x128, .f32⟩
  | .hbm, ⟨78, _⟩ => ⟨S2048x2048x4x128, .f32⟩
  | .hbm, ⟨79, _⟩ => ⟨S_, .f32⟩
  | .hbm, ⟨80, _⟩ => ⟨S2048x2048x4x128, .f32⟩
  | .hbm, ⟨81, _⟩ => ⟨S2048x2048x4x128, .f32⟩
  | .hbm, ⟨82, _⟩ => ⟨S_, .f32⟩
  | .hbm, ⟨83, _⟩ => ⟨S2048x4x128, .f32⟩
  | .hbm, ⟨84, _⟩ => ⟨S2048x4x128, .f32⟩
  | .hbm, ⟨85, _⟩ => ⟨S2048x512, .f32⟩
  | .hbm, ⟨86, _⟩ => ⟨S1x512, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_2 : Ref sig .tc := ⟨.hbm, 52, rfl⟩
abbrev main_call0_v0 : Ref sig .tc := ⟨.hbm, 53, rfl⟩
abbrev main_v44_1 : Ref sig .tc := ⟨.hbm, 54, rfl⟩
abbrev main_call0_v2 : Ref sig .tc := ⟨.hbm, 55, rfl⟩
abbrev main_call0_v3 : Ref sig .tc := ⟨.hbm, 56, rfl⟩
abbrev main_v44_0 : Ref sig .tc := ⟨.hbm, 57, rfl⟩
abbrev main_call0_cst : Ref sig .tc := ⟨.hbm, 58, rfl⟩
abbrev main_v44_2 : Ref sig .tc := ⟨.hbm, 59, rfl⟩
abbrev main_cst_3 : Ref sig .tc := ⟨.hbm, 60, rfl⟩
abbrev main_v45 : Ref sig .tc := ⟨.hbm, 61, rfl⟩
abbrev main_v46 : Ref sig .tc := ⟨.hbm, 62, rfl⟩
abbrev main_c_4 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_call1_cst : Ref sig .tc := ⟨.hbm, 79, rfl⟩
abbrev main_call1_v0 : Ref sig .tc := ⟨.hbm, 80, rfl⟩
abbrev main_call1_v1 : Ref sig .tc := ⟨.hbm, 81, rfl⟩
abbrev main_call1_cst_0 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩

abbrev nD : Nat := 1
abbrev τ : Topo := Topo.v7x

variable {F : FTy → Type} [FloatOps F]
-- ==== Gating.lean ====
abbrev S2048x2048 : Shape := ⟨2, ![2048, 2048]⟩
abbrev S512 : Shape := ⟨1, ![512]⟩
abbrev S4x128x128 : Shape := ⟨3, ![4, 128, 128]⟩
abbrev S4x128 : Shape := ⟨2, ![4, 128]⟩
abbrev S2048x4x512 : Shape := ⟨3, ![2048, 4, 512]⟩
abbrev S4x2048x512 : Shape := ⟨3, ![4, 2048, 512]⟩
abbrev S1x512 : Shape := ⟨2, ![1, 512]⟩
abbrev S128x4 : Shape := ⟨2, ![128, 4]⟩
abbrev S2048x512 : Shape := ⟨2, ![2048, 512]⟩
abbrev S2048x1 : Shape := ⟨2, ![2048, 1]⟩
abbrev S1x128x512 : Shape := ⟨3, ![1, 128, 512]⟩
abbrev S128x512 : Shape := ⟨2, ![128, 512]⟩
abbrev S128x1 : Shape := ⟨2, ![128, 1]⟩
abbrev S128 : Shape := ⟨1, ![128]⟩
abbrev S128x128 : Shape := ⟨2, ![128, 128]⟩
abbrev S1x128x128 : Shape := ⟨3, ![1, 128, 128]⟩

abbrev nBuf : Space → Nat
  | .hbm => 13
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S2048x4x512, .f32⟩
  | .hbm, ⟨6, _⟩ => ⟨S4x2048x512, .f32⟩
  | .hbm, ⟨7, _⟩ => ⟨S1x512, .f32⟩
  | .hbm, ⟨8, _⟩ => ⟨S1x512, .f32⟩
  | .hbm, ⟨9, _⟩ => ⟨S128x4, .f32⟩
  | .hbm, ⟨10, _⟩ => ⟨S2048x512, .f32⟩
  | .hbm, ⟨11, _⟩ => ⟨S2048x512, .f32⟩
  | .hbm, ⟨12, _⟩ => ⟨S2048x1, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x512, .f32⟩
  | .local _ .vmem, ⟨5, _⟩ => ⟨S1x512, .f32⟩
  | .local _ .vmem, ⟨6, _⟩ => ⟨S4x128x128, .f32⟩
  | .local _ .vmem, ⟨7, _⟩ => ⟨S128x4, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x1, .f32⟩
  | .local _ .vmem, ⟨13, _⟩ => ⟨S128x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GatingRefIdeal.lean ====
abbrev S2048x2048 : Shape := ⟨2, ![2048, 2048]⟩
abbrev S512 : Shape := ⟨1, ![512]⟩
abbrev S4x128x128 : Shape := ⟨3, ![4, 128, 128]⟩
abbrev S4x128 : Shape := ⟨2, ![4, 128]⟩
abbrev S2048x1024 : Shape := ⟨2, ![2048, 1024]⟩
abbrev S_ : Shape := ⟨0, ![]⟩
abbrev S2048x512 : Shape := ⟨2, ![2048, 512]⟩
abbrev S2048 : Shape := ⟨1, ![2048]⟩
abbrev S2048x1 : Shape := ⟨2, ![2048, 1]⟩
abbrev S128x128 : Shape := ⟨2, ![128, 128]⟩
abbrev S1x128x128 : Shape := ⟨3, ![1, 128, 128]⟩
abbrev S1x512 : Shape := ⟨2, ![1, 512]⟩
abbrev S16x128x4x128 : Shape := ⟨4, ![16, 128, 4, 128]⟩
abbrev S4x16x128x128 : Shape := ⟨4, ![4, 16, 128, 128]⟩
abbrev S128x4 : Shape := ⟨2, ![128, 4]⟩
abbrev S1x128x4x1 : Shape := ⟨4, ![1, 128, 4, 1]⟩

abbrev nBuf : Space → Nat
  | .hbm => 77
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x512, .f32⟩
  | .hbm, ⟨24, _⟩ => ⟨S2048x512, .f32⟩
  | .hbm, ⟨25, _⟩ => ⟨S_, .f32⟩
  | .hbm, ⟨26, _⟩ => ⟨S2048, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S2048x1, .f32⟩
  | .hbm, ⟨44, _⟩ => ⟨S2048x512, .f32⟩
  | .hbm, ⟨45, _⟩ => ⟨S2048x512, .f32⟩
  | .hbm, ⟨46, _⟩ => ⟨S2048x512, .f32⟩
  | .hbm, ⟨47, _⟩ => ⟨S2048x512, .f32⟩
  | .hbm, ⟨48, _⟩ => ⟨S_, .f32⟩
  | .hbm, ⟨49, _⟩ => ⟨S128x128, .f32⟩
  | .hbm, ⟨50, _⟩ => ⟨S128x128, .i32⟩
  | .hbm, ⟨51, _⟩ => ⟨S_, .i32⟩
  | .hbm, ⟨52, _⟩ => ⟨S128x128, .i32⟩
  | .hbm, ⟨53, _⟩ => ⟨S128x128, .i32⟩
  | .hbm, ⟨54, _⟩ => ⟨S128x128, .i32⟩
  | .hbm, ⟨55, _⟩ => ⟨S128x128, .i1⟩
  | .hbm, ⟨56, _⟩ => ⟨S_, .f32⟩
  | .hbm, ⟨57, _⟩ => ⟨S128x128, .f32⟩
  | .hbm, ⟨58, _⟩ => ⟨S128x128, .f32⟩
  | .hbm, ⟨59, _⟩ => ⟨S1x128x128, .f32⟩
  | .hbm, ⟨60, _⟩ => ⟨S4x128x128, .f32⟩
  | .hbm, ⟨61, _⟩ => ⟨S4x128x128, .f32⟩
  | .hbm, ⟨62, _⟩ => ⟨S1x512, .f32⟩
  | .hbm, ⟨63, _⟩ => ⟨S2048x512, .f32⟩
  | .hbm, ⟨64, _⟩ => ⟨S2048x512, .f32⟩
  | .hbm, ⟨65, _⟩ => ⟨S1x512, .f32⟩
  | .hbm, ⟨66, _⟩ => ⟨S2048x512, .f32⟩
  | .hbm, ⟨67, _⟩ => ⟨S2048x512, .f32⟩
  | .hbm, ⟨68, _⟩ => ⟨S16x128x4x128, .f32⟩
  | .hbm, ⟨69, _⟩ => ⟨S4x16x128x128, .f32⟩
  | .hbm, ⟨70, _⟩ => ⟨S16x128x4x128, .f32⟩
  | .hbm, ⟨71, _⟩ => ⟨S128x4, .f32⟩
  | .hbm, ⟨72, _⟩ => ⟨S1x128x4x1, .f32⟩
  | .hbm, ⟨73, _⟩ => ⟨S16x128x4x128, .f32⟩
  | .hbm, ⟨74, _⟩ => ⟨S16x128x4x128, .f32⟩
  | .hbm, ⟨75, _⟩ => ⟨S2048x512, .f32⟩
  | .hbm, ⟨76, _⟩ => ⟨S2048x512, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_call0_v0 : Ref sig .tc := ⟨.hbm, 50, rfl⟩
abbrev main_call0_c : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_cst : Ref sig .tc := ⟨.hbm, 56, rfl⟩
abbrev main_call0_v5 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩

abbrev nD : Nat := 1
abbrev τ : Topo := Topo.v7x

variable {F : FTy → Type} [FloatOps F]
-- ==== Loss.lean ====
abbrev S2048x1024 : Shape := ⟨2, ![2048, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x128, .f32⟩
  | .hbm, ⟨3, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x128, .f32⟩
  | .local _ .vmem, ⟨5, _⟩ => ⟨S512x1024, .f32⟩
  | .local _ .vmem, ⟨6, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossRefIdeal.lean ====
abbrev S2048x1024 : Shape := ⟨2, ![2048, 1024]⟩
abbrev S_ : Shape := ⟨0, ![]⟩
abbrev S2048 : Shape := ⟨1, ![2048]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x1024, .f32⟩
  | .hbm, ⟨24, _⟩ => ⟨S2048x1024, .f32⟩
  | .hbm, ⟨25, _⟩ => ⟨S1x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== SumIn.lean ====
abbrev S4x1024x512 : Shape := ⟨3, ![4, 1024, 512]⟩
abbrev S1024x512 : Shape := ⟨2, ![1024, 512]⟩
abbrev S1x1024x512 : Shape := ⟨3, ![1, 1024, 512]⟩

abbrev nBuf : Space → Nat
  | .hbm => 3
  | .vmem => 2
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .bf16⟩
  | .hbm, ⟨2, _⟩ => ⟨S1024x512, .f32⟩
  | .local _ .vmem, ⟨0, _⟩ => ⟨S4x1024x512, .bf16⟩
  | .local _ .vmem, ⟨1, _⟩ => ⟨S1024x512, .f32⟩
  | _, _ => ⟨S4x1024x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumInIdeal.lean ====
abbrev S4x1024x512 : Shape := ⟨3, ![4, 1024, 512]⟩
abbrev S1024x512 : Shape := ⟨2, ![1024, 512]⟩
abbrev S1x1024x512 : Shape := ⟨3, ![1, 1024, 512]⟩

abbrev nBuf : Space → Nat
  | .hbm => 3
  | .vmem => 2
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .bf16⟩
  | .hbm, ⟨2, _⟩ => ⟨S1024x512, .f32⟩
  | .local _ .vmem, ⟨0, _⟩ => ⟨S4x1024x512, .bf16⟩
  | .local _ .vmem, ⟨1, _⟩ => ⟨S1024x512, .f32⟩
  | _, _ => ⟨S4x1024x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumInRefIdeal.lean ====
abbrev S4x1024x512 : Shape := ⟨3, ![4, 1024, 512]⟩
abbrev S_ : Shape := ⟨0, ![]⟩
abbrev S1024x512 : Shape := ⟨2, ![1024, 512]⟩

abbrev nBuf : Space → Nat
  | .hbm => 5
  | .vmem => 0
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .bf16⟩
  | .hbm, ⟨2, _⟩ => ⟨S4x1024x512, .f32⟩
  | .hbm, ⟨3, _⟩ => ⟨S_, .f32⟩
  | .hbm, ⟨4, _⟩ => ⟨S1024x512, .f32⟩
  | _, _ => ⟨S4x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SumOut.lean ====
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 3
  | .vmem => 2
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .bf16⟩
  | .hbm, ⟨2, _⟩ => ⟨S256x1024, .f32⟩
  | .local _ .vmem, ⟨0, _⟩ => ⟨S4x256x1024, .bf16⟩
  | .local _ .vmem, ⟨1, _⟩ => ⟨S256x1024, .f32⟩
  | _, _ => ⟨S4x256x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumOutIdeal.lean ====
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 3
  | .vmem => 2
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .bf16⟩
  | .hbm, ⟨2, _⟩ => ⟨S256x1024, .f32⟩
  | .local _ .vmem, ⟨0, _⟩ => ⟨S4x256x1024, .bf16⟩
  | .local _ .vmem, ⟨1, _⟩ => ⟨S256x1024, .f32⟩
  | _, _ => ⟨S4x256x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumOutRefIdeal.lean ====
abbrev S4x256x1024 : Shape := ⟨3, ![4, 256, 1024]⟩
abbrev S_ : Shape := ⟨0, ![]⟩
abbrev S256x1024 : Shape := ⟨2, ![256, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .bf16⟩
  | .hbm, ⟨2, _⟩ => ⟨S4x256x1024, .f32⟩
  | .hbm, ⟨3, _⟩ => ⟨S_, .f32⟩
  | .hbm, ⟨4, _⟩ => ⟨S256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SumUp.lean ====
abbrev S4x2048x704 : Shape := ⟨3, ![4, 2048, 704]⟩
abbrev S2048x704 : Shape := ⟨2, ![2048, 704]⟩
abbrev S4x512x704 : Shape := ⟨3, ![4, 512, 704]⟩
abbrev S512x704 : Shape := ⟨2, ![512, 704]⟩
abbrev S1x512x704 : Shape := ⟨3, ![1, 512, 704]⟩

abbrev nBuf : Space → Nat
  | .hbm => 3
  | .vmem => 4
  | .smem => 0
  | _ => 0

abbrev bufTy : (tb : Table) → Fin (tcTables nBuf tb) → BufTy
  | .hbm, ⟨0, _⟩ => ⟨S4x2048x704, .f32⟩
  | .hbm, ⟨1, _⟩ => ⟨S4x2048x704, .bf16⟩
  | .hbm, ⟨2, _⟩ => ⟨S2048x704, .f32⟩
  | .local _ .vmem, ⟨0, _⟩ => ⟨S4x512x704, .bf16⟩
  | .local _ .vmem, ⟨1, _⟩ => ⟨S4x512x704, .bf16⟩
  | .local _ .vmem, ⟨2, _⟩ => ⟨S512x704, .f32⟩
  | .local _ .vmem, ⟨3, _⟩ => ⟨S512x704, .f32⟩
  | _, _ => ⟨S4x2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumUpIdeal.lean ====
abbrev S4x2048x704 : Shape := ⟨3, ![4, 2048, 704]⟩
abbrev S2048x704 : Shape := ⟨2, ![2048, 704]⟩
abbrev S4x512x704 : Shape := ⟨3, ![4, 512, 704]⟩
abbrev S512x704 : Shape := ⟨2, ![512, 704]⟩
abbrev S1x512x704 : Shape := ⟨3, ![1, 512, 704]⟩

abbrev nBuf : Space → Nat
  | .hbm => 3
  | .vmem => 4
  | .smem => 0
  | _ => 0

abbrev bufTy : (tb : Table) → Fin (tcTables nBuf tb) → BufTy
  | .hbm, ⟨0, _⟩ => ⟨S4x2048x704, .f32⟩
  | .hbm, ⟨1, _⟩ => ⟨S4x2048x704, .bf16⟩
  | .hbm, ⟨2, _⟩ => ⟨S2048x704, .f32⟩
  | .local _ .vmem, ⟨0, _⟩ => ⟨S4x512x704, .bf16⟩
  | .local _ .vmem, ⟨1, _⟩ => ⟨S4x512x704, .bf16⟩
  | .local _ .vmem, ⟨2, _⟩ => ⟨S512x704, .f32⟩
  | .local _ .vmem, ⟨3, _⟩ => ⟨S512x704, .f32⟩
  | _, _ => ⟨S4x2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumUpRefIdeal.lean ====
abbrev S4x2048x704 : Shape := ⟨3, ![4, 2048, 704]⟩
abbrev S_ : Shape := ⟨0, ![]⟩
abbrev S2048x704 : Shape := ⟨2, ![2048, 704]⟩

abbrev nBuf : Space → Nat
  | .hbm => 5
  | .vmem => 0
  | .smem => 0
  | _ => 0

abbrev bufTy : (tb : Table) → Fin (tcTables nBuf tb) → BufTy
  | .hbm, ⟨0, _⟩ => ⟨S4x2048x704, .f32⟩
  | .hbm, ⟨1, _⟩ => ⟨S4x2048x704, .bf16⟩
  | .hbm, ⟨2, _⟩ => ⟨S4x2048x704, .f32⟩
  | .hbm, ⟨3, _⟩ => ⟨S_, .f32⟩
  | .hbm, ⟨4, _⟩ => ⟨S2048x704, .f32⟩
  | _, _ => ⟨S4x2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SumDown.lean ====
abbrev S4x1408x1024 : Shape := ⟨3, ![4, 1408, 1024]⟩
abbrev S1408x1024 : Shape := ⟨2, ![1408, 1024]⟩
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 3
  | .vmem => 4
  | .smem => 0
  | _ => 0

abbrev bufTy : (tb : Table) → Fin (tcTables nBuf tb) → BufTy
  | .hbm, ⟨0, _⟩ => ⟨S4x1408x1024, .f32⟩
  | .hbm, ⟨1, _⟩ => ⟨S4x1408x1024, .bf16⟩
  | .hbm, ⟨2, _⟩ => ⟨S1408x1024, .f32⟩
  | .local _ .vmem, ⟨0, _⟩ => ⟨S4x128x1024, .bf16⟩
  | .local _ .vmem, ⟨1, _⟩ => ⟨S4x128x1024, .bf16⟩
  | .local _ .vmem, ⟨2, _⟩ => ⟨S128x1024, .f32⟩
  | .local _ .vmem, ⟨3, _⟩ => ⟨S128x1024, .f32⟩
  | _, _ => ⟨S4x1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumDownIdeal.lean ====
abbrev S4x1408x1024 : Shape := ⟨3, ![4, 1408, 1024]⟩
abbrev S1408x1024 : Shape := ⟨2, ![1408, 1024]⟩
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 3
  | .vmem => 4
  | .smem => 0
  | _ => 0

abbrev bufTy : (tb : Table) → Fin (tcTables nBuf tb) → BufTy
  | .hbm, ⟨0, _⟩ => ⟨S4x1408x1024, .f32⟩
  | .hbm, ⟨1, _⟩ => ⟨S4x1408x1024, .bf16⟩
  | .hbm, ⟨2, _⟩ => ⟨S1408x1024, .f32⟩
  | .local _ .vmem, ⟨0, _⟩ => ⟨S4x128x1024, .bf16⟩
  | .local _ .vmem, ⟨1, _⟩ => ⟨S4x128x1024, .bf16⟩
  | .local _ .vmem, ⟨2, _⟩ => ⟨S128x1024, .f32⟩
  | .local _ .vmem, ⟨3, _⟩ => ⟨S128x1024, .f32⟩
  | _, _ => ⟨S4x1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumDownRefIdeal.lean ====
abbrev S4x1408x1024 : Shape := ⟨3, ![4, 1408, 1024]⟩
abbrev S_ : Shape := ⟨0, ![]⟩
abbrev S1408x1024 : Shape := ⟨2, ![1408, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x1408x1024, .f32⟩
  | .hbm, ⟨1, _⟩ => ⟨S4x1408x1024, .bf16⟩
  | .hbm, ⟨2, _⟩ => ⟨S4x1408x1024, .f32⟩
  | .hbm, ⟨3, _⟩ => ⟨S_, .f32⟩
  | .hbm, ⟨4, _⟩ => ⟨S1408x1024, .f32⟩
  | _, _ => ⟨S4x1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SumProj.lean ====
abbrev S4x512x256 : Shape := ⟨3, ![4, 512, 256]⟩
abbrev S512x256 : Shape := ⟨2, ![512, 256]⟩
abbrev S1x512x256 : Shape := ⟨3, ![1, 512, 256]⟩

abbrev nBuf : Space → Nat
  | .hbm => 3
  | .vmem => 2
  | .smem => 0
  | _ => 0

abbrev bufTy : (tb : Table) → Fin (tcTables nBuf tb) → BufTy
  | .hbm, ⟨0, _⟩ => ⟨S4x512x256, .f32⟩
  | .hbm, ⟨1, _⟩ => ⟨S4x512x256, .bf16⟩
  | .hbm, ⟨2, _⟩ => ⟨S512x256, .f32⟩
  | .local _ .vmem, ⟨0, _⟩ => ⟨S4x512x256, .bf16⟩
  | .local _ .vmem, ⟨1, _⟩ => ⟨S512x256, .f32⟩
  | _, _ => ⟨S4x512x256, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumProjIdeal.lean ====
abbrev S4x512x256 : Shape := ⟨3, ![4, 512, 256]⟩
abbrev S512x256 : Shape := ⟨2, ![512, 256]⟩
abbrev S1x512x256 : Shape := ⟨3, ![1, 512, 256]⟩

abbrev nBuf : Space → Nat
  | .hbm => 3
  | .vmem => 2
  | .smem => 0
  | _ => 0

abbrev bufTy : (tb : Table) → Fin (tcTables nBuf tb) → BufTy
  | .hbm, ⟨0, _⟩ => ⟨S4x512x256, .f32⟩
  | .hbm, ⟨1, _⟩ => ⟨S4x512x256, .bf16⟩
  | .hbm, ⟨2, _⟩ => ⟨S512x256, .f32⟩
  | .local _ .vmem, ⟨0, _⟩ => ⟨S4x512x256, .bf16⟩
  | .local _ .vmem, ⟨1, _⟩ => ⟨S512x256, .f32⟩
  | _, _ => ⟨S4x512x256, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumProjRefIdeal.lean ====
abbrev S4x512x256 : Shape := ⟨3, ![4, 512, 256]⟩
abbrev S_ : Shape := ⟨0, ![]⟩
abbrev S512x256 : Shape := ⟨2, ![512, 256]⟩

abbrev nBuf : Space → Nat
  | .hbm => 5
  | .vmem => 0
  | .smem => 0
  | _ => 0

abbrev bufTy : (tb : Table) → Fin (tcTables nBuf tb) → BufTy
  | .hbm, ⟨0, _⟩ => ⟨S4x512x256, .f32⟩
  | .hbm, ⟨1, _⟩ => ⟨S4x512x256, .bf16⟩
  | .hbm, ⟨2, _⟩ => ⟨S4x512x256, .f32⟩
  | .hbm, ⟨3, _⟩ => ⟨S_, .f32⟩
  | .hbm, ⟨4, _⟩ => ⟨S512x256, .f32⟩
  | _, _ => ⟨S4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SumGate.lean ====
abbrev S4x512x1024 : Shape := ⟨3, ![4, 512, 1024]⟩
abbrev S512x1024 : Shape := ⟨2, ![512, 1024]⟩
abbrev S1x512x1024 : Shape := ⟨3, ![1, 512, 1024]⟩

abbrev nBuf : Space → Nat
  | .hbm => 3
  | .vmem => 2
  | .smem => 0
  | _ => 0

abbrev bufTy : (tb : Table) → Fin (tcTables nBuf tb) → BufTy
  | .hbm, ⟨0, _⟩ => ⟨S4x512x1024, .f32⟩
  | .hbm, ⟨1, _⟩ => ⟨S4x512x1024, .bf16⟩
  | .hbm, ⟨2, _⟩ => ⟨S512x1024, .f32⟩
  | .local _ .vmem, ⟨0, _⟩ => ⟨S4x512x1024, .bf16⟩
  | .local _ .vmem, ⟨1, _⟩ => ⟨S512x1024, .f32⟩
  | _, _ => ⟨S4x512x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumGateRefIdeal.lean ====
abbrev S4x512x1024 : Shape := ⟨3, ![4, 512, 1024]⟩
abbrev S_ : Shape := ⟨0, ![]⟩
abbrev S512x1024 : Shape := ⟨2, ![512, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x512x1024, .f32⟩
  | .hbm, ⟨1, _⟩ => ⟨S4x512x1024, .bf16⟩
  | .hbm, ⟨2, _⟩ => ⟨S4x512x1024, .f32⟩
  | .hbm, ⟨3, _⟩ => ⟨S_, .f32⟩
  | .hbm, ⟨4, _⟩ => ⟨S512x1024, .f32⟩
  | _, _ => ⟨S4x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SumSmall.lean ====
abbrev S8x1280x128 : Shape := ⟨3, ![8, 1280, 128]⟩
abbrev S1280x128 : Shape := ⟨2, ![1280, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x1280x128, .f32⟩
  | .hbm, ⟨1, _⟩ => ⟨S1280x128, .f32⟩
  | .local _ .vmem, ⟨0, _⟩ => ⟨S8x256x128, .f32⟩
  | .local _ .vmem, ⟨1, _⟩ => ⟨S8x256x128, .f32⟩
  | .local _ .vmem, ⟨2, _⟩ => ⟨S256x128, .f32⟩
  | .local _ .vmem, ⟨3, _⟩ => ⟨S256x128, .f32⟩
  | _, _ => ⟨S8x1280x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumSmallRefIdeal.lean ====
abbrev S8x1280x128 : Shape := ⟨3, ![8, 1280, 128]⟩
abbrev S_ : Shape := ⟨0, ![]⟩
abbrev S1280x128 : Shape := ⟨2, ![1280, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1280x128, .f32⟩
  | .hbm, ⟨1, _⟩ => ⟨S_, .f32⟩
  | .hbm, ⟨2, _⟩ => ⟨S1280x128, .f32⟩
  | _, _ => ⟨S8x1280x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamIn.lean ====
abbrev S1024x512 : Shape := ⟨2, ![1024, 512]⟩

abbrev nBuf : Space → Nat
  | .hbm => 9
  | .vmem => 9
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1024x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamInIdeal.lean ====
abbrev S1024x512 : Shape := ⟨2, ![1024, 512]⟩

abbrev nBuf : Space → Nat
  | .hbm => 9
  | .vmem => 9
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1024x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamInRefIdeal.lean ====
abbrev S1024x512 : Shape := ⟨2, ![1024, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S_, .f32⟩
  | .hbm, ⟨7, _⟩ => ⟨S1024x512, .f32⟩
  | .hbm, ⟨8, _⟩ => ⟨S1024x512, .f32⟩
  | .hbm, ⟨9, _⟩ => ⟨S_, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S_, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S_, .f32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S_, .f32⟩
  | .hbm, ⟨29, _⟩ => ⟨S1024x512, .f32⟩
  | .hbm, ⟨30, _⟩ => ⟨S1024x512, .f32⟩
  | .hbm, ⟨31, _⟩ => ⟨S1024x512, .f32⟩
  | .hbm, ⟨32, _⟩ => ⟨S_, .f32⟩
  | .hbm, ⟨33, _⟩ => ⟨S1024x512, .f32⟩
  | .hbm, ⟨34, _⟩ => ⟨S1024x512, .f32⟩
  | .hbm, ⟨35, _⟩ => ⟨S1024x512, .f32⟩
  | .hbm, ⟨36, _⟩ => ⟨S_, .f32⟩
  | .hbm, ⟨37, _⟩ => ⟨S1024x512, .f32⟩
  | .hbm, ⟨38, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamOut.lean ====
abbrev S256x1024 : Shape := ⟨2, ![256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamOutIdeal.lean ====
abbrev S256x1024 : Shape := ⟨2, ![256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamOutRefIdeal.lean ====
abbrev S256x1024 : Shape := ⟨2, ![256, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S_, .f32⟩
  | .hbm, ⟨7, _⟩ => ⟨S256x1024, .f32⟩
  | .hbm, ⟨8, _⟩ => ⟨S256x1024, .f32⟩
  | .hbm, ⟨9, _⟩ => ⟨S_, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S_, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S_, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S_, .f32⟩
  | .hbm, ⟨37, _⟩ => ⟨S256x1024, .f32⟩
  | .hbm, ⟨38, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamUp.lean ====
abbrev S2048x704 : Shape := ⟨2, ![2048, 704]⟩
abbrev S512x704 : Shape := ⟨2, ![512, 704]⟩

abbrev nBuf : Space → Nat
  | .hbm => 9
  | .vmem => 18
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .hbm, ⟨8, _⟩ => ⟨S2048x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | .local _ .vmem, ⟨14, _⟩ => ⟨S512x704, .f32⟩
  | .local _ .vmem, ⟨15, _⟩ => ⟨S512x704, .f32⟩
  | .local _ .vmem, ⟨16, _⟩ => ⟨S512x704, .f32⟩
  | .local _ .vmem, ⟨17, _⟩ => ⟨S512x704, .f32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUpIdeal.lean ====
abbrev S2048x704 : Shape := ⟨2, ![2048, 704]⟩
abbrev S512x704 : Shape := ⟨2, ![512, 704]⟩

abbrev nBuf : Space → Nat
  | .hbm => 9
  | .vmem => 18
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .hbm, ⟨8, _⟩ => ⟨S2048x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | .local _ .vmem, ⟨14, _⟩ => ⟨S512x704, .f32⟩
  | .local _ .vmem, ⟨15, _⟩ => ⟨S512x704, .f32⟩
  | .local _ .vmem, ⟨16, _⟩ => ⟨S512x704, .f32⟩
  | .local _ .vmem, ⟨17, _⟩ => ⟨S512x704, .f32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUpRefIdeal.lean ====
abbrev S2048x704 : Shape := ⟨2, ![2048, 704]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S_, .f32⟩
  | .hbm, ⟨7, _⟩ => ⟨S2048x704, .f32⟩
  | .hbm, ⟨8, _⟩ => ⟨S2048x704, .f32⟩
  | .hbm, ⟨9, _⟩ => ⟨S_, .f32⟩
  | .hbm, ⟨10, _⟩ => ⟨S2048x704, .f32⟩
  | .hbm, ⟨11, _⟩ => ⟨S2048x704, .f32⟩
  | .hbm, ⟨12, _⟩ => ⟨S2048x704, .f32⟩
  | .hbm, ⟨13, _⟩ => ⟨S_, .f32⟩
  | .hbm, ⟨14, _⟩ => ⟨S2048x704, .f32⟩
  | .hbm, ⟨15, _⟩ => ⟨S2048x704, .f32⟩
  | .hbm, ⟨16, _⟩ => ⟨S2048x704, .f32⟩
  | .hbm, ⟨17, _⟩ => ⟨S_, .f32⟩
  | .hbm, ⟨18, _⟩ => ⟨S2048x704, .f32⟩
  | .hbm, ⟨19, _⟩ => ⟨S2048x704, .f32⟩
  | .hbm, ⟨20, _⟩ => ⟨S2048x704, .f32⟩
  | .hbm, ⟨21, _⟩ => ⟨S_, .f32⟩
  | .hbm, ⟨22, _⟩ => ⟨S2048x704, .f32⟩
  | .hbm, ⟨23, _⟩ => ⟨S2048x704, .f32⟩
  | .hbm, ⟨24, _⟩ => ⟨S_, .f32⟩
  | .hbm, ⟨25, _⟩ => ⟨S2048x704, .f32⟩
  | .hbm, ⟨26, _⟩ => ⟨S2048x704, .f32⟩
  | .hbm, ⟨27, _⟩ => ⟨S2048x704, .f32⟩
  | .hbm, ⟨28, _⟩ => ⟨S_, .f32⟩
  | .hbm, ⟨29, _⟩ => ⟨S2048x704, .f32⟩
  | .hbm, ⟨30, _⟩ => ⟨S2048x704, .f32⟩
  | .hbm, ⟨31, _⟩ => ⟨S2048x704, .f32⟩
  | .hbm, ⟨32, _⟩ => ⟨S_, .f32⟩
  | .hbm, ⟨33, _⟩ => ⟨S2048x704, .f32⟩
  | .hbm, ⟨34, _⟩ => ⟨S2048x704, .f32⟩
  | .hbm, ⟨35, _⟩ => ⟨S2048x704, .f32⟩
  | .hbm, ⟨36, _⟩ => ⟨S_, .f32⟩
  | .hbm, ⟨37, _⟩ => ⟨S2048x704, .f32⟩
  | .hbm, ⟨38, _⟩ => ⟨S2048x704, .f32⟩
  | _, _ => ⟨S2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamDown.lean ====
abbrev S1408x1024 : Shape := ⟨2, ![1408, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamDownIdeal.lean ====
abbrev S1408x1024 : Shape := ⟨2, ![1408, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamDownRefIdeal.lean ====
abbrev S1408x1024 : Shape := ⟨2, ![1408, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S_, .f32⟩
  | .hbm, ⟨7, _⟩ => ⟨S1408x1024, .f32⟩
  | .hbm, ⟨8, _⟩ => ⟨S1408x1024, .f32⟩
  | .hbm, ⟨9, _⟩ => ⟨S_, .f32⟩
  | .hbm, ⟨10, _⟩ => ⟨S1408x1024, .f32⟩
  | .hbm, ⟨11, _⟩ => ⟨S1408x1024, .f32⟩
  | .hbm, ⟨12, _⟩ => ⟨S1408x1024, .f32⟩
  | .hbm, ⟨13, _⟩ => ⟨S_, .f32⟩
  | .hbm, ⟨14, _⟩ => ⟨S1408x1024, .f32⟩
  | .hbm, ⟨15, _⟩ => ⟨S1408x1024, .f32⟩
  | .hbm, ⟨16, _⟩ => ⟨S1408x1024, .f32⟩
  | .hbm, ⟨17, _⟩ => ⟨S_, .f32⟩
  | .hbm, ⟨18, _⟩ => ⟨S1408x1024, .f32⟩
  | .hbm, ⟨19, _⟩ => ⟨S1408x1024, .f32⟩
  | .hbm, ⟨20, _⟩ => ⟨S1408x1024, .f32⟩
  | .hbm, ⟨21, _⟩ => ⟨S_, .f32⟩
  | .hbm, ⟨22, _⟩ => ⟨S1408x1024, .f32⟩
  | .hbm, ⟨23, _⟩ => ⟨S1408x1024, .f32⟩
  | .hbm, ⟨24, _⟩ => ⟨S_, .f32⟩
  | .hbm, ⟨25, _⟩ => ⟨S1408x1024, .f32⟩
  | .hbm, ⟨26, _⟩ => ⟨S1408x1024, .f32⟩
  | .hbm, ⟨27, _⟩ => ⟨S1408x1024, .f32⟩
  | .hbm, ⟨28, _⟩ => ⟨S_, .f32⟩
  | .hbm, ⟨29, _⟩ => ⟨S1408x1024, .f32⟩
  | .hbm, ⟨30, _⟩ => ⟨S1408x1024, .f32⟩
  | .hbm, ⟨31, _⟩ => ⟨S1408x1024, .f32⟩
  | .hbm, ⟨32, _⟩ => ⟨S_, .f32⟩
  | .hbm, ⟨33, _⟩ => ⟨S1408x1024, .f32⟩
  | .hbm, ⟨34, _⟩ => ⟨S1408x1024, .f32⟩
  | .hbm, ⟨35, _⟩ => ⟨S1408x1024, .f32⟩
  | .hbm, ⟨36, _⟩ => ⟨S_, .f32⟩
  | .hbm, ⟨37, _⟩ => ⟨S1408x1024, .f32⟩
  | .hbm, ⟨38, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamProj.lean ====
abbrev S512x256 : Shape := ⟨2, ![512, 256]⟩

abbrev nBuf : Space → Nat
  | .hbm => 9
  | .vmem => 9
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamProjIdeal.lean ====
abbrev S512x256 : Shape := ⟨2, ![512, 256]⟩

abbrev nBuf : Space → Nat
  | .hbm => 9
  | .vmem => 9
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamProjRefIdeal.lean ====
abbrev S512x256 : Shape := ⟨2, ![512, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S_, .f32⟩
  | .hbm, ⟨7, _⟩ => ⟨S512x256, .f32⟩
  | .hbm, ⟨8, _⟩ => ⟨S512x256, .f32⟩
  | .hbm, ⟨9, _⟩ => ⟨S_, .f32⟩
  | .hbm, ⟨10, _⟩ => ⟨S512x256, .f32⟩
  | .hbm, ⟨11, _⟩ => ⟨S512x256, .f32⟩
  | .hbm, ⟨12, _⟩ => ⟨S512x256, .f32⟩
  | .hbm, ⟨13, _⟩ => ⟨S_, .f32⟩
  | .hbm, ⟨14, _⟩ => ⟨S512x256, .f32⟩
  | .hbm, ⟨15, _⟩ => ⟨S512x256, .f32⟩
  | .hbm, ⟨16, _⟩ => ⟨S512x256, .f32⟩
  | .hbm, ⟨17, _⟩ => ⟨S_, .f32⟩
  | .hbm, ⟨18, _⟩ => ⟨S512x256, .f32⟩
  | .hbm, ⟨19, _⟩ => ⟨S512x256, .f32⟩
  | .hbm, ⟨20, _⟩ => ⟨S512x256, .f32⟩
  | .hbm, ⟨21, _⟩ => ⟨S_, .f32⟩
  | .hbm, ⟨22, _⟩ => ⟨S512x256, .f32⟩
  | .hbm, ⟨23, _⟩ => ⟨S512x256, .f32⟩
  | .hbm, ⟨24, _⟩ => ⟨S_, .f32⟩
  | .hbm, ⟨25, _⟩ => ⟨S512x256, .f32⟩
  | .hbm, ⟨26, _⟩ => ⟨S512x256, .f32⟩
  | .hbm, ⟨27, _⟩ => ⟨S512x256, .f32⟩
  | .hbm, ⟨28, _⟩ => ⟨S_, .f32⟩
  | .hbm, ⟨29, _⟩ => ⟨S512x256, .f32⟩
  | .hbm, ⟨30, _⟩ => ⟨S512x256, .f32⟩
  | .hbm, ⟨31, _⟩ => ⟨S512x256, .f32⟩
  | .hbm, ⟨32, _⟩ => ⟨S_, .f32⟩
  | .hbm, ⟨33, _⟩ => ⟨S512x256, .f32⟩
  | .hbm, ⟨34, _⟩ => ⟨S512x256, .f32⟩
  | .hbm, ⟨35, _⟩ => ⟨S512x256, .f32⟩
  | .hbm, ⟨36, _⟩ => ⟨S_, .f32⟩
  | .hbm, ⟨37, _⟩ => ⟨S512x256, .f32⟩
  | .hbm, ⟨38, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamGate.lean ====
abbrev S512x1024 : Shape := ⟨2, ![512, 1024]⟩

abbrev nBuf : Space → Nat
  | .hbm => 9
  | .vmem => 9
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamGateRefIdeal.lean ====
abbrev S512x1024 : Shape := ⟨2, ![512, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S_, .f32⟩
  | .hbm, ⟨7, _⟩ => ⟨S512x1024, .f32⟩
  | .hbm, ⟨8, _⟩ => ⟨S512x1024, .f32⟩
  | .hbm, ⟨9, _⟩ => ⟨S_, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S_, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S_, .f32⟩
  | .hbm, ⟨18, _⟩ => ⟨S512x1024, .f32⟩
  | .hbm, ⟨19, _⟩ => ⟨S512x1024, .f32⟩
  | .hbm, ⟨20, _⟩ => ⟨S512x1024, .f32⟩
  | .hbm, ⟨21, _⟩ => ⟨S_, .f32⟩
  | .hbm, ⟨22, _⟩ => ⟨S512x1024, .f32⟩
  | .hbm, ⟨23, _⟩ => ⟨S512x1024, .f32⟩
  | .hbm, ⟨24, _⟩ => ⟨S_, .f32⟩
  | .hbm, ⟨25, _⟩ => ⟨S512x1024, .f32⟩
  | .hbm, ⟨26, _⟩ => ⟨S512x1024, .f32⟩
  | .hbm, ⟨27, _⟩ => ⟨S512x1024, .f32⟩
  | .hbm, ⟨28, _⟩ => ⟨S_, .f32⟩
  | .hbm, ⟨29, _⟩ => ⟨S512x1024, .f32⟩
  | .hbm, ⟨30, _⟩ => ⟨S512x1024, .f32⟩
  | .hbm, ⟨31, _⟩ => ⟨S512x1024, .f32⟩
  | .hbm, ⟨32, _⟩ => ⟨S_, .f32⟩
  | .hbm, ⟨33, _⟩ => ⟨S512x1024, .f32⟩
  | .hbm, ⟨34, _⟩ => ⟨S512x1024, .f32⟩
  | .hbm, ⟨35, _⟩ => ⟨S512x1024, .f32⟩
  | .hbm, ⟨36, _⟩ => ⟨S_, .f32⟩
  | .hbm, ⟨37, _⟩ => ⟨S512x1024, .f32⟩
  | .hbm, ⟨38, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamSmall.lean ====
abbrev S1280x128 : Shape := ⟨2, ![1280, 128]⟩
abbrev S256x128 : Shape := ⟨2, ![256, 128]⟩

abbrev nBuf : Space → Nat
  | .hbm => 8
  | .vmem => 16
  | .smem => 0
  | _ => 0

abbrev bufTy : (tb : Table) → Fin (tcTables nBuf tb) → BufTy
  | .hbm, ⟨0, _⟩ => ⟨S1280x128, .f32⟩
  | .hbm, ⟨1, _⟩ => ⟨S1280x128, .f32⟩
  | .hbm, ⟨2, _⟩ => ⟨S1280x128, .f32⟩
  | .hbm, ⟨3, _⟩ => ⟨S1280x128, .f32⟩
  | .hbm, ⟨4, _⟩ => ⟨S1280x128, .f32⟩
  | .hbm, ⟨5, _⟩ => ⟨S1280x128, .f32⟩
  | .hbm, ⟨6, _⟩ => ⟨S1280x128, .f32⟩
  | .hbm, ⟨7, _⟩ => ⟨S1280x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S1280x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSmallRefIdeal.lean ====
abbrev S1280x128 : Shape := ⟨2, ![1280, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1280x128, .f32⟩
  | .hbm, ⟨1, _⟩ => ⟨S1280x128, .f32⟩
  | .hbm, ⟨2, _⟩ => ⟨S1280x128, .f32⟩
  | .hbm, ⟨3, _⟩ => ⟨S1280x128, .f32⟩
  | .hbm, ⟨4, _⟩ => ⟨S_, .f32⟩
  | .hbm, ⟨5, _⟩ => ⟨S1280x128, .f32⟩
  | .hbm, ⟨6, _⟩ => ⟨S1280x128, .f32⟩
  | .hbm, ⟨7, _⟩ => ⟨S_, .f32⟩
  | .hbm, ⟨8, _⟩ => ⟨S1280x128, .f32⟩
  | .hbm, ⟨9, _⟩ => ⟨S1280x128, .f32⟩
  | .hbm, ⟨10, _⟩ => ⟨S1280x128, .f32⟩
  | .hbm, ⟨11, _⟩ => ⟨S_, .f32⟩
  | .hbm, ⟨12, _⟩ => ⟨S1280x128, .f32⟩
  | .hbm, ⟨13, _⟩ => ⟨S1280x128, .f32⟩
  | .hbm, ⟨14, _⟩ => ⟨S1280x128, .f32⟩
  | .hbm, ⟨15, _⟩ => ⟨S_, .f32⟩
  | .hbm, ⟨16, _⟩ => ⟨S1280x128, .f32⟩
  | .hbm, ⟨17, _⟩ => ⟨S1280x128, .f32⟩
  | .hbm, ⟨18, _⟩ => ⟨S1280x128, .f32⟩
  | .hbm, ⟨19, _⟩ => ⟨S_, .f32⟩
  | .hbm, ⟨20, _⟩ => ⟨S1280x128, .f32⟩
  | .hbm, ⟨21, _⟩ => ⟨S1280x128, .f32⟩
  | .hbm, ⟨22, _⟩ => ⟨S_, .f32⟩
  | .hbm, ⟨23, _⟩ => ⟨S1280x128, .f32⟩
  | .hbm, ⟨24, _⟩ => ⟨S1280x128, .f32⟩
  | .hbm, ⟨25, _⟩ => ⟨S1280x128, .f32⟩
  | .hbm, ⟨26, _⟩ => ⟨S_, .f32⟩
  | .hbm, ⟨27, _⟩ => ⟨S1280x128, .f32⟩
  | .hbm, ⟨28, _⟩ => ⟨S1280x128, .f32⟩
  | .hbm, ⟨29, _⟩ => ⟨S1280x128, .f32⟩
  | .hbm, ⟨30, _⟩ => ⟨S_, .f32⟩
  | .hbm, ⟨31, _⟩ => ⟨S1280x128, .f32⟩
  | .hbm, ⟨32, _⟩ => ⟨S1280x128, .f32⟩
  | .hbm, ⟨33, _⟩ => ⟨S1280x128, .f32⟩
  | .hbm, ⟨34, _⟩ => ⟨S_, .f32⟩
  | .hbm, ⟨35, _⟩ => ⟨S1280x128, .f32⟩
  | .hbm, ⟨36, _⟩ => ⟨S1280x128, .f32⟩
  | _, _ => ⟨S1280x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Real.lean ====
/- The mathematics of the spatial gating and of its gradient over the real numbers: the functions that both
   programs compute once their arrays are real, and the two identities by which the kernel's formulas differ from
   those of automatic differentiation (the derivative of the gelu, and the gradient of a layer norm). -/
module

public import Idealize.ShloMosaic.Lib.Pointwise

@[expose] public section

noncomputable section

namespace Cert.Gmlp

open Finset

/-- The real number that the single-precision word of `0.79788456` is (the square root of `2/π`, rounded). -/
def gc : ℝ := 6693141 / 8388608

/-- The real number that the single-precision word of `1e-5` is. -/
def eps : ℝ := 2748779 / 274877906944

/-- `tanh`'s argument in the gelu. -/
def inner (x : ℝ) : ℝ := Real.tanh (gc * (x + 8943 / 200000 * x * x * x))

/-- The tanh form of the gelu. -/
def gel (x : ℝ) : ℝ := x * (1 / 2 * (1 + inner x))

/-- Its derivative, as the kernel writes it. -/
def dgel (x : ℝ) : ℝ :=
  1 / 2 * (1 + inner x) + 1 / 2 * x * (1 - inner x * inner x) * gc * (1 + 26829 / 200000 * x * x)

/-- The derivative as automatic differentiation collects it: the product rule's two parts, and the chain rule through
    the cube. -/
theorem dgel_eq (x d : ℝ) :
    d * (1 / 2 * (1 + inner x)) + gc * (1 / 2 * (x * d) * ((1 + inner x) * (1 - inner x)))
      + 8943 / 200000 * (gc * (1 / 2 * (x * d) * ((1 + inner x) * (1 - inner x)))) * (3 * (x * x)) = d * dgel x := by
  unfold dgel; ring

/-! ## One row of the layer norm -/

section Row

variable {n : ℕ} (v d : Fin n → ℝ)

def mean : ℝ := (∑ l, v l) / n
def variance : ℝ := (∑ l, (v l - mean v) * (v l - mean v)) / n
/-- The reciprocal deviation. -/
def rdev : ℝ := (Real.sqrt (variance v + eps))⁻¹
/-- The normalised row. -/
def normed (l : Fin n) : ℝ := (v l - mean v) * rdev v

theorem variance_nonneg : 0 ≤ variance v :=
  div_nonneg (sum_nonneg fun _ _ => mul_self_nonneg _) (Nat.cast_nonneg n)

theorem radicand_pos : 0 < variance v + eps := by
  have := variance_nonneg v
  have : (0 : ℝ) < eps := by unfold eps; norm_num
  linarith

theorem rdev_sq : rdev v * rdev v * (variance v + eps) = 1 := by
  have h := radicand_pos v
  unfold rdev
  rw [← mul_inv, Real.mul_self_sqrt h.le, inv_mul_cancel₀ h.ne']

theorem sum_centred [NeZero n] : ∑ l, (v l - mean v) = 0 := by
  rw [sum_sub_distrib, sum_const, card_univ, Fintype.card_fin, nsmul_eq_mul, mean, mul_div_cancel₀ _ (Nat.cast_ne_zero.mpr (NeZero.ne n)), sub_self]

/-- The gradient of the layer norm's row with respect to the row that it normalises, the gradient `d` of the
    normalised row given, as the kernel writes it. -/
def dnorm (l : Fin n) : ℝ :=
  rdev v * (d l - (∑ k, d k) / n - normed v l * ((∑ k, d k * normed v k) / n))

/-- The gradient of the variance as automatic differentiation collects it. -/
def dvar : ℝ := (∑ k, (v k - mean v) * d k) * (-(1 / 2) * (rdev v / (variance v + eps))) / n

/-- The same gradient as automatic differentiation collects it: through the product, through the variance, and through
    the two uses of the mean. -/
theorem dnorm_eq [NeZero n] (l : Fin n) :
    d l * rdev v + dvar v d * (2 * (v l - mean v))
      + ((∑ k, -(d k * rdev v)) + ∑ k, -(dvar v d * (2 * (v k - mean v)))) / n = dnorm v d l := by
  have h2 : ∑ k, -(dvar v d * (2 * (v k - mean v))) = 0 := by
    have : ∀ k, -(dvar v d * (2 * (v k - mean v))) = -(2 * dvar v d) * (v k - mean v) := fun k => by ring
    rw [sum_congr rfl fun k _ => this k, ← mul_sum, sum_centred, mul_zero]
  have h1 : ∑ k, -(d k * rdev v) = -((∑ k, d k) * rdev v) := by rw [sum_neg_distrib, sum_mul]
  have h3 : ∑ k, d k * normed v k = (∑ k, (v k - mean v) * d k) * rdev v := by
    rw [sum_mul]; exact sum_congr rfl fun k _ => by unfold normed; ring
  have hp := radicand_pos v
  have h4 : rdev v / (variance v + eps) = rdev v * (rdev v * rdev v) := by
    rw [div_eq_iff hp.ne', mul_assoc, rdev_sq, mul_one]
  rw [h1, h2]
  unfold dnorm dvar
  rw [h3, h4]
  unfold normed
  ring

end Row

/-! ## The arrays -/

/-- The arguments, real. -/
structure Arrays where
  h : Fin 2048 → Fin 2048 → ℝ
  ct : Fin 2048 → Fin 1024 → ℝ
  lg : Fin 512 → ℝ
  lb : Fin 512 → ℝ
  w : Fin 4 → Fin 128 → Fin 128 → ℝ
  b : Fin 4 → Fin 128 → ℝ

/-- Row `a` of chunk `t`. -/
def row (t : Fin 16) (a : Fin 128) : Fin 2048 := ⟨128 * t.val + a.val, by omega⟩
/-- Column `d` of group `g`. -/
def col (g : Fin 4) (d : Fin 128) : Fin 512 := ⟨128 * g.val + d.val, by omega⟩
/-- The chunk of a row, and its place there. -/
def chunk (r : Fin 2048) : Fin 16 := ⟨r.val / 128, by omega⟩
def rowIn (r : Fin 2048) : Fin 128 := ⟨r.val % 128, by omega⟩
/-- The group of a column, and its place there. -/
def grp (l : Fin 512) : Fin 4 := ⟨l.val / 128, by omega⟩
def colIn (l : Fin 512) : Fin 128 := ⟨l.val % 128, by omega⟩

@[simp] theorem chunk_row (t : Fin 16) (a : Fin 128) : chunk (row t a) = t := Fin.ext (by simp [chunk, row]; omega)
@[simp] theorem rowIn_row (t : Fin 16) (a : Fin 128) : rowIn (row t a) = a := Fin.ext (by simp [rowIn, row])
@[simp] theorem grp_col (g : Fin 4) (d : Fin 128) : grp (col g d) = g := Fin.ext (by simp [grp, col]; omega)
@[simp] theorem colIn_col (g : Fin 4) (d : Fin 128) : colIn (col g d) = d := Fin.ext (by simp [colIn, col])
@[simp] theorem row_chunk (r : Fin 2048) : row (chunk r) (rowIn r) = r := Fin.ext (by simp [chunk, row, rowIn]; omega)
@[simp] theorem col_grp (l : Fin 512) : col (grp l) (colIn l) = l := Fin.ext (by simp [grp, col, colIn]; omega)

/-- A sum over the rows, chunk by chunk. -/
theorem sum_rows {M : Type*} [AddCommMonoid M] (f : Fin 2048 → M) : ∑ r, f r = ∑ t, ∑ a, f (row t a) := by
  rw [← Finset.sum_product', Finset.univ_product_univ]
  exact Fintype.sum_equiv ⟨fun r => (chunk r, rowIn r), fun p => row p.1 p.2, fun r => row_chunk r, fun p => by simp⟩
    _ _ fun r => by simp

namespace Arrays

variable (A : Arrays)

/-- The two halves of the gating's columns before the gelu. -/
def zu (r : Fin 2048) (l : Fin 512) : ℝ := A.h r ⟨1024 + l.val, by omega⟩
def zv (r : Fin 2048) (l : Fin 512) : ℝ := A.h r ⟨1536 + l.val, by omega⟩
def u (r : Fin 2048) (l : Fin 512) : ℝ := gel (A.zu r l)
def v (r : Fin 2048) (l : Fin 512) : ℝ := gel (A.zv r l)
/-- The gradient that the gating's result receives. -/
def g (r : Fin 2048) (l : Fin 512) : ℝ := A.ct r ⟨512 + l.val, by omega⟩
def xh (r : Fin 2048) (l : Fin 512) : ℝ := normed (A.v r) l
def vn (r : Fin 2048) (l : Fin 512) : ℝ := A.xh r l * A.lg l + A.lb l
/-- The causal part of a group's mixing matrix. -/
def wm (k : Fin 4) (t s : Fin 128) : ℝ := if s ≤ t then A.w k t s else 0
/-- The mixed rows. -/
def sv (r : Fin 2048) (l : Fin 512) : ℝ :=
  (∑ s, A.wm (grp l) (rowIn r) s * A.vn (row (chunk r) s) l) + A.b (grp l) (rowIn r)
def du (r : Fin 2048) (l : Fin 512) : ℝ := A.g r l * A.sv r l
def dsv (r : Fin 2048) (l : Fin 512) : ℝ := A.g r l * A.u r l
def dvn (r : Fin 2048) (l : Fin 512) : ℝ := ∑ t, A.wm (grp l) t (rowIn r) * A.dsv (row (chunk r) t) l
def dxh (r : Fin 2048) (l : Fin 512) : ℝ := A.dvn r l * A.lg l
/-- The six gradients. -/
def dzu (r : Fin 2048) (l : Fin 512) : ℝ := A.du r l * dgel (A.zu r l)
def dzv (r : Fin 2048) (l : Fin 512) : ℝ := dnorm (A.v r) (A.dxh r) l * dgel (A.zv r l)
def dwPart (k : Fin 4) (t s : Fin 128) (n : Fin 16) : ℝ :=
  if s ≤ t then ∑ d, A.dsv (row n t) (col k d) * A.vn (row n s) (col k d) else 0
def dw (k : Fin 4) (t s : Fin 128) : ℝ := ∑ n, A.dwPart k t s n
def dbPart (k : Fin 4) (t : Fin 128) (n : Fin 16) : ℝ := ∑ d, A.dsv (row n t) (col k d)
def db (k : Fin 4) (t : Fin 128) : ℝ := ∑ n, A.dbPart k t n
def dlg (l : Fin 512) : ℝ := ∑ r, A.dvn r l * A.xh r l
def dlb (l : Fin 512) : ℝ := ∑ r, A.dvn r l

end Arrays

end Cert.Gmlp

end

end
-- ==== Proof.Lift.lean ====
/- Real arrays read as arrays of extended reals: the constants of the programs, and the gelu's pieces at a real argument. -/
module

public import proofs.«01_k».proof.Proof.Real
public import Idealize.ShloMosaic.PureOps.IdealRules

@[expose] public section

noncomputable section

namespace Cert.Gmlp

open Idealize.ShloMosaic

theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

theorem word_half : Ideal.ofBits .f32 0x3F000000#32 = ((1 / 2 : ℝ) : EReal) := by
  simp [Ideal.ofBits, Ideal.ieee, -EReal.coe_mul]; norm_num
theorem word_one : Ideal.ofBits .f32 0x3F800000#32 = ((1 : ℝ) : EReal) := by
  simp [Ideal.ofBits, Ideal.ieee, -EReal.coe_mul]; norm_num
theorem word_gc : Ideal.ofBits .f32 0x3F4C422A#32 = (gc : EReal) := by
  simp [Ideal.ofBits, Ideal.ieee, gc, -EReal.coe_mul]; norm_num
theorem word_eps : Ideal.ofBits .f32 0x3727C5AC#32 = (eps : EReal) := by
  simp [Ideal.ofBits, Ideal.ieee, eps, -EReal.coe_mul]; norm_num
theorem word_512 : Ideal.ofBits .f32 0x44000000#32 = ((512 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_three : Ideal.ofBits .f32 0x40400000#32 = ((3 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul]; norm_num

theorem word_zero : Ideal.ofBits .f32 0x00000000#32 = ((0 : ℝ) : EReal) := by
  simp [Ideal.ofBits, Ideal.ieee]
theorem word_44715 : Ideal.ofBits .f32 0x472EAB00#32 = ((44715 : ℝ) : EReal) := by
  simp [Ideal.ofBits, Ideal.ieee, -EReal.coe_mul]; norm_num
theorem word_million : Ideal.ofBits .f32 0x49742400#32 = ((1000000 : ℝ) : EReal) := by
  simp [Ideal.ofBits, Ideal.ieee, -EReal.coe_mul]; norm_num
/-- The gelu's constant, as the programs' host code divides it. -/
theorem quotient_ga : Ideal.div ((44715 : ℝ) : EReal) ((1000000 : ℝ) : EReal) = ((8943 / 200000 : ℝ) : EReal) := by
  rw [Ideal.div_coe (by norm_num), ← EReal.coe_mul]; congr 1; norm_num

/-- Division by the number of a row's elements. -/
theorem div_512 (x : ℝ) : Ideal.div (x : EReal) ((512 : ℝ) : EReal) = ((x / 512 : ℝ) : EReal) := by
  rw [Ideal.div_coe (by norm_num), ← EReal.coe_mul]; congr 1; ring

end Cert.Gmlp

end

end
-- ==== Proof.Block.lean ====
/- One grid point of the kernel: what its body computes of its blocks, the blocks being real. -/
module

public import proofs.«01_k».proof.Proof.Gen.KernelIdeal.Skeleton
public import Idealize.ShloMosaic.Lib.Pipeline.ValueKit
public import proofs.«01_k».proof.Proof.Lift

@[expose] public section

set_option maxRecDepth 16384

noncomputable section

namespace Cert.Gmlp

open Cert.KernelIdeal Cert.KernelIdeal.Gen Idealize.ShloMosaic Idealize.ShloMosaic.TcCoe Idealize.SL.Sem

/-- The blocks of grid point `t`, read as parts of the real arrays. -/
structure Blocks (A : Arrays) (t : Fin 16) (x0 : Vec Ideal S128x512 .f32) (x1 x2 : Vec Ideal S1x128x512 .f32)
    (x3 : Vec Ideal S128x512 .f32) (x4 : Vec Ideal S128x1 .f32) (x5 x6 : Vec Ideal S1x512 .f32)
    (x7 : Vec Ideal S4x128x128 .f32) (x8 : Vec Ideal S128x4 .f32) : Prop where
  h0 : ∀ (a : Fin 128) (l : Fin 512), x0 (ix2 a l) = (A.g (row t a) l : EReal)
  h1 : ∀ (z : Fin 1) (a : Fin 128) (l : Fin 512), x1 (ix3 z a l) = (A.zu (row t a) l : EReal)
  h2 : ∀ (z : Fin 1) (a : Fin 128) (l : Fin 512), x2 (ix3 z a l) = (A.zv (row t a) l : EReal)
  h3 : ∀ (a : Fin 128) (l : Fin 512), x3 (ix2 a l) = (A.xh (row t a) l : EReal)
  h4 : ∀ (a : Fin 128) (z : Fin 1), x4 (ix2 a z) = (rdev (A.v (row t a)) : EReal)
  h5 : ∀ (z : Fin 1) (l : Fin 512), x5 (ix2 z l) = (A.lg l : EReal)
  h6 : ∀ (z : Fin 1) (l : Fin 512), x6 (ix2 z l) = (A.lb l : EReal)
  h7 : ∀ (k : Fin 4) (a s : Fin 128), x7 (ix3 k a s) = (A.w k a s : EReal)
  h8 : ∀ (a : Fin 128) (k : Fin 4), x8 (ix2 a k) = (A.b k a : EReal)

theorem named_ga : Named.named (F := Ideal) κ "gelu_a" (φ := .f32) 0x3D372713#32 = ((8943 / 200000 : ℝ) : EReal) := rfl
theorem named_3ga : Named.named (F := Ideal) κ "gelu_3a" (φ := .f32) 0x3E095D4F#32 = ((26829 / 200000 : ℝ) : EReal) := rfl

variable {A : Arrays} {t : Fin 16} {x0 : Vec Ideal S128x512 .f32} {x1 x2 : Vec Ideal S1x128x512 .f32}
    {x3 : Vec Ideal S128x512 .f32} {x4 : Vec Ideal S128x1 .f32} {x5 x6 : Vec Ideal S1x512 .f32}
    {x7 : Vec Ideal S4x128x128 .f32} {x8 : Vec Ideal S128x4 .f32}

theorem u_at (H : Blocks A t x0 x1 x2 x3 x4 x5 x6 x7 x8) (a : Fin 128) (l : Fin 512) :
    k0_pay9 (F := Ideal) x1 (ix2 a l) = (A.u (row t a) l : EReal) := by
  pointwise [k0_pay9, k0_pay6]
  simp only [H.h1, word_half, word_gc, named_ga, ← EReal.coe_one, ← EReal.coe_mul, ← EReal.coe_add, Ideal.tanh_coe]
  congr 1
  unfold Arrays.u gel inner
  ring

theorem vn_at (H : Blocks A t x0 x1 x2 x3 x4 x5 x6 x7 x8) (a : Fin 128) (l : Fin 512) :
    k0_pay10 (F := Ideal) x3 x5 x6 (ix2 a l) = (A.vn (row t a) l : EReal) := by
  pointwise [k0_pay10, k0_pay8]
  simp only [H.h3, H.h5, H.h6, ← EReal.coe_mul, ← EReal.coe_add]
  rfl

theorem toInt_word : ∀ a : Fin 128, (BitVec.ofNat 32 a.val).toInt = a.val := by decide

/-- The causal mask: the integer comparison of the two coordinates. -/
theorem mask_eq (a s : Fin 128) (x y : EReal) :
    Scalar.select (IntOp.cmpi CmpIPredicate.sle (BitVec.ofNat 32 s.val) (BitVec.ofNat 32 a.val)) x y
      = if s ≤ a then x else y := by
  simp only [Scalar.select, IntOp.cmpi, BitVec.sle, toInt_word, Fin.le_def]
  by_cases h : s.val ≤ a.val <;> simp [h]

/-- A group's columns, as the slices spell them. -/
theorem col0 (d : Fin 128) (h : d.val < 512) : (⟨d.val, h⟩ : Fin 512) = col 0 d := Fin.ext (by simp [col])
theorem col1 (d : Fin 128) (h : 128 + d.val < 512) : (⟨128 + d.val, h⟩ : Fin 512) = col 1 d := Fin.ext (by simp [col])
theorem col2 (d : Fin 128) (h : 256 + d.val < 512) : (⟨256 + d.val, h⟩ : Fin 512) = col 2 d := Fin.ext (by simp [col])
theorem col3 (d : Fin 128) (h : 384 + d.val < 512) : (⟨384 + d.val, h⟩ : Fin 512) = col 3 d := Fin.ext (by simp [col])

/-- The matrix of one group, loaded from the block of all four. -/
abbrev wld (x7 : Vec Ideal S4x128x128 .f32) (k : ℕ) (hk : ∀ i, (![k, 0, 0] : Fin 3 → ℕ) i + (![1, 128, 128] : Fin 3 → ℕ) i ≤ S4x128x128.size i) :=
  View.ld x7 (Rect.unit ![k, 0, 0] ![1, 128, 128] hk)

theorem wm_at (k : Fin 4) (W : Vec Ideal S1x128x128 .f32) (hW : ∀ a s, W (ix3 0 a s) = (A.w k a s : EReal)) (a s : Fin 128) :
    k0_pay19 (F := Ideal) W (ix2 a s) = (A.wm k a s : EReal) := by
  pointwise [k0_pay19]
  rw [mask_eq, hW, Arrays.wm]
  split_ifs <;> simp

theorem wm_at0 (W : Vec Ideal S1x128x128 .f32) (hW : ∀ a s, W (ix3 0 a s) = (A.w 0 a s : EReal)) (a s : Fin 128) :
    k0_pay12 (F := Ideal) k0_pay11 W (ix2 a s) = (A.wm 0 a s : EReal) := wm_at 0 W hW a s
theorem wm_at2 (W : Vec Ideal S1x128x128 .f32) (hW : ∀ a s, W (ix3 0 a s) = (A.w 2 a s : EReal)) (a s : Fin 128) :
    k0_pay27 (F := Ideal) W (ix2 a s) = (A.wm 2 a s : EReal) := wm_at 2 W hW a s
theorem wm_at3 (W : Vec Ideal S1x128x128 .f32) (hW : ∀ a s, W (ix3 0 a s) = (A.w 3 a s : EReal)) (a s : Fin 128) :
    k0_pay37 (F := Ideal) W (ix2 a s) = (A.wm 3 a s : EReal) := wm_at 3 W hW a s

theorem dsv_at (H : Blocks A t x0 x1 x2 x3 x4 x5 x6 x7 x8) :
    (∀ a d, k0_pay14 (F := Ideal) x0 (k0_pay9 x1) (ix2 a d) = (A.dsv (row t a) (col 0 d) : EReal))
    ∧ (∀ a d, k0_pay21 (F := Ideal) x0 (k0_pay9 x1) (ix2 a d) = (A.dsv (row t a) (col 1 d) : EReal))
    ∧ (∀ a d, k0_pay30 (F := Ideal) x0 (k0_pay9 x1) (ix2 a d) = (A.dsv (row t a) (col 2 d) : EReal))
    ∧ (∀ a d, k0_pay40 (F := Ideal) x0 (k0_pay9 x1) (ix2 a d) = (A.dsv (row t a) (col 3 d) : EReal)) := by
  refine ⟨?_, ?_, ?_, ?_⟩ <;> intro a d
  all_goals
    pointwise [k0_pay14, k0_pay21, k0_pay30, k0_pay40]
    simp only [H.h0, u_at H, ← EReal.coe_mul, col0, col1, col2, col3]
    rfl

/-- The products of the row's gradient with the mixed rows. -/
theorem du_at (H : Blocks A t x0 x1 x2 x3 x4 x5 x6 x7 x8) (W : Fin 4 → Vec Ideal S1x128x128 .f32) (b : Fin 4 → Vec Ideal S128x1 .f32)
    (hW : ∀ k a s, W k (ix3 0 a s) = (A.w k a s : EReal)) (hb : ∀ k a, b k (ix2 a 0) = (A.b k a : EReal)) :
    (∀ a d, k0_pay13 (F := Ideal) x0 (k0_pay10 x3 x5 x6) k0_pay11 (W 0) (b 0) (ix2 a d) = (A.du (row t a) (col 0 d) : EReal))
    ∧ (∀ a d, k0_pay20 (F := Ideal) x0 (k0_pay10 x3 x5 x6) (W 1) (b 1) (ix2 a d) = (A.du (row t a) (col 1 d) : EReal))
    ∧ (∀ a d, k0_pay29 (F := Ideal) x0 (k0_pay10 x3 x5 x6) (W 2) (b 2) (ix2 a d) = (A.du (row t a) (col 2 d) : EReal))
    ∧ (∀ a d, k0_pay39 (F := Ideal) x0 (k0_pay10 x3 x5 x6) (W 3) (b 3) (ix2 a d) = (A.du (row t a) (col 3 d) : EReal)) := by
  refine ⟨?_, ?_, ?_, ?_⟩ <;> intro a d
  all_goals
    pointwise [k0_pay13, k0_pay20, k0_pay29, k0_pay39]
    simp only [H.h0, vn_at H, hb, wm_at0 _ (hW 0), wm_at _ _ (hW 1), wm_at2 _ (hW 2), wm_at3 _ (hW 3), col0, col1, col2, col3,
      ← EReal.coe_mul, ← coe_sum, ← EReal.coe_add]
    simp only [Arrays.du, Arrays.sv, grp_col, rowIn_row, chunk_row]

/-- The gradient of the mixing matrices: the point's part, added to what the buffer held. -/
theorem dw_at (H : Blocks A t x0 x1 x2 x3 x4 x5 x6 x7 x8) (P : Vec Ideal S1x128x128 .f32) :
    (∀ z a s, k0_pay17 (F := Ideal) x0 (k0_pay9 x1) (k0_pay10 x3 x5 x6) (iota Kind.tc S128x128 32 [0] iota_S128x128_d0_w32)
        (iota Kind.tc S128x128 32 [1] iota_S128x128_d1_w32) P (ix3 z a s) = P (ix3 z a s) + (A.dwPart 0 a s t : EReal))
    ∧ (∀ z a s, k0_pay25 (F := Ideal) (k0_pay24 x0 (k0_pay9 x1) (k0_pay10 x3 x5 x6) P) (ix3 z a s)
        = P (ix3 z a s) + (A.dwPart 1 a s t : EReal))
    ∧ (∀ z a s, k0_pay35 (F := Ideal) k0_pay28 (k0_pay31 x0 (k0_pay9 x1)) (k0_pay33 P) (k0_pay34 (k0_pay10 x3 x5 x6)) (ix3 z a s)
        = P (ix3 z a s) + (A.dwPart 2 a s t : EReal))
    ∧ (∀ z a s, k0_pay43 (F := Ideal) (k0_pay10 x3 x5 x6) k0_pay38 (k0_pay41 x0 (k0_pay9 x1)) P (ix3 z a s)
        = P (ix3 z a s) + (A.dwPart 3 a s t : EReal)) := by
  obtain ⟨d0, d1, d2, d3⟩ := dsv_at H
  refine ⟨?_, ?_, ?_, ?_⟩ <;> intro z a s <;> (obtain rfl : z = 0 := Subsingleton.elim _ _)
  all_goals
    pointwise [k0_pay17, k0_pay25, k0_pay24, k0_pay35, k0_pay28, k0_pay33, k0_pay34, k0_pay43, k0_pay38, k0_pay15, k0_pay22, k0_pay31, k0_pay41]
    simp only [mask_eq, d0, d1, d2, d3, vn_at H, col0, col1, col2, col3, ← EReal.coe_mul, ← coe_sum]
    simp only [Arrays.dwPart]
    split_ifs <;> simp

/-- The gradient of the biases: the point's part, added to what the buffer held, the same in every column. -/
theorem db_at (H : Blocks A t x0 x1 x2 x3 x4 x5 x6 x7 x8) (P : Vec Ideal S1x128x128 .f32) :
    (∀ z a s, k0_pay16 (F := Ideal) x0 (k0_pay9 x1) P (ix3 z a s) = P (ix3 z a s) + (A.dbPart 0 a t : EReal))
    ∧ (∀ z a s, k0_pay23 (F := Ideal) x0 (k0_pay9 x1) P (ix3 z a s) = P (ix3 z a s) + (A.dbPart 1 a t : EReal))
    ∧ (∀ z a s, k0_pay32 (F := Ideal) x0 (k0_pay9 x1) P (ix3 z a s) = P (ix3 z a s) + (A.dbPart 2 a t : EReal))
    ∧ (∀ z a s, k0_pay42 (F := Ideal) x0 (k0_pay9 x1) P (ix3 z a s) = P (ix3 z a s) + (A.dbPart 3 a t : EReal)) := by
  obtain ⟨d0, d1, d2, d3⟩ := dsv_at H
  refine ⟨?_, ?_, ?_, ?_⟩ <;> intro z a s <;> (obtain rfl : z = 0 := Subsingleton.elim _ _)
  all_goals
    pointwise [k0_pay16, k0_pay23, k0_pay32, k0_pay42]
    simp only [d0, d1, d2, d3, ← coe_sum]
    rfl

/-- Four pieces side by side, read at a column: the column's group at its place there. -/
theorem ladder {M : Type*} (f : Fin 4 → Fin 128 → M) (l : Fin 512) :
    (if h : l.val < 128 then f 0 ⟨l.val, h⟩
      else if h : l.val - 128 < 128 then f 1 ⟨l.val - 128, h⟩
      else if h : l.val - 128 - 128 < 128 then f 2 ⟨l.val - 128 - 128, h⟩
      else f 3 ⟨l.val - 128 - 128 - 128, by omega⟩) = f (grp l) (colIn l) := by
  split_ifs <;> refine congrArg₂ f (Fin.ext ?_) (Fin.ext ?_) <;> simp [grp, colIn] <;> omega

/-- The gradient of the normalised, scaled rows: the four groups side by side. -/
abbrev dvnB (x0 : Vec Ideal S128x512 .f32) (x1 : Vec Ideal S1x128x512 .f32) (W : Fin 4 → Vec Ideal S1x128x128 .f32) : FVec Ideal S128x512 .f32 :=
  k0_pay45 (k0_pay18 (k0_pay12 k0_pay11 (W 0)) (k0_pay15 x0 (k0_pay9 x1)) (constant S128x128 FTy.f32 0#32))
    (k0_pay26 (k0_pay19 (W 1)) (k0_pay22 x0 (k0_pay9 x1))) (k0_pay36 (k0_pay27 (W 2)) (k0_pay31 x0 (k0_pay9 x1)))
    (k0_pay37 (W 3)) (k0_pay41 x0 (k0_pay9 x1))

theorem dvn_at (H : Blocks A t x0 x1 x2 x3 x4 x5 x6 x7 x8) (W : Fin 4 → Vec Ideal S1x128x128 .f32)
    (hW : ∀ k a s, W k (ix3 0 a s) = (A.w k a s : EReal)) (a : Fin 128) (l : Fin 512) :
    dvnB x0 x1 W (ix2 a l) = (A.dvn (row t a) l : EReal) := by
  obtain ⟨d0, d1, d2, d3⟩ := dsv_at H
  pointwise [dvnB, k0_pay45, k0_pay18, k0_pay26, k0_pay36, k0_pay15, k0_pay22, k0_pay31, k0_pay41]
  simp only [d0, d1, d2, d3, wm_at0 _ (hW 0), wm_at _ _ (hW 1), wm_at2 _ (hW 2), wm_at3 _ (hW 3), ← EReal.coe_mul, ← coe_sum]
  rw [ladder (fun k d => ((∑ i, A.wm k i a * A.dsv (row t i) (col k d) : ℝ) : EReal))]
  simp only [Arrays.dvn, rowIn_row, chunk_row, col_grp]

theorem du_cat (H : Blocks A t x0 x1 x2 x3 x4 x5 x6 x7 x8) (p0 p1 p2 p3 : FVec Ideal S128x128 .f32)
    (h0 : ∀ a d, p0 (ix2 a d) = (A.du (row t a) (col 0 d) : EReal))
    (h1 : ∀ a d, p1 (ix2 a d) = (A.du (row t a) (col 1 d) : EReal))
    (h2 : ∀ a d, p2 (ix2 a d) = (A.du (row t a) (col 2 d) : EReal))
    (h3 : ∀ a d, p3 (ix2 a d) = (A.du (row t a) (col 3 d) : EReal)) (a : Fin 128) (l : Fin 512) :
    k0_pay44 (F := Ideal) p0 p1 p2 p3 (ix2 a l) = (A.du (row t a) l : EReal) := by
  pointwise [k0_pay44]
  simp only [h0, h1, h2, h3]
  rw [ladder (fun k d => (A.du (row t a) (col k d) : EReal)), col_grp]

/-- The gradient of the first half of the columns. -/
theorem dzu_at (H : Blocks A t x0 x1 x2 x3 x4 x5 x6 x7 x8) (D : FVec Ideal S128x512 .f32)
    (hD : ∀ a l, D (ix2 a l) = (A.du (row t a) l : EReal)) (a : Fin 128) (l : Fin 512) :
    k0_pay1 (F := Ideal) (k0_pay6 x1) D (ix2 a l) = (A.dzu (row t a) l : EReal) := by
  pointwise [k0_pay1, k0_pay6]
  simp only [H.h1, hD, word_half, word_gc, named_ga, named_3ga, ← EReal.coe_one, ← EReal.coe_mul, ← EReal.coe_add,
    ← EReal.coe_sub, Ideal.tanh_coe]
  rfl

/-- The gradient of the layer norm's scale and offset: the point's part, added to what the buffer held. -/
theorem dlg_at (H : Blocks A t x0 x1 x2 x3 x4 x5 x6 x7 x8) (W : Fin 4 → Vec Ideal S1x128x128 .f32)
    (hW : ∀ k a s, W k (ix3 0 a s) = (A.w k a s : EReal)) (P : Vec Ideal S1x512 .f32) (z : Fin 1) (l : Fin 512) :
    k0_pay46 (F := Ideal) (k0_pay8 x3) (k0_pay18 (k0_pay12 k0_pay11 (W 0)) (k0_pay15 x0 (k0_pay9 x1)) (constant S128x128 FTy.f32 0#32))
      (k0_pay26 (k0_pay19 (W 1)) (k0_pay22 x0 (k0_pay9 x1))) (k0_pay36 (k0_pay27 (W 2)) (k0_pay31 x0 (k0_pay9 x1)))
      (k0_pay37 (W 3)) (k0_pay41 x0 (k0_pay9 x1)) P (ix2 z l)
      = P (ix2 z l) + ((∑ a, A.dvn (row t a) l * A.xh (row t a) l : ℝ) : EReal) := by
  obtain rfl : z = 0 := Subsingleton.elim _ _
  pointwise [k0_pay46, k0_pay8]
  simp only [dvn_at H W hW, H.h3, ← EReal.coe_mul, ← coe_sum]

theorem dlb_at (H : Blocks A t x0 x1 x2 x3 x4 x5 x6 x7 x8) (W : Fin 4 → Vec Ideal S1x128x128 .f32)
    (hW : ∀ k a s, W k (ix3 0 a s) = (A.w k a s : EReal)) (P : Vec Ideal S1x512 .f32) (z : Fin 1) (l : Fin 512) :
    k0_pay47 (F := Ideal) (k0_pay18 (k0_pay12 k0_pay11 (W 0)) (k0_pay15 x0 (k0_pay9 x1)) (constant S128x128 FTy.f32 0#32))
      (k0_pay26 (k0_pay19 (W 1)) (k0_pay22 x0 (k0_pay9 x1))) (k0_pay36 (k0_pay27 (W 2)) (k0_pay31 x0 (k0_pay9 x1)))
      (k0_pay37 (W 3)) (k0_pay41 x0 (k0_pay9 x1)) P (ix2 z l)
      = P (ix2 z l) + ((∑ a, A.dvn (row t a) l : ℝ) : EReal) := by
  obtain rfl : z = 0 := Subsingleton.elim _ _
  pointwise [k0_pay47]
  simp only [dvn_at H W hW, ← coe_sum]

/-- The gradient of the second half of the columns: the layer norm's row gradient times the gelu's derivative. -/
theorem dzv_at (H : Blocks A t x0 x1 x2 x3 x4 x5 x6 x7 x8) (W : Fin 4 → Vec Ideal S1x128x128 .f32)
    (hW : ∀ k a s, W k (ix3 0 a s) = (A.w k a s : EReal)) (a : Fin 128) (l : Fin 512) :
    k0_pay50 (F := Ideal) (k0_pay7 x2) (k0_pay8 x3) (k0_pay48 x4)
      (k0_pay49 (k0_pay18 (k0_pay12 k0_pay11 (W 0)) (k0_pay15 x0 (k0_pay9 x1)) (constant S128x128 FTy.f32 0#32))
        (k0_pay26 (k0_pay19 (W 1)) (k0_pay22 x0 (k0_pay9 x1))) (k0_pay36 (k0_pay27 (W 2)) (k0_pay31 x0 (k0_pay9 x1)))
        (k0_pay37 (W 3)) (k0_pay41 x0 (k0_pay9 x1)) x5) (ix2 a l)
      = (A.dzv (row t a) l : EReal) := by
  pointwise [k0_pay50, k0_pay7, k0_pay8, k0_pay48, k0_pay49]
  simp only [dvn_at H W hW, H.h2, H.h3, H.h4, H.h5, word_half, word_gc, word_512, named_ga, named_3ga, ← EReal.coe_one, ← EReal.coe_mul,
    ← coe_sum, div_512, ← EReal.coe_add, ← EReal.coe_sub, Ideal.tanh_coe]
  rfl

end Cert.Gmlp

end

end
-- ==== Proof.Entry.lean ====
/- What the kernel's host code hands to the call, the arguments being real. -/
module

public import proofs.«01_k».proof.Proof.Block
public import proofs.«01_k».proof.Proof.Gen.KernelIdeal.Value
public import Idealize.ShloMosaic.Lib.Claim

@[expose] public section

set_option maxRecDepth 16384

noncomputable section

namespace Cert.Gmlp

open Cert.KernelIdeal Cert.KernelIdeal.Gen Idealize.ShloMosaic Idealize.ShloMosaic.TcCoe Idealize.SL.Sem
open Idealize.ShloMosaic.Pipeline (Dat)

/-- Arrays of extended reals that are the real arrays `A`. -/
structure IsReal (A : Arrays) (x0 : FVec Ideal S2048x2048 .f32) (x1 : FVec Ideal S2048x1024 .f32) (x2 x3 : FVec Ideal S512 .f32)
    (x4 : FVec Ideal S4x128x128 .f32) (x5 : FVec Ideal S4x128 .f32) : Prop where
  h : ∀ (r l : Fin 2048), x0 (ix2 r l) = (A.h r l : EReal)
  ct : ∀ (r : Fin 2048) (l : Fin 1024), x1 (ix2 r l) = (A.ct r l : EReal)
  lg : ∀ (l : Fin 512), x2 (ix1 l) = (A.lg l : EReal)
  lb : ∀ (l : Fin 512), x3 (ix1 l) = (A.lb l : EReal)
  w : ∀ (k : Fin 4) (a s : Fin 128), x4 (ix3 k a s) = (A.w k a s : EReal)
  b : ∀ (k : Fin 4) (a : Fin 128), x5 (ix2 k a) = (A.b k a : EReal)

variable (m : (ℓ : Loc nD τ sig) → Buf (Elt Ideal) ℓ) (c : Dev nD)

/-- The call's core starts from real arrays. -/
abbrev Entry (A : Arrays) : Prop :=
  IsReal A (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

variable {m c} {A : Arrays}

/-- The column quarters. -/
theorem quarters_at (k : Fin 4) (r : Fin 2048) (l : Fin 512) :
    V m c main_v1 (ix3 k r l) = m ((c : Thread nD τ).loc main_arg0) (ix2 r ⟨k.val * 512 + l.val, by omega⟩) := by
  entry_read
  pointwise

/-- The rows that are normalised. -/
theorem v_at (H : Entry m c A) (r : Fin 2048) (l : Fin 512) : V m c main_v17 (ix2 r l) = (A.v r l : EReal) := by
  entry_read
  pointwise
  have hx : m (c, Proc.tc.devRef main_arg0) (ix2 r ⟨1536 + l.val, by omega⟩) = (A.zv r l : EReal) := H.h r _
  rw [hx]
  simp only [word_half, word_gc, word_44715, word_million, quotient_ga, ← EReal.coe_one, ← EReal.coe_mul, ← EReal.coe_add, Ideal.tanh_coe]
  congr 1
  unfold Arrays.v gel inner
  ring_nf

/-- Rows minus their means. -/
theorem cen_eq : @Eq (FVec Ideal S2048x512 .f32) (V m c main_v23) (subf (V m c main_v17 : FVec Ideal S2048x512 .f32)
    (broadcastInDim S2048x512 ![0, 1] bcast_S2048x1_S2048x512_0_1
    (Host.divf (broadcastInDim S2048x1 ![0] bcast_S2048_S2048x1_0 (Host.reduceAdd (V m c main_v17 : FVec Ideal S2048x512 .f32) (constant S_ .f32 0x00000000#32) reducesTo_S2048x512_S2048_d1 h_S_))
      (broadcastInDim S2048x1 ![] bcast_S_S2048x1 (constant S_ .f32 0x44000000#32))))) := by
  entry_read
  rfl

/-- The reciprocal deviations, of the centred rows. -/
theorem rdev_eq : @Eq (FVec Ideal S2048x1 .f32) (V m c main_v31) (Host.rsqrt (addf (Host.divf (broadcastInDim S2048x1 ![0] bcast_S2048_S2048x1_0
      (Host.reduceAdd (mulf (V m c main_v23 : FVec Ideal S2048x512 .f32) (V m c main_v23 : FVec Ideal S2048x512 .f32)) (constant S_ .f32 0x00000000#32) reducesTo_S2048x512_S2048_d1 h_S_))
        (broadcastInDim S2048x1 ![] bcast_S_S2048x1 (constant S_ .f32 0x44000000#32)))
      (broadcastInDim S2048x1 ![] bcast_S_S2048x1 (constant (F := Ideal) S_ .f32 0x3727C5AC#32)))) := by
  entry_read
  rfl

theorem xh_eq : @Eq (FVec Ideal S2048x512 .f32) (V m c main_v33) (mulf (V m c main_v23 : FVec Ideal S2048x512 .f32)
    (broadcastInDim S2048x512 ![0, 1] bcast_S2048x1_S2048x512_0_1 (V m c main_v31 : FVec Ideal S2048x1 .f32))) := by
  entry_read
  rfl

theorem cen_at (H : Entry m c A) (r : Fin 2048) (l : Fin 512) :
    V m c main_v23 (ix2 r l) = ((A.v r l - mean (A.v r) : ℝ) : EReal) := by
  have e := v_at H
  refine (congrFun cen_eq (ix2 r l)).trans ?_
  generalize (V m c main_v17 : FVec Ideal S2048x512 .f32) = x at e ⊢
  pointwise
  simp only [e, word_zero, word_512, ← coe_sum, ← EReal.coe_zero, ← EReal.coe_add, div_512, ← EReal.coe_sub, zero_add]
  rfl

theorem rdev_at (H : Entry m c A) (r : Fin 2048) (z : Fin 1) : V m c main_v31 (ix2 r z) = (rdev (A.v r) : EReal) := by
  have e := cen_at H
  refine (congrFun rdev_eq (ix2 r z)).trans ?_
  generalize (V m c main_v23 : FVec Ideal S2048x512 .f32) = x at e ⊢
  pointwise
  simp only [e, word_zero, word_512, word_eps, ← EReal.coe_mul, ← coe_sum, ← EReal.coe_zero, ← EReal.coe_add, div_512, zero_add]
  have h := radicand_pos (A.v r)
  exact (Ideal.rsqrt_coe _).trans ((if_neg h.not_gt).trans (if_neg h.ne'))

theorem xh_at (H : Entry m c A) (r : Fin 2048) (l : Fin 512) : V m c main_v33 (ix2 r l) = (A.xh r l : EReal) := by
  have e := cen_at H
  have e' := rdev_at H
  refine (congrFun xh_eq (ix2 r l)).trans ?_
  generalize (V m c main_v23 : FVec Ideal S2048x512 .f32) = x at e ⊢
  generalize (V m c main_v31 : FVec Ideal S2048x1 .f32) = y at e' ⊢
  pointwise
  rw [e, e', ← EReal.coe_mul]
  rfl

theorem lg_at (H : Entry m c A) (z : Fin 1) (l : Fin 512) : V m c main_v34 (ix2 z l) = (A.lg l : EReal) := by
  entry_read
  pointwise
  exact H.lg l
theorem lb_at (H : Entry m c A) (z : Fin 1) (l : Fin 512) : V m c main_v35 (ix2 z l) = (A.lb l : EReal) := by
  entry_read
  pointwise
  exact H.lb l
theorem b_at (H : Entry m c A) (a : Fin 128) (k : Fin 4) : V m c main_v36 (ix2 a k) = (A.b k a : EReal) := by
  entry_read
  pointwise
  exact H.b k a

/-- Where the blocks of a grid point lie. -/
theorem idx : ∀ t : Fin cfg0.N, win0_0.index t = ![t.val, 1] ∧ win0_1.index t = ![2, t.val, 0] ∧ win0_2.index t = ![3, t.val, 0]
    ∧ win0_3.index t = ![t.val, 0] ∧ win0_4.index t = ![t.val, 0] ∧ win0_5.index t = ![0, 0] ∧ win0_6.index t = ![0, 0]
    ∧ win0_7.index t = ![0, 0, 0] ∧ win0_8.index t = ![0, 0] ∧ win0_9.index t = ![t.val, 0] ∧ win0_10.index t = ![t.val, 0]
    ∧ win0_11.index t = ![0, 0, 0] ∧ win0_12.index t = ![0, 0, 0] ∧ win0_13.index t = ![0, 0] ∧ win0_14.index t = ![0, 0] :=
  (by decide +kernel : ∀ t : Fin grid0.N, _)

theorem blk0 (t : Fin cfg0.N) (a : Fin 128) (l : Fin 512) :
    iblk m c 0 t (ix2 a l) = m ((c : Thread nD τ).loc main_arg1) (ix2 (row ⟨t.val, t.isLt⟩ a) ⟨512 + l.val, by omega⟩) := by
  blk_ext [iblk, V, idx t, row]
theorem blk1 (t : Fin cfg0.N) (z : Fin 1) (a : Fin 128) (l : Fin 512) :
    iblk m c 1 t (ix3 z a l) = V m c main_v1 (ix3 2 (row ⟨t.val, t.isLt⟩ a) l) := by
  blk_ext [iblk, idx t, row]
theorem blk2 (t : Fin cfg0.N) (z : Fin 1) (a : Fin 128) (l : Fin 512) :
    iblk m c 2 t (ix3 z a l) = V m c main_v1 (ix3 3 (row ⟨t.val, t.isLt⟩ a) l) := by
  blk_ext [iblk, idx t, row]
theorem blk3 (t : Fin cfg0.N) (a : Fin 128) (l : Fin 512) :
    iblk m c 3 t (ix2 a l) = V m c main_v33 (ix2 (row ⟨t.val, t.isLt⟩ a) l) := by
  blk_ext [iblk, idx t, row]
theorem blk4 (t : Fin cfg0.N) (a : Fin 128) (z : Fin 1) :
    iblk m c 4 t (ix2 a z) = V m c main_v31 (ix2 (row ⟨t.val, t.isLt⟩ a) z) := by
  blk_ext [iblk, idx t, row]
theorem blk5 (t : Fin cfg0.N) (z : Fin 1) (l : Fin 512) : iblk m c 5 t (ix2 z l) = V m c main_v34 (ix2 z l) := by
  blk_ext [iblk, idx t]
theorem blk6 (t : Fin cfg0.N) (z : Fin 1) (l : Fin 512) : iblk m c 6 t (ix2 z l) = V m c main_v35 (ix2 z l) := by
  blk_ext [iblk, idx t]
theorem blk7 (t : Fin cfg0.N) (k : Fin 4) (a s : Fin 128) :
    iblk m c 7 t (ix3 k a s) = m ((c : Thread nD τ).loc main_arg4) (ix3 k a s) := by
  blk_ext [iblk, V, idx t]
theorem blk8 (t : Fin cfg0.N) (a : Fin 128) (k : Fin 4) : iblk m c 8 t (ix2 a k) = V m c main_v36 (ix2 a k) := by
  blk_ext [iblk, idx t]

/-- The blocks that a grid point is given are real, and are its chunk's. -/
theorem blocks (H : Entry m c A) (t : Fin cfg0.N) :
    Blocks A ⟨t.val, t.isLt⟩ (iblk m c 0 t) (iblk m c 1 t) (iblk m c 2 t) (iblk m c 3 t) (iblk m c 4 t) (iblk m c 5 t)
      (iblk m c 6 t) (iblk m c 7 t) (iblk m c 8 t) where
  h0 a l := (blk0 t a l).trans (H.ct _ _)
  h1 z a l := (blk1 t z a l).trans ((quarters_at _ _ _).trans (H.h _ _))
  h2 z a l := (blk2 t z a l).trans ((quarters_at _ _ _).trans (H.h _ _))
  h3 a l := (blk3 t a l).trans (xh_at H _ _)
  h4 a z := (blk4 t a z).trans (rdev_at H _ _)
  h5 z l := (blk5 t z l).trans (lg_at H z l)
  h6 z l := (blk6 t z l).trans (lb_at H z l)
  h7 k a s := (blk7 t k a s).trans (H.w k a s)
  h8 a k := (blk8 t a k).trans (b_at H a k)

end Cert.Gmlp
end
end
-- ==== Proof.Final.lean ====
/- The kernel's six result arrays after the run, the arguments being real. -/
module

public import proofs.«01_k».proof.Proof.Entry
public import Idealize.ShloMosaic.Lib.Pipeline.ReadBack

@[expose] public section

set_option maxRecDepth 16384

noncomputable section

namespace Cert.Gmlp

open Cert.KernelIdeal Cert.KernelIdeal.Gen Idealize.ShloMosaic Idealize.ShloMosaic.TcCoe Idealize.SL.Sem
open Idealize.ShloMosaic.Pipeline (Dat)

variable {m : (ℓ : Loc nD τ sig) → Buf (Elt Ideal) ℓ} {c : Dev nD} {A : Arrays}

/-- The number of a grid point, which is its chunk's. -/
abbrev pt (t : Fin cfg0.N) : Fin 16 := ⟨t.val, t.isLt⟩

/-- The four matrices and the four bias columns, as a grid point loads them. -/
abbrev mats (m : (ℓ : Loc nD τ sig) → Buf (Elt Ideal) ℓ) (c : Dev nD) (t : Fin cfg0.N) : Fin 4 → Vec Ideal S1x128x128 .f32 :=
  ![View.ld (iblk m c 7 t) (Rect.unit ![0, 0, 0] ![1, 128, 128] inb_S4x128x128_S1x128x128_0_0_0),
    View.ld (iblk m c 7 t) (Rect.unit ![1, 0, 0] ![1, 128, 128] inb_S4x128x128_S1x128x128_1_0_0),
    View.ld (iblk m c 7 t) (Rect.unit ![2, 0, 0] ![1, 128, 128] inb_S4x128x128_S1x128x128_2_0_0),
    View.ld (iblk m c 7 t) (Rect.unit ![3, 0, 0] ![1, 128, 128] inb_S4x128x128_S1x128x128_3_0_0)]
abbrev biases (m : (ℓ : Loc nD τ sig) → Buf (Elt Ideal) ℓ) (c : Dev nD) (t : Fin cfg0.N) : Fin 4 → Vec Ideal S128x1 .f32 :=
  ![View.ld (iblk m c 8 t) (Rect.unit ![0, 0] ![128, 1] inb_S128x4_S128x1_0_0),
    View.ld (iblk m c 8 t) (Rect.unit ![0, 1] ![128, 1] inb_S128x4_S128x1_0_1),
    View.ld (iblk m c 8 t) (Rect.unit ![0, 2] ![128, 1] inb_S128x4_S128x1_0_2),
    View.ld (iblk m c 8 t) (Rect.unit ![0, 3] ![128, 1] inb_S128x4_S128x1_0_3)]

/-- A load of one of the four matrices, and of one of the four columns. -/
theorem mat_ld {Val : EltTy → Type} (x : S4x128x128.Idx → Val .f32) (k : Fin 4) (off : Fin 3 → ℕ) (h : off = ![k.val, 0, 0])
    (hk : ∀ i, off i + (![1, 128, 128] : Fin 3 → ℕ) i ≤ S4x128x128.size i) (z : Fin 1) (a s : Fin 128) :
    View.ld x (Rect.unit off ![1, 128, 128] hk) (ix3 z a s) = x (ix3 k a s) := by
  subst h
  pointwise
theorem col_ld {Val : EltTy → Type} (x : S128x4.Idx → Val .f32) (k : Fin 4) (off : Fin 2 → ℕ) (h : off = ![0, k.val])
    (hk : ∀ i, off i + (![128, 1] : Fin 2 → ℕ) i ≤ S128x4.size i) (z : Fin 1) (a : Fin 128) :
    View.ld x (Rect.unit off ![128, 1] hk) (ix2 a z) = x (ix2 a k) := by
  subst h
  pointwise

theorem mats_at (H : Entry m c A) (t : Fin cfg0.N) : ∀ (k : Fin 4) (a s : Fin 128), mats m c t k (ix3 0 a s) = (A.w k a s : EReal)
  | 0, a, s => (mat_ld _ 0 _ rfl _ 0 a s).trans ((blocks H t).h7 0 a s)
  | 1, a, s => (mat_ld _ 1 _ rfl _ 0 a s).trans ((blocks H t).h7 1 a s)
  | 2, a, s => (mat_ld _ 2 _ rfl _ 0 a s).trans ((blocks H t).h7 2 a s)
  | 3, a, s => (mat_ld _ 3 _ rfl _ 0 a s).trans ((blocks H t).h7 3 a s)
theorem biases_at (H : Entry m c A) (t : Fin cfg0.N) : ∀ (k : Fin 4) (a : Fin 128), biases m c t k (ix2 a 0) = (A.b k a : EReal)
  | 0, a => (col_ld _ 0 _ rfl _ 0 a).trans ((blocks H t).h8 a 0)
  | 1, a => (col_ld _ 1 _ rfl _ 0 a).trans ((blocks H t).h8 a 1)
  | 2, a => (col_ld _ 2 _ rfl _ 0 a).trans ((blocks H t).h8 a 2)
  | 3, a => (col_ld _ 3 _ rfl _ 0 a).trans ((blocks H t).h8 a 3)

theorem out9 (H : Entry m c A) (t : Fin cfg0.N) (a : Fin 128) (l : Fin 512) :
    (outsAt0 m c t.val t.isLt).1 (ix2 a l) = (A.dzu (row (pt t) a) l : EReal) := by
  have hB := blocks H t
  obtain ⟨d0, d1, d2, d3⟩ := du_at hB (mats m c t) (biases m c t) (mats_at H t) (biases_at H t)
  have hd := dzu_at hB _ (du_cat hB _ _ _ _ d0 d1 d2 d3) a l
  simp only [mats, biases, Matrix.cons_val] at hd
  by_cases h : t.val % 16 = 0
  · rw [outsAt0_A m c t h]; frame_out; exact hd
  · rw [outsAt0_B m c t h]; frame_out; exact hd

theorem out10 (H : Entry m c A) (t : Fin cfg0.N) (a : Fin 128) (l : Fin 512) :
    (outsAt0 m c t.val t.isLt).2.1 (ix2 a l) = (A.dzv (row (pt t) a) l : EReal) := by
  have hd := dzv_at (blocks H t) (mats m c t) (mats_at H t) a l
  simp only [mats, biases, Matrix.cons_val] at hd
  by_cases h : t.val % 16 = 0
  · rw [outsAt0_A m c t h]; frame_out; exact hd
  · rw [outsAt0_B m c t h]; frame_out; exact hd

/-- A place of a piece is the place of its matrix in the stack. -/
theorem piece_place (k : Fin 4) (off : Fin 3 → ℕ) (h : off = ![k.val, 0, 0])
    (hk : ∀ i, off i + (![1, 128, 128] : Fin 3 → ℕ) i ≤ S4x128x128.size i) (z : Fin 1) (a s : Fin 128) :
    (Rect.unit (s := S4x128x128) off ![1, 128, 128] hk).emb (ix3 z a s) = ix3 k a s := by
  subst h
  blk_ext

/-- Four pieces that each add a part to what the buffer held, over whatever was stored before them. -/
theorem stack_at {N0 N1 N2 N3 : Vec Ideal S1x128x128 .f32} {P : Vec Ideal S4x128x128 .f32} {p : Fin 4 → Fin 128 → Fin 128 → EReal}
    (L' : List (View.Piece (Elt Ideal) S4x128x128 .f32))
    (h0 : ∀ z a s, N0 (ix3 z a s) = P (ix3 0 a s) + p 0 a s) (h1 : ∀ z a s, N1 (ix3 z a s) = P (ix3 1 a s) + p 1 a s)
    (h2 : ∀ z a s, N2 (ix3 z a s) = P (ix3 2 a s) + p 2 a s) (h3 : ∀ z a s, N3 (ix3 z a s) = P (ix3 3 a s) + p 3 a s)
    (y : S4x128x128.Idx) :
    View.canon ([⟨Rect.unit ![3, 0, 0] ![1, 128, 128] inb_S4x128x128_S1x128x128_3_0_0, N3⟩,
      ⟨Rect.unit ![2, 0, 0] ![1, 128, 128] inb_S4x128x128_S1x128x128_2_0_0, N2⟩,
      ⟨Rect.unit ![1, 0, 0] ![1, 128, 128] inb_S4x128x128_S1x128x128_1_0_0, N1⟩,
      ⟨Rect.unit ![0, 0, 0] ![1, 128, 128] inb_S4x128x128_S1x128x128_0_0_0, N0⟩] ++ L') y = P y + p (y 0) (y 1) (y 2) := by
  have key : ∀ (k : Fin 4) (off : Fin 3 → ℕ) (h : off = ![k.val, 0, 0])
      (hk : ∀ i, off i + (![1, 128, 128] : Fin 3 → ℕ) i ≤ S4x128x128.size i) (N : Vec Ideal S1x128x128 .f32)
      (hN : ∀ z a s, N (ix3 z a s) = P (ix3 k a s) + p k a s) (x : S1x128x128.Idx),
      N x = (fun y : S4x128x128.Idx => P y + p (y 0) (y 1) (y 2)) ((Rect.unit (s := S4x128x128) off ![1, 128, 128] hk).emb x) := by
    intro k off h hk N hN x
    obtain ⟨z, a, s, rfl⟩ : ∃ (z : Fin 1) (a s : Fin 128), x = ix3 z a s :=
      ⟨x 0, x 1, x 2, by funext i; fin_cases i <;> rfl⟩
    rw [piece_place k off h hk]
    exact hN z a s
  refine View.canon_append_of_piecesOf (fun y : S4x128x128.Idx => P y + p (y 0) (y 1) (y 2)) L' _ ?_ y
    (View.cover_of_tiledL _ ![1, 128, 128] rfl y)
  exact ⟨key 3 _ rfl inb_S4x128x128_S1x128x128_3_0_0 _ h3, key 2 _ rfl inb_S4x128x128_S1x128x128_2_0_0 _ h2,
    key 1 _ rfl inb_S4x128x128_S1x128x128_1_0_0 _ h1, key 0 _ rfl inb_S4x128x128_S1x128x128_0_0_0 _ h0, trivial⟩

/-- The buffer of a matrix's gradient after a point: what it held, and the point's part. -/
theorem dw_stack {t : Fin 16} {x0 : Vec Ideal S128x512 .f32} {x1 x2 : Vec Ideal S1x128x512 .f32}
    {x3 : Vec Ideal S128x512 .f32} {x4 : Vec Ideal S128x1 .f32} {x5 x6 : Vec Ideal S1x512 .f32}
    {x7 : Vec Ideal S4x128x128 .f32} {x8 : Vec Ideal S128x4 .f32}
    (H : Blocks A t x0 x1 x2 x3 x4 x5 x6 x7 x8) (P : Vec Ideal S4x128x128 .f32)
    (L' : List (View.Piece (Elt Ideal) S4x128x128 .f32)) (y : S4x128x128.Idx) :
    View.canon ([⟨Rect.unit ![3, 0, 0] ![1, 128, 128] inb_S4x128x128_S1x128x128_3_0_0,
        k0_pay43 (k0_pay10 x3 x5 x6) k0_pay38 (k0_pay41 x0 (k0_pay9 x1))
          (View.ld P (Rect.unit ![3, 0, 0] ![1, 128, 128] inb_S4x128x128_S1x128x128_3_0_0))⟩,
      ⟨Rect.unit ![2, 0, 0] ![1, 128, 128] inb_S4x128x128_S1x128x128_2_0_0,
        k0_pay35 k0_pay28 (k0_pay31 x0 (k0_pay9 x1))
          (k0_pay33 (View.ld P (Rect.unit ![2, 0, 0] ![1, 128, 128] inb_S4x128x128_S1x128x128_2_0_0))) (k0_pay34 (k0_pay10 x3 x5 x6))⟩,
      ⟨Rect.unit ![1, 0, 0] ![1, 128, 128] inb_S4x128x128_S1x128x128_1_0_0,
        k0_pay25 (k0_pay24 x0 (k0_pay9 x1) (k0_pay10 x3 x5 x6)
          (View.ld P (Rect.unit ![1, 0, 0] ![1, 128, 128] inb_S4x128x128_S1x128x128_1_0_0)))⟩,
      ⟨Rect.unit ![0, 0, 0] ![1, 128, 128] inb_S4x128x128_S1x128x128_0_0_0,
        k0_pay17 x0 (k0_pay9 x1) (k0_pay10 x3 x5 x6) (iota Kind.tc S128x128 32 [0] iota_S128x128_d0_w32)
          (iota Kind.tc S128x128 32 [1] iota_S128x128_d1_w32)
          (View.ld P (Rect.unit ![0, 0, 0] ![1, 128, 128] inb_S4x128x128_S1x128x128_0_0_0))⟩] ++ L') y
      = P y + (A.dwPart (y 0) (y 1) (y 2) t : EReal) :=
  stack_at (p := fun k a s => (A.dwPart k a s t : EReal)) L'
    (fun z a s => ((dw_at H _).1 z a s).trans (congrArg (· + _) (mat_ld P 0 _ rfl _ z a s)))
    (fun z a s => ((dw_at H _).2.1 z a s).trans (congrArg (· + _) (mat_ld P 1 _ rfl _ z a s)))
    (fun z a s => ((dw_at H _).2.2.1 z a s).trans (congrArg (· + _) (mat_ld P 2 _ rfl _ z a s)))
    (fun z a s => ((dw_at H _).2.2.2 z a s).trans (congrArg (· + _) (mat_ld P 3 _ rfl _ z a s))) y

/-- The buffer of the biases' gradient after a point, likewise. -/
theorem db_stack {t : Fin 16} {x0 : Vec Ideal S128x512 .f32} {x1 x2 : Vec Ideal S1x128x512 .f32}
    {x3 : Vec Ideal S128x512 .f32} {x4 : Vec Ideal S128x1 .f32} {x5 x6 : Vec Ideal S1x512 .f32}
    {x7 : Vec Ideal S4x128x128 .f32} {x8 : Vec Ideal S128x4 .f32}
    (H : Blocks A t x0 x1 x2 x3 x4 x5 x6 x7 x8) (P : Vec Ideal S4x128x128 .f32)
    (L' : List (View.Piece (Elt Ideal) S4x128x128 .f32)) (y : S4x128x128.Idx) :
    View.canon ([⟨Rect.unit ![3, 0, 0] ![1, 128, 128] inb_S4x128x128_S1x128x128_3_0_0,
        k0_pay42 x0 (k0_pay9 x1) (View.ld P (Rect.unit ![3, 0, 0] ![1, 128, 128] inb_S4x128x128_S1x128x128_3_0_0))⟩,
      ⟨Rect.unit ![2, 0, 0] ![1, 128, 128] inb_S4x128x128_S1x128x128_2_0_0,
        k0_pay32 x0 (k0_pay9 x1) (View.ld P (Rect.unit ![2, 0, 0] ![1, 128, 128] inb_S4x128x128_S1x128x128_2_0_0))⟩,
      ⟨Rect.unit ![1, 0, 0] ![1, 128, 128] inb_S4x128x128_S1x128x128_1_0_0,
        k0_pay23 x0 (k0_pay9 x1) (View.ld P (Rect.unit ![1, 0, 0] ![1, 128, 128] inb_S4x128x128_S1x128x128_1_0_0))⟩,
      ⟨Rect.unit ![0, 0, 0] ![1, 128, 128] inb_S4x128x128_S1x128x128_0_0_0,
        k0_pay16 x0 (k0_pay9 x1) (View.ld P (Rect.unit ![0, 0, 0] ![1, 128, 128] inb_S4x128x128_S1x128x128_0_0_0))⟩] ++ L') y
      = P y + (A.dbPart (y 0) (y 1) t : EReal) :=
  stack_at (p := fun k a s => (A.dbPart k a t : EReal)) L'
    (fun z a s => ((db_at H _).1 z a s).trans (congrArg (· + _) (mat_ld P 0 _ rfl _ z a s)))
    (fun z a s => ((db_at H _).2.1 z a s).trans (congrArg (· + _) (mat_ld P 1 _ rfl _ z a s)))
    (fun z a s => ((db_at H _).2.2.1 z a s).trans (congrArg (· + _) (mat_ld P 2 _ rfl _ z a s)))
    (fun z a s => ((db_at H _).2.2.2 z a s).trans (congrArg (· + _) (mat_ld P 3 _ rfl _ z a s))) y

theorem first13 (H : Entry m c A) (t : Fin cfg0.N) (h : t.val % 16 = 0) (z : Fin 1) (l : Fin 512) :
    (outsAt0 m c t.val t.isLt).2.2.2.2.1 (ix2 z l) = (0 : EReal) + ((∑ a, A.dvn (row (pt t) a) l * A.xh (row (pt t) a) l : ℝ) : EReal) := by
  rw [outsAt0_A m c t h]; frame_out
  refine (dlg_at (blocks H t) (mats m c t) (mats_at H t) _ z l).trans ?_
  congr 1
  pointwise [k0_pay4]

theorem next13 (H : Entry m c A) (t : Fin cfg0.N) (h : ¬t.val % 16 = 0) (z : Fin 1) (l : Fin 512) :
    (outsAt0 m c t.val t.isLt).2.2.2.2.1 (ix2 z l) = (outsAt0 m c (t.val - 1) (Nat.lt_of_le_of_lt (Nat.sub_le _ _) t.isLt)).2.2.2.2.1 (ix2 z l)
      + ((∑ a, A.dvn (row (pt t) a) l * A.xh (row (pt t) a) l : ℝ) : EReal) := by
  rw [outsAt0_B m c t h]; frame_out
  exact dlg_at (blocks H t) (mats m c t) (mats_at H t) _ z l

theorem first14 (H : Entry m c A) (t : Fin cfg0.N) (h : t.val % 16 = 0) (z : Fin 1) (l : Fin 512) :
    (outsAt0 m c t.val t.isLt).2.2.2.2.2 (ix2 z l) = (0 : EReal) + ((∑ a, A.dvn (row (pt t) a) l : ℝ) : EReal) := by
  rw [outsAt0_A m c t h]; frame_out
  refine (dlb_at (blocks H t) (mats m c t) (mats_at H t) _ z l).trans ?_
  congr 1
  pointwise [k0_pay5]

theorem next14 (H : Entry m c A) (t : Fin cfg0.N) (h : ¬t.val % 16 = 0) (z : Fin 1) (l : Fin 512) :
    (outsAt0 m c t.val t.isLt).2.2.2.2.2 (ix2 z l) = (outsAt0 m c (t.val - 1) (Nat.lt_of_le_of_lt (Nat.sub_le _ _) t.isLt)).2.2.2.2.2 (ix2 z l)
      + ((∑ a, A.dvn (row (pt t) a) l : ℝ) : EReal) := by
  rw [outsAt0_B m c t h]; frame_out
  exact dlb_at (blocks H t) (mats m c t) (mats_at H t) _ z l

theorem next11 (H : Entry m c A) (t : Fin cfg0.N) (h : ¬t.val % 16 = 0) (y : S4x128x128.Idx) :
    (outsAt0 m c t.val t.isLt).2.2.1 y = (outsAt0 m c (t.val - 1) (Nat.lt_of_le_of_lt (Nat.sub_le _ _) t.isLt)).2.2.1 y
      + (A.dwPart (y 0) (y 1) (y 2) (pt t) : EReal) := by
  rw [outsAt0_B m c t h]; frame_out
  exact dw_stack (blocks H t) _ [] y

theorem first11 (H : Entry m c A) (t : Fin cfg0.N) (h : t.val % 16 = 0) (y : S4x128x128.Idx) :
    (outsAt0 m c t.val t.isLt).2.2.1 y = (0 : EReal) + (A.dwPart (y 0) (y 1) (y 2) (pt t) : EReal) := by
  rw [outsAt0_A m c t h]; frame_open
  simp (disch := decide) only [↓ View.readCov_skip, ↓ View.readCov_cons_toLoadRect, ↓ View.readCov_fill]
  frame_out
  refine (dw_stack (blocks H t) (k0_pay2 (F := Ideal)) [_] y).trans ?_
  congr 1
  pointwise [k0_pay2]

theorem next12 (H : Entry m c A) (t : Fin cfg0.N) (h : ¬t.val % 16 = 0) (y : S4x128x128.Idx) :
    (outsAt0 m c t.val t.isLt).2.2.2.1 y = (outsAt0 m c (t.val - 1) (Nat.lt_of_le_of_lt (Nat.sub_le _ _) t.isLt)).2.2.2.1 y
      + (A.dbPart (y 0) (y 1) (pt t) : EReal) := by
  rw [outsAt0_B m c t h]; frame_out
  exact db_stack (blocks H t) _ [] y

theorem first12 (H : Entry m c A) (t : Fin cfg0.N) (h : t.val % 16 = 0) (y : S4x128x128.Idx) :
    (outsAt0 m c t.val t.isLt).2.2.2.1 y = (0 : EReal) + (A.dbPart (y 0) (y 1) (pt t) : EReal) := by
  rw [outsAt0_A m c t h]; frame_open
  simp (disch := decide) only [↓ View.readCov_skip, ↓ View.readCov_cons_toLoadRect, ↓ View.readCov_fill]
  frame_out
  refine (db_stack (blocks H t) (k0_pay3 (F := Ideal)) [_] y).trans ?_
  congr 1
  pointwise [k0_pay3]

/-! ## The arrays after the run -/

/-- The six gradients as arrays of extended reals. -/
abbrev dzuG (A : Arrays) : FVec Ideal S2048x512 .f32 := fun j => (A.dzu (j 0) (j 1) : EReal)
abbrev dzvG (A : Arrays) : FVec Ideal S2048x512 .f32 := fun j => (A.dzv (j 0) (j 1) : EReal)
abbrev dwG (A : Arrays) : FVec Ideal S4x128x128 .f32 := fun j => (A.dw (j 0) (j 1) (j 2) : EReal)
abbrev dbG (A : Arrays) : FVec Ideal S4x128x128 .f32 := fun j => (A.db (j 0) (j 1) : EReal)
abbrev dlgG (A : Arrays) : FVec Ideal S1x512 .f32 := fun j => (A.dlg (j 1) : EReal)
abbrev dlbG (A : Arrays) : FVec Ideal S1x512 .f32 := fun j => (A.dlb (j 1) : EReal)

theorem arr9 (H : Entry m c A) : (dats m 0 c).arrAt 9 cfg0.N = dzuG A := by
  refine (dats m 0 c).arrAt_eq_of_covers 9 _ (by decide +kernel) fun t hf y => ?_
  blk_simp
  rw [after0_9]
  obtain ⟨a, l, rfl⟩ : ∃ (a : Fin 128) (l : Fin 512), y = ix2 a l := ⟨y 0, y 1, by funext i; fin_cases i <;> rfl⟩
  have e : (win0_9.blk t).view.emb (ix2 a l) = ix2 (row (pt t) a) l := by blk_ext [idx t, row]
  rw [e]
  exact out9 H t a l

theorem arr10 (H : Entry m c A) : (dats m 0 c).arrAt 10 cfg0.N = dzvG A := by
  refine (dats m 0 c).arrAt_eq_of_covers 10 _ (by decide +kernel) fun t hf y => ?_
  blk_simp
  rw [after0_10]
  obtain ⟨a, l, rfl⟩ : ∃ (a : Fin 128) (l : Fin 512), y = ix2 a l := ⟨y 0, y 1, by funext i; fin_cases i <;> rfl⟩
  have e : (win0_10.blk t).view.emb (ix2 a l) = ix2 (row (pt t) a) l := by blk_ext [idx t, row]
  rw [e]
  exact out10 H t a l

/-- A sum over the grid's points is a sum over the chunks. -/
theorem sum_points {M : Type*} [AddCommMonoid M] (f : Fin 16 → M) : ∑ p : Fin cfg0.N, f (pt p) = ∑ t, f t :=
  Fintype.sum_equiv (finCongr N_0) _ _ fun _ => rfl

theorem arr11 (H : Entry m c A) : (dats m 0 c).arrAt 11 cfg0.N = dwG A := by
  refine (dats m 0 c).arrAt_eq_of_after_last 11 t0_15 (by decide +kernel) _ fun j => ?_
  blk_simp
  rw [after0_11, Pipeline.eq_sum_fin_of_reset_step_apply_last (fun n h => fun y : S4x128x128.Idx => (outsAt0 m c n h).2.2.1 y) 16 (fun _ => (0 : EReal))
    (fun t y => (A.dwPart (y 0) (y 1) (y 2) (pt t) : EReal)) (fun t h y => first11 H t h y) (fun t h y => next11 H t h y)
    (le_of_eq N_0) t0_15 rfl j, zero_add, sum_points fun t => (A.dwPart (j 0) (j 1) (j 2) t : EReal), ← coe_sum]
  rfl

theorem arr12 (H : Entry m c A) : (dats m 0 c).arrAt 12 cfg0.N = dbG A := by
  refine (dats m 0 c).arrAt_eq_of_after_last 12 t0_15 (by decide +kernel) _ fun j => ?_
  blk_simp
  rw [after0_12, Pipeline.eq_sum_fin_of_reset_step_apply_last (fun n h => fun y : S4x128x128.Idx => (outsAt0 m c n h).2.2.2.1 y) 16 (fun _ => (0 : EReal))
    (fun t y => (A.dbPart (y 0) (y 1) (pt t) : EReal)) (fun t h y => first12 H t h y) (fun t h y => next12 H t h y)
    (le_of_eq N_0) t0_15 rfl j, zero_add, sum_points fun t => (A.dbPart (j 0) (j 1) t : EReal), ← coe_sum]
  rfl

theorem arr13 (H : Entry m c A) : (dats m 0 c).arrAt 13 cfg0.N = dlgG A := by
  refine (dats m 0 c).arrAt_eq_of_after_last 13 t0_15 (by decide +kernel) _ fun j => ?_
  blk_simp
  rw [after0_13]
  obtain ⟨z, l, rfl⟩ : ∃ (z : Fin 1) (l : Fin 512), j = ix2 z l := ⟨j 0, j 1, by funext i; fin_cases i <;> rfl⟩
  rw [Pipeline.eq_sum_fin_of_reset_step_apply_last (fun n h => fun z : Fin 1 => (outsAt0 m c n h).2.2.2.2.1 (ix2 z l)) 16 (fun _ => (0 : EReal))
    (fun t _ => ((∑ a, A.dvn (row (pt t) a) l * A.xh (row (pt t) a) l : ℝ) : EReal)) (fun t h z => first13 H t h z l) (fun t h z => next13 H t h z l)
    (le_of_eq N_0) t0_15 rfl z, zero_add, sum_points fun t => ((∑ a, A.dvn (row t a) l * A.xh (row t a) l : ℝ) : EReal), ← coe_sum]
  exact congrArg _ (sum_rows fun r => A.dvn r l * A.xh r l).symm

theorem arr14 (H : Entry m c A) : (dats m 0 c).arrAt 14 cfg0.N = dlbG A := by
  refine (dats m 0 c).arrAt_eq_of_after_last 14 t0_15 (by decide +kernel) _ fun j => ?_
  blk_simp
  rw [after0_14]
  obtain ⟨z, l, rfl⟩ : ∃ (z : Fin 1) (l : Fin 512), j = ix2 z l := ⟨j 0, j 1, by funext i; fin_cases i <;> rfl⟩
  rw [Pipeline.eq_sum_fin_of_reset_step_apply_last (fun n h => fun z : Fin 1 => (outsAt0 m c n h).2.2.2.2.2 (ix2 z l)) 16 (fun _ => (0 : EReal))
    (fun t _ => ((∑ a, A.dvn (row (pt t) a) l : ℝ) : EReal)) (fun t h z => first14 H t h z l) (fun t h z => next14 H t h z l)
    (le_of_eq N_0) t0_15 rfl z, zero_add, sum_points fun t => ((∑ a, A.dvn (row t a) l : ℝ) : EReal), ← coe_sum]
  exact congrArg _ (sum_rows fun r => A.dvn r l).symm

end Cert.Gmlp
end
end
-- ==== Proof.Ref.lean ====
/- The reference's results, the arguments being real. -/
module

public import proofs.«01_k».proof.Proof.Entry
public import proofs.«01_k».proof.Proof.Gen.ReferenceIdeal.Read

@[expose] public section

set_option maxRecDepth 16384

noncomputable section

namespace Cert.Gmlp

open Cert.ReferenceIdeal Cert.ReferenceIdeal.Gen Cert.ReferenceIdeal.Read Idealize.ShloMosaic Idealize.ShloMosaic.TcCoe Idealize.SL.Sem

variable {A : Arrays} {x0 : FVec Ideal S2048x2048 .f32} {x1 : FVec Ideal S2048x1024 .f32} {x2 x3 : FVec Ideal S512 .f32}
    {x4 : FVec Ideal S4x128x128 .f32} {x5 : FVec Ideal S4x128 .f32}

/-- A sum over the first and the last of four axes. -/
theorem sum_outer {n0 n1 n2 n3 : ℕ} (h : (⟨4, ![n0, n1, n2, n3]⟩ : Shape).ReducesTo [0, 3] ⟨2, ![n1, n2]⟩)
    (v : (⟨4, ![n0, n1, n2, n3]⟩ : Shape).Idx → EReal) (init : EReal) (a : Fin n1) (k : Fin n2) :
    Ideal.hostReduceAdd h v init (ix2 a k) = init + ∑ i : Fin n0, ∑ d : Fin n3, v (ix4 i a k d) := by
  unfold Ideal.hostReduceAdd
  congr 1
  rw [← Fintype.sum_prod_type']
  refine Finset.sum_filter_eq_sum_of_fiber _ (fun p : Fin n0 × Fin n3 => ix4 p.1 a k p.2)
    (fun _ _ e => Prod.ext (congrFun e 0) (congrFun e 3)) (fun i => ?_) v
  constructor
  · intro e
    refine ⟨(i 0, i 3), funext fun b => Fin.ext ?_⟩
    match b with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨p, rfl⟩
    funext b
    match b with
    | ⟨0, _⟩ => rfl
    | ⟨1, _⟩ => rfl

/-- The columns before the gelu. -/
abbrev Arrays.z (A : Arrays) (r : Fin 2048) (l : Fin 1024) : ℝ := A.h r ⟨1024 + l.val, by omega⟩

theorem r0 (H : IsReal A x0 x1 x2 x3 x4 x5) (r : Fin 2048) (l : Fin 1024) : val_main_v0 (F := Ideal) x0 (ix2 r l) = (A.z r l : EReal) := by
  pointwise [val_main_v0]
  exact H.h r _

theorem r1 (i : S_.Idx) : val_main_v1 (F := Ideal) i = ((8943 / 200000 : ℝ) : EReal) := by
  pointwise [val_main_v1, val_main_cst, val_main_cst_0]
  rw [word_44715, word_million, quotient_ga]

theorem r12 (H : IsReal A x0 x1 x2 x3 x4 x5) (r : Fin 2048) (l : Fin 1024) : val_main_v12 (F := Ideal) x0 (ix2 r l) = (inner (A.z r l) : EReal) := by
  pointwise [val_main_v12, val_main_v11, val_main_v10, val_main_v9, val_main_v8, val_main_v7, val_main_v3, val_main_v2, val_main_cst_2]
  simp only [r0 H, r1, word_gc, ← EReal.coe_mul, ← EReal.coe_add, Ideal.tanh_coe]
  congr 1
  unfold inner
  ring_nf

theorem r17 (H : IsReal A x0 x1 x2 x3 x4 x5) (r : Fin 2048) (l : Fin 1024) :
    val_main_v17 (F := Ideal) x0 (ix2 r l) = (((1 + inner (A.z r l)) * (1 - inner (A.z r l)) : ℝ) : EReal) := by
  pointwise [val_main_v17, val_main_v16, val_main_v15, val_main_v14, val_main_v13, val_main_cst_3, val_main_cst_4]
  simp only [r12 H, ← EReal.coe_one, ← EReal.coe_mul, ← EReal.coe_add, ← EReal.coe_sub]

theorem r21 (H : IsReal A x0 x1 x2 x3 x4 x5) (r : Fin 2048) (l : Fin 1024) :
    val_main_v21 (F := Ideal) x0 (ix2 r l) = ((1 / 2 * (1 + inner (A.z r l)) : ℝ) : EReal) := by
  pointwise [val_main_v21, val_main_v20, val_main_v19, val_main_v18, val_main_cst_5, val_main_cst_6]
  simp only [r12 H, word_half, ← EReal.coe_one, ← EReal.coe_mul, ← EReal.coe_add, ← EReal.coe_sub]

theorem r22 (H : IsReal A x0 x1 x2 x3 x4 x5) (r : Fin 2048) (l : Fin 1024) :
    val_main_v22 (F := Ideal) x0 (ix2 r l) = (gel (A.z r l) : EReal) := by
  pointwise [val_main_v22]
  rw [r0 H, r21 H, ← EReal.coe_mul]
  rfl

theorem r23 (H : IsReal A x0 x1 x2 x3 x4 x5) (r : Fin 2048) (l : Fin 512) :
    val_main_v23 (F := Ideal) x0 (ix2 r l) = (A.u r l : EReal) := by
  pointwise [val_main_v23]
  exact r22 H r _

theorem r24 (H : IsReal A x0 x1 x2 x3 x4 x5) (r : Fin 2048) (l : Fin 512) :
    val_main_v24 (F := Ideal) x0 (ix2 r l) = (A.v r l : EReal) := by
  pointwise [val_main_v24]
  refine (r22 H r _).trans ?_
  unfold Arrays.v Arrays.zv Arrays.z
  exact congrArg (fun k => (gel (A.h r k) : EReal)) (Fin.ext (by show 1024 + (512 + l.val) = 1536 + l.val; omega))

theorem r28 (H : IsReal A x0 x1 x2 x3 x4 x5) (r : Fin 2048) (z : Fin 1) :
    val_main_v28 (F := Ideal) x0 (ix2 r z) = (mean (A.v r) : EReal) := by
  pointwise [val_main_v28, val_main_v27, val_main_v26, val_main_v25, val_main_cst_8, val_main_cst_7]
  simp only [r24 H, word_512, word_zero, ← coe_sum, ← EReal.coe_zero, ← EReal.coe_add, div_512, zero_add]
  rfl

theorem r39 (H : IsReal A x0 x1 x2 x3 x4 x5) (r : Fin 2048) (l : Fin 512) :
    val_main_v39 (F := Ideal) x0 (ix2 r l) = ((A.v r l - mean (A.v r) : ℝ) : EReal) := by
  pointwise [val_main_v39, val_main_v38]
  rw [r24 H, r28 H, ← EReal.coe_sub]

theorem r30 (H : IsReal A x0 x1 x2 x3 x4 x5) (r : Fin 2048) (l : Fin 512) :
    val_main_v30 (F := Ideal) x0 (ix2 r l) = ((A.v r l - mean (A.v r) : ℝ) : EReal) := r39 H r l

theorem r33 (H : IsReal A x0 x1 x2 x3 x4 x5) (r : Fin 2048) (l : Fin 512) :
    val_main_v33 (F := Ideal) x0 (ix2 r l) = ((2 * (A.v r l - mean (A.v r)) : ℝ) : EReal) := by
  pointwise [val_main_v33, val_main_v32, val_main_cst_9]
  rw [r30 H, word_two, ← EReal.coe_mul]

theorem r41 (H : IsReal A x0 x1 x2 x3 x4 x5) (r : Fin 2048) (z : Fin 1) :
    val_main_v41 (F := Ideal) x0 (ix2 r z) = ((variance (A.v r) + eps : ℝ) : EReal) := by
  pointwise [val_main_v41, val_main_v40, val_main_v37, val_main_v36, val_main_v35, val_main_v34, val_main_v31, val_main_cst_10, val_main_cst_11, val_main_cst_12]
  simp only [r30 H, word_512, word_zero, word_eps, ← EReal.coe_mul, ← coe_sum, ← EReal.coe_zero, ← EReal.coe_add, div_512, zero_add]
  rfl

theorem r42 (H : IsReal A x0 x1 x2 x3 x4 x5) (r : Fin 2048) (z : Fin 1) :
    val_main_v42 (F := Ideal) x0 (ix2 r z) = (rdev (A.v r) : EReal) := by
  pointwise [val_main_v42]
  rw [r41 H]
  have h := radicand_pos (A.v r)
  exact (Ideal.rsqrt_coe _).trans ((if_neg h.not_gt).trans (if_neg h.ne'))

theorem r45 (H : IsReal A x0 x1 x2 x3 x4 x5) (r : Fin 2048) (z : Fin 1) :
    val_main_v45 (F := Ideal) x0 (ix2 r z) = ((-(1 / 2) * (rdev (A.v r) / (variance (A.v r) + eps)) : ℝ) : EReal) := by
  pointwise [val_main_v45, val_main_v44, val_main_v43, val_main_cst_13]
  rw [r41 H, r42 H, word_neg_half, Ideal.div_coe (radicand_pos (A.v r)).ne', ← EReal.coe_mul, ← EReal.coe_mul]
  congr 1
  ring

theorem r47 (H : IsReal A x0 x1 x2 x3 x4 x5) (r : Fin 2048) (l : Fin 512) :
    val_main_v47 (F := Ideal) x0 (ix2 r l) = (A.xh r l : EReal) := by
  pointwise [val_main_v47, val_main_v46]
  rw [r39 H, r42 H, ← EReal.coe_mul]
  rfl

theorem r53 (H : IsReal A x0 x1 x2 x3 x4 x5) (r : Fin 2048) (l : Fin 512) :
    val_main_v53 (F := Ideal) x0 x2 x3 (ix2 r l) = (A.vn r l : EReal) := by
  pointwise [val_main_v53, val_main_v52, val_main_v51, val_main_v50, val_main_v49, val_main_v48]
  rw [r47 H, H.lg, H.lb, ← EReal.coe_mul, ← EReal.coe_add]
  rfl

theorem r55 (a s : Fin 128) : val_main_v55 (F := Ideal) (ix2 a s) = ((if s ≤ a then 1 else 0 : ℝ) : EReal) := by
  pointwise [val_main_v55, val_main_v54, val_main_cst_14, val_main_call0_v4, val_main_call0_v5, val_main_call0_cst, val_main_call0_v3,
    val_main_call0_v2, val_main_call0_v1, val_main_call0_c, val_main_call0_v0]
  simp only [Scalar.select, IntOp.cmpi, IntOp.addi, BitVec.add_zero, BitVec.sle, toInt_word, Fin.le_def]
  by_cases h : s.val ≤ a.val <;> simp [h]

theorem r58 (H : IsReal A x0 x1 x2 x3 x4 x5) (k : Fin 4) (a s : Fin 128) :
    val_main_v58 (F := Ideal) x4 (ix3 k a s) = (A.wm k a s : EReal) := by
  pointwise [val_main_v58, val_main_v57, val_main_v56]
  rw [r55, H.w, ← EReal.coe_mul]
  unfold Arrays.wm
  split_ifs <;> simp

theorem r59 (H : IsReal A x0 x1 x2 x3 x4 x5) (n : Fin 16) (a : Fin 128) (k : Fin 4) (d : Fin 128) :
    val_main_v59 (F := Ideal) x0 x2 x3 (ix4 n a k d) = (A.vn (row n a) (col k d) : EReal) := by
  pointwise [val_main_v59]
  refine (r53 H _ _).trans (congrArg₂ (fun r l => (A.vn r l : EReal)) (Fin.ext ?_) (Fin.ext ?_))
  · simp only [row]; omega
  · simp only [col]; omega

theorem r66 (H : IsReal A x0 x1 x2 x3 x4 x5) (r : Fin 2048) (l : Fin 512) :
    val_main_v66 (F := Ideal) x0 x2 x3 x4 x5 (ix2 r l) = (A.sv r l : EReal) := by
  pointwise [val_main_v66, val_main_v65, val_main_v64, val_main_v63, val_main_v62, val_main_v61, val_main_v60]
  simp only [r59 H, r58 H, H.b, ← EReal.coe_mul, ← coe_sum, ← EReal.coe_add]
  unfold Arrays.sv
  congr 2
  refine Finset.sum_congr rfl fun s _ => (mul_comm _ _).trans ?_
  rw [show col ⟨l.val / 128, by omega⟩ ⟨l.val % 128, by omega⟩ = l from col_grp l]
  rfl

theorem r68 (H : IsReal A x0 x1 x2 x3 x4 x5) (r : Fin 2048) (l : Fin 512) :
    val_main_v68 (F := Ideal) x1 (ix2 r l) = (A.g r l : EReal) := by
  pointwise [val_main_v68]
  exact H.ct r _

theorem r69 (H : IsReal A x0 x1 x2 x3 x4 x5) (r : Fin 2048) (l : Fin 512) :
    val_main_v69 (F := Ideal) x0 x1 (ix2 r l) = (A.dsv r l : EReal) := by
  pointwise [val_main_v69]
  rw [r23 H, r68 H, ← EReal.coe_mul, mul_comm]
  rfl

theorem r70 (H : IsReal A x0 x1 x2 x3 x4 x5) (r : Fin 2048) (l : Fin 512) :
    val_main_v70 (F := Ideal) x0 x1 x2 x3 x4 x5 (ix2 r l) = (A.du r l : EReal) := by
  pointwise [val_main_v70]
  rw [r66 H, r68 H, ← EReal.coe_mul]
  rfl

theorem r71 (H : IsReal A x0 x1 x2 x3 x4 x5) (n : Fin 16) (a : Fin 128) (k : Fin 4) (d : Fin 128) :
    val_main_v71 (F := Ideal) x0 x1 (ix4 n a k d) = (A.dsv (row n a) (col k d) : EReal) := by
  pointwise [val_main_v71]
  refine (r69 H _ _).trans (congrArg₂ (fun r l => (A.dsv r l : EReal)) (Fin.ext ?_) (Fin.ext ?_))
  · simp only [row]; omega
  · simp only [col]; omega

theorem r75 (H : IsReal A x0 x1 x2 x3 x4 x5) (k : Fin 4) (a : Fin 128) :
    val_main_v75 (F := Ideal) x0 x1 (ix2 k a) = (A.db k a : EReal) := by
  pointwise [val_main_v75, val_main_v74, val_main_v73, val_main_v72, val_main_cst_15, val_main_cst_16]
  rw [sum_outer]
  pointwise
  rw [sum_outer]
  simp only [r71 H, zero_add, ← coe_sum]
  simp [Arrays.db, Arrays.dbPart]

theorem r80 (H : IsReal A x0 x1 x2 x3 x4 x5) (r : Fin 2048) (l : Fin 512) :
    val_main_v80 (F := Ideal) x0 x1 x4 (ix2 r l) = (A.dvn r l : EReal) := by
  pointwise [val_main_v80, val_main_v79, val_main_v78, val_main_v76]
  simp only [r71 H, r58 H, ← EReal.coe_mul, ← coe_sum]
  unfold Arrays.dvn
  congr 1
  refine Finset.sum_congr rfl fun s _ => (mul_comm _ _).trans ?_
  rw [show col ⟨l.val / 128, by omega⟩ ⟨l.val % 128, by omega⟩ = l from col_grp l]
  rfl

theorem r82 (H : IsReal A x0 x1 x2 x3 x4 x5) (k : Fin 4) (a s : Fin 128) :
    val_main_v82 (F := Ideal) x0 x1 x2 x3 (ix3 k a s) = (A.dw k a s : EReal) := by
  pointwise [val_main_v82, val_main_v81, val_main_v56, val_main_v77, val_main_v76]
  simp only [r71 H, r59 H, r55, ← EReal.coe_mul, ← coe_sum]
  unfold Arrays.dw Arrays.dwPart
  split_ifs <;> simp

theorem r85 (H : IsReal A x0 x1 x2 x3 x4 x5) (l : Fin 512) :
    val_main_v85 (F := Ideal) x0 x1 x4 (ix1 l) = (A.dlb l : EReal) := by
  pointwise [val_main_v85, val_main_v84, val_main_v83, val_main_cst_17, val_main_cst_18]
  simp only [r80 H, ← coe_sum]
  simp [Arrays.dlb]

theorem r91 (H : IsReal A x0 x1 x2 x3 x4 x5) (l : Fin 512) :
    val_main_v91 (F := Ideal) x0 x1 x4 (ix1 l) = (A.dlg l : EReal) := by
  pointwise [val_main_v91, val_main_v88, val_main_v87, val_main_v86, val_main_cst_19, val_main_cst_20]
  simp only [r80 H, r47 H, ← EReal.coe_mul, ← coe_sum]
  simp [Arrays.dlg, mul_comm]

theorem r90 (H : IsReal A x0 x1 x2 x3 x4 x5) (r : Fin 2048) (l : Fin 512) :
    val_main_v90 (F := Ideal) x0 x1 x2 x4 (ix2 r l) = (A.dxh r l : EReal) := by
  pointwise [val_main_v90, val_main_v89, val_main_v48]
  rw [r80 H, H.lg, ← EReal.coe_mul]
  rfl

theorem r96 (H : IsReal A x0 x1 x2 x3 x4 x5) (r : Fin 2048) (l : Fin 512) :
    val_main_v96 (F := Ideal) x0 x1 x2 x4 (ix2 r l) = ((A.dxh r l * rdev (A.v r) : ℝ) : EReal) := by
  pointwise [val_main_v96, val_main_v95]
  rw [r90 H, r42 H, ← EReal.coe_mul]

theorem r103 (H : IsReal A x0 x1 x2 x3 x4 x5) (r : Fin 2048) :
    val_main_v103 (F := Ideal) x0 x1 x2 x4 (ix1 r) = (dvar (A.v r) (A.dxh r) : EReal) := by
  pointwise [val_main_v103, val_main_v102, val_main_v101, val_main_v97, val_main_v94, val_main_v93, val_main_v92, val_main_cst_21, val_main_cst_23, val_main_cst_24]
  simp only [r39 H, r45 H, r90 H, word_512, word_zero, ← EReal.coe_mul, ← coe_sum, ← EReal.coe_zero, ← EReal.coe_add, div_512, zero_add]
  simp [dvar]

theorem r105 (H : IsReal A x0 x1 x2 x3 x4 x5) (r : Fin 2048) (l : Fin 512) :
    val_main_v105 (F := Ideal) x0 x1 x2 x4 (ix2 r l) = ((dvar (A.v r) (A.dxh r) * (2 * (A.v r l - mean (A.v r))) : ℝ) : EReal) := by
  pointwise [val_main_v105, val_main_v104]
  rw [r103 H, r33 H, ← EReal.coe_mul]

theorem r115 (H : IsReal A x0 x1 x2 x3 x4 x5) (r : Fin 2048) (l : Fin 512) :
    val_main_v115 (F := Ideal) x0 x1 x2 x4 (ix2 r l) = (dnorm (A.v r) (A.dxh r) l : EReal) := by
  pointwise [val_main_v115, val_main_v114, val_main_v113, val_main_v112, val_main_v111, val_main_v110, val_main_v109, val_main_v108, val_main_v107,
    val_main_v106, val_main_v100, val_main_v99, val_main_v98, val_main_cst_22, val_main_cst_25, val_main_cst_26, val_main_cst_27]
  simp only [r96 H, r105 H, word_512, word_zero, ← EReal.coe_mul, ← EReal.coe_neg, ← coe_sum, ← EReal.coe_zero, ← EReal.coe_add, div_512, zero_add]
  rw [← dnorm_eq]
  simp

theorem r118l (H : IsReal A x0 x1 x2 x3 x4 x5) (r : Fin 2048) (l : Fin 512) :
    val_main_v118 (F := Ideal) x0 x1 x2 x3 x4 x5 (ix2 r ⟨l.val, by omega⟩) = (A.du r l : EReal) := by
  pointwise [val_main_v118, val_main_v117, val_main_v116, val_main_cst_28, val_main_cst_29]
  rw [dif_neg (fun h => h.1), zero_add]
  exact r70 H r l

theorem r118r (H : IsReal A x0 x1 x2 x3 x4 x5) (r : Fin 2048) (l : Fin 512) :
    val_main_v118 (F := Ideal) x0 x1 x2 x3 x4 x5 (ix2 r ⟨512 + l.val, by omega⟩) = (dnorm (A.v r) (A.dxh r) l : EReal) := by
  pointwise [val_main_v118, val_main_v117, val_main_v116, val_main_cst_28, val_main_cst_29]
  exact r115 H r l

theorem r130 (H : IsReal A x0 x1 x2 x3 x4 x5) (r : Fin 2048) (l : Fin 1024) (d : ℝ)
    (hd : val_main_v118 (F := Ideal) x0 x1 x2 x3 x4 x5 (ix2 r l) = (d : EReal)) :
    val_main_v130 (F := Ideal) x0 x1 x2 x3 x4 x5 (ix2 r l) = ((d * dgel (A.z r l) : ℝ) : EReal) := by
  pointwise [val_main_v130, val_main_v129, val_main_v128, val_main_v127, val_main_v126, val_main_v125, val_main_v124, val_main_v123, val_main_v122,
    val_main_v121, val_main_v120, val_main_v119, val_main_v6, val_main_v5, val_main_v4, val_main_cst_30, val_main_cst_31, val_main_cst_1]
  simp only [hd, r0 H, r1, r17 H, r21 H, word_half, word_gc, word_three, ← EReal.coe_mul, ← EReal.coe_add]
  rw [← dgel_eq]

theorem r132 (H : IsReal A x0 x1 x2 x3 x4 x5) (r : Fin 2048) (l : Fin 512) :
    val_main_v132 (F := Ideal) x0 x1 x2 x3 x4 x5 (ix2 r l) = (A.dzu r l : EReal) := by
  pointwise [val_main_v132, val_main_v131]
  rw [dif_pos (by omega)]
  exact r130 H r _ _ (r118l H r l)

theorem r133 (H : IsReal A x0 x1 x2 x3 x4 x5) (r : Fin 2048) (l : Fin 512) :
    val_main_v133 (F := Ideal) x0 x1 x2 x3 x4 x5 (ix2 r l) = (A.dzv r l : EReal) := by
  pointwise [val_main_v133, val_main_v131]
  rw [dif_pos ⟨by omega, by omega⟩]
  have e : (⟨1536 + l.val - 1024, by omega⟩ : Fin 1024) = ⟨512 + l.val, by omega⟩ := Fin.ext (by simp only []; omega)
  have hz : A.z r ⟨512 + l.val, by omega⟩ = A.zv r l := congrArg (A.h r) (Fin.ext (by simp only []; omega))
  rw [e, r130 H r _ _ (r118r H r l), hz]
  rfl

theorem r135 (H : IsReal A x0 x1 x2 x3 x4 x5) (k : Fin 4) (a s : Fin 128) :
    val_main_v135 (F := Ideal) x0 x1 (ix3 k a s) = (A.db k a : EReal) := by
  pointwise [val_main_v135, val_main_v134]
  exact r75 H k a

theorem r136 (H : IsReal A x0 x1 x2 x3 x4 x5) (z : Fin 1) (l : Fin 512) :
    val_main_v136 (F := Ideal) x0 x1 x4 (ix2 z l) = (A.dlg l : EReal) := by
  pointwise [val_main_v136]
  exact r91 H l

theorem r137 (H : IsReal A x0 x1 x2 x3 x4 x5) (z : Fin 1) (l : Fin 512) :
    val_main_v137 (F := Ideal) x0 x1 x4 (ix2 z l) = (A.dlb l : EReal) := by
  pointwise [val_main_v137]
  exact r85 H l

end Cert.Gmlp
end
end
-- ==== Proof.Start.lean ====
/-
  Finite arguments are arrays of reals: what the precondition says, read element by element.
-/
module

public import proofs.«01_k».proof.Pre_finite
public import proofs.«01_k».proof.Proof.Entry

@[expose] public section

noncomputable section

namespace Cert.Gmlp

open Idealize.ShloMosaic Idealize.SL.Sem Cert.KernelIdeal

/-- The shape relations of the precondition's broadcasts. -/
theorem preFacts : Cert.Pre_finite.Facts where
  bcast_S_S2048x2048 := by decide
  bcast_S_S2048x1024 := by decide
  bcast_S_S512 := by decide
  bcast_S_S4x128x128 := by decide
  bcast_S_S4x128 := by decide

attribute [local instance] preFacts

/-- An array whose magnitudes are all below infinity has a real at every index. -/
theorem real_of_below {s : Shape} (x y : FVec Ideal s .f32) (hy : ∀ i, y i = ⊤) (h : cmpf .olt (Host.absf x) y = fun _ => 1#1) (i : s.Idx) :
    x i = ((x i).toReal : EReal) := by
  have hi := congrFun h i
  have hy := hy i
  simp only [cmpf, Host.absf, hy, Ideal.cmpf_def, Ideal.hostAbsf_def] at hi
  refine (EReal.coe_toReal (fun e => ?_) (fun e => ?_)).symm
  · rw [e] at hi
    revert hi
    simp [Ideal.cmp, Ideal.absf_def]
  · rw [e] at hi
    revert hi
    simp [Ideal.cmp, Ideal.absf_def]

/-- The word of infinity. -/
theorem word_inf : Ideal.ofBits .f32 0x7F800000#32 = ⊤ := by
  simp [Ideal.ofBits, Ideal.ieee]

/-- The reals of six arrays. -/
def reals (x0 : FVec Ideal S2048x2048 .f32) (x1 : FVec Ideal S2048x1024 .f32) (x2 x3 : FVec Ideal S512 .f32)
    (x4 : FVec Ideal S4x128x128 .f32) (x5 : FVec Ideal S4x128 .f32) : Arrays where
  h r l := (x0 (ix2 r l)).toReal
  ct r l := (x1 (ix2 r l)).toReal
  lg l := (x2 (ix1 l)).toReal
  lb l := (x3 (ix1 l)).toReal
  w k a s := (x4 (ix3 k a s)).toReal
  b k a := (x5 (ix2 k a)).toReal

/-- The precondition makes the six arrays real. -/
theorem isReal_of_finite (x0 : FVec Ideal S2048x2048 .f32) (x1 : FVec Ideal S2048x1024 .f32) (x2 x3 : FVec Ideal S512 .f32)
    (x4 : FVec Ideal S4x128x128 .f32) (x5 : FVec Ideal S4x128 .f32)
    (h : (Cert.Pre_finite.fn x0 x1 x2 x3 x4 x5).1 = (fun _ => 1#1)
      ∧ (Cert.Pre_finite.fn x0 x1 x2 x3 x4 x5).2.1 = (fun _ => 1#1)
      ∧ (Cert.Pre_finite.fn x0 x1 x2 x3 x4 x5).2.2.1 = (fun _ => 1#1)
      ∧ (Cert.Pre_finite.fn x0 x1 x2 x3 x4 x5).2.2.2.1 = (fun _ => 1#1)
      ∧ (Cert.Pre_finite.fn x0 x1 x2 x3 x4 x5).2.2.2.2.1 = (fun _ => 1#1)
      ∧ (Cert.Pre_finite.fn x0 x1 x2 x3 x4 x5).2.2.2.2.2 = (fun _ => 1#1)) :
    IsReal (reals x0 x1 x2 x3 x4 x5) x0 x1 x2 x3 x4 x5 where
  h r l := real_of_below x0 _ (fun _ => word_inf) h.1 _
  ct r l := real_of_below x1 _ (fun _ => word_inf) h.2.1 _
  lg l := real_of_below x2 _ (fun _ => word_inf) h.2.2.1 _
  lb l := real_of_below x3 _ (fun _ => word_inf) h.2.2.2.1 _
  w k a s := real_of_below x4 _ (fun _ => word_inf) h.2.2.2.2.1 _
  b k a := real_of_below x5 _ (fun _ => word_inf) h.2.2.2.2.2 _

end Cert.Gmlp

end
-- ==== Proof.Dact.lean ====
/- The gradient of the gated activations: four blocks, each a product with a quarter of the down weight. -/
module

public import proofs.«01_k».proof.Defs
public import proofs.«01_k».proof.Proof.Gen.Dact.Frame
public import proofs.«01_k».proof.Proof.Gen.DactIdeal.Value
public import proofs.«01_k».proof.Proof.Gen.DactRefIdeal.Read
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.Dact

open Cert.DactIdeal Cert.DactIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![0, 0] ∧ win0_1.index t = ![t.val, 1, 0, 0] ∧ win0_2.index t = ![t.val, 0, 0] :=
  (by decide +kernel : ∀ t : Fin grid0.N, _)

theorem weight (k : Fin 4) (i : Fin 2) (l : Fin 704) (e : Fin 1024) :
    V m c main_v2 (ix4 k i l e) = m ((c : Thread nD τ).loc main_arg0) (ix3 i ⟨k.val * 704 + l.val, by omega⟩ e) := by
  entry_read
  pointwise

theorem blk0 (t : Fin cfg0.N) (r : Fin 2048) (e : Fin 1024) :
    iblk m c 0 t (ix2 r e) = m ((c : Thread nD τ).loc main_arg1) (ix2 r e) := by
  blk_ext [iblk, V, idx t]
theorem blk1 (t : Fin cfg0.N) (z z' : Fin 1) (l : Fin 704) (e : Fin 1024) :
    iblk m c 1 t (ix4 z z' l e) = V m c main_v2 (ix4 ⟨t.val, t.isLt⟩ 1 l e) := by
  blk_ext [iblk, idx t]

theorem point (t : Fin cfg0.N) (z : Fin 1) (r : Fin 2048) (l : Fin 704) :
    out0_2 (iblk m c 0 t) (iblk m c 1 t) (ix3 z r l) =
      Cert.DactRefIdeal.Read.val_main_v6 (F := Ideal) (m ((c : Thread nD τ).loc main_arg0)) (m ((c : Thread nD τ).loc main_arg1))
        (ix3 ⟨t.val, t.isLt⟩ r l) := by
  frame_out
  pointwise [k0_pay1, Cert.DactRefIdeal.Read.val_main_v6, Cert.DactRefIdeal.Read.val_main_v5, Cert.DactRefIdeal.Read.val_main_v4, Cert.DactRefIdeal.Read.val_main_v2, Cert.DactRefIdeal.Read.val_main_v1]
  refine Finset.sum_congr rfl fun e _ => ?_
  rw [blk0, blk1, weight]

/-- The whole array is the reference's. -/
theorem arr : (dats m 0 c).arrAt 2 cfg0.N =
    Cert.DactRefIdeal.Read.val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  obtain ⟨z, r, l, rfl⟩ : ∃ z r l, y = ix3 z r l := ⟨y 0, y 1, y 2, by funext i; fin_cases i <;> rfl⟩
  have e : (win0_2.blk t).view.emb (ix3 z r l) = ix3 ⟨t.val, t.isLt⟩ r l := by blk_ext [idx t]
  rw [e]
  exact point m c t z r l

theorem frame : Cert.quiescent_Dact (hDact := Cert.Dact.Gen.facts) := fun m g _ => Cert.Dact.Gen.frame m g

theorem frame_reference : Cert.quiescent_DactRefIdeal (hDactRefIdeal := Cert.DactRefIdeal.Gen.facts) := fun m g _ =>
  (θ_run _ _ _).mono (fun r h => ⟨fun c => (h c).2, sem_eq_zero_of_no_sems rfl r.2⟩) (Cert.DactRefIdeal.Value.run m g)

theorem equal : Cert.algebraic_DactIdeal_DactRefIdeal (hDactIdeal := Cert.DactIdeal.Gen.facts)
    (hDactRefIdeal := Cert.DactRefIdeal.Gen.facts) :=
  fun m g m' g' _ hagree => ⟨_, Cert.DactIdeal.Value.run_blocks m g, (θ_run _ _ _).mono (fun r h c => by
    refine ⟨((h c).1.trans (Cert.DactRefIdeal.Read.val_main_v6_eq _ _)).trans ?_, (h c).2⟩
    rw [(hagree c).1, (hagree c).2]
    exact (arr m c).symm) (Cert.DactRefIdeal.Value.run m' g')⟩

end Cert.Products.Dact

end
-- ==== Proof.Ddown.lean ====
/- The gradient of the down weight: four blocks of rows, each a product over all the tokens. -/
module

public import proofs.«01_k».proof.Defs
public import proofs.«01_k».proof.Proof.Gen.Ddown.Frame
public import proofs.«01_k».proof.Proof.Gen.DdownIdeal.Value
public import proofs.«01_k».proof.Proof.Gen.DdownRefIdeal.Read
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.Ddown

open Cert.DdownIdeal Cert.DdownIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![t.val, 0, 0] ∧ win0_1.index t = ![0, 0] ∧ win0_2.index t = ![t.val, 0, 0] :=
  (by decide +kernel : ∀ t : Fin grid0.N, _)

theorem quarter (k : Fin 4) (r : Fin 2048) (l : Fin 704) :
    V m c main_v2 (ix3 k r l) = m ((c : Thread nD τ).loc main_arg0) (ix2 r ⟨k.val * 704 + l.val, by omega⟩) := by
  entry_read
  pointwise

theorem blk0 (t : Fin cfg0.N) (z : Fin 1) (r : Fin 2048) (l : Fin 704) :
    iblk m c 0 t (ix3 z r l) = V m c main_v2 (ix3 ⟨t.val, t.isLt⟩ r l) := by
  blk_ext [iblk, idx t]
theorem blk1 (t : Fin cfg0.N) (r : Fin 2048) (e : Fin 1024) :
    iblk m c 1 t (ix2 r e) = m ((c : Thread nD τ).loc main_arg1) (ix2 r e) := by
  blk_ext [iblk, V, idx t]

theorem point (t : Fin cfg0.N) (z : Fin 1) (l : Fin 704) (e : Fin 1024) :
    out0_2 (iblk m c 0 t) (iblk m c 1 t) (ix3 z l e) =
      Cert.DdownRefIdeal.Read.val_main_v5 (F := Ideal) (m ((c : Thread nD τ).loc main_arg0)) (m ((c : Thread nD τ).loc main_arg1))
        (ix3 ⟨t.val, t.isLt⟩ l e) := by
  frame_out
  pointwise [k0_pay1, Cert.DdownRefIdeal.Read.val_main_v5, Cert.DdownRefIdeal.Read.val_main_v4, Cert.DdownRefIdeal.Read.val_main_v3,
    Cert.DdownRefIdeal.Read.val_main_v2]
  refine Finset.sum_congr rfl fun r _ => ?_
  rw [blk0, blk1, quarter, mul_comm]

/-- The whole array is the reference's. -/
theorem arr : (dats m 0 c).arrAt 2 cfg0.N =
    Cert.DdownRefIdeal.Read.val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  obtain ⟨z, l, e, rfl⟩ : ∃ z l e, y = ix3 z l e := ⟨y 0, y 1, y 2, by funext i; fin_cases i <;> rfl⟩
  have h : (win0_2.blk t).view.emb (ix3 z l e) = ix3 ⟨t.val, t.isLt⟩ l e := by blk_ext [idx t]
  rw [h]
  exact point m c t z l e

theorem frame : Cert.quiescent_Ddown (hDdown := Cert.Ddown.Gen.facts) := fun m g _ => Cert.Ddown.Gen.frame m g

theorem frame_reference : Cert.quiescent_DdownRefIdeal (hDdownRefIdeal := Cert.DdownRefIdeal.Gen.facts) := fun m g _ =>
  (θ_run _ _ _).mono (fun r h => ⟨fun c => (h c).2, sem_eq_zero_of_no_sems rfl r.2⟩) (Cert.DdownRefIdeal.Value.run m g)

theorem equal : Cert.algebraic_DdownIdeal_DdownRefIdeal (hDdownIdeal := Cert.DdownIdeal.Gen.facts)
    (hDdownRefIdeal := Cert.DdownRefIdeal.Gen.facts) :=
  fun m g m' g' _ hagree => ⟨_, Cert.DdownIdeal.Value.run_blocks m g, (θ_run _ _ _).mono (fun r h c => by
    refine ⟨((h c).1.trans (Cert.DdownRefIdeal.Read.val_main_v5_eq _ _)).trans ?_, (h c).2⟩
    rw [(hagree c).1, (hagree c).2]
    exact (arr m c).symm) (Cert.DdownRefIdeal.Value.run m' g')⟩

end Cert.Products.Ddown

end
-- ==== Proof.Dgatew.lean ====
/- The gradient of the gate weight, and of the up weight: blocks of 512 rows of a quarter of the columns. -/
module

public import proofs.«01_k».proof.Defs
public import proofs.«01_k».proof.Proof.Gen.Dgatew.Frame
public import proofs.«01_k».proof.Proof.Gen.DgatewIdeal.Value
public import proofs.«01_k».proof.Proof.Gen.DgatewRefIdeal.Read
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.Dgatew

open Cert.DgatewIdeal Cert.DgatewIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![0, t.val % 2] ∧ win0_1.index t = ![t.val / 2, 0, 0]
    ∧ win0_2.index t = ![t.val / 2, t.val % 2, 0] :=
  (by decide +kernel : ∀ t : Fin grid0.N, _)

/-- A point's quarter, and its row `e` of the whole array. -/
abbrev part (t : Fin cfg0.N) : Fin 4 := ⟨t.val / 2, by have h : t.val < 8 := t.isLt; omega⟩
abbrev row (t : Fin cfg0.N) (e : Fin 512) : Fin 1024 := ⟨t.val % 2 * 512 + e.val, by omega⟩

theorem quarter (k : Fin 4) (r : Fin 2048) (l : Fin 704) :
    V m c main_v2 (ix3 k r l) = m ((c : Thread nD τ).loc main_arg1) (ix2 r ⟨k.val * 704 + l.val, by omega⟩) := by
  entry_read
  pointwise

theorem blk0 (t : Fin cfg0.N) (r : Fin 2048) (e : Fin 512) :
    iblk m c 0 t (ix2 r e) = m ((c : Thread nD τ).loc main_arg0) (ix2 r (row t e)) := by
  blk_ext [iblk, V, idx t, row]
theorem blk1 (t : Fin cfg0.N) (z : Fin 1) (r : Fin 2048) (l : Fin 704) :
    iblk m c 1 t (ix3 z r l) = V m c main_v2 (ix3 (part t) r l) := by
  blk_ext [iblk, idx t, part]

theorem point (t : Fin cfg0.N) (z : Fin 1) (e : Fin 512) (l : Fin 704) :
    out0_2 (iblk m c 0 t) (iblk m c 1 t) (ix3 z e l) =
      Cert.DgatewRefIdeal.Read.val_main_v6 (F := Ideal) (m ((c : Thread nD τ).loc main_arg0)) (m ((c : Thread nD τ).loc main_arg1))
        (ix3 (part t) (row t e) l) := by
  frame_out
  pointwise [k0_pay1, Cert.DgatewRefIdeal.Read.val_main_v6, Cert.DgatewRefIdeal.Read.val_main_v5, Cert.DgatewRefIdeal.Read.val_main_v4,
    Cert.DgatewRefIdeal.Read.val_main_v3, Cert.DgatewRefIdeal.Read.val_main_v2]
  refine Finset.sum_congr rfl fun r _ => ?_
  rw [blk0, blk1, quarter, mul_comm]

/-- The whole array is the reference's. -/
theorem arr : (dats m 0 c).arrAt 2 cfg0.N =
    Cert.DgatewRefIdeal.Read.val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  obtain ⟨z, e, l, rfl⟩ : ∃ z e l, y = ix3 z e l := ⟨y 0, y 1, y 2, by funext i; fin_cases i <;> rfl⟩
  have h : (win0_2.blk t).view.emb (ix3 z e l) = ix3 (part t) (row t e) l := by blk_ext [idx t, part, row]
  rw [h]
  exact point m c t z e l

theorem frame : Cert.quiescent_Dgatew (hDgatew := Cert.Dgatew.Gen.facts) := fun m g _ => Cert.Dgatew.Gen.frame m g

theorem frame_reference : Cert.quiescent_DgatewRefIdeal (hDgatewRefIdeal := Cert.DgatewRefIdeal.Gen.facts) := fun m g _ =>
  (θ_run _ _ _).mono (fun r h => ⟨fun c => (h c).2, sem_eq_zero_of_no_sems rfl r.2⟩) (Cert.DgatewRefIdeal.Value.run m g)

theorem equal : Cert.algebraic_DgatewIdeal_DgatewRefIdeal (hDgatewIdeal := Cert.DgatewIdeal.Gen.facts)
    (hDgatewRefIdeal := Cert.DgatewRefIdeal.Gen.facts) :=
  fun m g m' g' _ hagree => ⟨_, Cert.DgatewIdeal.Value.run_blocks m g, (θ_run _ _ _).mono (fun r h c => by
    refine ⟨((h c).1.trans (Cert.DgatewRefIdeal.Read.val_main_v6_eq _ _)).trans ?_, (h c).2⟩
    rw [(hagree c).1, (hagree c).2]
    exact (arr m c).symm) (Cert.DgatewRefIdeal.Value.run m' g')⟩

end Cert.Products.Dgatew

end
-- ==== Proof.Sums.lean ====
/- Sums over blocks. -/
module

public import Idealize.ShloMosaic.Lib.Pipeline.ValueKit

@[expose] public section

namespace Cert.Products

/-- A sum over `n` blocks of `b` terms is the sum over all the `n * b` terms. -/
theorem sum_blocks {n b N : ℕ} (hN : n * b = N) (hlt : ∀ (k : Fin n) (l : Fin b), k.val * b + l.val < N) {M : Type*} [AddCommMonoid M]
    (f : Fin N → M) : ∑ k : Fin n, ∑ l : Fin b, f ⟨k.val * b + l.val, hlt k l⟩ = ∑ x, f x := by
  subst hN
  rw [← Fintype.sum_prod_type', ← Equiv.sum_comp finProdFinEquiv]
  refine Finset.sum_congr rfl fun p _ => congrArg f (Fin.ext ?_)
  simp [finProdFinEquiv, add_comm, mul_comm]

end Cert.Products
-- ==== Proof.Dxa.lean ====
/- The part of the gradient of the feed-forward layer's input that comes through its gate, added to the residual's: a product accumulated over four quarters. -/
module

public import proofs.«01_k».proof.Defs
public import proofs.«01_k».proof.Proof.Gen.Dxa.Frame
public import proofs.«01_k».proof.Proof.Gen.DxaIdeal.Value
public import proofs.«01_k».proof.Proof.Gen.DxaRefIdeal.Read
public import proofs.«01_k».proof.Proof.Sums
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.Dxa

open Cert.DxaIdeal Cert.DxaIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![t.val, 0, 0] ∧ win0_1.index t = ![t.val, 1, 0, 0] ∧ win0_2.index t = ![0, 0]
    ∧ win0_3.index t = ![0, 0] :=
  (by decide +kernel : ∀ t : Fin grid0.N, _)

theorem quarter (k : Fin 4) (r : Fin 2048) (l : Fin 704) :
    V m c main_v2 (ix3 k r l) = m ((c : Thread nD τ).loc main_arg1) (ix2 r ⟨k.val * 704 + l.val, by omega⟩) := by
  entry_read
  pointwise
theorem weight (k : Fin 4) (i : Fin 2) (e : Fin 1024) (l : Fin 704) :
    V m c main_v5 (ix4 k i e l) = m ((c : Thread nD τ).loc main_arg0) (ix3 i e ⟨k.val * 704 + l.val, by omega⟩) := by
  entry_read
  pointwise

theorem blk0 (t : Fin cfg0.N) (z : Fin 1) (r : Fin 2048) (l : Fin 704) :
    iblk m c 0 t (ix3 z r l) = V m c main_v2 (ix3 ⟨t.val, t.isLt⟩ r l) := by
  blk_ext [iblk, idx t]
theorem blk1 (t : Fin cfg0.N) (z z' : Fin 1) (e : Fin 1024) (l : Fin 704) :
    iblk m c 1 t (ix4 z z' e l) = V m c main_v5 (ix4 ⟨t.val, t.isLt⟩ 1 e l) := by
  blk_ext [iblk, idx t]
theorem blk2 (t : Fin cfg0.N) (r : Fin 2048) (e : Fin 1024) :
    iblk m c 2 t (ix2 r e) = m ((c : Thread nD τ).loc main_arg2) (ix2 r e) := by
  blk_ext [iblk, V, idx t]

/-- The product with one quarter of the weight. -/
def part (w : FVec Ideal S2x1024x2816 .f32) (dh : FVec Ideal S2048x2816 .f32) (t : Fin 4) (r : Fin 2048) (e : Fin 1024) : EReal :=
  ∑ l : Fin 704, dh (ix2 r ⟨t.val * 704 + l.val, by omega⟩) * w (ix3 1 e ⟨t.val * 704 + l.val, by omega⟩)

theorem parts (w : FVec Ideal S2x1024x2816 .f32) (dh : FVec Ideal S2048x2816 .f32) (r : Fin 2048) (e : Fin 1024) :
    ∑ k, part w dh k r e = ∑ x : Fin 2816, dh (ix2 r x) * w (ix3 1 e x) :=
  sum_blocks (n := 4) (b := 704) (M := EReal) rfl (fun k l => by omega) fun x => dh (ix2 r x) * w (ix3 1 e x)

/-- The part of grid point `t` at an index of the result, and the residual's gradient there. -/
abbrev partAt (t : Fin cfg0.N) (y : S2048x1024.Idx) : EReal :=
  part (m ((c : Thread nD τ).loc main_arg0)) (m ((c : Thread nD τ).loc main_arg1)) ⟨t.val, t.isLt⟩ (y 0) (y 1)
abbrev base (y : S2048x1024.Idx) : EReal :=
  Ideal.ofBits .f32 0x3FB504F3#32 * @id (FVec Ideal S2048x1024 .f32) (m ((c : Thread nD τ).loc main_arg2)) y

theorem prod (t : Fin cfg0.N) (y : S2048x1024.Idx) :
    k0_pay1 (F := Ideal) (iblk m c 0 t) (iblk m c 1 t) y = partAt m c t y := by
  obtain ⟨r, e, rfl⟩ : ∃ (r : Fin 2048) (e : Fin 1024), y = ix2 r e := ⟨y 0, y 1, eq_ix2 y⟩
  pointwise [k0_pay1, partAt, part]
  refine Finset.sum_congr rfl fun l _ => ?_
  rw [blk0, blk1, quarter, weight]

theorem first (t : Fin cfg0.N) (h : t.val % 4 = 0) (y : S2048x1024.Idx) :
    outsAt0 m c t.val t.isLt y = base m c y + partAt m c t y := by
  obtain ⟨r, e, rfl⟩ : ∃ (r : Fin 2048) (e : Fin 1024), y = ix2 r e := ⟨y 0, y 1, eq_ix2 y⟩
  rw [outsAt0_A m c t h (by have h4 : t.val < 4 := t.isLt; omega), ← prod]
  frame_out
  pointwise [k0_pay2]
  rw [blk2, add_comm]
  rfl

theorem next (t : Fin cfg0.N) (h : ¬t.val % 4 = 0) (y : S2048x1024.Idx) :
    outsAt0 m c t.val t.isLt y =
      outsAt0 m c (t.val - 1) (Nat.lt_of_le_of_lt (Nat.sub_le _ _) t.isLt) y + partAt m c t y := by
  rw [outsAt0_B m c t h (by omega), ← prod]
  frame_out
  pointwise [k0_pay3]

/-- The whole array is the reference's. -/
theorem arr : (dats m 0 c).arrAt 3 cfg0.N =
    Cert.DxaRefIdeal.Read.val_main_v9 (F := Ideal) (m ((c : Thread nD τ).loc main_arg0)) (m ((c : Thread nD τ).loc main_arg1))
      (m ((c : Thread nD τ).loc main_arg2)) := by
  refine (dats m 0 c).arrAt_eq_of_after_last 3 t0_3 (by decide +kernel) _ fun j => ?_
  blk_simp
  rw [after0_3, Pipeline.eq_sum_fin_of_reset_step_apply_last (fun n h => fun y : S2048x1024.Idx => outsAt0 m c n h y) 4 (base m c)
    (partAt m c) (fun t h y => first m c t h y) (fun t h y => next m c t h y) (le_of_eq N_0) t0_3 rfl j]
  rw [eq_ix2 j]
  pointwise [Cert.DxaRefIdeal.Read.val_main_v9, Cert.DxaRefIdeal.Read.val_main_v8, Cert.DxaRefIdeal.Read.val_main_v7,
    Cert.DxaRefIdeal.Read.val_main_cst_1, Cert.DxaRefIdeal.Read.val_main_v6, Cert.DxaRefIdeal.Read.val_main_v4,
    Cert.DxaRefIdeal.Read.val_main_v3]
  rw [add_comm]
  congr 1
  exact parts _ _ _ _

theorem frame : Cert.quiescent_Dxa (hDxa := Cert.Dxa.Gen.facts) := fun m g _ => Cert.Dxa.Gen.frame m g

theorem frame_reference : Cert.quiescent_DxaRefIdeal (hDxaRefIdeal := Cert.DxaRefIdeal.Gen.facts) := fun m g _ =>
  (θ_run _ _ _).mono (fun r h => ⟨fun c => (h c).2, sem_eq_zero_of_no_sems rfl r.2⟩) (Cert.DxaRefIdeal.Value.run m g)

theorem equal : Cert.algebraic_DxaIdeal_DxaRefIdeal (hDxaIdeal := Cert.DxaIdeal.Gen.facts)
    (hDxaRefIdeal := Cert.DxaRefIdeal.Gen.facts) :=
  fun m g m' g' _ hagree => ⟨_, Cert.DxaIdeal.Value.run_blocks m g, (θ_run _ _ _).mono (fun r h c => by
    refine ⟨((h c).1.trans (Cert.DxaRefIdeal.Read.val_main_v9_eq _ _ _)).trans ?_, (h c).2⟩
    rw [(hagree c).1, (hagree c).2.1, (hagree c).2.2]
    exact (arr m c).symm) (Cert.DxaRefIdeal.Value.run m' g')⟩

end Cert.Products.Dxa

end
-- ==== Proof.Dxb.lean ====
/- The part of the gradient of the feed-forward layer's input that comes through its up product, added to the gate's: a product accumulated over four quarters. -/
module

public import proofs.«01_k».proof.Defs
public import proofs.«01_k».proof.Proof.Gen.Dxb.Frame
public import proofs.«01_k».proof.Proof.Gen.DxbIdeal.Value
public import proofs.«01_k».proof.Proof.Gen.DxbRefIdeal.Read
public import proofs.«01_k».proof.Proof.Sums
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.Dxb

open Cert.DxbIdeal Cert.DxbIdeal.Gen Cert.DxbRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

/-- What the reference computes from the same arguments. -/
abbrev wanted := val_main_v5 (F := Ideal) (m ((c : Thread nD τ).loc main_arg0)) (m ((c : Thread nD τ).loc main_arg1)) (m ((c : Thread nD τ).loc main_arg2))

theorem idx : ∀ t : Fin cfg0.N, win0_0.index t = ![t.val, 0, 0] ∧ win0_1.index t = ![t.val, 1, 0, 0] ∧ win0_2.index t = ![0, 0]
    ∧ win0_3.index t = ![0, 0] :=
  (by decide +kernel : ∀ t : Fin grid0.N, _)

theorem quarter (k : Fin 4) (r : Fin 2048) (l : Fin 704) :
    V m c main_v2 (ix3 k r l) = m ((c : Thread nD τ).loc main_arg1) (ix2 r ⟨k.val * 704 + l.val, by omega⟩) := by
  entry_read
  pointwise
theorem weight (k : Fin 4) (e : Fin 1024) (l : Fin 704) :
    V m c main_v5 (ix4 k 1 e l) = m ((c : Thread nD τ).loc main_arg0) (ix3 1 e ⟨k.val * 704 + l.val, by omega⟩) := by
  entry_read
  pointwise

theorem blk0 (t : Fin cfg0.N) (z : Fin 1) (r : Fin 2048) (l : Fin 704) :
    iblk m c 0 t (ix3 z r l) = V m c main_v2 (ix3 ⟨t.val, t.isLt⟩ r l) := by
  blk_ext [iblk, idx t]
theorem blk1 (t : Fin cfg0.N) (z z' : Fin 1) (e : Fin 1024) (l : Fin 704) :
    iblk m c 1 t (ix4 z z' e l) = V m c main_v5 (ix4 ⟨t.val, t.isLt⟩ 1 e l) := by
  blk_ext [iblk, idx t]
theorem blk2 (t : Fin cfg0.N) (r : Fin 2048) (e : Fin 1024) :
    iblk m c 2 t (ix2 r e) = m ((c : Thread nD τ).loc main_arg2) (ix2 r e) := by
  blk_ext [iblk, V, idx t]

/-- The product with one quarter of the weight. -/
def part (w : FVec Ideal S2x1024x2816 .f32) (dh : FVec Ideal S2048x2816 .f32) (t : Fin 4) (r : Fin 2048) (e : Fin 1024) : EReal :=
  ∑ l : Fin 704, dh (ix2 r ⟨t.val * 704 + l.val, by omega⟩) * w (ix3 1 e ⟨t.val * 704 + l.val, by omega⟩)

theorem parts (w : FVec Ideal S2x1024x2816 .f32) (dh : FVec Ideal S2048x2816 .f32) (r : Fin 2048) (e : Fin 1024) :
    ∑ k, part w dh k r e = ∑ x : Fin 2816, dh (ix2 r x) * w (ix3 1 e x) :=
  sum_blocks (n := 4) (b := 704) (M := EReal) rfl (fun k l => by omega) fun x => dh (ix2 r x) * w (ix3 1 e x)

/-- The part of grid point `t` at an index of the result, and what it is added to there. -/
abbrev partAt (t : Fin cfg0.N) (y : S2048x1024.Idx) : EReal :=
  part (m ((c : Thread nD τ).loc main_arg0)) (m ((c : Thread nD τ).loc main_arg1)) ⟨t.val, t.isLt⟩ (y 0) (y 1)
abbrev base (y : S2048x1024.Idx) : EReal :=
  @id (FVec Ideal S2048x1024 .f32) (m ((c : Thread nD τ).loc main_arg2)) y

theorem prod (t : Fin cfg0.N) (y : S2048x1024.Idx) :
    k0_pay1 (F := Ideal) (iblk m c 0 t) (iblk m c 1 t) y = partAt m c t y := by
  obtain ⟨r, e, rfl⟩ : ∃ (r : Fin 2048) (e : Fin 1024), y = ix2 r e := ⟨y 0, y 1, eq_ix2 y⟩
  pointwise [k0_pay1, partAt, part]
  refine Finset.sum_congr rfl fun l _ => ?_
  rw [blk0, blk1, quarter, weight]

theorem first (t : Fin cfg0.N) (h : t.val % 4 = 0) (y : S2048x1024.Idx) :
    outsAt0 m c t.val t.isLt y = base m c y + partAt m c t y := by
  obtain ⟨r, e, rfl⟩ : ∃ (r : Fin 2048) (e : Fin 1024), y = ix2 r e := ⟨y 0, y 1, eq_ix2 y⟩
  rw [outsAt0_A m c t h (by have h4 : t.val < 4 := t.isLt; omega), ← prod]
  frame_out
  pointwise [k0_pay2]
  rw [blk2, add_comm]
  rfl

theorem next (t : Fin cfg0.N) (h : ¬t.val % 4 = 0) (y : S2048x1024.Idx) :
    outsAt0 m c t.val t.isLt y =
      outsAt0 m c (t.val - 1) (Nat.lt_of_le_of_lt (Nat.sub_le _ _) t.isLt) y + partAt m c t y := by
  rw [outsAt0_B m c t h (by omega), ← prod]
  frame_out
  pointwise [k0_pay3]

/-- The whole array is the reference's. -/
theorem arr : (dats m 0 c).arrAt 3 cfg0.N = wanted m c := by
  refine (dats m 0 c).arrAt_eq_of_after_last 3 t0_3 (by decide +kernel) _ fun j => ?_
  blk_simp
  rw [after0_3, Pipeline.eq_sum_fin_of_reset_step_apply_last (fun n h => fun y : S2048x1024.Idx => outsAt0 m c n h y) 4 (base m c)
    (partAt m c) (fun t h y => first m c t h y) (fun t h y => next m c t h y) (le_of_eq N_0) t0_3 rfl j]
  rw [eq_ix2 j]
  pointwise [val_main_v5, val_main_v4, val_main_v2, val_main_v1]
  congr 1
  exact parts _ _ _ _

theorem frame : Cert.quiescent_Dxb (hDxb := Cert.Dxb.Gen.facts) := fun m g _ => Cert.Dxb.Gen.frame m g

theorem frame_reference : Cert.quiescent_DxbRefIdeal (hDxbRefIdeal := Cert.DxbRefIdeal.Gen.facts) := fun m g _ =>
  (θ_run _ _ _).mono (fun r h => ⟨fun c => (h c).2, sem_eq_zero_of_no_sems rfl r.2⟩) (Cert.DxbRefIdeal.Value.run m g)

theorem equal : Cert.algebraic_DxbIdeal_DxbRefIdeal (hDxbIdeal := Cert.DxbIdeal.Gen.facts)
    (hDxbRefIdeal := Cert.DxbRefIdeal.Gen.facts) :=
  fun m g m' g' _ hagree => ⟨_, Cert.DxbIdeal.Value.run_blocks m g, (θ_run _ _ _).mono (fun r h c => by
    refine ⟨((h c).1.trans (Cert.DxbRefIdeal.Read.val_main_v5_eq _ _ _)).trans ?_, (h c).2⟩
    rw [(hagree c).1, (hagree c).2.1, (hagree c).2.2]
    exact (arr m c).symm) (Cert.DxbRefIdeal.Value.run m' g')⟩

end Cert.Products.Dxb

end
-- ==== Proof.Dple.lean ====
/- The gradient of the gated embedding's input: the product with the gate's weight, transposed, and the residual's gradient. -/
module

public import proofs.«01_k».proof.Defs
public import proofs.«01_k».proof.Proof.Gen.Dple.Frame
public import proofs.«01_k».proof.Proof.Gen.DpleIdeal.Value
public import proofs.«01_k».proof.Proof.Gen.DpleRefIdeal.Read
public import proofs.«01_k».proof.Proof.Sums
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.Dple

open Cert.DpleIdeal Cert.DpleIdeal.Gen Cert.DpleRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

/-- What the reference computes from the same arguments. -/
abbrev wanted := val_main_v5 (F := Ideal) (m ((c : Thread nD τ).loc main_arg0)) (m ((c : Thread nD τ).loc main_arg1)) (m ((c : Thread nD τ).loc main_arg2))

theorem idx : ∀ t : Fin cfg0.N, win0_0.index t = ![0, 0] ∧ win0_1.index t = ![t.val, 1, 0, 0] ∧ win0_2.index t = ![0, t.val]
    ∧ win0_3.index t = ![0, t.val] :=
  (by decide +kernel : ∀ t : Fin grid0.N, _)

/-- Column `l` of the result's block of grid point `t`. -/
abbrev col (t : Fin cfg0.N) (l : Fin 256) : Fin 1024 := ⟨t.val * 256 + l.val, by have h : t.val < 4 := t.isLt; omega⟩

theorem cast (r : Fin 2048) (e : Fin 1024) : V m c main_v0 (ix2 r e) = m ((c : Thread nD τ).loc main_arg1) (ix2 r e) := by
  entry_read
  pointwise
theorem weight (k : Fin 4) (i : Fin 2) (l : Fin 256) (e : Fin 1024) :
    V m c main_v3 (ix4 k i l e) = m ((c : Thread nD τ).loc main_arg0) (ix3 i ⟨k.val * 256 + l.val, by omega⟩ e) := by
  entry_read
  pointwise

theorem blk0 (t : Fin cfg0.N) (r : Fin 2048) (e : Fin 1024) : iblk m c 0 t (ix2 r e) = V m c main_v0 (ix2 r e) := by
  blk_ext [iblk, idx t]
theorem blk1 (t : Fin cfg0.N) (z z' : Fin 1) (l : Fin 256) (e : Fin 1024) :
    iblk m c 1 t (ix4 z z' l e) = V m c main_v3 (ix4 ⟨t.val, t.isLt⟩ 1 l e) := by
  blk_ext [iblk, idx t]
theorem blk2 (t : Fin cfg0.N) (r : Fin 2048) (l : Fin 256) :
    iblk m c 2 t (ix2 r l) = m ((c : Thread nD τ).loc main_arg2) (ix2 r (col t l)) := by
  blk_ext [iblk, V, idx t, col]

theorem point (t : Fin cfg0.N) (r : Fin 2048) (l : Fin 256) :
    out0_3 (iblk m c 0 t) (iblk m c 1 t) (iblk m c 2 t) (ix2 r l) = wanted m c (ix2 r (col t l)) := by
  frame_out
  pointwise [k0_pay1, val_main_v5, val_main_v4, val_main_v2, val_main_v1]
  rw [blk2, add_comm]
  congr 1
  refine Finset.sum_congr rfl fun e _ => ?_
  rw [blk0, blk1, cast, weight]

/-- The whole array is the reference's. -/
theorem arr : (dats m 0 c).arrAt 3 cfg0.N = wanted m c := by
  refine (dats m 0 c).arrAt_eq_of_covers 3 _ (by decide +kernel) fun t hf y => ?_
  blk_simp
  rw [after0_3]
  obtain ⟨r, l, rfl⟩ : ∃ (r : Fin 2048) (l : Fin 256), y = ix2 r l := ⟨y 0, y 1, eq_ix2 y⟩
  have h : (win0_3.blk t).view.emb (ix2 r l) = ix2 r (col t l) := by blk_ext [idx t, col]
  rw [h]
  exact point m c t r l

theorem frame : Cert.quiescent_Dple (hDple := Cert.Dple.Gen.facts) := fun m g _ => Cert.Dple.Gen.frame m g

theorem frame_reference : Cert.quiescent_DpleRefIdeal (hDpleRefIdeal := Cert.DpleRefIdeal.Gen.facts) := fun m g _ =>
  (θ_run _ _ _).mono (fun r h => ⟨fun c => (h c).2, sem_eq_zero_of_no_sems rfl r.2⟩) (Cert.DpleRefIdeal.Value.run m g)

theorem equal : Cert.algebraic_DpleIdeal_DpleRefIdeal (hDpleIdeal := Cert.DpleIdeal.Gen.facts)
    (hDpleRefIdeal := Cert.DpleRefIdeal.Gen.facts) :=
  fun m g m' g' _ hagree => ⟨_, Cert.DpleIdeal.Value.run_blocks m g, (θ_run _ _ _).mono (fun r h c => by
    refine ⟨((h c).1.trans (Cert.DpleRefIdeal.Read.val_main_v5_eq _ _ _)).trans ?_, (h c).2⟩
    rw [(hagree c).1, (hagree c).2.1, (hagree c).2.2]
    exact (arr m c).symm) (Cert.DpleRefIdeal.Value.run m' g')⟩

end Cert.Products.Dple

end
-- ==== Proof.Dproj.lean ====
/- The gradient of the embedding's projection: four blocks of columns, each a product over all the tokens. -/
module

public import proofs.«01_k».proof.Defs
public import proofs.«01_k».proof.Proof.Gen.Dproj.Frame
public import proofs.«01_k».proof.Proof.Gen.DprojIdeal.Value
public import proofs.«01_k».proof.Proof.Gen.DprojRefIdeal.Read
public import proofs.«01_k».proof.Proof.Sums
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.Dproj

open Cert.DprojIdeal Cert.DprojIdeal.Gen Cert.DprojRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

/-- What the reference computes from the same arguments. -/
abbrev wanted := val_main_v6 (F := Ideal) (m ((c : Thread nD τ).loc main_arg0)) (m ((c : Thread nD τ).loc main_arg1))

theorem idx : ∀ t : Fin cfg0.N, win0_0.index t = ![0, 0] ∧ win0_1.index t = ![0, t.val] ∧ win0_2.index t = ![t.val, 0, 0] :=
  (by decide +kernel : ∀ t : Fin grid0.N, _)

/-- Column `l` of the second operand's block of grid point `t`. -/
abbrev col (t : Fin cfg0.N) (l : Fin 256) : Fin 1024 := ⟨t.val * 256 + l.val, by have h : t.val < 4 := t.isLt; omega⟩

theorem cast (r : Fin 2048) (e : Fin 1024) : V m c main_v0 (ix2 r e) = m ((c : Thread nD τ).loc main_arg1) (ix2 r e) := by
  entry_read
  pointwise

theorem blk0 (t : Fin cfg0.N) (r : Fin 2048) (e : Fin 256) :
    iblk m c 0 t (ix2 r e) = m ((c : Thread nD τ).loc main_arg0) (ix2 r e) := by
  blk_ext [iblk, V, idx t]
theorem blk1 (t : Fin cfg0.N) (r : Fin 2048) (l : Fin 256) : iblk m c 1 t (ix2 r l) = V m c main_v0 (ix2 r (col t l)) := by
  blk_ext [iblk, idx t, col]

theorem point (t : Fin cfg0.N) (z : Fin 1) (e l : Fin 256) :
    out0_2 (iblk m c 0 t) (iblk m c 1 t) (ix3 z e l) = wanted m c (ix3 ⟨t.val, t.isLt⟩ e l) := by
  frame_out
  pointwise [k0_pay1, val_main_v6, val_main_v5, val_main_v4, val_main_v3, val_main_v2]
  refine Finset.sum_congr rfl fun r _ => ?_
  rw [blk0, blk1, cast, mul_comm]

/-- The whole array is the reference's. -/
theorem arr : (dats m 0 c).arrAt 2 cfg0.N = wanted m c := by
  refine (dats m 0 c).arrAt_eq_of_covers 2 _ (by decide +kernel) fun t hf y => ?_
  blk_simp
  rw [after0_2]
  obtain ⟨z, e, l, rfl⟩ : ∃ z e l, y = ix3 z e l := ⟨y 0, y 1, y 2, by funext i; fin_cases i <;> rfl⟩
  have h : (win0_2.blk t).view.emb (ix3 z e l) = ix3 ⟨t.val, t.isLt⟩ e l := by blk_ext [idx t]
  rw [h]
  exact point m c t z e l

theorem frame : Cert.quiescent_Dproj (hDproj := Cert.Dproj.Gen.facts) := fun m g _ => Cert.Dproj.Gen.frame m g

theorem frame_reference : Cert.quiescent_DprojRefIdeal (hDprojRefIdeal := Cert.DprojRefIdeal.Gen.facts) := fun m g _ =>
  (θ_run _ _ _).mono (fun r h => ⟨fun c => (h c).2, sem_eq_zero_of_no_sems rfl r.2⟩) (Cert.DprojRefIdeal.Value.run m g)

theorem equal : Cert.algebraic_DprojIdeal_DprojRefIdeal (hDprojIdeal := Cert.DprojIdeal.Gen.facts)
    (hDprojRefIdeal := Cert.DprojRefIdeal.Gen.facts) :=
  fun m g m' g' _ hagree => ⟨_, Cert.DprojIdeal.Value.run_blocks m g, (θ_run _ _ _).mono (fun r h c => by
    refine ⟨((h c).1.trans (Cert.DprojRefIdeal.Read.val_main_v6_eq _ _)).trans ?_, (h c).2⟩
    rw [(hagree c).1, (hagree c).2]
    exact (arr m c).symm) (Cert.DprojRefIdeal.Value.run m' g')⟩

end Cert.Products.Dproj

end
-- ==== Proof.Dgate.lean ====
/- The gradient of the embedding gate's weight: four blocks of rows, each a product over all the tokens. -/
module

public import proofs.«01_k».proof.Defs
public import proofs.«01_k».proof.Proof.Gen.Dgate.Frame
public import proofs.«01_k».proof.Proof.Gen.DgateIdeal.Value
public import proofs.«01_k».proof.Proof.Gen.DgateRefIdeal.Read
public import proofs.«01_k».proof.Proof.Sums
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.Dgate

open Cert.DgateIdeal Cert.DgateIdeal.Gen Cert.DgateRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

/-- What the reference computes from the same arguments. -/
abbrev wanted := val_main_v5 (F := Ideal) (m ((c : Thread nD τ).loc main_arg0)) (m ((c : Thread nD τ).loc main_arg1))

theorem idx : ∀ t : Fin cfg0.N, win0_0.index t = ![0, t.val] ∧ win0_1.index t = ![0, 0] ∧ win0_2.index t = ![t.val, 0, 0] :=
  (by decide +kernel : ∀ t : Fin grid0.N, _)

/-- Column `l` of the first operand's block of grid point `t`. -/
abbrev col (t : Fin cfg0.N) (l : Fin 256) : Fin 1024 := ⟨t.val * 256 + l.val, by have h : t.val < 4 := t.isLt; omega⟩

theorem cast (r : Fin 2048) (e : Fin 1024) : V m c main_v0 (ix2 r e) = m ((c : Thread nD τ).loc main_arg1) (ix2 r e) := by
  entry_read
  pointwise

theorem blk0 (t : Fin cfg0.N) (r : Fin 2048) (l : Fin 256) : iblk m c 0 t (ix2 r l) = m ((c : Thread nD τ).loc main_arg0) (ix2 r (col t l)) := by
  blk_ext [iblk, V, idx t, col]
theorem blk1 (t : Fin cfg0.N) (r : Fin 2048) (e : Fin 1024) : iblk m c 1 t (ix2 r e) = V m c main_v0 (ix2 r e) := by
  blk_ext [iblk, idx t]

theorem point (t : Fin cfg0.N) (z : Fin 1) (l : Fin 256) (e : Fin 1024) :
    out0_2 (iblk m c 0 t) (iblk m c 1 t) (ix3 z l e) = wanted m c (ix3 ⟨t.val, t.isLt⟩ l e) := by
  frame_out
  pointwise [k0_pay1, val_main_v5, val_main_v4, val_main_v3, val_main_v2]
  refine Finset.sum_congr rfl fun r _ => ?_
  rw [blk0, blk1, cast, mul_comm]

/-- The whole array is the reference's. -/
theorem arr : (dats m 0 c).arrAt 2 cfg0.N = wanted m c := by
  refine (dats m 0 c).arrAt_eq_of_covers 2 _ (by decide +kernel) fun t hf y => ?_
  blk_simp
  rw [after0_2]
  obtain ⟨z, l, e, rfl⟩ : ∃ z l e, y = ix3 z l e := ⟨y 0, y 1, y 2, by funext i; fin_cases i <;> rfl⟩
  have h : (win0_2.blk t).view.emb (ix3 z l e) = ix3 ⟨t.val, t.isLt⟩ l e := by blk_ext [idx t]
  rw [h]
  exact point m c t z l e

theorem frame : Cert.quiescent_Dgate (hDgate := Cert.Dgate.Gen.facts) := fun m g _ => Cert.Dgate.Gen.frame m g

theorem frame_reference : Cert.quiescent_DgateRefIdeal (hDgateRefIdeal := Cert.DgateRefIdeal.Gen.facts) := fun m g _ =>
  (θ_run _ _ _).mono (fun r h => ⟨fun c => (h c).2, sem_eq_zero_of_no_sems rfl r.2⟩) (Cert.DgateRefIdeal.Value.run m g)

theorem equal : Cert.algebraic_DgateIdeal_DgateRefIdeal (hDgateIdeal := Cert.DgateIdeal.Gen.facts)
    (hDgateRefIdeal := Cert.DgateRefIdeal.Gen.facts) :=
  fun m g m' g' _ hagree => ⟨_, Cert.DgateIdeal.Value.run_blocks m g, (θ_run _ _ _).mono (fun r h c => by
    refine ⟨((h c).1.trans (Cert.DgateRefIdeal.Read.val_main_v5_eq _ _)).trans ?_, (h c).2⟩
    rw [(hagree c).1, (hagree c).2]
    exact (arr m c).symm) (Cert.DgateRefIdeal.Value.run m' g')⟩

end Cert.Products.Dgate

end
-- ==== Proof.Dout.lean ====
/- The gradient of a mixer's output weight: four blocks of rows, each a product over all the tokens. -/
module

public import proofs.«01_k».proof.Defs
public import proofs.«01_k».proof.Proof.Gen.Dout.Frame
public import proofs.«01_k».proof.Proof.Gen.DoutIdeal.Value
public import proofs.«01_k».proof.Proof.Gen.DoutRefIdeal.Read
public import proofs.«01_k».proof.Proof.Sums
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.Dout

open Cert.DoutIdeal Cert.DoutIdeal.Gen Cert.DoutRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

/-- What the reference computes from the same arguments. -/
abbrev wanted := val_main_v5 (F := Ideal) (m ((c : Thread nD τ).loc main_arg0)) (m ((c : Thread nD τ).loc main_arg1))

theorem idx : ∀ t : Fin cfg0.N, win0_0.index t = ![0, t.val] ∧ win0_1.index t = ![0, 0] ∧ win0_2.index t = ![t.val, 0, 0] :=
  (by decide +kernel : ∀ t : Fin grid0.N, _)

/-- Column `l` of the first operand's block of grid point `t`. -/
abbrev col (t : Fin cfg0.N) (l : Fin 256) : Fin 1024 := ⟨t.val * 256 + l.val, by have h : t.val < 4 := t.isLt; omega⟩

theorem cast (r : Fin 2048) (e : Fin 1024) : V m c main_v0 (ix2 r e) = m ((c : Thread nD τ).loc main_arg0) (ix2 r e) := by
  entry_read
  pointwise

theorem blk0 (t : Fin cfg0.N) (r : Fin 2048) (l : Fin 256) : iblk m c 0 t (ix2 r l) = V m c main_v0 (ix2 r (col t l)) := by
  blk_ext [iblk, idx t, col]
theorem blk1 (t : Fin cfg0.N) (r : Fin 2048) (e : Fin 1024) : iblk m c 1 t (ix2 r e) = m ((c : Thread nD τ).loc main_arg1) (ix2 r e) := by
  blk_ext [iblk, V, idx t]

theorem point (t : Fin cfg0.N) (z : Fin 1) (l : Fin 256) (e : Fin 1024) :
    out0_2 (iblk m c 0 t) (iblk m c 1 t) (ix3 z l e) = wanted m c (ix3 ⟨t.val, t.isLt⟩ l e) := by
  frame_out
  pointwise [k0_pay1, val_main_v5, val_main_v4, val_main_v3, val_main_v2]
  refine Finset.sum_congr rfl fun r _ => ?_
  rw [blk0, blk1, cast, mul_comm]

/-- The whole array is the reference's. -/
theorem arr : (dats m 0 c).arrAt 2 cfg0.N = wanted m c := by
  refine (dats m 0 c).arrAt_eq_of_covers 2 _ (by decide +kernel) fun t hf y => ?_
  blk_simp
  rw [after0_2]
  obtain ⟨z, l, e, rfl⟩ : ∃ z l e, y = ix3 z l e := ⟨y 0, y 1, y 2, by funext i; fin_cases i <;> rfl⟩
  have h : (win0_2.blk t).view.emb (ix3 z l e) = ix3 ⟨t.val, t.isLt⟩ l e := by blk_ext [idx t]
  rw [h]
  exact point m c t z l e

theorem frame : Cert.quiescent_Dout (hDout := Cert.Dout.Gen.facts) := fun m g _ => Cert.Dout.Gen.frame m g

theorem frame_reference : Cert.quiescent_DoutRefIdeal (hDoutRefIdeal := Cert.DoutRefIdeal.Gen.facts) := fun m g _ =>
  (θ_run _ _ _).mono (fun r h => ⟨fun c => (h c).2, sem_eq_zero_of_no_sems rfl r.2⟩) (Cert.DoutRefIdeal.Value.run m g)

theorem equal : Cert.algebraic_DoutIdeal_DoutRefIdeal (hDoutIdeal := Cert.DoutIdeal.Gen.facts)
    (hDoutRefIdeal := Cert.DoutRefIdeal.Gen.facts) :=
  fun m g m' g' _ hagree => ⟨_, Cert.DoutIdeal.Value.run_blocks m g, (θ_run _ _ _).mono (fun r h c => by
    refine ⟨((h c).1.trans (Cert.DoutRefIdeal.Read.val_main_v5_eq _ _)).trans ?_, (h c).2⟩
    rw [(hagree c).1, (hagree c).2]
    exact (arr m c).symm) (Cert.DoutRefIdeal.Value.run m' g')⟩

end Cert.Products.Dout

end
-- ==== Proof.Dcat.lean ====
/- The gradient of a mixer's concatenated output: the product with the output weight, transposed. -/
module

public import proofs.«01_k».proof.Defs
public import proofs.«01_k».proof.Proof.Gen.Dcat.Frame
public import proofs.«01_k».proof.Proof.Gen.DcatIdeal.Value
public import proofs.«01_k».proof.Proof.Gen.DcatRefIdeal.Read
public import proofs.«01_k».proof.Proof.Sums
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.Dcat

open Cert.DcatIdeal Cert.DcatIdeal.Gen Cert.DcatRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

/-- What the reference computes from the same arguments. -/
abbrev wanted := val_main_v3 (F := Ideal) (m ((c : Thread nD τ).loc main_arg0)) (m ((c : Thread nD τ).loc main_arg1))

theorem idx : ∀ t : Fin cfg0.N, win0_0.index t = ![0, 0] ∧ win0_1.index t = ![t.val, 0, 0, 0] ∧ win0_2.index t = ![0, t.val] :=
  (by decide +kernel : ∀ t : Fin grid0.N, _)

/-- Column `l` of the result's block of grid point `t`. -/
abbrev col (t : Fin cfg0.N) (l : Fin 256) : Fin 1024 := ⟨t.val * 256 + l.val, by have h : t.val < 4 := t.isLt; omega⟩

theorem weight (k : Fin 4) (i : Fin 1) (l : Fin 256) (e : Fin 1024) :
    V m c main_v2 (ix4 k i l e) = m ((c : Thread nD τ).loc main_arg0) (ix3 0 ⟨k.val * 256 + l.val, by omega⟩ e) := by
  entry_read
  pointwise

theorem blk0 (t : Fin cfg0.N) (r : Fin 2048) (e : Fin 1024) :
    iblk m c 0 t (ix2 r e) = m ((c : Thread nD τ).loc main_arg1) (ix2 r e) := by
  blk_ext [iblk, V, idx t]
theorem blk1 (t : Fin cfg0.N) (z z' : Fin 1) (l : Fin 256) (e : Fin 1024) :
    iblk m c 1 t (ix4 z z' l e) = V m c main_v2 (ix4 ⟨t.val, t.isLt⟩ 0 l e) := by
  blk_ext [iblk, idx t]

theorem point (t : Fin cfg0.N) (r : Fin 2048) (l : Fin 256) :
    out0_2 (iblk m c 0 t) (iblk m c 1 t) (ix2 r l) = wanted m c (ix2 r (col t l)) := by
  frame_out
  pointwise [k0_pay1, val_main_v3, val_main_v1]
  refine Finset.sum_congr rfl fun e _ => ?_
  rw [blk0, blk1, weight]

/-- The whole array is the reference's. -/
theorem arr : (dats m 0 c).arrAt 2 cfg0.N = wanted m c := by
  refine (dats m 0 c).arrAt_eq_of_covers 2 _ (by decide +kernel) fun t hf y => ?_
  blk_simp
  rw [after0_2]
  obtain ⟨r, l, rfl⟩ : ∃ (r : Fin 2048) (l : Fin 256), y = ix2 r l := ⟨y 0, y 1, eq_ix2 y⟩
  have h : (win0_2.blk t).view.emb (ix2 r l) = ix2 r (col t l) := by blk_ext [idx t, col]
  rw [h]
  exact point m c t r l

theorem frame : Cert.quiescent_Dcat (hDcat := Cert.Dcat.Gen.facts) := fun m g _ => Cert.Dcat.Gen.frame m g

theorem frame_reference : Cert.quiescent_DcatRefIdeal (hDcatRefIdeal := Cert.DcatRefIdeal.Gen.facts) := fun m g _ =>
  (θ_run _ _ _).mono (fun r h => ⟨fun c => (h c).2, sem_eq_zero_of_no_sems rfl r.2⟩) (Cert.DcatRefIdeal.Value.run m g)

theorem equal : Cert.algebraic_DcatIdeal_DcatRefIdeal (hDcatIdeal := Cert.DcatIdeal.Gen.facts)
    (hDcatRefIdeal := Cert.DcatRefIdeal.Gen.facts) :=
  fun m g m' g' _ hagree => ⟨_, Cert.DcatIdeal.Value.run_blocks m g, (θ_run _ _ _).mono (fun r h c => by
    refine ⟨((h c).1.trans (Cert.DcatRefIdeal.Read.val_main_v3_eq _ _)).trans ?_, (h c).2⟩
    rw [(hagree c).1, (hagree c).2]
    exact (arr m c).symm) (Cert.DcatRefIdeal.Value.run m' g')⟩

end Cert.Products.Dcat

end
-- ==== Proof.Din.lean ====
/- The gradient of a mixer's input weight: eight blocks, each a product over all the tokens. -/
module

public import proofs.«01_k».proof.Defs
public import proofs.«01_k».proof.Proof.Gen.Din.Frame
public import proofs.«01_k».proof.Proof.Gen.DinIdeal.Value
public import proofs.«01_k».proof.Proof.Gen.DinRefIdeal.Read
public import proofs.«01_k».proof.Proof.Sums
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.Din

open Cert.DinIdeal Cert.DinIdeal.Gen Cert.DinRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

/-- What the reference computes from the same arguments. -/
abbrev wanted := val_main_v6 (F := Ideal) (m ((c : Thread nD τ).loc main_arg0)) (m ((c : Thread nD τ).loc main_arg1))

theorem idx : ∀ t : Fin cfg0.N, win0_0.index t = ![0, t.val % 2] ∧ win0_1.index t = ![t.val / 2, 0, 0]
    ∧ win0_2.index t = ![t.val / 2, t.val % 2, 0] :=
  (by decide +kernel : ∀ t : Fin grid0.N, _)

/-- A point's quarter, and its row `e` of the whole array. -/
abbrev part (t : Fin cfg0.N) : Fin 4 := ⟨t.val / 2, by have h : t.val < 8 := t.isLt; omega⟩
abbrev row (t : Fin cfg0.N) (e : Fin 512) : Fin 1024 := ⟨t.val % 2 * 512 + e.val, by omega⟩

theorem quarter (k : Fin 4) (r : Fin 2048) (l : Fin 512) :
    V m c main_v2 (ix3 k r l) = m ((c : Thread nD τ).loc main_arg1) (ix2 r ⟨k.val * 512 + l.val, by omega⟩) := by
  entry_read
  pointwise

theorem blk0 (t : Fin cfg0.N) (r : Fin 2048) (e : Fin 512) :
    iblk m c 0 t (ix2 r e) = m ((c : Thread nD τ).loc main_arg0) (ix2 r (row t e)) := by
  blk_ext [iblk, V, idx t, row]
theorem blk1 (t : Fin cfg0.N) (z : Fin 1) (r : Fin 2048) (l : Fin 512) :
    iblk m c 1 t (ix3 z r l) = V m c main_v2 (ix3 (part t) r l) := by
  blk_ext [iblk, idx t, part]

theorem point (t : Fin cfg0.N) (z : Fin 1) (e : Fin 512) (l : Fin 512) :
    out0_2 (iblk m c 0 t) (iblk m c 1 t) (ix3 z e l) =
      Cert.DinRefIdeal.Read.val_main_v6 (F := Ideal) (m ((c : Thread nD τ).loc main_arg0)) (m ((c : Thread nD τ).loc main_arg1))
        (ix3 (part t) (row t e) l) := by
  frame_out
  pointwise [k0_pay1, Cert.DinRefIdeal.Read.val_main_v6, Cert.DinRefIdeal.Read.val_main_v5, Cert.DinRefIdeal.Read.val_main_v4,
    Cert.DinRefIdeal.Read.val_main_v3, Cert.DinRefIdeal.Read.val_main_v2]
  refine Finset.sum_congr rfl fun r _ => ?_
  rw [blk0, blk1, quarter, mul_comm]

/-- The whole array is the reference's. -/
theorem arr : (dats m 0 c).arrAt 2 cfg0.N =
    Cert.DinRefIdeal.Read.val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  obtain ⟨z, e, l, rfl⟩ : ∃ z e l, y = ix3 z e l := ⟨y 0, y 1, y 2, by funext i; fin_cases i <;> rfl⟩
  have h : (win0_2.blk t).view.emb (ix3 z e l) = ix3 (part t) (row t e) l := by blk_ext [idx t, part, row]
  rw [h]
  exact point m c t z e l

theorem frame : Cert.quiescent_Din (hDin := Cert.Din.Gen.facts) := fun m g _ => Cert.Din.Gen.frame m g

theorem frame_reference : Cert.quiescent_DinRefIdeal (hDinRefIdeal := Cert.DinRefIdeal.Gen.facts) := fun m g _ =>
  (θ_run _ _ _).mono (fun r h => ⟨fun c => (h c).2, sem_eq_zero_of_no_sems rfl r.2⟩) (Cert.DinRefIdeal.Value.run m g)

theorem equal : Cert.algebraic_DinIdeal_DinRefIdeal (hDinIdeal := Cert.DinIdeal.Gen.facts)
    (hDinRefIdeal := Cert.DinRefIdeal.Gen.facts) :=
  fun m g m' g' _ hagree => ⟨_, Cert.DinIdeal.Value.run_blocks m g, (θ_run _ _ _).mono (fun r h c => by
    refine ⟨((h c).1.trans (Cert.DinRefIdeal.Read.val_main_v6_eq _ _)).trans ?_, (h c).2⟩
    rw [(hagree c).1, (hagree c).2]
    exact (arr m c).symm) (Cert.DinRefIdeal.Value.run m' g')⟩

end Cert.Products.Din

end
-- ==== Proof.Dx.lean ====
/- The gradient of a mixer's input: the residual's part and a product accumulated over four quarters. -/
module

public import proofs.«01_k».proof.Defs
public import proofs.«01_k».proof.Proof.Gen.Dx.Frame
public import proofs.«01_k».proof.Proof.Gen.DxIdeal.Value
public import proofs.«01_k».proof.Proof.Gen.DxRefIdeal.Read
public import proofs.«01_k».proof.Proof.Sums
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.Dx

open Cert.DxIdeal Cert.DxIdeal.Gen Cert.DxRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

/-- What the reference computes from the same arguments. -/
abbrev wanted := val_main_v8 (F := Ideal) (m ((c : Thread nD τ).loc main_arg0)) (m ((c : Thread nD τ).loc main_arg1)) (m ((c : Thread nD τ).loc main_arg2))

theorem idx : ∀ t : Fin cfg0.N, win0_0.index t = ![t.val, 0, 0] ∧ win0_1.index t = ![t.val, 0, 0, 0] ∧ win0_2.index t = ![0, 0]
    ∧ win0_3.index t = ![0, 0] :=
  (by decide +kernel : ∀ t : Fin grid0.N, _)

theorem quarter (k : Fin 4) (r : Fin 2048) (l : Fin 512) :
    V m c main_v2 (ix3 k r l) = m ((c : Thread nD τ).loc main_arg1) (ix2 r ⟨k.val * 512 + l.val, by omega⟩) := by
  entry_read
  pointwise
theorem weight (k : Fin 4) (e : Fin 1024) (l : Fin 512) :
    V m c main_v5 (ix4 k 0 e l) = m ((c : Thread nD τ).loc main_arg0) (ix3 0 e ⟨k.val * 512 + l.val, by omega⟩) := by
  entry_read
  pointwise

theorem blk0 (t : Fin cfg0.N) (z : Fin 1) (r : Fin 2048) (l : Fin 512) :
    iblk m c 0 t (ix3 z r l) = V m c main_v2 (ix3 ⟨t.val, t.isLt⟩ r l) := by
  blk_ext [iblk, idx t]
theorem blk1 (t : Fin cfg0.N) (z z' : Fin 1) (e : Fin 1024) (l : Fin 512) :
    iblk m c 1 t (ix4 z z' e l) = V m c main_v5 (ix4 ⟨t.val, t.isLt⟩ 0 e l) := by
  blk_ext [iblk, idx t]
theorem blk2 (t : Fin cfg0.N) (r : Fin 2048) (e : Fin 1024) :
    iblk m c 2 t (ix2 r e) = m ((c : Thread nD τ).loc main_arg2) (ix2 r e) := by
  blk_ext [iblk, V, idx t]

/-- The product with one quarter of the weight. -/
def part (w : FVec Ideal S1x1024x2048 .f32) (dh : FVec Ideal S2048x2048 .f32) (t : Fin 4) (r : Fin 2048) (e : Fin 1024) : EReal :=
  ∑ l : Fin 512, dh (ix2 r ⟨t.val * 512 + l.val, by omega⟩) * w (ix3 0 e ⟨t.val * 512 + l.val, by omega⟩)

theorem parts (w : FVec Ideal S1x1024x2048 .f32) (dh : FVec Ideal S2048x2048 .f32) (r : Fin 2048) (e : Fin 1024) :
    ∑ k, part w dh k r e = ∑ x : Fin 2048, dh (ix2 r x) * w (ix3 0 e x) :=
  sum_blocks (n := 4) (b := 512) (M := EReal) rfl (fun k l => by omega) fun x => dh (ix2 r x) * w (ix3 0 e x)

/-- The part of grid point `t` at an index of the result, and what it is added to there. -/
abbrev partAt (t : Fin cfg0.N) (y : S2048x1024.Idx) : EReal :=
  part (m ((c : Thread nD τ).loc main_arg0)) (m ((c : Thread nD τ).loc main_arg1)) ⟨t.val, t.isLt⟩ (y 0) (y 1)
abbrev base (y : S2048x1024.Idx) : EReal :=
  Ideal.ofBits .f32 0x3FB504F3#32 * @id (FVec Ideal S2048x1024 .f32) (m ((c : Thread nD τ).loc main_arg2)) y

theorem prod (t : Fin cfg0.N) (y : S2048x1024.Idx) :
    k0_pay1 (F := Ideal) (iblk m c 0 t) (iblk m c 1 t) y = partAt m c t y := by
  obtain ⟨r, e, rfl⟩ : ∃ (r : Fin 2048) (e : Fin 1024), y = ix2 r e := ⟨y 0, y 1, eq_ix2 y⟩
  pointwise [k0_pay1, partAt, part]
  refine Finset.sum_congr rfl fun l _ => ?_
  rw [blk0, blk1, quarter, weight]

theorem first (t : Fin cfg0.N) (h : t.val % 4 = 0) (y : S2048x1024.Idx) :
    outsAt0 m c t.val t.isLt y = base m c y + partAt m c t y := by
  obtain ⟨r, e, rfl⟩ : ∃ (r : Fin 2048) (e : Fin 1024), y = ix2 r e := ⟨y 0, y 1, eq_ix2 y⟩
  rw [outsAt0_A m c t h (by have h4 : t.val < 4 := t.isLt; omega), ← prod]
  frame_out
  pointwise [k0_pay2]
  rw [blk2, add_comm]
  rfl

theorem next (t : Fin cfg0.N) (h : ¬t.val % 4 = 0) (y : S2048x1024.Idx) :
    outsAt0 m c t.val t.isLt y =
      outsAt0 m c (t.val - 1) (Nat.lt_of_le_of_lt (Nat.sub_le _ _) t.isLt) y + partAt m c t y := by
  rw [outsAt0_B m c t h (by omega), ← prod]
  frame_out
  pointwise [k0_pay3]

/-- The whole array is the reference's. -/
theorem arr : (dats m 0 c).arrAt 3 cfg0.N = wanted m c := by
  refine (dats m 0 c).arrAt_eq_of_after_last 3 t0_3 (by decide +kernel) _ fun j => ?_
  blk_simp
  rw [after0_3, Pipeline.eq_sum_fin_of_reset_step_apply_last (fun n h => fun y : S2048x1024.Idx => outsAt0 m c n h y) 4 (base m c)
    (partAt m c) (fun t h y => first m c t h y) (fun t h y => next m c t h y) (le_of_eq N_0) t0_3 rfl j]
  rw [eq_ix2 j]
  pointwise [val_main_v8, val_main_v7, val_main_v6, val_main_cst_1, val_main_v5, val_main_v3]
  rw [add_comm]
  congr 1
  exact parts _ _ _ _

theorem frame : Cert.quiescent_Dx (hDx := Cert.Dx.Gen.facts) := fun m g _ => Cert.Dx.Gen.frame m g

theorem frame_reference : Cert.quiescent_DxRefIdeal (hDxRefIdeal := Cert.DxRefIdeal.Gen.facts) := fun m g _ =>
  (θ_run _ _ _).mono (fun r h => ⟨fun c => (h c).2, sem_eq_zero_of_no_sems rfl r.2⟩) (Cert.DxRefIdeal.Value.run m g)

theorem equal : Cert.algebraic_DxIdeal_DxRefIdeal (hDxIdeal := Cert.DxIdeal.Gen.facts)
    (hDxRefIdeal := Cert.DxRefIdeal.Gen.facts) :=
  fun m g m' g' _ hagree => ⟨_, Cert.DxIdeal.Value.run_blocks m g, (θ_run _ _ _).mono (fun r h c => by
    refine ⟨((h c).1.trans (Cert.DxRefIdeal.Read.val_main_v8_eq _ _ _)).trans ?_, (h c).2⟩
    rw [(hagree c).1, (hagree c).2.1, (hagree c).2.2]
    exact (arr m c).symm) (Cert.DxRefIdeal.Value.run m' g')⟩

end Cert.Products.Dx

end
-- ==== Proof.Inp.lean ====
/- A mixer's input product: four blocks of columns. -/
module

public import proofs.«01_k».proof.Defs
public import proofs.«01_k».proof.Proof.Gen.Inp.Frame
public import proofs.«01_k».proof.Proof.Gen.InpIdeal.Value
public import proofs.«01_k».proof.Proof.Gen.InpRefIdeal.Read
public import proofs.«01_k».proof.Proof.Sums
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.Inp

open Cert.InpIdeal Cert.InpIdeal.Gen Cert.InpRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

/-- What the reference computes from the same arguments. -/
abbrev wanted := val_main_v3 (F := Ideal) (m ((c : Thread nD τ).loc main_arg0)) (m ((c : Thread nD τ).loc main_arg1))

theorem idx : ∀ t : Fin cfg0.N, win0_0.index t = ![0, 0] ∧ win0_1.index t = ![t.val, 0, 0, 0] ∧ win0_2.index t = ![t.val, 0, 0] :=
  (by decide +kernel : ∀ t : Fin grid0.N, _)

theorem weight (k : Fin 4) (i : Fin 1) (e : Fin 1024) (l : Fin 512) :
    V m c main_v2 (ix4 k i e l) = m ((c : Thread nD τ).loc main_arg1) (ix3 0 e ⟨k.val * 512 + l.val, by omega⟩) := by
  entry_read
  pointwise

theorem blk0 (t : Fin cfg0.N) (r : Fin 2048) (e : Fin 1024) :
    iblk m c 0 t (ix2 r e) = m ((c : Thread nD τ).loc main_arg0) (ix2 r e) := by
  blk_ext [iblk, V, idx t]
theorem blk1 (t : Fin cfg0.N) (z z' : Fin 1) (e : Fin 1024) (l : Fin 512) :
    iblk m c 1 t (ix4 z z' e l) = V m c main_v2 (ix4 ⟨t.val, t.isLt⟩ 0 e l) := by
  blk_ext [iblk, idx t]

theorem point (t : Fin cfg0.N) (z : Fin 1) (r : Fin 2048) (l : Fin 512) :
    out0_2 (iblk m c 0 t) (iblk m c 1 t) (ix3 z r l) = wanted m c (ix3 ⟨t.val, t.isLt⟩ r l) := by
  frame_out
  pointwise [k0_pay1, val_main_v3, val_main_v2, val_main_v1, val_main_v0]
  refine Finset.sum_congr rfl fun e _ => ?_
  rw [blk0, blk1, weight]

/-- The whole array is the reference's. -/
theorem arr : (dats m 0 c).arrAt 2 cfg0.N = wanted m c := by
  refine (dats m 0 c).arrAt_eq_of_covers 2 _ (by decide +kernel) fun t hf y => ?_
  blk_simp
  rw [after0_2]
  obtain ⟨z, r, l, rfl⟩ : ∃ z r l, y = ix3 z r l := ⟨y 0, y 1, y 2, by funext i; fin_cases i <;> rfl⟩
  have h : (win0_2.blk t).view.emb (ix3 z r l) = ix3 ⟨t.val, t.isLt⟩ r l := by blk_ext [idx t]
  rw [h]
  exact point m c t z r l

theorem frame : Cert.quiescent_Inp (hInp := Cert.Inp.Gen.facts) := fun m g _ => Cert.Inp.Gen.frame m g

theorem frame_reference : Cert.quiescent_InpRefIdeal (hInpRefIdeal := Cert.InpRefIdeal.Gen.facts) := fun m g _ =>
  (θ_run _ _ _).mono (fun r h => ⟨fun c => (h c).2, sem_eq_zero_of_no_sems rfl r.2⟩) (Cert.InpRefIdeal.Value.run m g)

theorem equal : Cert.algebraic_InpIdeal_InpRefIdeal (hInpIdeal := Cert.InpIdeal.Gen.facts)
    (hInpRefIdeal := Cert.InpRefIdeal.Gen.facts) :=
  fun m g m' g' _ hagree => ⟨_, Cert.InpIdeal.Value.run_blocks m g, (θ_run _ _ _).mono (fun r h c => by
    refine ⟨((h c).1.trans (Cert.InpRefIdeal.Read.val_main_v3_eq _ _)).trans ?_, (h c).2⟩
    rw [(hagree c).1, (hagree c).2]
    exact (arr m c).symm) (Cert.InpRefIdeal.Value.run m' g')⟩

end Cert.Products.Inp

end
-- ==== Proof.Out.lean ====
/- A mixer's output product, accumulated over four blocks of the weight's rows. -/
module

public import proofs.«01_k».proof.Defs
public import proofs.«01_k».proof.Proof.Gen.Out.Frame
public import proofs.«01_k».proof.Proof.Gen.OutIdeal.Value
public import proofs.«01_k».proof.Proof.Gen.OutRefIdeal.Read
public import proofs.«01_k».proof.Proof.Sums
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.Out

open Cert.OutIdeal Cert.OutIdeal.Gen Cert.OutRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

/-- What the reference computes from the same arguments. -/
abbrev wanted := val_main_v1 (F := Ideal) (m ((c : Thread nD τ).loc main_arg0)) (m ((c : Thread nD τ).loc main_arg1))

theorem idx : ∀ t : Fin cfg0.N, win0_0.index t = ![0, t.val] ∧ win0_1.index t = ![t.val, 0, 0, 0] ∧ win0_2.index t = ![0, 0] :=
  (by decide +kernel : ∀ t : Fin grid0.N, _)

theorem cast (r : Fin 2048) (l : Fin 1024) : V m c main_v0 (ix2 r l) = m ((c : Thread nD τ).loc main_arg0) (ix2 r l) := by
  entry_read
  pointwise
theorem weight (k : Fin 4) (l : Fin 256) (e : Fin 1024) :
    V m c main_v3 (ix4 k 0 l e) = m ((c : Thread nD τ).loc main_arg1) (ix3 0 ⟨k.val * 256 + l.val, by omega⟩ e) := by
  entry_read
  pointwise

theorem blk0 (t : Fin cfg0.N) (r : Fin 2048) (l : Fin 256) :
    iblk m c 0 t (ix2 r l) = V m c main_v0 (ix2 r ⟨t.val * 256 + l.val, by have h : t.val < 4 := t.isLt; omega⟩) := by
  blk_ext [iblk, idx t]
theorem blk1 (t : Fin cfg0.N) (z z' : Fin 1) (l : Fin 256) (e : Fin 1024) :
    iblk m c 1 t (ix4 z z' l e) = V m c main_v3 (ix4 ⟨t.val, t.isLt⟩ 0 l e) := by
  blk_ext [iblk, idx t]

/-- The product with one quarter of the weight. -/
def part (a : FVec Ideal S2048x1024 .f32) (w : FVec Ideal S1x1024x1024 .f32) (t : Fin 4) (r : Fin 2048) (e : Fin 1024) : EReal :=
  ∑ l : Fin 256, a (ix2 r ⟨t.val * 256 + l.val, by omega⟩) * w (ix3 0 ⟨t.val * 256 + l.val, by omega⟩ e)

theorem parts (a : FVec Ideal S2048x1024 .f32) (w : FVec Ideal S1x1024x1024 .f32) (r : Fin 2048) (e : Fin 1024) :
    ∑ k, part a w k r e = ∑ x : Fin 1024, a (ix2 r x) * w (ix3 0 x e) :=
  sum_blocks (n := 4) (b := 256) (M := EReal) rfl (fun k l => by omega) fun x => a (ix2 r x) * w (ix3 0 x e)

/-- The part of grid point `t` at an index of the result. -/
abbrev partAt (t : Fin cfg0.N) (y : S2048x1024.Idx) : EReal :=
  part (m ((c : Thread nD τ).loc main_arg0)) (m ((c : Thread nD τ).loc main_arg1)) ⟨t.val, t.isLt⟩ (y 0) (y 1)

theorem prod (t : Fin cfg0.N) (y : S2048x1024.Idx) :
    k0_pay1 (F := Ideal) (iblk m c 0 t) (iblk m c 1 t) y = partAt m c t y := by
  obtain ⟨r, e, rfl⟩ : ∃ (r : Fin 2048) (e : Fin 1024), y = ix2 r e := ⟨y 0, y 1, eq_ix2 y⟩
  pointwise [k0_pay1, partAt, part]
  refine Finset.sum_congr rfl fun l _ => ?_
  rw [blk0, blk1, cast, weight]

theorem first (t : Fin cfg0.N) (h : t.val % 4 = 0) (y : S2048x1024.Idx) : outsAt0 m c t.val t.isLt y = partAt m c t y := by
  rw [outsAt0_A m c t h (by have h4 : t.val < 4 := t.isLt; omega), ← prod]
  frame_out

theorem next (t : Fin cfg0.N) (h : ¬t.val % 4 = 0) (y : S2048x1024.Idx) :
    outsAt0 m c t.val t.isLt y =
      outsAt0 m c (t.val - 1) (Nat.lt_of_le_of_lt (Nat.sub_le _ _) t.isLt) y + partAt m c t y := by
  rw [outsAt0_B m c t h (by omega), ← prod]
  frame_out
  pointwise [k0_pay2]

/-- The whole array is the reference's. -/
theorem arr : (dats m 0 c).arrAt 2 cfg0.N = wanted m c := by
  refine (dats m 0 c).arrAt_eq_of_after_last 2 t0_3 (by decide +kernel) _ fun j => ?_
  blk_simp
  rw [after0_2, Pipeline.eq_sum_fin_of_reset_step_apply_last (fun n h => fun y : S2048x1024.Idx => outsAt0 m c n h y) 4 (fun _ => 0)
    (partAt m c) (fun t h y => (first m c t h y).trans (zero_add _).symm) (fun t h y => next m c t h y) (le_of_eq N_0) t0_3 rfl j]
  rw [eq_ix2 j, zero_add]
  pointwise [val_main_v1, val_main_v0]
  exact parts _ _ _ _

theorem frame : Cert.quiescent_Out (hOut := Cert.Out.Gen.facts) := fun m g _ => Cert.Out.Gen.frame m g

theorem frame_reference : Cert.quiescent_OutRefIdeal (hOutRefIdeal := Cert.OutRefIdeal.Gen.facts) := fun m g _ =>
  (θ_run _ _ _).mono (fun r h => ⟨fun c => (h c).2, sem_eq_zero_of_no_sems rfl r.2⟩) (Cert.OutRefIdeal.Value.run m g)

theorem equal : Cert.algebraic_OutIdeal_OutRefIdeal (hOutIdeal := Cert.OutIdeal.Gen.facts)
    (hOutRefIdeal := Cert.OutRefIdeal.Gen.facts) :=
  fun m g m' g' _ hagree => ⟨_, Cert.OutIdeal.Value.run_blocks m g, (θ_run _ _ _).mono (fun r h c => by
    refine ⟨((h c).1.trans (Cert.OutRefIdeal.Read.val_main_v1_eq _ _)).trans ?_, (h c).2⟩
    rw [(hagree c).1, (hagree c).2]
    exact (arr m c).symm) (Cert.OutRefIdeal.Value.run m' g')⟩

end Cert.Products.Out

end
-- ==== Proof.Gate.lean ====
/- The feed-forward layer's gate product: four blocks of columns. -/
module

public import proofs.«01_k».proof.Defs
public import proofs.«01_k».proof.Proof.Gen.Gate.Frame
public import proofs.«01_k».proof.Proof.Gen.GateIdeal.Value
public import proofs.«01_k».proof.Proof.Gen.GateRefIdeal.Read
public import proofs.«01_k».proof.Proof.Sums
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.Gate

open Cert.GateIdeal Cert.GateIdeal.Gen Cert.GateRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

/-- What the reference computes from the same arguments. -/
abbrev wanted := val_main_v4 (F := Ideal) (m ((c : Thread nD τ).loc main_arg0)) (m ((c : Thread nD τ).loc main_arg1))

theorem idx : ∀ t : Fin cfg0.N, win0_0.index t = ![0, 0] ∧ win0_1.index t = ![t.val, 1, 0, 0] ∧ win0_2.index t = ![t.val, 0, 0] :=
  (by decide +kernel : ∀ t : Fin grid0.N, _)

theorem weight (k : Fin 4) (i : Fin 2) (e : Fin 1024) (l : Fin 704) :
    V m c main_v2 (ix4 k i e l) = m ((c : Thread nD τ).loc main_arg1) (ix3 i e ⟨k.val * 704 + l.val, by omega⟩) := by
  entry_read
  pointwise

theorem blk0 (t : Fin cfg0.N) (r : Fin 2048) (e : Fin 1024) :
    iblk m c 0 t (ix2 r e) = m ((c : Thread nD τ).loc main_arg0) (ix2 r e) := by
  blk_ext [iblk, V, idx t]
theorem blk1 (t : Fin cfg0.N) (z z' : Fin 1) (e : Fin 1024) (l : Fin 704) :
    iblk m c 1 t (ix4 z z' e l) = V m c main_v2 (ix4 ⟨t.val, t.isLt⟩ 1 e l) := by
  blk_ext [iblk, idx t]

theorem point (t : Fin cfg0.N) (z : Fin 1) (r : Fin 2048) (l : Fin 704) :
    out0_2 (iblk m c 0 t) (iblk m c 1 t) (ix3 z r l) = wanted m c (ix3 ⟨t.val, t.isLt⟩ r l) := by
  frame_out
  pointwise [k0_pay1, val_main_v4, val_main_v3, val_main_v2, val_main_v1, val_main_v0]
  refine Finset.sum_congr rfl fun e _ => ?_
  rw [blk0, blk1, weight]

/-- The whole array is the reference's. -/
theorem arr : (dats m 0 c).arrAt 2 cfg0.N = wanted m c := by
  refine (dats m 0 c).arrAt_eq_of_covers 2 _ (by decide +kernel) fun t hf y => ?_
  blk_simp
  rw [after0_2]
  obtain ⟨z, r, l, rfl⟩ : ∃ z r l, y = ix3 z r l := ⟨y 0, y 1, y 2, by funext i; fin_cases i <;> rfl⟩
  have h : (win0_2.blk t).view.emb (ix3 z r l) = ix3 ⟨t.val, t.isLt⟩ r l := by blk_ext [idx t]
  rw [h]
  exact point m c t z r l

theorem frame : Cert.quiescent_Gate (hGate := Cert.Gate.Gen.facts) := fun m g _ => Cert.Gate.Gen.frame m g

theorem frame_reference : Cert.quiescent_GateRefIdeal (hGateRefIdeal := Cert.GateRefIdeal.Gen.facts) := fun m g _ =>
  (θ_run _ _ _).mono (fun r h => ⟨fun c => (h c).2, sem_eq_zero_of_no_sems rfl r.2⟩) (Cert.GateRefIdeal.Value.run m g)

theorem equal : Cert.algebraic_GateIdeal_GateRefIdeal (hGateIdeal := Cert.GateIdeal.Gen.facts)
    (hGateRefIdeal := Cert.GateRefIdeal.Gen.facts) :=
  fun m g m' g' _ hagree => ⟨_, Cert.GateIdeal.Value.run_blocks m g, (θ_run _ _ _).mono (fun r h c => by
    refine ⟨((h c).1.trans (Cert.GateRefIdeal.Read.val_main_v4_eq _ _)).trans ?_, (h c).2⟩
    rw [(hagree c).1, (hagree c).2]
    exact (arr m c).symm) (Cert.GateRefIdeal.Value.run m' g')⟩

end Cert.Products.Gate

end
-- ==== Proof.Down.lean ====
/- The feed-forward layer's down product, accumulated over four blocks of the weight's rows. -/
module

public import proofs.«01_k».proof.Defs
public import proofs.«01_k».proof.Proof.Gen.Down.Frame
public import proofs.«01_k».proof.Proof.Gen.DownIdeal.Value
public import proofs.«01_k».proof.Proof.Gen.DownRefIdeal.Read
public import proofs.«01_k».proof.Proof.Sums
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.Down

open Cert.DownIdeal Cert.DownIdeal.Gen Cert.DownRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

/-- What the reference computes from the same arguments. -/
abbrev wanted := val_main_v2 (F := Ideal) (m ((c : Thread nD τ).loc main_arg0)) (m ((c : Thread nD τ).loc main_arg1))

theorem idx : ∀ t : Fin cfg0.N, win0_0.index t = ![t.val, 0, 0] ∧ win0_1.index t = ![t.val, 1, 0, 0] ∧ win0_2.index t = ![0, 0] :=
  (by decide +kernel : ∀ t : Fin grid0.N, _)

theorem quarter (k : Fin 4) (r : Fin 2048) (l : Fin 704) :
    V m c main_v2 (ix3 k r l) = m ((c : Thread nD τ).loc main_arg0) (ix2 r ⟨k.val * 704 + l.val, by omega⟩) := by
  entry_read
  pointwise
theorem weight (k : Fin 4) (l : Fin 704) (e : Fin 1024) :
    V m c main_v5 (ix4 k 1 l e) = m ((c : Thread nD τ).loc main_arg1) (ix3 1 ⟨k.val * 704 + l.val, by omega⟩ e) := by
  entry_read
  pointwise

theorem blk0 (t : Fin cfg0.N) (z : Fin 1) (r : Fin 2048) (l : Fin 704) :
    iblk m c 0 t (ix3 z r l) = V m c main_v2 (ix3 ⟨t.val, t.isLt⟩ r l) := by
  blk_ext [iblk, idx t]
theorem blk1 (t : Fin cfg0.N) (z z' : Fin 1) (l : Fin 704) (e : Fin 1024) :
    iblk m c 1 t (ix4 z z' l e) = V m c main_v5 (ix4 ⟨t.val, t.isLt⟩ 1 l e) := by
  blk_ext [iblk, idx t]

/-- The product with one quarter of the weight. -/
def part (a : FVec Ideal S2048x2816 .f32) (w : FVec Ideal S2x2816x1024 .f32) (t : Fin 4) (r : Fin 2048) (e : Fin 1024) : EReal :=
  ∑ l : Fin 704, a (ix2 r ⟨t.val * 704 + l.val, by omega⟩) * w (ix3 1 ⟨t.val * 704 + l.val, by omega⟩ e)

theorem parts (a : FVec Ideal S2048x2816 .f32) (w : FVec Ideal S2x2816x1024 .f32) (r : Fin 2048) (e : Fin 1024) :
    ∑ k, part a w k r e = ∑ x : Fin 2816, a (ix2 r x) * w (ix3 1 x e) :=
  sum_blocks (n := 4) (b := 704) (M := EReal) rfl (fun k l => by omega) fun x => a (ix2 r x) * w (ix3 1 x e)

/-- The part of grid point `t` at an index of the result. -/
abbrev partAt (t : Fin cfg0.N) (y : S2048x1024.Idx) : EReal :=
  part (m ((c : Thread nD τ).loc main_arg0)) (m ((c : Thread nD τ).loc main_arg1)) ⟨t.val, t.isLt⟩ (y 0) (y 1)

theorem prod (t : Fin cfg0.N) (y : S2048x1024.Idx) :
    k0_pay1 (F := Ideal) (iblk m c 0 t) (iblk m c 1 t) y = partAt m c t y := by
  obtain ⟨r, e, rfl⟩ : ∃ (r : Fin 2048) (e : Fin 1024), y = ix2 r e := ⟨y 0, y 1, eq_ix2 y⟩
  pointwise [k0_pay1, partAt, part]
  refine Finset.sum_congr rfl fun l _ => ?_
  rw [blk0, blk1, quarter, weight]

theorem first (t : Fin cfg0.N) (h : t.val % 4 = 0) (y : S2048x1024.Idx) : outsAt0 m c t.val t.isLt y = partAt m c t y := by
  rw [outsAt0_A m c t h (by have h4 : t.val < 4 := t.isLt; omega), ← prod]
  frame_out

theorem next (t : Fin cfg0.N) (h : ¬t.val % 4 = 0) (y : S2048x1024.Idx) :
    outsAt0 m c t.val t.isLt y =
      outsAt0 m c (t.val - 1) (Nat.lt_of_le_of_lt (Nat.sub_le _ _) t.isLt) y + partAt m c t y := by
  rw [outsAt0_B m c t h (by omega), ← prod]
  frame_out
  pointwise [k0_pay2]

/-- The whole array is the reference's. -/
theorem arr : (dats m 0 c).arrAt 2 cfg0.N = wanted m c := by
  refine (dats m 0 c).arrAt_eq_of_after_last 2 t0_3 (by decide +kernel) _ fun j => ?_
  blk_simp
  rw [after0_2, Pipeline.eq_sum_fin_of_reset_step_apply_last (fun n h => fun y : S2048x1024.Idx => outsAt0 m c n h y) 4 (fun _ => 0)
    (partAt m c) (fun t h y => (first m c t h y).trans (zero_add _).symm) (fun t h y => next m c t h y) (le_of_eq N_0) t0_3 rfl j]
  rw [eq_ix2 j, zero_add]
  pointwise [val_main_v2, val_main_v1, val_main_v0]
  exact parts _ _ _ _

theorem frame : Cert.quiescent_Down (hDown := Cert.Down.Gen.facts) := fun m g _ => Cert.Down.Gen.frame m g

theorem frame_reference : Cert.quiescent_DownRefIdeal (hDownRefIdeal := Cert.DownRefIdeal.Gen.facts) := fun m g _ =>
  (θ_run _ _ _).mono (fun r h => ⟨fun c => (h c).2, sem_eq_zero_of_no_sems rfl r.2⟩) (Cert.DownRefIdeal.Value.run m g)

theorem equal : Cert.algebraic_DownIdeal_DownRefIdeal (hDownIdeal := Cert.DownIdeal.Gen.facts)
    (hDownRefIdeal := Cert.DownRefIdeal.Gen.facts) :=
  fun m g m' g' _ hagree => ⟨_, Cert.DownIdeal.Value.run_blocks m g, (θ_run _ _ _).mono (fun r h c => by
    refine ⟨((h c).1.trans (Cert.DownRefIdeal.Read.val_main_v2_eq _ _)).trans ?_, (h c).2⟩
    rw [(hagree c).1, (hagree c).2]
    exact (arr m c).symm) (Cert.DownRefIdeal.Value.run m' g')⟩

end Cert.Products.Down

end
-- ==== Proof.Pgate.lean ====
/- The embedding gate's product, accumulated over four blocks of the weight's rows. -/
module

public import proofs.«01_k».proof.Defs
public import proofs.«01_k».proof.Proof.Gen.Pgate.Frame
public import proofs.«01_k».proof.Proof.Gen.PgateIdeal.Value
public import proofs.«01_k».proof.Proof.Gen.PgateRefIdeal.Read
public import proofs.«01_k».proof.Proof.Sums
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.Pgate

open Cert.PgateIdeal Cert.PgateIdeal.Gen Cert.PgateRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

/-- What the reference computes from the same arguments. -/
abbrev wanted := val_main_v2 (F := Ideal) (m ((c : Thread nD τ).loc main_arg0)) (m ((c : Thread nD τ).loc main_arg1))

theorem idx : ∀ t : Fin cfg0.N, win0_0.index t = ![0, t.val] ∧ win0_1.index t = ![t.val, 1, 0, 0] ∧ win0_2.index t = ![0, 0] :=
  (by decide +kernel : ∀ t : Fin grid0.N, _)

theorem weight (k : Fin 4) (l : Fin 256) (e : Fin 1024) :
    V m c main_v2 (ix4 k 1 l e) = m ((c : Thread nD τ).loc main_arg1) (ix3 1 ⟨k.val * 256 + l.val, by omega⟩ e) := by
  entry_read
  pointwise

theorem blk0 (t : Fin cfg0.N) (r : Fin 2048) (l : Fin 256) :
    iblk m c 0 t (ix2 r l) = m ((c : Thread nD τ).loc main_arg0) (ix2 r ⟨t.val * 256 + l.val, by have h : t.val < 4 := t.isLt; omega⟩) := by
  blk_ext [iblk, V, idx t]
theorem blk1 (t : Fin cfg0.N) (z z' : Fin 1) (l : Fin 256) (e : Fin 1024) :
    iblk m c 1 t (ix4 z z' l e) = V m c main_v2 (ix4 ⟨t.val, t.isLt⟩ 1 l e) := by
  blk_ext [iblk, idx t]

/-- The product with one quarter of the weight. -/
def part (a : FVec Ideal S2048x1024 .f32) (w : FVec Ideal S2x1024x1024 .f32) (t : Fin 4) (r : Fin 2048) (e : Fin 1024) : EReal :=
  ∑ l : Fin 256, a (ix2 r ⟨t.val * 256 + l.val, by omega⟩) * w (ix3 1 ⟨t.val * 256 + l.val, by omega⟩ e)

theorem parts (a : FVec Ideal S2048x1024 .f32) (w : FVec Ideal S2x1024x1024 .f32) (r : Fin 2048) (e : Fin 1024) :
    ∑ k, part a w k r e = ∑ x : Fin 1024, a (ix2 r x) * w (ix3 1 x e) :=
  sum_blocks (n := 4) (b := 256) (M := EReal) rfl (fun k l => by omega) fun x => a (ix2 r x) * w (ix3 1 x e)

/-- The part of grid point `t` at an index of the result. -/
abbrev partAt (t : Fin cfg0.N) (y : S2048x1024.Idx) : EReal :=
  part (m ((c : Thread nD τ).loc main_arg0)) (m ((c : Thread nD τ).loc main_arg1)) ⟨t.val, t.isLt⟩ (y 0) (y 1)

theorem prod (t : Fin cfg0.N) (y : S2048x1024.Idx) :
    k0_pay1 (F := Ideal) (iblk m c 0 t) (iblk m c 1 t) y = partAt m c t y := by
  obtain ⟨r, e, rfl⟩ : ∃ (r : Fin 2048) (e : Fin 1024), y = ix2 r e := ⟨y 0, y 1, eq_ix2 y⟩
  pointwise [k0_pay1, partAt, part]
  refine Finset.sum_congr rfl fun l _ => ?_
  rw [blk0, blk1, weight]

theorem first (t : Fin cfg0.N) (h : t.val % 4 = 0) (y : S2048x1024.Idx) : outsAt0 m c t.val t.isLt y = partAt m c t y := by
  rw [outsAt0_A m c t h (by have h4 : t.val < 4 := t.isLt; omega), ← prod]
  frame_out

theorem next (t : Fin cfg0.N) (h : ¬t.val % 4 = 0) (y : S2048x1024.Idx) :
    outsAt0 m c t.val t.isLt y =
      outsAt0 m c (t.val - 1) (Nat.lt_of_le_of_lt (Nat.sub_le _ _) t.isLt) y + partAt m c t y := by
  rw [outsAt0_B m c t h (by omega), ← prod]
  frame_out
  pointwise [k0_pay2]

/-- The whole array is the reference's. -/
theorem arr : (dats m 0 c).arrAt 2 cfg0.N = wanted m c := by
  refine (dats m 0 c).arrAt_eq_of_after_last 2 t0_3 (by decide +kernel) _ fun j => ?_
  blk_simp
  rw [after0_2, Pipeline.eq_sum_fin_of_reset_step_apply_last (fun n h => fun y : S2048x1024.Idx => outsAt0 m c n h y) 4 (fun _ => 0)
    (partAt m c) (fun t h y => (first m c t h y).trans (zero_add _).symm) (fun t h y => next m c t h y) (le_of_eq N_0) t0_3 rfl j]
  rw [eq_ix2 j, zero_add]
  pointwise [val_main_v2, val_main_v1, val_main_v0]
  exact parts _ _ _ _

theorem frame : Cert.quiescent_Pgate (hPgate := Cert.Pgate.Gen.facts) := fun m g _ => Cert.Pgate.Gen.frame m g

theorem frame_reference : Cert.quiescent_PgateRefIdeal (hPgateRefIdeal := Cert.PgateRefIdeal.Gen.facts) := fun m g _ =>
  (θ_run _ _ _).mono (fun r h => ⟨fun c => (h c).2, sem_eq_zero_of_no_sems rfl r.2⟩) (Cert.PgateRefIdeal.Value.run m g)

theorem equal : Cert.algebraic_PgateIdeal_PgateRefIdeal (hPgateIdeal := Cert.PgateIdeal.Gen.facts)
    (hPgateRefIdeal := Cert.PgateRefIdeal.Gen.facts) :=
  fun m g m' g' _ hagree => ⟨_, Cert.PgateIdeal.Value.run_blocks m g, (θ_run _ _ _).mono (fun r h c => by
    refine ⟨((h c).1.trans (Cert.PgateRefIdeal.Read.val_main_v2_eq _ _)).trans ?_, (h c).2⟩
    rw [(hagree c).1, (hagree c).2]
    exact (arr m c).symm) (Cert.PgateRefIdeal.Value.run m' g')⟩

end Cert.Products.Pgate

end
-- ==== Proof.Pproj.lean ====
/- The projection of the per-layer embedding: four blocks of columns. -/
module

public import proofs.«01_k».proof.Defs
public import proofs.«01_k».proof.Proof.Gen.Pproj.Frame
public import proofs.«01_k».proof.Proof.Gen.PprojIdeal.Value
public import proofs.«01_k».proof.Proof.Gen.PprojRefIdeal.Read
public import proofs.«01_k».proof.Proof.Sums
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.Pproj

open Cert.PprojIdeal Cert.PprojIdeal.Gen Cert.PprojRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

/-- What the reference computes from the same arguments. -/
abbrev wanted := val_main_v2 (F := Ideal) (m ((c : Thread nD τ).loc main_arg0)) (m ((c : Thread nD τ).loc main_arg1))

theorem idx : ∀ t : Fin cfg0.N, win0_0.index t = ![0, 0] ∧ win0_1.index t = ![t.val, 1, 0, 0] ∧ win0_2.index t = ![0, t.val] :=
  (by decide +kernel : ∀ t : Fin grid0.N, _)

/-- Column `l` of the result's block of grid point `t`. -/
abbrev col (t : Fin cfg0.N) (l : Fin 256) : Fin 1024 := ⟨t.val * 256 + l.val, by have h : t.val < 4 := t.isLt; omega⟩

theorem weight (k : Fin 4) (i : Fin 2) (e l : Fin 256) :
    V m c main_v2 (ix4 k i e l) = m ((c : Thread nD τ).loc main_arg1) (ix3 i e ⟨k.val * 256 + l.val, by omega⟩) := by
  entry_read
  pointwise

theorem blk0 (t : Fin cfg0.N) (r : Fin 2048) (e : Fin 256) :
    iblk m c 0 t (ix2 r e) = m ((c : Thread nD τ).loc main_arg0) (ix2 r e) := by
  blk_ext [iblk, V, idx t]
theorem blk1 (t : Fin cfg0.N) (z z' : Fin 1) (e l : Fin 256) :
    iblk m c 1 t (ix4 z z' e l) = V m c main_v2 (ix4 ⟨t.val, t.isLt⟩ 1 e l) := by
  blk_ext [iblk, idx t]

theorem point (t : Fin cfg0.N) (r : Fin 2048) (l : Fin 256) :
    out0_2 (iblk m c 0 t) (iblk m c 1 t) (ix2 r l) = wanted m c (ix2 r (col t l)) := by
  frame_out
  pointwise [k0_pay1, val_main_v2, val_main_v1, val_main_v0]
  refine Finset.sum_congr rfl fun e _ => ?_
  rw [blk0, blk1, weight]

/-- The whole array is the reference's. -/
theorem arr : (dats m 0 c).arrAt 2 cfg0.N = wanted m c := by
  refine (dats m 0 c).arrAt_eq_of_covers 2 _ (by decide +kernel) fun t hf y => ?_
  blk_simp
  rw [after0_2]
  obtain ⟨r, l, rfl⟩ : ∃ (r : Fin 2048) (l : Fin 256), y = ix2 r l := ⟨y 0, y 1, eq_ix2 y⟩
  have h : (win0_2.blk t).view.emb (ix2 r l) = ix2 r (col t l) := by blk_ext [idx t, col]
  rw [h]
  exact point m c t r l

theorem frame : Cert.quiescent_Pproj (hPproj := Cert.Pproj.Gen.facts) := fun m g _ => Cert.Pproj.Gen.frame m g

theorem frame_reference : Cert.quiescent_PprojRefIdeal (hPprojRefIdeal := Cert.PprojRefIdeal.Gen.facts) := fun m g _ =>
  (θ_run _ _ _).mono (fun r h => ⟨fun c => (h c).2, sem_eq_zero_of_no_sems rfl r.2⟩) (Cert.PprojRefIdeal.Value.run m g)

theorem equal : Cert.algebraic_PprojIdeal_PprojRefIdeal (hPprojIdeal := Cert.PprojIdeal.Gen.facts)
    (hPprojRefIdeal := Cert.PprojRefIdeal.Gen.facts) :=
  fun m g m' g' _ hagree => ⟨_, Cert.PprojIdeal.Value.run_blocks m g, (θ_run _ _ _).mono (fun r h c => by
    refine ⟨((h c).1.trans (Cert.PprojRefIdeal.Read.val_main_v2_eq _ _)).trans ?_, (h c).2⟩
    rw [(hagree c).1, (hagree c).2]
    exact (arr m c).symm) (Cert.PprojRefIdeal.Value.run m' g')⟩

end Cert.Products.Pproj

end
-- ==== Proof.DactZero.lean ====
/- Layer 0: the gradient of the gated activations: four blocks, each a product with a quarter of the down weight. -/
module

public import proofs.«01_k».proof.Defs
public import proofs.«01_k».proof.Proof.Gen.DactZero.Frame
public import proofs.«01_k».proof.Proof.Gen.DactZeroIdeal.Value
public import proofs.«01_k».proof.Proof.Gen.DactZeroRefIdeal.Read
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.DactZero

open Cert.DactZeroIdeal Cert.DactZeroIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![0, 0] ∧ win0_1.index t = ![t.val, 0, 0, 0] ∧ win0_2.index t = ![t.val, 0, 0] :=
  (by decide +kernel : ∀ t : Fin grid0.N, _)

theorem weight (k : Fin 4) (i : Fin 2) (l : Fin 704) (e : Fin 1024) :
    V m c main_v2 (ix4 k i l e) = m ((c : Thread nD τ).loc main_arg0) (ix3 i ⟨k.val * 704 + l.val, by omega⟩ e) := by
  entry_read
  pointwise

theorem blk0 (t : Fin cfg0.N) (r : Fin 2048) (e : Fin 1024) :
    iblk m c 0 t (ix2 r e) = m ((c : Thread nD τ).loc main_arg1) (ix2 r e) := by
  blk_ext [iblk, V, idx t]
theorem blk1 (t : Fin cfg0.N) (z z' : Fin 1) (l : Fin 704) (e : Fin 1024) :
    iblk m c 1 t (ix4 z z' l e) = V m c main_v2 (ix4 ⟨t.val, t.isLt⟩ 0 l e) := by
  blk_ext [iblk, idx t]

theorem point (t : Fin cfg0.N) (z : Fin 1) (r : Fin 2048) (l : Fin 704) :
    out0_2 (iblk m c 0 t) (iblk m c 1 t) (ix3 z r l) =
      Cert.DactZeroRefIdeal.Read.val_main_v6 (F := Ideal) (m ((c : Thread nD τ).loc main_arg0)) (m ((c : Thread nD τ).loc main_arg1))
        (ix3 ⟨t.val, t.isLt⟩ r l) := by
  frame_out
  pointwise [k0_pay1, Cert.DactZeroRefIdeal.Read.val_main_v6, Cert.DactZeroRefIdeal.Read.val_main_v5, Cert.DactZeroRefIdeal.Read.val_main_v4, Cert.DactZeroRefIdeal.Read.val_main_v2, Cert.DactZeroRefIdeal.Read.val_main_v1]
  refine Finset.sum_congr rfl fun e _ => ?_
  rw [blk0, blk1, weight]

/-- The whole array is the reference's. -/
theorem arr : (dats m 0 c).arrAt 2 cfg0.N =
    Cert.DactZeroRefIdeal.Read.val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  obtain ⟨z, r, l, rfl⟩ : ∃ z r l, y = ix3 z r l := ⟨y 0, y 1, y 2, by funext i; fin_cases i <;> rfl⟩
  have e : (win0_2.blk t).view.emb (ix3 z r l) = ix3 ⟨t.val, t.isLt⟩ r l := by blk_ext [idx t]
  rw [e]
  exact point m c t z r l

theorem frame : Cert.quiescent_DactZero (hDactZero := Cert.DactZero.Gen.facts) := fun m g _ => Cert.DactZero.Gen.frame m g

theorem frame_reference : Cert.quiescent_DactZeroRefIdeal (hDactZeroRefIdeal := Cert.DactZeroRefIdeal.Gen.facts) := fun m g _ =>
  (θ_run _ _ _).mono (fun r h => ⟨fun c => (h c).2, sem_eq_zero_of_no_sems rfl r.2⟩) (Cert.DactZeroRefIdeal.Value.run m g)

theorem equal : Cert.algebraic_DactZeroIdeal_DactZeroRefIdeal (hDactZeroIdeal := Cert.DactZeroIdeal.Gen.facts)
    (hDactZeroRefIdeal := Cert.DactZeroRefIdeal.Gen.facts) :=
  fun m g m' g' _ hagree => ⟨_, Cert.DactZeroIdeal.Value.run_blocks m g, (θ_run _ _ _).mono (fun r h c => by
    refine ⟨((h c).1.trans (Cert.DactZeroRefIdeal.Read.val_main_v6_eq _ _)).trans ?_, (h c).2⟩
    rw [(hagree c).1, (hagree c).2]
    exact (arr m c).symm) (Cert.DactZeroRefIdeal.Value.run m' g')⟩

end Cert.Products.DactZero

end
-- ==== Proof.DxaZero.lean ====
/- Layer 0: the part of the gradient of the feed-forward layer's input that comes through its gate, added to the residual's: a product accumulated over four quarters. -/
module

public import proofs.«01_k».proof.Defs
public import proofs.«01_k».proof.Proof.Gen.DxaZero.Frame
public import proofs.«01_k».proof.Proof.Gen.DxaZeroIdeal.Value
public import proofs.«01_k».proof.Proof.Gen.DxaZeroRefIdeal.Read
public import proofs.«01_k».proof.Proof.Sums
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.DxaZero

open Cert.DxaZeroIdeal Cert.DxaZeroIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![t.val, 0, 0] ∧ win0_1.index t = ![t.val, 0, 0, 0] ∧ win0_2.index t = ![0, 0]
    ∧ win0_3.index t = ![0, 0] :=
  (by decide +kernel : ∀ t : Fin grid0.N, _)

theorem quarter (k : Fin 4) (r : Fin 2048) (l : Fin 704) :
    V m c main_v2 (ix3 k r l) = m ((c : Thread nD τ).loc main_arg1) (ix2 r ⟨k.val * 704 + l.val, by omega⟩) := by
  entry_read
  pointwise
theorem weight (k : Fin 4) (i : Fin 2) (e : Fin 1024) (l : Fin 704) :
    V m c main_v5 (ix4 k i e l) = m ((c : Thread nD τ).loc main_arg0) (ix3 i e ⟨k.val * 704 + l.val, by omega⟩) := by
  entry_read
  pointwise

theorem blk0 (t : Fin cfg0.N) (z : Fin 1) (r : Fin 2048) (l : Fin 704) :
    iblk m c 0 t (ix3 z r l) = V m c main_v2 (ix3 ⟨t.val, t.isLt⟩ r l) := by
  blk_ext [iblk, idx t]
theorem blk1 (t : Fin cfg0.N) (z z' : Fin 1) (e : Fin 1024) (l : Fin 704) :
    iblk m c 1 t (ix4 z z' e l) = V m c main_v5 (ix4 ⟨t.val, t.isLt⟩ 0 e l) := by
  blk_ext [iblk, idx t]
theorem blk2 (t : Fin cfg0.N) (r : Fin 2048) (e : Fin 1024) :
    iblk m c 2 t (ix2 r e) = m ((c : Thread nD τ).loc main_arg2) (ix2 r e) := by
  blk_ext [iblk, V, idx t]

/-- The product with one quarter of the weight. -/
def part (w : FVec Ideal S2x1024x2816 .f32) (dh : FVec Ideal S2048x2816 .f32) (t : Fin 4) (r : Fin 2048) (e : Fin 1024) : EReal :=
  ∑ l : Fin 704, dh (ix2 r ⟨t.val * 704 + l.val, by omega⟩) * w (ix3 0 e ⟨t.val * 704 + l.val, by omega⟩)

theorem parts (w : FVec Ideal S2x1024x2816 .f32) (dh : FVec Ideal S2048x2816 .f32) (r : Fin 2048) (e : Fin 1024) :
    ∑ k, part w dh k r e = ∑ x : Fin 2816, dh (ix2 r x) * w (ix3 0 e x) :=
  sum_blocks (n := 4) (b := 704) (M := EReal) rfl (fun k l => by omega) fun x => dh (ix2 r x) * w (ix3 0 e x)

/-- The part of grid point `t` at an index of the result, and the residual's gradient there. -/
abbrev partAt (t : Fin cfg0.N) (y : S2048x1024.Idx) : EReal :=
  part (m ((c : Thread nD τ).loc main_arg0)) (m ((c : Thread nD τ).loc main_arg1)) ⟨t.val, t.isLt⟩ (y 0) (y 1)
abbrev base (y : S2048x1024.Idx) : EReal :=
  Ideal.ofBits .f32 0x3FB504F3#32 * @id (FVec Ideal S2048x1024 .f32) (m ((c : Thread nD τ).loc main_arg2)) y

theorem prod (t : Fin cfg0.N) (y : S2048x1024.Idx) :
    k0_pay1 (F := Ideal) (iblk m c 0 t) (iblk m c 1 t) y = partAt m c t y := by
  obtain ⟨r, e, rfl⟩ : ∃ (r : Fin 2048) (e : Fin 1024), y = ix2 r e := ⟨y 0, y 1, eq_ix2 y⟩
  pointwise [k0_pay1, partAt, part]
  refine Finset.sum_congr rfl fun l _ => ?_
  rw [blk0, blk1, quarter, weight]

theorem first (t : Fin cfg0.N) (h : t.val % 4 = 0) (y : S2048x1024.Idx) :
    outsAt0 m c t.val t.isLt y = base m c y + partAt m c t y := by
  obtain ⟨r, e, rfl⟩ : ∃ (r : Fin 2048) (e : Fin 1024), y = ix2 r e := ⟨y 0, y 1, eq_ix2 y⟩
  rw [outsAt0_A m c t h (by have h4 : t.val < 4 := t.isLt; omega), ← prod]
  frame_out
  pointwise [k0_pay2]
  rw [blk2, add_comm]
  rfl

theorem next (t : Fin cfg0.N) (h : ¬t.val % 4 = 0) (y : S2048x1024.Idx) :
    outsAt0 m c t.val t.isLt y =
      outsAt0 m c (t.val - 1) (Nat.lt_of_le_of_lt (Nat.sub_le _ _) t.isLt) y + partAt m c t y := by
  rw [outsAt0_B m c t h (by omega), ← prod]
  frame_out
  pointwise [k0_pay3]

/-- The whole array is the reference's. -/
theorem arr : (dats m 0 c).arrAt 3 cfg0.N =
    Cert.DxaZeroRefIdeal.Read.val_main_v9 (F := Ideal) (m ((c : Thread nD τ).loc main_arg0)) (m ((c : Thread nD τ).loc main_arg1))
      (m ((c : Thread nD τ).loc main_arg2)) := by
  refine (dats m 0 c).arrAt_eq_of_after_last 3 t0_3 (by decide +kernel) _ fun j => ?_
  blk_simp
  rw [after0_3, Pipeline.eq_sum_fin_of_reset_step_apply_last (fun n h => fun y : S2048x1024.Idx => outsAt0 m c n h y) 4 (base m c)
    (partAt m c) (fun t h y => first m c t h y) (fun t h y => next m c t h y) (le_of_eq N_0) t0_3 rfl j]
  rw [eq_ix2 j]
  pointwise [Cert.DxaZeroRefIdeal.Read.val_main_v9, Cert.DxaZeroRefIdeal.Read.val_main_v8, Cert.DxaZeroRefIdeal.Read.val_main_v7,
    Cert.DxaZeroRefIdeal.Read.val_main_cst_1, Cert.DxaZeroRefIdeal.Read.val_main_v6, Cert.DxaZeroRefIdeal.Read.val_main_v4,
    Cert.DxaZeroRefIdeal.Read.val_main_v3]
  rw [add_comm]
  congr 1
  exact parts _ _ _ _

theorem frame : Cert.quiescent_DxaZero (hDxaZero := Cert.DxaZero.Gen.facts) := fun m g _ => Cert.DxaZero.Gen.frame m g

theorem frame_reference : Cert.quiescent_DxaZeroRefIdeal (hDxaZeroRefIdeal := Cert.DxaZeroRefIdeal.Gen.facts) := fun m g _ =>
  (θ_run _ _ _).mono (fun r h => ⟨fun c => (h c).2, sem_eq_zero_of_no_sems rfl r.2⟩) (Cert.DxaZeroRefIdeal.Value.run m g)

theorem equal : Cert.algebraic_DxaZeroIdeal_DxaZeroRefIdeal (hDxaZeroIdeal := Cert.DxaZeroIdeal.Gen.facts)
    (hDxaZeroRefIdeal := Cert.DxaZeroRefIdeal.Gen.facts) :=
  fun m g m' g' _ hagree => ⟨_, Cert.DxaZeroIdeal.Value.run_blocks m g, (θ_run _ _ _).mono (fun r h c => by
    refine ⟨((h c).1.trans (Cert.DxaZeroRefIdeal.Read.val_main_v9_eq _ _ _)).trans ?_, (h c).2⟩
    rw [(hagree c).1, (hagree c).2.1, (hagree c).2.2]
    exact (arr m c).symm) (Cert.DxaZeroRefIdeal.Value.run m' g')⟩

end Cert.Products.DxaZero

end
-- ==== Proof.DxbZero.lean ====
/- Layer 0: the part of the gradient of the feed-forward layer's input that comes through its up product, added to the gate's: a product accumulated over four quarters. -/
module

public import proofs.«01_k».proof.Defs
public import proofs.«01_k».proof.Proof.Gen.DxbZero.Frame
public import proofs.«01_k».proof.Proof.Gen.DxbZeroIdeal.Value
public import proofs.«01_k».proof.Proof.Gen.DxbZeroRefIdeal.Read
public import proofs.«01_k».proof.Proof.Sums
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.DxbZero

open Cert.DxbZeroIdeal Cert.DxbZeroIdeal.Gen Cert.DxbZeroRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

/-- What the reference computes from the same arguments. -/
abbrev wanted := val_main_v5 (F := Ideal) (m ((c : Thread nD τ).loc main_arg0)) (m ((c : Thread nD τ).loc main_arg1)) (m ((c : Thread nD τ).loc main_arg2))

theorem idx : ∀ t : Fin cfg0.N, win0_0.index t = ![t.val, 0, 0] ∧ win0_1.index t = ![t.val, 0, 0, 0] ∧ win0_2.index t = ![0, 0]
    ∧ win0_3.index t = ![0, 0] :=
  (by decide +kernel : ∀ t : Fin grid0.N, _)

theorem quarter (k : Fin 4) (r : Fin 2048) (l : Fin 704) :
    V m c main_v2 (ix3 k r l) = m ((c : Thread nD τ).loc main_arg1) (ix2 r ⟨k.val * 704 + l.val, by omega⟩) := by
  entry_read
  pointwise
theorem weight (k : Fin 4) (e : Fin 1024) (l : Fin 704) :
    V m c main_v5 (ix4 k 0 e l) = m ((c : Thread nD τ).loc main_arg0) (ix3 0 e ⟨k.val * 704 + l.val, by omega⟩) := by
  entry_read
  pointwise

theorem blk0 (t : Fin cfg0.N) (z : Fin 1) (r : Fin 2048) (l : Fin 704) :
    iblk m c 0 t (ix3 z r l) = V m c main_v2 (ix3 ⟨t.val, t.isLt⟩ r l) := by
  blk_ext [iblk, idx t]
theorem blk1 (t : Fin cfg0.N) (z z' : Fin 1) (e : Fin 1024) (l : Fin 704) :
    iblk m c 1 t (ix4 z z' e l) = V m c main_v5 (ix4 ⟨t.val, t.isLt⟩ 0 e l) := by
  blk_ext [iblk, idx t]
theorem blk2 (t : Fin cfg0.N) (r : Fin 2048) (e : Fin 1024) :
    iblk m c 2 t (ix2 r e) = m ((c : Thread nD τ).loc main_arg2) (ix2 r e) := by
  blk_ext [iblk, V, idx t]

/-- The product with one quarter of the weight. -/
def part (w : FVec Ideal S2x1024x2816 .f32) (dh : FVec Ideal S2048x2816 .f32) (t : Fin 4) (r : Fin 2048) (e : Fin 1024) : EReal :=
  ∑ l : Fin 704, dh (ix2 r ⟨t.val * 704 + l.val, by omega⟩) * w (ix3 0 e ⟨t.val * 704 + l.val, by omega⟩)

theorem parts (w : FVec Ideal S2x1024x2816 .f32) (dh : FVec Ideal S2048x2816 .f32) (r : Fin 2048) (e : Fin 1024) :
    ∑ k, part w dh k r e = ∑ x : Fin 2816, dh (ix2 r x) * w (ix3 0 e x) :=
  sum_blocks (n := 4) (b := 704) (M := EReal) rfl (fun k l => by omega) fun x => dh (ix2 r x) * w (ix3 0 e x)

/-- The part of grid point `t` at an index of the result, and what it is added to there. -/
abbrev partAt (t : Fin cfg0.N) (y : S2048x1024.Idx) : EReal :=
  part (m ((c : Thread nD τ).loc main_arg0)) (m ((c : Thread nD τ).loc main_arg1)) ⟨t.val, t.isLt⟩ (y 0) (y 1)
abbrev base (y : S2048x1024.Idx) : EReal :=
  @id (FVec Ideal S2048x1024 .f32) (m ((c : Thread nD τ).loc main_arg2)) y

theorem prod (t : Fin cfg0.N) (y : S2048x1024.Idx) :
    k0_pay1 (F := Ideal) (iblk m c 0 t) (iblk m c 1 t) y = partAt m c t y := by
  obtain ⟨r, e, rfl⟩ : ∃ (r : Fin 2048) (e : Fin 1024), y = ix2 r e := ⟨y 0, y 1, eq_ix2 y⟩
  pointwise [k0_pay1, partAt, part]
  refine Finset.sum_congr rfl fun l _ => ?_
  rw [blk0, blk1, quarter, weight]

theorem first (t : Fin cfg0.N) (h : t.val % 4 = 0) (y : S2048x1024.Idx) :
    outsAt0 m c t.val t.isLt y = base m c y + partAt m c t y := by
  obtain ⟨r, e, rfl⟩ : ∃ (r : Fin 2048) (e : Fin 1024), y = ix2 r e := ⟨y 0, y 1, eq_ix2 y⟩
  rw [outsAt0_A m c t h (by have h4 : t.val < 4 := t.isLt; omega), ← prod]
  frame_out
  pointwise [k0_pay2]
  rw [blk2, add_comm]
  rfl

theorem next (t : Fin cfg0.N) (h : ¬t.val % 4 = 0) (y : S2048x1024.Idx) :
    outsAt0 m c t.val t.isLt y =
      outsAt0 m c (t.val - 1) (Nat.lt_of_le_of_lt (Nat.sub_le _ _) t.isLt) y + partAt m c t y := by
  rw [outsAt0_B m c t h (by omega), ← prod]
  frame_out
  pointwise [k0_pay3]

/-- The whole array is the reference's. -/
theorem arr : (dats m 0 c).arrAt 3 cfg0.N = wanted m c := by
  refine (dats m 0 c).arrAt_eq_of_after_last 3 t0_3 (by decide +kernel) _ fun j => ?_
  blk_simp
  rw [after0_3, Pipeline.eq_sum_fin_of_reset_step_apply_last (fun n h => fun y : S2048x1024.Idx => outsAt0 m c n h y) 4 (base m c)
    (partAt m c) (fun t h y => first m c t h y) (fun t h y => next m c t h y) (le_of_eq N_0) t0_3 rfl j]
  rw [eq_ix2 j]
  pointwise [val_main_v5, val_main_v4, val_main_v2, val_main_v1]
  congr 1
  exact parts _ _ _ _

theorem frame : Cert.quiescent_DxbZero (hDxbZero := Cert.DxbZero.Gen.facts) := fun m g _ => Cert.DxbZero.Gen.frame m g

theorem frame_reference : Cert.quiescent_DxbZeroRefIdeal (hDxbZeroRefIdeal := Cert.DxbZeroRefIdeal.Gen.facts) := fun m g _ =>
  (θ_run _ _ _).mono (fun r h => ⟨fun c => (h c).2, sem_eq_zero_of_no_sems rfl r.2⟩) (Cert.DxbZeroRefIdeal.Value.run m g)

theorem equal : Cert.algebraic_DxbZeroIdeal_DxbZeroRefIdeal (hDxbZeroIdeal := Cert.DxbZeroIdeal.Gen.facts)
    (hDxbZeroRefIdeal := Cert.DxbZeroRefIdeal.Gen.facts) :=
  fun m g m' g' _ hagree => ⟨_, Cert.DxbZeroIdeal.Value.run_blocks m g, (θ_run _ _ _).mono (fun r h c => by
    refine ⟨((h c).1.trans (Cert.DxbZeroRefIdeal.Read.val_main_v5_eq _ _ _)).trans ?_, (h c).2⟩
    rw [(hagree c).1, (hagree c).2.1, (hagree c).2.2]
    exact (arr m c).symm) (Cert.DxbZeroRefIdeal.Value.run m' g')⟩

end Cert.Products.DxbZero

end
-- ==== Proof.DpleZero.lean ====
/- Layer 0: the gradient of the gated embedding's input: the product with the gate's weight, transposed, and the residual's gradient. -/
module

public import proofs.«01_k».proof.Defs
public import proofs.«01_k».proof.Proof.Gen.DpleZero.Frame
public import proofs.«01_k».proof.Proof.Gen.DpleZeroIdeal.Value
public import proofs.«01_k».proof.Proof.Gen.DpleZeroRefIdeal.Read
public import proofs.«01_k».proof.Proof.Sums
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.DpleZero

open Cert.DpleZeroIdeal Cert.DpleZeroIdeal.Gen Cert.DpleZeroRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

/-- What the reference computes from the same arguments. -/
abbrev wanted := val_main_v5 (F := Ideal) (m ((c : Thread nD τ).loc main_arg0)) (m ((c : Thread nD τ).loc main_arg1)) (m ((c : Thread nD τ).loc main_arg2))

theorem idx : ∀ t : Fin cfg0.N, win0_0.index t = ![0, 0] ∧ win0_1.index t = ![t.val, 0, 0, 0] ∧ win0_2.index t = ![0, t.val]
    ∧ win0_3.index t = ![0, t.val] :=
  (by decide +kernel : ∀ t : Fin grid0.N, _)

/-- Column `l` of the result's block of grid point `t`. -/
abbrev col (t : Fin cfg0.N) (l : Fin 256) : Fin 1024 := ⟨t.val * 256 + l.val, by have h : t.val < 4 := t.isLt; omega⟩

theorem cast (r : Fin 2048) (e : Fin 1024) : V m c main_v0 (ix2 r e) = m ((c : Thread nD τ).loc main_arg1) (ix2 r e) := by
  entry_read
  pointwise
theorem weight (k : Fin 4) (i : Fin 2) (l : Fin 256) (e : Fin 1024) :
    V m c main_v3 (ix4 k i l e) = m ((c : Thread nD τ).loc main_arg0) (ix3 i ⟨k.val * 256 + l.val, by omega⟩ e) := by
  entry_read
  pointwise

theorem blk0 (t : Fin cfg0.N) (r : Fin 2048) (e : Fin 1024) : iblk m c 0 t (ix2 r e) = V m c main_v0 (ix2 r e) := by
  blk_ext [iblk, idx t]
theorem blk1 (t : Fin cfg0.N) (z z' : Fin 1) (l : Fin 256) (e : Fin 1024) :
    iblk m c 1 t (ix4 z z' l e) = V m c main_v3 (ix4 ⟨t.val, t.isLt⟩ 0 l e) := by
  blk_ext [iblk, idx t]
theorem blk2 (t : Fin cfg0.N) (r : Fin 2048) (l : Fin 256) :
    iblk m c 2 t (ix2 r l) = m ((c : Thread nD τ).loc main_arg2) (ix2 r (col t l)) := by
  blk_ext [iblk, V, idx t, col]

theorem point (t : Fin cfg0.N) (r : Fin 2048) (l : Fin 256) :
    out0_3 (iblk m c 0 t) (iblk m c 1 t) (iblk m c 2 t) (ix2 r l) = wanted m c (ix2 r (col t l)) := by
  frame_out
  pointwise [k0_pay1, val_main_v5, val_main_v4, val_main_v2, val_main_v1]
  rw [blk2, add_comm]
  congr 1
  refine Finset.sum_congr rfl fun e _ => ?_
  rw [blk0, blk1, cast, weight]

/-- The whole array is the reference's. -/
theorem arr : (dats m 0 c).arrAt 3 cfg0.N = wanted m c := by
  refine (dats m 0 c).arrAt_eq_of_covers 3 _ (by decide +kernel) fun t hf y => ?_
  blk_simp
  rw [after0_3]
  obtain ⟨r, l, rfl⟩ : ∃ (r : Fin 2048) (l : Fin 256), y = ix2 r l := ⟨y 0, y 1, eq_ix2 y⟩
  have h : (win0_3.blk t).view.emb (ix2 r l) = ix2 r (col t l) := by blk_ext [idx t, col]
  rw [h]
  exact point m c t r l

theorem frame : Cert.quiescent_DpleZero (hDpleZero := Cert.DpleZero.Gen.facts) := fun m g _ => Cert.DpleZero.Gen.frame m g

theorem frame_reference : Cert.quiescent_DpleZeroRefIdeal (hDpleZeroRefIdeal := Cert.DpleZeroRefIdeal.Gen.facts) := fun m g _ =>
  (θ_run _ _ _).mono (fun r h => ⟨fun c => (h c).2, sem_eq_zero_of_no_sems rfl r.2⟩) (Cert.DpleZeroRefIdeal.Value.run m g)

theorem equal : Cert.algebraic_DpleZeroIdeal_DpleZeroRefIdeal (hDpleZeroIdeal := Cert.DpleZeroIdeal.Gen.facts)
    (hDpleZeroRefIdeal := Cert.DpleZeroRefIdeal.Gen.facts) :=
  fun m g m' g' _ hagree => ⟨_, Cert.DpleZeroIdeal.Value.run_blocks m g, (θ_run _ _ _).mono (fun r h c => by
    refine ⟨((h c).1.trans (Cert.DpleZeroRefIdeal.Read.val_main_v5_eq _ _ _)).trans ?_, (h c).2⟩
    rw [(hagree c).1, (hagree c).2.1, (hagree c).2.2]
    exact (arr m c).symm) (Cert.DpleZeroRefIdeal.Value.run m' g')⟩

end Cert.Products.DpleZero

end
-- ==== Proof.GateZero.lean ====
/- Layer 0: the feed-forward layer's gate product: four blocks of columns. -/
module

public import proofs.«01_k».proof.Defs
public import proofs.«01_k».proof.Proof.Gen.GateZero.Frame
public import proofs.«01_k».proof.Proof.Gen.GateZeroIdeal.Value
public import proofs.«01_k».proof.Proof.Gen.GateZeroRefIdeal.Read
public import proofs.«01_k».proof.Proof.Sums
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.GateZero

open Cert.GateZeroIdeal Cert.GateZeroIdeal.Gen Cert.GateZeroRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

/-- What the reference computes from the same arguments. -/
abbrev wanted := val_main_v4 (F := Ideal) (m ((c : Thread nD τ).loc main_arg0)) (m ((c : Thread nD τ).loc main_arg1))

theorem idx : ∀ t : Fin cfg0.N, win0_0.index t = ![0, 0] ∧ win0_1.index t = ![t.val, 0, 0, 0] ∧ win0_2.index t = ![t.val, 0, 0] :=
  (by decide +kernel : ∀ t : Fin grid0.N, _)

theorem weight (k : Fin 4) (i : Fin 2) (e : Fin 1024) (l : Fin 704) :
    V m c main_v2 (ix4 k i e l) = m ((c : Thread nD τ).loc main_arg1) (ix3 i e ⟨k.val * 704 + l.val, by omega⟩) := by
  entry_read
  pointwise

theorem blk0 (t : Fin cfg0.N) (r : Fin 2048) (e : Fin 1024) :
    iblk m c 0 t (ix2 r e) = m ((c : Thread nD τ).loc main_arg0) (ix2 r e) := by
  blk_ext [iblk, V, idx t]
theorem blk1 (t : Fin cfg0.N) (z z' : Fin 1) (e : Fin 1024) (l : Fin 704) :
    iblk m c 1 t (ix4 z z' e l) = V m c main_v2 (ix4 ⟨t.val, t.isLt⟩ 0 e l) := by
  blk_ext [iblk, idx t]

theorem point (t : Fin cfg0.N) (z : Fin 1) (r : Fin 2048) (l : Fin 704) :
    out0_2 (iblk m c 0 t) (iblk m c 1 t) (ix3 z r l) = wanted m c (ix3 ⟨t.val, t.isLt⟩ r l) := by
  frame_out
  pointwise [k0_pay1, val_main_v4, val_main_v3, val_main_v2, val_main_v1, val_main_v0]
  refine Finset.sum_congr rfl fun e _ => ?_
  rw [blk0, blk1, weight]

/-- The whole array is the reference's. -/
theorem arr : (dats m 0 c).arrAt 2 cfg0.N = wanted m c := by
  refine (dats m 0 c).arrAt_eq_of_covers 2 _ (by decide +kernel) fun t hf y => ?_
  blk_simp
  rw [after0_2]
  obtain ⟨z, r, l, rfl⟩ : ∃ z r l, y = ix3 z r l := ⟨y 0, y 1, y 2, by funext i; fin_cases i <;> rfl⟩
  have h : (win0_2.blk t).view.emb (ix3 z r l) = ix3 ⟨t.val, t.isLt⟩ r l := by blk_ext [idx t]
  rw [h]
  exact point m c t z r l

theorem frame : Cert.quiescent_GateZero (hGateZero := Cert.GateZero.Gen.facts) := fun m g _ => Cert.GateZero.Gen.frame m g

theorem frame_reference : Cert.quiescent_GateZeroRefIdeal (hGateZeroRefIdeal := Cert.GateZeroRefIdeal.Gen.facts) := fun m g _ =>
  (θ_run _ _ _).mono (fun r h => ⟨fun c => (h c).2, sem_eq_zero_of_no_sems rfl r.2⟩) (Cert.GateZeroRefIdeal.Value.run m g)

theorem equal : Cert.algebraic_GateZeroIdeal_GateZeroRefIdeal (hGateZeroIdeal := Cert.GateZeroIdeal.Gen.facts)
    (hGateZeroRefIdeal := Cert.GateZeroRefIdeal.Gen.facts) :=
  fun m g m' g' _ hagree => ⟨_, Cert.GateZeroIdeal.Value.run_blocks m g, (θ_run _ _ _).mono (fun r h c => by
    refine ⟨((h c).1.trans (Cert.GateZeroRefIdeal.Read.val_main_v4_eq _ _)).trans ?_, (h c).2⟩
    rw [(hagree c).1, (hagree c).2]
    exact (arr m c).symm) (Cert.GateZeroRefIdeal.Value.run m' g')⟩

end Cert.Products.GateZero

end
-- ==== Proof.DownZero.lean ====
/- Layer 0: the feed-forward layer's down product, accumulated over four blocks of the weight's rows. -/
module

public import proofs.«01_k».proof.Defs
public import proofs.«01_k».proof.Proof.Gen.DownZero.Frame
public import proofs.«01_k».proof.Proof.Gen.DownZeroIdeal.Value
public import proofs.«01_k».proof.Proof.Gen.DownZeroRefIdeal.Read
public import proofs.«01_k».proof.Proof.Sums
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.DownZero

open Cert.DownZeroIdeal Cert.DownZeroIdeal.Gen Cert.DownZeroRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

/-- What the reference computes from the same arguments. -/
abbrev wanted := val_main_v2 (F := Ideal) (m ((c : Thread nD τ).loc main_arg0)) (m ((c : Thread nD τ).loc main_arg1))

theorem idx : ∀ t : Fin cfg0.N, win0_0.index t = ![t.val, 0, 0] ∧ win0_1.index t = ![t.val, 0, 0, 0] ∧ win0_2.index t = ![0, 0] :=
  (by decide +kernel : ∀ t : Fin grid0.N, _)

theorem quarter (k : Fin 4) (r : Fin 2048) (l : Fin 704) :
    V m c main_v2 (ix3 k r l) = m ((c : Thread nD τ).loc main_arg0) (ix2 r ⟨k.val * 704 + l.val, by omega⟩) := by
  entry_read
  pointwise
theorem weight (k : Fin 4) (l : Fin 704) (e : Fin 1024) :
    V m c main_v5 (ix4 k 0 l e) = m ((c : Thread nD τ).loc main_arg1) (ix3 0 ⟨k.val * 704 + l.val, by omega⟩ e) := by
  entry_read
  pointwise

theorem blk0 (t : Fin cfg0.N) (z : Fin 1) (r : Fin 2048) (l : Fin 704) :
    iblk m c 0 t (ix3 z r l) = V m c main_v2 (ix3 ⟨t.val, t.isLt⟩ r l) := by
  blk_ext [iblk, idx t]
theorem blk1 (t : Fin cfg0.N) (z z' : Fin 1) (l : Fin 704) (e : Fin 1024) :
    iblk m c 1 t (ix4 z z' l e) = V m c main_v5 (ix4 ⟨t.val, t.isLt⟩ 0 l e) := by
  blk_ext [iblk, idx t]

/-- The product with one quarter of the weight. -/
def part (a : FVec Ideal S2048x2816 .f32) (w : FVec Ideal S2x2816x1024 .f32) (t : Fin 4) (r : Fin 2048) (e : Fin 1024) : EReal :=
  ∑ l : Fin 704, a (ix2 r ⟨t.val * 704 + l.val, by omega⟩) * w (ix3 0 ⟨t.val * 704 + l.val, by omega⟩ e)

theorem parts (a : FVec Ideal S2048x2816 .f32) (w : FVec Ideal S2x2816x1024 .f32) (r : Fin 2048) (e : Fin 1024) :
    ∑ k, part a w k r e = ∑ x : Fin 2816, a (ix2 r x) * w (ix3 0 x e) :=
  sum_blocks (n := 4) (b := 704) (M := EReal) rfl (fun k l => by omega) fun x => a (ix2 r x) * w (ix3 0 x e)

/-- The part of grid point `t` at an index of the result. -/
abbrev partAt (t : Fin cfg0.N) (y : S2048x1024.Idx) : EReal :=
  part (m ((c : Thread nD τ).loc main_arg0)) (m ((c : Thread nD τ).loc main_arg1)) ⟨t.val, t.isLt⟩ (y 0) (y 1)

theorem prod (t : Fin cfg0.N) (y : S2048x1024.Idx) :
    k0_pay1 (F := Ideal) (iblk m c 0 t) (iblk m c 1 t) y = partAt m c t y := by
  obtain ⟨r, e, rfl⟩ : ∃ (r : Fin 2048) (e : Fin 1024), y = ix2 r e := ⟨y 0, y 1, eq_ix2 y⟩
  pointwise [k0_pay1, partAt, part]
  refine Finset.sum_congr rfl fun l _ => ?_
  rw [blk0, blk1, quarter, weight]

theorem first (t : Fin cfg0.N) (h : t.val % 4 = 0) (y : S2048x1024.Idx) : outsAt0 m c t.val t.isLt y = partAt m c t y := by
  rw [outsAt0_A m c t h (by have h4 : t.val < 4 := t.isLt; omega), ← prod]
  frame_out

theorem next (t : Fin cfg0.N) (h : ¬t.val % 4 = 0) (y : S2048x1024.Idx) :
    outsAt0 m c t.val t.isLt y =
      outsAt0 m c (t.val - 1) (Nat.lt_of_le_of_lt (Nat.sub_le _ _) t.isLt) y + partAt m c t y := by
  rw [outsAt0_B m c t h (by omega), ← prod]
  frame_out
  pointwise [k0_pay2]

/-- The whole array is the reference's. -/
theorem arr : (dats m 0 c).arrAt 2 cfg0.N = wanted m c := by
  refine (dats m 0 c).arrAt_eq_of_after_last 2 t0_3 (by decide +kernel) _ fun j => ?_
  blk_simp
  rw [after0_2, Pipeline.eq_sum_fin_of_reset_step_apply_last (fun n h => fun y : S2048x1024.Idx => outsAt0 m c n h y) 4 (fun _ => 0)
    (partAt m c) (fun t h y => (first m c t h y).trans (zero_add _).symm) (fun t h y => next m c t h y) (le_of_eq N_0) t0_3 rfl j]
  rw [eq_ix2 j, zero_add]
  pointwise [val_main_v2, val_main_v1, val_main_v0]
  exact parts _ _ _ _

theorem frame : Cert.quiescent_DownZero (hDownZero := Cert.DownZero.Gen.facts) := fun m g _ => Cert.DownZero.Gen.frame m g

theorem frame_reference : Cert.quiescent_DownZeroRefIdeal (hDownZeroRefIdeal := Cert.DownZeroRefIdeal.Gen.facts) := fun m g _ =>
  (θ_run _ _ _).mono (fun r h => ⟨fun c => (h c).2, sem_eq_zero_of_no_sems rfl r.2⟩) (Cert.DownZeroRefIdeal.Value.run m g)

theorem equal : Cert.algebraic_DownZeroIdeal_DownZeroRefIdeal (hDownZeroIdeal := Cert.DownZeroIdeal.Gen.facts)
    (hDownZeroRefIdeal := Cert.DownZeroRefIdeal.Gen.facts) :=
  fun m g m' g' _ hagree => ⟨_, Cert.DownZeroIdeal.Value.run_blocks m g, (θ_run _ _ _).mono (fun r h c => by
    refine ⟨((h c).1.trans (Cert.DownZeroRefIdeal.Read.val_main_v2_eq _ _)).trans ?_, (h c).2⟩
    rw [(hagree c).1, (hagree c).2]
    exact (arr m c).symm) (Cert.DownZeroRefIdeal.Value.run m' g')⟩

end Cert.Products.DownZero

end
-- ==== Proof.PgateZero.lean ====
/- Layer 0: the embedding gate's product, accumulated over four blocks of the weight's rows. -/
module

public import proofs.«01_k».proof.Defs
public import proofs.«01_k».proof.Proof.Gen.PgateZero.Frame
public import proofs.«01_k».proof.Proof.Gen.PgateZeroIdeal.Value
public import proofs.«01_k».proof.Proof.Gen.PgateZeroRefIdeal.Read
public import proofs.«01_k».proof.Proof.Sums
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.PgateZero

open Cert.PgateZeroIdeal Cert.PgateZeroIdeal.Gen Cert.PgateZeroRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

/-- What the reference computes from the same arguments. -/
abbrev wanted := val_main_v2 (F := Ideal) (m ((c : Thread nD τ).loc main_arg0)) (m ((c : Thread nD τ).loc main_arg1))

theorem idx : ∀ t : Fin cfg0.N, win0_0.index t = ![0, t.val] ∧ win0_1.index t = ![t.val, 0, 0, 0] ∧ win0_2.index t = ![0, 0] :=
  (by decide +kernel : ∀ t : Fin grid0.N, _)

theorem weight (k : Fin 4) (l : Fin 256) (e : Fin 1024) :
    V m c main_v2 (ix4 k 0 l e) = m ((c : Thread nD τ).loc main_arg1) (ix3 0 ⟨k.val * 256 + l.val, by omega⟩ e) := by
  entry_read
  pointwise

theorem blk0 (t : Fin cfg0.N) (r : Fin 2048) (l : Fin 256) :
    iblk m c 0 t (ix2 r l) = m ((c : Thread nD τ).loc main_arg0) (ix2 r ⟨t.val * 256 + l.val, by have h : t.val < 4 := t.isLt; omega⟩) := by
  blk_ext [iblk, V, idx t]
theorem blk1 (t : Fin cfg0.N) (z z' : Fin 1) (l : Fin 256) (e : Fin 1024) :
    iblk m c 1 t (ix4 z z' l e) = V m c main_v2 (ix4 ⟨t.val, t.isLt⟩ 0 l e) := by
  blk_ext [iblk, idx t]

/-- The product with one quarter of the weight. -/
def part (a : FVec Ideal S2048x1024 .f32) (w : FVec Ideal S2x1024x1024 .f32) (t : Fin 4) (r : Fin 2048) (e : Fin 1024) : EReal :=
  ∑ l : Fin 256, a (ix2 r ⟨t.val * 256 + l.val, by omega⟩) * w (ix3 0 ⟨t.val * 256 + l.val, by omega⟩ e)

theorem parts (a : FVec Ideal S2048x1024 .f32) (w : FVec Ideal S2x1024x1024 .f32) (r : Fin 2048) (e : Fin 1024) :
    ∑ k, part a w k r e = ∑ x : Fin 1024, a (ix2 r x) * w (ix3 0 x e) :=
  sum_blocks (n := 4) (b := 256) (M := EReal) rfl (fun k l => by omega) fun x => a (ix2 r x) * w (ix3 0 x e)

/-- The part of grid point `t` at an index of the result. -/
abbrev partAt (t : Fin cfg0.N) (y : S2048x1024.Idx) : EReal :=
  part (m ((c : Thread nD τ).loc main_arg0)) (m ((c : Thread nD τ).loc main_arg1)) ⟨t.val, t.isLt⟩ (y 0) (y 1)

theorem prod (t : Fin cfg0.N) (y : S2048x1024.Idx) :
    k0_pay1 (F := Ideal) (iblk m c 0 t) (iblk m c 1 t) y = partAt m c t y := by
  obtain ⟨r, e, rfl⟩ : ∃ (r : Fin 2048) (e : Fin 1024), y = ix2 r e := ⟨y 0, y 1, eq_ix2 y⟩
  pointwise [k0_pay1, partAt, part]
  refine Finset.sum_congr rfl fun l _ => ?_
  rw [blk0, blk1, weight]

theorem first (t : Fin cfg0.N) (h : t.val % 4 = 0) (y : S2048x1024.Idx) : outsAt0 m c t.val t.isLt y = partAt m c t y := by
  rw [outsAt0_A m c t h (by have h4 : t.val < 4 := t.isLt; omega), ← prod]
  frame_out

theorem next (t : Fin cfg0.N) (h : ¬t.val % 4 = 0) (y : S2048x1024.Idx) :
    outsAt0 m c t.val t.isLt y =
      outsAt0 m c (t.val - 1) (Nat.lt_of_le_of_lt (Nat.sub_le _ _) t.isLt) y + partAt m c t y := by
  rw [outsAt0_B m c t h (by omega), ← prod]
  frame_out
  pointwise [k0_pay2]

/-- The whole array is the reference's. -/
theorem arr : (dats m 0 c).arrAt 2 cfg0.N = wanted m c := by
  refine (dats m 0 c).arrAt_eq_of_after_last 2 t0_3 (by decide +kernel) _ fun j => ?_
  blk_simp
  rw [after0_2, Pipeline.eq_sum_fin_of_reset_step_apply_last (fun n h => fun y : S2048x1024.Idx => outsAt0 m c n h y) 4 (fun _ => 0)
    (partAt m c) (fun t h y => (first m c t h y).trans (zero_add _).symm) (fun t h y => next m c t h y) (le_of_eq N_0) t0_3 rfl j]
  rw [eq_ix2 j, zero_add]
  pointwise [val_main_v2, val_main_v1, val_main_v0]
  exact parts _ _ _ _

theorem frame : Cert.quiescent_PgateZero (hPgateZero := Cert.PgateZero.Gen.facts) := fun m g _ => Cert.PgateZero.Gen.frame m g

theorem frame_reference : Cert.quiescent_PgateZeroRefIdeal (hPgateZeroRefIdeal := Cert.PgateZeroRefIdeal.Gen.facts) := fun m g _ =>
  (θ_run _ _ _).mono (fun r h => ⟨fun c => (h c).2, sem_eq_zero_of_no_sems rfl r.2⟩) (Cert.PgateZeroRefIdeal.Value.run m g)

theorem equal : Cert.algebraic_PgateZeroIdeal_PgateZeroRefIdeal (hPgateZeroIdeal := Cert.PgateZeroIdeal.Gen.facts)
    (hPgateZeroRefIdeal := Cert.PgateZeroRefIdeal.Gen.facts) :=
  fun m g m' g' _ hagree => ⟨_, Cert.PgateZeroIdeal.Value.run_blocks m g, (θ_run _ _ _).mono (fun r h c => by
    refine ⟨((h c).1.trans (Cert.PgateZeroRefIdeal.Read.val_main_v2_eq _ _)).trans ?_, (h c).2⟩
    rw [(hagree c).1, (hagree c).2]
    exact (arr m c).symm) (Cert.PgateZeroRefIdeal.Value.run m' g')⟩

end Cert.Products.PgateZero

end
-- ==== Proof.PprojZero.lean ====
/- Layer 0: the projection of the per-layer embedding: four blocks of columns. -/
module

public import proofs.«01_k».proof.Defs
public import proofs.«01_k».proof.Proof.Gen.PprojZero.Frame
public import proofs.«01_k».proof.Proof.Gen.PprojZeroIdeal.Value
public import proofs.«01_k».proof.Proof.Gen.PprojZeroRefIdeal.Read
public import proofs.«01_k».proof.Proof.Sums
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.PprojZero

open Cert.PprojZeroIdeal Cert.PprojZeroIdeal.Gen Cert.PprojZeroRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

/-- What the reference computes from the same arguments. -/
abbrev wanted := val_main_v2 (F := Ideal) (m ((c : Thread nD τ).loc main_arg0)) (m ((c : Thread nD τ).loc main_arg1))

theorem idx : ∀ t : Fin cfg0.N, win0_0.index t = ![0, 0] ∧ win0_1.index t = ![t.val, 0, 0, 0] ∧ win0_2.index t = ![0, t.val] :=
  (by decide +kernel : ∀ t : Fin grid0.N, _)

/-- Column `l` of the result's block of grid point `t`. -/
abbrev col (t : Fin cfg0.N) (l : Fin 256) : Fin 1024 := ⟨t.val * 256 + l.val, by have h : t.val < 4 := t.isLt; omega⟩

theorem weight (k : Fin 4) (i : Fin 2) (e l : Fin 256) :
    V m c main_v2 (ix4 k i e l) = m ((c : Thread nD τ).loc main_arg1) (ix3 i e ⟨k.val * 256 + l.val, by omega⟩) := by
  entry_read
  pointwise

theorem blk0 (t : Fin cfg0.N) (r : Fin 2048) (e : Fin 256) :
    iblk m c 0 t (ix2 r e) = m ((c : Thread nD τ).loc main_arg0) (ix2 r e) := by
  blk_ext [iblk, V, idx t]
theorem blk1 (t : Fin cfg0.N) (z z' : Fin 1) (e l : Fin 256) :
    iblk m c 1 t (ix4 z z' e l) = V m c main_v2 (ix4 ⟨t.val, t.isLt⟩ 0 e l) := by
  blk_ext [iblk, idx t]

theorem point (t : Fin cfg0.N) (r : Fin 2048) (l : Fin 256) :
    out0_2 (iblk m c 0 t) (iblk m c 1 t) (ix2 r l) = wanted m c (ix2 r (col t l)) := by
  frame_out
  pointwise [k0_pay1, val_main_v2, val_main_v1, val_main_v0]
  refine Finset.sum_congr rfl fun e _ => ?_
  rw [blk0, blk1, weight]

/-- The whole array is the reference's. -/
theorem arr : (dats m 0 c).arrAt 2 cfg0.N = wanted m c := by
  refine (dats m 0 c).arrAt_eq_of_covers 2 _ (by decide +kernel) fun t hf y => ?_
  blk_simp
  rw [after0_2]
  obtain ⟨r, l, rfl⟩ : ∃ (r : Fin 2048) (l : Fin 256), y = ix2 r l := ⟨y 0, y 1, eq_ix2 y⟩
  have h : (win0_2.blk t).view.emb (ix2 r l) = ix2 r (col t l) := by blk_ext [idx t, col]
  rw [h]
  exact point m c t r l

theorem frame : Cert.quiescent_PprojZero (hPprojZero := Cert.PprojZero.Gen.facts) := fun m g _ => Cert.PprojZero.Gen.frame m g

theorem frame_reference : Cert.quiescent_PprojZeroRefIdeal (hPprojZeroRefIdeal := Cert.PprojZeroRefIdeal.Gen.facts) := fun m g _ =>
  (θ_run _ _ _).mono (fun r h => ⟨fun c => (h c).2, sem_eq_zero_of_no_sems rfl r.2⟩) (Cert.PprojZeroRefIdeal.Value.run m g)

theorem equal : Cert.algebraic_PprojZeroIdeal_PprojZeroRefIdeal (hPprojZeroIdeal := Cert.PprojZeroIdeal.Gen.facts)
    (hPprojZeroRefIdeal := Cert.PprojZeroRefIdeal.Gen.facts) :=
  fun m g m' g' _ hagree => ⟨_, Cert.PprojZeroIdeal.Value.run_blocks m g, (θ_run _ _ _).mono (fun r h c => by
    refine ⟨((h c).1.trans (Cert.PprojZeroRefIdeal.Read.val_main_v2_eq _ _)).trans ?_, (h c).2⟩
    rw [(hagree c).1, (hagree c).2]
    exact (arr m c).symm) (Cert.PprojZeroRefIdeal.Value.run m' g')⟩

end Cert.Products.PprojZero

end
-- ==== Proof.Swiglu.lean ====
/- The gated activation of the feed-forward part: `silu hg * hu`, entry by entry. -/
module

public import proofs.«01_k».proof.Defs
public import proofs.«01_k».proof.Proof.Gen.Swiglu.Frame
public import proofs.«01_k».proof.Proof.Gen.SwigluIdeal.Value
public import proofs.«01_k».proof.Proof.Gen.SwigluRefIdeal.Read
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.Swiglu

open Cert.SwigluIdeal Cert.SwigluIdeal.Gen Cert.SwigluRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

theorem same (hg hu : FVec Ideal S4x2048x704 .f32) : Cert.SwigluIdeal.Value.G2 (F := Ideal) hg hu = val_main_v2 (F := Ideal) hg hu := by
  funext y
  pointwise [val_main_v2, val_main_v1, val_main_v0, val_main_call0_v5, val_main_call0_v4, val_main_call0_cst_0, val_main_call0_v3, val_main_call0_v2, val_main_call0_cst, val_main_call0_v1, val_main_call0_v0]
  simp only [zero_sub]

theorem frame : Cert.quiescent_Swiglu (hSwiglu := Cert.Swiglu.Gen.facts) := fun m g _ => Cert.Swiglu.Gen.frame m g

theorem frame_reference : Cert.quiescent_SwigluRefIdeal (hSwigluRefIdeal := Cert.SwigluRefIdeal.Gen.facts) := fun m g _ =>
  (θ_run _ _ _).mono (fun r h => ⟨fun c => (h c).2, sem_eq_zero_of_no_sems rfl r.2⟩) (Cert.SwigluRefIdeal.Value.run m g)

theorem equal : Cert.algebraic_SwigluIdeal_SwigluRefIdeal (hSwigluIdeal := Cert.SwigluIdeal.Gen.facts)
    (hSwigluRefIdeal := Cert.SwigluRefIdeal.Gen.facts) :=
  fun m g m' g' _ hagree => ⟨_, Cert.SwigluIdeal.Value.run m g, (θ_run _ _ _).mono (fun r h c => by
    obtain ⟨h0, hargs⟩ := h c
    obtain ⟨e0, e1⟩ := hagree c
    refine ⟨(h0.trans (val_main_v2_eq _ _)).trans ?_, hargs⟩
    · rw [e0, e1]; exact (same _ _).symm) (Cert.SwigluRefIdeal.Value.run m' g')⟩

end Cert.Products.Swiglu

end
-- ==== Proof.Sigmoid.lean ====
/- The derivative of `h * sigmoid h`, in the kernel's form and in the form that the product rule gives. -/
module

public import proofs.«01_k».proof.Proof.Lift

@[expose] public section

noncomputable section

namespace Cert.Products

open Idealize.ShloMosaic

/-- The logistic function of the exact semantics. -/
def sig (h : EReal) : EReal := Ideal.div ((1 : ℝ) : EReal) (((1 : ℝ) : EReal) + Ideal.exp (0 - h))

theorem sig_coe (h : ℝ) : sig (h : EReal) = ((1 / (1 + Real.exp (-h)) : ℝ) : EReal) := by
  have hp : (1 + Real.exp (-h) : ℝ) ≠ 0 := (add_pos one_pos (Real.exp_pos _)).ne'
  rw [sig, zero_sub, ← EReal.coe_neg, Ideal.exp_coe, ← EReal.coe_add, Ideal.div_coe hp, ← EReal.coe_mul, one_mul]

theorem sig_top : sig ⊤ = 1 := by
  simp [sig, Ideal.div]

theorem sig_bot : sig ⊥ = 0 := by
  have h : ((1 : ℝ) : EReal) + Ideal.exp (0 - ⊥) = ⊤ := by
    have h := EReal.coe_add_top 1
    simpa using h
  rw [sig, h]
  simp [Ideal.div]

/-- The two forms of the derivative agree at a real factor `d`, whatever `h` is. -/
theorem slope_eq (d : ℝ) (h : EReal) :
    (d : EReal) * sig h * (1 + h * (1 - sig h)) = (d : EReal) * sig h + h * (d : EReal) * (sig h * (1 - sig h)) := by
  induction h with
  | bot => simp [sig_bot]
  | top =>
    have h0 : (1 : EReal) - 1 = 0 := by rw [← EReal.coe_one, ← EReal.coe_sub]; simp
    simp [sig_top, h0]
  | coe h =>
    rw [sig_coe]
    generalize (1 / (1 + Real.exp (-h)) : ℝ) = s
    rw [← EReal.coe_one]
    simp only [← EReal.coe_mul, ← EReal.coe_sub, ← EReal.coe_add]
    congr 1
    ring

end Cert.Products

end

end
-- ==== Proof.Dswiglu.lean ====
/- The gradient of the gated product `h * sigmoid h * u` with respect to its two factors, entry by entry, where the
   gradient that it receives and the linear factor are finite. -/
module

public import proofs.«01_k».proof.Defs
public import proofs.«01_k».proof.Proof.Gen.Dswiglu.Frame
public import proofs.«01_k».proof.Proof.Gen.DswigluIdeal.Value
public import proofs.«01_k».proof.Proof.Gen.DswigluRefIdeal.Read
public import proofs.«01_k».proof.Proof.Start
public import proofs.«01_k».proof.Proof.Sigmoid
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.Dswiglu

open Cert.DswigluIdeal Cert.DswigluIdeal.Gen Cert.DswigluIdeal.Value Cert.DswigluRefIdeal.Read Idealize.ShloMosaic Idealize.ShloMosaic.TcCoe Idealize.SL.Sem

/-- The shape relation of the precondition's broadcasts. -/
theorem preFacts : Cert.Pre_finite_dswiglu.Facts where
  bcast_S_S4x2048x704 := by decide

attribute [local instance] preFacts

variable (da hg hu : FVec Ideal S4x2048x704 .f32)

theorem linear : G4 hg da = val_main_v6 (F := Ideal) da hg := by
  funext y
  pointwise [val_main_v6, val_main_v2, val_main_v0_0, val_main_v0_2, val_main_call0_v4, val_main_call0_cst_0, val_main_call0_v3, val_main_call0_v2, val_main_call0_cst, val_main_call0_v1, val_main_call0_v0]
  simp only [zero_sub]
  rw [mul_assoc, mul_comm]

theorem gate (hd : ∀ i, da i = ((da i).toReal : EReal)) (hh : ∀ i, hu i = ((hu i).toReal : EReal)) :
    G3 hg da hu = val_main_v5 (F := Ideal) da hg hu := by
  funext y
  have key := slope_eq ((da y).toReal * (hu y).toReal) (hg y)
  rw [EReal.coe_mul, ← hd, ← hh] at key
  pointwise [val_main_v5, val_main_v4, val_main_call1_v2, val_main_call1_v1, val_main_call1_v0, val_main_v3, val_main_v0_1, val_main_v0_2, val_main_call0_v7, val_main_call0_v6, val_main_call0_cst_1, val_main_call0_v4, val_main_call0_cst_0, val_main_call0_v3, val_main_call0_v2, val_main_call0_cst, val_main_call0_v1, val_main_call0_v0]
  simp only [sig, zero_sub, EReal.coe_one] at key
  simp only [zero_sub]
  exact key

theorem frame : Cert.quiescent_Dswiglu (hDswiglu := Cert.Dswiglu.Gen.facts) := fun m g _ => Cert.Dswiglu.Gen.frame m g

theorem frame_reference : Cert.quiescent_DswigluRefIdeal (hDswigluRefIdeal := Cert.DswigluRefIdeal.Gen.facts) := fun m g _ =>
  (θ_run _ _ _).mono (fun r h => ⟨fun c => (h c).2.2, sem_eq_zero_of_no_sems rfl r.2⟩) (Cert.DswigluRefIdeal.Value.run m g)

theorem equal : Cert.algebraic_DswigluIdeal_DswigluRefIdeal_pre_finite_dswiglu (hDswigluIdeal := Cert.DswigluIdeal.Gen.facts)
    (hDswigluRefIdeal := Cert.DswigluRefIdeal.Gen.facts) :=
  fun m g m' g' hpre hagree => ⟨_, _, Cert.DswigluIdeal.Value.run m g, (θ_run _ _ _).mono (fun r h c => by
    obtain ⟨h0, h1, hargs⟩ := h c
    obtain ⟨e0, e1, e2⟩ := hagree c
    have hp := hpre c
    refine ⟨(h0.trans (val_main_v5_eq _ _ _)).trans ?_, (h1.trans (val_main_v6_eq _ _)).trans ?_, hargs⟩
    · rw [e0, e1, e2]
      exact (gate _ _ _ (Cert.Gmlp.real_of_below _ _ (fun _ => Cert.Gmlp.word_inf) hp.1) (Cert.Gmlp.real_of_below _ _ (fun _ => Cert.Gmlp.word_inf) hp.2)).symm
    · rw [e0, e1]; exact (linear _ _).symm) (Cert.DswigluRefIdeal.Value.run m' g')⟩

end Cert.Products.Dswiglu

end
-- ==== Proof.Gated.lean ====
/- The gated embedding added to the running value: `x2 + sigmoid (gp + bias) * pp`, entry by entry. -/
module

public import proofs.«01_k».proof.Defs
public import proofs.«01_k».proof.Proof.Gen.Gated.Frame
public import proofs.«01_k».proof.Proof.Gen.GatedIdeal.Value
public import proofs.«01_k».proof.Proof.Gen.GatedRefIdeal.Read
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.Gated

open Cert.GatedIdeal Cert.GatedIdeal.Gen Cert.GatedRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

/-! What the reference computes from the same arguments. -/
abbrev gated := val_main_v9 (F := Ideal) (m ((c : Thread nD τ).loc main_arg0)) (m ((c : Thread nD τ).loc main_arg1)) (m ((c : Thread nD τ).loc main_arg2)) (m ((c : Thread nD τ).loc main_arg3))

theorem idx : ∀ t : Fin cfg0.N, win0_0.index t = ![t.val, 0] ∧ win0_1.index t = ![t.val, 0] ∧ win0_2.index t = ![0, 0] ∧ win0_3.index t = ![t.val, 0] ∧ win0_4.index t = ![t.val, 0] :=
  (by decide +kernel : ∀ t : Fin grid0.N, _)

/-- Row `l` of the blocks of grid point `t`. -/
abbrev row (t : Fin cfg0.N) (l : Fin 512) : Fin 2048 := ⟨t.val * 512 + l.val, by have h : t.val < 4 := t.isLt; omega⟩

theorem blk0 (t : Fin cfg0.N) (l : Fin 512) (e : Fin 1024) : iblk m c 0 t (ix2 l e) = m ((c : Thread nD τ).loc main_arg0) (ix2 (row t l) e) := by
  blk_ext [iblk, V, idx t, row]
theorem blk1 (t : Fin cfg0.N) (l : Fin 512) (e : Fin 1024) : iblk m c 1 t (ix2 l e) = m ((c : Thread nD τ).loc main_arg1) (ix2 (row t l) e) := by
  blk_ext [iblk, V, idx t, row]
theorem blk2 (t : Fin cfg0.N) (z : Fin 1) (e : Fin 1024) : iblk m c 2 t (ix2 z e) = m ((c : Thread nD τ).loc main_arg2) (ix2 0 e) := by
  blk_ext [iblk, V, idx t]
theorem blk3 (t : Fin cfg0.N) (l : Fin 512) (e : Fin 1024) : iblk m c 3 t (ix2 l e) = m ((c : Thread nD τ).loc main_arg3) (ix2 (row t l) e) := by
  blk_ext [iblk, V, idx t, row]

theorem point (t : Fin cfg0.N) (l : Fin 512) (e : Fin 1024) :
    out0_4 (iblk m c 0 t) (iblk m c 1 t) (iblk m c 2 t) (iblk m c 3 t) (ix2 l e) = gated m c (ix2 (row t l) e) := by
  frame_out
  pointwise [k0_pay1, val_main_v9, val_main_v8, val_main_v7, val_main_v6, val_main_cst_0, val_main_v5, val_main_v4, val_main_cst, val_main_v3, val_main_v2, val_main_v1, val_main_v0]
  rw [blk0, blk1, blk2, blk3]
  simp only [zero_sub]

theorem arr_gated : (dats m 0 c).arrAt 4 cfg0.N = gated m c := by
  refine (dats m 0 c).arrAt_eq_of_covers 4 _ (by decide +kernel) fun t hf y => ?_
  blk_simp
  rw [after0_4]
  obtain ⟨l, e, rfl⟩ : ∃ (l : Fin 512) (e : Fin 1024), y = ix2 l e := ⟨y 0, y 1, eq_ix2 y⟩
  have h : (win0_4.blk t).view.emb (ix2 l e) = ix2 (row t l) e := by blk_ext [idx t, row]
  rw [h]
  exact point m c t l e

theorem frame : Cert.quiescent_Gated (hGated := Cert.Gated.Gen.facts) := fun m g _ => Cert.Gated.Gen.frame m g

theorem frame_reference : Cert.quiescent_GatedRefIdeal (hGatedRefIdeal := Cert.GatedRefIdeal.Gen.facts) := fun m g _ =>
  (θ_run _ _ _).mono (fun r h => ⟨fun c => (h c).2, sem_eq_zero_of_no_sems rfl r.2⟩) (Cert.GatedRefIdeal.Value.run m g)

theorem equal : Cert.algebraic_GatedIdeal_GatedRefIdeal (hGatedIdeal := Cert.GatedIdeal.Gen.facts)
    (hGatedRefIdeal := Cert.GatedRefIdeal.Gen.facts) :=
  fun m g m' g' _ hagree => ⟨_, Cert.GatedIdeal.Value.run_blocks m g, (θ_run _ _ _).mono (fun r h c => by
    obtain ⟨h0, hargs⟩ := h c
    obtain ⟨e0, e1, e2, e3⟩ := hagree c
    refine ⟨(h0.trans (val_main_v9_eq _ _ _ _)).trans ?_, hargs⟩
    · rw [e0, e1, e2, e3]; exact (arr_gated m c).symm) (Cert.GatedRefIdeal.Value.run m' g')⟩

end Cert.Products.Gated

end
-- ==== Proof.Dgated.lean ====
/- The gradient of the gated embedding, a block of rows at a time: of the gate, of the embedding, and of the bias, which is summed over all the rows. -/
module

public import proofs.«01_k».proof.Defs
public import proofs.«01_k».proof.Proof.Gen.Dgated.Frame
public import proofs.«01_k».proof.Proof.Gen.DgatedIdeal.Value
public import proofs.«01_k».proof.Proof.Gen.DgatedRefIdeal.Read
public import proofs.«01_k».proof.Proof.Sums
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.Dgated

open Cert.DgatedIdeal Cert.DgatedIdeal.Gen Cert.DgatedRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

/-! What the reference computes from the same arguments. -/
abbrev dgp := val_main_v17 (F := Ideal) (m ((c : Thread nD τ).loc main_arg0)) (m ((c : Thread nD τ).loc main_arg1)) (m ((c : Thread nD τ).loc main_arg2)) (m ((c : Thread nD τ).loc main_arg3))
abbrev dpp := val_main_v18 (F := Ideal) (m ((c : Thread nD τ).loc main_arg0)) (m ((c : Thread nD τ).loc main_arg1)) (m ((c : Thread nD τ).loc main_arg2))
abbrev db := val_main_v16 (F := Ideal) (m ((c : Thread nD τ).loc main_arg0)) (m ((c : Thread nD τ).loc main_arg1)) (m ((c : Thread nD τ).loc main_arg2)) (m ((c : Thread nD τ).loc main_arg3))

theorem idx : ∀ t : Fin cfg0.N, win0_0.index t = ![t.val, 0] ∧ win0_1.index t = ![t.val, 0] ∧ win0_2.index t = ![0, 0] ∧ win0_3.index t = ![t.val, 0] ∧ win0_4.index t = ![t.val, 0] ∧ win0_5.index t = ![t.val, 0] ∧ win0_6.index t = ![0, 0] :=
  (by decide +kernel : ∀ t : Fin grid0.N, _)

/-- Row `l` of the blocks of grid point `t`. -/
abbrev row (t : Fin cfg0.N) (l : Fin 512) : Fin 2048 := ⟨t.val * 512 + l.val, by have h : t.val < 4 := t.isLt; omega⟩

theorem blk0 (t : Fin cfg0.N) (l : Fin 512) (e : Fin 1024) : iblk m c 0 t (ix2 l e) = m ((c : Thread nD τ).loc main_arg0) (ix2 (row t l) e) := by
  blk_ext [iblk, V, idx t, row]
theorem blk1 (t : Fin cfg0.N) (l : Fin 512) (e : Fin 1024) : iblk m c 1 t (ix2 l e) = m ((c : Thread nD τ).loc main_arg1) (ix2 (row t l) e) := by
  blk_ext [iblk, V, idx t, row]
theorem blk2 (t : Fin cfg0.N) (z : Fin 1) (e : Fin 1024) : iblk m c 2 t (ix2 z e) = m ((c : Thread nD τ).loc main_arg2) (ix2 0 e) := by
  blk_ext [iblk, V, idx t]
theorem blk3 (t : Fin cfg0.N) (l : Fin 512) (e : Fin 1024) : iblk m c 3 t (ix2 l e) = m ((c : Thread nD τ).loc main_arg3) (ix2 (row t l) e) := by
  blk_ext [iblk, V, idx t, row]

/-- The gate's gradient before it is rounded. -/
abbrev slope := val_main_v14 (F := Ideal) (m ((c : Thread nD τ).loc main_arg0)) (m ((c : Thread nD τ).loc main_arg1)) (m ((c : Thread nD τ).loc main_arg2)) (m ((c : Thread nD τ).loc main_arg3))

theorem slope_at (t : Fin cfg0.N) (l : Fin 512) (e : Fin 1024) :
    k0_pay3 (F := Ideal) (iblk m c 0 t) (iblk m c 1 t) (iblk m c 2 t) (iblk m c 3 t) (ix2 l e) = slope m c (ix2 (row t l) e) := by
  pointwise [k0_pay3, k0_pay2, val_main_v14, val_main_v13, val_main_v12, val_main_v10, val_main_v9, val_main_v8, val_main_cst_1, val_main_v7, val_main_v6, val_main_cst_0, val_main_v5, val_main_v4, val_main_cst, val_main_v3, val_main_v2, val_main_v1, val_main_v0]
  rw [blk0, blk1, blk2, blk3]
  simp only [zero_sub, mul_assoc]

theorem gate_at (t : Fin cfg0.N) (l : Fin 512) (e : Fin 1024) :
    k0_pay4 (F := Ideal) (iblk m c 0 t) (iblk m c 1 t) (iblk m c 2 t) (iblk m c 3 t) (ix2 l e) = dgp m c (ix2 (row t l) e) := by
  pointwise [k0_pay4, val_main_v17]
  exact slope_at m c t l e

theorem emb_at (t : Fin cfg0.N) (l : Fin 512) (e : Fin 1024) :
    k0_pay5 (F := Ideal) (iblk m c 0 t) (iblk m c 1 t) (iblk m c 2 t) (ix2 l e) = dpp m c (ix2 (row t l) e) := by
  pointwise [k0_pay5, k0_pay2, val_main_v18, val_main_v14, val_main_v13, val_main_v12, val_main_v10, val_main_v9, val_main_v8, val_main_cst_1, val_main_v7, val_main_v6, val_main_cst_0, val_main_v5, val_main_v4, val_main_cst, val_main_v3, val_main_v2, val_main_v1, val_main_v0]
  rw [blk0, blk1, blk2]
  simp only [zero_sub]
  exact mul_comm _ _

theorem point_gate (t : Fin cfg0.N) (l : Fin 512) (e : Fin 1024) :
    (outsAt0 m c t.val t.isLt).1 (ix2 l e) = dgp m c (ix2 (row t l) e) := by
  by_cases h : t.val % 4 = 0
  · rw [outsAt0_A m c t h]
    frame_out
    exact gate_at m c t l e
  · rw [outsAt0_B m c t h]
    frame_out
    exact gate_at m c t l e

theorem point_emb (t : Fin cfg0.N) (l : Fin 512) (e : Fin 1024) :
    (outsAt0 m c t.val t.isLt).2.1 (ix2 l e) = dpp m c (ix2 (row t l) e) := by
  by_cases h : t.val % 4 = 0
  · rw [outsAt0_A m c t h]
    frame_out
    exact emb_at m c t l e
  · rw [outsAt0_B m c t h]
    frame_out
    exact emb_at m c t l e

theorem arr_dgp : (dats m 0 c).arrAt 4 cfg0.N = dgp m c := by
  refine (dats m 0 c).arrAt_eq_of_covers 4 _ (by decide +kernel) fun t hf y => ?_
  blk_simp
  rw [after0_4]
  obtain ⟨l, e, rfl⟩ : ∃ (l : Fin 512) (e : Fin 1024), y = ix2 l e := ⟨y 0, y 1, eq_ix2 y⟩
  have h : (win0_4.blk t).view.emb (ix2 l e) = ix2 (row t l) e := by blk_ext [idx t, row]
  rw [h]
  exact point_gate m c t l e

theorem arr_dpp : (dats m 0 c).arrAt 5 cfg0.N = dpp m c := by
  refine (dats m 0 c).arrAt_eq_of_covers 5 _ (by decide +kernel) fun t hf y => ?_
  blk_simp
  rw [after0_5]
  obtain ⟨l, e, rfl⟩ : ∃ (l : Fin 512) (e : Fin 1024), y = ix2 l e := ⟨y 0, y 1, eq_ix2 y⟩
  have h : (win0_5.blk t).view.emb (ix2 l e) = ix2 (row t l) e := by blk_ext [idx t, row]
  rw [h]
  exact point_emb m c t l e

/-- The sum of the gate's gradient over one block of rows. -/
abbrev partAt (t : Fin cfg0.N) (y : S1x1024.Idx) : EReal :=
  ∑ l : Fin 512, @id (FVec Ideal S2048x1024 .f32) (slope m c) (ix2 ⟨t.val * 512 + l.val, by have h : t.val < 4 := t.isLt; omega⟩ (y 1))

theorem first (t : Fin cfg0.N) (h : t.val % 4 = 0) (y : S1x1024.Idx) :
    (outsAt0 m c t.val t.isLt).2.2 y = 0 + partAt m c t y := by
  obtain ⟨z, e, rfl⟩ : ∃ (z : Fin 1) (e : Fin 1024), y = ix2 z e := ⟨y 0, y 1, eq_ix2 y⟩
  rw [outsAt0_A m c t h]
  frame_out
  pointwise [k0_pay6, k0_pay1]
  simp only [slope_at]
  rfl

theorem next (t : Fin cfg0.N) (h : ¬t.val % 4 = 0) (y : S1x1024.Idx) :
    (outsAt0 m c t.val t.isLt).2.2 y =
      (outsAt0 m c (t.val - 1) (Nat.lt_of_le_of_lt (Nat.sub_le _ _) t.isLt)).2.2 y + partAt m c t y := by
  obtain ⟨z, e, rfl⟩ : ∃ (z : Fin 1) (e : Fin 1024), y = ix2 z e := ⟨y 0, y 1, eq_ix2 y⟩
  rw [outsAt0_B m c t h]
  frame_out
  pointwise [k0_pay6]
  simp only [slope_at]
  rfl

/-- The bias's gradient. -/
theorem arr_db : (dats m 0 c).arrAt 6 cfg0.N = db m c := by
  refine (dats m 0 c).arrAt_eq_of_after_last 6 t0_3 (by decide +kernel) _ fun j => ?_
  blk_simp
  rw [after0_6, Pipeline.eq_sum_fin_of_reset_step_apply_last (fun n h => fun y : S1x1024.Idx => (outsAt0 m c n h).2.2 y) 4 (fun _ => (0 : EReal))
    (partAt m c) (fun t h y => first m c t h y) (fun t h y => next m c t h y) (le_of_eq N_0) t0_3 rfl j]
  obtain ⟨z, e, rfl⟩ : ∃ (z : Fin 1) (e : Fin 1024), j = ix2 z e := ⟨j 0, j 1, eq_ix2 j⟩
  pointwise [val_main_v16, val_main_v15, val_main_cst_2]
  exact sum_blocks (n := 4) (b := 512) (M := EReal) rfl (fun k l => by omega) fun x => @id (FVec Ideal S2048x1024 .f32) (slope m c) (ix2 x e)

theorem frame : Cert.quiescent_Dgated (hDgated := Cert.Dgated.Gen.facts) := fun m g _ => Cert.Dgated.Gen.frame m g

theorem frame_reference : Cert.quiescent_DgatedRefIdeal (hDgatedRefIdeal := Cert.DgatedRefIdeal.Gen.facts) := fun m g _ =>
  (θ_run _ _ _).mono (fun r h => ⟨fun c => (h c).2.2.2, sem_eq_zero_of_no_sems rfl r.2⟩) (Cert.DgatedRefIdeal.Value.run m g)

theorem equal : Cert.algebraic_DgatedIdeal_DgatedRefIdeal (hDgatedIdeal := Cert.DgatedIdeal.Gen.facts)
    (hDgatedRefIdeal := Cert.DgatedRefIdeal.Gen.facts) :=
  fun m g m' g' _ hagree => ⟨_, _, _, Cert.DgatedIdeal.Value.run_blocks m g, (θ_run _ _ _).mono (fun r h c => by
    obtain ⟨h0, h1, h2, hargs⟩ := h c
    obtain ⟨e0, e1, e2, e3⟩ := hagree c
    refine ⟨(h0.trans (val_main_v17_eq _ _ _ _)).trans ?_, (h1.trans (val_main_v18_eq _ _ _)).trans ?_, (h2.trans (val_main_v16_eq _ _ _ _)).trans ?_, hargs⟩
    · rw [e0, e1, e2, e3]; exact (arr_dgp m c).symm
    · rw [e0, e1, e2]; exact (arr_dpp m c).symm
    · rw [e0, e1, e2, e3]; exact (arr_db m c).symm) (Cert.DgatedRefIdeal.Value.run m' g')⟩

end Cert.Products.Dgated

end
-- ==== Proof.Norm.lean ====
/- The residual layer norm, a block of rows at a time: the normalised rows, scaled and shifted; the same before scaling; and the reciprocal deviation of each row. -/
module

public import proofs.«01_k».proof.Defs
public import proofs.«01_k».proof.Proof.Gen.Norm.Frame
public import proofs.«01_k».proof.Proof.Gen.NormIdeal.Value
public import proofs.«01_k».proof.Proof.Gen.NormRefIdeal.Read
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.Norm

open Cert.NormIdeal Cert.NormIdeal.Gen Cert.NormRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

/-! What the reference computes from the same arguments. -/
abbrev out := val_main_v24 (F := Ideal) (m ((c : Thread nD τ).loc main_arg0)) (m ((c : Thread nD τ).loc main_arg1)) (m ((c : Thread nD τ).loc main_arg2)) (m ((c : Thread nD τ).loc main_arg3))
abbrev unit := val_main_v20 (F := Ideal) (m ((c : Thread nD τ).loc main_arg0)) (m ((c : Thread nD τ).loc main_arg1))
abbrev rdev := val_main_v16 (F := Ideal) (m ((c : Thread nD τ).loc main_arg0)) (m ((c : Thread nD τ).loc main_arg1))

theorem idx : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![t.val, 0] ∧ win0_6.index t = ![t.val, 0] :=
  (by decide +kernel : ∀ t : Fin grid0.N, _)

/-- Row `l` of the blocks of grid point `t`. -/
abbrev row (t : Fin cfg0.N) (l : Fin 512) : Fin 2048 := ⟨t.val * 512 + l.val, by have h : t.val < 4 := t.isLt; omega⟩

theorem blk0 (t : Fin cfg0.N) (l : Fin 512) (e : Fin 1024) : iblk m c 0 t (ix2 l e) = m ((c : Thread nD τ).loc main_arg0) (ix2 (row t l) e) := by
  blk_ext [iblk, V, idx t, row]
theorem blk1 (t : Fin cfg0.N) (l : Fin 512) (e : Fin 1024) : iblk m c 1 t (ix2 l e) = m ((c : Thread nD τ).loc main_arg1) (ix2 (row t l) e) := by
  blk_ext [iblk, V, idx t, row]
theorem blk2 (t : Fin cfg0.N) (z : Fin 1) (e : Fin 1024) : iblk m c 2 t (ix2 z e) = m ((c : Thread nD τ).loc main_arg2) (ix2 0 e) := by
  blk_ext [iblk, V, idx t]
theorem blk3 (t : Fin cfg0.N) (z : Fin 1) (e : Fin 1024) : iblk m c 3 t (ix2 z e) = m ((c : Thread nD τ).loc main_arg3) (ix2 0 e) := by
  blk_ext [iblk, V, idx t]

/-- The residual sum less its row's mean. -/
theorem centre (t : Fin cfg0.N) (l : Fin 512) (e : Fin 1024) :
    k0_pay1 (F := Ideal) (iblk m c 0 t) (iblk m c 1 t) (ix2 l e) =
      val_main_v8 (F := Ideal) (m ((c : Thread nD τ).loc main_arg0)) (m ((c : Thread nD τ).loc main_arg1)) (ix2 (row t l) e) := by
  pointwise [k0_pay1, val_main_v8, val_main_v7, val_main_v6, val_main_v5, val_main_cst_1, val_main_v4, val_main_v3, val_main_cst_0, val_main_v2, val_main_v1, val_main_v0, val_main_cst]
  simp only [blk0, blk1]

theorem rdev_at (t : Fin cfg0.N) (l : Fin 512) (z : Fin 1) :
    k0_pay2 (F := Ideal) (iblk m c 0 t) (iblk m c 1 t) (ix2 l z) = rdev m c (ix2 (row t l) z) := by
  pointwise [k0_pay2, val_main_v16, val_main_v15, val_main_v14, val_main_cst_4, val_main_v13, val_main_v12, val_main_cst_3, val_main_v11, val_main_v10, val_main_cst_2, val_main_v9]
  simp only [centre]

theorem unit_at (t : Fin cfg0.N) (l : Fin 512) (e : Fin 1024) :
    k0_pay3 (F := Ideal) (iblk m c 0 t) (iblk m c 1 t) (ix2 l e) = unit m c (ix2 (row t l) e) := by
  pointwise [k0_pay3, val_main_v20, val_main_v19]
  rw [centre, rdev_at]
  rfl

theorem point_out (t : Fin cfg0.N) (l : Fin 512) (e : Fin 1024) :
    out0_4 (iblk m c 0 t) (iblk m c 1 t) (iblk m c 2 t) (iblk m c 3 t) (ix2 l e) = out m c (ix2 (row t l) e) := by
  frame_out
  pointwise [k0_pay4, val_main_v24, val_main_v23, val_main_v22, val_main_v21]
  rw [unit_at, blk2, blk3]

theorem point_unit (t : Fin cfg0.N) (l : Fin 512) (e : Fin 1024) :
    out0_5 (iblk m c 0 t) (iblk m c 1 t) (iblk m c 2 t) (iblk m c 3 t) (ix2 l e) = unit m c (ix2 (row t l) e) := by
  frame_out
  exact unit_at m c t l e

theorem point_rdev (t : Fin cfg0.N) (l : Fin 512) (z : Fin 1) :
    out0_6 (iblk m c 0 t) (iblk m c 1 t) (iblk m c 2 t) (iblk m c 3 t) (ix2 l z) = rdev m c (ix2 (row t l) z) := by
  frame_out
  exact rdev_at m c t l z

theorem arr_out : (dats m 0 c).arrAt 4 cfg0.N = out m c := by
  refine (dats m 0 c).arrAt_eq_of_covers 4 _ (by decide +kernel) fun t hf y => ?_
  blk_simp
  rw [after0_4]
  obtain ⟨l, e, rfl⟩ : ∃ (l : Fin 512) (e : Fin 1024), y = ix2 l e := ⟨y 0, y 1, eq_ix2 y⟩
  have h : (win0_4.blk t).view.emb (ix2 l e) = ix2 (row t l) e := by blk_ext [idx t, row]
  rw [h]
  exact point_out m c t l e

theorem arr_unit : (dats m 0 c).arrAt 5 cfg0.N = unit m c := by
  refine (dats m 0 c).arrAt_eq_of_covers 5 _ (by decide +kernel) fun t hf y => ?_
  blk_simp
  rw [after0_5]
  obtain ⟨l, e, rfl⟩ : ∃ (l : Fin 512) (e : Fin 1024), y = ix2 l e := ⟨y 0, y 1, eq_ix2 y⟩
  have h : (win0_5.blk t).view.emb (ix2 l e) = ix2 (row t l) e := by blk_ext [idx t, row]
  rw [h]
  exact point_unit m c t l e

theorem arr_rdev : (dats m 0 c).arrAt 6 cfg0.N = rdev m c := by
  refine (dats m 0 c).arrAt_eq_of_covers 6 _ (by decide +kernel) fun t hf y => ?_
  blk_simp
  rw [after0_6]
  obtain ⟨l, e, rfl⟩ : ∃ (l : Fin 512) (e : Fin 1), y = ix2 l e := ⟨y 0, y 1, eq_ix2 y⟩
  have h : (win0_6.blk t).view.emb (ix2 l e) = ix2 (row t l) e := by blk_ext [idx t, row]
  rw [h]
  exact point_rdev m c t l e

theorem frame : Cert.quiescent_Norm (hNorm := Cert.Norm.Gen.facts) := fun m g _ => Cert.Norm.Gen.frame m g

theorem frame_reference : Cert.quiescent_NormRefIdeal (hNormRefIdeal := Cert.NormRefIdeal.Gen.facts) := fun m g _ =>
  (θ_run _ _ _).mono (fun r h => ⟨fun c => (h c).2.2.2, sem_eq_zero_of_no_sems rfl r.2⟩) (Cert.NormRefIdeal.Value.run m g)

theorem equal : Cert.algebraic_NormIdeal_NormRefIdeal (hNormIdeal := Cert.NormIdeal.Gen.facts)
    (hNormRefIdeal := Cert.NormRefIdeal.Gen.facts) :=
  fun m g m' g' _ hagree => ⟨_, _, _, Cert.NormIdeal.Value.run_blocks m g, (θ_run _ _ _).mono (fun r h c => by
    obtain ⟨h0, h1, h2, hargs⟩ := h c
    obtain ⟨e0, e1, e2, e3⟩ := hagree c
    refine ⟨(h0.trans (val_main_v24_eq _ _ _ _)).trans ?_, (h1.trans (val_main_v20_eq _ _)).trans ?_, (h2.trans (val_main_v16_eq _ _)).trans ?_, hargs⟩
    · rw [e0, e1, e2, e3]; exact (arr_out m c).symm
    · rw [e0, e1]; exact (arr_unit m c).symm
    · rw [e0, e1]; exact (arr_rdev m c).symm) (Cert.NormRefIdeal.Value.run m' g')⟩

end Cert.Products.Norm

end
-- ==== Proof.Scale.lean ====
/- Constants that scale a mean over 1024 columns, and a real constant taken out of a sum of extended reals. -/
module

public import proofs.«01_k».proof.Proof.Lift

@[expose] public section

noncomputable section

namespace Cert.Products

open Idealize.ShloMosaic

theorem word_1024 : Ideal.ofBits .f32 0x44800000#32 = ((1024 : ℝ) : EReal) := by
  simp [Ideal.ofBits, Ideal.ieee, -EReal.coe_mul]; norm_num
/-- `1 / 1024`. -/
theorem word_mean : Ideal.ofBits .f32 0x3A800000#32 = ((1 / 1024 : ℝ) : EReal) := by
  simp [Ideal.ofBits, Ideal.ieee, -EReal.coe_mul]; norm_num
/-- `1 / 2048`. -/
theorem word_half_mean : Ideal.ofBits .f32 0x3A000000#32 = ((1 / 2048 : ℝ) : EReal) := by
  simp [Ideal.ofBits, Ideal.ieee, -EReal.coe_mul]; norm_num

/-- A nonnegative real factor, inside a sum or outside it. -/
theorem sum_mul_coe {ι : Type*} (s : Finset ι) (f : ι → EReal) {k : ℝ} (hk : 0 ≤ k) :
    (∑ i ∈ s, f i) * (k : EReal) = ∑ i ∈ s, f i * (k : EReal) := by
  classical
  induction s using Finset.induction_on with
  | empty => simp
  | insert a s ha ih =>
    rw [Finset.sum_insert ha, Finset.sum_insert ha, EReal.right_distrib_of_nonneg_of_ne_top (by exact_mod_cast hk) (EReal.coe_ne_top k), ih]

end Cert.Products

end

end
-- ==== Proof.LayerNorm.lean ====
/- The gradient of the layer norm of whole rows, as automatic differentiation has it: over finite arrays it is the closed
   form `dnorm` in the normalised rows. -/
module

public import proofs.«01_k».proof.Proof.Gen.DnormRefIdeal.Read
public import proofs.«01_k».proof.Proof.Lift
public import proofs.«01_k».proof.Proof.Scale

@[expose] public section

set_option maxRecDepth 16384

noncomputable section

namespace Cert.Products.LayerNorm

open Cert.DnormRefIdeal Cert.DnormRefIdeal.Read Cert.Gmlp Idealize.ShloMosaic

/-- Three arrays of reals: the gradient received, the rows, and the scale. -/
structure IsReal (D R : Fin 2048 → Fin 1024 → ℝ) (G : Fin 1024 → ℝ) (dy r : FVec Ideal S2048x1024 .f32) (g : FVec Ideal S1x1024 .f32) : Prop where
  dy i l : dy (ix2 i l) = (D i l : EReal)
  r i l : r (ix2 i l) = (R i l : EReal)
  g l : g (ix2 0 l) = (G l : EReal)

variable {D R : Fin 2048 → Fin 1024 → ℝ} {G : Fin 1024 → ℝ} {dy r : FVec Ideal S2048x1024 .f32} {g : FVec Ideal S1x1024 .f32}

theorem div_1024 (x : ℝ) : Ideal.div (x : EReal) ((1024 : ℝ) : EReal) = ((x / 1024 : ℝ) : EReal) := by
  rw [Ideal.div_coe (by norm_num), ← EReal.coe_mul, mul_one_div]

/-- The gradient of a normalised row. -/
def scaled (D : Fin 2048 → Fin 1024 → ℝ) (G : Fin 1024 → ℝ) (i : Fin 2048) (l : Fin 1024) : ℝ := D i l * G l

theorem mean_at (H : IsReal D R G dy r g) (i : Fin 2048) (z : Fin 1) : val_main_v3 (F := Ideal) r (ix2 i z) = (mean (R i) : EReal) := by
  pointwise [val_main_v3, val_main_v2, val_main_v1, val_main_v0, val_main_cst_0, val_main_cst]
  simp only [H.r, word_1024, word_zero, ← coe_sum, ← EReal.coe_zero, ← EReal.coe_add, div_1024, zero_add]
  rfl

theorem centre_at (H : IsReal D R G dy r g) (i : Fin 2048) (l : Fin 1024) :
    val_main_v14 (F := Ideal) r (ix2 i l) = ((R i l - mean (R i) : ℝ) : EReal) := by
  pointwise [val_main_v14, val_main_v13]
  rw [H.r, mean_at H, ← EReal.coe_sub]

theorem centre_sq (H : IsReal D R G dy r g) (i : Fin 2048) (l : Fin 1024) :
    val_main_v5 (F := Ideal) r (ix2 i l) = ((R i l - mean (R i) : ℝ) : EReal) := centre_at H i l

theorem twice_at (H : IsReal D R G dy r g) (i : Fin 2048) (l : Fin 1024) :
    val_main_v8 (F := Ideal) r (ix2 i l) = ((2 * (R i l - mean (R i)) : ℝ) : EReal) := by
  pointwise [val_main_v8, val_main_v7, val_main_cst_1]
  rw [centre_sq H, word_two, ← EReal.coe_mul]

theorem variance_at (H : IsReal D R G dy r g) (i : Fin 2048) (z : Fin 1) :
    val_main_v16 (F := Ideal) r (ix2 i z) = ((variance (R i) + eps : ℝ) : EReal) := by
  pointwise [val_main_v16, val_main_v15, val_main_v12, val_main_v11, val_main_v10, val_main_v9, val_main_v6, val_main_cst_2, val_main_cst_3, val_main_cst_4]
  simp only [centre_sq H, word_1024, word_zero, word_eps, ← EReal.coe_mul, ← coe_sum, ← EReal.coe_zero, ← EReal.coe_add, div_1024, zero_add]
  rfl

theorem rdev_at (H : IsReal D R G dy r g) (i : Fin 2048) (z : Fin 1) : val_main_v17 (F := Ideal) r (ix2 i z) = (rdev (R i) : EReal) := by
  pointwise [val_main_v17]
  rw [variance_at H]
  have h := radicand_pos (R i)
  exact (Ideal.rsqrt_coe _).trans ((if_neg h.not_gt).trans (if_neg h.ne'))

theorem slope_at (H : IsReal D R G dy r g) (i : Fin 2048) (z : Fin 1) :
    val_main_v20 (F := Ideal) r (ix2 i z) = ((-(1 / 2) * (rdev (R i) / (variance (R i) + eps)) : ℝ) : EReal) := by
  pointwise [val_main_v20, val_main_v19, val_main_v18, val_main_cst_5]
  rw [variance_at H, rdev_at H, word_neg_half, Ideal.div_coe (radicand_pos (R i)).ne', ← EReal.coe_mul, ← EReal.coe_mul]
  congr 1
  ring

theorem unit_at (H : IsReal D R G dy r g) (i : Fin 2048) (l : Fin 1024) : val_main_v22 (F := Ideal) r (ix2 i l) = (normed (R i) l : EReal) := by
  pointwise [val_main_v22, val_main_v21]
  rw [centre_at H, rdev_at H, ← EReal.coe_mul]
  rfl

theorem scaled_at (H : IsReal D R G dy r g) (i : Fin 2048) (l : Fin 1024) : val_main_v34 (F := Ideal) dy g (ix2 i l) = (scaled D G i l : EReal) := by
  pointwise [val_main_v34, val_main_v33, val_main_v27]
  rw [H.dy, H.g, ← EReal.coe_mul]
  rfl

theorem product_at (H : IsReal D R G dy r g) (i : Fin 2048) (l : Fin 1024) :
    val_main_v39 (F := Ideal) dy r g (ix2 i l) = ((scaled D G i l * rdev (R i) : ℝ) : EReal) := by
  pointwise [val_main_v39, val_main_v38]
  rw [scaled_at H, rdev_at H, ← EReal.coe_mul]

theorem dvar_at (H : IsReal D R G dy r g) (i : Fin 2048) : val_main_v46 (F := Ideal) dy r g (ix1 i) = (dvar (R i) (scaled D G i) : EReal) := by
  pointwise [val_main_v46, val_main_v45, val_main_v44, val_main_v40, val_main_v37, val_main_v36, val_main_v35, val_main_cst_8, val_main_cst_10, val_main_cst_11]
  simp only [centre_at H, slope_at H, scaled_at H, word_1024, word_zero, ← EReal.coe_mul, ← coe_sum, ← EReal.coe_zero, ← EReal.coe_add, div_1024, zero_add]
  simp [dvar]

theorem through_at (H : IsReal D R G dy r g) (i : Fin 2048) (l : Fin 1024) :
    val_main_v48 (F := Ideal) dy r g (ix2 i l) = ((dvar (R i) (scaled D G i) * (2 * (R i l - mean (R i))) : ℝ) : EReal) := by
  pointwise [val_main_v48, val_main_v47]
  rw [dvar_at H, twice_at H, ← EReal.coe_mul]

/-- The gradient of the rows. -/
theorem grad_at (H : IsReal D R G dy r g) (i : Fin 2048) (l : Fin 1024) :
    val_main_v58 (F := Ideal) dy r g (ix2 i l) = (dnorm (R i) (scaled D G i) l : EReal) := by
  pointwise [val_main_v58, val_main_v57, val_main_v56, val_main_v55, val_main_v54, val_main_v53, val_main_v52, val_main_v51, val_main_v50, val_main_v49,
    val_main_v43, val_main_v42, val_main_v41, val_main_cst_9, val_main_cst_12, val_main_cst_13, val_main_cst_14]
  simp only [product_at H, through_at H, word_1024, word_zero, ← EReal.coe_mul, ← EReal.coe_neg, ← coe_sum, ← EReal.coe_zero, ← EReal.coe_add, div_1024, zero_add]
  rw [← dnorm_eq]
  simp

end Cert.Products.LayerNorm

end
-- ==== Proof.Dnorm.lean ====
/- The gradient of the layer norm from the normalised rows, a block of rows at a time: of the rows, of the scale and of the
   shift, the last two accumulated over the blocks. -/
module

public import proofs.«01_k».proof.Defs
public import proofs.«01_k».proof.Proof.Gen.Dnorm.Frame
public import proofs.«01_k».proof.Proof.Gen.DnormIdeal.Value
public import proofs.«01_k».proof.Proof.LayerNorm
public import proofs.«01_k».proof.Proof.Start
public import proofs.«01_k».proof.Proof.Sums
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.Dnorm

open Cert.DnormIdeal Cert.DnormIdeal.Gen Cert.DnormRefIdeal.Read Idealize.ShloMosaic Idealize.ShloMosaic.TcCoe Idealize.SL.Sem
open Idealize.ShloMosaic.Pipeline (Dat)
open Cert.Products.LayerNorm (IsReal scaled)

/-- The shape relations of the precondition's broadcasts. -/
theorem preFacts : Cert.Pre_finite_dln.Facts where
  bcast_S_S2048x1024 := by decide
  bcast_S_S1x1024 := by decide

attribute [local instance] preFacts

variable (m : (ℓ : Loc nD τ sig) → Buf (Elt Ideal) ℓ) (c : Dev nD)

/-! The arguments, and what the reference computes from them. -/
abbrev dyA : FVec Ideal S2048x1024 .f32 := m ((c : Thread nD τ).loc main_arg0)
abbrev rA : FVec Ideal S2048x1024 .f32 := m ((c : Thread nD τ).loc main_arg1)
abbrev gA : FVec Ideal S1x1024 .f32 := m ((c : Thread nD τ).loc main_arg2)
abbrev dr := val_main_v58 (F := Ideal) (dyA m c) (rA m c) (gA m c)
abbrev dg := val_main_v32 (F := Ideal) (dyA m c) (rA m c)
abbrev db := val_main_v29 (F := Ideal) (dyA m c)

theorem idx : ∀ t : Fin cfg0.N, win0_0.index t = ![t.val, 0] ∧ win0_1.index t = ![t.val, 0] ∧ win0_2.index t = ![t.val, 0] ∧ win0_3.index t = ![0, 0] ∧ win0_4.index t = ![t.val, 0] :=
  (by decide +kernel : ∀ t : Fin grid0.N, _)

/-- Row `l` of the blocks of grid point `t`. -/
abbrev row (t : Fin cfg0.N) (l : Fin 512) : Fin 2048 := ⟨t.val * 512 + l.val, by have h : t.val < 4 := t.isLt; omega⟩

/-- The host's normalised rows and reciprocal deviations are the reference's. -/
theorem unit_eq : V m c main_v17 = val_main_v22 (F := Ideal) (rA m c) := by
  entry_read
  rfl
theorem rdev_eq : V m c main_v13 = val_main_v17 (F := Ideal) (rA m c) := by
  entry_read
  rfl

theorem blk0 (t : Fin cfg0.N) (l : Fin 512) (e : Fin 1024) : iblk m c 0 t (ix2 l e) = dyA m c (ix2 (row t l) e) := by
  blk_ext [iblk, V, idx t, row]
theorem blk1 (t : Fin cfg0.N) (l : Fin 512) (e : Fin 1024) : iblk m c 1 t (ix2 l e) = val_main_v22 (F := Ideal) (rA m c) (ix2 (row t l) e) := by
  rw [← unit_eq]
  blk_ext [iblk, idx t, row]
theorem blk2 (t : Fin cfg0.N) (l : Fin 512) (z : Fin 1) : iblk m c 2 t (ix2 l z) = val_main_v17 (F := Ideal) (rA m c) (ix2 (row t l) z) := by
  rw [← rdev_eq]
  blk_ext [iblk, idx t, row]
theorem blk3 (t : Fin cfg0.N) (z : Fin 1) (e : Fin 1024) : iblk m c 3 t (ix2 z e) = gA m c (ix2 0 e) := by
  blk_ext [iblk, V, idx t]

/-! ## The gradient of the rows -/

variable {m c}

theorem payload {D R : Fin 2048 → Fin 1024 → ℝ} {G : Fin 1024 → ℝ} (H : IsReal D R G (dyA m c) (rA m c) (gA m c)) (t : Fin cfg0.N) (l : Fin 512) (e : Fin 1024) :
    k0_pay5 (F := Ideal) (iblk m c 0 t) (iblk m c 1 t) (iblk m c 2 t) (iblk m c 3 t) (ix2 l e) = dr m c (ix2 (row t l) e) := by
  rw [dr, LayerNorm.grad_at H]
  pointwise [k0_pay5, k0_pay4]
  simp only [blk0, blk1, blk2, blk3, H.dy, H.g, LayerNorm.unit_at H, LayerNorm.rdev_at H, word_1024, Cert.Gmlp.word_zero, ← EReal.coe_mul, ← Cert.Gmlp.coe_sum,
    ← EReal.coe_zero, ← EReal.coe_add, LayerNorm.div_1024, ← EReal.coe_sub, zero_add]
  rfl

theorem point_rows {D R : Fin 2048 → Fin 1024 → ℝ} {G : Fin 1024 → ℝ} (H : IsReal D R G (dyA m c) (rA m c) (gA m c)) (t : Fin cfg0.N) (l : Fin 512) (e : Fin 1024) :
    (outsAt0 m c t.val t.isLt).1 (ix2 l e) = dr m c (ix2 (row t l) e) := by
  by_cases h : t.val % 4 = 0
  · rw [outsAt0_A m c t h]
    frame_out
    exact payload H t l e
  · rw [outsAt0_B m c t h]
    frame_out
    exact payload H t l e

theorem arr_rows {D R : Fin 2048 → Fin 1024 → ℝ} {G : Fin 1024 → ℝ} (H : IsReal D R G (dyA m c) (rA m c) (gA m c)) : (dats m 0 c).arrAt 4 cfg0.N = dr m c := by
  refine (dats m 0 c).arrAt_eq_of_covers 4 _ (by decide +kernel) fun t hf y => ?_
  blk_simp
  rw [after0_4]
  obtain ⟨l, e, rfl⟩ : ∃ (l : Fin 512) (e : Fin 1024), y = ix2 l e := ⟨y 0, y 1, eq_ix2 y⟩
  have h : (win0_4.blk t).view.emb (ix2 l e) = ix2 (row t l) e := by blk_ext [idx t, row]
  rw [h]
  exact point_rows H t l e

variable (m c)

/-! ## The gradients of the scale and of the shift -/

/-- The terms of the scale's gradient. -/
abbrev terms := val_main_v30 (F := Ideal) (dyA m c) (rA m c)

/-- A column's sum over one block of rows. -/
def part (x : FVec Ideal S2048x1024 .f32) (t : Fin cfg0.N) (y : S1x1024.Idx) : EReal :=
  ∑ l : Fin 512, x (ix2 ⟨t.val * 512 + l.val, by have h : t.val < 4 := t.isLt; omega⟩ (y 1))

theorem term_at (r : Fin 2048) (e : Fin 1024) : terms m c (ix2 r e) = dyA m c (ix2 r e) * val_main_v22 (F := Ideal) (rA m c) (ix2 r e) := by
  pointwise [val_main_v30, val_main_v27]
  exact mul_comm _ _

theorem first_scale (t : Fin cfg0.N) (h : t.val % 4 = 0) (y : S1x1024.Idx) :
    (outsAt0 m c t.val t.isLt).2.1 y = 0 + part (terms m c) t y := by
  obtain ⟨z, e, rfl⟩ : ∃ (z : Fin 1) (e : Fin 1024), y = ix2 z e := ⟨y 0, y 1, eq_ix2 y⟩
  rw [outsAt0_A m c t h]
  frame_out
  pointwise [k0_pay6, k0_pay4, k0_pay2]
  simp only [blk0, blk1]
  exact (Finset.sum_congr rfl fun l _ => term_at m c (row t l) e).symm

theorem next_scale (t : Fin cfg0.N) (h : ¬t.val % 4 = 0) (y : S1x1024.Idx) :
    (outsAt0 m c t.val t.isLt).2.1 y =
      (outsAt0 m c (t.val - 1) (Nat.lt_of_le_of_lt (Nat.sub_le _ _) t.isLt)).2.1 y + part (terms m c) t y := by
  obtain ⟨z, e, rfl⟩ : ∃ (z : Fin 1) (e : Fin 1024), y = ix2 z e := ⟨y 0, y 1, eq_ix2 y⟩
  rw [outsAt0_B m c t h]
  frame_out
  pointwise [k0_pay6, k0_pay4]
  simp only [blk0, blk1]
  exact congrArg (_ + ·) (Finset.sum_congr rfl fun l _ => term_at m c (row t l) e).symm

theorem first_shift (t : Fin cfg0.N) (h : t.val % 4 = 0) (y : S1x1024.Idx) :
    (outsAt0 m c t.val t.isLt).2.2 y = 0 + part (dyA m c) t y := by
  obtain ⟨z, e, rfl⟩ : ∃ (z : Fin 1) (e : Fin 1024), y = ix2 z e := ⟨y 0, y 1, eq_ix2 y⟩
  rw [outsAt0_A m c t h]
  frame_out
  pointwise [k0_pay1, k0_pay3]
  simp only [blk0]
  rfl

theorem next_shift (t : Fin cfg0.N) (h : ¬t.val % 4 = 0) (y : S1x1024.Idx) :
    (outsAt0 m c t.val t.isLt).2.2 y =
      (outsAt0 m c (t.val - 1) (Nat.lt_of_le_of_lt (Nat.sub_le _ _) t.isLt)).2.2 y + part (dyA m c) t y := by
  obtain ⟨z, e, rfl⟩ : ∃ (z : Fin 1) (e : Fin 1024), y = ix2 z e := ⟨y 0, y 1, eq_ix2 y⟩
  rw [outsAt0_B m c t h]
  frame_out
  pointwise [k0_pay1]
  simp only [blk0]
  rfl

/-- The blocks' sums together are the column's. -/
theorem parts (x : FVec Ideal S2048x1024 .f32) (y : S1x1024.Idx) : ∑ t : Fin 4, part x t y = ∑ r : Fin 2048, x (ix2 r (y 1)) :=
  sum_blocks (n := 4) (b := 512) (M := EReal) rfl (fun k l => by omega) fun r => x (ix2 r (y 1))

theorem arr_scale : (dats m 0 c).arrAt 5 cfg0.N = dg m c := by
  refine (dats m 0 c).arrAt_eq_of_after_last 5 t0_3 (by decide +kernel) _ fun j => ?_
  blk_simp
  rw [after0_5, Pipeline.eq_sum_fin_of_reset_step_apply_last (fun n h => fun y : S1x1024.Idx => (outsAt0 m c n h).2.1 y) 4 (fun _ => (0 : EReal))
    (part (terms m c)) (fun t h y => first_scale m c t h y) (fun t h y => next_scale m c t h y) (le_of_eq N_0) t0_3 rfl j]
  obtain ⟨z, e, rfl⟩ : ∃ (z : Fin 1) (e : Fin 1024), j = ix2 z e := ⟨j 0, j 1, eq_ix2 j⟩
  pointwise [val_main_v32, val_main_v31, val_main_cst_7]
  exact parts (terms m c) (ix2 z e)

theorem arr_shift : (dats m 0 c).arrAt 6 cfg0.N = db m c := by
  refine (dats m 0 c).arrAt_eq_of_after_last 6 t0_3 (by decide +kernel) _ fun j => ?_
  blk_simp
  rw [after0_6, Pipeline.eq_sum_fin_of_reset_step_apply_last (fun n h => fun y : S1x1024.Idx => (outsAt0 m c n h).2.2 y) 4 (fun _ => (0 : EReal))
    (part (dyA m c)) (fun t h y => first_shift m c t h y) (fun t h y => next_shift m c t h y) (le_of_eq N_0) t0_3 rfl j]
  obtain ⟨z, e, rfl⟩ : ∃ (z : Fin 1) (e : Fin 1024), j = ix2 z e := ⟨j 0, j 1, eq_ix2 j⟩
  pointwise [val_main_v29, val_main_v28, val_main_cst_6]
  exact parts (dyA m c) (ix2 z e)

theorem frame : Cert.quiescent_Dnorm (hDnorm := Cert.Dnorm.Gen.facts) := fun m g _ => Cert.Dnorm.Gen.frame m g

theorem frame_reference : Cert.quiescent_DnormRefIdeal (hDnormRefIdeal := Cert.DnormRefIdeal.Gen.facts) := fun m g _ =>
  (θ_run _ _ _).mono (fun r h => ⟨fun c => (h c).2.2.2, sem_eq_zero_of_no_sems rfl r.2⟩) (Cert.DnormRefIdeal.Value.run m g)

theorem equal : Cert.algebraic_DnormIdeal_DnormRefIdeal_pre_finite_dln (hDnormIdeal := Cert.DnormIdeal.Gen.facts)
    (hDnormRefIdeal := Cert.DnormRefIdeal.Gen.facts) :=
  fun m g m' g' hpre hagree => ⟨_, _, _, Cert.DnormIdeal.Value.run_blocks m g, (θ_run _ _ _).mono (fun r h c => by
    obtain ⟨h0, h1, h2, hargs⟩ := h c
    obtain ⟨e0, e1, e2, e3⟩ := hagree c
    have hp := hpre c
    have H : IsReal (fun i l => (dyA m c (ix2 i l)).toReal) (fun i l => (rA m c (ix2 i l)).toReal) (fun l => (gA m c (ix2 0 l)).toReal) (dyA m c) (rA m c) (gA m c) :=
      ⟨fun _ _ => Cert.Gmlp.real_of_below _ _ (fun _ => Cert.Gmlp.word_inf) hp.1 _, fun _ _ => Cert.Gmlp.real_of_below _ _ (fun _ => Cert.Gmlp.word_inf) hp.2.1 _,
        fun _ => Cert.Gmlp.real_of_below _ _ (fun _ => Cert.Gmlp.word_inf) hp.2.2 _⟩
    refine ⟨(h0.trans (val_main_v58_eq _ _)).trans ?_, (h1.trans (val_main_v32_eq _ _)).trans ?_, (h2.trans (val_main_v29_eq _)).trans ?_, hargs⟩
    · rw [e0, e1, e2]; exact (arr_rows H).symm
    · rw [e0, e1]; exact (arr_scale m c).symm
    · rw [e0]; exact (arr_shift m c).symm) (Cert.DnormRefIdeal.Value.run m' g')⟩

end Cert.Products.Dnorm

end
-- ==== Proof.Dpool.lean ====
/- The gradient of the causal pooling over four window lengths: the gradients of the pooled rows, of the mixing matrices and of the scale, and the gradient of the rows through the windows, which the kernel sums from shifted reads of a scratch array. -/
module

public import proofs.«01_k».proof.Defs
public import proofs.«01_k».proof.Proof.Gen.Dpool.Frame
public import proofs.«01_k».proof.Proof.Gen.DpoolIdeal.Value
public import proofs.«01_k».proof.Proof.Gen.DpoolRefIdeal.Read
public import proofs.«01_k».proof.Proof.Block
public import Idealize.ShloMosaic.Lib.Pipeline.ValueKit
public import Idealize.ShloMosaic.Lib.Pipeline.ReadBack
public import Idealize.ShloMosaic.Lib.Claim
public import Idealize.ShloMosaic.Adequacy
public import Idealize.ShloMosaic.Init

@[expose] public section

set_option maxRecDepth 16384

noncomputable section

namespace Cert.Products.Dpool

open Cert.DpoolIdeal Cert.DpoolIdeal.Gen Cert.DpoolRefIdeal.Read Idealize.ShloMosaic Idealize.ShloMosaic.TcCoe Idealize.SL.Sem
open Idealize.ShloMosaic.Pipeline (Dat)
open Cert.Gmlp (col)

variable (m : (ℓ : Loc nD τ sig) → Buf (Elt Ideal) ℓ) (c : Dev nD)

/-! The arguments, and what the reference computes from them. -/
abbrev dA : FVec Ideal S2048x1024 .f32 := m ((c : Thread nD τ).loc main_arg0)
abbrev pA : FVec Ideal S2048x512 .f32 := m ((c : Thread nD τ).loc main_arg1)
abbrev wA : FVec Ideal S4x128x128 .f32 := m ((c : Thread nD τ).loc main_arg2)
abbrev sA : FVec Ideal S512 .f32 := m ((c : Thread nD τ).loc main_arg3)
abbrev du := val_main_v64 (F := Ideal) (dA m c) (wA m c) (sA m c)
abbrev dw := val_main_v19 (F := Ideal) (dA m c) (pA m c) (sA m c)
abbrev ds := val_main_v65 (F := Ideal) (dA m c) (pA m c) (wA m c)

/-- The right half of a row's columns. -/
abbrev right (l : Fin 512) : Fin 1024 := ⟨512 + l.val, by omega⟩

/-- The gradient of the pooled rows, in a group of columns. -/
def dp (g : Fin 4) (s : Fin 2048) (l : Fin 128) : EReal :=
  ∑ d : Fin 128, (dA m c (ix2 s (right (col g d))) * sA m c (ix1 (col g d))) * wA m c (ix3 g l d)

/-! ## The reference, in a group of columns -/

theorem place (s : Fin 2048) (g : Fin 4) (d : Fin 128) : idx_main_v64 (ix2 s (col g d)) = ix3 s g d := by
  funext i
  fin_cases i <;> refine Fin.ext ?_ <;> simp [col] <;> omega
theorem place_back (s : Fin 2048) (g : Fin 4) (d : Fin 128) : idx_main_v14 (ix3 s g d) = ix2 s (col g d) := by
  funext i
  fin_cases i <;> refine Fin.ext ?_ <;> simp [col] <;> omega

theorem scaled_at (s : Fin 2048) (g : Fin 4) (d : Fin 128) :
    val_main_v15 (F := Ideal) (dA m c) (sA m c) (ix3 g d s) = dA m c (ix2 s (right (col g d))) * sA m c (ix1 (col g d)) := by
  have e : idx_main_v15 (ix3 g d s) = ix3 s g d := by funext i; fin_cases i <;> rfl
  rw [val_main_v15_apply, e, val_main_v14_apply, place_back]
  pointwise [val_main_v12, val_main_v7, val_main_v11, val_main_v4]

theorem pooled_at (s : Fin 2048) (g : Fin 4) (d : Fin 128) : val_main_v0 (F := Ideal) (pA m c) (ix3 s g d) = pA m c (ix2 s (col g d)) := by
  rw [val_main_v0_apply]
  exact congrArg _ (place_back s g d)

theorem dp_at (s : Fin 2048) (g : Fin 4) (l : Fin 128) :
    val_main_v17 (F := Ideal) (dA m c) (wA m c) (sA m c) (ix3 s g l) = dp m c g s l := by
  have e : idx_main_v17 (ix3 s g l) = ix3 g s l := by funext i; fin_cases i <;> rfl
  rw [val_main_v17_apply, e, val_main_v16_apply, dp]
  refine Finset.sum_congr rfl fun d _ => ?_
  have e1 : lidx_main_v16 (ix3 g s l) d = ix3 g d s := by funext i; fin_cases i <;> rfl
  have e2 : ridx_main_v16 (ix3 g s l) d = ix3 g l d := by funext i; fin_cases i <;> rfl
  rw [e1, e2, scaled_at]

theorem dw_at (g : Fin 4) (a d : Fin 128) :
    dw m c (ix3 g a d) = ∑ s : Fin 2048, pA m c (ix2 s (col g a)) * (dA m c (ix2 s (right (col g d))) * sA m c (ix1 (col g d))) := by
  have e : idx_main_v19 (ix3 g a d) = ix3 g d a := by funext i; fin_cases i <;> rfl
  rw [dw, val_main_v19_apply, e, val_main_v18_apply]
  refine Finset.sum_congr rfl fun s _ => ?_
  have e1 : lidx_main_v18 (ix3 g d a) s = ix3 g d s := by funext i; fin_cases i <;> rfl
  have e2 : ridx_main_v18 (ix3 g d a) s = ix3 s g a := by funext i; fin_cases i <;> rfl
  rw [e1, e2, scaled_at, pooled_at, mul_comm]

theorem mix_at (s : Fin 2048) (g : Fin 4) (d : Fin 128) :
    val_main_v3 (F := Ideal) (pA m c) (wA m c) (ix2 s (col g d)) = ∑ a : Fin 128, pA m c (ix2 s (col g a)) * wA m c (ix3 g a d) := by
  have e : idx_main_v2 (ix3 s g d) = ix3 g d s := by funext i; fin_cases i <;> rfl
  rw [val_main_v3_apply]
  refine (congrArg _ (place s g d)).trans ?_
  rw [val_main_v2_apply, e, val_main_v1_apply]
  refine Finset.sum_congr rfl fun a _ => ?_
  have e1 : lidx_main_v1 (ix3 g d s) a = ix3 g a d := by funext i; fin_cases i <;> rfl
  have e2 : ridx_main_v1 (ix3 g d s) a = ix3 s g a := by funext i; fin_cases i <;> rfl
  rw [e1, e2, pooled_at, mul_comm]

theorem ds_at (z : Fin 1) (g : Fin 4) (d : Fin 128) :
    ds m c (ix2 z (col g d)) = ∑ s : Fin 2048, dA m c (ix2 s (right (col g d))) * ∑ a : Fin 128, pA m c (ix2 s (col g a)) * wA m c (ix3 g a d) := by
  have h : ∀ s : Fin 2048, val_main_v8 (F := Ideal) (dA m c) (pA m c) (wA m c) (ix2 s (col g d))
      = dA m c (ix2 s (right (col g d))) * ∑ a : Fin 128, pA m c (ix2 s (col g a)) * wA m c (ix3 g a d) := by
    intro s
    rw [← mix_at, mul_comm]
    pointwise [val_main_v8, val_main_v7]
  have k : val_main_v9 (F := Ideal) (dA m c) (pA m c) (wA m c) (ix1 (col g d)) = ∑ s : Fin 2048, val_main_v8 (F := Ideal) (dA m c) (pA m c) (wA m c) (ix2 s (col g d)) := by
    generalize hv : val_main_v8 (F := Ideal) (dA m c) (pA m c) (wA m c) = v
    pointwise [val_main_v9, val_main_cst, hv]
  rw [← Finset.sum_congr rfl fun s _ => h s, ← k]
  generalize hv : val_main_v9 (F := Ideal) (dA m c) (pA m c) (wA m c) = v
  pointwise [ds, val_main_v65, val_main_v13, val_main_v10, val_main_cst_0, hv]
  simp

/-! ## What the kernel computes in a group of columns -/

theorem pay_ds (W : Vec Ideal S1x128x128 .f32) (X Y : Vec Ideal S2048x128 .f32) (d : Fin 128) (z : Fin 1) :
    k0_pay6 (F := Ideal) W X Y (ix2 z d) = ∑ s : Fin 2048, Y (ix2 s d) * ∑ a : Fin 128, X (ix2 s a) * W (ix3 0 a d) := by
  pointwise [k0_pay6, k0_pay4, k0_pay3]
theorem pay_dw (X Y : Vec Ideal S2048x128 .f32) (S : Vec Ideal S1x128 .f32) (a d : Fin 128) (z : Fin 1) :
    k0_pay7 (F := Ideal) X Y S (ix3 z a d) = ∑ s : Fin 2048, X (ix2 s a) * (Y (ix2 s d) * S (ix2 0 d)) := by
  pointwise [k0_pay7, k0_pay4, k0_pay5]
theorem pay_dp (W : Vec Ideal S1x128x128 .f32) (Y : Vec Ideal S2048x128 .f32) (S : Vec Ideal S1x128 .f32) (s : Fin 2048) (l : Fin 128) :
    k0_pay8 (F := Ideal) W Y S (ix2 s l) = ∑ d : Fin 128, (Y (ix2 s d) * S (ix2 0 d)) * W (ix3 0 l d) := by
  pointwise [k0_pay8, k0_pay5, k0_pay3]

/-! ## The windows -/

/-- The length of a group's window, and the same as a word. -/
abbrev len (g : Fin 4) : ℕ := ![2, 4, 8, 16] g
abbrev word (g : Fin 4) : BitVec 32 := BitVec.ofNat 32 (len g)

/-- A row of the pooled rows' gradient over the number of rows in the row's window. -/
def quot (g : Fin 4) (t : Fin 2048) (l : Fin 128) : EReal :=
  Ideal.div (dp m c g t l) (FloatOps.sitofp (F := Ideal) FTy.f32 (IntOp.minsi (IntOp.addi (BitVec.ofNat 32 t.val) 1#32) (word g)))

/-- The same at any row number: zero below the last row. -/
def pad (g : Fin 4) (l : Fin 128) (n : ℕ) : EReal := if h : n < 2048 then quot m c g ⟨n, h⟩ l else 0

theorem shifted_two : ∀ g : Fin 4, IntOp.shli ArithUnit.host (2#32) (BitVec.ofNat 32 g.val) = word g := by decide

theorem toInt_small (n : ℕ) (h : n < 4096) : (BitVec.ofNat 32 n).toInt = n := by
  have e : (BitVec.ofNat 32 n).toNat = n := by rw [BitVec.toNat_ofNat]; omega
  rw [BitVec.toInt_eq_toNat_of_lt (by omega), e]

theorem len_le (g : Fin 4) : len g ≤ 16 := by
  revert g
  decide

/-- The reference's mask, which keeps the rows whose window holds row `j`. -/
theorem mask_window (j t : Fin 2048) (g : Fin 4) (x y : EReal) :
    Scalar.select (IntOp.andi (IntOp.cmpi CmpIPredicate.sle (BitVec.ofNat 32 j.val) (BitVec.ofNat 32 t.val))
      (IntOp.cmpi CmpIPredicate.slt (BitVec.ofNat 32 t.val) (IntOp.addi (BitVec.ofNat 32 j.val) (word g)))) x y
      = if j.val ≤ t.val ∧ t.val < j.val + len g then x else y := by
  have h := len_le g
  have e : IntOp.addi (BitVec.ofNat 32 j.val) (word g) = BitVec.ofNat 32 (j.val + len g) := (BitVec.ofNat_add _ _).symm
  rw [e]
  generalize len g = w at h
  have e1 : (BitVec.ofNat 32 j.val).sle (BitVec.ofNat 32 t.val) = decide (j.val ≤ t.val) := by
    rw [BitVec.sle, toInt_small _ (by omega), toInt_small _ (by omega)]
    exact decide_eq_decide.mpr Nat.cast_le
  have e2 : (BitVec.ofNat 32 t.val).slt (BitVec.ofNat 32 (j.val + w)) = decide (t.val < j.val + w) := by
    rw [BitVec.slt, toInt_small _ (by omega), toInt_small _ (by omega)]
    exact decide_eq_decide.mpr Nat.cast_lt
  simp only [Scalar.select, IntOp.andi, IntOp.cmpi, e1, e2]
  by_cases h1 : j.val ≤ t.val <;> by_cases h2 : t.val < j.val + w <;> simp [h1, h2]

/-- A masked sum over all rows is the sum over the window, the rows past the last one being zero. -/
theorem window_sum (f : ℕ → EReal) (hf : ∀ n, 2048 ≤ n → f n = 0) (j w : ℕ) :
    (∑ t : Fin 2048, if j ≤ t.val ∧ t.val < j + w then f t.val else 0) = ∑ d ∈ Finset.range w, f (j + d) := by
  have h := Finset.sum_Ico_eq_sum_range f j (j + w)
  rw [Nat.add_sub_cancel_left] at h
  rw [Fin.sum_univ_eq_sum_range (fun n => if j ≤ n ∧ n < j + w then f n else 0) 2048, ← h, ← Finset.sum_filter]
  refine Finset.sum_subset (fun n hn => ?_) (fun n hn hk => hf n ?_)
  · simp only [Finset.mem_filter, Finset.mem_range, Finset.mem_Ico] at hn ⊢
    exact hn.2
  · simp only [Finset.mem_filter, Finset.mem_range, Finset.mem_Ico] at hn hk
    by_contra h
    exact hk ⟨by omega, hn⟩

theorem quot_at (t : Fin 2048) (g : Fin 4) (l : Fin 128) :
    val_main_v60 (F := Ideal) (dA m c) (wA m c) (sA m c) (ix3 t g l) = quot m c g t l := by
  rw [quot, ← dp_at]
  generalize hv : val_main_v17 (F := Ideal) (dA m c) (wA m c) (sA m c) = v
  pointwise [val_main_v60, hv, val_main_v59, val_main_v54, val_main_v53, val_main_v52, val_main_v50, val_main_v48, val_main_v46, val_main_v26, val_main_v25, val_main_v47, val_main_c_4, val_main_v51, val_main_v49, val_main_v24, val_main_v23, val_main_c, val_main_v22]
  rw [shifted_two]

theorem masked_at (t j : Fin 2048) (g : Fin 4) (l : Fin 128) :
    val_main_call1_v1 (F := Ideal) (dA m c) (wA m c) (sA m c) (ix4 t j g l)
      = if j.val ≤ t.val ∧ t.val < j.val + len g then pad m c g l t.val else 0 := by
  rw [pad, dif_pos t.isLt, ← quot_at, ← mask_window]
  generalize hv : val_main_v60 (F := Ideal) (dA m c) (wA m c) (sA m c) = v
  pointwise [val_main_call1_v1, val_main_v61, hv, val_main_call1_v0, val_main_call1_cst, val_main_v44_1, val_main_v43, val_main_v42, val_main_v41, val_main_v32, val_main_v30, val_main_v29, val_main_v28, val_main_v27, val_main_v31, val_main_v26, val_main_v25, val_main_v40, val_main_v38, val_main_v39, val_main_v37, val_main_v36, val_main_v34, val_main_v35, val_main_v33, val_main_v24, val_main_v23, val_main_c, val_main_v22]
  rw [shifted_two]

/-- The reference's gradient of the rows: the window's sum less the pooled rows' gradient. -/
theorem du_at (j : Fin 2048) (g : Fin 4) (l : Fin 128) :
    du m c (ix2 j (col g l)) = (∑ d ∈ Finset.range (len g), pad m c g l (j.val + d)) - dp m c g j l := by
  have h : (∑ t : Fin 2048, val_main_call1_v1 (F := Ideal) (dA m c) (wA m c) (sA m c) (ix4 t j g l))
      = ∑ d ∈ Finset.range (len g), pad m c g l (j.val + d) := by
    rw [Finset.sum_congr rfl fun t _ => masked_at m c t j g l]
    exact window_sum (pad m c g l) (fun n hn => dif_neg (by omega)) j.val (len g)
  rw [du, val_main_v64_apply, place, ← h, ← dp_at, sub_eq_add_neg, add_comm]
  generalize hv : val_main_v17 (F := Ideal) (dA m c) (wA m c) (sA m c) = v
  generalize hu : val_main_call1_v1 (F := Ideal) (dA m c) (wA m c) (sA m c) = u
  pointwise [val_main_v63, val_main_v62, val_main_v58, hu, hv, val_main_call1_cst_0]

theorem pay_quot (W : Vec Ideal S1x128x128 .f32) (Y : Vec Ideal S2048x128 .f32) (S : Vec Ideal S1x128 .f32) (s : Fin 2048) (l : Fin 128) :
    k0_pay10 (F := Ideal) (k0_pay9 W Y S) (ix2 s l)
        = Ideal.div (k0_pay8 W Y S (ix2 s l)) (FloatOps.sitofp (F := Ideal) FTy.f32 (IntOp.minsi (IntOp.addi (BitVec.ofNat 32 s.val) 1#32) (word 0)))
    ∧ k0_pay25 (F := Ideal) (k0_pay19 W) Y S (ix2 s l)
        = Ideal.div (k0_pay8 W Y S (ix2 s l)) (FloatOps.sitofp (F := Ideal) FTy.f32 (IntOp.minsi (IntOp.addi (BitVec.ofNat 32 s.val) 1#32) (word 1)))
    ∧ k0_pay44 (F := Ideal) (k0_pay37 W) (k0_pay39 Y S) (ix2 s l)
        = Ideal.div (k0_pay8 W Y S (ix2 s l)) (FloatOps.sitofp (F := Ideal) FTy.f32 (IntOp.minsi (IntOp.addi (BitVec.ofNat 32 s.val) 1#32) (word 2)))
    ∧ k0_pay64 (F := Ideal) (k0_pay57 W) (k0_pay59 Y S) (ix2 s l)
        = Ideal.div (k0_pay8 W Y S (ix2 s l)) (FloatOps.sitofp (F := Ideal) FTy.f32 (IntOp.minsi (IntOp.addi (BitVec.ofNat 32 s.val) 1#32) (word 3))) := by
  have h24 : k0_pay24 (F := Ideal) (k0_pay19 W) Y S = k0_pay8 W Y S := rfl
  have h43 : k0_pay43 (F := Ideal) (k0_pay37 W) (k0_pay39 Y S) = k0_pay8 W Y S := rfl
  have h63 : k0_pay63 (F := Ideal) (k0_pay57 W) (k0_pay59 Y S) = k0_pay8 W Y S := rfl
  generalize hv : k0_pay8 (F := Ideal) W Y S = v at *
  refine ⟨?_, ?_, ?_, ?_⟩
  · pointwise [k0_pay10, k0_pay9, hv]
    rfl
  · pointwise [k0_pay25, h24]
    rfl
  · pointwise [k0_pay44, h43]
    rfl
  · pointwise [k0_pay64, h63]
    rfl

/-! ## The scratch array, and sums of shifted reads of it -/

/-- A list of writes leaves zero below the last row. -/
def Halo (L : List (View.Piece (Elt Ideal) S2064x512 .f32)) : Prop := ∀ (n : Fin 2064) (e : Fin 512), 2048 ≤ n.val → View.canon L (ix2 n e) = 0
/-- A list of writes leaves a group's quotients in the group's columns. -/
def Holds (g : Fin 4) (L : List (View.Piece (Elt Ideal) S2064x512 .f32)) : Prop :=
  ∀ (n : Fin 2064) (l : Fin 128), View.canon L (ix2 n (col g l)) = pad m c g l n.val

theorem halo_first : Halo [⟨Rect.unit ![2048, 0] ![16, 512] inb_S2064x512_S16x512_2048_0, k0_pay2 (F := Ideal)⟩] := by
  intro n e hn
  have h : ix2 n e = (Rect.unit (s := S2064x512) ![2048, 0] ![16, 512] inb_S2064x512_S16x512_2048_0).emb (ix2 (⟨n.val - 2048, by omega⟩ : Fin 16) e) := by
    funext i
    fin_cases i <;> refine Fin.ext ?_ <;> simp [Rect.emb, Rect.unit] <;> omega
  rw [h, View.canon_cons_emb]
  pointwise [k0_pay2]

theorem step (g : Fin 4) (L : List (View.Piece (Elt Ideal) S2064x512 .f32)) (P : Vec Ideal S2048x128 .f32)
    (hk : ∀ i, (![0, 128 * g.val] : Fin 2 → ℕ) i + (![2048, 128] : Fin 2 → ℕ) i ≤ S2064x512.size i)
    (hL : Halo L) (hP : ∀ s l, P (ix2 s l) = quot m c g s l) :
    Halo (⟨Rect.unit ![0, 128 * g.val] ![2048, 128] hk, P⟩ :: L) ∧ Holds m c g (⟨Rect.unit ![0, 128 * g.val] ![2048, 128] hk, P⟩ :: L) := by
  have h1 : Halo (⟨Rect.unit ![0, 128 * g.val] ![2048, 128] hk, P⟩ :: L) := by
    intro n e hn
    rw [View.canon_cons_of_not_mem, hL n e hn]
    rw [Rect.mem_set_unit]
    intro h
    have h0 : n.val < 0 + 2048 := (h 0).2
    omega
  refine ⟨h1, fun n l => ?_⟩
  by_cases hn : n.val < 2048
  · have h : ix2 n (col g l) = (Rect.unit (s := S2064x512) ![0, 128 * g.val] ![2048, 128] hk).emb (ix2 (⟨n.val, hn⟩ : Fin 2048) l) := by
      funext i
      fin_cases i <;> refine Fin.ext ?_ <;> simp [Rect.emb, Rect.unit, col]
    rw [h, View.canon_cons_emb, pad, dif_pos hn]
    exact hP _ _
  · rw [h1 n _ (by omega), pad, dif_neg hn]

/-- The inside of a read shifted by `d` rows. -/
theorem inside {k g d : ℕ} (hk : k < 8) (hg : g < 4) (hd : d < 17) :
    ∀ i, (![256 * k + d, 128 * g] : Fin 2 → ℕ) i + (![256, 128] : Fin 2 → ℕ) i ≤ S2064x512.size i := by
  intro i
  fin_cases i <;> simp <;> omega

/-- The inside of a chunk of rows of a group's columns. -/
theorem inside_out {k g : ℕ} (hk : k < 8) (hg : g < 4) :
    ∀ i, (![256 * k, 128 * g] : Fin 2 → ℕ) i + (![256, 128] : Fin 2 → ℕ) i ≤ S2048x512.size i := by
  intro i
  fin_cases i <;> simp <;> omega
theorem chunk_rows {k : ℕ} (hk : k < 8) : S2048x128.Slices ![256 * k, 0] S256x128 :=
  ⟨rfl, by
    intro i
    fin_cases i <;> simp <;> omega⟩

/-- A read of the scratch array: a chunk of rows of a group's columns, shifted by `d` rows. -/
def shifted (L : List (View.Piece (Elt Ideal) S2064x512 .f32)) {k : ℕ} (hk : k < 8) (g : Fin 4) (d : Fin 17) : Vec Ideal S256x128 .f32 :=
  (View.whole cc0_scratch0).readCov (Val := Elt Ideal) L
    (Rect.unit (s := S2064x512) ![256 * k + d.val, 128 * g.val] ![256, 128] (inside hk g.isLt d.isLt)).toLoadRect

/-- The sum of the reads shifted by up to `n` rows. -/
def chain (R : Fin 17 → FVec Ideal S256x128 .f32) : (n : ℕ) → n < 17 → FVec Ideal S256x128 .f32
  | 0, h => R ⟨0, h⟩
  | n + 1, h => addf (chain R n (by omega)) (R ⟨n + 1, h⟩)

theorem chain_at (R : Fin 17 → FVec Ideal S256x128 .f32) (f : ℕ → EReal) (x : S256x128.Idx) (hR : ∀ d, R d x = f d.val) :
    ∀ (n : ℕ) (h : n < 17), chain R n h x = ∑ d ∈ Finset.range (n + 1), f d
  | 0, h => by rw [chain, hR, Finset.sum_range_one]
  | n + 1, h => by
    rw [Finset.sum_range_succ, ← chain_at R f x hR n (by omega), ← hR ⟨n + 1, h⟩, chain]
    rfl

theorem shifted_at {g : Fin 4} {L : List (View.Piece (Elt Ideal) S2064x512 .f32)} (hL : Holds m c g L) {k : ℕ} (hk : k < 8) (d : Fin 17)
    (a : Fin 256) (l : Fin 128) : shifted L hk g d (ix2 a l) = pad m c g l (256 * k + a.val + d.val) := by
  have h : (Rect.unit (s := S2064x512) ![256 * k + d.val, 128 * g.val] ![256, 128] (inside hk g.isLt d.isLt)).toLoadRect.idx (ix2 a l)
      = ix2 (⟨256 * k + a.val + d.val, by omega⟩ : Fin 2064) (col g l) := by
    funext i
    fin_cases i <;> refine Fin.ext ?_ <;> simp [col] <;> omega
  rw [shifted, View.readCov_eq_canon']
  exact (congrArg _ h).trans (hL _ l)

/-- A chunk of rows of a group's columns is the reference's gradient of the rows. -/
theorem piece {g : Fin 4} {n : ℕ} (hn : n < 17) (hg : n + 1 = len g) {D : FVec Ideal S2048x128 .f32} (hD : ∀ s l, D (ix2 s l) = dp m c g s l)
    {L : List (View.Piece (Elt Ideal) S2064x512 .f32)} (hL : Holds m c g L) {k : ℕ} (hk : k < 8)
    (x : S256x128.Idx) :
    subf (chain (shifted L hk g) n hn) (extractStridedSlice S256x128 ![256 * k, 0] D (chunk_rows hk)) x
      = du m c ((Rect.unit (s := S2048x512) ![256 * k, 128 * g.val] ![256, 128] (inside_out hk g.isLt)).emb x) := by
  obtain ⟨a, l, rfl⟩ : ∃ (a : Fin 256) (l : Fin 128), x = ix2 a l := ⟨x 0, x 1, eq_ix2 x⟩
  have h : (Rect.unit (s := S2048x512) ![256 * k, 128 * g.val] ![256, 128] (inside_out hk g.isLt)).emb (ix2 a l) = ix2 (⟨256 * k + a.val, by omega⟩ : Fin 2048) (col g l) := by
    blk_ext [col]
  have e : extractStridedSlice S256x128 ![256 * k, 0] D (chunk_rows hk) (ix2 a l) = D (ix2 (⟨256 * k + a.val, by omega⟩ : Fin 2048) l) := by
    pointwise
  rw [h, du_at, ← hg, ← chain_at _ (fun d => pad m c g l (256 * k + a.val + d)) (ix2 a l) (fun d => shifted_at m c hL hk d a l) n hn, ← hD, ← e]
  rfl

/-! ## The blocks -/

/-- Where the blocks of the only grid point lie. -/
theorem idx : ∀ t : Fin cfg0.N, win0_0.index t = ![0, 1] ∧ win0_1.index t = ![0, 0] ∧ win0_2.index t = ![0, 0, 0]
    ∧ win0_3.index t = ![0, 0] ∧ win0_4.index t = ![0, 0] ∧ win0_5.index t = ![0, 0, 0] ∧ win0_6.index t = ![0, 0] :=
  (by decide +kernel : ∀ t : Fin grid0.N, _)

theorem scale_at (z : Fin 1) (l : Fin 512) : V m c main_v0 (ix2 z l) = sA m c (ix1 l) := by
  entry_read
  pointwise

theorem blk0 (t : Fin cfg0.N) (s : Fin 2048) (l : Fin 512) : iblk m c 0 t (ix2 s l) = dA m c (ix2 s (right l)) := by
  blk_ext [iblk, V, idx t]
theorem blk1 (t : Fin cfg0.N) (s : Fin 2048) (l : Fin 512) : iblk m c 1 t (ix2 s l) = pA m c (ix2 s l) := by
  blk_ext [iblk, V, idx t]
theorem blk2 (t : Fin cfg0.N) (g : Fin 4) (a d : Fin 128) : iblk m c 2 t (ix3 g a d) = wA m c (ix3 g a d) := by
  blk_ext [iblk, V, idx t]
theorem blk3 (t : Fin cfg0.N) (z : Fin 1) (l : Fin 512) : iblk m c 3 t (ix2 z l) = sA m c (ix1 l) := by
  refine Eq.trans ?_ (scale_at m c z l)
  blk_ext [iblk, idx t]

theorem inside_mat (g : Fin 4) : ∀ i, (![g.val, 0, 0] : Fin 3 → ℕ) i + (![1, 128, 128] : Fin 3 → ℕ) i ≤ S4x128x128.size i := by
  intro i
  fin_cases i <;> simp <;> omega
theorem inside_rows (g : Fin 4) : ∀ i, (![0, 128 * g.val] : Fin 2 → ℕ) i + (![2048, 128] : Fin 2 → ℕ) i ≤ S2048x512.size i := by
  intro i
  fin_cases i <;> simp <;> omega
theorem inside_scale (g : Fin 4) : ∀ i, (![0, 128 * g.val] : Fin 2 → ℕ) i + (![1, 128] : Fin 2 → ℕ) i ≤ S1x512.size i := by
  intro i
  fin_cases i <;> simp <;> omega

/-! A group's mixing matrix, pooled rows, incoming gradient and scale, as the kernel loads them. -/
def W (t : Fin cfg0.N) (g : Fin 4) : Vec Ideal S1x128x128 .f32 :=
  View.ld (iblk m c 2 t) (Rect.unit (s := S4x128x128) ![g.val, 0, 0] ![1, 128, 128] (inside_mat g))
def X (t : Fin cfg0.N) (g : Fin 4) : Vec Ideal S2048x128 .f32 :=
  View.ld (iblk m c 1 t) (Rect.unit (s := S2048x512) ![0, 128 * g.val] ![2048, 128] (inside_rows g))
def Y (t : Fin cfg0.N) (g : Fin 4) : Vec Ideal S2048x128 .f32 :=
  View.ld (iblk m c 0 t) (Rect.unit (s := S2048x512) ![0, 128 * g.val] ![2048, 128] (inside_rows g))
def S (t : Fin cfg0.N) (g : Fin 4) : Vec Ideal S1x128 .f32 :=
  View.ld (iblk m c 3 t) (Rect.unit (s := S1x512) ![0, 128 * g.val] ![1, 128] (inside_scale g))

theorem rows_place (g : Fin 4) (s : Fin 2048) (d : Fin 128) :
    (Rect.unit (s := S2048x512) ![0, 128 * g.val] ![2048, 128] (inside_rows g)).emb (ix2 s d) = ix2 s (col g d) := by
  blk_ext [col]
theorem scale_place (g : Fin 4) (z : Fin 1) (d : Fin 128) :
    (Rect.unit (s := S1x512) ![0, 128 * g.val] ![1, 128] (inside_scale g)).emb (ix2 z d) = ix2 z (col g d) := by
  blk_ext [col]
theorem mat_place (g : Fin 4) (z : Fin 1) (a d : Fin 128) :
    (Rect.unit (s := S4x128x128) ![g.val, 0, 0] ![1, 128, 128] (inside_mat g)).emb (ix3 z a d) = ix3 g a d := by
  blk_ext

theorem W_at (t : Fin cfg0.N) (g : Fin 4) (z : Fin 1) (a d : Fin 128) : W m c t g (ix3 z a d) = wA m c (ix3 g a d) :=
  (congrArg (iblk m c 2 t) (mat_place g z a d)).trans (blk2 m c t g a d)
theorem X_at (t : Fin cfg0.N) (g : Fin 4) (s : Fin 2048) (d : Fin 128) : X m c t g (ix2 s d) = pA m c (ix2 s (col g d)) :=
  (congrArg (iblk m c 1 t) (rows_place g s d)).trans (blk1 m c t s (col g d))
theorem Y_at (t : Fin cfg0.N) (g : Fin 4) (s : Fin 2048) (d : Fin 128) : Y m c t g (ix2 s d) = dA m c (ix2 s (right (col g d))) :=
  (congrArg (iblk m c 0 t) (rows_place g s d)).trans (blk0 m c t s (col g d))
theorem S_at (t : Fin cfg0.N) (g : Fin 4) (z : Fin 1) (d : Fin 128) : S m c t g (ix2 z d) = sA m c (ix1 (col g d)) :=
  (congrArg (iblk m c 3 t) (scale_place g z d)).trans (blk3 m c t z (col g d))

/-! ## What the kernel writes -/

theorem point_ds (t : Fin cfg0.N) (y : S1x512.Idx) : (outsAt0 m c t).2.2 y = ds m c y := by
  have key : ∀ (g : Fin 4) (x : S1x128.Idx), k0_pay6 (F := Ideal) (W m c t g) (X m c t g) (Y m c t g) x
      = ds m c ((Rect.unit (s := S1x512) ![0, 128 * g.val] ![1, 128] (inside_scale g)).emb x) := by
    intro g x
    obtain ⟨z, d, rfl⟩ : ∃ (z : Fin 1) (d : Fin 128), x = ix2 z d := ⟨x 0, x 1, eq_ix2 x⟩
    rw [scale_place, ds_at, pay_ds]
    simp only [W_at, X_at, Y_at]
  unfold outsAt0 out0_A_6
  frame_out
  rw [← List.append_nil (_ :: _)]
  refine View.canon_append_of_piecesOf (ds m c) [] _ ?_ y (View.cover_of_tiledL _ ![1, 128] rfl y)
  exact ⟨key 3, key 2, key 1, key 0, trivial⟩

theorem point_dw (t : Fin cfg0.N) (y : S4x128x128.Idx) : (outsAt0 m c t).2.1 y = dw m c y := by
  have key : ∀ (g : Fin 4) (x : S1x128x128.Idx), k0_pay7 (F := Ideal) (X m c t g) (Y m c t g) (S m c t g) x
      = dw m c ((Rect.unit (s := S4x128x128) ![g.val, 0, 0] ![1, 128, 128] (inside_mat g)).emb x) := by
    intro g x
    obtain ⟨z, a, d, rfl⟩ : ∃ (z : Fin 1) (a d : Fin 128), x = ix3 z a d := ⟨x 0, x 1, x 2, eq_ix3 x⟩
    rw [mat_place, dw_at, pay_dw]
    simp only [X_at, Y_at, S_at]
  unfold outsAt0 out0_A_5
  frame_out
  rw [← List.append_nil (_ :: _)]
  refine View.canon_append_of_piecesOf (dw m c) [] _ ?_ y (View.cover_of_tiledL _ ![1, 128, 128] rfl y)
  exact ⟨key 3, key 2, key 1, key 0, trivial⟩

theorem pay_dp_at (t : Fin cfg0.N) (g : Fin 4) (s : Fin 2048) (l : Fin 128) :
    k0_pay8 (F := Ideal) (W m c t g) (Y m c t g) (S m c t g) (ix2 s l) = dp m c g s l := by
  rw [pay_dp, dp]
  simp only [W_at, Y_at, S_at]

theorem inside_scratch (g : Fin 4) : ∀ i, (![0, 128 * g.val] : Fin 2 → ℕ) i + (![2048, 128] : Fin 2 → ℕ) i ≤ S2064x512.size i := by
  intro i
  fin_cases i <;> simp <;> omega

theorem point_du (t : Fin cfg0.N) (y : S2048x512.Idx) : (outsAt0 m c t).1 y = du m c y := by
  have q : ∀ g s l, Ideal.div (k0_pay8 (F := Ideal) (W m c t g) (Y m c t g) (S m c t g) (ix2 s l))
      (FloatOps.sitofp (F := Ideal) FTy.f32 (IntOp.minsi (IntOp.addi (BitVec.ofNat 32 s.val) 1#32) (word g))) = quot m c g s l := by
    intro g s l
    rw [pay_dp_at, quot]
  have h0 := step m c 0 _ _ (inside_scratch 0) halo_first fun s l => ((pay_quot (W m c t 0) (Y m c t 0) (S m c t 0) s l).1).trans (q 0 s l)
  have h1 := step m c 1 _ _ (inside_scratch 1) h0.1 fun s l => ((pay_quot (W m c t 1) (Y m c t 1) (S m c t 1) s l).2.1).trans (q 1 s l)
  have h2 := step m c 2 _ _ (inside_scratch 2) h1.1 fun s l => ((pay_quot (W m c t 2) (Y m c t 2) (S m c t 2) s l).2.2.1).trans (q 2 s l)
  have h3 := step m c 3 _ _ (inside_scratch 3) h2.1 fun s l => ((pay_quot (W m c t 3) (Y m c t 3) (S m c t 3) s l).2.2.2).trans (q 3 s l)
  have p0 := fun k hk => piece m c (n := 1) (by omega) rfl (pay_dp_at m c t 0) h0.2 (k := k) hk
  have p1 := fun k hk => piece m c (n := 3) (by omega) rfl (pay_dp_at m c t 1) h1.2 (k := k) hk
  have p2 := fun k hk => piece m c (n := 7) (by omega) rfl (pay_dp_at m c t 2) h2.2 (k := k) hk
  have p3 := fun k hk => piece m c (n := 15) (by omega) rfl (pay_dp_at m c t 3) h3.2 (k := k) hk
  unfold outsAt0 out0_A_4
  frame_out
  rw [← List.append_nil (_ :: _)]
  refine View.canon_append_of_piecesOf (du m c) [] _ ?_ y (View.cover_of_tiledL _ ![256, 128] rfl y)
  have hk : ∀ k : Fin 8, k.val < 8 := fun k => k.isLt
  exact ⟨p3 7 (hk 7), p3 6 (hk 6), p3 5 (hk 5), p3 4 (hk 4), p3 3 (hk 3), p3 2 (hk 2), p3 1 (hk 1), p3 0 (hk 0),
    p2 7 (hk 7), p2 6 (hk 6), p2 5 (hk 5), p2 4 (hk 4), p2 3 (hk 3), p2 2 (hk 2), p2 1 (hk 1), p2 0 (hk 0),
    p1 7 (hk 7), p1 6 (hk 6), p1 5 (hk 5), p1 4 (hk 4), p1 3 (hk 3), p1 2 (hk 2), p1 1 (hk 1), p1 0 (hk 0),
    p0 7 (hk 7), p0 6 (hk 6), p0 5 (hk 5), p0 4 (hk 4), p0 3 (hk 3), p0 2 (hk 2), p0 1 (hk 1), p0 0 (hk 0), trivial⟩

/-! ## The arrays after the run -/

theorem arr_du : (dats m 0 c).arrAt 4 cfg0.N = du m c := by
  refine (dats m 0 c).arrAt_eq_of_covers 4 _ (by decide +kernel) fun t hf y => ?_
  blk_simp
  rw [after0_4]
  have h : (win0_4.blk t).view.emb y = y := by blk_ext [idx t]
  rw [h]
  exact point_du m c t y

theorem arr_dw : (dats m 0 c).arrAt 5 cfg0.N = dw m c := by
  refine (dats m 0 c).arrAt_eq_of_covers 5 _ (by decide +kernel) fun t hf y => ?_
  blk_simp
  rw [after0_5]
  have h : (win0_5.blk t).view.emb y = y := by blk_ext [idx t]
  rw [h]
  exact point_dw m c t y

theorem arr_ds : (dats m 0 c).arrAt 6 cfg0.N = ds m c := by
  refine (dats m 0 c).arrAt_eq_of_covers 6 _ (by decide +kernel) fun t hf y => ?_
  blk_simp
  rw [after0_6]
  have h : (win0_6.blk t).view.emb y = y := by blk_ext [idx t]
  rw [h]
  exact point_ds m c t y

theorem frame : Cert.quiescent_Dpool (hDpool := Cert.Dpool.Gen.facts) := fun m g _ => Cert.Dpool.Gen.frame m g

theorem frame_reference : Cert.quiescent_DpoolRefIdeal (hDpoolRefIdeal := Cert.DpoolRefIdeal.Gen.facts) := fun m g _ =>
  (θ_run _ _ _).mono (fun r h => ⟨fun c => (h c).2.2.2, sem_eq_zero_of_no_sems rfl r.2⟩) (Cert.DpoolRefIdeal.Value.run m g)

theorem equal : Cert.algebraic_DpoolIdeal_DpoolRefIdeal (hDpoolIdeal := Cert.DpoolIdeal.Gen.facts)
    (hDpoolRefIdeal := Cert.DpoolRefIdeal.Gen.facts) :=
  fun m g m' g' _ hagree => ⟨_, _, _, Cert.DpoolIdeal.Value.run_blocks m g, (θ_run _ _ _).mono (fun r h c => by
    obtain ⟨h0, h1, h2, hargs⟩ := h c
    obtain ⟨e0, e1, e2, e3⟩ := hagree c
    refine ⟨(h0.trans (val_main_v64_eq _ _ _)).trans ?_, (h1.trans (val_main_v19_eq _ _ _)).trans ?_, (h2.trans (val_main_v65_eq _ _ _)).trans ?_, hargs⟩
    · rw [e0, e2, e3]; exact (arr_du m c).symm
    · rw [e0, e1, e3]; exact (arr_dw m c).symm
    · rw [e0, e1, e2]; exact (arr_ds m c).symm) (Cert.DpoolRefIdeal.Value.run m' g')⟩

end Cert.Products.Dpool

end
-- ==== Proof.Gating.lean ====
/- The gMLP spatial gating, a chunk of rows at a time: the gelu of the two halves, the layer norm of the second, the causal mixing of the chunk's rows in four groups of columns, and the product of the halves. -/
module

public import proofs.«01_k».proof.Defs
public import proofs.«01_k».proof.Proof.Gen.Gating.Frame
public import proofs.«01_k».proof.Proof.Gen.GatingIdeal.Value
public import proofs.«01_k».proof.Proof.Gen.GatingRefIdeal.Read
public import proofs.«01_k».proof.Proof.Block
public import Idealize.ShloMosaic.Lib.Pipeline.ValueKit
public import Idealize.ShloMosaic.Lib.Pipeline.ReadBack
public import Idealize.ShloMosaic.Lib.Claim
public import Idealize.ShloMosaic.Adequacy
public import Idealize.ShloMosaic.Init

@[expose] public section

set_option maxRecDepth 16384

noncomputable section

namespace Cert.Products.Gating

open Cert.GatingIdeal Cert.GatingIdeal.Gen Cert.GatingRefIdeal.Read Idealize.ShloMosaic Idealize.ShloMosaic.TcCoe Idealize.SL.Sem
open Idealize.ShloMosaic.Pipeline (Dat)
open Cert.Gmlp (row col mask_eq)

variable (m : (ℓ : Loc nD τ sig) → Buf (Elt Ideal) ℓ) (c : Dev nD)

/-! The arguments, and what the reference computes from them. -/
abbrev hA : FVec Ideal S2048x2048 .f32 := m ((c : Thread nD τ).loc main_arg0)
abbrev gA : FVec Ideal S512 .f32 := m ((c : Thread nD τ).loc main_arg1)
abbrev oA : FVec Ideal S512 .f32 := m ((c : Thread nD τ).loc main_arg2)
abbrev wA : FVec Ideal S4x128x128 .f32 := m ((c : Thread nD τ).loc main_arg3)
abbrev bA : FVec Ideal S4x128 .f32 := m ((c : Thread nD τ).loc main_arg4)
abbrev out := val_main_v53 (F := Ideal) (hA m c) (gA m c) (oA m c) (wA m c) (bA m c)
abbrev unit := val_main_v33 (F := Ideal) (hA m c)
abbrev rdev := val_main_v29 (F := Ideal) (hA m c)
/-- The normalised rows, scaled and shifted. -/
abbrev vn := val_main_v44 (F := Ideal) (hA m c) (gA m c) (oA m c)

/-- Where the blocks of a grid point lie. -/
theorem idx : ∀ t : Fin cfg0.N, win0_0.index t = ![2, t.val, 0] ∧ win0_1.index t = ![3, t.val, 0] ∧ win0_2.index t = ![0, 0]
    ∧ win0_3.index t = ![0, 0] ∧ win0_4.index t = ![0, 0, 0] ∧ win0_5.index t = ![0, 0] ∧ win0_6.index t = ![t.val, 0]
    ∧ win0_7.index t = ![t.val, 0] ∧ win0_8.index t = ![t.val, 0] :=
  (by decide +kernel : ∀ t : Fin grid0.N, _)

/-- The number of a grid point, which is its chunk's. -/
abbrev pt (t : Fin cfg0.N) : Fin 16 := ⟨t.val, t.isLt⟩

theorem quarters_at (k : Fin 4) (r : Fin 2048) (l : Fin 512) :
    V m c main_v1 (ix3 k r l) = hA m c (ix2 r ⟨k.val * 512 + l.val, by omega⟩) := by
  entry_read
  pointwise
theorem scale_at (z : Fin 1) (l : Fin 512) : V m c main_v2 (ix2 z l) = gA m c (ix1 l) := by
  entry_read
  pointwise
theorem shift_at (z : Fin 1) (l : Fin 512) : V m c main_v3 (ix2 z l) = oA m c (ix1 l) := by
  entry_read
  pointwise
theorem bias_at (a : Fin 128) (k : Fin 4) : V m c main_v4 (ix2 a k) = bA m c (ix2 k a) := by
  entry_read
  pointwise

theorem blk0 (t : Fin cfg0.N) (z : Fin 1) (a : Fin 128) (l : Fin 512) :
    iblk m c 0 t (ix3 z a l) = hA m c (ix2 (row (pt t) a) ⟨1024 + l.val, by omega⟩) := by
  refine Eq.trans (b := V m c main_v1 (ix3 2 (row (pt t) a) l)) ?_ (quarters_at m c 2 (row (pt t) a) l)
  blk_ext [iblk, idx t, row]
theorem blk1 (t : Fin cfg0.N) (z : Fin 1) (a : Fin 128) (l : Fin 512) :
    iblk m c 1 t (ix3 z a l) = hA m c (ix2 (row (pt t) a) ⟨1024 + (512 + l.val), by omega⟩) := by
  refine Eq.trans (b := V m c main_v1 (ix3 3 (row (pt t) a) l)) ?_ ((quarters_at m c 3 (row (pt t) a) l).trans (congrArg (fun x => hA m c (ix2 _ x)) (Fin.ext (Nat.add_assoc 1024 512 l.val))))
  blk_ext [iblk, idx t, row]
theorem blk2 (t : Fin cfg0.N) (z : Fin 1) (l : Fin 512) : iblk m c 2 t (ix2 z l) = gA m c (ix1 l) := by
  refine Eq.trans ?_ (scale_at m c z l)
  blk_ext [iblk, idx t]
theorem blk3 (t : Fin cfg0.N) (z : Fin 1) (l : Fin 512) : iblk m c 3 t (ix2 z l) = oA m c (ix1 l) := by
  refine Eq.trans ?_ (shift_at m c z l)
  blk_ext [iblk, idx t]
theorem blk4 (t : Fin cfg0.N) (k : Fin 4) (a s : Fin 128) : iblk m c 4 t (ix3 k a s) = wA m c (ix3 k a s) := by
  blk_ext [iblk, V, idx t]
theorem blk5 (t : Fin cfg0.N) (a : Fin 128) (k : Fin 4) : iblk m c 5 t (ix2 a k) = bA m c (ix2 k a) := by
  refine Eq.trans ?_ (bias_at m c a k)
  blk_ext [iblk, idx t]

/-- The two orders in which the gelu's factors are multiplied. -/
theorem gelu_eq (h a b o x : EReal) :
    h * x * (o + Ideal.tanh (b * (x + a * x * x * x))) = x * (h * (o + Ideal.tanh (b * (x + a * (x * x * x))))) := by
  rw [mul_assoc (a * x), mul_assoc a, ← mul_assoc x x x, mul_comm h x, mul_assoc x h]

theorem u_at (t : Fin cfg0.N) (a : Fin 128) (l : Fin 512) :
    k0_pay2 (F := Ideal) (iblk m c 0 t) (ix2 a l) = val_main_v14 (F := Ideal) (hA m c) (ix2 (row (pt t) a) l) := by
  pointwise [k0_pay2, val_main_v14, val_main_v13, val_main_v12, val_main_v11, val_main_cst_2, val_main_v10, val_main_v9, val_main_cst_1, val_main_v8, val_main_v7, val_main_v6, val_main_cst_0, val_main_v5, val_main_v4, val_main_v3, val_main_cst, val_main_v2, val_main_v1, val_main_v0]
  simp only [blk0]
  exact gelu_eq _ _ _ _ _

/-- The second half's gelu less its row's mean. -/
theorem cen_at (t : Fin cfg0.N) (a : Fin 128) (l : Fin 512) :
    k0_pay3 (F := Ideal) (iblk m c 1 t) (ix2 a l) = val_main_v21 (F := Ideal) (hA m c) (ix2 (row (pt t) a) l) := by
  pointwise [k0_pay3, val_main_v21, val_main_v20, val_main_v19, val_main_v18, val_main_cst_4, val_main_v17, val_main_v16, val_main_cst_3, val_main_v15, val_main_v13, val_main_v12, val_main_v11, val_main_cst_2, val_main_v10, val_main_v9, val_main_cst_1, val_main_v8, val_main_v7, val_main_v6, val_main_cst_0, val_main_v5, val_main_v4, val_main_v3, val_main_cst, val_main_v2, val_main_v1, val_main_v0]
  simp only [blk1, gelu_eq]

theorem var_at (t : Fin cfg0.N) (a : Fin 128) (z : Fin 1) :
    k0_pay4 (F := Ideal) (iblk m c 1 t) (ix2 a z) = val_main_v26 (F := Ideal) (hA m c) (ix2 (row (pt t) a) z) := by
  pointwise [k0_pay4, val_main_v26, val_main_v25, val_main_cst_6, val_main_v24, val_main_v23, val_main_cst_5, val_main_v22]
  simp only [cen_at]

theorem rdev_at (t : Fin cfg0.N) (a : Fin 128) (z : Fin 1) :
    k0_pay5 (F := Ideal) (k0_pay4 (iblk m c 1 t)) (ix2 a z) = rdev m c (ix2 (row (pt t) a) z) := by
  pointwise [k0_pay5, val_main_v29, val_main_v28, val_main_v27, val_main_cst_7]
  rw [var_at]

theorem unit_at (t : Fin cfg0.N) (a : Fin 128) (l : Fin 512) :
    k0_pay6 (F := Ideal) (k0_pay3 (iblk m c 1 t)) (k0_pay4 (iblk m c 1 t)) (ix2 a l) = unit m c (ix2 (row (pt t) a) l) := by
  pointwise [k0_pay6, val_main_v33, val_main_v32]
  rw [cen_at, rdev_at]
  rfl

theorem vn_at (t : Fin cfg0.N) (a : Fin 128) (l : Fin 512) :
    k0_pay7 (F := Ideal) (k0_pay3 (iblk m c 1 t)) (k0_pay4 (iblk m c 1 t)) (iblk m c 2 t) (iblk m c 3 t) (ix2 a l)
      = vn m c (ix2 (row (pt t) a) l) := by
  pointwise [k0_pay7, val_main_v44, val_main_v43, val_main_v42, val_main_v41, val_main_v40, val_main_v39]
  rw [unit_at, blk2, blk3]

/-! ## The mixing of a chunk's rows -/

open Cert.Gmlp (col0 col1 col2 col3)

/-- A group of columns of one chunk, from the gated half, the rows to mix, the mixing matrix and the biases. -/
def mixed (g : Fin 4) (u v : FVec Ideal S128x512 .f32) (w : Vec Ideal S1x128x128 .f32) (b : Vec Ideal S128x1 .f32) (a d : Fin 128) : EReal :=
  u (ix2 a (col g d)) * ((∑ s : Fin 128, if s ≤ a then w (ix3 0 a s) * v (ix2 s (col g d)) else 0) + b (ix2 a 0))

theorem pieces (u v35 : FVec Ideal S128x512 .f32) (v40 : FVec Ideal S128x1 .f32) (x y : Vec Ideal S1x512 .f32) (w : Vec Ideal S1x128x128 .f32)
    (b : Vec Ideal S128x1 .f32) (a d : Fin 128) :
    k0_pay8 (F := Ideal) u v35 v40 x y w b (ix2 a d) = mixed 0 u (k0_pay7 v35 v40 x y) w b a d
    ∧ k0_pay10 (F := Ideal) u (k0_pay7 v35 v40 x y) k0_pay9 w b (ix2 a d) = mixed 1 u (k0_pay7 v35 v40 x y) w b a d
    ∧ k0_pay11 (F := Ideal) u (k0_pay7 v35 v40 x y) w b (ix2 a d) = mixed 2 u (k0_pay7 v35 v40 x y) w b a d
    ∧ k0_pay1 (F := Ideal) u (k0_pay7 v35 v40 x y) (k0_pay12 w) b (ix2 a d) = mixed 3 u (k0_pay7 v35 v40 x y) w b a d := by
  refine ⟨?_, ?_, ?_, ?_⟩
  all_goals
    generalize hv : k0_pay7 (F := Ideal) v35 v40 x y = v
    pointwise [k0_pay8, k0_pay10, k0_pay9, k0_pay11, k0_pay1, k0_pay12]
    simp only [mask_eq, hv, col0, col1, col2, col3]
    rfl

/-- The reference's mask: the same comparison the other way round. -/
theorem mask_ge (a s : Fin 128) (x y : EReal) :
    Scalar.select (IntOp.cmpi CmpIPredicate.sge (IntOp.addi (BitVec.ofNat 32 a.val) 0#32) (BitVec.ofNat 32 s.val)) x y
      = if s ≤ a then x else y := by
  simp only [Scalar.select, IntOp.cmpi, IntOp.addi, BitVec.add_zero, BitVec.sle, Cert.Gmlp.toInt_word, Fin.le_def]
  by_cases h : s.val ≤ a.val <;> simp [h]

/-- The place of a chunk's row and of a group's column, the rows cut by chunks and the columns by groups. -/
theorem place (t : Fin 16) (a : Fin 128) (g : Fin 4) (d : Fin 128) : idx_main_v52 (ix2 (row t a) (col g d)) = ix4 t a g d := by
  funext i
  fin_cases i <;> refine Fin.ext ?_ <;> simp [row, col] <;> omega

theorem vn_place (t : Fin 16) (a : Fin 128) (g : Fin 4) (d : Fin 128) :
    val_main_v45 (F := Ideal) (hA m c) (gA m c) (oA m c) (ix4 t a g d) = vn m c (ix2 (row t a) (col g d)) := by
  rw [val_main_v45_apply]
  congr 1
  funext i
  fin_cases i <;> refine Fin.ext ?_ <;> simp [row, col] <;> omega

/-- The reference's result, at a place of a chunk and of a group. -/
theorem out_at (t : Fin 16) (a : Fin 128) (g : Fin 4) (d : Fin 128) :
    out m c (ix2 (row t a) (col g d)) = val_main_v14 (F := Ideal) (hA m c) (ix2 (row t a) (col g d))
      * ((∑ s : Fin 128, if s ≤ a then wA m c (ix3 g a s) * vn m c (ix2 (row t s) (col g d)) else 0) + bA m c (ix2 g a)) := by
  rw [out, val_main_v53_apply, val_main_v52_apply, place]
  pointwise [val_main_v51, val_main_v50, val_main_v49, val_main_v48, val_main_v47]
  rw [val_main_v46_apply]
  have h : ∀ s : Fin 128, val_main_v45 (F := Ideal) (hA m c) (gA m c) (oA m c) (lidx_main_v46 (ix4 g t d a) s)
      * val_main_v38 (F := Ideal) (wA m c) (ridx_main_v46 (ix4 g t d a) s)
      = if s ≤ a then wA m c (ix3 g a s) * vn m c (ix2 (row t s) (col g d)) else 0 := by
    intro s
    have e1 : lidx_main_v46 (ix4 g t d a) s = ix4 t s g d := by funext i; fin_cases i <;> rfl
    have e2 : ridx_main_v46 (ix4 g t d a) s = ix3 g a s := by funext i; fin_cases i <;> rfl
    rw [e1, e2, vn_place]
    pointwise [val_main_v38, val_main_v37, val_main_v36, val_main_v35, val_main_call0_v5, val_main_call0_cst, val_main_call0_v4, val_main_call0_v3, val_main_call0_v2, val_main_call0_v1, val_main_call0_c, val_main_call0_v0, val_main_v34, val_main_cst_8]
    rw [mask_ge, mul_comm]
  rw [Finset.sum_congr rfl fun s _ => h s]

/-! ## The blocks -/

theorem mat_ld {Val : EltTy → Type} (x : S4x128x128.Idx → Val .f32) (k : Fin 4) (off : Fin 3 → ℕ) (h : off = ![k.val, 0, 0])
    (hk : ∀ i, off i + S1x128x128.size i ≤ S4x128x128.size i) (z : Fin 1) (a s : Fin 128) :
    View.ld x (Rect.unit off S1x128x128.size hk) (ix3 z a s) = x (ix3 k a s) := by
  subst h
  pointwise
theorem col_ld {Val : EltTy → Type} (x : S128x4.Idx → Val .f32) (k : Fin 4) (off : Fin 2 → ℕ) (h : off = ![0, k.val])
    (hk : ∀ i, off i + S128x1.size i ≤ S128x4.size i) (z : Fin 1) (a : Fin 128) :
    View.ld x (Rect.unit off S128x1.size hk) (ix2 a z) = x (ix2 a k) := by
  subst h
  pointwise

theorem piece_place (g : Fin 4) (off : Fin 2 → ℕ) (h : off = ![0, 128 * g.val]) (hk : ∀ i, off i + S128x128.size i ≤ S128x512.size i) (a d : Fin 128) :
    (Rect.unit (s := S128x512) off S128x128.size hk).emb (ix2 a d) = ix2 a (col g d) := by
  subst h
  blk_ext [col]

/-- A group of columns that is mixed from the blocks of a grid point is the reference's. -/
theorem mixed_at (t : Fin cfg0.N) (g : Fin 4) (w : Vec Ideal S1x128x128 .f32) (b : Vec Ideal S128x1 .f32)
    (hw : ∀ a s, w (ix3 0 a s) = iblk m c 4 t (ix3 g a s)) (hb : ∀ a, b (ix2 a 0) = iblk m c 5 t (ix2 a g)) (a d : Fin 128) :
    mixed g (k0_pay2 (iblk m c 0 t)) (k0_pay7 (F := Ideal) (k0_pay3 (iblk m c 1 t)) (k0_pay4 (iblk m c 1 t)) (iblk m c 2 t) (iblk m c 3 t)) w b a d
      = out m c (ix2 (row (pt t) a) (col g d)) := by
  rw [out_at, mixed, u_at, hb, blk5]
  congr 2
  refine Finset.sum_congr rfl fun s _ => ?_
  rw [hw, blk4, vn_at]

/-- A block written in four column pieces has the values of the pieces. -/
theorem four_pieces {G : Vec Ideal S128x512 .f32} {N0 N1 N2 N3 : Vec Ideal S128x128 .f32}
    (h0 : ∀ a d, N0 (ix2 a d) = G (ix2 a (col 0 d))) (h1 : ∀ a d, N1 (ix2 a d) = G (ix2 a (col 1 d)))
    (h2 : ∀ a d, N2 (ix2 a d) = G (ix2 a (col 2 d))) (h3 : ∀ a d, N3 (ix2 a d) = G (ix2 a (col 3 d))) (y : S128x512.Idx) :
    View.canon ([⟨Rect.unit ![0, 384] ![128, 128] inb_S128x512_S128x128_0_384, N3⟩,
      ⟨Rect.unit ![0, 256] ![128, 128] inb_S128x512_S128x128_0_256, N2⟩,
      ⟨Rect.unit ![0, 128] ![128, 128] inb_S128x512_S128x128_0_128, N1⟩,
      ⟨Rect.unit ![0, 0] ![128, 128] inb_S128x512_S128x128_0_0, N0⟩] ++ []) y = G y := by
  have key : ∀ (g : Fin 4) (off : Fin 2 → ℕ) (h : off = ![0, 128 * g.val])
      (hk : ∀ i, off i + (![128, 128] : Fin 2 → ℕ) i ≤ S128x512.size i) (N : Vec Ideal S128x128 .f32)
      (hN : ∀ a d, N (ix2 a d) = G (ix2 a (col g d))) (x : S128x128.Idx),
      N x = G ((Rect.unit (s := S128x512) off ![128, 128] hk).emb x) := by
    intro g off h hk N hN x
    obtain ⟨a, d, rfl⟩ : ∃ (a d : Fin 128), x = ix2 a d := ⟨x 0, x 1, eq_ix2 x⟩
    rw [piece_place g off h hk]
    exact hN a d
  refine View.canon_append_of_piecesOf G [] _ ?_ y (View.cover_of_tiledL _ ![128, 128] rfl y)
  exact ⟨key 3 _ rfl inb_S128x512_S128x128_0_384 _ h3, key 2 _ rfl inb_S128x512_S128x128_0_256 _ h2,
    key 1 _ rfl inb_S128x512_S128x128_0_128 _ h1, key 0 _ rfl inb_S128x512_S128x128_0_0 _ h0, trivial⟩

theorem point_out (t : Fin cfg0.N) (y : S128x512.Idx) :
    out0_6 (iblk m c 0 t) (iblk m c 1 t) (iblk m c 2 t) (iblk m c 3 t) (iblk m c 4 t) (iblk m c 5 t) y = out m c (ix2 (row (pt t) (y 0)) (y 1)) := by
  unfold_out out0_6
  frame_out
  exact four_pieces (G := fun y : S128x512.Idx => out m c (ix2 (row (pt t) (y 0)) (y 1)))
    (fun a d => (pieces _ _ _ _ _ _ _ a d).1.trans (mixed_at m c t 0 _ _ (fun a s => mat_ld _ 0 _ rfl _ 0 a s) (fun a => col_ld _ 0 _ rfl _ 0 a) a d))
    (fun a d => (pieces _ _ _ _ _ _ _ a d).2.1.trans (mixed_at m c t 1 _ _ (fun a s => mat_ld _ 1 _ rfl _ 0 a s) (fun a => col_ld _ 1 _ rfl _ 0 a) a d))
    (fun a d => (pieces _ _ _ _ _ _ _ a d).2.2.1.trans (mixed_at m c t 2 _ _ (fun a s => mat_ld _ 2 _ rfl _ 0 a s) (fun a => col_ld _ 2 _ rfl _ 0 a) a d))
    (fun a d => (pieces _ _ _ _ _ _ _ a d).2.2.2.trans (mixed_at m c t 3 _ _ (fun a s => mat_ld _ 3 _ rfl _ 0 a s) (fun a => col_ld _ 3 _ rfl _ 0 a) a d)) y

theorem point_unit (t : Fin cfg0.N) (l : Fin 128) (e : Fin 512) :
    out0_7 (iblk m c 0 t) (iblk m c 1 t) (iblk m c 2 t) (iblk m c 3 t) (iblk m c 4 t) (iblk m c 5 t) (ix2 l e) = unit m c (ix2 (row (pt t) l) e) := by
  unfold_out out0_7
  frame_out
  exact unit_at m c t l e

theorem point_rdev (t : Fin cfg0.N) (l : Fin 128) (z : Fin 1) :
    out0_8 (iblk m c 0 t) (iblk m c 1 t) (iblk m c 2 t) (iblk m c 3 t) (iblk m c 4 t) (iblk m c 5 t) (ix2 l z) = rdev m c (ix2 (row (pt t) l) z) := by
  unfold_out out0_8
  frame_out
  exact rdev_at m c t l z

/-! ## The arrays after the run -/

theorem arr_out : (dats m 0 c).arrAt 6 cfg0.N = out m c := by
  refine (dats m 0 c).arrAt_eq_of_covers 6 _ (by decide +kernel) fun t hf y => ?_
  blk_simp
  rw [after0_6]
  obtain ⟨l, e, rfl⟩ : ∃ (l : Fin 128) (e : Fin 512), y = ix2 l e := ⟨y 0, y 1, eq_ix2 y⟩
  have h : (win0_6.blk t).view.emb (ix2 l e) = ix2 (row (pt t) l) e := by blk_ext [idx t, row]
  rw [h]
  exact point_out m c t (ix2 l e)

theorem arr_unit : (dats m 0 c).arrAt 7 cfg0.N = unit m c := by
  refine (dats m 0 c).arrAt_eq_of_covers 7 _ (by decide +kernel) fun t hf y => ?_
  blk_simp
  rw [after0_7]
  obtain ⟨l, e, rfl⟩ : ∃ (l : Fin 128) (e : Fin 512), y = ix2 l e := ⟨y 0, y 1, eq_ix2 y⟩
  have h : (win0_7.blk t).view.emb (ix2 l e) = ix2 (row (pt t) l) e := by blk_ext [idx t, row]
  rw [h]
  exact point_unit m c t l e

theorem arr_rdev : (dats m 0 c).arrAt 8 cfg0.N = rdev m c := by
  refine (dats m 0 c).arrAt_eq_of_covers 8 _ (by decide +kernel) fun t hf y => ?_
  blk_simp
  rw [after0_8]
  obtain ⟨l, e, rfl⟩ : ∃ (l : Fin 128) (e : Fin 1), y = ix2 l e := ⟨y 0, y 1, eq_ix2 y⟩
  have h : (win0_8.blk t).view.emb (ix2 l e) = ix2 (row (pt t) l) e := by blk_ext [idx t, row]
  rw [h]
  exact point_rdev m c t l e

theorem frame : Cert.quiescent_Gating (hGating := Cert.Gating.Gen.facts) := fun m g _ => Cert.Gating.Gen.frame m g

theorem frame_reference : Cert.quiescent_GatingRefIdeal (hGatingRefIdeal := Cert.GatingRefIdeal.Gen.facts) := fun m g _ =>
  (θ_run _ _ _).mono (fun r h => ⟨fun c => (h c).2.2.2, sem_eq_zero_of_no_sems rfl r.2⟩) (Cert.GatingRefIdeal.Value.run m g)

theorem equal : Cert.algebraic_GatingIdeal_GatingRefIdeal (hGatingIdeal := Cert.GatingIdeal.Gen.facts)
    (hGatingRefIdeal := Cert.GatingRefIdeal.Gen.facts) :=
  fun m g m' g' _ hagree => ⟨_, _, _, Cert.GatingIdeal.Value.run_blocks m g, (θ_run _ _ _).mono (fun r h c => by
    obtain ⟨h0, h1, h2, hargs⟩ := h c
    obtain ⟨e0, e1, e2, e3, e4⟩ := hagree c
    refine ⟨(h0.trans (val_main_v53_eq _ _)).trans ?_, (h1.trans (val_main_v33_eq _ _)).trans ?_, (h2.trans (val_main_v29_eq _ _)).trans ?_, hargs⟩
    · rw [e0, e1, e2, e3, e4]; exact (arr_out m c).symm
    · rw [e0]; exact (arr_unit m c).symm
    · rw [e0]; exact (arr_rdev m c).symm) (Cert.GatingRefIdeal.Value.run m' g')⟩

end Cert.Products.Gating

end
-- ==== Proof.Loss.lean ====
/- The loss, summed over all the rows a block at a time, and its gradient at the output. -/
module

public import proofs.«01_k».proof.Defs
public import proofs.«01_k».proof.Proof.Gen.Loss.Frame
public import proofs.«01_k».proof.Proof.Gen.LossIdeal.Value
public import proofs.«01_k».proof.Proof.Gen.LossRefIdeal.Read
public import proofs.«01_k».proof.Proof.Scale
public import proofs.«01_k».proof.Proof.Sums
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.Loss

open Cert.LossIdeal Cert.LossIdeal.Gen Cert.LossRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

/-! What the reference computes from the same arguments. -/
abbrev loss := val_main_v15 (F := Ideal) (m ((c : Thread nD τ).loc main_arg0)) (m ((c : Thread nD τ).loc main_arg1))
abbrev grad := val_main_v14 (F := Ideal) (m ((c : Thread nD τ).loc main_arg0)) (m ((c : Thread nD τ).loc main_arg1))

theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- Row `l` of the blocks of grid point `t`. -/
abbrev row (t : Fin cfg0.N) (l : Fin 512) : Fin 2048 := ⟨t.val * 512 + l.val, by have h : t.val < 4 := t.isLt; omega⟩

theorem blk0 (t : Fin cfg0.N) (l : Fin 512) (e : Fin 1024) : iblk m c 0 t (ix2 l e) = m ((c : Thread nD τ).loc main_arg0) (ix2 (row t l) e) := by
  blk_ext [iblk, V, idx t, row]
theorem blk1 (t : Fin cfg0.N) (l : Fin 512) (e : Fin 1024) : iblk m c 1 t (ix2 l e) = m ((c : Thread nD τ).loc main_arg1) (ix2 (row t l) e) := by
  blk_ext [iblk, V, idx t, row]

theorem grad_at (t : Fin cfg0.N) (l : Fin 512) (e : Fin 1024) :
    k0_pay3 (F := Ideal) (iblk m c 0 t) (iblk m c 1 t) (ix2 l e) = grad m c (ix2 (row t l) e) := by
  pointwise [k0_pay3, k0_pay2, val_main_v14, val_main_v13, val_main_v12, val_main_v11, val_main_cst_6, val_main_v10, val_main_v9, val_main_cst_5, val_main_cst_4, val_main_v3, val_main_v2, val_main_cst, val_main_v0]
  rw [blk0, blk1]
  rw [word_mean, word_1024, Cert.Gmlp.word_half, Cert.Gmlp.word_two, Ideal.div_coe (by norm_num), ← EReal.coe_mul, ← mul_assoc, ← EReal.coe_mul, mul_comm]
  congr 2
  norm_num

theorem point_grad (t : Fin cfg0.N) (l : Fin 512) (e : Fin 1024) :
    (outsAt0 m c t.val t.isLt).2 (ix2 l e) = grad m c (ix2 (row t l) e) := by
  by_cases h : t.val % 4 = 0
  · rw [outsAt0_A m c t h]
    frame_out
    exact grad_at m c t l e
  · rw [outsAt0_B m c t h]
    frame_out
    exact grad_at m c t l e

theorem arr_grad : (dats m 0 c).arrAt 3 cfg0.N = grad m c := by
  refine (dats m 0 c).arrAt_eq_of_covers 3 _ (by decide +kernel) fun t hf y => ?_
  blk_simp
  rw [after0_3]
  obtain ⟨l, e, rfl⟩ : ∃ (l : Fin 512) (e : Fin 1024), y = ix2 l e := ⟨y 0, y 1, eq_ix2 y⟩
  have h : (win0_3.blk t).view.emb (ix2 l e) = ix2 (row t l) e := by blk_ext [idx t, row]
  rw [h]
  exact point_grad m c t l e

/-- The differences. -/
abbrev diff := val_main_v0 (F := Ideal) (m ((c : Thread nD τ).loc main_arg0)) (m ((c : Thread nD τ).loc main_arg1))

theorem diff_at (t : Fin cfg0.N) (l : Fin 512) (e : Fin 1024) :
    k0_pay2 (F := Ideal) (iblk m c 0 t) (iblk m c 1 t) (ix2 l e) = diff m c (ix2 (row t l) e) := by
  pointwise [k0_pay2, val_main_v0]
  rw [blk0, blk1]

/-- A row's sum of squares. -/
def squares (x : FVec Ideal S2048x1024 .f32) (r : Fin 2048) : EReal := ∑ e : Fin 1024, x (ix2 r e) * x (ix2 r e)

/-- The part of the loss that one block of rows gives. -/
def partAt (t : Fin cfg0.N) (_y : S1x128.Idx) : EReal :=
  (∑ l : Fin 512, squares (diff m c) ⟨t.val * 512 + l.val, by have h : t.val < 4 := t.isLt; omega⟩) * ((1 / 2048 : ℝ) : EReal)

theorem first (t : Fin cfg0.N) (h : t.val % 4 = 0) (y : S1x128.Idx) :
    (outsAt0 m c t.val t.isLt).1 y = 0 + partAt m c t y := by
  obtain ⟨z, e, rfl⟩ : ∃ (z : Fin 1) (e : Fin 128), y = ix2 z e := ⟨y 0, y 1, eq_ix2 y⟩
  rw [outsAt0_A m c t h]
  frame_out
  pointwise [k0_pay4, k0_pay1]
  simp only [diff_at, word_half_mean, partAt, squares]

theorem next (t : Fin cfg0.N) (h : ¬t.val % 4 = 0) (y : S1x128.Idx) :
    (outsAt0 m c t.val t.isLt).1 y =
      (outsAt0 m c (t.val - 1) (Nat.lt_of_le_of_lt (Nat.sub_le _ _) t.isLt)).1 y + partAt m c t y := by
  obtain ⟨z, e, rfl⟩ : ∃ (z : Fin 1) (e : Fin 128), y = ix2 z e := ⟨y 0, y 1, eq_ix2 y⟩
  rw [outsAt0_B m c t h]
  frame_out
  pointwise [k0_pay4]
  simp only [diff_at, word_half_mean, partAt, squares]

/-- The loss, in every one of its 128 lanes. -/
theorem arr_loss : (dats m 0 c).arrAt 2 cfg0.N = loss m c := by
  refine (dats m 0 c).arrAt_eq_of_after_last 2 t0_3 (by decide +kernel) _ fun j => ?_
  blk_simp
  rw [after0_2, Pipeline.eq_sum_fin_of_reset_step_apply_last (fun n h => fun y : S1x128.Idx => (outsAt0 m c n h).1 y) 4 (fun _ => (0 : EReal))
    (partAt m c) (fun t h y => first m c t h y) (fun t h y => next m c t h y) (le_of_eq N_0) t0_3 rfl j]
  obtain ⟨z, e, rfl⟩ : ∃ (z : Fin 1) (e : Fin 128), j = ix2 z e := ⟨j 0, j 1, eq_ix2 j⟩
  pointwise [val_main_v15, val_main_v8, val_main_cst_3, val_main_v7, val_main_cst_2, val_main_v6, val_main_v5, val_main_cst_1, val_main_v4, val_main_cst_0, val_main_v1]
  simp only [word_1024, Cert.Gmlp.word_half, Ideal.div_coe (show (1024 : ℝ) ≠ 0 by norm_num), partAt]
  rw [← sum_mul_coe _ _ (by norm_num), ← sum_mul_coe _ _ (by norm_num), ← mul_assoc, mul_comm (((1 / 2 : ℝ) : EReal)), mul_assoc, ← EReal.coe_mul]
  congr 1
  · exact sum_blocks (n := 4) (b := 512) (M := EReal) rfl (fun k l => by omega) (squares (diff m c))
  · norm_num

theorem frame : Cert.quiescent_Loss (hLoss := Cert.Loss.Gen.facts) := fun m g _ => Cert.Loss.Gen.frame m g

theorem frame_reference : Cert.quiescent_LossRefIdeal (hLossRefIdeal := Cert.LossRefIdeal.Gen.facts) := fun m g _ =>
  (θ_run _ _ _).mono (fun r h => ⟨fun c => (h c).2.2, sem_eq_zero_of_no_sems rfl r.2⟩) (Cert.LossRefIdeal.Value.run m g)

theorem equal : Cert.algebraic_LossIdeal_LossRefIdeal (hLossIdeal := Cert.LossIdeal.Gen.facts)
    (hLossRefIdeal := Cert.LossRefIdeal.Gen.facts) :=
  fun m g m' g' _ hagree => ⟨_, _, Cert.LossIdeal.Value.run_blocks m g, (θ_run _ _ _).mono (fun r h c => by
    obtain ⟨h0, h1, hargs⟩ := h c
    obtain ⟨e0, e1⟩ := hagree c
    refine ⟨(h0.trans (val_main_v15_eq _ _)).trans ?_, (h1.trans (val_main_v14_eq _ _)).trans ?_, hargs⟩
    · rw [e0, e1]; exact (arr_loss m c).symm
    · rw [e0, e1]; exact (arr_grad m c).symm) (Cert.LossRefIdeal.Value.run m' g')⟩

end Cert.Products.Loss

end
-- ==== Proof.SumIn.lean ====
/- The sum of one weight gradient's copies, one per chip. -/
module

public import proofs.«01_k».proof.Defs
public import proofs.«01_k».proof.Proof.Gen.SumIn.Frame
public import proofs.«01_k».proof.Proof.Gen.SumInIdeal.Value
public import proofs.«01_k».proof.Proof.Gen.SumInRefIdeal.Read
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.SumIn

open Cert.SumInIdeal Cert.SumInIdeal.Gen Cert.SumInRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

/-! What the reference computes from the same arguments. -/
abbrev total := val_main_v2 (F := Ideal) (m ((c : Thread nD τ).loc main_arg0))

theorem idx : ∀ t : Fin cfg0.N, win0_0.index t = ![0, 0, 0] ∧ win0_1.index t = ![0, 0] :=
  (by decide +kernel : ∀ t : Fin grid0.N, _)

theorem cast (k : Fin 4) (r : Fin 1024) (e : Fin 512) : V m c main_v0 (ix3 k r e) = m ((c : Thread nD τ).loc main_arg0) (ix3 k r e) := by
  entry_read
  pointwise

theorem blk0 (t : Fin cfg0.N) (k : Fin 4) (r : Fin 1024) (e : Fin 512) : iblk m c 0 t (ix3 k r e) = V m c main_v0 (ix3 k r e) := by
  blk_ext [iblk, idx t]

theorem point (t : Fin cfg0.N) (r : Fin 1024) (e : Fin 512) :
    out0_1 (iblk m c 0 t) (ix2 r e) = total m c (ix2 r e) := by
  frame_out
  pointwise [k0_pay1, val_main_v2, val_main_v1, val_main_v0, val_main_cst]
  simp only [blk0, Fin.sum_univ_four]
  rw [cast, cast, cast, cast]

theorem arr_total : (dats m 0 c).arrAt 1 cfg0.N = total m c := by
  refine (dats m 0 c).arrAt_eq_of_covers 1 _ (by decide +kernel) fun t hf y => ?_
  blk_simp
  rw [after0_1]
  obtain ⟨l, e, rfl⟩ : ∃ (l : Fin 1024) (e : Fin 512), y = ix2 l e := ⟨y 0, y 1, eq_ix2 y⟩
  have h : (win0_1.blk t).view.emb (ix2 l e) = ix2 l e := by blk_ext [idx t]
  rw [h]
  exact point m c t l e

theorem frame : Cert.quiescent_SumIn (hSumIn := Cert.SumIn.Gen.facts) := fun m g _ => Cert.SumIn.Gen.frame m g

theorem frame_reference : Cert.quiescent_SumInRefIdeal (hSumInRefIdeal := Cert.SumInRefIdeal.Gen.facts) := fun m g _ =>
  (θ_run _ _ _).mono (fun r h => ⟨fun c => (h c).2, sem_eq_zero_of_no_sems rfl r.2⟩) (Cert.SumInRefIdeal.Value.run m g)

theorem equal : Cert.algebraic_SumInIdeal_SumInRefIdeal (hSumInIdeal := Cert.SumInIdeal.Gen.facts)
    (hSumInRefIdeal := Cert.SumInRefIdeal.Gen.facts) :=
  fun m g m' g' _ hagree => ⟨_, Cert.SumInIdeal.Value.run_blocks m g, (θ_run _ _ _).mono (fun r h c => by
    obtain ⟨h0, hargs⟩ := h c
    have e0 := hagree c
    refine ⟨(h0.trans (val_main_v2_eq _)).trans ?_, hargs⟩
    · rw [e0]; exact (arr_total m c).symm) (Cert.SumInRefIdeal.Value.run m' g')⟩

end Cert.Products.SumIn

end
-- ==== Proof.SumOut.lean ====
/- The sum over the four chips of one part of a weight's gradient, a block of rows at a time. -/
module

public import proofs.«01_k».proof.Defs
public import proofs.«01_k».proof.Proof.Gen.SumOut.Frame
public import proofs.«01_k».proof.Proof.Gen.SumOutIdeal.Value
public import proofs.«01_k».proof.Proof.Gen.SumOutRefIdeal.Read
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.SumOut

open Cert.SumOutIdeal Cert.SumOutIdeal.Gen Cert.SumOutRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

/-! What the reference computes from the same arguments. -/
abbrev total := val_main_v2 (F := Ideal) (m ((c : Thread nD τ).loc main_arg0))

theorem idx : ∀ t : Fin cfg0.N, win0_0.index t = ![0, t.val, 0] ∧ win0_1.index t = ![t.val, 0] :=
  (by decide +kernel : ∀ t : Fin grid0.N, _)

/-- Row `l` of the blocks of grid point `t`. -/
abbrev row (t : Fin cfg0.N) (l : Fin 256) : Fin 256 := ⟨t.val * 256 + l.val, by have h : t.val < 1 := t.isLt; omega⟩

theorem row_eq (t : Fin cfg0.N) (l : Fin 256) : row t l = l :=
  Fin.ext (by have h : t.val < 1 := t.isLt; show t.val * 256 + l.val = l.val; omega)

theorem cast (k : Fin 4) (r : Fin 256) (e : Fin 1024) : V m c main_v0 (ix3 k r e) = m ((c : Thread nD τ).loc main_arg0) (ix3 k r e) := by
  entry_read
  pointwise

theorem blk0 (t : Fin cfg0.N) (k : Fin 4) (l : Fin 256) (e : Fin 1024) : iblk m c 0 t (ix3 k l e) = V m c main_v0 (ix3 k (row t l) e) := by
  blk_ext [iblk, idx t, row]

theorem point (t : Fin cfg0.N) (l : Fin 256) (e : Fin 1024) :
    out0_1 (iblk m c 0 t) (ix2 l e) = total m c (ix2 (row t l) e) := by
  rw [row_eq]
  frame_out
  pointwise [k0_pay1, val_main_v2, val_main_v1, val_main_v0, val_main_cst]
  simp only [blk0, row_eq, Fin.sum_univ_four]
  rw [cast, cast, cast, cast]

theorem arr_total : (dats m 0 c).arrAt 1 cfg0.N = total m c := by
  refine (dats m 0 c).arrAt_eq_of_covers 1 _ (by decide +kernel) fun t hf y => ?_
  blk_simp
  rw [after0_1]
  obtain ⟨l, e, rfl⟩ : ∃ (l : Fin 256) (e : Fin 1024), y = ix2 l e := ⟨y 0, y 1, eq_ix2 y⟩
  have h : (win0_1.blk t).view.emb (ix2 l e) = ix2 (row t l) e := by blk_ext [idx t, row]
  rw [h]
  exact point m c t l e

theorem frame : Cert.quiescent_SumOut (hSumOut := Cert.SumOut.Gen.facts) := fun m g _ => Cert.SumOut.Gen.frame m g

theorem frame_reference : Cert.quiescent_SumOutRefIdeal (hSumOutRefIdeal := Cert.SumOutRefIdeal.Gen.facts) := fun m g _ =>
  (θ_run _ _ _).mono (fun r h => ⟨fun c => (h c).2, sem_eq_zero_of_no_sems rfl r.2⟩) (Cert.SumOutRefIdeal.Value.run m g)

theorem equal : Cert.algebraic_SumOutIdeal_SumOutRefIdeal (hSumOutIdeal := Cert.SumOutIdeal.Gen.facts)
    (hSumOutRefIdeal := Cert.SumOutRefIdeal.Gen.facts) :=
  fun m g m' g' _ hagree => ⟨_, Cert.SumOutIdeal.Value.run_blocks m g, (θ_run _ _ _).mono (fun r h c => by
    obtain ⟨h0, hargs⟩ := h c
    have e0 := hagree c
    refine ⟨(h0.trans (val_main_v2_eq _)).trans ?_, hargs⟩
    · rw [e0]; exact (arr_total m c).symm) (Cert.SumOutRefIdeal.Value.run m' g')⟩

end Cert.Products.SumOut

end
-- ==== Proof.SumUp.lean ====
/- The sum over the four chips of one part of a weight's gradient, a block of rows at a time. -/
module

public import proofs.«01_k».proof.Defs
public import proofs.«01_k».proof.Proof.Gen.SumUp.Frame
public import proofs.«01_k».proof.Proof.Gen.SumUpIdeal.Value
public import proofs.«01_k».proof.Proof.Gen.SumUpRefIdeal.Read
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.SumUp

open Cert.SumUpIdeal Cert.SumUpIdeal.Gen Cert.SumUpRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

/-! What the reference computes from the same arguments. -/
abbrev total := val_main_v2 (F := Ideal) (m ((c : Thread nD τ).loc main_arg0))

theorem idx : ∀ t : Fin cfg0.N, win0_0.index t = ![0, t.val, 0] ∧ win0_1.index t = ![t.val, 0] :=
  (by decide +kernel : ∀ t : Fin grid0.N, _)

/-- Row `l` of the blocks of grid point `t`. -/
abbrev row (t : Fin cfg0.N) (l : Fin 512) : Fin 2048 := ⟨t.val * 512 + l.val, by have h : t.val < 4 := t.isLt; omega⟩

theorem cast (k : Fin 4) (r : Fin 2048) (e : Fin 704) : V m c main_v0 (ix3 k r e) = m ((c : Thread nD τ).loc main_arg0) (ix3 k r e) := by
  entry_read
  pointwise

theorem blk0 (t : Fin cfg0.N) (k : Fin 4) (l : Fin 512) (e : Fin 704) : iblk m c 0 t (ix3 k l e) = V m c main_v0 (ix3 k (row t l) e) := by
  blk_ext [iblk, idx t, row]

theorem point (t : Fin cfg0.N) (l : Fin 512) (e : Fin 704) :
    out0_1 (iblk m c 0 t) (ix2 l e) = total m c (ix2 (row t l) e) := by
  frame_out
  pointwise [k0_pay1, val_main_v2, val_main_v1, val_main_v0, val_main_cst]
  simp only [blk0, Fin.sum_univ_four]
  rw [cast, cast, cast, cast]

theorem arr_total : (dats m 0 c).arrAt 1 cfg0.N = total m c := by
  refine (dats m 0 c).arrAt_eq_of_covers 1 _ (by decide +kernel) fun t hf y => ?_
  blk_simp
  rw [after0_1]
  obtain ⟨l, e, rfl⟩ : ∃ (l : Fin 512) (e : Fin 704), y = ix2 l e := ⟨y 0, y 1, eq_ix2 y⟩
  have h : (win0_1.blk t).view.emb (ix2 l e) = ix2 (row t l) e := by blk_ext [idx t, row]
  rw [h]
  exact point m c t l e

theorem frame : Cert.quiescent_SumUp (hSumUp := Cert.SumUp.Gen.facts) := fun m g _ => Cert.SumUp.Gen.frame m g

theorem frame_reference : Cert.quiescent_SumUpRefIdeal (hSumUpRefIdeal := Cert.SumUpRefIdeal.Gen.facts) := fun m g _ =>
  (θ_run _ _ _).mono (fun r h => ⟨fun c => (h c).2, sem_eq_zero_of_no_sems rfl r.2⟩) (Cert.SumUpRefIdeal.Value.run m g)

theorem equal : Cert.algebraic_SumUpIdeal_SumUpRefIdeal (hSumUpIdeal := Cert.SumUpIdeal.Gen.facts)
    (hSumUpRefIdeal := Cert.SumUpRefIdeal.Gen.facts) :=
  fun m g m' g' _ hagree => ⟨_, Cert.SumUpIdeal.Value.run_blocks m g, (θ_run _ _ _).mono (fun r h c => by
    obtain ⟨h0, hargs⟩ := h c
    have e0 := hagree c
    refine ⟨(h0.trans (val_main_v2_eq _)).trans ?_, hargs⟩
    · rw [e0]; exact (arr_total m c).symm) (Cert.SumUpRefIdeal.Value.run m' g')⟩

end Cert.Products.SumUp

end
-- ==== Proof.SumDown.lean ====
/- The sum over the four chips of one part of a weight's gradient, a block of rows at a time. -/
module

public import proofs.«01_k».proof.Defs
public import proofs.«01_k».proof.Proof.Gen.SumDown.Frame
public import proofs.«01_k».proof.Proof.Gen.SumDownIdeal.Value
public import proofs.«01_k».proof.Proof.Gen.SumDownRefIdeal.Read
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.SumDown

open Cert.SumDownIdeal Cert.SumDownIdeal.Gen Cert.SumDownRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

/-! What the reference computes from the same arguments. -/
abbrev total := val_main_v2 (F := Ideal) (m ((c : Thread nD τ).loc main_arg0))

theorem idx : ∀ t : Fin cfg0.N, win0_0.index t = ![0, t.val, 0] ∧ win0_1.index t = ![t.val, 0] :=
  (by decide +kernel : ∀ t : Fin grid0.N, _)

/-- Row `l` of the blocks of grid point `t`. -/
abbrev row (t : Fin cfg0.N) (l : Fin 128) : Fin 1408 := ⟨t.val * 128 + l.val, by have h : t.val < 11 := t.isLt; omega⟩

theorem cast (k : Fin 4) (r : Fin 1408) (e : Fin 1024) : V m c main_v0 (ix3 k r e) = m ((c : Thread nD τ).loc main_arg0) (ix3 k r e) := by
  entry_read
  pointwise

theorem blk0 (t : Fin cfg0.N) (k : Fin 4) (l : Fin 128) (e : Fin 1024) : iblk m c 0 t (ix3 k l e) = V m c main_v0 (ix3 k (row t l) e) := by
  blk_ext [iblk, idx t, row]

theorem point (t : Fin cfg0.N) (l : Fin 128) (e : Fin 1024) :
    out0_1 (iblk m c 0 t) (ix2 l e) = total m c (ix2 (row t l) e) := by
  frame_out
  pointwise [k0_pay1, val_main_v2, val_main_v1, val_main_v0, val_main_cst]
  simp only [blk0, Fin.sum_univ_four]
  rw [cast, cast, cast, cast]

theorem arr_total : (dats m 0 c).arrAt 1 cfg0.N = total m c := by
  refine (dats m 0 c).arrAt_eq_of_covers 1 _ (by decide +kernel) fun t hf y => ?_
  blk_simp
  rw [after0_1]
  obtain ⟨l, e, rfl⟩ : ∃ (l : Fin 128) (e : Fin 1024), y = ix2 l e := ⟨y 0, y 1, eq_ix2 y⟩
  have h : (win0_1.blk t).view.emb (ix2 l e) = ix2 (row t l) e := by blk_ext [idx t, row]
  rw [h]
  exact point m c t l e

theorem frame : Cert.quiescent_SumDown (hSumDown := Cert.SumDown.Gen.facts) := fun m g _ => Cert.SumDown.Gen.frame m g

theorem frame_reference : Cert.quiescent_SumDownRefIdeal (hSumDownRefIdeal := Cert.SumDownRefIdeal.Gen.facts) := fun m g _ =>
  (θ_run _ _ _).mono (fun r h => ⟨fun c => (h c).2, sem_eq_zero_of_no_sems rfl r.2⟩) (Cert.SumDownRefIdeal.Value.run m g)

theorem equal : Cert.algebraic_SumDownIdeal_SumDownRefIdeal (hSumDownIdeal := Cert.SumDownIdeal.Gen.facts)
    (hSumDownRefIdeal := Cert.SumDownRefIdeal.Gen.facts) :=
  fun m g m' g' _ hagree => ⟨_, Cert.SumDownIdeal.Value.run_blocks m g, (θ_run _ _ _).mono (fun r h c => by
    obtain ⟨h0, hargs⟩ := h c
    have e0 := hagree c
    refine ⟨(h0.trans (val_main_v2_eq _)).trans ?_, hargs⟩
    · rw [e0]; exact (arr_total m c).symm) (Cert.SumDownRefIdeal.Value.run m' g')⟩

end Cert.Products.SumDown

end
-- ==== Proof.SumProj.lean ====
/- The sum over the four chips of one part of a weight's gradient, a block of rows at a time. -/
module

public import proofs.«01_k».proof.Defs
public import proofs.«01_k».proof.Proof.Gen.SumProj.Frame
public import proofs.«01_k».proof.Proof.Gen.SumProjIdeal.Value
public import proofs.«01_k».proof.Proof.Gen.SumProjRefIdeal.Read
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.SumProj

open Cert.SumProjIdeal Cert.SumProjIdeal.Gen Cert.SumProjRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

/-! What the reference computes from the same arguments. -/
abbrev total := val_main_v2 (F := Ideal) (m ((c : Thread nD τ).loc main_arg0))

theorem idx : ∀ t : Fin cfg0.N, win0_0.index t = ![0, t.val, 0] ∧ win0_1.index t = ![t.val, 0] :=
  (by decide +kernel : ∀ t : Fin grid0.N, _)

/-- Row `l` of the blocks of grid point `t`. -/
abbrev row (t : Fin cfg0.N) (l : Fin 512) : Fin 512 := ⟨t.val * 512 + l.val, by have h : t.val < 1 := t.isLt; omega⟩

theorem row_eq (t : Fin cfg0.N) (l : Fin 512) : row t l = l :=
  Fin.ext (by have h : t.val < 1 := t.isLt; show t.val * 512 + l.val = l.val; omega)

theorem cast (k : Fin 4) (r : Fin 512) (e : Fin 256) : V m c main_v0 (ix3 k r e) = m ((c : Thread nD τ).loc main_arg0) (ix3 k r e) := by
  entry_read
  pointwise

theorem blk0 (t : Fin cfg0.N) (k : Fin 4) (l : Fin 512) (e : Fin 256) : iblk m c 0 t (ix3 k l e) = V m c main_v0 (ix3 k (row t l) e) := by
  blk_ext [iblk, idx t, row]

theorem point (t : Fin cfg0.N) (l : Fin 512) (e : Fin 256) :
    out0_1 (iblk m c 0 t) (ix2 l e) = total m c (ix2 (row t l) e) := by
  rw [row_eq]
  frame_out
  pointwise [k0_pay1, val_main_v2, val_main_v1, val_main_v0, val_main_cst]
  simp only [blk0, row_eq, Fin.sum_univ_four]
  rw [cast, cast, cast, cast]

theorem arr_total : (dats m 0 c).arrAt 1 cfg0.N = total m c := by
  refine (dats m 0 c).arrAt_eq_of_covers 1 _ (by decide +kernel) fun t hf y => ?_
  blk_simp
  rw [after0_1]
  obtain ⟨l, e, rfl⟩ : ∃ (l : Fin 512) (e : Fin 256), y = ix2 l e := ⟨y 0, y 1, eq_ix2 y⟩
  have h : (win0_1.blk t).view.emb (ix2 l e) = ix2 (row t l) e := by blk_ext [idx t, row]
  rw [h]
  exact point m c t l e

theorem frame : Cert.quiescent_SumProj (hSumProj := Cert.SumProj.Gen.facts) := fun m g _ => Cert.SumProj.Gen.frame m g

theorem frame_reference : Cert.quiescent_SumProjRefIdeal (hSumProjRefIdeal := Cert.SumProjRefIdeal.Gen.facts) := fun m g _ =>
  (θ_run _ _ _).mono (fun r h => ⟨fun c => (h c).2, sem_eq_zero_of_no_sems rfl r.2⟩) (Cert.SumProjRefIdeal.Value.run m g)

theorem equal : Cert.algebraic_SumProjIdeal_SumProjRefIdeal (hSumProjIdeal := Cert.SumProjIdeal.Gen.facts)
    (hSumProjRefIdeal := Cert.SumProjRefIdeal.Gen.facts) :=
  fun m g m' g' _ hagree => ⟨_, Cert.SumProjIdeal.Value.run_blocks m g, (θ_run _ _ _).mono (fun r h c => by
    obtain ⟨h0, hargs⟩ := h c
    have e0 := hagree c
    refine ⟨(h0.trans (val_main_v2_eq _)).trans ?_, hargs⟩
    · rw [e0]; exact (arr_total m c).symm) (Cert.SumProjRefIdeal.Value.run m' g')⟩

end Cert.Products.SumProj

end
-- ==== Proof.SumGate.lean ====
/- The sum over the four chips of one part of a weight's gradient, a block of rows at a time. -/
module

public import proofs.«01_k».proof.Defs
public import proofs.«01_k».proof.Proof.Gen.SumGate.Frame
public import proofs.«01_k».proof.Proof.Gen.SumGateIdeal.Value
public import proofs.«01_k».proof.Proof.Gen.SumGateRefIdeal.Read
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.SumGate

open Cert.SumGateIdeal Cert.SumGateIdeal.Gen Cert.SumGateRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

/-! What the reference computes from the same arguments. -/
abbrev total := val_main_v2 (F := Ideal) (m ((c : Thread nD τ).loc main_arg0))

theorem idx : ∀ t : Fin cfg0.N, win0_0.index t = ![0, t.val, 0] ∧ win0_1.index t = ![t.val, 0] :=
  (by decide +kernel : ∀ t : Fin grid0.N, _)

/-- Row `l` of the blocks of grid point `t`. -/
abbrev row (t : Fin cfg0.N) (l : Fin 512) : Fin 512 := ⟨t.val * 512 + l.val, by have h : t.val < 1 := t.isLt; omega⟩

theorem row_eq (t : Fin cfg0.N) (l : Fin 512) : row t l = l :=
  Fin.ext (by have h : t.val < 1 := t.isLt; show t.val * 512 + l.val = l.val; omega)

theorem cast (k : Fin 4) (r : Fin 512) (e : Fin 1024) : V m c main_v0 (ix3 k r e) = m ((c : Thread nD τ).loc main_arg0) (ix3 k r e) := by
  entry_read
  pointwise

theorem blk0 (t : Fin cfg0.N) (k : Fin 4) (l : Fin 512) (e : Fin 1024) : iblk m c 0 t (ix3 k l e) = V m c main_v0 (ix3 k (row t l) e) := by
  blk_ext [iblk, idx t, row]

theorem point (t : Fin cfg0.N) (l : Fin 512) (e : Fin 1024) :
    out0_1 (iblk m c 0 t) (ix2 l e) = total m c (ix2 (row t l) e) := by
  rw [row_eq]
  frame_out
  pointwise [k0_pay1, val_main_v2, val_main_v1, val_main_v0, val_main_cst]
  simp only [blk0, row_eq, Fin.sum_univ_four]
  rw [cast, cast, cast, cast]

theorem arr_total : (dats m 0 c).arrAt 1 cfg0.N = total m c := by
  refine (dats m 0 c).arrAt_eq_of_covers 1 _ (by decide +kernel) fun t hf y => ?_
  blk_simp
  rw [after0_1]
  obtain ⟨l, e, rfl⟩ : ∃ (l : Fin 512) (e : Fin 1024), y = ix2 l e := ⟨y 0, y 1, eq_ix2 y⟩
  have h : (win0_1.blk t).view.emb (ix2 l e) = ix2 (row t l) e := by blk_ext [idx t, row]
  rw [h]
  exact point m c t l e

theorem frame : Cert.quiescent_SumGate (hSumGate := Cert.SumGate.Gen.facts) := fun m g _ => Cert.SumGate.Gen.frame m g

theorem frame_reference : Cert.quiescent_SumGateRefIdeal (hSumGateRefIdeal := Cert.SumGateRefIdeal.Gen.facts) := fun m g _ =>
  (θ_run _ _ _).mono (fun r h => ⟨fun c => (h c).2, sem_eq_zero_of_no_sems rfl r.2⟩) (Cert.SumGateRefIdeal.Value.run m g)

theorem equal : Cert.algebraic_SumGateIdeal_SumGateRefIdeal (hSumGateIdeal := Cert.SumGateIdeal.Gen.facts)
    (hSumGateRefIdeal := Cert.SumGateRefIdeal.Gen.facts) :=
  fun m g m' g' _ hagree => ⟨_, Cert.SumGateIdeal.Value.run_blocks m g, (θ_run _ _ _).mono (fun r h c => by
    obtain ⟨h0, hargs⟩ := h c
    have e0 := hagree c
    refine ⟨(h0.trans (val_main_v2_eq _)).trans ?_, hargs⟩
    · rw [e0]; exact (arr_total m c).symm) (Cert.SumGateRefIdeal.Value.run m' g')⟩

end Cert.Products.SumGate

end
-- ==== Proof.SumSmall.lean ====
/- The sum over the eight devices of the packed small gradients and the loss, a block of rows at a time. -/
module

public import proofs.«01_k».proof.Defs
public import proofs.«01_k».proof.Proof.Gen.SumSmall.Frame
public import proofs.«01_k».proof.Proof.Gen.SumSmallIdeal.Value
public import proofs.«01_k».proof.Proof.Gen.SumSmallRefIdeal.Read
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.SumSmall

open Cert.SumSmallIdeal Cert.SumSmallIdeal.Gen Cert.SumSmallRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

/-! What the reference computes from the same arguments. -/
abbrev total := val_main_v0 (F := Ideal) (m ((c : Thread nD τ).loc main_arg0))

theorem idx : ∀ t : Fin cfg0.N, win0_0.index t = ![0, t.val, 0] ∧ win0_1.index t = ![t.val, 0] :=
  (by decide +kernel : ∀ t : Fin grid0.N, _)

/-- Row `l` of the blocks of grid point `t`. -/
abbrev row (t : Fin cfg0.N) (l : Fin 256) : Fin 1280 := ⟨t.val * 256 + l.val, by have h : t.val < 5 := t.isLt; omega⟩

theorem blk0 (t : Fin cfg0.N) (k : Fin 8) (l : Fin 256) (e : Fin 128) : iblk m c 0 t (ix3 k l e) = m ((c : Thread nD τ).loc main_arg0) (ix3 k (row t l) e) := by
  blk_ext [iblk, V, idx t, row]

theorem point (t : Fin cfg0.N) (l : Fin 256) (e : Fin 128) :
    out0_1 (iblk m c 0 t) (ix2 l e) = total m c (ix2 (row t l) e) := by
  frame_out
  pointwise [k0_pay1, val_main_v0, val_main_cst]
  simp only [blk0, Fin.sum_univ_eight]

theorem arr_total : (dats m 0 c).arrAt 1 cfg0.N = total m c := by
  refine (dats m 0 c).arrAt_eq_of_covers 1 _ (by decide +kernel) fun t hf y => ?_
  blk_simp
  rw [after0_1]
  obtain ⟨l, e, rfl⟩ : ∃ (l : Fin 256) (e : Fin 128), y = ix2 l e := ⟨y 0, y 1, eq_ix2 y⟩
  have h : (win0_1.blk t).view.emb (ix2 l e) = ix2 (row t l) e := by blk_ext [idx t, row]
  rw [h]
  exact point m c t l e

theorem frame : Cert.quiescent_SumSmall (hSumSmall := Cert.SumSmall.Gen.facts) := fun m g _ => Cert.SumSmall.Gen.frame m g

theorem frame_reference : Cert.quiescent_SumSmallRefIdeal (hSumSmallRefIdeal := Cert.SumSmallRefIdeal.Gen.facts) := fun m g _ =>
  (θ_run _ _ _).mono (fun r h => ⟨fun c => (h c).2, sem_eq_zero_of_no_sems rfl r.2⟩) (Cert.SumSmallRefIdeal.Value.run m g)

theorem equal : Cert.algebraic_SumSmallIdeal_SumSmallRefIdeal (hSumSmallIdeal := Cert.SumSmallIdeal.Gen.facts)
    (hSumSmallRefIdeal := Cert.SumSmallRefIdeal.Gen.facts) :=
  fun m g m' g' _ hagree => ⟨_, Cert.SumSmallIdeal.Value.run_blocks m g, (θ_run _ _ _).mono (fun r h c => by
    obtain ⟨h0, hargs⟩ := h c
    have e0 := hagree c
    refine ⟨(h0.trans (val_main_v0_eq _)).trans ?_, hargs⟩
    · rw [e0]; exact (arr_total m c).symm) (Cert.SumSmallRefIdeal.Value.run m' g')⟩

end Cert.Products.SumSmall

end
-- ==== Proof.AdamIn.lean ====
/- The optimiser step of the input projection's weight. -/
module

public import proofs.«01_k».proof.Defs
public import proofs.«01_k».proof.Proof.Gen.AdamIn.Frame
public import proofs.«01_k».proof.Proof.Gen.AdamInIdeal.Value
public import proofs.«01_k».proof.Proof.Gen.AdamInRefIdeal.Read
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.AdamIn

open Cert.AdamInIdeal Cert.AdamInIdeal.Gen Cert.AdamInIdeal.Value Cert.AdamInRefIdeal.Read Idealize.ShloMosaic Idealize.ShloMosaic.TcCoe Idealize.SL.Sem

variable (w ga gb m v : FVec Ideal S1024x512 .f32)

theorem sum : G5 w ga gb m v = val_main_v0 (F := Ideal) ga gb := by
  funext y
  pointwise [k0_pay2, val_main_v0]

/-- The step itself, for every weight at once. -/
theorem step : G6 w ga gb m v = val_main_v24 (F := Ideal) w ga gb m v := by
  funext y
  rfl

theorem first : G7 w ga gb m v = val_main_v5 (F := Ideal) ga gb m := by
  funext y
  rfl

theorem second : G8 w ga gb m v = val_main_v11 (F := Ideal) ga gb v := by
  funext y
  rfl

theorem frame : Cert.quiescent_AdamIn (hAdamIn := Cert.AdamIn.Gen.facts) := fun m g _ => Cert.AdamIn.Gen.frame m g

theorem frame_reference : Cert.quiescent_AdamInRefIdeal (hAdamInRefIdeal := Cert.AdamInRefIdeal.Gen.facts) := fun m g _ =>
  (θ_run _ _ _).mono (fun r h => ⟨fun c => (h c).2.2.2.2, sem_eq_zero_of_no_sems rfl r.2⟩) (Cert.AdamInRefIdeal.Value.run m g)

theorem equal : Cert.algebraic_AdamInIdeal_AdamInRefIdeal (hAdamInIdeal := Cert.AdamInIdeal.Gen.facts)
    (hAdamInRefIdeal := Cert.AdamInRefIdeal.Gen.facts) :=
  fun m g m' g' _ hagree => ⟨_, _, _, _, Cert.AdamInIdeal.Value.run m g, (θ_run _ _ _).mono (fun r h c => by
    obtain ⟨h1, h2, h3, h4, hargs⟩ := h c
    obtain ⟨e0, e1, e2, e3, e4⟩ := hagree c
    refine ⟨(h1.trans (val_main_v0_eq _ _)).trans ?_, (h2.trans (val_main_v24_eq _ _ _ _ _)).trans ?_,
      (h3.trans (val_main_v5_eq _ _ _)).trans ?_, (h4.trans (val_main_v11_eq _ _ _)).trans ?_, hargs⟩
    · rw [e1, e2]; exact (sum _ _ _ _ _).symm
    · rw [e0, e1, e2, e3, e4]; exact (step _ _ _ _ _).symm
    · rw [e1, e2, e3]; exact (first _ _ _ _ _).symm
    · rw [e1, e2, e4]; exact (second _ _ _ _ _).symm) (Cert.AdamInRefIdeal.Value.run m' g')⟩

end Cert.Products.AdamIn

end
-- ==== Proof.AdamOut.lean ====
/- The optimiser step of the output projection's weight. -/
module

public import proofs.«01_k».proof.Defs
public import proofs.«01_k».proof.Proof.Gen.AdamOut.Frame
public import proofs.«01_k».proof.Proof.Gen.AdamOutIdeal.Value
public import proofs.«01_k».proof.Proof.Gen.AdamOutRefIdeal.Read
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.AdamOut

open Cert.AdamOutIdeal Cert.AdamOutIdeal.Gen Cert.AdamOutIdeal.Value Cert.AdamOutRefIdeal.Read Idealize.ShloMosaic Idealize.ShloMosaic.TcCoe Idealize.SL.Sem

variable (w ga gb m v : FVec Ideal S256x1024 .f32)

theorem sum : G5 w ga gb m v = val_main_v0 (F := Ideal) ga gb := by
  funext y
  pointwise [k0_pay2, val_main_v0]

/-- The step itself, for every weight at once. -/
theorem step : G6 w ga gb m v = val_main_v24 (F := Ideal) w ga gb m v := by
  funext y
  rfl

theorem first : G7 w ga gb m v = val_main_v5 (F := Ideal) ga gb m := by
  funext y
  rfl

theorem second : G8 w ga gb m v = val_main_v11 (F := Ideal) ga gb v := by
  funext y
  rfl

theorem frame : Cert.quiescent_AdamOut (hAdamOut := Cert.AdamOut.Gen.facts) := fun m g _ => Cert.AdamOut.Gen.frame m g

theorem frame_reference : Cert.quiescent_AdamOutRefIdeal (hAdamOutRefIdeal := Cert.AdamOutRefIdeal.Gen.facts) := fun m g _ =>
  (θ_run _ _ _).mono (fun r h => ⟨fun c => (h c).2.2.2.2, sem_eq_zero_of_no_sems rfl r.2⟩) (Cert.AdamOutRefIdeal.Value.run m g)

theorem equal : Cert.algebraic_AdamOutIdeal_AdamOutRefIdeal (hAdamOutIdeal := Cert.AdamOutIdeal.Gen.facts)
    (hAdamOutRefIdeal := Cert.AdamOutRefIdeal.Gen.facts) :=
  fun m g m' g' _ hagree => ⟨_, _, _, _, Cert.AdamOutIdeal.Value.run m g, (θ_run _ _ _).mono (fun r h c => by
    obtain ⟨h1, h2, h3, h4, hargs⟩ := h c
    obtain ⟨e0, e1, e2, e3, e4⟩ := hagree c
    refine ⟨(h1.trans (val_main_v0_eq _ _)).trans ?_, (h2.trans (val_main_v24_eq _ _ _ _ _)).trans ?_,
      (h3.trans (val_main_v5_eq _ _ _)).trans ?_, (h4.trans (val_main_v11_eq _ _ _)).trans ?_, hargs⟩
    · rw [e1, e2]; exact (sum _ _ _ _ _).symm
    · rw [e0, e1, e2, e3, e4]; exact (step _ _ _ _ _).symm
    · rw [e1, e2, e3]; exact (first _ _ _ _ _).symm
    · rw [e1, e2, e4]; exact (second _ _ _ _ _).symm) (Cert.AdamOutRefIdeal.Value.run m' g')⟩

end Cert.Products.AdamOut

end
-- ==== Proof.AdamUp.lean ====
/- The optimiser step of the up projection's weight, four blocks of rows at a time. -/
module

public import proofs.«01_k».proof.Defs
public import proofs.«01_k».proof.Proof.Gen.AdamUp.Frame
public import proofs.«01_k».proof.Proof.Gen.AdamUpIdeal.Value
public import proofs.«01_k».proof.Proof.Gen.AdamUpRefIdeal.Read
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.AdamUp

open Cert.AdamUpIdeal Cert.AdamUpIdeal.Gen Cert.AdamUpRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

/-! What the reference computes from the same arguments. -/
abbrev sum := val_main_v0 (F := Ideal) (m ((c : Thread nD τ).loc main_arg1)) (m ((c : Thread nD τ).loc main_arg2))
abbrev step := val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4))
abbrev first := val_main_v5 (F := Ideal) (m ((c : Thread nD τ).loc main_arg1)) (m ((c : Thread nD τ).loc main_arg2)) (m ((c : Thread nD τ).loc main_arg3))
abbrev second := val_main_v11 (F := Ideal) (m ((c : Thread nD τ).loc main_arg1)) (m ((c : Thread nD τ).loc main_arg2)) (m ((c : Thread nD τ).loc main_arg4))

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- Row `l` of the blocks of grid point `t`. -/
abbrev row (t : Fin cfg0.N) (l : Fin 512) : Fin 2048 := ⟨t.val * 512 + l.val, by have h : t.val < 4 := t.isLt; omega⟩

theorem blk0 (t : Fin cfg0.N) (l : Fin 512) (e : Fin 704) : iblk m c 0 t (ix2 l e) = m ((c : Thread nD τ).loc main_arg0) (ix2 (row t l) e) := by
  blk_ext [iblk, V, idx t, row]
theorem blk1 (t : Fin cfg0.N) (l : Fin 512) (e : Fin 704) : iblk m c 1 t (ix2 l e) = m ((c : Thread nD τ).loc main_arg1) (ix2 (row t l) e) := by
  blk_ext [iblk, V, idx t, row]
theorem blk2 (t : Fin cfg0.N) (l : Fin 512) (e : Fin 704) : iblk m c 2 t (ix2 l e) = m ((c : Thread nD τ).loc main_arg2) (ix2 (row t l) e) := by
  blk_ext [iblk, V, idx t, row]
theorem blk3 (t : Fin cfg0.N) (l : Fin 512) (e : Fin 704) : iblk m c 3 t (ix2 l e) = m ((c : Thread nD τ).loc main_arg3) (ix2 (row t l) e) := by
  blk_ext [iblk, V, idx t, row]
theorem blk4 (t : Fin cfg0.N) (l : Fin 512) (e : Fin 704) : iblk m c 4 t (ix2 l e) = m ((c : Thread nD τ).loc main_arg4) (ix2 (row t l) e) := by
  blk_ext [iblk, V, idx t, row]

theorem point_sum (t : Fin cfg0.N) (l : Fin 512) (e : Fin 704) :
    out0_5 (iblk m c 0 t) (iblk m c 1 t) (iblk m c 2 t) (iblk m c 3 t) (iblk m c 4 t) (ix2 l e) = sum m c (ix2 (row t l) e) := by
  frame_out
  pointwise [k0_pay1, k0_pay2, k0_pay3, k0_pay4, k0_pay5]
  rw [blk1, blk2]
  rfl

theorem arr_sum : (dats m 0 c).arrAt 5 cfg0.N = sum m c := by
  refine (dats m 0 c).arrAt_eq_of_covers 5 _ (by decide +kernel) fun t hf y => ?_
  blk_simp
  rw [after0_5]
  obtain ⟨l, e, rfl⟩ : ∃ (l : Fin 512) (e : Fin 704), y = ix2 l e := ⟨y 0, y 1, eq_ix2 y⟩
  have h : (win0_5.blk t).view.emb (ix2 l e) = ix2 (row t l) e := by blk_ext [idx t, row]
  rw [h]
  exact point_sum m c t l e

theorem point_step (t : Fin cfg0.N) (l : Fin 512) (e : Fin 704) :
    out0_6 (iblk m c 0 t) (iblk m c 1 t) (iblk m c 2 t) (iblk m c 3 t) (iblk m c 4 t) (ix2 l e) = step m c (ix2 (row t l) e) := by
  frame_out
  pointwise [k0_pay1, k0_pay2, k0_pay3, k0_pay4, k0_pay5]
  rw [blk3, blk1, blk2, blk4, blk0]
  rfl

theorem arr_step : (dats m 0 c).arrAt 6 cfg0.N = step m c := by
  refine (dats m 0 c).arrAt_eq_of_covers 6 _ (by decide +kernel) fun t hf y => ?_
  blk_simp
  rw [after0_6]
  obtain ⟨l, e, rfl⟩ : ∃ (l : Fin 512) (e : Fin 704), y = ix2 l e := ⟨y 0, y 1, eq_ix2 y⟩
  have h : (win0_6.blk t).view.emb (ix2 l e) = ix2 (row t l) e := by blk_ext [idx t, row]
  rw [h]
  exact point_step m c t l e

theorem point_first (t : Fin cfg0.N) (l : Fin 512) (e : Fin 704) :
    out0_7 (iblk m c 0 t) (iblk m c 1 t) (iblk m c 2 t) (iblk m c 3 t) (iblk m c 4 t) (ix2 l e) = first m c (ix2 (row t l) e) := by
  frame_out
  pointwise [k0_pay1, k0_pay2, k0_pay3, k0_pay4, k0_pay5]
  rw [blk1, blk2, blk3]
  rfl

theorem arr_first : (dats m 0 c).arrAt 7 cfg0.N = first m c := by
  refine (dats m 0 c).arrAt_eq_of_covers 7 _ (by decide +kernel) fun t hf y => ?_
  blk_simp
  rw [after0_7]
  obtain ⟨l, e, rfl⟩ : ∃ (l : Fin 512) (e : Fin 704), y = ix2 l e := ⟨y 0, y 1, eq_ix2 y⟩
  have h : (win0_7.blk t).view.emb (ix2 l e) = ix2 (row t l) e := by blk_ext [idx t, row]
  rw [h]
  exact point_first m c t l e

theorem point_second (t : Fin cfg0.N) (l : Fin 512) (e : Fin 704) :
    out0_8 (iblk m c 0 t) (iblk m c 1 t) (iblk m c 2 t) (iblk m c 3 t) (iblk m c 4 t) (ix2 l e) = second m c (ix2 (row t l) e) := by
  frame_out
  pointwise [k0_pay1, k0_pay2, k0_pay3, k0_pay4, k0_pay5]
  rw [blk1, blk2, blk4]
  rfl

theorem arr_second : (dats m 0 c).arrAt 8 cfg0.N = second m c := by
  refine (dats m 0 c).arrAt_eq_of_covers 8 _ (by decide +kernel) fun t hf y => ?_
  blk_simp
  rw [after0_8]
  obtain ⟨l, e, rfl⟩ : ∃ (l : Fin 512) (e : Fin 704), y = ix2 l e := ⟨y 0, y 1, eq_ix2 y⟩
  have h : (win0_8.blk t).view.emb (ix2 l e) = ix2 (row t l) e := by blk_ext [idx t, row]
  rw [h]
  exact point_second m c t l e

theorem frame : Cert.quiescent_AdamUp (hAdamUp := Cert.AdamUp.Gen.facts) := fun m g _ => Cert.AdamUp.Gen.frame m g

theorem frame_reference : Cert.quiescent_AdamUpRefIdeal (hAdamUpRefIdeal := Cert.AdamUpRefIdeal.Gen.facts) := fun m g _ =>
  (θ_run _ _ _).mono (fun r h => ⟨fun c => (h c).2.2.2.2, sem_eq_zero_of_no_sems rfl r.2⟩) (Cert.AdamUpRefIdeal.Value.run m g)

theorem equal : Cert.algebraic_AdamUpIdeal_AdamUpRefIdeal (hAdamUpIdeal := Cert.AdamUpIdeal.Gen.facts)
    (hAdamUpRefIdeal := Cert.AdamUpRefIdeal.Gen.facts) :=
  fun m g m' g' _ hagree => ⟨_, _, _, _, Cert.AdamUpIdeal.Value.run_blocks m g, (θ_run _ _ _).mono (fun r h c => by
    obtain ⟨h1, h2, h3, h4, hargs⟩ := h c
    obtain ⟨e0, e1, e2, e3, e4⟩ := hagree c
    refine ⟨(h1.trans (val_main_v0_eq _ _)).trans ?_, (h2.trans (val_main_v24_eq _ _ _ _ _)).trans ?_,
      (h3.trans (val_main_v5_eq _ _ _)).trans ?_, (h4.trans (val_main_v11_eq _ _ _)).trans ?_, hargs⟩
    · rw [e1, e2]; exact (arr_sum m c).symm
    · rw [e0, e1, e2, e3, e4]; exact (arr_step m c).symm
    · rw [e1, e2, e3]; exact (arr_first m c).symm
    · rw [e1, e2, e4]; exact (arr_second m c).symm) (Cert.AdamUpRefIdeal.Value.run m' g')⟩

end Cert.Products.AdamUp

end
-- ==== Proof.AdamDown.lean ====
/- The optimiser step of the down projection's weight, eleven blocks of rows at a time. -/
module

public import proofs.«01_k».proof.Defs
public import proofs.«01_k».proof.Proof.Gen.AdamDown.Frame
public import proofs.«01_k».proof.Proof.Gen.AdamDownIdeal.Value
public import proofs.«01_k».proof.Proof.Gen.AdamDownRefIdeal.Read
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.AdamDown

open Cert.AdamDownIdeal Cert.AdamDownIdeal.Gen Cert.AdamDownRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

/-! What the reference computes from the same arguments. -/
abbrev sum := val_main_v0 (F := Ideal) (m ((c : Thread nD τ).loc main_arg1)) (m ((c : Thread nD τ).loc main_arg2))
abbrev step := val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4))
abbrev first := val_main_v5 (F := Ideal) (m ((c : Thread nD τ).loc main_arg1)) (m ((c : Thread nD τ).loc main_arg2)) (m ((c : Thread nD τ).loc main_arg3))
abbrev second := val_main_v11 (F := Ideal) (m ((c : Thread nD τ).loc main_arg1)) (m ((c : Thread nD τ).loc main_arg2)) (m ((c : Thread nD τ).loc main_arg4))

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- Row `l` of the blocks of grid point `t`. -/
abbrev row (t : Fin cfg0.N) (l : Fin 128) : Fin 1408 := ⟨t.val * 128 + l.val, by have h : t.val < 11 := t.isLt; omega⟩

theorem blk0 (t : Fin cfg0.N) (l : Fin 128) (e : Fin 1024) : iblk m c 0 t (ix2 l e) = m ((c : Thread nD τ).loc main_arg0) (ix2 (row t l) e) := by
  blk_ext [iblk, V, idx t, row]
theorem blk1 (t : Fin cfg0.N) (l : Fin 128) (e : Fin 1024) : iblk m c 1 t (ix2 l e) = m ((c : Thread nD τ).loc main_arg1) (ix2 (row t l) e) := by
  blk_ext [iblk, V, idx t, row]
theorem blk2 (t : Fin cfg0.N) (l : Fin 128) (e : Fin 1024) : iblk m c 2 t (ix2 l e) = m ((c : Thread nD τ).loc main_arg2) (ix2 (row t l) e) := by
  blk_ext [iblk, V, idx t, row]
theorem blk3 (t : Fin cfg0.N) (l : Fin 128) (e : Fin 1024) : iblk m c 3 t (ix2 l e) = m ((c : Thread nD τ).loc main_arg3) (ix2 (row t l) e) := by
  blk_ext [iblk, V, idx t, row]
theorem blk4 (t : Fin cfg0.N) (l : Fin 128) (e : Fin 1024) : iblk m c 4 t (ix2 l e) = m ((c : Thread nD τ).loc main_arg4) (ix2 (row t l) e) := by
  blk_ext [iblk, V, idx t, row]

theorem point_sum (t : Fin cfg0.N) (l : Fin 128) (e : Fin 1024) :
    out0_5 (iblk m c 0 t) (iblk m c 1 t) (iblk m c 2 t) (iblk m c 3 t) (iblk m c 4 t) (ix2 l e) = sum m c (ix2 (row t l) e) := by
  frame_out
  pointwise [k0_pay1, k0_pay2, k0_pay3, k0_pay4, k0_pay5]
  rw [blk1, blk2]
  rfl

theorem arr_sum : (dats m 0 c).arrAt 5 cfg0.N = sum m c := by
  refine (dats m 0 c).arrAt_eq_of_covers 5 _ (by decide +kernel) fun t hf y => ?_
  blk_simp
  rw [after0_5]
  obtain ⟨l, e, rfl⟩ : ∃ (l : Fin 128) (e : Fin 1024), y = ix2 l e := ⟨y 0, y 1, eq_ix2 y⟩
  have h : (win0_5.blk t).view.emb (ix2 l e) = ix2 (row t l) e := by blk_ext [idx t, row]
  rw [h]
  exact point_sum m c t l e

theorem point_step (t : Fin cfg0.N) (l : Fin 128) (e : Fin 1024) :
    out0_6 (iblk m c 0 t) (iblk m c 1 t) (iblk m c 2 t) (iblk m c 3 t) (iblk m c 4 t) (ix2 l e) = step m c (ix2 (row t l) e) := by
  frame_out
  pointwise [k0_pay1, k0_pay2, k0_pay3, k0_pay4, k0_pay5]
  rw [blk3, blk1, blk2, blk4, blk0]
  rfl

theorem arr_step : (dats m 0 c).arrAt 6 cfg0.N = step m c := by
  refine (dats m 0 c).arrAt_eq_of_covers 6 _ (by decide +kernel) fun t hf y => ?_
  blk_simp
  rw [after0_6]
  obtain ⟨l, e, rfl⟩ : ∃ (l : Fin 128) (e : Fin 1024), y = ix2 l e := ⟨y 0, y 1, eq_ix2 y⟩
  have h : (win0_6.blk t).view.emb (ix2 l e) = ix2 (row t l) e := by blk_ext [idx t, row]
  rw [h]
  exact point_step m c t l e

theorem point_first (t : Fin cfg0.N) (l : Fin 128) (e : Fin 1024) :
    out0_7 (iblk m c 0 t) (iblk m c 1 t) (iblk m c 2 t) (iblk m c 3 t) (iblk m c 4 t) (ix2 l e) = first m c (ix2 (row t l) e) := by
  frame_out
  pointwise [k0_pay1, k0_pay2, k0_pay3, k0_pay4, k0_pay5]
  rw [blk1, blk2, blk3]
  rfl

theorem arr_first : (dats m 0 c).arrAt 7 cfg0.N = first m c := by
  refine (dats m 0 c).arrAt_eq_of_covers 7 _ (by decide +kernel) fun t hf y => ?_
  blk_simp
  rw [after0_7]
  obtain ⟨l, e, rfl⟩ : ∃ (l : Fin 128) (e : Fin 1024), y = ix2 l e := ⟨y 0, y 1, eq_ix2 y⟩
  have h : (win0_7.blk t).view.emb (ix2 l e) = ix2 (row t l) e := by blk_ext [idx t, row]
  rw [h]
  exact point_first m c t l e

theorem point_second (t : Fin cfg0.N) (l : Fin 128) (e : Fin 1024) :
    out0_8 (iblk m c 0 t) (iblk m c 1 t) (iblk m c 2 t) (iblk m c 3 t) (iblk m c 4 t) (ix2 l e) = second m c (ix2 (row t l) e) := by
  frame_out
  pointwise [k0_pay1, k0_pay2, k0_pay3, k0_pay4, k0_pay5]
  rw [blk1, blk2, blk4]
  rfl

theorem arr_second : (dats m 0 c).arrAt 8 cfg0.N = second m c := by
  refine (dats m 0 c).arrAt_eq_of_covers 8 _ (by decide +kernel) fun t hf y => ?_
  blk_simp
  rw [after0_8]
  obtain ⟨l, e, rfl⟩ : ∃ (l : Fin 128) (e : Fin 1024), y = ix2 l e := ⟨y 0, y 1, eq_ix2 y⟩
  have h : (win0_8.blk t).view.emb (ix2 l e) = ix2 (row t l) e := by blk_ext [idx t, row]
  rw [h]
  exact point_second m c t l e

theorem frame : Cert.quiescent_AdamDown (hAdamDown := Cert.AdamDown.Gen.facts) := fun m g _ => Cert.AdamDown.Gen.frame m g

theorem frame_reference : Cert.quiescent_AdamDownRefIdeal (hAdamDownRefIdeal := Cert.AdamDownRefIdeal.Gen.facts) := fun m g _ =>
  (θ_run _ _ _).mono (fun r h => ⟨fun c => (h c).2.2.2.2, sem_eq_zero_of_no_sems rfl r.2⟩) (Cert.AdamDownRefIdeal.Value.run m g)

theorem equal : Cert.algebraic_AdamDownIdeal_AdamDownRefIdeal (hAdamDownIdeal := Cert.AdamDownIdeal.Gen.facts)
    (hAdamDownRefIdeal := Cert.AdamDownRefIdeal.Gen.facts) :=
  fun m g m' g' _ hagree => ⟨_, _, _, _, Cert.AdamDownIdeal.Value.run_blocks m g, (θ_run _ _ _).mono (fun r h c => by
    obtain ⟨h1, h2, h3, h4, hargs⟩ := h c
    obtain ⟨e0, e1, e2, e3, e4⟩ := hagree c
    refine ⟨(h1.trans (val_main_v0_eq _ _)).trans ?_, (h2.trans (val_main_v24_eq _ _ _ _ _)).trans ?_,
      (h3.trans (val_main_v5_eq _ _ _)).trans ?_, (h4.trans (val_main_v11_eq _ _ _)).trans ?_, hargs⟩
    · rw [e1, e2]; exact (arr_sum m c).symm
    · rw [e0, e1, e2, e3, e4]; exact (arr_step m c).symm
    · rw [e1, e2, e3]; exact (arr_first m c).symm
    · rw [e1, e2, e4]; exact (arr_second m c).symm) (Cert.AdamDownRefIdeal.Value.run m' g')⟩

end Cert.Products.AdamDown

end
-- ==== Proof.AdamProj.lean ====
/- The optimiser step of the embedding projection's weight. -/
module

public import proofs.«01_k».proof.Defs
public import proofs.«01_k».proof.Proof.Gen.AdamProj.Frame
public import proofs.«01_k».proof.Proof.Gen.AdamProjIdeal.Value
public import proofs.«01_k».proof.Proof.Gen.AdamProjRefIdeal.Read
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.AdamProj

open Cert.AdamProjIdeal Cert.AdamProjIdeal.Gen Cert.AdamProjIdeal.Value Cert.AdamProjRefIdeal.Read Idealize.ShloMosaic Idealize.ShloMosaic.TcCoe Idealize.SL.Sem

variable (w ga gb m v : FVec Ideal S512x256 .f32)

theorem sum : G5 w ga gb m v = val_main_v0 (F := Ideal) ga gb := by
  funext y
  pointwise [k0_pay2, val_main_v0]

/-- The step itself, for every weight at once. -/
theorem step : G6 w ga gb m v = val_main_v24 (F := Ideal) w ga gb m v := by
  funext y
  rfl

theorem first : G7 w ga gb m v = val_main_v5 (F := Ideal) ga gb m := by
  funext y
  rfl

theorem second : G8 w ga gb m v = val_main_v11 (F := Ideal) ga gb v := by
  funext y
  rfl

theorem frame : Cert.quiescent_AdamProj (hAdamProj := Cert.AdamProj.Gen.facts) := fun m g _ => Cert.AdamProj.Gen.frame m g

theorem frame_reference : Cert.quiescent_AdamProjRefIdeal (hAdamProjRefIdeal := Cert.AdamProjRefIdeal.Gen.facts) := fun m g _ =>
  (θ_run _ _ _).mono (fun r h => ⟨fun c => (h c).2.2.2.2, sem_eq_zero_of_no_sems rfl r.2⟩) (Cert.AdamProjRefIdeal.Value.run m g)

theorem equal : Cert.algebraic_AdamProjIdeal_AdamProjRefIdeal (hAdamProjIdeal := Cert.AdamProjIdeal.Gen.facts)
    (hAdamProjRefIdeal := Cert.AdamProjRefIdeal.Gen.facts) :=
  fun m g m' g' _ hagree => ⟨_, _, _, _, Cert.AdamProjIdeal.Value.run m g, (θ_run _ _ _).mono (fun r h c => by
    obtain ⟨h1, h2, h3, h4, hargs⟩ := h c
    obtain ⟨e0, e1, e2, e3, e4⟩ := hagree c
    refine ⟨(h1.trans (val_main_v0_eq _ _)).trans ?_, (h2.trans (val_main_v24_eq _ _ _ _ _)).trans ?_,
      (h3.trans (val_main_v5_eq _ _ _)).trans ?_, (h4.trans (val_main_v11_eq _ _ _)).trans ?_, hargs⟩
    · rw [e1, e2]; exact (sum _ _ _ _ _).symm
    · rw [e0, e1, e2, e3, e4]; exact (step _ _ _ _ _).symm
    · rw [e1, e2, e3]; exact (first _ _ _ _ _).symm
    · rw [e1, e2, e4]; exact (second _ _ _ _ _).symm) (Cert.AdamProjRefIdeal.Value.run m' g')⟩

end Cert.Products.AdamProj

end
-- ==== Proof.AdamGate.lean ====
/- The optimiser step of the embedding gate's weight. -/
module

public import proofs.«01_k».proof.Defs
public import proofs.«01_k».proof.Proof.Gen.AdamGate.Frame
public import proofs.«01_k».proof.Proof.Gen.AdamGateIdeal.Value
public import proofs.«01_k».proof.Proof.Gen.AdamGateRefIdeal.Read
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.AdamGate

open Cert.AdamGateIdeal Cert.AdamGateIdeal.Gen Cert.AdamGateIdeal.Value Cert.AdamGateRefIdeal.Read Idealize.ShloMosaic Idealize.ShloMosaic.TcCoe Idealize.SL.Sem

variable (w ga gb m v : FVec Ideal S512x1024 .f32)

theorem sum : G5 w ga gb m v = val_main_v0 (F := Ideal) ga gb := by
  funext y
  pointwise [k0_pay2, val_main_v0]

/-- The step itself, for every weight at once. -/
theorem step : G6 w ga gb m v = val_main_v24 (F := Ideal) w ga gb m v := by
  funext y
  rfl

theorem first : G7 w ga gb m v = val_main_v5 (F := Ideal) ga gb m := by
  funext y
  rfl

theorem second : G8 w ga gb m v = val_main_v11 (F := Ideal) ga gb v := by
  funext y
  rfl

theorem frame : Cert.quiescent_AdamGate (hAdamGate := Cert.AdamGate.Gen.facts) := fun m g _ => Cert.AdamGate.Gen.frame m g

theorem frame_reference : Cert.quiescent_AdamGateRefIdeal (hAdamGateRefIdeal := Cert.AdamGateRefIdeal.Gen.facts) := fun m g _ =>
  (θ_run _ _ _).mono (fun r h => ⟨fun c => (h c).2.2.2.2, sem_eq_zero_of_no_sems rfl r.2⟩) (Cert.AdamGateRefIdeal.Value.run m g)

theorem equal : Cert.algebraic_AdamGateIdeal_AdamGateRefIdeal (hAdamGateIdeal := Cert.AdamGateIdeal.Gen.facts)
    (hAdamGateRefIdeal := Cert.AdamGateRefIdeal.Gen.facts) :=
  fun m g m' g' _ hagree => ⟨_, _, _, _, Cert.AdamGateIdeal.Value.run m g, (θ_run _ _ _).mono (fun r h c => by
    obtain ⟨h1, h2, h3, h4, hargs⟩ := h c
    obtain ⟨e0, e1, e2, e3, e4⟩ := hagree c
    refine ⟨(h1.trans (val_main_v0_eq _ _)).trans ?_, (h2.trans (val_main_v24_eq _ _ _ _ _)).trans ?_,
      (h3.trans (val_main_v5_eq _ _ _)).trans ?_, (h4.trans (val_main_v11_eq _ _ _)).trans ?_, hargs⟩
    · rw [e1, e2]; exact (sum _ _ _ _ _).symm
    · rw [e0, e1, e2, e3, e4]; exact (step _ _ _ _ _).symm
    · rw [e1, e2, e3]; exact (first _ _ _ _ _).symm
    · rw [e1, e2, e4]; exact (second _ _ _ _ _).symm) (Cert.AdamGateRefIdeal.Value.run m' g')⟩

end Cert.Products.AdamGate

end
-- ==== Proof.AdamSmall.lean ====
/- One step of the optimiser for the packed small weights, entry by entry. -/
module

public import proofs.«01_k».proof.Defs
public import proofs.«01_k».proof.Proof.Gen.AdamSmall.Frame
public import proofs.«01_k».proof.Proof.Gen.AdamSmallIdeal.Value
public import proofs.«01_k».proof.Proof.Gen.AdamSmallRefIdeal.Read
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Products.AdamSmall

open Cert.AdamSmallIdeal Cert.AdamSmallIdeal.Gen Cert.AdamSmallRefIdeal.Read Idealize.ShloMosaic Idealize.ShloMosaic.TcCoe Idealize.SL.Sem
open Idealize.ShloMosaic.Pipeline (Dat)

variable (m : (ℓ : Loc nD τ sig) → Buf (Elt Ideal) ℓ) (c : Dev nD)

/-! What the reference computes from the same arguments. -/
abbrev step := val_main_v23 (F := Ideal) (m ((c : Thread nD τ).loc main_arg0)) (m ((c : Thread nD τ).loc main_arg1)) (m ((c : Thread nD τ).loc main_arg2)) (m ((c : Thread nD τ).loc main_arg3))
abbrev first := val_main_v4 (F := Ideal) (m ((c : Thread nD τ).loc main_arg1)) (m ((c : Thread nD τ).loc main_arg2))
abbrev second := val_main_v10 (F := Ideal) (m ((c : Thread nD τ).loc main_arg1)) (m ((c : Thread nD τ).loc main_arg3))

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- Row `l` of the blocks of grid point `t`. -/
abbrev row (t : Fin cfg0.N) (l : Fin 256) : Fin 1280 := ⟨t.val * 256 + l.val, by have h : t.val < 5 := t.isLt; omega⟩

theorem blk0 (t : Fin cfg0.N) (l : Fin 256) (e : Fin 128) : iblk m c 0 t (ix2 l e) = m ((c : Thread nD τ).loc main_arg0) (ix2 (row t l) e) := by
  blk_ext [iblk, V, idx t, row]
theorem blk1 (t : Fin cfg0.N) (l : Fin 256) (e : Fin 128) : iblk m c 1 t (ix2 l e) = m ((c : Thread nD τ).loc main_arg1) (ix2 (row t l) e) := by
  blk_ext [iblk, V, idx t, row]
theorem blk2 (t : Fin cfg0.N) (l : Fin 256) (e : Fin 128) : iblk m c 2 t (ix2 l e) = m ((c : Thread nD τ).loc main_arg2) (ix2 (row t l) e) := by
  blk_ext [iblk, V, idx t, row]
theorem blk3 (t : Fin cfg0.N) (l : Fin 256) (e : Fin 128) : iblk m c 3 t (ix2 l e) = m ((c : Thread nD τ).loc main_arg3) (ix2 (row t l) e) := by
  blk_ext [iblk, V, idx t, row]

theorem point_same (t : Fin cfg0.N) (l : Fin 256) (e : Fin 128) :
    out0_4 (iblk m c 0 t) (iblk m c 1 t) (iblk m c 2 t) (iblk m c 3 t) (ix2 l e) = m ((c : Thread nD τ).loc main_arg1) (ix2 (row t l) e) := by
  frame_out
  exact blk1 m c t l e

theorem arr_same : (dats m 0 c).arrAt 4 cfg0.N = m ((c : Thread nD τ).loc main_arg1) := by
  refine (dats m 0 c).arrAt_eq_of_covers 4 _ (by decide +kernel) fun t hf y => ?_
  blk_simp
  rw [after0_4]
  obtain ⟨l, e, rfl⟩ : ∃ (l : Fin 256) (e : Fin 128), y = ix2 l e := ⟨y 0, y 1, eq_ix2 y⟩
  have h : (win0_4.blk t).view.emb (ix2 l e) = ix2 (row t l) e := by blk_ext [idx t, row]
  rw [h]
  exact point_same m c t l e

theorem point_step (t : Fin cfg0.N) (l : Fin 256) (e : Fin 128) :
    out0_5 (iblk m c 0 t) (iblk m c 1 t) (iblk m c 2 t) (iblk m c 3 t) (ix2 l e) = step m c (ix2 (row t l) e) := by
  frame_out
  pointwise [k0_pay1, k0_pay2, k0_pay3]
  rw [blk2, blk1, blk3, blk0]
  rfl

theorem arr_step : (dats m 0 c).arrAt 5 cfg0.N = step m c := by
  refine (dats m 0 c).arrAt_eq_of_covers 5 _ (by decide +kernel) fun t hf y => ?_
  blk_simp
  rw [after0_5]
  obtain ⟨l, e, rfl⟩ : ∃ (l : Fin 256) (e : Fin 128), y = ix2 l e := ⟨y 0, y 1, eq_ix2 y⟩
  have h : (win0_5.blk t).view.emb (ix2 l e) = ix2 (row t l) e := by blk_ext [idx t, row]
  rw [h]
  exact point_step m c t l e

theorem point_first (t : Fin cfg0.N) (l : Fin 256) (e : Fin 128) :
    out0_6 (iblk m c 0 t) (iblk m c 1 t) (iblk m c 2 t) (iblk m c 3 t) (ix2 l e) = first m c (ix2 (row t l) e) := by
  frame_out
  pointwise [k0_pay1, k0_pay2, k0_pay3]
  rw [blk2, blk1]
  rfl

theorem arr_first : (dats m 0 c).arrAt 6 cfg0.N = first m c := by
  refine (dats m 0 c).arrAt_eq_of_covers 6 _ (by decide +kernel) fun t hf y => ?_
  blk_simp
  rw [after0_6]
  obtain ⟨l, e, rfl⟩ : ∃ (l : Fin 256) (e : Fin 128), y = ix2 l e := ⟨y 0, y 1, eq_ix2 y⟩
  have h : (win0_6.blk t).view.emb (ix2 l e) = ix2 (row t l) e := by blk_ext [idx t, row]
  rw [h]
  exact point_first m c t l e

theorem point_second (t : Fin cfg0.N) (l : Fin 256) (e : Fin 128) :
    out0_7 (iblk m c 0 t) (iblk m c 1 t) (iblk m c 2 t) (iblk m c 3 t) (ix2 l e) = second m c (ix2 (row t l) e) := by
  frame_out
  pointwise [k0_pay1, k0_pay2, k0_pay3]
  rw [blk3, blk1]
  rfl

theorem arr_second : (dats m 0 c).arrAt 7 cfg0.N = second m c := by
  refine (dats m 0 c).arrAt_eq_of_covers 7 _ (by decide +kernel) fun t hf y => ?_
  blk_simp
  rw [after0_7]
  obtain ⟨l, e, rfl⟩ : ∃ (l : Fin 256) (e : Fin 128), y = ix2 l e := ⟨y 0, y 1, eq_ix2 y⟩
  have h : (win0_7.blk t).view.emb (ix2 l e) = ix2 (row t l) e := by blk_ext [idx t, row]
  rw [h]
  exact point_second m c t l e

theorem frame : Cert.quiescent_AdamSmall (hAdamSmall := Cert.AdamSmall.Gen.facts) := fun m g _ => Cert.AdamSmall.Gen.frame m g

theorem frame_reference : Cert.quiescent_AdamSmallRefIdeal (hAdamSmallRefIdeal := Cert.AdamSmallRefIdeal.Gen.facts) := fun m g _ =>
  (θ_run _ _ _).mono (fun r h => ⟨fun c => (h c).2.2.2.2, sem_eq_zero_of_no_sems rfl r.2⟩) (Cert.AdamSmallRefIdeal.Value.run m g)

theorem equal : Cert.algebraic_AdamSmallIdeal_AdamSmallRefIdeal (hAdamSmallIdeal := Cert.AdamSmallIdeal.Gen.facts)
    (hAdamSmallRefIdeal := Cert.AdamSmallRefIdeal.Gen.facts) :=
  fun m g m' g' _ hagree => ⟨_, _, _, _, Cert.AdamSmallIdeal.Value.run_blocks m g, (θ_run _ _ _).mono (fun r h c => by
    obtain ⟨hs, h0, h1, h2, hargs⟩ := h c
    obtain ⟨e0, e1, e2, e3⟩ := hagree c
    refine ⟨hs.trans ?_, (h0.trans (val_main_v23_eq _ _ _ _)).trans ?_, (h1.trans (val_main_v4_eq _ _)).trans ?_, (h2.trans (val_main_v10_eq _ _)).trans ?_, hargs⟩
    · rw [e1]; exact (arr_same m c).symm
    · rw [e0, e1, e2, e3]; exact (arr_step m c).symm
    · rw [e1, e2]; exact (arr_first m c).symm
    · rw [e1, e3]; exact (arr_second m c).symm) (Cert.AdamSmallRefIdeal.Value.run m' g')⟩

end Cert.Products.AdamSmall

end
-- ==== Proof.lean ====
/-
  The certificate: the gMLP gradient (both runs of the kernel, the reference's run, the named constants and the
  equality of the six results), and after it the step's other calls, each proved in a module of its own.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Dact
public import proofs.«01_k».proof.Proof.Gen.Dact.Skeleton
public import proofs.«01_k».proof.Proof.Gen.Dact.Launch
public import proofs.«01_k».proof.Proof.Gen.Dact.Points
public import proofs.«01_k».proof.Proof.Gen.Dact.Frame
public import proofs.«01_k».proof.Proof.Gen.DactIdeal
public import proofs.«01_k».proof.Proof.Gen.DactIdeal.Skeleton
public import proofs.«01_k».proof.Proof.Gen.DactIdeal.Launch
public import proofs.«01_k».proof.Proof.Gen.DactIdeal.Points
public import proofs.«01_k».proof.Proof.Gen.DactIdeal.Frame
public import proofs.«01_k».proof.Proof.Gen.DactIdeal.Value
public import proofs.«01_k».proof.Proof.Gen.DactRefIdeal.Run
public import proofs.«01_k».proof.Proof.Gen.DactRefIdeal.Read
public import proofs.«01_k».proof.Proof.Gen.Ddown
public import proofs.«01_k».proof.Proof.Gen.Ddown.Skeleton
public import proofs.«01_k».proof.Proof.Gen.Ddown.Launch
public import proofs.«01_k».proof.Proof.Gen.Ddown.Points
public import proofs.«01_k».proof.Proof.Gen.Ddown.Frame
public import proofs.«01_k».proof.Proof.Gen.DdownIdeal
public import proofs.«01_k».proof.Proof.Gen.DdownIdeal.Skeleton
public import proofs.«01_k».proof.Proof.Gen.DdownIdeal.Launch
public import proofs.«01_k».proof.Proof.Gen.DdownIdeal.Points
public import proofs.«01_k».proof.Proof.Gen.DdownIdeal.Frame
public import proofs.«01_k».proof.Proof.Gen.DdownIdeal.Value
public import proofs.«01_k».proof.Proof.Gen.DdownRefIdeal.Run
public import proofs.«01_k».proof.Proof.Gen.DdownRefIdeal.Read
public import proofs.«01_k».proof.Proof.Gen.Dgatew
public import proofs.«01_k».proof.Proof.Gen.Dgatew.Skeleton
public import proofs.«01_k».proof.Proof.Gen.Dgatew.Launch
public import proofs.«01_k».proof.Proof.Gen.Dgatew.Points
public import proofs.«01_k».proof.Proof.Gen.Dgatew.Frame
public import proofs.«01_k».proof.Proof.Gen.DgatewIdeal
public import proofs.«01_k».proof.Proof.Gen.DgatewIdeal.Skeleton
public import proofs.«01_k».proof.Proof.Gen.DgatewIdeal.Launch
public import proofs.«01_k».proof.Proof.Gen.DgatewIdeal.Points
public import proofs.«01_k».proof.Proof.Gen.DgatewIdeal.Frame
public import proofs.«01_k».proof.Proof.Gen.DgatewIdeal.Value
public import proofs.«01_k».proof.Proof.Gen.DgatewRefIdeal.Run
public import proofs.«01_k».proof.Proof.Gen.DgatewRefIdeal.Read
public import proofs.«01_k».proof.Proof.Gen.Dxa
public import proofs.«01_k».proof.Proof.Gen.Dxa.Skeleton
public import proofs.«01_k».proof.Proof.Gen.Dxa.Launch
public import proofs.«01_k».proof.Proof.Gen.Dxa.Points
public import proofs.«01_k».proof.Proof.Gen.Dxa.Frame
public import proofs.«01_k».proof.Proof.Gen.DxaIdeal
public import proofs.«01_k».proof.Proof.Gen.DxaIdeal.Skeleton
public import proofs.«01_k».proof.Proof.Gen.DxaIdeal.Launch
public import proofs.«01_k».proof.Proof.Gen.DxaIdeal.Points
public import proofs.«01_k».proof.Proof.Gen.DxaIdeal.Frame
public import proofs.«01_k».proof.Proof.Gen.DxaIdeal.Value
public import proofs.«01_k».proof.Proof.Gen.DxaRefIdeal.Run
public import proofs.«01_k».proof.Proof.Gen.DxaRefIdeal.Read
public import proofs.«01_k».proof.Proof.Gen.Dxb
public import proofs.«01_k».proof.Proof.Gen.Dxb.Skeleton
public import proofs.«01_k».proof.Proof.Gen.Dxb.Launch
public import proofs.«01_k».proof.Proof.Gen.Dxb.Points
public import proofs.«01_k».proof.Proof.Gen.Dxb.Frame
public import proofs.«01_k».proof.Proof.Gen.DxbIdeal
public import proofs.«01_k».proof.Proof.Gen.DxbIdeal.Skeleton
public import proofs.«01_k».proof.Proof.Gen.DxbIdeal.Launch
public import proofs.«01_k».proof.Proof.Gen.DxbIdeal.Points
public import proofs.«01_k».proof.Proof.Gen.DxbIdeal.Frame
public import proofs.«01_k».proof.Proof.Gen.DxbIdeal.Value
public import proofs.«01_k».proof.Proof.Gen.DxbRefIdeal.Run
public import proofs.«01_k».proof.Proof.Gen.DxbRefIdeal.Read
public import proofs.«01_k».proof.Proof.Gen.Dple
public import proofs.«01_k».proof.Proof.Gen.Dple.Skeleton
public import proofs.«01_k».proof.Proof.Gen.Dple.Launch
public import proofs.«01_k».proof.Proof.Gen.Dple.Points
public import proofs.«01_k».proof.Proof.Gen.Dple.Frame
public import proofs.«01_k».proof.Proof.Gen.DpleIdeal
public import proofs.«01_k».proof.Proof.Gen.DpleIdeal.Skeleton
public import proofs.«01_k».proof.Proof.Gen.DpleIdeal.Launch
public import proofs.«01_k».proof.Proof.Gen.DpleIdeal.Points
public import proofs.«01_k».proof.Proof.Gen.DpleIdeal.Frame
public import proofs.«01_k».proof.Proof.Gen.DpleIdeal.Value
public import proofs.«01_k».proof.Proof.Gen.DpleRefIdeal.Run
public import proofs.«01_k».proof.Proof.Gen.DpleRefIdeal.Read
public import proofs.«01_k».proof.Proof.Gen.Dproj
public import proofs.«01_k».proof.Proof.Gen.Dproj.Skeleton
public import proofs.«01_k».proof.Proof.Gen.Dproj.Launch
public import proofs.«01_k».proof.Proof.Gen.Dproj.Points
public import proofs.«01_k».proof.Proof.Gen.Dproj.Frame
public import proofs.«01_k».proof.Proof.Gen.DprojIdeal
public import proofs.«01_k».proof.Proof.Gen.DprojIdeal.Skeleton
public import proofs.«01_k».proof.Proof.Gen.DprojIdeal.Launch
public import proofs.«01_k».proof.Proof.Gen.DprojIdeal.Points
public import proofs.«01_k».proof.Proof.Gen.DprojIdeal.Frame
public import proofs.«01_k».proof.Proof.Gen.DprojIdeal.Value
public import proofs.«01_k».proof.Proof.Gen.DprojRefIdeal.Run
public import proofs.«01_k».proof.Proof.Gen.DprojRefIdeal.Read
public import proofs.«01_k».proof.Proof.Gen.Dgate
public import proofs.«01_k».proof.Proof.Gen.Dgate.Skeleton
public import proofs.«01_k».proof.Proof.Gen.Dgate.Launch
public import proofs.«01_k».proof.Proof.Gen.Dgate.Points
public import proofs.«01_k».proof.Proof.Gen.Dgate.Frame
public import proofs.«01_k».proof.Proof.Gen.DgateIdeal
public import proofs.«01_k».proof.Proof.Gen.DgateIdeal.Skeleton
public import proofs.«01_k».proof.Proof.Gen.DgateIdeal.Launch
public import proofs.«01_k».proof.Proof.Gen.DgateIdeal.Points
public import proofs.«01_k».proof.Proof.Gen.DgateIdeal.Frame
public import proofs.«01_k».proof.Proof.Gen.DgateIdeal.Value
public import proofs.«01_k».proof.Proof.Gen.DgateRefIdeal.Run
public import proofs.«01_k».proof.Proof.Gen.DgateRefIdeal.Read
public import proofs.«01_k».proof.Proof.Gen.Dout
public import proofs.«01_k».proof.Proof.Gen.Dout.Skeleton
public import proofs.«01_k».proof.Proof.Gen.Dout.Launch
public import proofs.«01_k».proof.Proof.Gen.Dout.Points
public import proofs.«01_k».proof.Proof.Gen.Dout.Frame
public import proofs.«01_k».proof.Proof.Gen.DoutIdeal
public import proofs.«01_k».proof.Proof.Gen.DoutIdeal.Skeleton
public import proofs.«01_k».proof.Proof.Gen.DoutIdeal.Launch
public import proofs.«01_k».proof.Proof.Gen.DoutIdeal.Points
public import proofs.«01_k».proof.Proof.Gen.DoutIdeal.Frame
public import proofs.«01_k».proof.Proof.Gen.DoutIdeal.Value
public import proofs.«01_k».proof.Proof.Gen.DoutRefIdeal.Run
public import proofs.«01_k».proof.Proof.Gen.DoutRefIdeal.Read
public import proofs.«01_k».proof.Proof.Gen.Dcat
public import proofs.«01_k».proof.Proof.Gen.Dcat.Skeleton
public import proofs.«01_k».proof.Proof.Gen.Dcat.Launch
public import proofs.«01_k».proof.Proof.Gen.Dcat.Points
public import proofs.«01_k».proof.Proof.Gen.Dcat.Frame
public import proofs.«01_k».proof.Proof.Gen.DcatIdeal
public import proofs.«01_k».proof.Proof.Gen.DcatIdeal.Skeleton
public import proofs.«01_k».proof.Proof.Gen.DcatIdeal.Launch
public import proofs.«01_k».proof.Proof.Gen.DcatIdeal.Points
public import proofs.«01_k».proof.Proof.Gen.DcatIdeal.Frame
public import proofs.«01_k».proof.Proof.Gen.DcatIdeal.Value
public import proofs.«01_k».proof.Proof.Gen.DcatRefIdeal.Run
public import proofs.«01_k».proof.Proof.Gen.DcatRefIdeal.Read
public import proofs.«01_k».proof.Proof.Gen.Din
public import proofs.«01_k».proof.Proof.Gen.Din.Skeleton
public import proofs.«01_k».proof.Proof.Gen.Din.Launch
public import proofs.«01_k».proof.Proof.Gen.Din.Points
public import proofs.«01_k».proof.Proof.Gen.Din.Frame
public import proofs.«01_k».proof.Proof.Gen.DinIdeal
public import proofs.«01_k».proof.Proof.Gen.DinIdeal.Skeleton
public import proofs.«01_k».proof.Proof.Gen.DinIdeal.Launch
public import proofs.«01_k».proof.Proof.Gen.DinIdeal.Points
public import proofs.«01_k».proof.Proof.Gen.DinIdeal.Frame
public import proofs.«01_k».proof.Proof.Gen.DinIdeal.Value
public import proofs.«01_k».proof.Proof.Gen.DinRefIdeal.Run
public import proofs.«01_k».proof.Proof.Gen.DinRefIdeal.Read
public import proofs.«01_k».proof.Proof.Gen.Dx
public import proofs.«01_k».proof.Proof.Gen.Dx.Skeleton
public import proofs.«01_k».proof.Proof.Gen.Dx.Launch
public import proofs.«01_k».proof.Proof.Gen.Dx.Points
public import proofs.«01_k».proof.Proof.Gen.Dx.Frame
public import proofs.«01_k».proof.Proof.Gen.DxIdeal
public import proofs.«01_k».proof.Proof.Gen.DxIdeal.Skeleton
public import proofs.«01_k».proof.Proof.Gen.DxIdeal.Launch
public import proofs.«01_k».proof.Proof.Gen.DxIdeal.Points
public import proofs.«01_k».proof.Proof.Gen.DxIdeal.Frame
public import proofs.«01_k».proof.Proof.Gen.DxIdeal.Value
public import proofs.«01_k».proof.Proof.Gen.DxRefIdeal.Run
public import proofs.«01_k».proof.Proof.Gen.DxRefIdeal.Read
public import proofs.«01_k».proof.Proof.Gen.Inp
public import proofs.«01_k».proof.Proof.Gen.Inp.Skeleton
public import proofs.«01_k».proof.Proof.Gen.Inp.Launch
public import proofs.«01_k».proof.Proof.Gen.Inp.Points
public import proofs.«01_k».proof.Proof.Gen.Inp.Frame
public import proofs.«01_k».proof.Proof.Gen.InpIdeal
public import proofs.«01_k».proof.Proof.Gen.InpIdeal.Skeleton
public import proofs.«01_k».proof.Proof.Gen.InpIdeal.Launch
public import proofs.«01_k».proof.Proof.Gen.InpIdeal.Points
public import proofs.«01_k».proof.Proof.Gen.InpIdeal.Frame
public import proofs.«01_k».proof.Proof.Gen.InpIdeal.Value
public import proofs.«01_k».proof.Proof.Gen.InpRefIdeal.Run
public import proofs.«01_k».proof.Proof.Gen.InpRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal.Run
public import proofs.«01_k».proof.Proof.Gen.OutRefIdeal.Read
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateIdeal.Value
public import proofs.«01_k».proof.Proof.Gen.GateRefIdeal.Run
public import proofs.«01_k».proof.Proof.Gen.GateRefIdeal.Read
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal.Run
public import proofs.«01_k».proof.Proof.Gen.DownRefIdeal.Read
public import proofs.«01_k».proof.Proof.Gen.Pgate
public import proofs.«01_k».proof.Proof.Gen.Pgate.Skeleton
public import proofs.«01_k».proof.Proof.Gen.Pgate.Launch
public import proofs.«01_k».proof.Proof.Gen.Pgate.Points
public import proofs.«01_k».proof.Proof.Gen.Pgate.Frame
public import proofs.«01_k».proof.Proof.Gen.PgateIdeal
public import proofs.«01_k».proof.Proof.Gen.PgateIdeal.Skeleton
public import proofs.«01_k».proof.Proof.Gen.PgateIdeal.Launch
public import proofs.«01_k».proof.Proof.Gen.PgateIdeal.Points
public import proofs.«01_k».proof.Proof.Gen.PgateIdeal.Frame
public import proofs.«01_k».proof.Proof.Gen.PgateIdeal.Value
public import proofs.«01_k».proof.Proof.Gen.PgateRefIdeal.Run
public import proofs.«01_k».proof.Proof.Gen.PgateRefIdeal.Read
public import proofs.«01_k».proof.Proof.Gen.Pproj
public import proofs.«01_k».proof.Proof.Gen.Pproj.Skeleton
public import proofs.«01_k».proof.Proof.Gen.Pproj.Launch
public import proofs.«01_k».proof.Proof.Gen.Pproj.Points
public import proofs.«01_k».proof.Proof.Gen.Pproj.Frame
public import proofs.«01_k».proof.Proof.Gen.PprojIdeal
public import proofs.«01_k».proof.Proof.Gen.PprojIdeal.Skeleton
public import proofs.«01_k».proof.Proof.Gen.PprojIdeal.Launch
public import proofs.«01_k».proof.Proof.Gen.PprojIdeal.Points
public import proofs.«01_k».proof.Proof.Gen.PprojIdeal.Frame
public import proofs.«01_k».proof.Proof.Gen.PprojIdeal.Value
public import proofs.«01_k».proof.Proof.Gen.PprojRefIdeal.Run
public import proofs.«01_k».proof.Proof.Gen.PprojRefIdeal.Read
public import proofs.«01_k».proof.Proof.Gen.DactZero
public import proofs.«01_k».proof.Proof.Gen.DactZero.Skeleton
public import proofs.«01_k».proof.Proof.Gen.DactZero.Launch
public import proofs.«01_k».proof.Proof.Gen.DactZero.Points
public import proofs.«01_k».proof.Proof.Gen.DactZero.Frame
public import proofs.«01_k».proof.Proof.Gen.DactZeroIdeal
public import proofs.«01_k».proof.Proof.Gen.DactZeroIdeal.Skeleton
public import proofs.«01_k».proof.Proof.Gen.DactZeroIdeal.Launch
public import proofs.«01_k».proof.Proof.Gen.DactZeroIdeal.Points
public import proofs.«01_k».proof.Proof.Gen.DactZeroIdeal.Frame
public import proofs.«01_k».proof.Proof.Gen.DactZeroIdeal.Value
public import proofs.«01_k».proof.Proof.Gen.DactZeroRefIdeal.Run
public import proofs.«01_k».proof.Proof.Gen.DactZeroRefIdeal.Read
public import proofs.«01_k».proof.Proof.Gen.DxaZero
public import proofs.«01_k».proof.Proof.Gen.DxaZero.Skeleton
public import proofs.«01_k».proof.Proof.Gen.DxaZero.Launch
public import proofs.«01_k».proof.Proof.Gen.DxaZero.Points
public import proofs.«01_k».proof.Proof.Gen.DxaZero.Frame
public import proofs.«01_k».proof.Proof.Gen.DxaZeroIdeal
public import proofs.«01_k».proof.Proof.Gen.DxaZeroIdeal.Skeleton
public import proofs.«01_k».proof.Proof.Gen.DxaZeroIdeal.Launch
public import proofs.«01_k».proof.Proof.Gen.DxaZeroIdeal.Points
public import proofs.«01_k».proof.Proof.Gen.DxaZeroIdeal.Frame
public import proofs.«01_k».proof.Proof.Gen.DxaZeroIdeal.Value
public import proofs.«01_k».proof.Proof.Gen.DxaZeroRefIdeal.Run
public import proofs.«01_k».proof.Proof.Gen.DxaZeroRefIdeal.Read
public import proofs.«01_k».proof.Proof.Gen.DxbZero
public import proofs.«01_k».proof.Proof.Gen.DxbZero.Skeleton
public import proofs.«01_k».proof.Proof.Gen.DxbZero.Launch
public import proofs.«01_k».proof.Proof.Gen.DxbZero.Points
public import proofs.«01_k».proof.Proof.Gen.DxbZero.Frame
public import proofs.«01_k».proof.Proof.Gen.DxbZeroIdeal
public import proofs.«01_k».proof.Proof.Gen.DxbZeroIdeal.Skeleton
public import proofs.«01_k».proof.Proof.Gen.DxbZeroIdeal.Launch
public import proofs.«01_k».proof.Proof.Gen.DxbZeroIdeal.Points
public import proofs.«01_k».proof.Proof.Gen.DxbZeroIdeal.Frame
public import proofs.«01_k».proof.Proof.Gen.DxbZeroIdeal.Value
public import proofs.«01_k».proof.Proof.Gen.DxbZeroRefIdeal.Run
public import proofs.«01_k».proof.Proof.Gen.DxbZeroRefIdeal.Read
public import proofs.«01_k».proof.Proof.Gen.DpleZero
public import proofs.«01_k».proof.Proof.Gen.DpleZero.Skeleton
public import proofs.«01_k».proof.Proof.Gen.DpleZero.Launch
public import proofs.«01_k».proof.Proof.Gen.DpleZero.Points
public import proofs.«01_k».proof.Proof.Gen.DpleZero.Frame
public import proofs.«01_k».proof.Proof.Gen.DpleZeroIdeal
public import proofs.«01_k».proof.Proof.Gen.DpleZeroIdeal.Skeleton
public import proofs.«01_k».proof.Proof.Gen.DpleZeroIdeal.Launch
public import proofs.«01_k».proof.Proof.Gen.DpleZeroIdeal.Points
public import proofs.«01_k».proof.Proof.Gen.DpleZeroIdeal.Frame
public import proofs.«01_k».proof.Proof.Gen.DpleZeroIdeal.Value
public import proofs.«01_k».proof.Proof.Gen.DpleZeroRefIdeal.Run
public import proofs.«01_k».proof.Proof.Gen.DpleZeroRefIdeal.Read
public import proofs.«01_k».proof.Proof.Gen.GateZero
public import proofs.«01_k».proof.Proof.Gen.GateZero.Skeleton
public import proofs.«01_k».proof.Proof.Gen.GateZero.Launch
public import proofs.«01_k».proof.Proof.Gen.GateZero.Points
public import proofs.«01_k».proof.Proof.Gen.GateZero.Frame
public import proofs.«01_k».proof.Proof.Gen.GateZeroIdeal
public import proofs.«01_k».proof.Proof.Gen.GateZeroIdeal.Skeleton
public import proofs.«01_k».proof.Proof.Gen.GateZeroIdeal.Launch
public import proofs.«01_k».proof.Proof.Gen.GateZeroIdeal.Points
public import proofs.«01_k».proof.Proof.Gen.GateZeroIdeal.Frame
public import proofs.«01_k».proof.Proof.Gen.GateZeroIdeal.Value
public import proofs.«01_k».proof.Proof.Gen.GateZeroRefIdeal.Run
public import proofs.«01_k».proof.Proof.Gen.GateZeroRefIdeal.Read
public import proofs.«01_k».proof.Proof.Gen.DownZero
public import proofs.«01_k».proof.Proof.Gen.DownZero.Skeleton
public import proofs.«01_k».proof.Proof.Gen.DownZero.Launch
public import proofs.«01_k».proof.Proof.Gen.DownZero.Points
public import proofs.«01_k».proof.Proof.Gen.DownZero.Frame
public import proofs.«01_k».proof.Proof.Gen.DownZeroIdeal
public import proofs.«01_k».proof.Proof.Gen.DownZeroIdeal.Skeleton
public import proofs.«01_k».proof.Proof.Gen.DownZeroIdeal.Launch
public import proofs.«01_k».proof.Proof.Gen.DownZeroIdeal.Points
public import proofs.«01_k».proof.Proof.Gen.DownZeroIdeal.Frame
public import proofs.«01_k».proof.Proof.Gen.DownZeroIdeal.Value
public import proofs.«01_k».proof.Proof.Gen.DownZeroRefIdeal.Run
public import proofs.«01_k».proof.Proof.Gen.DownZeroRefIdeal.Read
public import proofs.«01_k».proof.Proof.Gen.PgateZero
public import proofs.«01_k».proof.Proof.Gen.PgateZero.Skeleton
public import proofs.«01_k».proof.Proof.Gen.PgateZero.Launch
public import proofs.«01_k».proof.Proof.Gen.PgateZero.Points
public import proofs.«01_k».proof.Proof.Gen.PgateZero.Frame
public import proofs.«01_k».proof.Proof.Gen.PgateZeroIdeal
public import proofs.«01_k».proof.Proof.Gen.PgateZeroIdeal.Skeleton
public import proofs.«01_k».proof.Proof.Gen.PgateZeroIdeal.Launch
public import proofs.«01_k».proof.Proof.Gen.PgateZeroIdeal.Points
public import proofs.«01_k».proof.Proof.Gen.PgateZeroIdeal.Frame
public import proofs.«01_k».proof.Proof.Gen.PgateZeroIdeal.Value
public import proofs.«01_k».proof.Proof.Gen.PgateZeroRefIdeal.Run
public import proofs.«01_k».proof.Proof.Gen.PgateZeroRefIdeal.Read
public import proofs.«01_k».proof.Proof.Gen.PprojZero
public import proofs.«01_k».proof.Proof.Gen.PprojZero.Skeleton
public import proofs.«01_k».proof.Proof.Gen.PprojZero.Launch
public import proofs.«01_k».proof.Proof.Gen.PprojZero.Points
public import proofs.«01_k».proof.Proof.Gen.PprojZero.Frame
public import proofs.«01_k».proof.Proof.Gen.PprojZeroIdeal
public import proofs.«01_k».proof.Proof.Gen.PprojZeroIdeal.Skeleton
public import proofs.«01_k».proof.Proof.Gen.PprojZeroIdeal.Launch
public import proofs.«01_k».proof.Proof.Gen.PprojZeroIdeal.Points
public import proofs.«01_k».proof.Proof.Gen.PprojZeroIdeal.Frame
public import proofs.«01_k».proof.Proof.Gen.PprojZeroIdeal.Value
public import proofs.«01_k».proof.Proof.Gen.PprojZeroRefIdeal.Run
public import proofs.«01_k».proof.Proof.Gen.PprojZeroRefIdeal.Read
public import proofs.«01_k».proof.Proof.Gen.Swiglu
public import proofs.«01_k».proof.Proof.Gen.Swiglu.Skeleton
public import proofs.«01_k».proof.Proof.Gen.Swiglu.Launch
public import proofs.«01_k».proof.Proof.Gen.Swiglu.Points
public import proofs.«01_k».proof.Proof.Gen.Swiglu.Frame
public import proofs.«01_k».proof.Proof.Gen.SwigluIdeal
public import proofs.«01_k».proof.Proof.Gen.SwigluIdeal.Skeleton
public import proofs.«01_k».proof.Proof.Gen.SwigluIdeal.Launch
public import proofs.«01_k».proof.Proof.Gen.SwigluIdeal.Points
public import proofs.«01_k».proof.Proof.Gen.SwigluIdeal.Frame
public import proofs.«01_k».proof.Proof.Gen.SwigluIdeal.Value
public import proofs.«01_k».proof.Proof.Gen.SwigluRefIdeal.Run
public import proofs.«01_k».proof.Proof.Gen.SwigluRefIdeal.Read
public import proofs.«01_k».proof.Proof.Gen.Dswiglu
public import proofs.«01_k».proof.Proof.Gen.Dswiglu.Skeleton
public import proofs.«01_k».proof.Proof.Gen.Dswiglu.Launch
public import proofs.«01_k».proof.Proof.Gen.Dswiglu.Points
public import proofs.«01_k».proof.Proof.Gen.Dswiglu.Frame
public import proofs.«01_k».proof.Proof.Gen.DswigluIdeal
public import proofs.«01_k».proof.Proof.Gen.DswigluIdeal.Skeleton
public import proofs.«01_k».proof.Proof.Gen.DswigluIdeal.Launch
public import proofs.«01_k».proof.Proof.Gen.DswigluIdeal.Points
public import proofs.«01_k».proof.Proof.Gen.DswigluIdeal.Frame
public import proofs.«01_k».proof.Proof.Gen.DswigluIdeal.Value
public import proofs.«01_k».proof.Proof.Gen.DswigluRefIdeal.Run
public import proofs.«01_k».proof.Proof.Gen.DswigluRefIdeal.Read
public import proofs.«01_k».proof.Proof.Gen.Gated
public import proofs.«01_k».proof.Proof.Gen.Gated.Skeleton
public import proofs.«01_k».proof.Proof.Gen.Gated.Launch
public import proofs.«01_k».proof.Proof.Gen.Gated.Points
public import proofs.«01_k».proof.Proof.Gen.Gated.Frame
public import proofs.«01_k».proof.Proof.Gen.GatedIdeal
public import proofs.«01_k».proof.Proof.Gen.GatedIdeal.Skeleton
public import proofs.«01_k».proof.Proof.Gen.GatedIdeal.Launch
public import proofs.«01_k».proof.Proof.Gen.GatedIdeal.Points
public import proofs.«01_k».proof.Proof.Gen.GatedIdeal.Frame
public import proofs.«01_k».proof.Proof.Gen.GatedIdeal.Value
public import proofs.«01_k».proof.Proof.Gen.GatedRefIdeal.Run
public import proofs.«01_k».proof.Proof.Gen.GatedRefIdeal.Read
public import proofs.«01_k».proof.Proof.Gen.Dgated
public import proofs.«01_k».proof.Proof.Gen.Dgated.Skeleton
public import proofs.«01_k».proof.Proof.Gen.Dgated.Launch
public import proofs.«01_k».proof.Proof.Gen.Dgated.Points
public import proofs.«01_k».proof.Proof.Gen.Dgated.Frame
public import proofs.«01_k».proof.Proof.Gen.DgatedIdeal
public import proofs.«01_k».proof.Proof.Gen.DgatedIdeal.Skeleton
public import proofs.«01_k».proof.Proof.Gen.DgatedIdeal.Launch
public import proofs.«01_k».proof.Proof.Gen.DgatedIdeal.Points
public import proofs.«01_k».proof.Proof.Gen.DgatedIdeal.Frame
public import proofs.«01_k».proof.Proof.Gen.DgatedIdeal.Value
public import proofs.«01_k».proof.Proof.Gen.DgatedRefIdeal.Run
public import proofs.«01_k».proof.Proof.Gen.DgatedRefIdeal.Read
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal.Run
public import proofs.«01_k».proof.Proof.Gen.NormRefIdeal.Read
public import proofs.«01_k».proof.Proof.Gen.Dnorm
public import proofs.«01_k».proof.Proof.Gen.Dnorm.Skeleton
public import proofs.«01_k».proof.Proof.Gen.Dnorm.Launch
public import proofs.«01_k».proof.Proof.Gen.Dnorm.Points
public import proofs.«01_k».proof.Proof.Gen.Dnorm.Frame
public import proofs.«01_k».proof.Proof.Gen.DnormIdeal
public import proofs.«01_k».proof.Proof.Gen.DnormIdeal.Skeleton
public import proofs.«01_k».proof.Proof.Gen.DnormIdeal.Launch
public import proofs.«01_k».proof.Proof.Gen.DnormIdeal.Points
public import proofs.«01_k».proof.Proof.Gen.DnormIdeal.Frame
public import proofs.«01_k».proof.Proof.Gen.DnormIdeal.Value
public import proofs.«01_k».proof.Proof.Gen.DnormRefIdeal.Run
public import proofs.«01_k».proof.Proof.Gen.DnormRefIdeal.Read
public import proofs.«01_k».proof.Proof.Gen.Dpool
public import proofs.«01_k».proof.Proof.Gen.Dpool.Skeleton
public import proofs.«01_k».proof.Proof.Gen.Dpool.Launch
public import proofs.«01_k».proof.Proof.Gen.Dpool.Points
public import proofs.«01_k».proof.Proof.Gen.Dpool.Frame
public import proofs.«01_k».proof.Proof.Gen.DpoolIdeal
public import proofs.«01_k».proof.Proof.Gen.DpoolIdeal.Skeleton
public import proofs.«01_k».proof.Proof.Gen.DpoolIdeal.Launch
public import proofs.«01_k».proof.Proof.Gen.DpoolIdeal.Points
public import proofs.«01_k».proof.Proof.Gen.DpoolIdeal.Frame
public import proofs.«01_k».proof.Proof.Gen.DpoolIdeal.Value
public import proofs.«01_k».proof.Proof.Gen.DpoolRefIdeal.Run
public import proofs.«01_k».proof.Proof.Gen.DpoolRefIdeal.Read
public import proofs.«01_k».proof.Proof.Gen.Gating
public import proofs.«01_k».proof.Proof.Gen.Gating.Skeleton
public import proofs.«01_k».proof.Proof.Gen.Gating.Launch
public import proofs.«01_k».proof.Proof.Gen.Gating.Points
public import proofs.«01_k».proof.Proof.Gen.Gating.Frame
public import proofs.«01_k».proof.Proof.Gen.GatingIdeal
public import proofs.«01_k».proof.Proof.Gen.GatingIdeal.Skeleton
public import proofs.«01_k».proof.Proof.Gen.GatingIdeal.Launch
public import proofs.«01_k».proof.Proof.Gen.GatingIdeal.Points
public import proofs.«01_k».proof.Proof.Gen.GatingIdeal.Frame
public import proofs.«01_k».proof.Proof.Gen.GatingIdeal.Value
public import proofs.«01_k».proof.Proof.Gen.GatingRefIdeal.Run
public import proofs.«01_k».proof.Proof.Gen.GatingRefIdeal.Read
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal.Run
public import proofs.«01_k».proof.Proof.Gen.LossRefIdeal.Read
public import proofs.«01_k».proof.Proof.Gen.SumIn
public import proofs.«01_k».proof.Proof.Gen.SumIn.Skeleton
public import proofs.«01_k».proof.Proof.Gen.SumIn.Launch
public import proofs.«01_k».proof.Proof.Gen.SumIn.Points
public import proofs.«01_k».proof.Proof.Gen.SumIn.Frame
public import proofs.«01_k».proof.Proof.Gen.SumInIdeal
public import proofs.«01_k».proof.Proof.Gen.SumInIdeal.Skeleton
public import proofs.«01_k».proof.Proof.Gen.SumInIdeal.Launch
public import proofs.«01_k».proof.Proof.Gen.SumInIdeal.Points
public import proofs.«01_k».proof.Proof.Gen.SumInIdeal.Frame
public import proofs.«01_k».proof.Proof.Gen.SumInIdeal.Value
public import proofs.«01_k».proof.Proof.Gen.SumInRefIdeal.Run
public import proofs.«01_k».proof.Proof.Gen.SumInRefIdeal.Read
public import proofs.«01_k».proof.Proof.Gen.SumOut
public import proofs.«01_k».proof.Proof.Gen.SumOut.Skeleton
public import proofs.«01_k».proof.Proof.Gen.SumOut.Launch
public import proofs.«01_k».proof.Proof.Gen.SumOut.Points
public import proofs.«01_k».proof.Proof.Gen.SumOut.Frame
public import proofs.«01_k».proof.Proof.Gen.SumOutIdeal
public import proofs.«01_k».proof.Proof.Gen.SumOutIdeal.Skeleton
public import proofs.«01_k».proof.Proof.Gen.SumOutIdeal.Launch
public import proofs.«01_k».proof.Proof.Gen.SumOutIdeal.Points
public import proofs.«01_k».proof.Proof.Gen.SumOutIdeal.Frame
public import proofs.«01_k».proof.Proof.Gen.SumOutIdeal.Value
public import proofs.«01_k».proof.Proof.Gen.SumOutRefIdeal.Run
public import proofs.«01_k».proof.Proof.Gen.SumOutRefIdeal.Read
public import proofs.«01_k».proof.Proof.Gen.SumUp
public import proofs.«01_k».proof.Proof.Gen.SumUp.Skeleton
public import proofs.«01_k».proof.Proof.Gen.SumUp.Launch
public import proofs.«01_k».proof.Proof.Gen.SumUp.Points
public import proofs.«01_k».proof.Proof.Gen.SumUp.Frame
public import proofs.«01_k».proof.Proof.Gen.SumUpIdeal
public import proofs.«01_k».proof.Proof.Gen.SumUpIdeal.Skeleton
public import proofs.«01_k».proof.Proof.Gen.SumUpIdeal.Launch
public import proofs.«01_k».proof.Proof.Gen.SumUpIdeal.Points
public import proofs.«01_k».proof.Proof.Gen.SumUpIdeal.Frame
public import proofs.«01_k».proof.Proof.Gen.SumUpIdeal.Value
public import proofs.«01_k».proof.Proof.Gen.SumUpRefIdeal.Run
public import proofs.«01_k».proof.Proof.Gen.SumUpRefIdeal.Read
public import proofs.«01_k».proof.Proof.Gen.SumDown
public import proofs.«01_k».proof.Proof.Gen.SumDown.Skeleton
public import proofs.«01_k».proof.Proof.Gen.SumDown.Launch
public import proofs.«01_k».proof.Proof.Gen.SumDown.Points
public import proofs.«01_k».proof.Proof.Gen.SumDown.Frame
public import proofs.«01_k».proof.Proof.Gen.SumDownIdeal
public import proofs.«01_k».proof.Proof.Gen.SumDownIdeal.Skeleton
public import proofs.«01_k».proof.Proof.Gen.SumDownIdeal.Launch
public import proofs.«01_k».proof.Proof.Gen.SumDownIdeal.Points
public import proofs.«01_k».proof.Proof.Gen.SumDownIdeal.Frame
public import proofs.«01_k».proof.Proof.Gen.SumDownIdeal.Value
public import proofs.«01_k».proof.Proof.Gen.SumDownRefIdeal.Run
public import proofs.«01_k».proof.Proof.Gen.SumDownRefIdeal.Read
public import proofs.«01_k».proof.Proof.Gen.SumProj
public import proofs.«01_k».proof.Proof.Gen.SumProj.Skeleton
public import proofs.«01_k».proof.Proof.Gen.SumProj.Launch
public import proofs.«01_k».proof.Proof.Gen.SumProj.Points
public import proofs.«01_k».proof.Proof.Gen.SumProj.Frame
public import proofs.«01_k».proof.Proof.Gen.SumProjIdeal
public import proofs.«01_k».proof.Proof.Gen.SumProjIdeal.Skeleton
public import proofs.«01_k».proof.Proof.Gen.SumProjIdeal.Launch
public import proofs.«01_k».proof.Proof.Gen.SumProjIdeal.Points
public import proofs.«01_k».proof.Proof.Gen.SumProjIdeal.Frame
public import proofs.«01_k».proof.Proof.Gen.SumProjIdeal.Value
public import proofs.«01_k».proof.Proof.Gen.SumProjRefIdeal.Run
public import proofs.«01_k».proof.Proof.Gen.SumProjRefIdeal.Read
public import proofs.«01_k».proof.Proof.Gen.SumGate
public import proofs.«01_k».proof.Proof.Gen.SumGate.Skeleton
public import proofs.«01_k».proof.Proof.Gen.SumGate.Launch
public import proofs.«01_k».proof.Proof.Gen.SumGate.Points
public import proofs.«01_k».proof.Proof.Gen.SumGate.Frame
public import proofs.«01_k».proof.Proof.Gen.SumGateIdeal
public import proofs.«01_k».proof.Proof.Gen.SumGateIdeal.Skeleton
public import proofs.«01_k».proof.Proof.Gen.SumGateIdeal.Launch
public import proofs.«01_k».proof.Proof.Gen.SumGateIdeal.Points
public import proofs.«01_k».proof.Proof.Gen.SumGateIdeal.Frame
public import proofs.«01_k».proof.Proof.Gen.SumGateIdeal.Value
public import proofs.«01_k».proof.Proof.Gen.SumGateRefIdeal.Run
public import proofs.«01_k».proof.Proof.Gen.SumGateRefIdeal.Read
public import proofs.«01_k».proof.Proof.Gen.SumSmall
public import proofs.«01_k».proof.Proof.Gen.SumSmall.Skeleton
public import proofs.«01_k».proof.Proof.Gen.SumSmall.Launch
public import proofs.«01_k».proof.Proof.Gen.SumSmall.Points
public import proofs.«01_k».proof.Proof.Gen.SumSmall.Frame
public import proofs.«01_k».proof.Proof.Gen.SumSmallIdeal
public import proofs.«01_k».proof.Proof.Gen.SumSmallIdeal.Skeleton
public import proofs.«01_k».proof.Proof.Gen.SumSmallIdeal.Launch
public import proofs.«01_k».proof.Proof.Gen.SumSmallIdeal.Points
public import proofs.«01_k».proof.Proof.Gen.SumSmallIdeal.Frame
public import proofs.«01_k».proof.Proof.Gen.SumSmallIdeal.Value
public import proofs.«01_k».proof.Proof.Gen.SumSmallRefIdeal.Run
public import proofs.«01_k».proof.Proof.Gen.SumSmallRefIdeal.Read
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.AdamInRefIdeal.Run
public import proofs.«01_k».proof.Proof.Gen.AdamInRefIdeal.Read
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.AdamOutRefIdeal.Run
public import proofs.«01_k».proof.Proof.Gen.AdamOutRefIdeal.Read
public import proofs.«01_k».proof.Proof.Gen.AdamUp
public import proofs.«01_k».proof.Proof.Gen.AdamUp.Skeleton
public import proofs.«01_k».proof.Proof.Gen.AdamUp.Launch
public import proofs.«01_k».proof.Proof.Gen.AdamUp.Points
public import proofs.«01_k».proof.Proof.Gen.AdamUp.Frame
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.AdamUpIdeal.Value
public import proofs.«01_k».proof.Proof.Gen.AdamUpRefIdeal.Run
public import proofs.«01_k».proof.Proof.Gen.AdamUpRefIdeal.Read
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownIdeal.Value
public import proofs.«01_k».proof.Proof.Gen.AdamDownRefIdeal.Run
public import proofs.«01_k».proof.Proof.Gen.AdamDownRefIdeal.Read
public import proofs.«01_k».proof.Proof.Gen.AdamProj
public import proofs.«01_k».proof.Proof.Gen.AdamProj.Skeleton
public import proofs.«01_k».proof.Proof.Gen.AdamProj.Launch
public import proofs.«01_k».proof.Proof.Gen.AdamProj.Points
public import proofs.«01_k».proof.Proof.Gen.AdamProj.Frame
public import proofs.«01_k».proof.Proof.Gen.AdamProjIdeal
public import proofs.«01_k».proof.Proof.Gen.AdamProjIdeal.Skeleton
public import proofs.«01_k».proof.Proof.Gen.AdamProjIdeal.Launch
public import proofs.«01_k».proof.Proof.Gen.AdamProjIdeal.Points
public import proofs.«01_k».proof.Proof.Gen.AdamProjIdeal.Frame
public import proofs.«01_k».proof.Proof.Gen.AdamProjIdeal.Value
public import proofs.«01_k».proof.Proof.Gen.AdamProjRefIdeal.Run
public import proofs.«01_k».proof.Proof.Gen.AdamProjRefIdeal.Read
public import proofs.«01_k».proof.Proof.Gen.AdamGate
public import proofs.«01_k».proof.Proof.Gen.AdamGate.Skeleton
public import proofs.«01_k».proof.Proof.Gen.AdamGate.Launch
public import proofs.«01_k».proof.Proof.Gen.AdamGate.Points
public import proofs.«01_k».proof.Proof.Gen.AdamGate.Frame
public import proofs.«01_k».proof.Proof.Gen.AdamGateIdeal
public import proofs.«01_k».proof.Proof.Gen.AdamGateIdeal.Skeleton
public import proofs.«01_k».proof.Proof.Gen.AdamGateIdeal.Launch
public import proofs.«01_k».proof.Proof.Gen.AdamGateIdeal.Points
public import proofs.«01_k».proof.Proof.Gen.AdamGateIdeal.Frame
public import proofs.«01_k».proof.Proof.Gen.AdamGateIdeal.Value
public import proofs.«01_k».proof.Proof.Gen.AdamGateRefIdeal.Run
public import proofs.«01_k».proof.Proof.Gen.AdamGateRefIdeal.Read
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallIdeal.Value
public import proofs.«01_k».proof.Proof.Gen.AdamSmallRefIdeal.Run
public import proofs.«01_k».proof.Proof.Gen.AdamSmallRefIdeal.Read
public import proofs.«01_k».proof.Proof.Final
public import proofs.«01_k».proof.Proof.Ref
public import proofs.«01_k».proof.Proof.Start
public import proofs.«01_k».proof.Proof.Dact
public import proofs.«01_k».proof.Proof.Ddown
public import proofs.«01_k».proof.Proof.Dgatew
public import proofs.«01_k».proof.Proof.Dxa
public import proofs.«01_k».proof.Proof.Dxb
public import proofs.«01_k».proof.Proof.Dple
public import proofs.«01_k».proof.Proof.Dproj
public import proofs.«01_k».proof.Proof.Dgate
public import proofs.«01_k».proof.Proof.Dout
public import proofs.«01_k».proof.Proof.Dcat
public import proofs.«01_k».proof.Proof.Din
public import proofs.«01_k».proof.Proof.Dx
public import proofs.«01_k».proof.Proof.Inp
public import proofs.«01_k».proof.Proof.Out
public import proofs.«01_k».proof.Proof.Gate
public import proofs.«01_k».proof.Proof.Down
public import proofs.«01_k».proof.Proof.Pgate
public import proofs.«01_k».proof.Proof.Pproj
public import proofs.«01_k».proof.Proof.DactZero
public import proofs.«01_k».proof.Proof.DxaZero
public import proofs.«01_k».proof.Proof.DxbZero
public import proofs.«01_k».proof.Proof.DpleZero
public import proofs.«01_k».proof.Proof.GateZero
public import proofs.«01_k».proof.Proof.DownZero
public import proofs.«01_k».proof.Proof.PgateZero
public import proofs.«01_k».proof.Proof.PprojZero
public import proofs.«01_k».proof.Proof.Swiglu
public import proofs.«01_k».proof.Proof.Dswiglu
public import proofs.«01_k».proof.Proof.Gated
public import proofs.«01_k».proof.Proof.Dgated
public import proofs.«01_k».proof.Proof.Norm
public import proofs.«01_k».proof.Proof.Dnorm
public import proofs.«01_k».proof.Proof.Dpool
public import proofs.«01_k».proof.Proof.Gating
public import proofs.«01_k».proof.Proof.Loss
public import proofs.«01_k».proof.Proof.SumIn
public import proofs.«01_k».proof.Proof.SumOut
public import proofs.«01_k».proof.Proof.SumUp
public import proofs.«01_k».proof.Proof.SumDown
public import proofs.«01_k».proof.Proof.SumProj
public import proofs.«01_k».proof.Proof.SumGate
public import proofs.«01_k».proof.Proof.SumSmall
public import proofs.«01_k».proof.Proof.AdamIn
public import proofs.«01_k».proof.Proof.AdamOut
public import proofs.«01_k».proof.Proof.AdamUp
public import proofs.«01_k».proof.Proof.AdamDown
public import proofs.«01_k».proof.Proof.AdamProj
public import proofs.«01_k».proof.Proof.AdamGate
public import proofs.«01_k».proof.Proof.AdamSmall
public import Idealize.ShloMosaic.Adequacy
public import Idealize.ShloMosaic.Init

@[expose] public section

noncomputable section

namespace Cert.Proof

open Idealize.ShloMosaic Idealize.SL.Sem Idealize.ShloMosaic.StableHlo
open Cert.Gmlp

attribute [local instance] preFacts

/-- The reference runs, keeps its arguments and leaves every counter at zero. -/
theorem frame_reference : Cert.quiescent_ReferenceIdeal (hReferenceIdeal := Cert.ReferenceIdeal.Gen.facts) := by
  intro m g _
  refine (θ_run _ _ _).mono (fun r h => ⟨fun c => ?_, sem_eq_zero_of_no_sems rfl r.2⟩) (Cert.ReferenceIdeal.Value.run m g)
  exact (h c).2.2.2.2.2.2

/-- The two constants the ideal kernel names. -/
theorem constants : Cert.preserves_Kernel_KernelIdeal :=
  ⟨IdealRules.named_const.statement Cert.KernelIdeal.κ "gelu_a" .f32 0x3D372713#32 ((8943 / 200000 : ℝ) : EReal) rfl,
    IdealRules.named_const.statement Cert.KernelIdeal.κ "gelu_3a" .f32 0x3E095D4F#32 ((26829 / 200000 : ℝ) : EReal) rfl⟩

section Results

open Cert.ReferenceIdeal Cert.ReferenceIdeal.Gen Cert.ReferenceIdeal.Value Cert.ReferenceIdeal.Read

variable {A : Arrays} {m : (ℓ : Loc Cert.KernelIdeal.nD Cert.KernelIdeal.τ Cert.KernelIdeal.sig) → Buf (Elt Ideal) ℓ}
  {m' : (ℓ : Loc nD τ sig) → Buf (Elt Ideal) ℓ} {c : Dev nD}

/-- The two programs start from the same arguments. -/
abbrev Reads (m : (ℓ : Loc Cert.KernelIdeal.nD Cert.KernelIdeal.τ Cert.KernelIdeal.sig) → Buf (Elt Ideal) ℓ)
    (m' : (ℓ : Loc nD τ sig) → Buf (Elt Ideal) ℓ) (c : Dev nD) : Prop :=
  m' ((c.tc : Thread nD τ).loc main_arg0) = m ((c.tc : Thread Cert.KernelIdeal.nD Cert.KernelIdeal.τ).loc Cert.KernelIdeal.main_arg0)
  ∧ m' ((c.tc : Thread nD τ).loc main_arg1) = m ((c.tc : Thread Cert.KernelIdeal.nD Cert.KernelIdeal.τ).loc Cert.KernelIdeal.main_arg1)
  ∧ m' ((c.tc : Thread nD τ).loc main_arg2) = m ((c.tc : Thread Cert.KernelIdeal.nD Cert.KernelIdeal.τ).loc Cert.KernelIdeal.main_arg2)
  ∧ m' ((c.tc : Thread nD τ).loc main_arg3) = m ((c.tc : Thread Cert.KernelIdeal.nD Cert.KernelIdeal.τ).loc Cert.KernelIdeal.main_arg3)
  ∧ m' ((c.tc : Thread nD τ).loc main_arg4) = m ((c.tc : Thread Cert.KernelIdeal.nD Cert.KernelIdeal.τ).loc Cert.KernelIdeal.main_arg4)
  ∧ m' ((c.tc : Thread nD τ).loc main_arg5) = m ((c.tc : Thread Cert.KernelIdeal.nD Cert.KernelIdeal.τ).loc Cert.KernelIdeal.main_arg5)

theorem dzu_eq (H : Entry m c A) (hr : Reads m m' c) : extractStridedSlice S2048x512 ![0, 1024] (res_main_v131 (launchContents m' c)) slices_S2048x2048_S2048x512_0_1024
      = (Cert.KernelIdeal.Gen.dats m 0 c).arrAt 9 Cert.KernelIdeal.cfg0.N := by
  refine (val_main_v132_eq (launchContents m' c)).trans ?_
  simp only [launchContents_devRef, hr.1, hr.2.1, hr.2.2.1, hr.2.2.2.1, hr.2.2.2.2.1, hr.2.2.2.2.2]
  rw [arr9 H]
  funext j
  rw [eq_ix2 j]
  exact r132 H _ _

theorem dzv_eq (H : Entry m c A) (hr : Reads m m' c) : extractStridedSlice S2048x512 ![0, 1536] (res_main_v131 (launchContents m' c)) slices_S2048x2048_S2048x512_0_1536
      = (Cert.KernelIdeal.Gen.dats m 0 c).arrAt 10 Cert.KernelIdeal.cfg0.N := by
  refine (val_main_v133_eq (launchContents m' c)).trans ?_
  simp only [launchContents_devRef, hr.1, hr.2.1, hr.2.2.1, hr.2.2.2.1, hr.2.2.2.2.1, hr.2.2.2.2.2]
  rw [arr10 H]
  funext j
  rw [eq_ix2 j]
  exact r133 H _ _

theorem dw_eq (H : Entry m c A) (hr : Reads m m' c) : mulf (Host.dotGeneral (φ₁ := .f32) (φ₂ := .f32) dot_S4x16x128x128_S16x128x4x128_S4x128x128_12_03_3_1_0_2 none (res_main_v76 (launchContents m' c)) (res_main_v59 (launchContents m' c))) (broadcastInDim S4x128x128 ![0, 1, 2] bcast_S1x128x128_S4x128x128_0_1_2 (res_main_v56 (launchContents m' c)))
      = (Cert.KernelIdeal.Gen.dats m 0 c).arrAt 11 Cert.KernelIdeal.cfg0.N := by
  refine (val_main_v82_eq (launchContents m' c)).trans ?_
  simp only [launchContents_devRef, hr.1, hr.2.1, hr.2.2.1, hr.2.2.2.1, hr.2.2.2.2.1, hr.2.2.2.2.2]
  rw [arr11 H]
  funext j
  rw [eq_ix3 j]
  exact r82 H _ _ _

theorem db_eq (H : Entry m c A) (hr : Reads m m' c) : broadcastInDim S4x128x128 ![0, 1, 2] bcast_S4x128x1_S4x128x128_0_1_2 (broadcastInDim S4x128x1 ![0, 1] bcast_S4x128_S4x128x1_0_1 (transpose S4x128 [1, 0] (Host.reduceAdd (shapeCast _ (Host.reduceAdd (res_main_v71 (launchContents m' c)) (constant S_ .f32 0x00000000#32) reducesTo_S16x128x4x128_S128x4_d0_3 h_S_) shapeCasts_S128x4_S1x128x4x1) (constant S_ .f32 0x00000000#32) reducesTo_S1x128x4x1_S128x4_d0_3 h_S_) transposes_S128x4_S4x128_1_0))
      = (Cert.KernelIdeal.Gen.dats m 0 c).arrAt 12 Cert.KernelIdeal.cfg0.N := by
  refine (val_main_v135_eq (launchContents m' c)).trans ?_
  simp only [launchContents_devRef, hr.1, hr.2.1, hr.2.2.1, hr.2.2.2.1, hr.2.2.2.2.1, hr.2.2.2.2.2]
  rw [arr12 H]
  funext j
  rw [eq_ix3 j]
  exact r135 H _ _ _

theorem dlg_eq (H : Entry m c A) (hr : Reads m m' c) : broadcastInDim S1x512 ![1] bcast_S512_S1x512_1 (Host.reduceAdd (shapeCast _ (Host.reduceAdd (mulf (res_main_v47 (launchContents m' c)) (res_main_v80 (launchContents m' c))) (constant S_ .f32 0x00000000#32) reducesTo_S2048x512_S512_d0 h_S_) shapeCasts_S512_S1x512) (constant S_ .f32 0x00000000#32) reducesTo_S1x512_S512_d0 h_S_)
      = (Cert.KernelIdeal.Gen.dats m 0 c).arrAt 13 Cert.KernelIdeal.cfg0.N := by
  refine (val_main_v136_eq (launchContents m' c)).trans ?_
  simp only [launchContents_devRef, hr.1, hr.2.1, hr.2.2.1, hr.2.2.2.1, hr.2.2.2.2.1, hr.2.2.2.2.2]
  rw [arr13 H]
  funext j
  rw [eq_ix2 j]
  exact r136 H _ _

theorem dlb_eq (H : Entry m c A) (hr : Reads m m' c) : broadcastInDim S1x512 ![1] bcast_S512_S1x512_1 (Host.reduceAdd (shapeCast _ (Host.reduceAdd (res_main_v80 (launchContents m' c)) (constant S_ .f32 0x00000000#32) reducesTo_S2048x512_S512_d0 h_S_) shapeCasts_S512_S1x512) (constant S_ .f32 0x00000000#32) reducesTo_S1x512_S512_d0 h_S_)
      = (Cert.KernelIdeal.Gen.dats m 0 c).arrAt 14 Cert.KernelIdeal.cfg0.N := by
  refine (val_main_v137_eq (launchContents m' c)).trans ?_
  simp only [launchContents_devRef, hr.1, hr.2.1, hr.2.2.1, hr.2.2.2.1, hr.2.2.2.2.1, hr.2.2.2.2.2]
  rw [arr14 H]
  funext j
  rw [eq_ix2 j]
  exact r137 H _ _

end Results

/-- The six results of the kernel and of the reference are the same. -/
theorem equal : Cert.algebraic_KernelIdeal_ReferenceIdeal_pre_finite (hKernelIdeal := Cert.KernelIdeal.Gen.facts)
    (hReferenceIdeal := Cert.ReferenceIdeal.Gen.facts) := by
  intro m g m' g' hpre hagree
  have H (c : Dev Cert.KernelIdeal.nD) := isReal_of_finite _ _ _ _ _ _ (hpre c)
  refine ⟨_, _, _, _, _, _, Cert.KernelIdeal.Value.run_blocks m g, (θ_run _ _ _).mono (fun r h c => ?_) (Cert.ReferenceIdeal.Value.run m' g')⟩
  obtain ⟨h0, h1, h2, h3, h4, h5, hk⟩ := h c
  exact ⟨h0.trans (dzu_eq (H c) (hagree c)), h1.trans (dzv_eq (H c) (hagree c)), h2.trans (dw_eq (H c) (hagree c)),
    h3.trans (db_eq (H c) (hagree c)), h4.trans (dlg_eq (H c) (hagree c)), h5.trans (dlb_eq (H c) (hagree c)), hk⟩

theorem claim : Cert.Claim :=
  ⟨Cert.Kernel.Gen.facts, Cert.KernelIdeal.Gen.facts, Cert.ReferenceIdeal.Gen.facts,
    Cert.Dact.Gen.facts, Cert.DactIdeal.Gen.facts, Cert.DactRefIdeal.Gen.facts,
    Cert.Ddown.Gen.facts, Cert.DdownIdeal.Gen.facts, Cert.DdownRefIdeal.Gen.facts,
    Cert.Dgatew.Gen.facts, Cert.DgatewIdeal.Gen.facts, Cert.DgatewRefIdeal.Gen.facts,
    Cert.Dxa.Gen.facts, Cert.DxaIdeal.Gen.facts, Cert.DxaRefIdeal.Gen.facts,
    Cert.Dxb.Gen.facts, Cert.DxbIdeal.Gen.facts, Cert.DxbRefIdeal.Gen.facts,
    Cert.Dple.Gen.facts, Cert.DpleIdeal.Gen.facts, Cert.DpleRefIdeal.Gen.facts,
    Cert.Dproj.Gen.facts, Cert.DprojIdeal.Gen.facts, Cert.DprojRefIdeal.Gen.facts,
    Cert.Dgate.Gen.facts, Cert.DgateIdeal.Gen.facts, Cert.DgateRefIdeal.Gen.facts,
    Cert.Dout.Gen.facts, Cert.DoutIdeal.Gen.facts, Cert.DoutRefIdeal.Gen.facts,
    Cert.Dcat.Gen.facts, Cert.DcatIdeal.Gen.facts, Cert.DcatRefIdeal.Gen.facts,
    Cert.Din.Gen.facts, Cert.DinIdeal.Gen.facts, Cert.DinRefIdeal.Gen.facts,
    Cert.Dx.Gen.facts, Cert.DxIdeal.Gen.facts, Cert.DxRefIdeal.Gen.facts,
    Cert.Inp.Gen.facts, Cert.InpIdeal.Gen.facts, Cert.InpRefIdeal.Gen.facts,
    Cert.Out.Gen.facts, Cert.OutIdeal.Gen.facts, Cert.OutRefIdeal.Gen.facts,
    Cert.Gate.Gen.facts, Cert.GateIdeal.Gen.facts, Cert.GateRefIdeal.Gen.facts,
    Cert.Down.Gen.facts, Cert.DownIdeal.Gen.facts, Cert.DownRefIdeal.Gen.facts,
    Cert.Pgate.Gen.facts, Cert.PgateIdeal.Gen.facts, Cert.PgateRefIdeal.Gen.facts,
    Cert.Pproj.Gen.facts, Cert.PprojIdeal.Gen.facts, Cert.PprojRefIdeal.Gen.facts,
    Cert.DactZero.Gen.facts, Cert.DactZeroIdeal.Gen.facts, Cert.DactZeroRefIdeal.Gen.facts,
    Cert.DxaZero.Gen.facts, Cert.DxaZeroIdeal.Gen.facts, Cert.DxaZeroRefIdeal.Gen.facts,
    Cert.DxbZero.Gen.facts, Cert.DxbZeroIdeal.Gen.facts, Cert.DxbZeroRefIdeal.Gen.facts,
    Cert.DpleZero.Gen.facts, Cert.DpleZeroIdeal.Gen.facts, Cert.DpleZeroRefIdeal.Gen.facts,
    Cert.GateZero.Gen.facts, Cert.GateZeroIdeal.Gen.facts, Cert.GateZeroRefIdeal.Gen.facts,
    Cert.DownZero.Gen.facts, Cert.DownZeroIdeal.Gen.facts, Cert.DownZeroRefIdeal.Gen.facts,
    Cert.PgateZero.Gen.facts, Cert.PgateZeroIdeal.Gen.facts, Cert.PgateZeroRefIdeal.Gen.facts,
    Cert.PprojZero.Gen.facts, Cert.PprojZeroIdeal.Gen.facts, Cert.PprojZeroRefIdeal.Gen.facts,
    Cert.Swiglu.Gen.facts, Cert.SwigluIdeal.Gen.facts, Cert.SwigluRefIdeal.Gen.facts,
    Cert.Dswiglu.Gen.facts, Cert.DswigluIdeal.Gen.facts, Cert.DswigluRefIdeal.Gen.facts,
    Cert.Gated.Gen.facts, Cert.GatedIdeal.Gen.facts, Cert.GatedRefIdeal.Gen.facts,
    Cert.Dgated.Gen.facts, Cert.DgatedIdeal.Gen.facts, Cert.DgatedRefIdeal.Gen.facts,
    Cert.Norm.Gen.facts, Cert.NormIdeal.Gen.facts, Cert.NormRefIdeal.Gen.facts,
    Cert.Dnorm.Gen.facts, Cert.DnormIdeal.Gen.facts, Cert.DnormRefIdeal.Gen.facts,
    Cert.Dpool.Gen.facts, Cert.DpoolIdeal.Gen.facts, Cert.DpoolRefIdeal.Gen.facts,
    Cert.Gating.Gen.facts, Cert.GatingIdeal.Gen.facts, Cert.GatingRefIdeal.Gen.facts,
    Cert.Loss.Gen.facts, Cert.LossIdeal.Gen.facts, Cert.LossRefIdeal.Gen.facts,
    Cert.SumIn.Gen.facts, Cert.SumInIdeal.Gen.facts, Cert.SumInRefIdeal.Gen.facts,
    Cert.SumOut.Gen.facts, Cert.SumOutIdeal.Gen.facts, Cert.SumOutRefIdeal.Gen.facts,
    Cert.SumUp.Gen.facts, Cert.SumUpIdeal.Gen.facts, Cert.SumUpRefIdeal.Gen.facts,
    Cert.SumDown.Gen.facts, Cert.SumDownIdeal.Gen.facts, Cert.SumDownRefIdeal.Gen.facts,
    Cert.SumProj.Gen.facts, Cert.SumProjIdeal.Gen.facts, Cert.SumProjRefIdeal.Gen.facts,
    Cert.SumGate.Gen.facts, Cert.SumGateIdeal.Gen.facts, Cert.SumGateRefIdeal.Gen.facts,
    Cert.SumSmall.Gen.facts, Cert.SumSmallIdeal.Gen.facts, Cert.SumSmallRefIdeal.Gen.facts,
    Cert.AdamIn.Gen.facts, Cert.AdamInIdeal.Gen.facts, Cert.AdamInRefIdeal.Gen.facts,
    Cert.AdamOut.Gen.facts, Cert.AdamOutIdeal.Gen.facts, Cert.AdamOutRefIdeal.Gen.facts,
    Cert.AdamUp.Gen.facts, Cert.AdamUpIdeal.Gen.facts, Cert.AdamUpRefIdeal.Gen.facts,
    Cert.AdamDown.Gen.facts, Cert.AdamDownIdeal.Gen.facts, Cert.AdamDownRefIdeal.Gen.facts,
    Cert.AdamProj.Gen.facts, Cert.AdamProjIdeal.Gen.facts, Cert.AdamProjRefIdeal.Gen.facts,
    Cert.AdamGate.Gen.facts, Cert.AdamGateIdeal.Gen.facts, Cert.AdamGateRefIdeal.Gen.facts,
    Cert.AdamSmall.Gen.facts, Cert.AdamSmallIdeal.Gen.facts, Cert.AdamSmallRefIdeal.Gen.facts,
    preFacts, Cert.Products.Dswiglu.preFacts, Cert.Products.Dnorm.preFacts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    Cert.Products.Dact.frame, fun m ρ _ => Cert.DactIdeal.Gen.frame m ρ, Cert.Products.Dact.frame_reference,
    Cert.Products.Ddown.frame, fun m ρ _ => Cert.DdownIdeal.Gen.frame m ρ, Cert.Products.Ddown.frame_reference,
    Cert.Products.Dgatew.frame, fun m ρ _ => Cert.DgatewIdeal.Gen.frame m ρ, Cert.Products.Dgatew.frame_reference,
    Cert.Products.Dxa.frame, fun m ρ _ => Cert.DxaIdeal.Gen.frame m ρ, Cert.Products.Dxa.frame_reference,
    Cert.Products.Dxb.frame, fun m ρ _ => Cert.DxbIdeal.Gen.frame m ρ, Cert.Products.Dxb.frame_reference,
    Cert.Products.Dple.frame, fun m ρ _ => Cert.DpleIdeal.Gen.frame m ρ, Cert.Products.Dple.frame_reference,
    Cert.Products.Dproj.frame, fun m ρ _ => Cert.DprojIdeal.Gen.frame m ρ, Cert.Products.Dproj.frame_reference,
    Cert.Products.Dgate.frame, fun m ρ _ => Cert.DgateIdeal.Gen.frame m ρ, Cert.Products.Dgate.frame_reference,
    Cert.Products.Dout.frame, fun m ρ _ => Cert.DoutIdeal.Gen.frame m ρ, Cert.Products.Dout.frame_reference,
    Cert.Products.Dcat.frame, fun m ρ _ => Cert.DcatIdeal.Gen.frame m ρ, Cert.Products.Dcat.frame_reference,
    Cert.Products.Din.frame, fun m ρ _ => Cert.DinIdeal.Gen.frame m ρ, Cert.Products.Din.frame_reference,
    Cert.Products.Dx.frame, fun m ρ _ => Cert.DxIdeal.Gen.frame m ρ, Cert.Products.Dx.frame_reference,
    Cert.Products.Inp.frame, fun m ρ _ => Cert.InpIdeal.Gen.frame m ρ, Cert.Products.Inp.frame_reference,
    Cert.Products.Out.frame, fun m ρ _ => Cert.OutIdeal.Gen.frame m ρ, Cert.Products.Out.frame_reference,
    Cert.Products.Gate.frame, fun m ρ _ => Cert.GateIdeal.Gen.frame m ρ, Cert.Products.Gate.frame_reference,
    Cert.Products.Down.frame, fun m ρ _ => Cert.DownIdeal.Gen.frame m ρ, Cert.Products.Down.frame_reference,
    Cert.Products.Pgate.frame, fun m ρ _ => Cert.PgateIdeal.Gen.frame m ρ, Cert.Products.Pgate.frame_reference,
    Cert.Products.Pproj.frame, fun m ρ _ => Cert.PprojIdeal.Gen.frame m ρ, Cert.Products.Pproj.frame_reference,
    Cert.Products.DactZero.frame, fun m ρ _ => Cert.DactZeroIdeal.Gen.frame m ρ, Cert.Products.DactZero.frame_reference,
    Cert.Products.DxaZero.frame, fun m ρ _ => Cert.DxaZeroIdeal.Gen.frame m ρ, Cert.Products.DxaZero.frame_reference,
    Cert.Products.DxbZero.frame, fun m ρ _ => Cert.DxbZeroIdeal.Gen.frame m ρ, Cert.Products.DxbZero.frame_reference,
    Cert.Products.DpleZero.frame, fun m ρ _ => Cert.DpleZeroIdeal.Gen.frame m ρ, Cert.Products.DpleZero.frame_reference,
    Cert.Products.GateZero.frame, fun m ρ _ => Cert.GateZeroIdeal.Gen.frame m ρ, Cert.Products.GateZero.frame_reference,
    Cert.Products.DownZero.frame, fun m ρ _ => Cert.DownZeroIdeal.Gen.frame m ρ, Cert.Products.DownZero.frame_reference,
    Cert.Products.PgateZero.frame, fun m ρ _ => Cert.PgateZeroIdeal.Gen.frame m ρ, Cert.Products.PgateZero.frame_reference,
    Cert.Products.PprojZero.frame, fun m ρ _ => Cert.PprojZeroIdeal.Gen.frame m ρ, Cert.Products.PprojZero.frame_reference,
    Cert.Products.Swiglu.frame, fun m ρ _ => Cert.SwigluIdeal.Gen.frame m ρ, Cert.Products.Swiglu.frame_reference,
    Cert.Products.Dswiglu.frame, fun m ρ _ => Cert.DswigluIdeal.Gen.frame m ρ, fun m ρ _ => Cert.DswigluIdeal.Gen.frame m ρ,
    Cert.Products.Dswiglu.frame_reference, fun m ρ _ => Cert.Products.Dswiglu.frame_reference m ρ trivial,
    Cert.Products.Gated.frame, fun m ρ _ => Cert.GatedIdeal.Gen.frame m ρ, Cert.Products.Gated.frame_reference,
    Cert.Products.Dgated.frame, fun m ρ _ => Cert.DgatedIdeal.Gen.frame m ρ, Cert.Products.Dgated.frame_reference,
    Cert.Products.Norm.frame, fun m ρ _ => Cert.NormIdeal.Gen.frame m ρ, Cert.Products.Norm.frame_reference,
    Cert.Products.Dnorm.frame, fun m ρ _ => Cert.DnormIdeal.Gen.frame m ρ, fun m ρ _ => Cert.DnormIdeal.Gen.frame m ρ,
    Cert.Products.Dnorm.frame_reference, fun m ρ _ => Cert.Products.Dnorm.frame_reference m ρ trivial,
    Cert.Products.Dpool.frame, fun m ρ _ => Cert.DpoolIdeal.Gen.frame m ρ, Cert.Products.Dpool.frame_reference,
    Cert.Products.Gating.frame, fun m ρ _ => Cert.GatingIdeal.Gen.frame m ρ, Cert.Products.Gating.frame_reference,
    Cert.Products.Loss.frame, fun m ρ _ => Cert.LossIdeal.Gen.frame m ρ, Cert.Products.Loss.frame_reference,
    Cert.Products.SumIn.frame, fun m ρ _ => Cert.SumInIdeal.Gen.frame m ρ, Cert.Products.SumIn.frame_reference,
    Cert.Products.SumOut.frame, fun m ρ _ => Cert.SumOutIdeal.Gen.frame m ρ, Cert.Products.SumOut.frame_reference,
    Cert.Products.SumUp.frame, fun m ρ _ => Cert.SumUpIdeal.Gen.frame m ρ, Cert.Products.SumUp.frame_reference,
    Cert.Products.SumDown.frame, fun m ρ _ => Cert.SumDownIdeal.Gen.frame m ρ, Cert.Products.SumDown.frame_reference,
    Cert.Products.SumProj.frame, fun m ρ _ => Cert.SumProjIdeal.Gen.frame m ρ, Cert.Products.SumProj.frame_reference,
    Cert.Products.SumGate.frame, fun m ρ _ => Cert.SumGateIdeal.Gen.frame m ρ, Cert.Products.SumGate.frame_reference,
    Cert.Products.SumSmall.frame, fun m ρ _ => Cert.SumSmallIdeal.Gen.frame m ρ, Cert.Products.SumSmall.frame_reference,
    Cert.Products.AdamIn.frame, fun m ρ _ => Cert.AdamInIdeal.Gen.frame m ρ, Cert.Products.AdamIn.frame_reference,
    Cert.Products.AdamOut.frame, fun m ρ _ => Cert.AdamOutIdeal.Gen.frame m ρ, Cert.Products.AdamOut.frame_reference,
    Cert.Products.AdamUp.frame, fun m ρ _ => Cert.AdamUpIdeal.Gen.frame m ρ, Cert.Products.AdamUp.frame_reference,
    Cert.Products.AdamDown.frame, fun m ρ _ => Cert.AdamDownIdeal.Gen.frame m ρ, Cert.Products.AdamDown.frame_reference,
    Cert.Products.AdamProj.frame, fun m ρ _ => Cert.AdamProjIdeal.Gen.frame m ρ, Cert.Products.AdamProj.frame_reference,
    Cert.Products.AdamGate.frame, fun m ρ _ => Cert.AdamGateIdeal.Gen.frame m ρ, Cert.Products.AdamGate.frame_reference,
    Cert.Products.AdamSmall.frame, fun m ρ _ => Cert.AdamSmallIdeal.Gen.frame m ρ, Cert.Products.AdamSmall.frame_reference,
    constants,
    equal,
    trivial, Cert.Products.Dact.equal,
    trivial, Cert.Products.Ddown.equal,
    trivial, Cert.Products.Dgatew.equal,
    trivial, Cert.Products.Dxa.equal,
    trivial, Cert.Products.Dxb.equal,
    trivial, Cert.Products.Dple.equal,
    trivial, Cert.Products.Dproj.equal,
    trivial, Cert.Products.Dgate.equal,
    trivial, Cert.Products.Dout.equal,
    trivial, Cert.Products.Dcat.equal,
    trivial, Cert.Products.Din.equal,
    trivial, Cert.Products.Dx.equal,
    trivial, Cert.Products.Inp.equal,
    trivial, Cert.Products.Out.equal,
    trivial, Cert.Products.Gate.equal,
    trivial, Cert.Products.Down.equal,
    trivial, Cert.Products.Pgate.equal,
    trivial, Cert.Products.Pproj.equal,
    trivial, Cert.Products.DactZero.equal,
    trivial, Cert.Products.DxaZero.equal,
    trivial, Cert.Products.DxbZero.equal,
    trivial, Cert.Products.DpleZero.equal,
    trivial, Cert.Products.GateZero.equal,
    trivial, Cert.Products.DownZero.equal,
    trivial, Cert.Products.PgateZero.equal,
    trivial, Cert.Products.PprojZero.equal,
    trivial, Cert.Products.Swiglu.equal,
    trivial, Cert.Products.Dswiglu.equal,
    trivial, Cert.Products.Gated.equal,
    trivial, Cert.Products.Dgated.equal,
    trivial, Cert.Products.Norm.equal,
    trivial, Cert.Products.Dnorm.equal,
    trivial, Cert.Products.Dpool.equal,
    trivial, Cert.Products.Gating.equal,
    trivial, Cert.Products.Loss.equal,
    trivial, Cert.Products.SumIn.equal,
    trivial, Cert.Products.SumOut.equal,
    trivial, Cert.Products.SumUp.equal,
    trivial, Cert.Products.SumDown.equal,
    trivial, Cert.Products.SumProj.equal,
    trivial, Cert.Products.SumGate.equal,
    trivial, Cert.Products.SumSmall.equal,
    trivial, Cert.Products.AdamIn.equal,
    trivial, Cert.Products.AdamOut.equal,
    trivial, Cert.Products.AdamUp.equal,
    trivial, Cert.Products.AdamDown.equal,
    trivial, Cert.Products.AdamProj.equal,
    trivial, Cert.Products.AdamGate.equal,
    trivial, Cert.Products.AdamSmall.equal⟩

end Cert.Proof

end
